-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cotangent [hPre_finite_cotangent : Cert.Pre_finite_cotangent.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cotangent [hPre_finite_cotangent : Cert.Pre_finite_cotangent.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attention [hPre_finite_attention : Cert.Pre_finite_attention.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attention.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_in [hPre_finite_in : Cert.Pre_finite_in.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_in.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_cotangent [hKernelIdeal : Cert.KernelIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cotangent m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_cotangent [hReferenceIdeal : Cert.ReferenceIdeal.Facts] [hPre_finite_cotangent : Cert.Pre_finite_cotangent.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cotangent m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite_attention [hAttnReferenceIdeal : Cert.AttnReferenceIdeal.Facts] [hPre_finite_attention : Cert.Pre_finite_attention.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attention m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_InProjReferenceIdeal_pre_finite_in [hInProjReferenceIdeal : Cert.InProjReferenceIdeal.Facts] [hPre_finite_in : Cert.Pre_finite_in.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_in m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def preserves_Kernel_KernelIdeal : Prop :=
  True

def algebraic_KernelIdeal_ReferenceIdeal_pre_finite_cotangent [hKernelIdeal : Cert.KernelIdeal.Facts] [hReferenceIdeal : Cert.ReferenceIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cotangent m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Attn_AttnIdeal : Prop :=
  IdealRules.named_const.Statement Cert.AttnIdeal.κ "mask" .f32 0xF149F2CA#32 ⊥
  ∧ IdealRules.named_const.Statement Cert.AttnIdeal.κ "scale" .f32 0x3DD105EC#32 (((Real.sqrt 96)⁻¹ : ℝ) : EReal)
  ∧ IdealRules.named_const.Statement Cert.AttnIdeal.κ "ln2" .f32 0x3F317218#32 ((Real.log 2 : ℝ) : EReal)

def algebraic_AttnIdeal_AttnReferenceIdeal_pre_finite_attention [hAttnIdeal : Cert.AttnIdeal.Facts] [hAttnReferenceIdeal : Cert.AttnReferenceIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_attention m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v63_0)) (v1 : (c : Dev Cert.AttnIdeal.nD) → Buf (Elt Ideal) ((c.tc : Thread Cert.AttnIdeal.nD Cert.AttnIdeal.τ).loc Cert.AttnIdeal.main_v63_1)) (v2 : (c : Dev Cert.AttnIdeal.nD) → Buf (Elt Ideal) ((c.tc : Thread Cert.AttnIdeal.nD Cert.AttnIdeal.τ).loc Cert.AttnIdeal.main_v63_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v63_0) = v0 c
          ∧ r.2.mem ((c.tc : Thread Cert.AttnIdeal.nD Cert.AttnIdeal.τ).loc Cert.AttnIdeal.main_v63_1) = v1 c
          ∧ r.2.mem ((c.tc : Thread Cert.AttnIdeal.nD Cert.AttnIdeal.τ).loc Cert.AttnIdeal.main_v63_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v69) = v0 c
          ∧ r.2.mem ((c.tc : Thread Cert.AttnReferenceIdeal.nD Cert.AttnReferenceIdeal.τ).loc Cert.AttnReferenceIdeal.main_v72) = v1 c
          ∧ r.2.mem ((c.tc : Thread Cert.AttnReferenceIdeal.nD Cert.AttnReferenceIdeal.τ).loc Cert.AttnReferenceIdeal.main_v75) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_InProj_InProjIdeal : Prop :=
  True

def algebraic_InProjIdeal_InProjReferenceIdeal_pre_finite_in [hInProjIdeal : Cert.InProjIdeal.Facts] [hInProjReferenceIdeal : Cert.InProjReferenceIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_in m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v40) = v0 c
          ∧ r.2.mem ((c.tc : Thread Cert.InProjReferenceIdeal.nD Cert.InProjReferenceIdeal.τ).loc Cert.InProjReferenceIdeal.main_v41) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v34_0)) (v1 : (c : Dev Cert.FfnIdeal.nD) → Buf (Elt Ideal) ((c.tc : Thread Cert.FfnIdeal.nD Cert.FfnIdeal.τ).loc Cert.FfnIdeal.main_v34_1)) (v2 : (c : Dev Cert.FfnIdeal.nD) → Buf (Elt Ideal) ((c.tc : Thread Cert.FfnIdeal.nD Cert.FfnIdeal.τ).loc Cert.FfnIdeal.main_v34_2)) (v3 : (c : Dev Cert.FfnIdeal.nD) → Buf (Elt Ideal) ((c.tc : Thread Cert.FfnIdeal.nD Cert.FfnIdeal.τ).loc Cert.FfnIdeal.main_v34_3)) (v4 : (c : Dev Cert.FfnIdeal.nD) → Buf (Elt Ideal) ((c.tc : Thread Cert.FfnIdeal.nD Cert.FfnIdeal.τ).loc Cert.FfnIdeal.main_v34_4)) (v5 : (c : Dev Cert.FfnIdeal.nD) → Buf (Elt Ideal) ((c.tc : Thread Cert.FfnIdeal.nD Cert.FfnIdeal.τ).loc Cert.FfnIdeal.main_v34_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v34_0) = v0 c
          ∧ r.2.mem ((c.tc : Thread Cert.FfnIdeal.nD Cert.FfnIdeal.τ).loc Cert.FfnIdeal.main_v34_1) = v1 c
          ∧ r.2.mem ((c.tc : Thread Cert.FfnIdeal.nD Cert.FfnIdeal.τ).loc Cert.FfnIdeal.main_v34_2) = v2 c
          ∧ r.2.mem ((c.tc : Thread Cert.FfnIdeal.nD Cert.FfnIdeal.τ).loc Cert.FfnIdeal.main_v34_3) = v3 c
          ∧ r.2.mem ((c.tc : Thread Cert.FfnIdeal.nD Cert.FfnIdeal.τ).loc Cert.FfnIdeal.main_v34_4) = v4 c
          ∧ r.2.mem ((c.tc : Thread Cert.FfnIdeal.nD Cert.FfnIdeal.τ).loc Cert.FfnIdeal.main_v34_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v55) = v0 c
          ∧ r.2.mem ((c.tc : Thread Cert.FfnReferenceIdeal.nD Cert.FfnReferenceIdeal.τ).loc Cert.FfnReferenceIdeal.main_v59) = v1 c
          ∧ r.2.mem ((c.tc : Thread Cert.FfnReferenceIdeal.nD Cert.FfnReferenceIdeal.τ).loc Cert.FfnReferenceIdeal.main_v63) = v2 c
          ∧ r.2.mem ((c.tc : Thread Cert.FfnReferenceIdeal.nD Cert.FfnReferenceIdeal.τ).loc Cert.FfnReferenceIdeal.main_v67) = v3 c
          ∧ r.2.mem ((c.tc : Thread Cert.FfnReferenceIdeal.nD Cert.FfnReferenceIdeal.τ).loc Cert.FfnReferenceIdeal.main_v69) = v4 c
          ∧ r.2.mem ((c.tc : Thread Cert.FfnReferenceIdeal.nD Cert.FfnReferenceIdeal.τ).loc Cert.FfnReferenceIdeal.main_v70) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Mix_MixIdeal : Prop :=
  True

def algebraic_MixIdeal_MixReferenceIdeal_pre_finite_mix [hMixIdeal : Cert.MixIdeal.Facts] [hMixReferenceIdeal : Cert.MixReferenceIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite_mix m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v29_0)) (v1 : (c : Dev Cert.MixIdeal.nD) → Buf (Elt Ideal) ((c.tc : Thread Cert.MixIdeal.nD Cert.MixIdeal.τ).loc Cert.MixIdeal.main_v29_1)) (v2 : (c : Dev Cert.MixIdeal.nD) → Buf (Elt Ideal) ((c.tc : Thread Cert.MixIdeal.nD Cert.MixIdeal.τ).loc Cert.MixIdeal.main_v29_2)) (v3 : (c : Dev Cert.MixIdeal.nD) → Buf (Elt Ideal) ((c.tc : Thread Cert.MixIdeal.nD Cert.MixIdeal.τ).loc Cert.MixIdeal.main_v29_3)) (v4 : (c : Dev Cert.MixIdeal.nD) → Buf (Elt Ideal) ((c.tc : Thread Cert.MixIdeal.nD Cert.MixIdeal.τ).loc Cert.MixIdeal.main_v29_4)) (v5 : (c : Dev Cert.MixIdeal.nD) → Buf (Elt Ideal) ((c.tc : Thread Cert.MixIdeal.nD Cert.MixIdeal.τ).loc Cert.MixIdeal.main_v29_5)) (v6 : (c : Dev Cert.MixIdeal.nD) → Buf (Elt Ideal) ((c.tc : Thread Cert.MixIdeal.nD Cert.MixIdeal.τ).loc Cert.MixIdeal.main_v29_6)) (v7 : (c : Dev Cert.MixIdeal.nD) → Buf (Elt Ideal) ((c.tc : Thread Cert.MixIdeal.nD Cert.MixIdeal.τ).loc Cert.MixIdeal.main_v29_7)) (v8 : (c : Dev Cert.MixIdeal.nD) → Buf (Elt Ideal) ((c.tc : Thread Cert.MixIdeal.nD Cert.MixIdeal.τ).loc Cert.MixIdeal.main_v29_8)) (v9 : (c : Dev Cert.MixIdeal.nD) → Buf (Elt Ideal) ((c.tc : Thread Cert.MixIdeal.nD Cert.MixIdeal.τ).loc Cert.MixIdeal.main_v29_9)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v29_0) = v0 c
          ∧ r.2.mem ((c.tc : Thread Cert.MixIdeal.nD Cert.MixIdeal.τ).loc Cert.MixIdeal.main_v29_1) = v1 c
          ∧ r.2.mem ((c.tc : Thread Cert.MixIdeal.nD Cert.MixIdeal.τ).loc Cert.MixIdeal.main_v29_2) = v2 c
          ∧ r.2.mem ((c.tc : Thread Cert.MixIdeal.nD Cert.MixIdeal.τ).loc Cert.MixIdeal.main_v29_3) = v3 c
          ∧ r.2.mem ((c.tc : Thread Cert.MixIdeal.nD Cert.MixIdeal.τ).loc Cert.MixIdeal.main_v29_4) = v4 c
          ∧ r.2.mem ((c.tc : Thread Cert.MixIdeal.nD Cert.MixIdeal.τ).loc Cert.MixIdeal.main_v29_5) = v5 c
          ∧ r.2.mem ((c.tc : Thread Cert.MixIdeal.nD Cert.MixIdeal.τ).loc Cert.MixIdeal.main_v29_6) = v6 c
          ∧ r.2.mem ((c.tc : Thread Cert.MixIdeal.nD Cert.MixIdeal.τ).loc Cert.MixIdeal.main_v29_7) = v7 c
          ∧ r.2.mem ((c.tc : Thread Cert.MixIdeal.nD Cert.MixIdeal.τ).loc Cert.MixIdeal.main_v29_8) = v8 c
          ∧ r.2.mem ((c.tc : Thread Cert.MixIdeal.nD Cert.MixIdeal.τ).loc Cert.MixIdeal.main_v29_9) = v9 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v228) = v0 c
          ∧ r.2.mem ((c.tc : Thread Cert.MixReferenceIdeal.nD Cert.MixReferenceIdeal.τ).loc Cert.MixReferenceIdeal.main_v224) = v1 c
          ∧ r.2.mem ((c.tc : Thread Cert.MixReferenceIdeal.nD Cert.MixReferenceIdeal.τ).loc Cert.MixReferenceIdeal.main_v230) = v2 c
          ∧ r.2.mem ((c.tc : Thread Cert.MixReferenceIdeal.nD Cert.MixReferenceIdeal.τ).loc Cert.MixReferenceIdeal.main_v231) = v3 c
          ∧ r.2.mem ((c.tc : Thread Cert.MixReferenceIdeal.nD Cert.MixReferenceIdeal.τ).loc Cert.MixReferenceIdeal.main_v233) = v4 c
          ∧ r.2.mem ((c.tc : Thread Cert.MixReferenceIdeal.nD Cert.MixReferenceIdeal.τ).loc Cert.MixReferenceIdeal.main_v234) = v5 c
          ∧ r.2.mem ((c.tc : Thread Cert.MixReferenceIdeal.nD Cert.MixReferenceIdeal.τ).loc Cert.MixReferenceIdeal.main_v235) = v6 c
          ∧ r.2.mem ((c.tc : Thread Cert.MixReferenceIdeal.nD Cert.MixReferenceIdeal.τ).loc Cert.MixReferenceIdeal.main_v189) = v7 c
          ∧ r.2.mem ((c.tc : Thread Cert.MixReferenceIdeal.nD Cert.MixReferenceIdeal.τ).loc Cert.MixReferenceIdeal.main_v183) = v8 c
          ∧ r.2.mem ((c.tc : Thread Cert.MixReferenceIdeal.nD Cert.MixReferenceIdeal.τ).loc Cert.MixReferenceIdeal.main_v170) = v9 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v20) = v0 c
          ∧ r.2.mem ((c.tc : Thread Cert.ProjReferenceIdeal.nD Cert.ProjReferenceIdeal.τ).loc Cert.ProjReferenceIdeal.main_v22) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v12_0)) (v1 : (c : Dev Cert.FfnFwdIdeal.nD) → Buf (Elt Ideal) ((c.tc : Thread Cert.FfnFwdIdeal.nD Cert.FfnFwdIdeal.τ).loc Cert.FfnFwdIdeal.main_v12_1)) (v2 : (c : Dev Cert.FfnFwdIdeal.nD) → Buf (Elt Ideal) ((c.tc : Thread Cert.FfnFwdIdeal.nD Cert.FfnFwdIdeal.τ).loc Cert.FfnFwdIdeal.main_v12_2)) (v3 : (c : Dev Cert.FfnFwdIdeal.nD) → Buf (Elt Ideal) ((c.tc : Thread Cert.FfnFwdIdeal.nD Cert.FfnFwdIdeal.τ).loc Cert.FfnFwdIdeal.main_v12_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v12_0) = v0 c
          ∧ r.2.mem ((c.tc : Thread Cert.FfnFwdIdeal.nD Cert.FfnFwdIdeal.τ).loc Cert.FfnFwdIdeal.main_v12_1) = v1 c
          ∧ r.2.mem ((c.tc : Thread Cert.FfnFwdIdeal.nD Cert.FfnFwdIdeal.τ).loc Cert.FfnFwdIdeal.main_v12_2) = v2 c
          ∧ r.2.mem ((c.tc : Thread Cert.FfnFwdIdeal.nD Cert.FfnFwdIdeal.τ).loc Cert.FfnFwdIdeal.main_v12_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v19) = v0 c
          ∧ r.2.mem ((c.tc : Thread Cert.FfnFwdReferenceIdeal.nD Cert.FfnFwdReferenceIdeal.τ).loc Cert.FfnFwdReferenceIdeal.main_v22) = v1 c
          ∧ r.2.mem ((c.tc : Thread Cert.FfnFwdReferenceIdeal.nD Cert.FfnFwdReferenceIdeal.τ).loc Cert.FfnFwdReferenceIdeal.main_v25) = v2 c
          ∧ r.2.mem ((c.tc : Thread Cert.FfnFwdReferenceIdeal.nD Cert.FfnFwdReferenceIdeal.τ).loc Cert.FfnFwdReferenceIdeal.main_v27) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hInProj : Cert.InProj.Facts) (hInProjIdeal : Cert.InProjIdeal.Facts) (hInProjReferenceIdeal : Cert.InProjReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hFfnFwd : Cert.FfnFwd.Facts) (hFfnFwdIdeal : Cert.FfnFwdIdeal.Facts) (hFfnFwdReferenceIdeal : Cert.FfnFwdReferenceIdeal.Facts) (hPre_finite_cotangent : Cert.Pre_finite_cotangent.Facts) (hPre_finite_attention : Cert.Pre_finite_attention.Facts) (hPre_finite_in : Cert.Pre_finite_in.Facts) (hPre_finite_ffn : Cert.Pre_finite_ffn.Facts) (hPre_finite_mix : Cert.Pre_finite_mix.Facts),
    quiescent_Kernel (hKernel := hKernel)
    ∧ quiescent_KernelIdeal (hKernelIdeal := hKernelIdeal)
    ∧ quiescent_KernelIdeal_pre_finite_cotangent (hKernelIdeal := hKernelIdeal) (hPre_finite_cotangent := hPre_finite_cotangent)
    ∧ quiescent_ReferenceIdeal (hReferenceIdeal := hReferenceIdeal)
    ∧ quiescent_ReferenceIdeal_pre_finite_cotangent (hReferenceIdeal := hReferenceIdeal) (hPre_finite_cotangent := hPre_finite_cotangent)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnReferenceIdeal (hAttnReferenceIdeal := hAttnReferenceIdeal)
    ∧ quiescent_AttnReferenceIdeal_pre_finite_attention (hAttnReferenceIdeal := hAttnReferenceIdeal) (hPre_finite_attention := hPre_finite_attention)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjReferenceIdeal (hInProjReferenceIdeal := hInProjReferenceIdeal)
    ∧ quiescent_InProjReferenceIdeal_pre_finite_in (hInProjReferenceIdeal := hInProjReferenceIdeal) (hPre_finite_in := hPre_finite_in)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_Proj (hProj := hProj)
    ∧ quiescent_ProjIdeal (hProjIdeal := hProjIdeal)
    ∧ quiescent_ProjReferenceIdeal (hProjReferenceIdeal := hProjReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ preserves_Kernel_KernelIdeal
    ∧ algebraic_KernelIdeal_ReferenceIdeal_pre_finite_cotangent (hKernelIdeal := hKernelIdeal) (hReferenceIdeal := hReferenceIdeal) (hPre_finite_cotangent := hPre_finite_cotangent)
    ∧ preserves_Attn_AttnIdeal
    ∧ algebraic_AttnIdeal_AttnReferenceIdeal_pre_finite_attention (hAttnIdeal := hAttnIdeal) (hAttnReferenceIdeal := hAttnReferenceIdeal) (hPre_finite_attention := hPre_finite_attention)
    ∧ preserves_InProj_InProjIdeal
    ∧ algebraic_InProjIdeal_InProjReferenceIdeal_pre_finite_in (hInProjIdeal := hInProjIdeal) (hInProjReferenceIdeal := hInProjReferenceIdeal) (hPre_finite_in := hPre_finite_in)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Mix_MixIdeal
    ∧ algebraic_MixIdeal_MixReferenceIdeal_pre_finite_mix (hMixIdeal := hMixIdeal) (hMixReferenceIdeal := hMixReferenceIdeal) (hPre_finite_mix := hPre_finite_mix)
    ∧ preserves_Proj_ProjIdeal
    ∧ algebraic_ProjIdeal_ProjReferenceIdeal (hProjIdeal := hProjIdeal) (hProjReferenceIdeal := hProjReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
-- ==== Pre_finite_attention.lean ====
abbrev S1x8192x4x96 : Shape := ⟨4, ![1, 8192, 4, 96]⟩
abbrev S1x8192x4x128 : Shape := ⟨4, ![1, 8192, 4, 128]⟩
abbrev S_ : Shape := ⟨0, ![]⟩

class Facts : Prop where
  reducesTo_S1x8192x4x96_S_d0_1_2_3 : S1x8192x4x96.ReducesTo [0, 1, 2, 3] S_
  h_S_ : 0 < S_.numel
  reducesTo_S1x8192x4x128_S_d0_1_2_3 : S1x8192x4x128.ReducesTo [0, 1, 2, 3] S_

variable [Facts]

def fn {F : FTy → Type} [FloatOps F] (main_arg0 : FVec F S1x8192x4x96 .f32) (main_arg1 : FVec F S1x8192x4x96 .f32) (main_arg2 : FVec F S1x8192x4x128 .f32) (main_arg3 : FVec F S1x8192x4x128 .f32) : IVec S_ 1 :=
  let main_v0 : FVec F S1x8192x4x96 .f32 := Host.absf main_arg0
  let main_cst : FVec F S_ .f32 := constant S_ .f32 0xFF800000#32
  let main_v1 : FVec F S_ .f32 := (fun x v => Host.reduce FloatOps.maximumf x v reducesTo_S1x8192x4x96_S_d0_1_2_3 h_S_) main_v0 main_cst
  let main_cst_0 : FVec F S_ .f32 := constant S_ .f32 0x7F800000#32
  let main_v2 : IVec S_ 1 := cmpf .olt main_v1 main_cst_0
  let main_v3 : FVec F S1x8192x4x96 .f32 := Host.absf main_arg1
  let main_cst_1 : FVec F S_ .f32 := constant S_ .f32 0xFF800000#32
  let main_v4 : FVec F S_ .f32 := (fun x v => Host.reduce FloatOps.maximumf x v reducesTo_S1x8192x4x96_S_d0_1_2_3 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1x8192x4x128 .f32 := Host.absf main_arg2
  let main_cst_3 : FVec F S_ .f32 := constant S_ .f32 0xFF800000#32
  let main_v8 : FVec F S_ .f32 := (fun x v => Host.reduce FloatOps.maximumf x v reducesTo_S1x8192x4x128_S_d0_1_2_3 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1x8192x4x128 .f32 := Host.absf main_arg3
  let main_cst_5 : FVec F S_ .f32 := constant S_ .f32 0xFF800000#32
  let main_v12 : FVec F S_ .f32 := (fun x v => Host.reduce FloatOps.maximumf x v reducesTo_S1x8192x4x128_S_d0_1_2_3 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Pre_finite_cotangent.lean ====
abbrev S1x8192x256 : Shape := ⟨3, ![1, 8192, 256]⟩
abbrev S8192x256 : Shape := ⟨2, ![8192, 256]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S1x8192x256 .f32) (main_arg1 : FVec F S8192x256 .f32) : IVec S8192x256 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  main_v2
-- ==== Pre_finite_ffn.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  reducesTo_S1x8192x1024_S_d0_1_2 : S1x8192x1024.ReducesTo [0, 1, 2] S_
  h_S_ : 0 < S_.numel
  reducesTo_S1024_S_d0 : S1024.ReducesTo [0] S_
  reducesTo_S1024x2816_S_d0_1 : S1024x2816.ReducesTo [0, 1] S_
  reducesTo_S2816x1024_S_d0_1 : S2816x1024.ReducesTo [0, 1] S_

variable [Facts]

def fn_part1 {F : FTy → Type} [FloatOps F] (main_arg5 : FVec F S1x8192x1024 .f32) (main_v14 : IVec S_ 1) (main_v15 : FVec F S2816x1024 .f32) : IVec S_ 1 :=
  let main_cst_7 : FVec F S_ .f32 := constant S_ .f32 0xFF800000#32
  let main_v16 : FVec F S_ .f32 := (fun x v => Host.reduce FloatOps.maximumf x v reducesTo_S2816x1024_S_d0_1 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  let main_v19 : FVec F S1x8192x1024 .f32 := Host.absf main_arg5
  let main_cst_9 : FVec F S_ .f32 := constant S_ .f32 0xFF800000#32
  let main_v20 : FVec F S_ .f32 := (fun x v => Host.reduce FloatOps.maximumf x v reducesTo_S1x8192x1024_S_d0_1_2 h_S_) main_v19 main_cst_9
  let main_cst_10 : FVec F S_ .f32 := constant S_ .f32 0x7F800000#32
  let main_v21 : IVec S_ 1 := cmpf .olt main_v20 main_cst_10
  let main_v22 : IVec S_ 1 := andi main_v18 main_v21
  main_v22

def fn {F : FTy → Type} [FloatOps F] (main_arg0 : FVec F S1x8192x1024 .f32) (main_arg1 : FVec F S1024 .f32) (main_arg2 : FVec F S1024x2816 .f32) (main_arg3 : FVec F S1024x2816 .f32) (main_arg4 : FVec F S2816x1024 .f32) (main_arg5 : FVec F S1x8192x1024 .f32) : IVec S_ 1 :=
  let main_v0 : FVec F S1x8192x1024 .f32 := Host.absf main_arg0
  let main_cst : FVec F S_ .f32 := constant S_ .f32 0xFF800000#32
  let main_v1 : FVec F S_ .f32 := (fun x v => Host.reduce FloatOps.maximumf x v reducesTo_S1x8192x1024_S_d0_1_2 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1024x2816 .f32 := Host.absf main_arg2
  let main_cst_3 : FVec F S_ .f32 := constant S_ .f32 0xFF800000#32
  let main_v8 : FVec F S_ .f32 := (fun x v => Host.reduce FloatOps.maximumf x v reducesTo_S1024x2816_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1024x2816 .f32 := Host.absf main_arg3
  let main_cst_5 : FVec F S_ .f32 := constant S_ .f32 0xFF800000#32
  let main_v12 : FVec F S_ .f32 := (fun x v => Host.reduce FloatOps.maximumf x v reducesTo_S1024x2816_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S2816x1024 .f32 := Host.absf main_arg4
  fn_part1 (F := F) main_arg5 main_v14 main_v15
-- ==== Pre_finite_in.lean ====
abbrev S1x8192x1024 : Shape := ⟨3, ![1, 8192, 1024]⟩
abbrev S1024 : Shape := ⟨1, ![1024]⟩
abbrev S1024x1184 : Shape := ⟨2, ![1024, 1184]⟩
abbrev S1x8192x1184 : Shape := ⟨3, ![1, 8192, 1184]⟩
abbrev S_ : Shape := ⟨0, ![]⟩

class Facts : Prop where
  reducesTo_S1x8192x1024_S_d0_1_2 : S1x8192x1024.ReducesTo [0, 1, 2] S_
  h_S_ : 0 < S_.numel
  reducesTo_S1024_S_d0 : S1024.ReducesTo [0] S_
  reducesTo_S1024x1184_S_d0_1 : S1024x1184.ReducesTo [0, 1] S_
  reducesTo_S1x8192x1184_S_d0_1_2 : S1x8192x1184.ReducesTo [0, 1, 2] S_

variable [Facts]

def fn {F : FTy → Type} [FloatOps F] (main_arg0 : FVec F S1x8192x1024 .f32) (main_arg1 : FVec F S1024 .f32) (main_arg2 : FVec F S1024x1184 .f32) (main_arg3 : FVec F S1x8192x1184 .f32) (main_arg4 : FVec F S1x8192x1024 .f32) : IVec S_ 1 :=
  let main_v0 : FVec F S1x8192x1024 .f32 := Host.absf main_arg0
  let main_cst : FVec F S_ .f32 := constant S_ .f32 0xFF800000#32
  let main_v1 : FVec F S_ .f32 := (fun x v => Host.reduce FloatOps.maximumf x v reducesTo_S1x8192x1024_S_d0_1_2 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1024x1184 .f32 := Host.absf main_arg2
  let main_cst_3 : FVec F S_ .f32 := constant S_ .f32 0xFF800000#32
  let main_v8 : FVec F S_ .f32 := (fun x v => Host.reduce FloatOps.maximumf x v reducesTo_S1024x1184_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1x8192x1184 .f32 := Host.absf main_arg3
  let main_cst_5 : FVec F S_ .f32 := constant S_ .f32 0xFF800000#32
  let main_v12 : FVec F S_ .f32 := (fun x v => Host.reduce FloatOps.maximumf x v reducesTo_S1x8192x1184_S_d0_1_2 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Pre_finite_mix.lean ====
abbrev S1x8192x512 : Shape := ⟨3, ![1, 8192, 512]⟩
abbrev S1x8192x256 : Shape := ⟨3, ![1, 8192, 256]⟩
abbrev S4x128x128 : Shape := ⟨3, ![4, 128, 128]⟩
abbrev S4x128 : Shape := ⟨2, ![4, 128]⟩
abbrev S4x64x64 : Shape := ⟨3, ![4, 64, 64]⟩
abbrev S256 : Shape := ⟨1, ![256]⟩
abbrev S512 : Shape := ⟨1, ![512]⟩
abbrev S1024x1024 : Shape := ⟨2, ![1024, 1024]⟩
abbrev S1x8192x1024 : Shape := ⟨3, ![1, 8192, 1024]⟩
abbrev S_ : Shape := ⟨0, ![]⟩

class Facts : Prop where
  reducesTo_S1x8192x512_S_d0_1_2 : S1x8192x512.ReducesTo [0, 1, 2] S_
  h_S_ : 0 < S_.numel
  reducesTo_S1x8192x256_S_d0_1_2 : S1x8192x256.ReducesTo [0, 1, 2] S_
  reducesTo_S4x128x128_S_d0_1_2 : S4x128x128.ReducesTo [0, 1, 2] S_
  reducesTo_S4x128_S_d0_1 : S4x128.ReducesTo [0, 1] S_
  reducesTo_S4x64x64_S_d0_1_2 : S4x64x64.ReducesTo [0, 1, 2] S_
  reducesTo_S256_S_d0 : S256.ReducesTo [0] S_
  reducesTo_S512_S_d0 : S512.ReducesTo [0] S_
  reducesTo_S1024x1024_S_d0_1 : S1024x1024.ReducesTo [0, 1] S_
  reducesTo_S1x8192x1024_S_d0_1_2 : S1x8192x1024.ReducesTo [0, 1, 2] S_

variable [Facts]

def fn_part3 {F : FTy → Type} [FloatOps F] (main_v26 : IVec S_ 1) (main_v29 : IVec S_ 1) (main_v32 : IVec S_ 1) (main_v35 : IVec S_ 1) (main_v38 : IVec S_ 1) (main_v45 : IVec S_ 1) : IVec S_ 1 :=
  let main_v46 : IVec S_ 1 := andi main_v45 main_v26
  let main_v47 : IVec S_ 1 := andi main_v46 main_v29
  let main_v48 : IVec S_ 1 := andi main_v47 main_v32
  let main_v49 : IVec S_ 1 := andi main_v48 main_v35
  let main_v50 : IVec S_ 1 := andi main_v49 main_v38
  main_v50

def fn_part2 {F : FTy → Type} [FloatOps F] (main_arg10 : FVec F S256 .f32) (main_arg11 : FVec F S1024x1024 .f32) (main_arg12 : FVec F S1x8192x1024 .f32) (main_v2 : IVec S_ 1) (main_v5 : IVec S_ 1) (main_v8 : IVec S_ 1) (main_v11 : IVec S_ 1) (main_v14 : IVec S_ 1) (main_v17 : IVec S_ 1) (main_v20 : IVec S_ 1) (main_v23 : IVec S_ 1) (main_v26 : IVec S_ 1) (main_v28 : FVec F S_ .f32) : IVec S_ 1 :=
  let main_cst_18 : FVec F S_ .f32 := constant S_ .f32 0x7F800000#32
  let main_v29 : IVec S_ 1 := cmpf .olt main_v28 main_cst_18
  let main_v30 : FVec F S256 .f32 := Host.absf main_arg10
  let main_cst_19 : FVec F S_ .f32 := constant S_ .f32 0xFF800000#32
  let main_v31 : FVec F S_ .f32 := (fun x v => Host.reduce FloatOps.maximumf x v reducesTo_S256_S_d0 h_S_) main_v30 main_cst_19
  let main_cst_20 : FVec F S_ .f32 := constant S_ .f32 0x7F800000#32
  let main_v32 : IVec S_ 1 := cmpf .olt main_v31 main_cst_20
  let main_v33 : FVec F S1024x1024 .f32 := Host.absf main_arg11
  let main_cst_21 : FVec F S_ .f32 := constant S_ .f32 0xFF800000#32
  let main_v34 : FVec F S_ .f32 := (fun x v => Host.reduce FloatOps.maximumf x v reducesTo_S1024x1024_S_d0_1 h_S_) main_v33 main_cst_21
  let main_cst_22 : FVec F S_ .f32 := constant S_ .f32 0x7F800000#32
  let main_v35 : IVec S_ 1 := cmpf .olt main_v34 main_cst_22
  let main_v36 : FVec F S1x8192x1024 .f32 := Host.absf main_arg12
  let main_cst_23 : FVec F S_ .f32 := constant S_ .f32 0xFF800000#32
  let main_v37 : FVec F S_ .f32 := (fun x v => Host.reduce FloatOps.maximumf x v reducesTo_S1x8192x1024_S_d0_1_2 h_S_) main_v36 main_cst_23
  let main_cst_24 : FVec F S_ .f32 := constant S_ .f32 0x7F800000#32
  let main_v38 : IVec S_ 1 := cmpf .olt main_v37 main_cst_24
  let main_v39 : IVec S_ 1 := andi main_v2 main_v5
  let main_v40 : IVec S_ 1 := andi main_v39 main_v8
  let main_v41 : IVec S_ 1 := andi main_v40 main_v11
  let main_v42 : IVec S_ 1 := andi main_v41 main_v14
  let main_v43 : IVec S_ 1 := andi main_v42 main_v17
  let main_v44 : IVec S_ 1 := andi main_v43 main_v20
  let main_v45 : IVec S_ 1 := andi main_v44 main_v23
  fn_part3 (F := F) main_v26 main_v29 main_v32 main_v35 main_v38 main_v45

def fn_part1 {F : FTy → Type} [FloatOps F] (main_arg5 : FVec F S4x64x64 .f32) (main_arg6 : FVec F S256 .f32) (main_arg7 : FVec F S256 .f32) (main_arg8 : FVec F S512 .f32) (main_arg9 : FVec F S256 .f32) (main_arg10 : FVec F S256 .f32) (main_arg11 : FVec F S1024x1024 .f32) (main_arg12 : FVec F S1x8192x1024 .f32) (main_v2 : IVec S_ 1) (main_v5 : IVec S_ 1) (main_v8 : IVec S_ 1) (main_v11 : IVec S_ 1) (main_v13 : FVec F S_ .f32) (main_cst_8 : FVec F S_ .f32) : IVec S_ 1 :=
  let main_v14 : IVec S_ 1 := cmpf .olt main_v13 main_cst_8
  let main_v15 : FVec F S4x64x64 .f32 := Host.absf main_arg5
  let main_cst_9 : FVec F S_ .f32 := constant S_ .f32 0xFF800000#32
  let main_v16 : FVec F S_ .f32 := (fun x v => Host.reduce FloatOps.maximumf x v reducesTo_S4x64x64_S_d0_1_2 h_S_) main_v15 main_cst_9
  let main_cst_10 : FVec F S_ .f32 := constant S_ .f32 0x7F800000#32
  let main_v17 : IVec S_ 1 := cmpf .olt main_v16 main_cst_10
  let main_v18 : FVec F S256 .f32 := Host.absf main_arg6
  let main_cst_11 : FVec F S_ .f32 := constant S_ .f32 0xFF800000#32
  let main_v19 : FVec F S_ .f32 := (fun x v => Host.reduce FloatOps.maximumf x v reducesTo_S256_S_d0 h_S_) main_v18 main_cst_11
  let main_cst_12 : FVec F S_ .f32 := constant S_ .f32 0x7F800000#32
  let main_v20 : IVec S_ 1 := cmpf .olt main_v19 main_cst_12
  let main_v21 : FVec F S256 .f32 := Host.absf main_arg7
  let main_cst_13 : FVec F S_ .f32 := constant S_ .f32 0xFF800000#32
  let main_v22 : FVec F S_ .f32 := (fun x v => Host.reduce FloatOps.maximumf x v reducesTo_S256_S_d0 h_S_) main_v21 main_cst_13
  let main_cst_14 : FVec F S_ .f32 := constant S_ .f32 0x7F800000#32
  let main_v23 : IVec S_ 1 := cmpf .olt main_v22 main_cst_14
  let main_v24 : FVec F S512 .f32 := Host.absf main_arg8
  let main_cst_15 : FVec F S_ .f32 := constant S_ .f32 0xFF800000#32
  let main_v25 : FVec F S_ .f32 := (fun x v => Host.reduce FloatOps.maximumf x v reducesTo_S512_S_d0 h_S_) main_v24 main_cst_15
  let main_cst_16 : FVec F S_ .f32 := constant S_ .f32 0x7F800000#32
  let main_v26 : IVec S_ 1 := cmpf .olt main_v25 main_cst_16
  let main_v27 : FVec F S256 .f32 := Host.absf main_arg9
  let main_cst_17 : FVec F S_ .f32 := constant S_ .f32 0xFF800000#32
  let main_v28 : FVec F S_ .f32 := (fun x v => Host.reduce FloatOps.maximumf x v reducesTo_S256_S_d0 h_S_) main_v27 main_cst_17
  fn_part2 (F := F) main_arg10 main_arg11 main_arg12 main_v2 main_v5 main_v8 main_v11 main_v14 main_v17 main_v20 main_v23 main_v26 main_v28

def fn {F : FTy → Type} [FloatOps F] (main_arg0 : FVec F S1x8192x512 .f32) (main_arg1 : FVec F S1x8192x512 .f32) (main_arg2 : FVec F S1x8192x256 .f32) (main_arg3 : FVec F S4x128x128 .f32) (main_arg4 : FVec F S4x128 .f32) (main_arg5 : FVec F S4x64x64 .f32) (main_arg6 : FVec F S256 .f32) (main_arg7 : FVec F S256 .f32) (main_arg8 : FVec F S512 .f32) (main_arg9 : FVec F S256 .f32) (main_arg10 : FVec F S256 .f32) (main_arg11 : FVec F S1024x1024 .f32) (main_arg12 : FVec F S1x8192x1024 .f32) : IVec S_ 1 :=
  let main_v0 : FVec F S1x8192x512 .f32 := Host.absf main_arg0
  let main_cst : FVec F S_ .f32 := constant S_ .f32 0xFF800000#32
  let main_v1 : FVec F S_ .f32 := (fun x v => Host.reduce FloatOps.maximumf x v reducesTo_S1x8192x512_S_d0_1_2 h_S_) main_v0 main_cst
  let main_cst_0 : FVec F S_ .f32 := constant S_ .f32 0x7F800000#32
  let main_v2 : IVec S_ 1 := cmpf .olt main_v1 main_cst_0
  let main_v3 : FVec F S1x8192x512 .f32 := Host.absf main_arg1
  let main_cst_1 : FVec F S_ .f32 := constant S_ .f32 0xFF800000#32
  let main_v4 : FVec F S_ .f32 := (fun x v => Host.reduce FloatOps.maximumf x v reducesTo_S1x8192x512_S_d0_1_2 h_S_) main_v3 main_cst_1
  let main_cst_2 : FVec F S_ .f32 := constant S_ .f32 0x7F800000#32
  let main_v5 : IVec S_ 1 := cmpf .olt main_v4 main_cst_2
  let main_v6 : FVec F S1x8192x256 .f32 := Host.absf main_arg2
  let main_cst_3 : FVec F S_ .f32 := constant S_ .f32 0xFF800000#32
  let main_v7 : FVec F S_ .f32 := (fun x v => Host.reduce FloatOps.maximumf x v reducesTo_S1x8192x256_S_d0_1_2 h_S_) main_v6 main_cst_3
  let main_cst_4 : FVec F S_ .f32 := constant S_ .f32 0x7F800000#32
  let main_v8 : IVec S_ 1 := cmpf .olt main_v7 main_cst_4
  let main_v9 : FVec F S4x128x128 .f32 := Host.absf main_arg3
  let main_cst_5 : FVec F S_ .f32 := constant S_ .f32 0xFF800000#32
  let main_v10 : FVec F S_ .f32 := (fun x v => Host.reduce FloatOps.maximumf x v reducesTo_S4x128x128_S_d0_1_2 h_S_) main_v9 main_cst_5
  let main_cst_6 : FVec F S_ .f32 := constant S_ .f32 0x7F800000#32
  let main_v11 : IVec S_ 1 := cmpf .olt main_v10 main_cst_6
  let main_v12 : FVec F S4x128 .f32 := Host.absf main_arg4
  let main_cst_7 : FVec F S_ .f32 := constant S_ .f32 0xFF800000#32
  let main_v13 : FVec F S_ .f32 := (fun x v => Host.reduce FloatOps.maximumf x v reducesTo_S4x128_S_d0_1 h_S_) main_v12 main_cst_7
  let main_cst_8 : FVec F S_ .f32 := constant S_ .f32 0x7F800000#32
  fn_part1 (F := F) main_arg5 main_arg6 main_arg7 main_arg8 main_arg9 main_arg10 main_arg11 main_arg12 main_v2 main_v5 main_v8 main_v11 main_v13 main_cst_8
-- ==== Kernel.lean ====
abbrev S1x8192x256 : Shape := ⟨3, ![1, 8192, 256]⟩
abbrev S8192x256 : Shape := ⟨2, ![8192, 256]⟩
abbrev S8192x128 : Shape := ⟨2, ![8192, 128]⟩
abbrev S528x128 : Shape := ⟨2, ![528, 128]⟩
abbrev S512x128 : Shape := ⟨2, ![512, 128]⟩
abbrev S16x128 : Shape := ⟨2, ![16, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x8192x256, .f32⟩
  | .hbm, ⟨1, _⟩ => ⟨S8192x256, .f32⟩
  | .hbm, ⟨2, _⟩ => ⟨S8192x256, .bf16⟩
  | .local _ .vmem, ⟨0, _⟩ => ⟨S8192x128, .f32⟩
  | .local _ .vmem, ⟨1, _⟩ => ⟨S8192x128, .f32⟩
  | .local _ .vmem, ⟨2, _⟩ => ⟨S8192x128, .bf16⟩
  | .local _ .vmem, ⟨3, _⟩ => ⟨S8192x128, .bf16⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c512_i32 : BitVec 32 := 512#32
  let v1 : BitVec 32 := Scalar.muli arg3 c512_i32
  v1
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c512_i32 : BitVec 32 := 512#32
  let v1 : BitVec 32 := Scalar.muli arg3 c512_i32
  let v2 : BitVec 32 := v1
  let v44 : Index := Scalar.indexCast v2
  let c0 : Index := 0#32
  ![v44.toNat, 0]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c512_i32 : BitVec 32 := 512#32
  let v1 : BitVec 32 := Scalar.muli arg3 c512_i32
  let v2 : BitVec 32 := v1
  let c512_i32_12 : BitVec 32 := 512#32
  let v46 : BitVec 32 := Scalar.addi v2 c512_i32_12
  let c8176_i32 : BitVec 32 := 8176#32
  let v47 : BitVec 32 := Scalar.minsi v46 c8176_i32
  v47
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let c512_i32 : BitVec 32 := 512#32
  let v1 : BitVec 32 := Scalar.muli arg3 c512_i32
  let v2 : BitVec 32 := v1
  let c512_i32_12 : BitVec 32 := 512#32
  let v46 : BitVec 32 := Scalar.addi v2 c512_i32_12
  let c8176_i32 : BitVec 32 := 8176#32
  let v47 : BitVec 32 := Scalar.minsi v46 c8176_i32
  let v48 : BitVec 32 := v47
  let v50 : Index := Scalar.indexCast v48
  let c0_13 : Index := 0#32
  ![v50.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x8192x256 : Shape := ⟨3, ![1, 8192, 256]⟩
abbrev S8192x256 : Shape := ⟨2, ![8192, 256]⟩
abbrev S1x8192x4x64 : Shape := ⟨4, ![1, 8192, 4, 64]⟩
abbrev S8192 : Shape := ⟨1, ![8192]⟩
abbrev S_ : Shape := ⟨0, ![]⟩
abbrev S1x8192x1x64 : Shape := ⟨4, ![1, 8192, 1, 64]⟩
abbrev S1x8192x64 : Shape := ⟨3, ![1, 8192, 64]⟩
abbrev S1x2x64 : Shape := ⟨3, ![1, 2, 64]⟩
abbrev S1x8190x64 : Shape := ⟨3, ![1, 8190, 64]⟩
abbrev S1x8192x1 : Shape := ⟨3, ![1, 8192, 1]⟩
abbrev S1x4x64 : Shape := ⟨3, ![1, 4, 64]⟩
abbrev S1x8188x64 : Shape := ⟨3, ![1, 8188, 64]⟩
abbrev S1x8x64 : Shape := ⟨3, ![1, 8, 64]⟩
abbrev S1x8184x64 : Shape := ⟨3, ![1, 8184, 64]⟩
abbrev S1x16x64 : Shape := ⟨3, ![1, 16, 64]⟩
abbrev S1x8176x64 : Shape := ⟨3, ![1, 8176, 64]⟩

abbrev nBuf : Space → Nat
  | .hbm => 167
  | .vmem => 0
  | .smem => 0
  | _ => 0

abbrev hbmTy0_0 (i : Nat) : BufTy := match i % 128 with
  | 0 => ⟨S1x8192x256, .f32⟩
  | 1 => ⟨S8192x256, .f32⟩
  | 2 => ⟨S1x8192x4x64, .f32⟩
  | 3 => ⟨S1x8192x4x64, .f32⟩
  | 4 => ⟨S8192, .f32⟩
  | 5 => ⟨S_, .f32⟩
  | 6 => ⟨S8192, .f32⟩
  | 7 => ⟨S8192, .f32⟩
  | 8 => ⟨S1x8192x1x64, .f32⟩
  | 9 => ⟨S1x8192x64, .f32⟩
  | 10 => ⟨S_, .f32⟩
  | 11 => ⟨S_, .f32⟩
  | 12 => ⟨S1x8192x64, .f32⟩
  | 13 => ⟨S_, .f32⟩
  | 14 => ⟨S1x2x64, .f32⟩
  | 15 => ⟨S1x8190x64, .f32⟩
  | 16 => ⟨S1x8192x64, .f32⟩
  | 17 => ⟨S_, .f32⟩
  | 18 => ⟨S1x2x64, .f32⟩
  | 19 => ⟨S_, .f32⟩
  | 20 => ⟨S8192, .f32⟩
  | 21 => ⟨S8192, .f32⟩
  | 22 => ⟨S1x8192x1, .f32⟩
  | 23 => ⟨S1x8192x64, .f32⟩
  | 24 => ⟨S1x8192x64, .f32⟩
  | 25 => ⟨S1x8192x64, .f32⟩
  | 26 => ⟨S1x8192x64, .f32⟩
  | 27 => ⟨S1x8192x1x64, .f32⟩
  | 28 => ⟨S1x8192x64, .f32⟩
  | 29 => ⟨S_, .f32⟩
  | 30 => ⟨S_, .f32⟩
  | 31 => ⟨S1x8192x64, .f32⟩
  | 32 => ⟨S_, .f32⟩
  | 33 => ⟨S1x4x64, .f32⟩
  | 34 => ⟨S1x8188x64, .f32⟩
  | 35 => ⟨S1x8192x64, .f32⟩
  | 36 => ⟨S_, .f32⟩
  | 37 => ⟨S1x4x64, .f32⟩
  | 38 => ⟨S_, .f32⟩
  | 39 => ⟨S8192, .f32⟩
  | 40 => ⟨S8192, .f32⟩
  | 41 => ⟨S1x8192x1, .f32⟩
  | 42 => ⟨S1x8192x64, .f32⟩
  | 43 => ⟨S1x8192x64, .f32⟩
  | 44 => ⟨S1x8192x64, .f32⟩
  | 45 => ⟨S1x8192x64, .f32⟩
  | 46 => ⟨S1x8192x1x64, .f32⟩
  | 47 => ⟨S1x8192x64, .f32⟩
  | 48 => ⟨S_, .f32⟩
  | 49 => ⟨S_, .f32⟩
  | 50 => ⟨S1x8192x64, .f32⟩
  | 51 => ⟨S_, .f32⟩
  | 52 => ⟨S1x8x64, .f32⟩
  | 53 => ⟨S1x8184x64, .f32⟩
  | 54 => ⟨S1x8192x64, .f32⟩
  | 55 => ⟨S_, .f32⟩
  | 56 => ⟨S1x8x64, .f32⟩
  | 57 => ⟨S_, .f32⟩
  | 58 => ⟨S8192, .f32⟩
  | 59 => ⟨S8192, .f32⟩
  | 60 => ⟨S1x8192x1, .f32⟩
  | 61 => ⟨S1x8192x64, .f32⟩
  | 62 => ⟨S1x8192x64, .f32⟩
  | 63 => ⟨S1x8192x64, .f32⟩
  | 64 => ⟨S1x8192x64, .f32⟩
  | 65 => ⟨S1x8192x1x64, .f32⟩
  | 66 => ⟨S1x8192x64, .f32⟩
  | 67 => ⟨S_, .f32⟩
  | 68 => ⟨S_, .f32⟩
  | 69 => ⟨S1x8192x64, .f32⟩
  | 70 => ⟨S_, .f32⟩
  | 71 => ⟨S1x16x64, .f32⟩
  | 72 => ⟨S1x8176x64, .f32⟩
  | 73 => ⟨S1x8192x64, .f32⟩
  | 74 => ⟨S_, .f32⟩
  | 75 => ⟨S1x16x64, .f32⟩
  | 76 => ⟨S_, .f32⟩
  | 77 => ⟨S8192, .f32⟩
  | 78 => ⟨S8192, .f32⟩
  | 79 => ⟨S1x8192x1, .f32⟩
  | 80 => ⟨S1x8192x64, .f32⟩
  | 81 => ⟨S1x8192x64, .f32⟩
  | 82 => ⟨S1x8192x64, .f32⟩
  | 83 => ⟨S1x8192x64, .f32⟩
  | 84 => ⟨S1x8192x1x64, .f32⟩
  | 85 => ⟨S1x8192x1x64, .f32⟩
  | 86 => ⟨S1x8192x1x64, .f32⟩
  | 87 => ⟨S1x8192x1x64, .f32⟩
  | 88 => ⟨S1x8192x4x64, .f32⟩
  | 89 => ⟨S1x8192x1x64, .f32⟩
  | 90 => ⟨S1x8192x64, .f32⟩
  | 91 => ⟨S1x8192x1x64, .f32⟩
  | 92 => ⟨S1x8192x64, .f32⟩
  | 93 => ⟨S1x8192x1x64, .f32⟩
  | 94 => ⟨S1x8192x64, .f32⟩
  | 95 => ⟨S1x8192x1x64, .f32⟩
  | 96 => ⟨S1x8192x64, .f32⟩
  | 97 => ⟨S1x8192x64, .f32⟩
  | 98 => ⟨S1x8192x64, .f32⟩
  | 99 => ⟨S1x8192x64, .f32⟩
  | 100 => ⟨S1x8192x64, .f32⟩
  | 101 => ⟨S1x16x64, .f32⟩
  | 102 => ⟨S1x8176x64, .f32⟩
  | 103 => ⟨S_, .f32⟩
  | 104 => ⟨S1x8192x64, .f32⟩
  | 105 => ⟨S1x8192x64, .f32⟩
  | 106 => ⟨S_, .f32⟩
  | 107 => ⟨S_, .f32⟩
  | 108 => ⟨S1x8192x64, .f32⟩
  | 109 => ⟨S1x8192x64, .f32⟩
  | 110 => ⟨S1x8192x1x64, .f32⟩
  | 111 => ⟨S_, .f32⟩
  | 112 => ⟨S1x8192x4x64, .f32⟩
  | 113 => ⟨S1x8192x64, .f32⟩
  | 114 => ⟨S1x8192x64, .f32⟩
  | 115 => ⟨S1x8192x64, .f32⟩
  | 116 => ⟨S1x8192x64, .f32⟩
  | 117 => ⟨S1x8x64, .f32⟩
  | 118 => ⟨S1x8184x64, .f32⟩
  | 119 => ⟨S_, .f32⟩
  | 120 => ⟨S1x8192x64, .f32⟩
  | 121 => ⟨S1x8192x64, .f32⟩
  | 122 => ⟨S_, .f32⟩
  | 123 => ⟨S_, .f32⟩
  | 124 => ⟨S1x8192x64, .f32⟩
  | 125 => ⟨S1x8192x64, .f32⟩
  | 126 => ⟨S1x8192x1x64, .f32⟩
  | 127 => ⟨S_, .f32⟩
  | _ => ⟨S1x8192x256, .f32⟩

abbrev hbmTy0_1 (i : Nat) : BufTy := match i % 128 with
  | 0 => ⟨S1x8192x4x64, .f32⟩
  | 1 => ⟨S1x8192x4x64, .f32⟩
  | 2 => ⟨S1x8192x64, .f32⟩
  | 3 => ⟨S1x8192x64, .f32⟩
  | 4 => ⟨S1x8192x64, .f32⟩
  | 5 => ⟨S1x8192x64, .f32⟩
  | 6 => ⟨S1x4x64, .f32⟩
  | 7 => ⟨S1x8188x64, .f32⟩
  | 8 => ⟨S_, .f32⟩
  | 9 => ⟨S1x8192x64, .f32⟩
  | 10 => ⟨S1x8192x64, .f32⟩
  | 11 => ⟨S_, .f32⟩
  | 12 => ⟨S_, .f32⟩
  | 13 => ⟨S1x8192x64, .f32⟩
  | 14 => ⟨S1x8192x64, .f32⟩
  | 15 => ⟨S1x8192x1x64, .f32⟩
  | 16 => ⟨S_, .f32⟩
  | 17 => ⟨S1x8192x4x64, .f32⟩
  | 18 => ⟨S1x8192x4x64, .f32⟩
  | 19 => ⟨S1x8192x64, .f32⟩
  | 20 => ⟨S1x8192x64, .f32⟩
  | 21 => ⟨S1x8192x64, .f32⟩
  | 22 => ⟨S1x8192x64, .f32⟩
  | 23 => ⟨S1x2x64, .f32⟩
  | 24 => ⟨S1x8190x64, .f32⟩
  | 25 => ⟨S_, .f32⟩
  | 26 => ⟨S1x8192x64, .f32⟩
  | 27 => ⟨S1x8192x64, .f32⟩
  | 28 => ⟨S_, .f32⟩
  | 29 => ⟨S_, .f32⟩
  | 30 => ⟨S1x8192x64, .f32⟩
  | 31 => ⟨S1x8192x64, .f32⟩
  | 32 => ⟨S1x8192x1x64, .f32⟩
  | 33 => ⟨S_, .f32⟩
  | 34 => ⟨S1x8192x4x64, .f32⟩
  | 35 => ⟨S1x8192x4x64, .f32⟩
  | 36 => ⟨S1x8192x256, .f32⟩
  | 37 => ⟨S8192x256, .f32⟩
  | 38 => ⟨S8192x256, .bf16⟩
  | _ => ⟨S1x8192x256, .f32⟩

abbrev hbmTy (i : Nat) : BufTy := match i / 128 with
  | 0 => hbmTy0_0 i
  | 1 => hbmTy0_1 i
  | _ => ⟨S1x8192x256, .f32⟩

abbrev bufTy : (tb : Table) → Fin (tcTables nBuf tb) → BufTy
  | .hbm, ⟨i, _⟩ => hbmTy i
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_call0_cst : Ref sig .tc := ⟨.hbm, 29, rfl⟩
abbrev main_call1_call0_v0 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call2_call0_cst : Ref sig .tc := ⟨.hbm, 48, rfl⟩
abbrev main_call2_call0_v0 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call3_call0_cst : Ref sig .tc := ⟨.hbm, 67, rfl⟩
abbrev main_call3_call0_v0 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_call4_call0_cst : Ref sig .tc := ⟨.hbm, 106, rfl⟩
abbrev main_call4_call0_v0 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_14 : Ref sig .tc := ⟨.hbm, 119, rfl⟩
abbrev main_v92 : Ref sig .tc := ⟨.hbm, 120, rfl⟩
abbrev main_v93 : Ref sig .tc := ⟨.hbm, 121, rfl⟩
abbrev main_call5_call0_cst : Ref sig .tc := ⟨.hbm, 122, rfl⟩
abbrev main_call5_call0_v0 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_15 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_call6_call0_cst : Ref sig .tc := ⟨.hbm, 139, rfl⟩
abbrev main_call6_call0_v0 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_17 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_18 : Ref sig .tc := ⟨.hbm, 153, rfl⟩
abbrev main_v118 : Ref sig .tc := ⟨.hbm, 154, rfl⟩
abbrev main_v119 : Ref sig .tc := ⟨.hbm, 155, rfl⟩
abbrev main_call7_call0_cst : Ref sig .tc := ⟨.hbm, 156, rfl⟩
abbrev main_call7_call0_v0 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_19 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩

abbrev nD : Nat := 1
abbrev τ : Topo := Topo.v7x

variable {F : FTy → Type} [FloatOps F]
-- ==== Attn.lean ====
abbrev S1x8192x4x96 : Shape := ⟨4, ![1, 8192, 4, 96]⟩
abbrev S1x8192x4x128 : Shape := ⟨4, ![1, 8192, 4, 128]⟩
abbrev S1x4x8192x8192 : Shape := ⟨4, ![1, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x4 : Shape := ⟨3, ![1, 8192, 4]⟩
abbrev S4x8192 : Shape := ⟨2, ![4, 8192]⟩
abbrev S4x8192x1 : Shape := ⟨3, ![4, 8192, 1]⟩
abbrev S8192x4x96 : Shape := ⟨3, ![8192, 4, 96]⟩
abbrev S4x8192x96 : Shape := ⟨3, ![4, 8192, 96]⟩
abbrev S4x8192x128 : Shape := ⟨3, ![4, 8192, 128]⟩
abbrev S8192x4x128 : Shape := ⟨3, ![8192, 4, 128]⟩
abbrev S1x8x1 : Shape := ⟨3, ![1, 8, 1]⟩
abbrev S8x1 : Shape := ⟨2, ![8, 1]⟩
abbrev S1x8192x128 : Shape := ⟨3, ![1, 8192, 128]⟩
abbrev S1x1024x128 : Shape := ⟨3, ![1, 1024, 128]⟩
abbrev S1024x128 : Shape := ⟨2, ![1024, 128]⟩
abbrev S256x128 : Shape := ⟨2, ![256, 128]⟩
abbrev S1x256x128 : Shape := ⟨3, ![1, 256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S256x1 : Shape := ⟨2, ![256, 1]⟩

abbrev nBuf : Space → Nat
  | .hbm => 93
  | .vmem => 18
  | .smem => 0
  | _ => 0

abbrev bufTy : (tb : Table) → Fin (tcTables nBuf tb) → BufTy
  | .hbm, ⟨0, _⟩ => ⟨S1x8192x4x96, .f32⟩
  | .hbm, ⟨1, _⟩ => ⟨S1x8192x4x96, .f32⟩
  | .hbm, ⟨2, _⟩ => ⟨S1x8192x4x128, .f32⟩
  | .hbm, ⟨3, _⟩ => ⟨S1x8192x4x128, .f32⟩
  | .hbm, ⟨4, _⟩ => ⟨S1x4x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4x8192x8192, .f32⟩
  | .hbm, ⟨10, _⟩ => ⟨S1x4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x1x8192x8192, .i1⟩
  | .hbm, ⟨18, _⟩ => ⟨S_, .f32⟩
  | .hbm, ⟨19, _⟩ => ⟨S_, .f32⟩
  | .hbm, ⟨20, _⟩ => ⟨S1x4x8192x8192, .i1⟩
  | .hbm, ⟨21, _⟩ => ⟨S1x4x8192x8192, .f32⟩
  | .hbm, ⟨22, _⟩ => ⟨S1x4x8192x8192, .f32⟩
  | .hbm, ⟨23, _⟩ => ⟨S_, .f32⟩
  | .hbm, ⟨24, _⟩ => ⟨S1x4x8192, .f32⟩
  | .hbm, ⟨25, _⟩ => ⟨S1x4x8192x1, .f32⟩
  | .hbm, ⟨26, _⟩ => ⟨S1x4x8192x8192, .f32⟩
  | .hbm, ⟨27, _⟩ => ⟨S1x4x8192x8192, .f32⟩
  | .hbm, ⟨28, _⟩ => ⟨S1x4x8192x8192, .f32⟩
  | .hbm, ⟨29, _⟩ => ⟨S_, .f32⟩
  | .hbm, ⟨30, _⟩ => ⟨S1x4x8192, .f32⟩
  | .hbm, ⟨31, _⟩ => ⟨S1x4x8192x1, .f32⟩
  | .hbm, ⟨32, _⟩ => ⟨S1x4x8192x1, .f32⟩
  | .hbm, ⟨33, _⟩ => ⟨S1x4x8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x4x8192x1, .f32⟩
  | .hbm, ⟨39, _⟩ => ⟨S1x4x8192x1, .f32⟩
  | .hbm, ⟨40, _⟩ => ⟨S1x4x8192x8192, .f32⟩
  | .hbm, ⟨41, _⟩ => ⟨S1x4x8192x8192, .f32⟩
  | .hbm, ⟨42, _⟩ => ⟨S1x4x128x8192, .f32⟩
  | .hbm, ⟨43, _⟩ => ⟨S1x8192x4x128, .f32⟩
  | .hbm, ⟨44, _⟩ => ⟨S1x8192x4x128, .f32⟩
  | .hbm, ⟨45, _⟩ => ⟨S_, .f32⟩
  | .hbm, ⟨46, _⟩ => ⟨S1x8192x4, .f32⟩
  | .hbm, ⟨47, _⟩ => ⟨S1x4x8192, .f32⟩
  | .hbm, ⟨48, _⟩ => ⟨S4x8192, .f32⟩
  | .hbm, ⟨49, _⟩ => ⟨S4x8192x1, .f32⟩
  | .hbm, ⟨50, _⟩ => ⟨S8192x4x96, .f32⟩
  | .hbm, ⟨51, _⟩ => ⟨S4x8192x96, .f32⟩
  | .hbm, ⟨52, _⟩ => ⟨S_, .i32⟩
  | .hbm, ⟨53, _⟩ => ⟨S_, .f32⟩
  | .hbm, ⟨54, _⟩ => ⟨S4x8192x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4x8192x128, .f32⟩
  | .hbm, ⟨65, _⟩ => ⟨S4x8192x128, .f32⟩
  | .hbm, ⟨66, _⟩ => ⟨S4x8192x128, .bf16⟩
  | .hbm, ⟨67, _⟩ => ⟨S8192x4x96, .f32⟩
  | .hbm, ⟨68, _⟩ => ⟨S4x8192x96, .f32⟩
  | .hbm, ⟨69, _⟩ => ⟨S_, .i32⟩
  | .hbm, ⟨70, _⟩ => ⟨S_, .f32⟩
  | .hbm, ⟨71, _⟩ => ⟨S4x8192x128, .f32⟩
  | .hbm, ⟨72, _⟩ => ⟨S4x8192x128, .bf16⟩
  | .hbm, ⟨73, _⟩ => ⟨S8192x4x128, .f32⟩
  | .hbm, ⟨74, _⟩ => ⟨S4x8192x128, .f32⟩
  | .hbm, ⟨75, _⟩ => ⟨S_, .i32⟩
  | .hbm, ⟨76, _⟩ => ⟨S_, .f32⟩
  | .hbm, ⟨77, _⟩ => ⟨S4x8192x128, .f32⟩
  | .hbm, ⟨78, _⟩ => ⟨S4x8192x128, .bf16⟩
  | .hbm, ⟨79, _⟩ => ⟨S8192x4x128, .f32⟩
  | .hbm, ⟨80, _⟩ => ⟨S4x8192x128, .f32⟩
  | .hbm, ⟨81, _⟩ => ⟨S_, .i32⟩
  | .hbm, ⟨82, _⟩ => ⟨S_, .f32⟩
  | .hbm, ⟨83, _⟩ => ⟨S4x8192x128, .f32⟩
  | .hbm, ⟨84, _⟩ => ⟨S4x8192x128, .bf16⟩
  | .hbm, ⟨85, _⟩ => ⟨S4x8192x1, .f32⟩
  | .hbm, ⟨86, _⟩ => ⟨S4x8192x128, .f32⟩
  | .hbm, ⟨87, _⟩ => ⟨S4x8192x128, .f32⟩
  | .hbm, ⟨88, _⟩ => ⟨S1x8x1, .f32⟩
  | .hbm, ⟨89, _⟩ => ⟨S8x1, .f32⟩
  | .hbm, ⟨90, _⟩ => ⟨S4x8192x128, .f32⟩
  | .hbm, ⟨91, _⟩ => ⟨S4x8192x128, .f32⟩
  | .hbm, ⟨92, _⟩ => ⟨S4x8192x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .f32⟩
  | .local _ .vmem, ⟨9, _⟩ => ⟨S1x8192x128, .f32⟩
  | .local _ .vmem, ⟨10, _⟩ => ⟨S1x8192x128, .f32⟩
  | .local _ .vmem, ⟨11, _⟩ => ⟨S1x8192x128, .f32⟩
  | .local _ .vmem, ⟨12, _⟩ => ⟨S1x8192x128, .f32⟩
  | .local _ .vmem, ⟨13, _⟩ => ⟨S1x8192x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | _, _ => ⟨S1x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call1_v0 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_call3_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_call4_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63_0 : Ref sig .tc := ⟨.hbm, 90, rfl⟩
abbrev main_v63_1 : Ref sig .tc := ⟨.hbm, 91, rfl⟩
abbrev main_v63_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  let c0_i32_6 : BitVec 32 := 0#32
  let v9 : BitVec 32 := Scalar.addi v8 c0_i32_6
  v9
def k0_mult2 (i : grid0.Coords) : BitVec 32 :=
  let arg1 : BitVec 32 := BitVec.ofNat 32 (i 1).val
  let c1024_i32 : BitVec 32 := 1024#32
  let v8 : BitVec 32 := Scalar.muli arg1 c1024_i32
  let c256_i32 : BitVec 32 := 256#32
  let v11 : BitVec 32 := Scalar.addi v8 c256_i32
  v11
def k0_mult3 (i : grid0.Coords) : BitVec 32 :=
  let arg1 : BitVec 32 := BitVec.ofNat 32 (i 1).val
  let c1024_i32 : BitVec 32 := 1024#32
  let v8 : BitVec 32 := Scalar.muli arg1 c1024_i32
  let c512_i32 : BitVec 32 := 512#32
  let v13 : BitVec 32 := Scalar.addi v8 c512_i32
  v13
def k0_mult4 (i : grid0.Coords) : BitVec 32 :=
  let arg1 : BitVec 32 := BitVec.ofNat 32 (i 1).val
  let c1024_i32 : BitVec 32 := 1024#32
  let v8 : BitVec 32 := Scalar.muli arg1 c1024_i32
  let c768_i32 : BitVec 32 := 768#32
  let v15 : BitVec 32 := Scalar.addi v8 c768_i32
  v15
def k0_off1 (i : grid0.Coords) (c0_i32_6 : BitVec 32) : Fin 3 → Nat :=
  let c0_7 : Index := 0#32
  let arg1 : BitVec 32 := BitVec.ofNat 32 (i 1).val
  let c1024_i32 : BitVec 32 := 1024#32
  let v8 : BitVec 32 := Scalar.muli arg1 c1024_i32
  let v9 : BitVec 32 := Scalar.addi v8 c0_i32_6
  let v10 : BitVec 32 := v9
  let v17 : Index := Scalar.indexCast v10
  let c0_8 : Index := 0#32
  ![0, v17.toNat, 0]
@[reducible] def k0_t1_loop (i : grid0.Coords) : Scf.Loop 32 :=
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let c1_i32_96 : BitVec 32 := 1#32
  ⟨v258, v265, c1_i32_96⟩
def k0_mult5 (i : grid0.Coords) (k0_t1 : Fin (k0_t1_loop i).trips) : BitVec 32 :=
  let arg1 : BitVec 32 := BitVec.ofNat 32 (i 1).val
  let c1_i32_93 : BitVec 32 := 1#32
  let v258 : BitVec 32 := Scalar.addi arg1 c1_i32_93
  let c1_i32_96 : BitVec 32 := 1#32
  let arg12 : BitVec 32 := Scf.iv v258 c1_i32_96 k0_t1
  let c1024_i32_108 : BitVec 32 := 1024#32
  let v285 : BitVec 32 := Scalar.muli arg12 c1024_i32_108
  let c0_i32_109 : BitVec 32 := 0#32
  let v286 : BitVec 32 := Scalar.addi v285 c0_i32_109
  v286
def k0_mult6 (i : grid0.Coords) (k0_t1 : Fin (k0_t1_loop i).trips) : BitVec 32 :=
  let arg1 : BitVec 32 := BitVec.ofNat 32 (i 1).val
  let c1_i32_93 : BitVec 32 := 1#32
  let v258 : BitVec 32 := Scalar.addi arg1 c1_i32_93
  let c1_i32_96 : BitVec 32 := 1#32
  let arg12 : BitVec 32 := Scf.iv v258 c1_i32_96 k0_t1
  let c1024_i32_108 : BitVec 32 := 1024#32
  let v285 : BitVec 32 := Scalar.muli arg12 c1024_i32_108
  let c256_i32_110 : BitVec 32 := 256#32
  let v288 : BitVec 32 := Scalar.addi v285 c256_i32_110
  v288
def k0_mult7 (i : grid0.Coords) (k0_t1 : Fin (k0_t1_loop i).trips) : BitVec 32 :=
  let arg1 : BitVec 32 := BitVec.ofNat 32 (i 1).val
  let c1_i32_93 : BitVec 32 := 1#32
  let v258 : BitVec 32 := Scalar.addi arg1 c1_i32_93
  let c1_i32_96 : BitVec 32 := 1#32
  let arg12 : BitVec 32 := Scf.iv v258 c1_i32_96 k0_t1
  let c1024_i32_108 : BitVec 32 := 1024#32
  let v285 : BitVec 32 := Scalar.muli arg12 c1024_i32_108
  let c512_i32_111 : BitVec 32 := 512#32
  let v290 : BitVec 32 := Scalar.addi v285 c512_i32_111
  v290
def k0_mult8 (i : grid0.Coords) (k0_t1 : Fin (k0_t1_loop i).trips) : BitVec 32 :=
  let arg1 : BitVec 32 := BitVec.ofNat 32 (i 1).val
  let c1_i32_93 : BitVec 32 := 1#32
  let v258 : BitVec 32 := Scalar.addi arg1 c1_i32_93
  let c1_i32_96 : BitVec 32 := 1#32
  let arg12 : BitVec 32 := Scf.iv v258 c1_i32_96 k0_t1
  let c1024_i32_108 : BitVec 32 := 1024#32
  let v285 : BitVec 32 := Scalar.muli arg12 c1024_i32_108
  let c768_i32_112 : BitVec 32 := 768#32
  let v292 : BitVec 32 := Scalar.addi v285 c768_i32_112
  v292
def k0_off2 (i : grid0.Coords) (k0_t1 : Fin (k0_t1_loop i).trips) (c0_i32_109 : BitVec 32) : Fin 3 → Nat :=
  let c0_113 : Index := 0#32
  let arg1 : BitVec 32 := BitVec.ofNat 32 (i 1).val
  let c1_i32_93 : BitVec 32 := 1#32
  let v258 : BitVec 32 := Scalar.addi arg1 c1_i32_93
  let c1_i32_96 : BitVec 32 := 1#32
  let arg12 : BitVec 32 := Scf.iv v258 c1_i32_96 k0_t1
  let c1024_i32_108 : BitVec 32 := 1024#32
  let v285 : BitVec 32 := Scalar.muli arg12 c1024_i32_108
  let v286 : BitVec 32 := Scalar.addi v285 c0_i32_109
  let v287 : BitVec 32 := v286
  let v294 : Index := Scalar.indexCast v287
  let c0_114 : Index := 0#32
  ![0, v294.toNat, 0]
@[reducible] def k0_t2_loop (i : grid0.Coords) : Scf.Loop 32 :=
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let v262 : BitVec 32 := Scalar.addi v258 v261
  let c1_i32_97 : BitVec 32 := 1#32
  ⟨v265, v262, c1_i32_97⟩
def k0_mult9 (i : grid0.Coords) (k0_t2 : Fin (k0_t2_loop i).trips) : BitVec 32 :=
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let c1_i32_97 : BitVec 32 := 1#32
  let arg12 : BitVec 32 := Scf.iv v265 c1_i32_97 k0_t2
  let c1024_i32_108 : BitVec 32 := 1024#32
  let v285 : BitVec 32 := Scalar.muli arg12 c1024_i32_108
  let c0_i32_109 : BitVec 32 := 0#32
  let v286 : BitVec 32 := Scalar.addi v285 c0_i32_109
  v286
def k0_mult10 (i : grid0.Coords) (k0_t2 : Fin (k0_t2_loop i).trips) : BitVec 32 :=
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let c1_i32_97 : BitVec 32 := 1#32
  let arg12 : BitVec 32 := Scf.iv v265 c1_i32_97 k0_t2
  let c1024_i32_108 : BitVec 32 := 1024#32
  let v285 : BitVec 32 := Scalar.muli arg12 c1024_i32_108
  let c256_i32_110 : BitVec 32 := 256#32
  let v288 : BitVec 32 := Scalar.addi v285 c256_i32_110
  v288
def k0_mult11 (i : grid0.Coords) (k0_t2 : Fin (k0_t2_loop i).trips) : BitVec 32 :=
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let c1_i32_97 : BitVec 32 := 1#32
  let arg12 : BitVec 32 := Scf.iv v265 c1_i32_97 k0_t2
  let c1024_i32_108 : BitVec 32 := 1024#32
  let v285 : BitVec 32 := Scalar.muli arg12 c1024_i32_108
  let c512_i32_111 : BitVec 32 := 512#32
  let v290 : BitVec 32 := Scalar.addi v285 c512_i32_111
  v290
def k0_mult12 (i : grid0.Coords) (k0_t2 : Fin (k0_t2_loop i).trips) : BitVec 32 :=
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let c1_i32_97 : BitVec 32 := 1#32
  let arg12 : BitVec 32 := Scf.iv v265 c1_i32_97 k0_t2
  let c1024_i32_108 : BitVec 32 := 1024#32
  let v285 : BitVec 32 := Scalar.muli arg12 c1024_i32_108
  let c768_i32_112 : BitVec 32 := 768#32
  let v292 : BitVec 32 := Scalar.addi v285 c768_i32_112
  v292
def k0_off3 (i : grid0.Coords) (k0_t2 : Fin (k0_t2_loop i).trips) (c0_i32_109 : BitVec 32) : Fin 3 → Nat :=
  let c0_113 : Index := 0#32
  let arg1 : BitVec 32 := BitVec.ofNat 32 (i 1).val
  let c1_i32_93 : BitVec 32 := 1#32
  let v258 : BitVec 32 := Scalar.addi arg1 c1_i32_93
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c2_i32_94 : BitVec 32 := 2#32
  let v259 : BitVec 32 := Scalar.muli v257 c2_i32_94
  let c8_i32 : BitVec 32 := 8#32
  let v260 : BitVec 32 := Scalar.minsi v259 c8_i32
  let v261 : BitVec 32 := Scalar.subi v260 v258
  let c1_i32_95 : BitVec 32 := 1#32
  let v263 : BitVec 32 := Scalar.divsi v261 c1_i32_95
  let v264 : BitVec 32 := Scalar.muli v263 c1_i32_95
  let v265 : BitVec 32 := Scalar.addi v258 v264
  let c1_i32_97 : BitVec 32 := 1#32
  let arg12 : BitVec 32 := Scf.iv v265 c1_i32_97 k0_t2
  let c1024_i32_108 : BitVec 32 := 1024#32
  let v285 : BitVec 32 := Scalar.muli arg12 c1024_i32_108
  let v286 : BitVec 32 := Scalar.addi v285 c0_i32_109
  let v287 : BitVec 32 := v286
  let v294 : Index := Scalar.indexCast v287
  let c0_114 : Index := 0#32
  ![0, v294.toNat, 0]
@[reducible] def k0_t3_loop (i : grid0.Coords) : Scf.Loop 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_99 : BitVec 32 := 1#32
  ⟨v257, v272, c1_i32_99⟩
def k0_mult13 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c0_i32_108 : BitVec 32 := 0#32
  let v286 : BitVec 32 := Scalar.addi v285 c0_i32_108
  v286
def k0_mult14 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c256_i32_109 : BitVec 32 := 256#32
  let v288 : BitVec 32 := Scalar.addi v285 c256_i32_109
  v288
def k0_mult15 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c512_i32_110 : BitVec 32 := 512#32
  let v290 : BitVec 32 := Scalar.addi v285 c512_i32_110
  v290
def k0_mult16 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c768_i32_111 : BitVec 32 := 768#32
  let v292 : BitVec 32 := Scalar.addi v285 c768_i32_111
  v292
def k0_mult17 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c1024_i32_112 : BitVec 32 := 1024#32
  let v294 : BitVec 32 := Scalar.addi v285 c1024_i32_112
  v294
def k0_mult18 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c1280_i32 : BitVec 32 := 1280#32
  let v296 : BitVec 32 := Scalar.addi v285 c1280_i32
  v296
def k0_mult19 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c1536_i32 : BitVec 32 := 1536#32
  let v298 : BitVec 32 := Scalar.addi v285 c1536_i32
  v298
def k0_mult20 (i : grid0.Coords) (k0_t3 : Fin (k0_t3_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let c1792_i32 : BitVec 32 := 1792#32
  let v300 : BitVec 32 := Scalar.addi v285 c1792_i32
  v300
def k0_off4 (i : grid0.Coords) (k0_t3 : Fin (k0_t3_loop i).trips) (c0_i32_108 : BitVec 32) : Fin 3 → Nat :=
  let c0_113 : Index := 0#32
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c1_i32_99 : BitVec 32 := 1#32
  let arg12 : BitVec 32 := Scf.iv v257 c1_i32_99 k0_t3
  let c2048_i32 : BitVec 32 := 2048#32
  let v285 : BitVec 32 := Scalar.muli arg12 c2048_i32
  let v286 : BitVec 32 := Scalar.addi v285 c0_i32_108
  let v287 : BitVec 32 := v286
  let v302 : Index := Scalar.indexCast v287
  let c0_114 : Index := 0#32
  ![0, v302.toNat, 0]
@[reducible] def k0_t4_loop (i : grid0.Coords) : Scf.Loop 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let v269 : BitVec 32 := Scalar.addi v257 v268
  let c1_i32_100 : BitVec 32 := 1#32
  ⟨v272, v269, c1_i32_100⟩
def k0_mult21 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c0_i32_108 : BitVec 32 := 0#32
  let v286 : BitVec 32 := Scalar.addi v285 c0_i32_108
  v286
def k0_mult22 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c256_i32_109 : BitVec 32 := 256#32
  let v288 : BitVec 32 := Scalar.addi v285 c256_i32_109
  v288
def k0_mult23 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c512_i32_110 : BitVec 32 := 512#32
  let v290 : BitVec 32 := Scalar.addi v285 c512_i32_110
  v290
def k0_mult24 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c768_i32_111 : BitVec 32 := 768#32
  let v292 : BitVec 32 := Scalar.addi v285 c768_i32_111
  v292
def k0_mult25 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c1024_i32_112 : BitVec 32 := 1024#32
  let v294 : BitVec 32 := Scalar.addi v285 c1024_i32_112
  v294
def k0_mult26 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c1280_i32 : BitVec 32 := 1280#32
  let v296 : BitVec 32 := Scalar.addi v285 c1280_i32
  v296
def k0_mult27 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c1536_i32 : BitVec 32 := 1536#32
  let v298 : BitVec 32 := Scalar.addi v285 c1536_i32
  v298
def k0_mult28 (i : grid0.Coords) (k0_t4 : Fin (k0_t4_loop i).trips) : BitVec 32 :=
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let c1792_i32 : BitVec 32 := 1792#32
  let v300 : BitVec 32 := Scalar.addi v285 c1792_i32
  v300
def k0_off5 (i : grid0.Coords) (k0_t4 : Fin (k0_t4_loop i).trips) (c0_i32_108 : BitVec 32) : Fin 3 → Nat :=
  let c0_113 : Index := 0#32
  let arg1 : BitVec 32 := BitVec.ofNat 32 (i 1).val
  let c2_i32 : BitVec 32 := 2#32
  let v240 : BitVec 32 := Scalar.addi arg1 c2_i32
  let c0_i32_88 : BitVec 32 := 0#32
  let v242 : BitVec 1 := Scalar.cmpi .sgt v240 c0_i32_88
  let v243 : BitVec 32 := Scalar.extui v242
  let c0_i32_89 : BitVec 32 := 0#32
  let v244 : BitVec 1 := Scalar.cmpi .slt v240 c0_i32_89
  let v245 : BitVec 32 := Scalar.extui v244
  let v246 : BitVec 32 := Scalar.subi v243 v245
  let c2_i32_87 : BitVec 32 := 2#32
  let c0_i32_90 : BitVec 32 := 0#32
  let v247 : BitVec 1 := Scalar.cmpi .sgt c2_i32_87 c0_i32_90
  let v248 : BitVec 32 := Scalar.extui v247
  let c0_i32_91 : BitVec 32 := 0#32
  let v249 : BitVec 1 := Scalar.cmpi .slt c2_i32_87 c0_i32_91
  let v250 : BitVec 32 := Scalar.extui v249
  let v251 : BitVec 32 := Scalar.subi v248 v250
  let v252 : BitVec 1 := Scalar.cmpi .ne v246 v251
  let v253 : BitVec 32 := Scalar.remsi v240 c2_i32_87
  let c0_i32_92 : BitVec 32 := 0#32
  let v254 : BitVec 1 := Scalar.cmpi .ne v253 c0_i32_92
  let v255 : BitVec 1 := Scalar.andi v252 v254
  let v241 : BitVec 32 := Scalar.divsi v240 c2_i32_87
  let c1_i32 : BitVec 32 := 1#32
  let v256 : BitVec 32 := Scalar.subi v241 c1_i32
  let v257 : BitVec 32 := Scalar.select v255 v256 v241
  let c4_i32 : BitVec 32 := 4#32
  let v268 : BitVec 32 := Scalar.subi c4_i32 v257
  let c1_i32_98 : BitVec 32 := 1#32
  let v270 : BitVec 32 := Scalar.divsi v268 c1_i32_98
  let v271 : BitVec 32 := Scalar.muli v270 c1_i32_98
  let v272 : BitVec 32 := Scalar.addi v257 v271
  let c1_i32_100 : BitVec 32 := 1#32
  let arg12 : BitVec 32 := Scf.iv v272 c1_i32_100 k0_t4
  let c2048_i32 : BitVec 32 := 2048#32
  let v285 : BitVec 32 := Scalar.muli arg12 c2048_i32
  let v286 : BitVec 32 := Scalar.addi v285 c0_i32_108
  let v287 : BitVec 32 := v286
  let v302 : Index := Scalar.indexCast v287
  let c0_114 : Index := 0#32
  ![0, v302.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "ln2" => some ((Real.log 2 : ℝ) : EReal)
  | "mask" => some ⊥
  | "scale" => some (((Real.sqrt 96)⁻¹ : ℝ) : EReal)
  | _ => none
-- ==== AttnReferenceIdeal.lean ====
abbrev S1x8192x4x96 : Shape := ⟨4, ![1, 8192, 4, 96]⟩
abbrev S1x8192x4x128 : Shape := ⟨4, ![1, 8192, 4, 128]⟩
abbrev S1x4x8192x8192 : Shape := ⟨4, ![1, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S4x8192 : Shape := ⟨2, ![4, 8192]⟩
abbrev S1x4x8192x96 : Shape := ⟨4, ![1, 4, 8192, 96]⟩
abbrev S8192x4x96 : Shape := ⟨3, ![8192, 4, 96]⟩
abbrev S4x8192x96 : Shape := ⟨3, ![4, 8192, 96]⟩
abbrev S4x8192x128 : Shape := ⟨3, ![4, 8192, 128]⟩
abbrev S8192x4x128 : Shape := ⟨3, ![8192, 4, 128]⟩

abbrev nBuf : Space → Nat
  | .hbm => 108
  | .vmem => 0
  | .smem => 0
  | _ => 0

abbrev bufTy : (tb : Table) → Fin (tcTables nBuf tb) → BufTy
  | .hbm, ⟨0, _⟩ => ⟨S1x8192x4x96, .f32⟩
  | .hbm, ⟨1, _⟩ => ⟨S1x8192x4x96, .f32⟩
  | .hbm, ⟨2, _⟩ => ⟨S1x8192x4x128, .f32⟩
  | .hbm, ⟨3, _⟩ => ⟨S1x8192x4x128, .f32⟩
  | .hbm, ⟨4, _⟩ => ⟨S1x4x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4x8192x8192, .f32⟩
  | .hbm, ⟨10, _⟩ => ⟨S1x4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x1x8192x8192, .i1⟩
  | .hbm, ⟨18, _⟩ => ⟨S_, .f32⟩
  | .hbm, ⟨19, _⟩ => ⟨S_, .f32⟩
  | .hbm, ⟨20, _⟩ => ⟨S1x4x8192x8192, .i1⟩
  | .hbm, ⟨21, _⟩ => ⟨S1x4x8192x8192, .f32⟩
  | .hbm, ⟨22, _⟩ => ⟨S1x4x8192x8192, .f32⟩
  | .hbm, ⟨23, _⟩ => ⟨S_, .f32⟩
  | .hbm, ⟨24, _⟩ => ⟨S1x4x8192x8192, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x8192, .f32⟩
  | .hbm, ⟨29, _⟩ => ⟨S1x4x8192x8192, .i1⟩
  | .hbm, ⟨30, _⟩ => ⟨S1x4x8192x8192, .f32⟩
  | .hbm, ⟨31, _⟩ => ⟨S_, .f32⟩
  | .hbm, ⟨32, _⟩ => ⟨S1x4x8192, .f32⟩
  | .hbm, ⟨33, _⟩ => ⟨S_, .f32⟩
  | .hbm, ⟨34, _⟩ => ⟨S1x4x8192, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S1x4x8192, .i1⟩
  | .hbm, ⟨39, _⟩ => ⟨S_, .f32⟩
  | .hbm, ⟨40, _⟩ => ⟨S1x4x8192, .f32⟩
  | .hbm, ⟨41, _⟩ => ⟨S1x4x8192, .i1⟩
  | .hbm, ⟨42, _⟩ => ⟨S_, .f32⟩
  | .hbm, ⟨43, _⟩ => ⟨S1x4x8192, .f32⟩
  | .hbm, ⟨44, _⟩ => ⟨S_, .f32⟩
  | .hbm, ⟨45, _⟩ => ⟨S1x4x8192, .f32⟩
  | .hbm, ⟨46, _⟩ => ⟨S_, .f32⟩
  | .hbm, ⟨47, _⟩ => ⟨S1x4x8192, .f32⟩
  | .hbm, ⟨48, _⟩ => ⟨S1x4x8192, .f32⟩
  | .hbm, ⟨49, _⟩ => ⟨S1x4x8192, .f32⟩
  | .hbm, ⟨50, _⟩ => ⟨S1x4x8192x1, .f32⟩
  | .hbm, ⟨51, _⟩ => ⟨S1x4x8192x8192, .f32⟩
  | .hbm, ⟨52, _⟩ => ⟨S1x4x8192x8192, .f32⟩
  | .hbm, ⟨53, _⟩ => ⟨S1x4x8192x8192, .f32⟩
  | .hbm, ⟨54, _⟩ => ⟨S_, .f32⟩
  | .hbm, ⟨55, _⟩ => ⟨S1x4x8192, .f32⟩
  | .hbm, ⟨56, _⟩ => ⟨S1x4x8192x1, .f32⟩
  | .hbm, ⟨57, _⟩ => ⟨S1x4x8192x8192, .f32⟩
  | .hbm, ⟨58, _⟩ => ⟨S1x4x8192x8192, .f32⟩
  | .hbm, ⟨59, _⟩ => ⟨S1x4x8192x1, .f32⟩
  | .hbm, ⟨60, _⟩ => ⟨S_, .f32⟩
  | .hbm, ⟨61, _⟩ => ⟨S1x4x8192x1, .f32⟩
  | .hbm, ⟨62, _⟩ => ⟨S1x4x8192x1, .f32⟩
  | .hbm, ⟨63, _⟩ => ⟨S1x4x128x8192, .f32⟩
  | .hbm, ⟨64, _⟩ => ⟨S1x8192x4x128, .f32⟩
  | .hbm, ⟨65, _⟩ => ⟨S1x4x128x8192, .f32⟩
  | .hbm, ⟨66, _⟩ => ⟨S1x4x8192x8192, .f32⟩
  | .hbm, ⟨67, _⟩ => ⟨S1x4x128x8192, .f32⟩
  | .hbm, ⟨68, _⟩ => ⟨S1x8192x4x128, .f32⟩
  | .hbm, ⟨69, _⟩ => ⟨S1x4x8192x8192, .f32⟩
  | .hbm, ⟨70, _⟩ => ⟨S1x4x8192x8192, .f32⟩
  | .hbm, ⟨71, _⟩ => ⟨S1x4x8192x8192, .f32⟩
  | .hbm, ⟨72, _⟩ => ⟨S_, .f32⟩
  | .hbm, ⟨73, _⟩ => ⟨S1x4x8192, .f32⟩
  | .hbm, ⟨74, _⟩ => ⟨S1x4x8192x1, .f32⟩
  | .hbm, ⟨75, _⟩ => ⟨S1x4x8192x1, .f32⟩
  | .hbm, ⟨76, _⟩ => ⟨S1x4x8192x8192, .f32⟩
  | .hbm, ⟨77, _⟩ => ⟨S1x4x8192x8192, .f32⟩
  | .hbm, ⟨78, _⟩ => ⟨S_, .f32⟩
  | .hbm, ⟨79, _⟩ => ⟨S4x8192, .f32⟩
  | .hbm, ⟨80, _⟩ => ⟨S1x4x8192, .f32⟩
  | .hbm, ⟨81, _⟩ => ⟨S1x4x8192x8192, .f32⟩
  | .hbm, ⟨82, _⟩ => ⟨S1x4x8192x8192, .f32⟩
  | .hbm, ⟨83, _⟩ => ⟨S1x4x8192x8192, .f32⟩
  | .hbm, ⟨84, _⟩ => ⟨S_, .f32⟩
  | .hbm, ⟨85, _⟩ => ⟨S1x4x8192x8192, .f32⟩
  | .hbm, ⟨86, _⟩ => ⟨S1x4x8192x8192, .f32⟩
  | .hbm, ⟨87, _⟩ => ⟨S1x4x8192x8192, .f32⟩
  | .hbm, ⟨88, _⟩ => ⟨S1x4x8192x8192, .f32⟩
  | .hbm, ⟨89, _⟩ => ⟨S1x4x8192x96, .f32⟩
  | .hbm, ⟨90, _⟩ => ⟨S1x8192x4x96, .f32⟩
  | .hbm, ⟨91, _⟩ => ⟨S1x4x8192x96, .f32⟩
  | .hbm, ⟨92, _⟩ => ⟨S1x8192x4x96, .f32⟩
  | .hbm, ⟨93, _⟩ => ⟨S8192x4x96, .f32⟩
  | .hbm, ⟨94, _⟩ => ⟨S4x8192x96, .f32⟩
  | .hbm, ⟨95, _⟩ => ⟨S_, .i32⟩
  | .hbm, ⟨96, _⟩ => ⟨S_, .f32⟩
  | .hbm, ⟨97, _⟩ => ⟨S4x8192x128, .f32⟩
  | .hbm, ⟨98, _⟩ => ⟨S8192x4x96, .f32⟩
  | .hbm, ⟨99, _⟩ => ⟨S4x8192x96, .f32⟩
  | .hbm, ⟨100, _⟩ => ⟨S_, .i32⟩
  | .hbm, ⟨101, _⟩ => ⟨S_, .f32⟩
  | .hbm, ⟨102, _⟩ => ⟨S4x8192x128, .f32⟩
  | .hbm, ⟨103, _⟩ => ⟨S8192x4x128, .f32⟩
  | .hbm, ⟨104, _⟩ => ⟨S4x8192x128, .f32⟩
  | .hbm, ⟨105, _⟩ => ⟨S_, .i32⟩
  | .hbm, ⟨106, _⟩ => ⟨S_, .f32⟩
  | .hbm, ⟨107, _⟩ => ⟨S4x8192x128, .f32⟩
  | _, _ => ⟨S1x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_call3_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_call4_v0 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== InProj.lean ====
abbrev S1x8192x1024 : Shape := ⟨3, ![1, 8192, 1024]⟩
abbrev S1024 : Shape := ⟨1, ![1024]⟩
abbrev S1024x1184 : Shape := ⟨2, ![1024, 1184]⟩
abbrev S1x8192x1184 : Shape := ⟨3, ![1, 8192, 1184]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x256 : Shape := ⟨2, ![1024, 256]⟩
abbrev S1024x1280 : Shape := ⟨2, ![1024, 1280]⟩
abbrev S8192x1184 : Shape := ⟨2, ![8192, 1184]⟩
abbrev S8192x384 : Shape := ⟨2, ![8192, 384]⟩
abbrev S8192x64 : Shape := ⟨2, ![8192, 64]⟩
abbrev S8192x32 : Shape := ⟨2, ![8192, 32]⟩
abbrev S8192x512 : Shape := ⟨2, ![8192, 512]⟩
abbrev S8192x256 : Shape := ⟨2, ![8192, 256]⟩
abbrev S8192x1024 : Shape := ⟨2, ![8192, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S256x512 : Shape := ⟨2, ![256, 512]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 31
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1184, .f32⟩
  | .hbm, ⟨3, _⟩ => ⟨S1x8192x1184, .f32⟩
  | .hbm, ⟨4, _⟩ => ⟨S1x8192x1024, .f32⟩
  | .hbm, ⟨5, _⟩ => ⟨S1024x1184, .bf16⟩
  | .hbm, ⟨6, _⟩ => ⟨S1024x384, .bf16⟩
  | .hbm, ⟨7, _⟩ => ⟨S_, .bf16⟩
  | .hbm, ⟨8, _⟩ => ⟨S1024x64, .bf16⟩
  | .hbm, ⟨9, _⟩ => ⟨S1024x32, .bf16⟩
  | .hbm, ⟨10, _⟩ => ⟨S_, .bf16⟩
  | .hbm, ⟨11, _⟩ => ⟨S1024x32, .bf16⟩
  | .hbm, ⟨12, _⟩ => ⟨S1024x512, .bf16⟩
  | .hbm, ⟨13, _⟩ => ⟨S1024x256, .bf16⟩
  | .hbm, ⟨14, _⟩ => ⟨S1024x1280, .bf16⟩
  | .hbm, ⟨15, _⟩ => ⟨S8192x1184, .f32⟩
  | .hbm, ⟨16, _⟩ => ⟨S8192x1184, .bf16⟩
  | .hbm, ⟨17, _⟩ => ⟨S8192x384, .bf16⟩
  | .hbm, ⟨18, _⟩ => ⟨S_, .bf16⟩
  | .hbm, ⟨19, _⟩ => ⟨S8192x64, .bf16⟩
  | .hbm, ⟨20, _⟩ => ⟨S8192x32, .bf16⟩
  | .hbm, ⟨21, _⟩ => ⟨S_, .bf16⟩
  | .hbm, ⟨22, _⟩ => ⟨S8192x32, .bf16⟩
  | .hbm, ⟨23, _⟩ => ⟨S8192x512, .bf16⟩
  | .hbm, ⟨24, _⟩ => ⟨S8192x512, .bf16⟩
  | .hbm, ⟨25, _⟩ => ⟨S8192x256, .bf16⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1280, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v103 : BitVec 1 := Scalar.cmpi .eq arg0 c0_i32
  let v104 : BitVec 32 := Scalar.extui v103
  let c0_i32_54 : BitVec 32 := 0#32
  let v105 : BitVec 1 := Scalar.cmpi .ne v104 c0_i32_54
  v105

def k0_cond2 (i : grid0.Coords) : BitVec 1 :=
  let arg0 : BitVec 32 := BitVec.ofNat 32 (i 0).val
  let c0_i32 : BitVec 32 := 0#32
  let v103 : BitVec 1 := Scalar.cmpi .eq arg0 c0_i32
  let v_true : BitVec 1 := 1#1
  let v106 : BitVec 1 := Scalar.xori v103 v_true
  let v107 : BitVec 32 := Scalar.extui v106
  let c0_i32_55 : BitVec 32 := 0#32
  let v108 : BitVec 1 := Scalar.cmpi .ne v107 c0_i32_55
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InProjReferenceIdeal.lean ====
abbrev S1x8192x1024 : Shape := ⟨3, ![1, 8192, 1024]⟩
abbrev S1024 : Shape := ⟨1, ![1024]⟩
abbrev S1024x1184 : Shape := ⟨2, ![1024, 1184]⟩
abbrev S1x8192x1184 : Shape := ⟨3, ![1, 8192, 1184]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1184, .f32⟩
  | .hbm, ⟨3, _⟩ => ⟨S1x8192x1184, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x1184, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S_, .f32⟩
  | .hbm, ⟨34, _⟩ => ⟨S1024, .f32⟩
  | .hbm, ⟨35, _⟩ => ⟨S1x8192x1024, .f32⟩
  | .hbm, ⟨36, _⟩ => ⟨S_, .f32⟩
  | .hbm, ⟨37, _⟩ => ⟨S1x8192, .f32⟩
  | .hbm, ⟨38, _⟩ => ⟨S1x8192x1, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S_, .f32⟩
  | .hbm, ⟨47, _⟩ => ⟨S8192, .f32⟩
  | .hbm, ⟨48, _⟩ => ⟨S1x8192, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S8192x1024, .f32⟩
  | .hbm, ⟨55, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Ffn.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S8192x1024 : Shape := ⟨2, ![8192, 1024]⟩
abbrev S1x1024 : Shape := ⟨2, ![1, 1024]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 49
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S1024x2816, .bf16⟩
  | .hbm, ⟨7, _⟩ => ⟨S1024x4x704, .bf16⟩
  | .hbm, ⟨8, _⟩ => ⟨S4x1024x704, .bf16⟩
  | .hbm, ⟨9, _⟩ => ⟨S4x704x1024, .bf16⟩
  | .hbm, ⟨10, _⟩ => ⟨S1024x2816, .bf16⟩
  | .hbm, ⟨11, _⟩ => ⟨S1024x4x704, .bf16⟩
  | .hbm, ⟨12, _⟩ => ⟨S4x1024x704, .bf16⟩
  | .hbm, ⟨13, _⟩ => ⟨S4x704x1024, .bf16⟩
  | .hbm, ⟨14, _⟩ => ⟨S2816x1024, .bf16⟩
  | .hbm, ⟨15, _⟩ => ⟨S4x704x1024, .bf16⟩
  | .hbm, ⟨16, _⟩ => ⟨S1x8192x1024, .f32⟩
  | .hbm, ⟨17, _⟩ => ⟨S_, .f32⟩
  | .hbm, ⟨18, _⟩ => ⟨S1x8192, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S1x8192x1, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x8192x2816, .f32⟩
  | .hbm, ⟨33, _⟩ => ⟨S8192x2816, .f32⟩
  | .hbm, ⟨34, _⟩ => ⟨S8192x4x704, .f32⟩
  | .hbm, ⟨35, _⟩ => ⟨S4x8192x704, .f32⟩
  | .hbm, ⟨36, _⟩ => ⟨S1x8192x2816, .f32⟩
  | .hbm, ⟨37, _⟩ => ⟨S8192x2816, .f32⟩
  | .hbm, ⟨38, _⟩ => ⟨S8192x4x704, .f32⟩
  | .hbm, ⟨39, _⟩ => ⟨S4x8192x704, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S4x8192x704, .bf16⟩
  | .hbm, ⟨45, _⟩ => ⟨S4x8192x704, .bf16⟩
  | .hbm, ⟨46, _⟩ => ⟨S4x8192x704, .bf16⟩
  | .hbm, ⟨47, _⟩ => ⟨S8192x1024, .bf16⟩
  | .hbm, ⟨48, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x256x704, .f32⟩
  | .local _ .vmem, ⟨5, _⟩ => ⟨S4x256x704, .f32⟩
  | .local _ .vmem, ⟨6, _⟩ => ⟨S4x256x704, .f32⟩
  | .local _ .vmem, ⟨7, _⟩ => ⟨S4x256x704, .f32⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v34_2 : Ref sig .tc := ⟨.hbm, 45, rfl⟩
abbrev main_v34_3 : Ref sig .tc := ⟨.hbm, 46, rfl⟩
abbrev main_v34_4 : Ref sig .tc := ⟨.hbm, 47, rfl⟩
abbrev main_v34_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v192 : BitVec 1 := Scalar.cmpi .eq arg0 c0_i32
  let v193 : BitVec 32 := Scalar.extui v192
  let c0_i32_128 : BitVec 32 := 0#32
  let v194 : BitVec 1 := Scalar.cmpi .ne v193 c0_i32_128
  v194

def k0_cond2 (i : grid0.Coords) : BitVec 1 :=
  let arg0 : BitVec 32 := BitVec.ofNat 32 (i 0).val
  let c0_i32 : BitVec 32 := 0#32
  let v192 : BitVec 1 := Scalar.cmpi .eq arg0 c0_i32
  let v_true : BitVec 1 := 1#1
  let v195 : BitVec 1 := Scalar.xori v192 v_true
  let v196 : BitVec 32 := Scalar.extui v195
  let c0_i32_129 : BitVec 32 := 0#32
  let v197 : BitVec 1 := Scalar.cmpi .ne v196 c0_i32_129
  v197

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnReferenceIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x8192x2816 : Shape := ⟨3, ![1, 8192, 2816]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 102
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S_, .f32⟩
  | .hbm, ⟨7, _⟩ => ⟨S1x8192x2816, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x8192x2816, .f32⟩
  | .hbm, ⟨29, _⟩ => ⟨S1x8192x2816, .f32⟩
  | .hbm, ⟨30, _⟩ => ⟨S1x8192x2816, .f32⟩
  | .hbm, ⟨31, _⟩ => ⟨S1x8192x2816, .f32⟩
  | .hbm, ⟨32, _⟩ => ⟨S_, .f32⟩
  | .hbm, ⟨33, _⟩ => ⟨S1x8192x2816, .f32⟩
  | .hbm, ⟨34, _⟩ => ⟨S1x8192x2816, .f32⟩
  | .hbm, ⟨35, _⟩ => ⟨S_, .f32⟩
  | .hbm, ⟨36, _⟩ => ⟨S1x8192x2816, .f32⟩
  | .hbm, ⟨37, _⟩ => ⟨S1x8192x2816, .f32⟩
  | .hbm, ⟨38, _⟩ => ⟨S_, .f32⟩
  | .hbm, ⟨39, _⟩ => ⟨S1x8192x2816, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S1x8192x2816, .f32⟩
  | .hbm, ⟨45, _⟩ => ⟨S1x8192x2816, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x1024, .f32⟩
  | .hbm, ⟨53, _⟩ => ⟨S1x8192x2816, .f32⟩
  | .hbm, ⟨54, _⟩ => ⟨S1x8192x2816, .f32⟩
  | .hbm, ⟨55, _⟩ => ⟨S1x8192x2816, .f32⟩
  | .hbm, ⟨56, _⟩ => ⟨S1x8192x2816, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x8192x1024, .f32⟩
  | .hbm, ⟨64, _⟩ => ⟨S1x8192x1024, .f32⟩
  | .hbm, ⟨65, _⟩ => ⟨S_, .f32⟩
  | .hbm, ⟨66, _⟩ => ⟨S1024, .f32⟩
  | .hbm, ⟨67, _⟩ => ⟨S1x8192x1024, .f32⟩
  | .hbm, ⟨68, _⟩ => ⟨S_, .f32⟩
  | .hbm, ⟨69, _⟩ => ⟨S1x8192, .f32⟩
  | .hbm, ⟨70, _⟩ => ⟨S1x8192x1, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S8192x1024, .f32⟩
  | .hbm, ⟨87, _⟩ => ⟨S8192x2816, .f32⟩
  | .hbm, ⟨88, _⟩ => ⟨S8192x4x704, .f32⟩
  | .hbm, ⟨89, _⟩ => ⟨S4x8192x704, .f32⟩
  | .hbm, ⟨90, _⟩ => ⟨S4x8192x704, .bf16⟩
  | .hbm, ⟨91, _⟩ => ⟨S8192x2816, .f32⟩
  | .hbm, ⟨92, _⟩ => ⟨S8192x4x704, .f32⟩
  | .hbm, ⟨93, _⟩ => ⟨S4x8192x704, .f32⟩
  | .hbm, ⟨94, _⟩ => ⟨S4x8192x704, .bf16⟩
  | .hbm, ⟨95, _⟩ => ⟨S8192x2816, .f32⟩
  | .hbm, ⟨96, _⟩ => ⟨S8192x4x704, .f32⟩
  | .hbm, ⟨97, _⟩ => ⟨S4x8192x704, .f32⟩
  | .hbm, ⟨98, _⟩ => ⟨S4x8192x704, .bf16⟩
  | .hbm, ⟨99, _⟩ => ⟨S8192x1024, .f32⟩
  | .hbm, ⟨100, _⟩ => ⟨S8192x1024, .bf16⟩
  | .hbm, ⟨101, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Mix.lean ====
abbrev S1x8192x512 : Shape := ⟨3, ![1, 8192, 512]⟩
abbrev S1x8192x256 : Shape := ⟨3, ![1, 8192, 256]⟩
abbrev S4x128x128 : Shape := ⟨3, ![4, 128, 128]⟩
abbrev S4x128 : Shape := ⟨2, ![4, 128]⟩
abbrev S4x64x64 : Shape := ⟨3, ![4, 64, 64]⟩
abbrev S256 : Shape := ⟨1, ![256]⟩
abbrev S512 : Shape := ⟨1, ![512]⟩
abbrev S1024x1024 : Shape := ⟨2, ![1024, 1024]⟩
abbrev S1x8192x1024 : Shape := ⟨3, ![1, 8192, 1024]⟩
abbrev S_ : Shape := ⟨0, ![]⟩
abbrev S8192x512 : Shape := ⟨2, ![8192, 512]⟩
abbrev S8192x256 : Shape := ⟨2, ![8192, 256]⟩
abbrev S8192x1280 : Shape := ⟨2, ![8192, 1280]⟩
abbrev S128x4 : Shape := ⟨2, ![128, 4]⟩
abbrev S128x4x64 : Shape := ⟨3, ![128, 4, 64]⟩
abbrev S128x256 : Shape := ⟨2, ![128, 256]⟩
abbrev S256x256 : Shape := ⟨2, ![256, 256]⟩
abbrev S1x64x64 : Shape := ⟨3, ![1, 64, 64]⟩
abbrev S64x64 : Shape := ⟨2, ![64, 64]⟩
abbrev S1024 : Shape := ⟨1, ![1024]⟩
abbrev S1x1024 : Shape := ⟨2, ![1, 1024]⟩
abbrev S8192x1024 : Shape := ⟨2, ![8192, 1024]⟩
abbrev S1x256 : Shape := ⟨2, ![1, 256]⟩
abbrev S4x8192x128 : Shape := ⟨3, ![4, 8192, 128]⟩
abbrev S1024x512 : Shape := ⟨2, ![1024, 512]⟩
abbrev S1024x256 : Shape := ⟨2, ![1024, 256]⟩
abbrev S4x1024x128 : Shape := ⟨3, ![4, 1024, 128]⟩
abbrev S1024x1 : Shape := ⟨2, ![1024, 1]⟩
abbrev S1x512 : Shape := ⟨2, ![1, 512]⟩
abbrev S1024x128 : Shape := ⟨2, ![1024, 128]⟩
abbrev S1x1024x128 : Shape := ⟨3, ![1, 1024, 128]⟩
abbrev S128x128 : Shape := ⟨2, ![128, 128]⟩
abbrev S1x128x128 : Shape := ⟨3, ![1, 128, 128]⟩

abbrev nBuf : Space → Nat
  | .hbm => 63
  | .vmem => 29
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x256, .f32⟩
  | .hbm, ⟨3, _⟩ => ⟨S4x128x128, .f32⟩
  | .hbm, ⟨4, _⟩ => ⟨S4x128, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S512, .f32⟩
  | .hbm, ⟨9, _⟩ => ⟨S256, .f32⟩
  | .hbm, ⟨10, _⟩ => ⟨S256, .f32⟩
  | .hbm, ⟨11, _⟩ => ⟨S1024x1024, .f32⟩
  | .hbm, ⟨12, _⟩ => ⟨S1x8192x1024, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x256, .f32⟩
  | .hbm, ⟨18, _⟩ => ⟨S8192x1280, .f32⟩
  | .hbm, ⟨19, _⟩ => ⟨S128x4, .f32⟩
  | .hbm, ⟨20, _⟩ => ⟨S128x4x64, .f32⟩
  | .hbm, ⟨21, _⟩ => ⟨S128x256, .f32⟩
  | .hbm, ⟨22, _⟩ => ⟨S_, .f32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S_, .i32⟩
  | .hbm, ⟨28, _⟩ => ⟨S256x256, .f32⟩
  | .hbm, ⟨29, _⟩ => ⟨S1x64x64, .f32⟩
  | .hbm, ⟨30, _⟩ => ⟨S64x64, .f32⟩
  | .hbm, ⟨31, _⟩ => ⟨S_, .i32⟩
  | .hbm, ⟨32, _⟩ => ⟨S_, .i32⟩
  | .hbm, ⟨33, _⟩ => ⟨S256x256, .f32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S_, .i32⟩
  | .hbm, ⟨38, _⟩ => ⟨S256x256, .f32⟩
  | .hbm, ⟨39, _⟩ => ⟨S1x64x64, .f32⟩
  | .hbm, ⟨40, _⟩ => ⟨S64x64, .f32⟩
  | .hbm, ⟨41, _⟩ => ⟨S_, .i32⟩
  | .hbm, ⟨42, _⟩ => ⟨S_, .i32⟩
  | .hbm, ⟨43, _⟩ => ⟨S256x256, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x512, .f32⟩
  | .hbm, ⟨48, _⟩ => ⟨S8192x256, .f32⟩
  | .hbm, ⟨49, _⟩ => ⟨S256x256, .bf16⟩
  | .hbm, ⟨50, _⟩ => ⟨S1x256, .f32⟩
  | .hbm, ⟨51, _⟩ => ⟨S1x256, .f32⟩
  | .hbm, ⟨52, _⟩ => ⟨S1024x1024, .bf16⟩
  | .hbm, ⟨53, _⟩ => ⟨S4x8192x128, .bf16⟩
  | .hbm, ⟨54, _⟩ => ⟨S4x8192x128, .f32⟩
  | .hbm, ⟨55, _⟩ => ⟨S8192x512, .bf16⟩
  | .hbm, ⟨56, _⟩ => ⟨S8192x256, .f32⟩
  | .hbm, ⟨57, _⟩ => ⟨S1x1024, .f32⟩
  | .hbm, ⟨58, _⟩ => ⟨S1x256, .f32⟩
  | .hbm, ⟨59, _⟩ => ⟨S1x256, .f32⟩
  | .hbm, ⟨60, _⟩ => ⟨S4x128x128, .f32⟩
  | .hbm, ⟨61, _⟩ => ⟨S128x256, .f32⟩
  | .hbm, ⟨62, _⟩ => ⟨S256x256, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S4x128x128, .f32⟩
  | .local _ .vmem, ⟨9, _⟩ => ⟨S128x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S1x1024, .f32⟩
  | .local _ .vmem, ⟨14, _⟩ => ⟨S1024x1024, .bf16⟩
  | .local _ .vmem, ⟨15, _⟩ => ⟨S4x1024x128, .bf16⟩
  | .local _ .vmem, ⟨16, _⟩ => ⟨S4x1024x128, .bf16⟩
  | .local _ .vmem, ⟨17, _⟩ => ⟨S4x1024x128, .f32⟩
  | .local _ .vmem, ⟨18, _⟩ => ⟨S4x1024x128, .f32⟩
  | .local _ .vmem, ⟨19, _⟩ => ⟨S1024x512, .bf16⟩
  | .local _ .vmem, ⟨20, _⟩ => ⟨S1024x512, .bf16⟩
  | .local _ .vmem, ⟨21, _⟩ => ⟨S1024x256, .f32⟩
  | .local _ .vmem, ⟨22, _⟩ => ⟨S1024x256, .f32⟩
  | .local _ .vmem, ⟨23, _⟩ => ⟨S1x1024, .f32⟩
  | .local _ .vmem, ⟨24, _⟩ => ⟨S1x256, .f32⟩
  | .local _ .vmem, ⟨25, _⟩ => ⟨S1x256, .f32⟩
  | .local _ .vmem, ⟨26, _⟩ => ⟨S4x128x128, .f32⟩
  | .local _ .vmem, ⟨27, _⟩ => ⟨S128x256, .f32⟩
  | .local _ .vmem, ⟨28, _⟩ => ⟨S256x256, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_c_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_7 : Ref sig .tc := ⟨.hbm, 41, rfl⟩
abbrev main_c_8 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v29_3 : Ref sig .tc := ⟨.hbm, 56, rfl⟩
abbrev main_v29_4 : Ref sig .tc := ⟨.hbm, 57, rfl⟩
abbrev main_v29_5 : Ref sig .tc := ⟨.hbm, 58, rfl⟩
abbrev main_v29_6 : Ref sig .tc := ⟨.hbm, 59, rfl⟩
abbrev main_v29_7 : Ref sig .tc := ⟨.hbm, 60, rfl⟩
abbrev main_v29_8 : Ref sig .tc := ⟨.hbm, 61, rfl⟩
abbrev main_v29_9 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2438 : BitVec 32 := Scalar.extui v0
  let c0_i32_809 : BitVec 32 := 0#32
  let v2439 : BitVec 1 := Scalar.cmpi .ne v2438 c0_i32_809
  v2439

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v2440 : BitVec 1 := Scalar.xori v0 v_true
  let v2441 : BitVec 32 := Scalar.extui v2440
  let c0_i32_810 : BitVec 32 := 0#32
  let v2442 : BitVec 1 := Scalar.cmpi .ne v2441 c0_i32_810
  v2442

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v2443 : BitVec 32 := Scalar.extui v0
  let c0_i32_811 : BitVec 32 := 0#32
  let v2444 : BitVec 1 := Scalar.cmpi .ne v2443 c0_i32_811
  v2444

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_812 : BitVec 1 := 1#1
  let v2445 : BitVec 1 := Scalar.xori v0 true_812
  let v2446 : BitVec 32 := Scalar.extui v2445
  let c0_i32_813 : BitVec 32 := 0#32
  let v2447 : BitVec 1 := Scalar.cmpi .ne v2446 c0_i32_813
  v2447

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v2451 : BitVec 32 := Scalar.extui v0
  let c0_i32_815 : BitVec 32 := 0#32
  let v2452 : BitVec 1 := Scalar.cmpi .ne v2451 c0_i32_815
  v2452

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_816 : BitVec 1 := 1#1
  let v2453 : BitVec 1 := Scalar.xori v0 true_816
  let v2454 : BitVec 32 := Scalar.extui v2453
  let c0_i32_817 : BitVec 32 := 0#32
  let v2455 : BitVec 1 := Scalar.cmpi .ne v2454 c0_i32_817
  v2455

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v2469 : BitVec 32 := Scalar.extui v0
  let c0_i32_826 : BitVec 32 := 0#32
  let v2470 : BitVec 1 := Scalar.cmpi .ne v2469 c0_i32_826
  v2470

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_827 : BitVec 1 := 1#1
  let v2471 : BitVec 1 := Scalar.xori v0 true_827
  let v2472 : BitVec 32 := Scalar.extui v2471
  let c0_i32_828 : BitVec 32 := 0#32
  let v2473 : BitVec 1 := Scalar.cmpi .ne v2472 c0_i32_828
  v2473

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v2476 : BitVec 32 := Scalar.extui v0
  let c0_i32_830 : BitVec 32 := 0#32
  let v2477 : BitVec 1 := Scalar.cmpi .ne v2476 c0_i32_830
  v2477

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_831 : BitVec 1 := 1#1
  let v2478 : BitVec 1 := Scalar.xori v0 true_831
  let v2479 : BitVec 32 := Scalar.extui v2478
  let c0_i32_832 : BitVec 32 := 0#32
  let v2480 : BitVec 1 := Scalar.cmpi .ne v2479 c0_i32_832
  v2480

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v2483 : BitVec 32 := Scalar.extui v0
  let c0_i32_834 : BitVec 32 := 0#32
  let v2484 : BitVec 1 := Scalar.cmpi .ne v2483 c0_i32_834
  v2484

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_835 : BitVec 1 := 1#1
  let v2485 : BitVec 1 := Scalar.xori v0 true_835
  let v2486 : BitVec 32 := Scalar.extui v2485
  let c0_i32_836 : BitVec 32 := 0#32
  let v2487 : BitVec 1 := Scalar.cmpi .ne v2486 c0_i32_836
  v2487

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v2490 : BitVec 32 := Scalar.extui v0
  let c0_i32_838 : BitVec 32 := 0#32
  let v2491 : BitVec 1 := Scalar.cmpi .ne v2490 c0_i32_838
  v2491

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_839 : BitVec 1 := 1#1
  let v2492 : BitVec 1 := Scalar.xori v0 true_839
  let v2493 : BitVec 32 := Scalar.extui v2492
  let c0_i32_840 : BitVec 32 := 0#32
  let v2494 : BitVec 1 := Scalar.cmpi .ne v2493 c0_i32_840
  v2494

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v2456 : BitVec 32 := Scalar.extui v0
  let c0_i32_818 : BitVec 32 := 0#32
  let v2457 : BitVec 1 := Scalar.cmpi .ne v2456 c0_i32_818
  v2457

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_819 : BitVec 1 := 1#1
  let v2458 : BitVec 1 := Scalar.xori v0 true_819
  let v2459 : BitVec 32 := Scalar.extui v2458
  let c0_i32_820 : BitVec 32 := 0#32
  let v2460 : BitVec 1 := Scalar.cmpi .ne v2459 c0_i32_820
  v2460

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v2462 : BitVec 32 := Scalar.extui v0
  let c0_i32_822 : BitVec 32 := 0#32
  let v2463 : BitVec 1 := Scalar.cmpi .ne v2462 c0_i32_822
  v2463

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_823 : BitVec 1 := 1#1
  let v2464 : BitVec 1 := Scalar.xori v0 true_823
  let v2465 : BitVec 32 := Scalar.extui v2464
  let c0_i32_824 : BitVec 32 := 0#32
  let v2466 : BitVec 1 := Scalar.cmpi .ne v2465 c0_i32_824
  v2466

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MixReferenceIdeal.lean ====
abbrev S1x8192x512 : Shape := ⟨3, ![1, 8192, 512]⟩
abbrev S1x8192x256 : Shape := ⟨3, ![1, 8192, 256]⟩
abbrev S4x128x128 : Shape := ⟨3, ![4, 128, 128]⟩
abbrev S4x128 : Shape := ⟨2, ![4, 128]⟩
abbrev S4x64x64 : Shape := ⟨3, ![4, 64, 64]⟩
abbrev S256 : Shape := ⟨1, ![256]⟩
abbrev S512 : Shape := ⟨1, ![512]⟩
abbrev S1024x1024 : Shape := ⟨2, ![1024, 1024]⟩
abbrev S1x8192x1024 : Shape := ⟨3, ![1, 8192, 1024]⟩
abbrev S_ : Shape := ⟨0, ![]⟩
abbrev S128x256 : Shape := ⟨2, ![128, 256]⟩
abbrev S256x256 : Shape := ⟨2, ![256, 256]⟩
abbrev S1x8192 : Shape := ⟨2, ![1, 8192]⟩
abbrev S1x8192x1 : Shape := ⟨3, ![1, 8192, 1]⟩
abbrev S1x1x256 : Shape := ⟨3, ![1, 1, 256]⟩
abbrev S1x64x128x4x64 : Shape := ⟨5, ![1, 64, 128, 4, 64]⟩
abbrev S128x128 : Shape := ⟨2, ![128, 128]⟩
abbrev S1x128x128 : Shape := ⟨3, ![1, 128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x1x128x4x64 : Shape := ⟨5, ![1, 1, 128, 4, 64]⟩
abbrev S1x8192x4x64 : Shape := ⟨4, ![1, 8192, 4, 64]⟩
abbrev S4x64x1x8192 : Shape := ⟨4, ![4, 64, 1, 8192]⟩
abbrev S1x1x512 : Shape := ⟨3, ![1, 1, 512]⟩
abbrev S1x256 : Shape := ⟨2, ![1, 256]⟩
abbrev S8192 : Shape := ⟨1, ![8192]⟩
abbrev S1x512 : Shape := ⟨2, ![1, 512]⟩
abbrev S4x1x8192x64 : Shape := ⟨4, ![4, 1, 8192, 64]⟩
abbrev S1x128x4x64 : Shape := ⟨4, ![1, 128, 4, 64]⟩
abbrev S8192x512 : Shape := ⟨2, ![8192, 512]⟩
abbrev S8192x4x128 : Shape := ⟨3, ![8192, 4, 128]⟩
abbrev S4x8192x128 : Shape := ⟨3, ![4, 8192, 128]⟩
abbrev S4x8192 : Shape := ⟨2, ![4, 8192]⟩
abbrev S4x8192x1 : Shape := ⟨3, ![4, 8192, 1]⟩
abbrev S8192x256 : Shape := ⟨2, ![8192, 256]⟩
abbrev S1024 : Shape := ⟨1, ![1024]⟩
abbrev S1x1024 : Shape := ⟨2, ![1, 1024]⟩

abbrev nBuf : Space → Nat
  | .hbm => 302
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x256, .f32⟩
  | 3 => ⟨S4x128x128, .f32⟩
  | 4 => ⟨S4x128, .f32⟩
  | 5 => ⟨S4x64x64, .f32⟩
  | 6 => ⟨S256, .f32⟩
  | 7 => ⟨S256, .f32⟩
  | 8 => ⟨S512, .f32⟩
  | 9 => ⟨S256, .f32⟩
  | 10 => ⟨S256, .f32⟩
  | 11 => ⟨S1024x1024, .f32⟩
  | 12 => ⟨S1x8192x1024, .f32⟩
  | 13 => ⟨S_, .f32⟩
  | 14 => ⟨S128x256, .f32⟩
  | 15 => ⟨S_, .f32⟩
  | 16 => ⟨S256x256, .f32⟩
  | 17 => ⟨S1x8192x256, .f32⟩
  | 18 => ⟨S1x8192x256, .f32⟩
  | 19 => ⟨S1x8192x256, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x256, .f32⟩
  | 35 => ⟨S1x8192x256, .f32⟩
  | 36 => ⟨S1x1x256, .f32⟩
  | 37 => ⟨S1x8192x256, .f32⟩
  | 38 => ⟨S1x8192x256, .f32⟩
  | 39 => ⟨S1x64x128x4x64, .f32⟩
  | 40 => ⟨S_, .f32⟩
  | 41 => ⟨S128x128, .f32⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .f32⟩
  | 49 => ⟨S128x128, .f32⟩
  | 50 => ⟨S128x128, .f32⟩
  | 51 => ⟨S1x128x128, .f32⟩
  | 52 => ⟨S4x128x128, .f32⟩
  | 53 => ⟨S4x128x128, .f32⟩
  | 54 => ⟨S4x1x64x64x128, .f32⟩
  | 55 => ⟨S1x64x128x4x64, .f32⟩
  | 56 => ⟨S128x4, .f32⟩
  | 57 => ⟨S1x1x128x4x1, .f32⟩
  | 58 => ⟨S1x1x128x4x64, .f32⟩
  | 59 => ⟨S1x1x128x4x64, .f32⟩
  | 60 => ⟨S1x1x128x4x64, .f32⟩
  | 61 => ⟨S1x64x128x4x64, .f32⟩
  | 62 => ⟨S1x64x128x4x64, .f32⟩
  | 63 => ⟨S1x8192x256, .f32⟩
  | 64 => ⟨S1x8192x256, .f32⟩
  | 65 => ⟨S1x8192x4x64, .f32⟩
  | 66 => ⟨S4x64x1x8192, .f32⟩
  | 67 => ⟨S1x8192x4x64, .f32⟩
  | 68 => ⟨S1x8192x256, .f32⟩
  | 69 => ⟨S1x8192x256, .f32⟩
  | 70 => ⟨S1x8192x256, .f32⟩
  | 71 => ⟨S1x1x256, .f32⟩
  | 72 => ⟨S1x8192x256, .f32⟩
  | 73 => ⟨S1x8192x256, .f32⟩
  | 74 => ⟨S1x8192x512, .f32⟩
  | 75 => ⟨S_, .f32⟩
  | 76 => ⟨S1x8192, .f32⟩
  | 77 => ⟨S1x8192x1, .f32⟩
  | 78 => ⟨S_, .f32⟩
  | 79 => ⟨S1x8192x1, .f32⟩
  | 80 => ⟨S1x8192x1, .f32⟩
  | 81 => ⟨S_, .f32⟩
  | 82 => ⟨S1x8192x1, .f32⟩
  | 83 => ⟨S1x8192x1, .f32⟩
  | 84 => ⟨S1x8192x1, .f32⟩
  | 85 => ⟨S1x8192x1, .f32⟩
  | 86 => ⟨S_, .f32⟩
  | 87 => ⟨S1x8192x1, .f32⟩
  | 88 => ⟨S1x8192x1, .f32⟩
  | 89 => ⟨S1x8192x512, .f32⟩
  | 90 => ⟨S1x8192x512, .f32⟩
  | 91 => ⟨S1x1x512, .f32⟩
  | 92 => ⟨S1x8192x512, .f32⟩
  | 93 => ⟨S1x8192x512, .f32⟩
  | 94 => ⟨S1x8192x256, .f32⟩
  | 95 => ⟨S_, .f32⟩
  | 96 => ⟨S1x8192, .f32⟩
  | 97 => ⟨S1x8192x1, .f32⟩
  | 98 => ⟨S_, .f32⟩
  | 99 => ⟨S1x8192x1, .f32⟩
  | 100 => ⟨S1x8192x1, .f32⟩
  | 101 => ⟨S_, .f32⟩
  | 102 => ⟨S1x8192x1, .f32⟩
  | 103 => ⟨S1x8192x1, .f32⟩
  | 104 => ⟨S1x8192x1, .f32⟩
  | 105 => ⟨S1x8192x1, .f32⟩
  | 106 => ⟨S_, .f32⟩
  | 107 => ⟨S1x8192x1, .f32⟩
  | 108 => ⟨S1x8192x1, .f32⟩
  | 109 => ⟨S1x8192x256, .f32⟩
  | 110 => ⟨S1x8192x256, .f32⟩
  | 111 => ⟨S1x1x256, .f32⟩
  | 112 => ⟨S1x8192x256, .f32⟩
  | 113 => ⟨S1x8192x256, .f32⟩
  | 114 => ⟨S1x8192x256, .f32⟩
  | 115 => ⟨S_, .f32⟩
  | 116 => ⟨S1x8192, .f32⟩
  | 117 => ⟨S1x8192x1, .f32⟩
  | 118 => ⟨S_, .f32⟩
  | 119 => ⟨S1x8192x1, .f32⟩
  | 120 => ⟨S1x8192x1, .f32⟩
  | 121 => ⟨S_, .f32⟩
  | 122 => ⟨S1x8192x1, .f32⟩
  | 123 => ⟨S1x8192x1, .f32⟩
  | 124 => ⟨S1x8192x1, .f32⟩
  | 125 => ⟨S1x8192x1, .f32⟩
  | 126 => ⟨S_, .f32⟩
  | 127 => ⟨S1x8192x1, .f32⟩
  | _ => ⟨S1x8192x512, .f32⟩

abbrev hbmTy0_1 (i : Nat) : BufTy := match i % 128 with
  | 0 => ⟨S1x8192x1, .f32⟩
  | 1 => ⟨S1x8192x256, .f32⟩
  | 2 => ⟨S1x8192x256, .f32⟩
  | 3 => ⟨S1x1x256, .f32⟩
  | 4 => ⟨S1x8192x256, .f32⟩
  | 5 => ⟨S1x8192x256, .f32⟩
  | 6 => ⟨S1x8192x1024, .f32⟩
  | 7 => ⟨S1x8192x1024, .f32⟩
  | 8 => ⟨S1x8192x1024, .f32⟩
  | 9 => ⟨S1x8192x512, .f32⟩
  | 10 => ⟨S1x8192x256, .f32⟩
  | 11 => ⟨S1x8192x256, .f32⟩
  | 12 => ⟨S1x8192x256, .f32⟩
  | 13 => ⟨S_, .f32⟩
  | 14 => ⟨S1x256, .f32⟩
  | 15 => ⟨S1x1x256, .f32⟩
  | 16 => ⟨S1x8192x256, .f32⟩
  | 17 => ⟨S1x8192x256, .f32⟩
  | 18 => ⟨S_, .f32⟩
  | 19 => ⟨S256, .f32⟩
  | 20 => ⟨S1x8192x256, .f32⟩
  | 21 => ⟨S_, .f32⟩
  | 22 => ⟨S1x8192, .f32⟩
  | 23 => ⟨S1x8192x1, .f32⟩
  | 24 => ⟨S1x8192x256, .f32⟩
  | 25 => ⟨S1x8192x256, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S8192, .f32⟩
  | 32 => ⟨S1x8192, .f32⟩
  | 33 => ⟨S1x8192x256, .f32⟩
  | 34 => ⟨S1x8192x256, .f32⟩
  | 35 => ⟨S1x8192x256, .f32⟩
  | 36 => ⟨S1x8192x256, .f32⟩
  | 37 => ⟨S1x8192x256, .f32⟩
  | 38 => ⟨S1x8192x256, .f32⟩
  | 39 => ⟨S_, .f32⟩
  | 40 => ⟨S1x256, .f32⟩
  | 41 => ⟨S1x1x256, .f32⟩
  | 42 => ⟨S1x8192x256, .f32⟩
  | 43 => ⟨S1x8192x256, .f32⟩
  | 44 => ⟨S_, .f32⟩
  | 45 => ⟨S256, .f32⟩
  | 46 => ⟨S1x8192x256, .f32⟩
  | 47 => ⟨S_, .f32⟩
  | 48 => ⟨S1x8192, .f32⟩
  | 49 => ⟨S1x8192x1, .f32⟩
  | 50 => ⟨S1x8192x256, .f32⟩
  | 51 => ⟨S1x8192x256, .f32⟩
  | 52 => ⟨S1x8192x1, .f32⟩
  | 53 => ⟨S_, .f32⟩
  | 54 => ⟨S1x8192x1, .f32⟩
  | 55 => ⟨S1x8192x1, .f32⟩
  | 56 => ⟨S_, .f32⟩
  | 57 => ⟨S8192, .f32⟩
  | 58 => ⟨S1x8192, .f32⟩
  | 59 => ⟨S1x8192x256, .f32⟩
  | 60 => ⟨S1x8192x256, .f32⟩
  | 61 => ⟨S1x8192x256, .f32⟩
  | 62 => ⟨S1x8192x256, .f32⟩
  | 63 => ⟨S1x8192x256, .f32⟩
  | 64 => ⟨S1x8192x512, .f32⟩
  | 65 => ⟨S_, .f32⟩
  | 66 => ⟨S1x512, .f32⟩
  | 67 => ⟨S1x1x512, .f32⟩
  | 68 => ⟨S1x8192x512, .f32⟩
  | 69 => ⟨S1x8192x512, .f32⟩
  | 70 => ⟨S_, .f32⟩
  | 71 => ⟨S512, .f32⟩
  | 72 => ⟨S1x8192x512, .f32⟩
  | 73 => ⟨S_, .f32⟩
  | 74 => ⟨S1x8192, .f32⟩
  | 75 => ⟨S1x8192x1, .f32⟩
  | 76 => ⟨S1x8192x512, .f32⟩
  | 77 => ⟨S1x8192x512, .f32⟩
  | 78 => ⟨S1x8192x1, .f32⟩
  | 79 => ⟨S_, .f32⟩
  | 80 => ⟨S1x8192x1, .f32⟩
  | 81 => ⟨S1x8192x1, .f32⟩
  | 82 => ⟨S_, .f32⟩
  | 83 => ⟨S8192, .f32⟩
  | 84 => ⟨S1x8192, .f32⟩
  | 85 => ⟨S1x8192x512, .f32⟩
  | 86 => ⟨S1x8192x512, .f32⟩
  | 87 => ⟨S1x8192x512, .f32⟩
  | 88 => ⟨S1x8192x512, .f32⟩
  | 89 => ⟨S1x8192x512, .f32⟩
  | 90 => ⟨S1x8192x256, .f32⟩
  | 91 => ⟨S_, .f32⟩
  | 92 => ⟨S1x256, .f32⟩
  | 93 => ⟨S1x1x256, .f32⟩
  | 94 => ⟨S1x8192x256, .f32⟩
  | 95 => ⟨S1x8192x256, .f32⟩
  | 96 => ⟨S_, .f32⟩
  | 97 => ⟨S256, .f32⟩
  | 98 => ⟨S256x256, .f32⟩
  | 99 => ⟨S256x256, .f32⟩
  | 100 => ⟨S1x8192x256, .f32⟩
  | 101 => ⟨S1x8192x4x64, .f32⟩
  | 102 => ⟨S4x64x1x8192, .f32⟩
  | 103 => ⟨S4x1x8192x64, .f32⟩
  | 104 => ⟨S1x8192x4x64, .f32⟩
  | 105 => ⟨S1x8192x256, .f32⟩
  | 106 => ⟨S1x8192x256, .f32⟩
  | 107 => ⟨S1x8192x256, .f32⟩
  | 108 => ⟨S1x8192x256, .f32⟩
  | 109 => ⟨S1x64x128x4x64, .f32⟩
  | 110 => ⟨S_, .f32⟩
  | 111 => ⟨S1x128x4x64, .f32⟩
  | 112 => ⟨S1x1x128x4x64, .f32⟩
  | 113 => ⟨S128x256, .f32⟩
  | 114 => ⟨S4x1x64x64x128, .f32⟩
  | 115 => ⟨S4x128x128, .f32⟩
  | 116 => ⟨S4x1x64x64x128, .f32⟩
  | 117 => ⟨S1x64x128x4x64, .f32⟩
  | 118 => ⟨S4x128x128, .f32⟩
  | 119 => ⟨S4x128x128, .f32⟩
  | 120 => ⟨S1x8192x256, .f32⟩
  | 121 => ⟨S1x8192x256, .f32⟩
  | 122 => ⟨S_, .f32⟩
  | 123 => ⟨S1x256, .f32⟩
  | 124 => ⟨S1x1x256, .f32⟩
  | 125 => ⟨S1x8192x256, .f32⟩
  | 126 => ⟨S1x8192x256, .f32⟩
  | 127 => ⟨S_, .f32⟩
  | _ => ⟨S1x8192x512, .f32⟩

abbrev hbmTy0_2 (i : Nat) : BufTy := match i % 128 with
  | 0 => ⟨S256, .f32⟩
  | 1 => ⟨S1x8192x256, .f32⟩
  | 2 => ⟨S_, .f32⟩
  | 3 => ⟨S1x8192, .f32⟩
  | 4 => ⟨S1x8192x1, .f32⟩
  | 5 => ⟨S1x8192x256, .f32⟩
  | 6 => ⟨S1x8192x256, .f32⟩
  | 7 => ⟨S1x8192x1, .f32⟩
  | 8 => ⟨S_, .f32⟩
  | 9 => ⟨S1x8192x1, .f32⟩
  | 10 => ⟨S1x8192x1, .f32⟩
  | 11 => ⟨S_, .f32⟩
  | 12 => ⟨S8192, .f32⟩
  | 13 => ⟨S1x8192, .f32⟩
  | 14 => ⟨S1x8192x256, .f32⟩
  | 15 => ⟨S1x8192x256, .f32⟩
  | 16 => ⟨S1x8192x256, .f32⟩
  | 17 => ⟨S1x8192x256, .f32⟩
  | 18 => ⟨S1x8192x256, .f32⟩
  | 19 => ⟨S_, .f32⟩
  | 20 => ⟨S1x8192x512, .f32⟩
  | 21 => ⟨S_, .f32⟩
  | 22 => ⟨S1x8192x512, .f32⟩
  | 23 => ⟨S1x8192x512, .f32⟩
  | 24 => ⟨S8192x512, .f32⟩
  | 25 => ⟨S8192x4x128, .f32⟩
  | 26 => ⟨S4x8192x128, .f32⟩
  | 27 => ⟨S8192x512, .f32⟩
  | 28 => ⟨S8192x4x128, .f32⟩
  | 29 => ⟨S4x8192x128, .f32⟩
  | 30 => ⟨S4x8192x128, .f32⟩
  | 31 => ⟨S_, .f32⟩
  | 32 => ⟨S4x8192, .f32⟩
  | 33 => ⟨S4x8192x1, .f32⟩
  | 34 => ⟨S4x8192x128, .f32⟩
  | 35 => ⟨S8192x512, .f32⟩
  | 36 => ⟨S8192x4x128, .f32⟩
  | 37 => ⟨S4x8192x128, .f32⟩
  | 38 => ⟨S4x8192x128, .bf16⟩
  | 39 => ⟨S8192x512, .f32⟩
  | 40 => ⟨S8192x512, .bf16⟩
  | 41 => ⟨S8192x256, .f32⟩
  | 42 => ⟨S1024, .f32⟩
  | 43 => ⟨S1x1024, .f32⟩
  | 44 => ⟨S1x256, .f32⟩
  | 45 => ⟨S1x256, .f32⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_cst : Ref sig .tc := ⟨.hbm, 48, rfl⟩
abbrev main_call0_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_cst_16 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_19 : Ref sig .tc := ⟨.hbm, 146, rfl⟩
abbrev main_v105 : Ref sig .tc := ⟨.hbm, 147, rfl⟩
abbrev main_v106 : Ref sig .tc := ⟨.hbm, 148, rfl⟩
abbrev main_cst_20 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_21 : Ref sig .tc := ⟨.hbm, 155, rfl⟩
abbrev main_v112 : Ref sig .tc := ⟨.hbm, 156, rfl⟩
abbrev main_v113 : Ref sig .tc := ⟨.hbm, 157, rfl⟩
abbrev main_cst_22 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_23 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_v127 : Ref sig .tc := ⟨.hbm, 174, rfl⟩
abbrev main_cst_25 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_26 : Ref sig .tc := ⟨.hbm, 181, rfl⟩
abbrev main_v133 : Ref sig .tc := ⟨.hbm, 182, rfl⟩
abbrev main_v134 : Ref sig .tc := ⟨.hbm, 183, rfl⟩
abbrev main_cst_27 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_28 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_29 : Ref sig .tc := ⟨.hbm, 198, rfl⟩
abbrev main_v147 : Ref sig .tc := ⟨.hbm, 199, rfl⟩
abbrev main_v148 : Ref sig .tc := ⟨.hbm, 200, rfl⟩
abbrev main_cst_30 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_31 : Ref sig .tc := ⟨.hbm, 207, rfl⟩
abbrev main_v154 : Ref sig .tc := ⟨.hbm, 208, rfl⟩
abbrev main_v155 : Ref sig .tc := ⟨.hbm, 209, rfl⟩
abbrev main_cst_32 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_33 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_34 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_35 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_36 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_cst_37 : Ref sig .tc := ⟨.hbm, 255, rfl⟩
abbrev main_v196 : Ref sig .tc := ⟨.hbm, 256, rfl⟩
abbrev main_v197 : Ref sig .tc := ⟨.hbm, 257, rfl⟩
abbrev main_cst_38 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_39 : Ref sig .tc := ⟨.hbm, 264, rfl⟩
abbrev main_v203 : Ref sig .tc := ⟨.hbm, 265, rfl⟩
abbrev main_v204 : Ref sig .tc := ⟨.hbm, 266, rfl⟩
abbrev main_cst_40 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_41 : Ref sig .tc := ⟨.hbm, 275, rfl⟩
abbrev main_v212 : Ref sig .tc := ⟨.hbm, 276, rfl⟩
abbrev main_cst_42 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_43 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩

abbrev nD : Nat := 1
abbrev τ : Topo := Topo.v7x

variable {F : FTy → Type} [FloatOps F]
-- ==== Proj.lean ====
abbrev S1x8192x1024 : Shape := ⟨3, ![1, 8192, 1024]⟩
abbrev S1024 : Shape := ⟨1, ![1024]⟩
abbrev S1024x1184 : Shape := ⟨2, ![1024, 1184]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x256 : Shape := ⟨2, ![1024, 256]⟩
abbrev S1024x1280 : Shape := ⟨2, ![1024, 1280]⟩
abbrev S8192x1024 : Shape := ⟨2, ![8192, 1024]⟩
abbrev S1x1024 : Shape := ⟨2, ![1, 1024]⟩
abbrev S8192x1280 : Shape := ⟨2, ![8192, 1280]⟩
abbrev S1024x1024 : Shape := ⟨2, ![1024, 1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1184, .f32⟩
  | .hbm, ⟨3, _⟩ => ⟨S1024x1184, .bf16⟩
  | .hbm, ⟨4, _⟩ => ⟨S1024x384, .bf16⟩
  | .hbm, ⟨5, _⟩ => ⟨S_, .bf16⟩
  | .hbm, ⟨6, _⟩ => ⟨S1024x64, .bf16⟩
  | .hbm, ⟨7, _⟩ => ⟨S1024x32, .bf16⟩
  | .hbm, ⟨8, _⟩ => ⟨S_, .bf16⟩
  | .hbm, ⟨9, _⟩ => ⟨S1024x32, .bf16⟩
  | .hbm, ⟨10, _⟩ => ⟨S1024x512, .bf16⟩
  | .hbm, ⟨11, _⟩ => ⟨S1024x256, .bf16⟩
  | .hbm, ⟨12, _⟩ => ⟨S1024x1280, .bf16⟩
  | .hbm, ⟨13, _⟩ => ⟨S8192x1024, .f32⟩
  | .hbm, ⟨14, _⟩ => ⟨S1x1024, .f32⟩
  | .hbm, ⟨15, _⟩ => ⟨S8192x1280, .f32⟩
  | .hbm, ⟨16, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1024, .bf16⟩
  | .local _ .vmem, ⟨7, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S1x8192x1024 : Shape := ⟨3, ![1, 8192, 1024]⟩
abbrev S1024 : Shape := ⟨1, ![1024]⟩
abbrev S1024x1184 : Shape := ⟨2, ![1024, 1184]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x1184 : Shape := ⟨3, ![1, 8192, 1184]⟩
abbrev S1x8192x384 : Shape := ⟨3, ![1, 8192, 384]⟩
abbrev S1x8192x64 : Shape := ⟨3, ![1, 8192, 64]⟩
abbrev S1x8192x32 : Shape := ⟨3, ![1, 8192, 32]⟩
abbrev S1x8192x768 : Shape := ⟨3, ![1, 8192, 768]⟩
abbrev S1x8192x1280 : Shape := ⟨3, ![1, 8192, 1280]⟩
abbrev S8192x1280 : Shape := ⟨2, ![8192, 1280]⟩
abbrev S8192x1024 : Shape := ⟨2, ![8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1184, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1024, .f32⟩
  | .hbm, ⟨15, _⟩ => ⟨S1x8192x1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S1x8192x1184, .f32⟩
  | .hbm, ⟨20, _⟩ => ⟨S1x8192x384, .f32⟩
  | .hbm, ⟨21, _⟩ => ⟨S_, .f32⟩
  | .hbm, ⟨22, _⟩ => ⟨S1x8192x64, .f32⟩
  | .hbm, ⟨23, _⟩ => ⟨S1x8192x32, .f32⟩
  | .hbm, ⟨24, _⟩ => ⟨S_, .f32⟩
  | .hbm, ⟨25, _⟩ => ⟨S1x8192x32, .f32⟩
  | .hbm, ⟨26, _⟩ => ⟨S1x8192x768, .f32⟩
  | .hbm, ⟨27, _⟩ => ⟨S1x8192x1280, .f32⟩
  | .hbm, ⟨28, _⟩ => ⟨S8192x1280, .f32⟩
  | .hbm, ⟨29, _⟩ => ⟨S8192x1024, .f32⟩
  | .hbm, ⟨30, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== FfnFwd.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S8192x1024 : Shape := ⟨2, ![8192, 1024]⟩
abbrev S1x1024 : Shape := ⟨2, ![1, 1024]⟩
abbrev S4x8192x704 : Shape := ⟨3, ![4, 8192, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 21
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x4x704, .bf16⟩
  | .hbm, ⟨7, _⟩ => ⟨S4x1024x704, .bf16⟩
  | .hbm, ⟨8, _⟩ => ⟨S4x704x1024, .bf16⟩
  | .hbm, ⟨9, _⟩ => ⟨S1024x2816, .bf16⟩
  | .hbm, ⟨10, _⟩ => ⟨S1024x4x704, .bf16⟩
  | .hbm, ⟨11, _⟩ => ⟨S4x1024x704, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S4x8192x704, .f32⟩
  | .hbm, ⟨19, _⟩ => ⟨S4x8192x704, .f32⟩
  | .hbm, ⟨20, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S4x256x704, .f32⟩
  | .local _ .vmem, ⟨9, _⟩ => ⟨S4x256x704, .f32⟩
  | .local _ .vmem, ⟨10, _⟩ => ⟨S4x256x704, .f32⟩
  | .local _ .vmem, ⟨11, _⟩ => ⟨S4x256x704, .f32⟩
  | .local _ .vmem, ⟨12, _⟩ => ⟨S256x1024, .bf16⟩
  | .local _ .vmem, ⟨13, _⟩ => ⟨S256x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdReferenceIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x2816, .f32⟩
  | .hbm, ⟨22, _⟩ => ⟨S1x8192x2816, .f32⟩
  | .hbm, ⟨23, _⟩ => ⟨S1x8192x2816, .f32⟩
  | .hbm, ⟨24, _⟩ => ⟨S1x8192x2816, .f32⟩
  | .hbm, ⟨25, _⟩ => ⟨S_, .f32⟩
  | .hbm, ⟨26, _⟩ => ⟨S1x8192x2816, .f32⟩
  | .hbm, ⟨27, _⟩ => ⟨S1x8192x2816, .f32⟩
  | .hbm, ⟨28, _⟩ => ⟨S_, .f32⟩
  | .hbm, ⟨29, _⟩ => ⟨S1x8192x2816, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x1024, .f32⟩
  | .hbm, ⟨34, _⟩ => ⟨S1x8192x1024, .f32⟩
  | .hbm, ⟨35, _⟩ => ⟨S8192x1024, .f32⟩
  | .hbm, ⟨36, _⟩ => ⟨S8192x2816, .f32⟩
  | .hbm, ⟨37, _⟩ => ⟨S8192x4x704, .f32⟩
  | .hbm, ⟨38, _⟩ => ⟨S4x8192x704, .f32⟩
  | .hbm, ⟨39, _⟩ => ⟨S8192x2816, .f32⟩
  | .hbm, ⟨40, _⟩ => ⟨S8192x4x704, .f32⟩
  | .hbm, ⟨41, _⟩ => ⟨S4x8192x704, .f32⟩
  | .hbm, ⟨42, _⟩ => ⟨S8192x1024, .f32⟩
  | .hbm, ⟨43, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.PoolMath.lean ====
module

public import Idealize.ShloMosaic.Lib.Pointwise
public import Idealize.ShloMosaic.Lib.KernelVsHost

@[expose] public section

/-! The gradient of the causal window mean over the real numbers: what one entry of the result is. -/

noncomputable section

namespace Cert.PoolMath

open Idealize.ShloMosaic

/-- The window of a feature group. -/
def win : Nat → Nat
  | 0 => 2
  | 1 => 4
  | 2 => 8
  | _ => 16

/-- How many rows the window mean at row `r` averages. -/
def cnt (k r : Nat) : EReal := ((min ((r : ℝ) + 1) (k : ℝ) : ℝ) : EReal)

/-- Row `r`'s cotangent divided by its count; zero past the last row. -/
def share (X : Nat → EReal) (k r : Nat) : EReal := if r < 8192 then Ideal.div (X r) (cnt k r) else 0

/-- One entry of the gradient: the shares of the `k` windows that hold row `r`, less the cotangent at `r`. -/
def grad (X : Nat → EReal) (k r : Nat) : EReal := ∑ i ∈ Finset.range k, share X k (r + i) - X r

theorem cnt_min (k r : Nat) (a b : EReal) (ha : a = ((r : ℝ) + 1 : ℝ)) (hb : b = ((k : ℝ) : EReal)) : min a b = cnt k r := by
  subst ha hb
  exact (EReal.coe_strictMono.monotone.map_min (a := (r : ℝ) + 1) (b := (k : ℝ))).symm

theorem cnt_pos (k r : Nat) (hk : 0 < k) : 0 < min ((r : ℝ) + 1) (k : ℝ) :=
  lt_min (by positivity) (by exact_mod_cast hk)

theorem cnt_ne (k r : Nat) (hk : 0 < k) : cnt k r ≠ 0 := by
  have := cnt_pos k r hk
  unfold cnt
  exact_mod_cast this.ne'

theorem zero_div (c : EReal) (hc : c ≠ 0) : Ideal.div 0 c = 0 := by
  unfold Ideal.div
  rw [if_neg hc, zero_mul]

/-- The real number of a share. -/
def rshare (x : Nat → ℝ) (k r : Nat) : ℝ := if r < 8192 then x r * (min ((r : ℝ) + 1) (k : ℝ))⁻¹ else 0

theorem share_coe (x : Nat → ℝ) (k r : Nat) (hk : 0 < k) : share (fun n => (x n : EReal)) k r = (rshare x k r : EReal) := by
  unfold share rshare
  split
  · unfold Ideal.div
    rw [if_neg (cnt_ne k r hk)]
    unfold cnt
    rw [← EReal.coe_inv, ← EReal.coe_mul]
  · rfl

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- A sum from row `r` to the end of a share less the share `k` rows on is the sum of the next `k` shares. -/
theorem tail_sum (x : Nat → ℝ) (k r : Nat) (hr : r < 8192) :
    (∑ i : Fin 8192, if r ≤ i.val then rshare x k i.val - rshare x k (i.val + k) else 0)
      = ∑ i ∈ Finset.range k, rshare x k (r + i) := by
  rw [Fin.sum_univ_eq_sum_range (fun n : Nat => if r ≤ n then rshare x k n - rshare x k (n + k) else 0) 8192]
  have h1 : ∑ n ∈ Finset.range 8192, (if r ≤ n then rshare x k n - rshare x k (n + k) else 0)
      = ∑ n ∈ Finset.range (8192 - r), (rshare x k (r + n) - rshare x k (r + n + k)) := by
    conv_lhs => rw [show 8192 = r + (8192 - r) by omega, Finset.sum_range_add]
    rw [Finset.sum_eq_zero (fun n hn => if_neg (by have := Finset.mem_range.mp hn; omega)), zero_add]
    exact Finset.sum_congr rfl fun n _ => if_pos (by omega)
  rw [h1, Finset.sum_sub_distrib]
  have h2 : ∀ M : Nat, ∑ n ∈ Finset.range M, rshare x k (r + n + k) + ∑ i ∈ Finset.range k, rshare x k (r + i)
      = ∑ n ∈ Finset.range M, rshare x k (r + n) + ∑ i ∈ Finset.range k, rshare x k (r + M + i) := by
    intro M
    have a := Finset.sum_range_add (fun i => rshare x k (r + i)) M k
    have b := Finset.sum_range_add (fun i => rshare x k (r + i)) k M
    rw [Nat.add_comm k M] at b
    have e1 : ∑ n ∈ Finset.range M, rshare x k (r + n + k) = ∑ n ∈ Finset.range M, rshare x k (r + (k + n)) :=
      Finset.sum_congr rfl fun n _ => by rw [show r + n + k = r + (k + n) by omega]
    have e2 : ∑ i ∈ Finset.range k, rshare x k (r + M + i) = ∑ i ∈ Finset.range k, rshare x k (r + (M + i)) :=
      Finset.sum_congr rfl fun n _ => by rw [Nat.add_assoc]
    rw [e1, e2]
    linarith
  have h3 := h2 (8192 - r)
  rw [Finset.sum_eq_zero (s := Finset.range k) (f := fun i => rshare x k (r + (8192 - r) + i))
    (fun i _ => by unfold rshare; rw [if_neg (by omega)])] at h3
  linarith

/-- The reference's reverse running sum, finite cotangents: what one entry of the derivative is. -/
theorem grad_coe (x : Nat → ℝ) (k r : Nat) (hk : 0 < k) (hr : r < 8192) :
    grad (fun n => (x n : EReal)) k r
      = -(x r : EReal) + ∑ i : Fin 8192, if r ≤ i.val then share (fun n => (x n : EReal)) k i.val + -share (fun n => (x n : EReal)) k (i.val + k) else 0 := by
  unfold grad
  simp only [share_coe x k _ hk]
  have h : ∀ i : Fin 8192, (if r ≤ i.val then (rshare x k i.val : EReal) + -(rshare x k (i.val + k) : EReal) else 0)
      = ((if r ≤ i.val then rshare x k i.val - rshare x k (i.val + k) else 0 : ℝ) : EReal) := fun i => by
    split
    · rw [EReal.coe_sub, sub_eq_add_neg]
    · rfl
  rw [Finset.sum_congr rfl fun i _ => h i, ← coe_sum, ← coe_sum, tail_sum x k r hr, ← EReal.coe_sub, ← EReal.coe_neg, ← EReal.coe_add]
  congr 1; ring

end Cert.PoolMath

end
-- ==== Proof.PoolBody.lean ====
module

public import proofs.«01_k».proof.Proof.Gen.KernelIdeal.Skeleton
public import proofs.«01_k».proof.Proof.PoolMath

@[expose] public section

set_option maxRecDepth 16384

noncomputable section

namespace Cert.KernelIdeal.Pool

open Cert.KernelIdeal Cert.KernelIdeal.Gen Idealize.ShloMosaic Idealize.ShloMosaic.TcCoe
open Cert.PoolMath (win cnt grad cnt_min cnt_ne zero_div)

/-- The window's share of each cotangent entry the trip reads: the entry divided by its count. -/
def shares (arg3 v2 : BitVec 32) (w : FVec Ideal S528x128 .f32) (x : Vec Ideal S512x128 .f32) (y : Vec Ideal S16x128 .f32) :
    FVec Ideal S528x128 .f32 :=
  divf (concatenate S528x128 0 [⟨S512x128, x⟩, ⟨S16x128, Scalar.select (Scalar.cmpi .slt arg3 15#32) y
      (broadcast S16x128 (FloatOps.ofBits .f32 0#32))⟩] concatenates_S512x128_S16x128_S528x128_d0)
    (minimumf (sitofp .f32 (addi (addi (iota .tc S528x128 32 [0] iota_S528x128_d0_w32) (broadcast S528x128 v2))
      (broadcast S528x128 1#32))) w)

/-- A vector of rows plus itself rotated by `n` rows. -/
def twice (n : BitVec 32) (u : FVec Ideal S528x128 .f32) : FVec Ideal S528x128 .f32 :=
  addf u (dynamicRotate 0 n none u rotates_S528x128_d0)

theorem pay3_eq (arg3 v2 : BitVec 32) (g : IVec S528x128 32) (w : FVec Ideal S528x128 .f32) (x : Vec Ideal S512x128 .f32)
    (y : Vec Ideal S16x128 .f32) :
    k0_pay3 (F := Ideal) arg3 v2 g w x y =
      let u := shares arg3 v2 w x y
      let gg := extractStridedSlice S512x128 ![0, 0] g slices_S528x128_o0_0_S512x128
      let cut := fun z : FVec Ideal S528x128 .f32 => extractStridedSlice S512x128 ![0, 0] z slices_S528x128_o0_0_S512x128
      truncf .bf16 (subf (select (cmpi .eq gg (broadcast S512x128 0#32)) (cut (twice 527#32 u))
        (select (cmpi .eq gg (broadcast S512x128 1#32)) (cut (twice 526#32 (twice 527#32 u)))
          (select (cmpi .eq gg (broadcast S512x128 2#32)) (cut (twice 524#32 (twice 526#32 (twice 527#32 u))))
            (cut (twice 520#32 (twice 524#32 (twice 526#32 (twice 527#32 u)))))))) x) bitsLt_bf16_f32 := rfl

/-- Doubling the number of rows summed: if row `r` of `u` is the sum of `k` rows of `f`, row `r` of `twice` is the
    sum of `2 k`. -/
theorem twice_at (n : BitVec 32) (k : Nat) (hn : n.toNat = 528 - k) (hk : 0 < k) (u : FVec Ideal S528x128 .f32) (f : Nat → EReal) (l : Fin 128) (M : Nat)
    (hu : ∀ r : Fin 528, r.val + M ≤ 528 → u (ix2 r l) = ∑ i ∈ Finset.range k, f (r.val + i))
    (r : Fin 528) (hr : r.val + (M + k) ≤ 528) (hM : 0 < M) :
    twice n u (ix2 r l) = ∑ i ∈ Finset.range (2 * k), f (r.val + i) := by
  unfold twice
  show u (ix2 r l) + dynamicRotate 0 n none u rotates_S528x128_d0 (ix2 r l) = _
  rw [dynamicRotate_apply (s := S528x128) 0 n u rotates_S528x128_d0 (ix2 r l) (ix2 ⟨r.val + k, by omega⟩ l) (fun b => by
    match b with
    | ⟨0, _⟩ =>
      show r.val + k = (r.val + 528 - n.toNat % 528) % 528
      rw [hn]; omega
    | ⟨1, _⟩ => rfl)]
  rw [hu r (by omega), hu ⟨r.val + k, by omega⟩ (by show r.val + k + M ≤ 528; omega), two_mul, Finset.sum_range_add]
  simp only [Nat.add_assoc]

theorem ofBits_2 : Ideal.ofBits .f32 0x40000000#32 = ((2 : ℝ) : EReal) := by
  simp [Ideal.ofBits, Ideal.ieee, -EReal.coe_mul]; norm_num

theorem ofBits_4 : Ideal.ofBits .f32 0x40800000#32 = ((4 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

/-- The feature group of lane `l` of grid point `i0`: the printed floor division. -/
theorem pay1_at (i0 : Fin 2) (r : Fin 528) (l : Fin 128) :
    k0_pay1 (BitVec.ofNat 32 i0.val) (ix2 r l) = BitVec.ofNat 32 ((l.val + 128 * i0.val) / 64) := by
  unfold k0_pay1
  pointwise []
  revert i0 l
  decide +kernel

/-- A choice among four by a group's number. -/
def pick {α : Type} (n : Nat) (a b c d : α) : α := if n = 0 then a else if n = 1 then b else if n = 2 then c else d

theorem select_group {α : Type} (n : Nat) (hn : n < 4) (a b c d : α) :
    Scalar.select (IntOp.cmpi .eq (BitVec.ofNat 32 n) 0#32) a (Scalar.select (IntOp.cmpi .eq (BitVec.ofNat 32 n) 1#32) b
      (Scalar.select (IntOp.cmpi .eq (BitVec.ofNat 32 n) 2#32) c d))
      = pick n a b c d := by
  interval_cases n <;> rfl

theorem pay2_at (i0 : Fin 2) (r : Fin 528) (l : Fin 128) :
    k0_pay2 (F := Ideal) (BitVec.ofNat 32 i0.val) (ix2 r l) = ((win ((l.val + 128 * i0.val) / 64) : ℝ) : EReal) := by
  unfold k0_pay2
  pointwise [pay1_at]
  have hn : (l.val + 128 * i0.val) / 64 < 4 := by omega
  generalize (l.val + 128 * i0.val) / 64 = n at hn ⊢
  rw [select_group n hn, ofBits_2, ofBits_4, ofBits_8, ofBits_16]
  interval_cases n <;> norm_num [win, pick]

theorem word_row (t : Fin 16) (r : Fin 528) :
    (IntOp.addi (IntOp.addi (BitVec.ofNat 32 r.val) (BitVec.ofNat 32 (512 * t.val))) 1#32).toInt = ((512 * t.val + r.val + 1 : Nat) : Int) := by
  have h : IntOp.addi (IntOp.addi (BitVec.ofNat 32 r.val) (BitVec.ofNat 32 (512 * t.val))) 1#32 = BitVec.ofNat 32 (512 * t.val + r.val + 1) := by
    show BitVec.ofNat 32 r.val + BitVec.ofNat 32 (512 * t.val) + BitVec.ofNat 32 1 = _
    rw [← BitVec.ofNat_add, ← BitVec.ofNat_add, Nat.add_comm r.val]
  rw [h, BitVec.toInt_eq_toNat_of_lt (by rw [BitVec.toNat_ofNat]; omega), BitVec.toNat_ofNat]
  congr 1
  omega

theorem shares_at (i0 : Fin 2) (t : Fin 16) (X : Nat → EReal) (x : Vec Ideal S512x128 .f32) (y : Vec Ideal S16x128 .f32) (l : Fin 128)
    (hx : ∀ r : Fin 512, x (ix2 r l) = X (512 * t.val + r.val))
    (hy : ∀ r : Fin 16, t.val < 15 → y (ix2 r l) = X (512 * t.val + 512 + r.val)) (r : Fin 528) :
    shares (BitVec.ofNat 32 t.val) (BitVec.ofNat 32 (512 * t.val)) (k0_pay2 (F := Ideal) (BitVec.ofNat 32 i0.val)) x y (ix2 r l)
      = PoolMath.share X (win ((l.val + 128 * i0.val) / 64)) (512 * t.val + r.val) := by
  unfold shares
  pointwise [pay2_at]
  have hc : min (FloatOps.sitofp (F := Ideal) .f32 (IntOp.addi (IntOp.addi (BitVec.ofNat 32 r.val) (BitVec.ofNat 32 (512 * t.val))) 1#32))
      ((win ((l.val + 128 * i0.val) / 64) : ℝ) : EReal) = cnt (win ((l.val + 128 * i0.val) / 64)) (512 * t.val + r.val) := by
    refine cnt_min _ _ _ _ ?_ rfl
    show ((((IntOp.addi (IntOp.addi (BitVec.ofNat 32 r.val) (BitVec.ofNat 32 (512 * t.val))) 1#32).toInt : ℝ)) : EReal) = _
    rw [word_row]
    push_cast
    rfl
  refine (congrArg (Ideal.div _) hc).trans ?_
  unfold PoolMath.share
  split
  · next h => rw [if_pos (by omega), hx]
  · next h =>
    by_cases ht : t.val < 15
    · have e : Scalar.cmpi .slt (BitVec.ofNat 32 t.val) 15#32 = 1#1 := by
        exact (by decide : ∀ t : Fin 16, t.val < 15 → Scalar.cmpi .slt (BitVec.ofNat 32 t.val) 15#32 = 1#1) t ht
      rw [e, if_pos (show 512 * t.val + r.val < 8192 by omega)]
      refine (congrArg (fun z => Ideal.div z _) (hy _ ht)).trans ?_
      show Ideal.div (X (512 * t.val + 512 + (r.val - 512))) _ = _
      rw [show 512 * t.val + 512 + (r.val - 512) = 512 * t.val + r.val by omega]
    · have e : Scalar.cmpi .slt (BitVec.ofNat 32 t.val) 15#32 = 0#1 := by
        exact (by decide : ∀ t : Fin 16, ¬ t.val < 15 → Scalar.cmpi .slt (BitVec.ofNat 32 t.val) 15#32 = 0#1) t ht
      rw [e, if_neg (show ¬ 512 * t.val + r.val < 8192 by omega)]
      exact zero_div _ (cnt_ne _ _ (by unfold win; split <;> norm_num))

/-- What a trip of the kernel stores, entry by entry: the gradient of the window mean. -/
theorem pay3_at (i0 : Fin 2) (t : Fin 16) (X : Nat → EReal) (x : Vec Ideal S512x128 .f32) (y : Vec Ideal S16x128 .f32) (l : Fin 128)
    (hx : ∀ r : Fin 512, x (ix2 r l) = X (512 * t.val + r.val))
    (hy : ∀ r : Fin 16, t.val < 15 → y (ix2 r l) = X (512 * t.val + 512 + r.val)) (r : Fin 512) :
    k0_pay3 (F := Ideal) (BitVec.ofNat 32 t.val) (BitVec.ofNat 32 (512 * t.val)) (k0_pay1 (BitVec.ofNat 32 i0.val))
        (k0_pay2 (F := Ideal) (BitVec.ofNat 32 i0.val)) x y (ix2 r l)
      = grad X (win ((l.val + 128 * i0.val) / 64)) (512 * t.val + r.val) := by
  rw [pay3_eq]
  dsimp only
  have h0 := shares_at i0 t X x y l hx hy
  generalize shares (BitVec.ofNat 32 t.val) (BitVec.ofNat 32 (512 * t.val)) (k0_pay2 (F := Ideal) (BitVec.ofNat 32 i0.val)) x y = u at h0 ⊢
  have hn : (l.val + 128 * i0.val) / 64 < 4 := by omega
  pointwise [pay1_at, hx]
  generalize (l.val + 128 * i0.val) / 64 = n at hn h0 ⊢
  rw [select_group n hn]
  obtain ⟨f, hf⟩ : ∃ f : Nat → EReal, ∀ j, f j = PoolMath.share X (win n) (512 * t.val + j) := ⟨_, fun _ => rfl⟩
  have h1 : ∀ q : Fin 528, q.val + 1 ≤ 528 → u (ix2 q l) = ∑ i ∈ Finset.range 1, f (q.val + i) := fun q _ => by
    rw [Finset.sum_range_one, hf]; exact h0 q
  have h2 := fun q h => twice_at 527#32 1 rfl (by norm_num) u f l 1 h1 q h (by norm_num)
  have h4 := fun q h => twice_at 526#32 2 rfl (by norm_num) _ f l 2 h2 q h (by norm_num)
  have h8 := fun q h => twice_at 524#32 4 rfl (by norm_num) _ f l 4 h4 q h (by norm_num)
  have h16 := fun q h => twice_at 520#32 8 rfl (by norm_num) _ f l 8 h8 q h (by norm_num)
  unfold grad
  refine congrArg (· - X (512 * t.val + r.val)) ?_
  have hs : ∑ i ∈ Finset.range (win n), PoolMath.share X (win n) (512 * t.val + r.val + i) = ∑ i ∈ Finset.range (win n), f (r.val + i) :=
    Finset.sum_congr rfl fun i _ => by rw [hf, Nat.add_assoc]
  rw [hs, h2 ⟨r.val, by omega⟩ (by show r.val + 2 ≤ 528; omega), h4 ⟨r.val, by omega⟩ (by show r.val + 4 ≤ 528; omega),
    h8 ⟨r.val, by omega⟩ (by show r.val + 8 ≤ 528; omega), h16 ⟨r.val, by omega⟩ (by show r.val + 16 ≤ 528; omega)]
  clear hs h0 h1 h2 h4 h8 h16 hf
  unfold pick win
  interval_cases n <;> rfl

end Cert.KernelIdeal.Pool

end
-- ==== Proof.PoolArray.lean ====
module

public import proofs.«01_k».proof.Proof.PoolBody
public import proofs.«01_k».proof.Proof.Gen.KernelIdeal.Value
public import Idealize.ShloMosaic.Lib.Pipeline.ValueKit

@[expose] public section

set_option maxRecDepth 16384

noncomputable section

namespace Cert.KernelIdeal.Pool

open Cert.KernelIdeal Cert.KernelIdeal.Gen Idealize.ShloMosaic Idealize.ShloMosaic.TcCoe Idealize.SL.Sem
open Cert.PoolMath (win grad)

/-- The rows of trip `t`. -/
theorem off1_eq : ∀ t : Fin k0_t1_loop.trips, k0_off1 t 0 = 512 * t.val ∧ k0_off1 t 1 = 0 :=
  (by decide +kernel : ∀ t : Fin 16, k0_off1 t 0 = 512 * t.val ∧ k0_off1 t 1 = 0)

/-- The rows after trip `t`'s, where there are some. -/
theorem off2_eq : ∀ t : Fin k0_t1_loop.trips, (t.val < 15 → k0_off2 t 0 = 512 * t.val + 512) ∧ k0_off2 t 1 = 0 :=
  (by decide +kernel : ∀ t : Fin 16, (t.val < 15 → k0_off2 t 0 = 512 * t.val + 512) ∧ k0_off2 t 1 = 0)

variable (c : Dev nD) (i : grid0.Coords) (arg1 : Memref sig .tc .vmem S8192x128 .f32) (harg1 : arg1.IsWhole)
  (arg2 : Memref sig .tc .vmem S8192x128 .bf16) (harg2 : arg2.IsWhole)

/-- The one piece a trip stores. -/
theorem trip_eq (arg0 : BitVec 32) (X : BufTy.Contents (Elt Ideal) arg1.view.ty) (k : Fin k0_t1_loop.trips) :
    tripL_k0_t1 (F := Ideal) Variants.none c none i arg1 harg1 arg2 harg2 arg0 X k
      = [⟨Rect.unit (s := S8192x128) (k0_off1 k) S512x128.size (k0_off1_inb k),
          k0_pay3 (F := Ideal) (Scf.iv 0#32 1#32 k) (Scalar.muli (Scf.iv 0#32 1#32 k) 512#32) (k0_pay1 arg0) (k0_pay2 (F := Ideal) arg0)
            (View.ld (arg1.view.read (Elt Ideal) X) (Rect.unit (s := S8192x128) (k0_off1 k) S512x128.size (k0_off1_inb k)))
            (View.ld (arg1.view.read (Elt Ideal) X) (Rect.unit (s := S8192x128) (k0_off2 k) S16x128.size (k0_off2_inb k)))⟩] := by
  unfold tripL_k0_t1 trip_k0_t1
  rfl

/-- Every piece of the loop is some trip's. -/
theorem mem_pb (arg0 : BitVec 32) (X : BufTy.Contents (Elt Ideal) arg1.view.ty) (pc : View.Piece (Elt Ideal) S8192x128 .bf16) :
    ∀ k : Nat, pc ∈ pb_k0_t1 (F := Ideal) Variants.none c none i arg1 harg1 arg2 harg2 arg0 X k →
      ∃ t : Fin k0_t1_loop.trips, pc ∈ tripL_k0_t1 (F := Ideal) Variants.none c none i arg1 harg1 arg2 harg2 arg0 X t
  | 0, h => by simp [pb_k0_t1] at h
  | k + 1, h => by
    by_cases hk : k < k0_t1_loop.trips
    · rw [pb_k0_t1_succ Variants.none c none i arg1 harg1 arg2 harg2 arg0 X ⟨k, hk⟩, List.mem_append] at h
      exact h.elim (fun h => ⟨⟨k, hk⟩, h⟩) (mem_pb arg0 X pc k)
    · rw [pb_k0_t1.eq_2] at h
      unfold pb_k0_t1Step at h
      rw [dif_neg hk] at h
      exact mem_pb arg0 X pc k h

theorem run_eq (x0 : Vec Ideal S8192x128 .f32) :
    (kernelRun0_A (F := Ideal) c i arg1 harg1 arg2 harg2 x0).1
      = pb_k0_t1 (F := Ideal) Variants.none c none i arg1 harg1 arg2 harg2 (BitVec.ofNat 32 (i 0).val) (harg1.unread (Val := Elt Ideal) x0) k0_t1_loop.trips := by
  unfold kernelRun0_A
  rfl

/-- Column `l` of a block as a function of the row, zero past the last row. -/
def col (x : Vec Ideal S8192x128 .f32) (l : Fin 128) (n : Nat) : EReal :=
  if h : n < 8192 then x (ix2 ⟨n, h⟩ l) else 0

theorem iv_word : ∀ t : Fin 16, Scf.iv 0#32 1#32 t.val = BitVec.ofNat 32 t.val
    ∧ Scalar.muli (Scf.iv 0#32 1#32 t.val) 512#32 = BitVec.ofNat 32 (512 * t.val) := by
  decide +kernel

/-- What the body leaves in its output block: at row `r` and lane `l` the gradient of the window of the lane's group. -/
theorem block_at (x0 : Vec Ideal S8192x128 .f32) (i0 : Fin 2) (hi : (i 0).val = i0.val) (r : Fin 8192) (l : Fin 128) :
    out0_A_1 (F := Ideal) c i arg1 harg1 arg2 harg2 x0 (ix2 r l)
      = grad (col x0 l) (win ((l.val + 128 * i0.val) / 64)) r.val := by
  unfold out0_A_1
  refine View.read_writes_apply_of_pieces VO0_1 _
    (fun y => grad (col x0 (y 1)) (win (((y 1).val + 128 * i0.val) / 64)) (y 0).val) _ ?_ (ix2 r l)
    (cover0_A_1 (F := Ideal) c i arg1 harg1 arg2 harg2 x0 (ix2 r l))
  intro pc hpc y
  rw [run_eq] at hpc
  obtain ⟨t, ht⟩ := mem_pb c i arg1 harg1 arg2 harg2 _ _ pc _ hpc
  rw [trip_eq, List.mem_singleton] at ht
  subst ht
  have ht16 : t.val < 16 := t.isLt
  obtain ⟨o1, o1'⟩ := off1_eq t
  obtain ⟨o2, o2'⟩ := off2_eq t
  idx_vars y
  have hw := iv_word ⟨t.val, ht16⟩
  rw [hi, harg1.read_unread]
  show k0_pay3 (F := Ideal) (Scf.iv 0#32 1#32 t.val) (Scalar.muli (Scf.iv 0#32 1#32 t.val) 512#32) _ _ _ _ (ix2 y0 y1) = _
  rw [hw.2, hw.1]
  have e0 : ((Rect.unit (s := S8192x128) (k0_off1 t) S512x128.size (k0_off1_inb t)).emb (ix2 y0 y1)) = ix2 ⟨512 * t.val + y0.val, by have := y0.isLt; omega⟩ y1 := by
    funext a
    apply Fin.ext
    match a with
    | ⟨0, _⟩ => show k0_off1 t 0 + 1 * y0.val = 512 * t.val + y0.val; omega
    | ⟨1, _⟩ => show k0_off1 t 1 + 1 * y1.val = y1.val; omega
  show _ = (fun y : S8192x128.Idx => grad (col x0 (y 1)) (win (((y 1).val + 128 * i0.val) / 64)) (y 0).val)
    ((Rect.unit (s := S8192x128) (k0_off1 t) S512x128.size (k0_off1_inb t)).emb (ix2 y0 y1))
  rw [e0]
  refine pay3_at i0 ⟨t.val, ht16⟩ (col x0 y1) _ _ y1 (fun r => ?_) (fun r hr => ?_) y0
  · rw [col, dif_pos (show 512 * t.val + r.val < 8192 by have := r.isLt; omega)]
    show x0 _ = x0 _
    congr 1
    funext a
    apply Fin.ext
    match a with
    | ⟨0, _⟩ => show k0_off1 t 0 + 1 * r.val = 512 * t.val + r.val; omega
    | ⟨1, _⟩ => show k0_off1 t 1 + 1 * y1.val = y1.val; omega
  · have o2 := o2 hr
    rw [col, dif_pos (show 512 * t.val + 512 + r.val < 8192 by have := r.isLt; have : t.val < 15 := hr; omega)]
    show x0 _ = x0 _
    congr 1
    funext a
    apply Fin.ext
    match a with
    | ⟨0, _⟩ => show k0_off2 t 0 + 1 * r.val = 512 * t.val + 512 + r.val; omega
    | ⟨1, _⟩ => show k0_off2 t 1 + 1 * y1.val = y1.val; omega

/-- The whole result: at row `r` and column `l` the gradient of column `l` for the window of its group. -/
def G (d : Vec Ideal S8192x256 .f32) : Vec Ideal S8192x256 .bf16 := fun j =>
  grad (fun n => if h : n < 8192 then d (ix2 ⟨n, h⟩ (j 1)) else 0) (win ((j 1).val / 64)) (j 0).val

theorem index0 : ∀ t : Fin cfg0.N, win0_0.index t = ![0, t.val] :=
  (by decide +kernel : ∀ t : Fin grid0.N, win0_0.index t = ![0, t.val])

theorem index1 : ∀ t : Fin cfg0.N, win0_1.index t = ![0, t.val] :=
  (by decide +kernel : ∀ t : Fin grid0.N, win0_1.index t = ![0, t.val])

theorem coord : ∀ t : Fin cfg0.N, (grid0.coords t 0).val = t.val :=
  (by decide +kernel : ∀ t : Fin grid0.N, (grid0.coords t 0).val = t.val)

variable (m : (ℓ : Loc nD τ sig) → Buf (Elt Ideal) ℓ)

theorem final_eq : (dats m 0 c).arrAt 1 cfg0.N = G (m ((c : Thread nD τ).loc main_arg1)) := by
  refine (dats m 0 c).arrAt_eq_of_covers 1 _ (by decide +kernel) fun t hf y => ?_
  have ht : t.val < 2 := t.isLt
  have e0 := index0 t
  have e1 := index1 t
  blk_simp
  rw [after0_1, outsAt0]
  idx_vars y
  rw [block_at c _ _ _ _ _ _ ⟨t.val, ht⟩ (coord t)]
  have ey : (win0_1.blk t).view.emb (ix2 y0 y1) = ix2 y0 ⟨y1.val + 128 * t.val, by have := y1.isLt; omega⟩ := by
    blk_ext [e1]
  rw [ey]
  show grad _ _ _ = grad _ _ _
  congr 1
  funext n
  unfold col
  by_cases h : n < 8192
  · rw [dif_pos h, dif_pos h]
    blk_simp [iblk, V]
    congr 1
    blk_ext [e0]
  · rw [dif_neg h, dif_neg h]

end Cert.KernelIdeal.Pool

end
-- ==== Proof.PoolHost.lean ====
module

public import proofs.«01_k».proof.Proof.PoolMath
public import proofs.«01_k».proof.Proof.Gen.ReferenceIdeal.Read
public import Idealize.ShloMosaic.Lib.Pointwise

@[expose] public section

set_option maxRecDepth 16384

noncomputable section

namespace Cert.ReferenceIdeal.Pool

open Cert.ReferenceIdeal Cert.ReferenceIdeal.Read Idealize.ShloMosaic Idealize.ShloMosaic.TcCoe Idealize.SL.Sem
open Cert.PoolMath

/-- A fold of additions over the positions of a list is the sum over them. -/
theorem fold_sum {n : Nat} (f : Fin n → EReal) : (List.finRange n).foldl (fun r k => r + f k) 0 = ∑ k, f k := by
  rw [Fin.sum_univ_def, List.sum_eq_foldl, List.foldl_map]

/-- A sum over a window that is one long axis between two unit axes. -/
theorem sum_window (n : Nat) (f : (⟨3, ![1, n, 1]⟩ : Shape).Idx → EReal) : ∑ w, f w = ∑ k : Fin n, f (ix3 0 k 0) := by
  refine Finset.sum_bij' (fun w _ => w 1) (fun k _ => ix3 0 k 0) (fun _ _ => Finset.mem_univ _) (fun _ _ => Finset.mem_univ _)
    (fun w _ => ?_) (fun _ _ => rfl) (fun w _ => ?_)
  all_goals
    have e : w = ix3 0 (w 1) 0 := (eq_ix3 w).trans (by congr 1 <;> exact Subsingleton.elim (α := Fin 1) _ _)
  · exact e.symm
  · exact congrArg f e

/-- Moving a sum's index by `r`. -/
theorem sum_shift (n r : Nat) (g : Nat → EReal) :
    ∑ k : Fin n, (if r + k.val < n then g (r + k.val) else 0) = ∑ i : Fin n, if r ≤ i.val then g i.val else 0 := by
  rw [Fin.sum_univ_eq_sum_range (fun k => if r + k < n then g (r + k) else 0) n,
    Fin.sum_univ_eq_sum_range (fun i => if r ≤ i then g i else 0) n, ← Finset.sum_filter, ← Finset.sum_filter]
  refine Finset.sum_bij' (fun k _ => r + k) (fun i _ => i - r) ?_ ?_ ?_ ?_ ?_
  all_goals
    intro k hk
    simp only [Finset.mem_filter, Finset.mem_range] at hk ⊢
    first | omega | skip

/-- A running sum from the last row down: row `r` holds the sum of the rows from `r` on. -/
theorem tail_at (y : Vec Ideal S1x8192x64 .f32) (v : Vec Ideal S_ .f32) (hv : ∀ i, v i = 0) (h hu) (r : Fin 8192) (l : Fin 64) :
    Host.reduceWindowAdd (F := Ideal) (φ := .f32) (t := S1x8192x64) ![1, 8192, 1] ![1, 1, 1] ![0, 0, 0] ![0, 8191, 0] y v h hu (ix3 (0 : Fin 1) r l)
      = ∑ i : Fin 8192, if r.val ≤ i.val then y (ix3 (0 : Fin 1) i l) else 0 := by
  have e : (∑ i : Fin 8192, if r.val ≤ i.val then y (ix3 (0 : Fin 1) i l) else 0)
      = ∑ i : Fin 8192, if r.val ≤ i.val then (fun n => if h : n < 8192 then y (ix3 (0 : Fin 1) ⟨n, h⟩ l) else 0) i.val else 0 :=
    Finset.sum_congr rfl fun i _ => by simp only [dif_pos i.isLt, Fin.eta]
  refine Eq.trans ?_ ((sum_shift 8192 r.val (fun n => if h : n < 8192 then y (ix3 (0 : Fin 1) ⟨n, h⟩ l) else 0)).trans e.symm)
  unfold Host.reduceWindowAdd
  rw [Ideal.hostReduceWindowAdd_def, hv]
  unfold Ideal.hostReduceWindowAdd Host.reduceWindow
  refine (fold_sum _).trans ?_
  have hl := l.isLt
  refine Eq.trans (Finset.sum_congr rfl fun n _ => ?_) ((Equiv.sum_comp (Shape.rowMajor ⟨3, ![1, 8192, 1]⟩).symm
    (fun w => if r.val + (w 1).val < 8192 then (fun n => if h : n < 8192 then y (ix3 (0 : Fin 1) ⟨n, h⟩ l) else 0) (r.val + (w 1).val) else 0)).trans (sum_window _ _))
  let w : (⟨3, ![1, 8192, 1]⟩ : Shape).Idx := (Shape.rowMajor ⟨3, ![1, 8192, 1]⟩).symm n
  show _ = if r.val + (w 1).val < 8192 then (fun n => if h : n < 8192 then y (ix3 (0 : Fin 1) ⟨n, h⟩ l) else 0) (r.val + (w 1).val) else 0
  have h0 : (w 0).val < 1 := (w 0).isLt
  have h2 : (w 2).val < 1 := (w 2).isLt
  by_cases hk : r.val + (w 1).val < 8192
  · rw [if_pos hk]
    refine (dif_pos fun a => ?_).trans ?_
    · match a with
      | ⟨0, _⟩ => exact ⟨Nat.zero_le _, by show 0 * 1 + (w 0).val - 0 < 1; omega⟩
      | ⟨1, _⟩ => exact ⟨Nat.zero_le _, by show r.val * 1 + (w 1).val - 0 < 8192; omega⟩
      | ⟨2, _⟩ => exact ⟨Nat.zero_le _, by show l.val * 1 + (w 2).val - 0 < 64; omega⟩
    · simp only [dif_pos hk]
      refine congrArg y (funext fun a => Fin.ext ?_)
      match a with
      | ⟨0, _⟩ => show 0 * 1 + (w 0).val - 0 = 0; omega
      | ⟨1, _⟩ => show r.val * 1 + (w 1).val - 0 = r.val + (w 1).val; omega
      | ⟨2, _⟩ => show l.val * 1 + (w 2).val - 0 = l.val; omega
  · rw [if_neg hk]
    refine dif_neg fun hin => hk ?_
    have e : r.val * 1 + (w 1).val - 0 < 8192 := (hin 1).2
    omega

/-- Rows moved up, zeros after them. -/
theorem pad_rows (n k : Nat) (x : Vec Ideal ⟨3, ![1, n, 64]⟩ .f32) (v : Vec Ideal S_ .f32) (hv : ∀ i, v i = 0) (h hu) (i : Fin 8192) (l : Fin 64) :
    pad S1x8192x64 ![0, 0, 0] ![0, k, 0] ![0, 0, 0] x v h hu (ix3 (0 : Fin 1) i l)
      = if hi : i.val < n then x (ix3 (0 : Fin 1) ⟨i.val, hi⟩ l) else 0 := by
  split
  · next hi =>
    refine pad_apply_of_inside _ _ _ _ _ _ _ _ _ fun a => ?_
    match a with
    | ⟨0, _⟩ => rfl
    | ⟨1, _⟩ => show i.val = 0 + i.val * (0 + 1); omega
    | ⟨2, _⟩ => show l.val = 0 + l.val * (0 + 1); omega
  · next hi =>
    rw [pad_apply_of_not_inside _ _ _ _ _ _ _ _ 1 (fun hin => hi ?_), hv]
    have := hin.2.2
    change (i.val - 0) / (0 + 1) < n at this
    simpa using this

/-- One group put in its place among the four, zeros in the others. -/
theorem pad_group (g p : Nat) (x : Vec Ideal S1x8192x1x64 .f32) (v : Vec Ideal S_ .f32) (hv : ∀ i, v i = 0) (h hu) (r : Fin 8192) (q : Fin 4) (l : Fin 64) :
    pad S1x8192x4x64 ![0, 0, g, 0] ![0, 0, p, 0] ![0, 0, 0, 0] x v h hu (ix4 (0 : Fin 1) r q l)
      = if q.val = g then x (ix4 (0 : Fin 1) r (0 : Fin 1) l) else 0 := by
  split
  · next hi =>
    refine pad_apply_of_inside _ _ _ _ _ _ _ _ _ fun a => ?_
    match a with
    | ⟨0, _⟩ => rfl
    | ⟨1, _⟩ => show r.val = 0 + r.val * (0 + 1); omega
    | ⟨2, _⟩ => show q.val = g + 0 * (0 + 1); omega
    | ⟨3, _⟩ => show l.val = 0 + l.val * (0 + 1); omega
  · next hi =>
    rw [pad_apply_of_not_inside _ _ _ _ _ _ _ _ 2 (fun hin => hi ?_), hv]
    have := hin
    change g ≤ q.val ∧ (q.val - g) % (0 + 1) = 0 ∧ (q.val - g) / (0 + 1) < 1 at this
    omega

end Cert.ReferenceIdeal.Pool

end
-- ==== Proof.PoolRef.lean ====
module

public import proofs.«01_k».proof.Proof.PoolHost
public import Idealize.ShloMosaic.Lib.Pipeline.ValueKit

@[expose] public section

set_option maxRecDepth 16384

noncomputable section

namespace Cert.ReferenceIdeal.Pool

open Cert.ReferenceIdeal Cert.ReferenceIdeal.Read Idealize.ShloMosaic Idealize.ShloMosaic.TcCoe Idealize.SL.Sem
open Cert.PoolMath

/-- The gradient of one group: less the cotangent, plus the running sum from the last row down of each row's share less
    the share `k` rows on. -/
theorem group_at (k n : Nat) (hk : 0 < k) (hn : n + k = 8192) (x : Nat → ℝ) (l : Fin 64)
    (v c : Vec Ideal S1x8192x64 .f32) (hv : ∀ i : Fin 8192, v (ix3 (0 : Fin 1) i l) = (x i.val : EReal)) (hc : ∀ i : Fin 8192, c (ix3 (0 : Fin 1) i l) = cnt k i.val)
    (w : Vec Ideal ⟨3, ![1, n, 64]⟩ .f32)
    (hw : ∀ (i : Fin n) (h : k + i.val < 8192), w (ix3 (0 : Fin 1) i l) = FloatOps.hostNegf (F := Ideal) (φ := .f32) (FloatOps.hostDivf (v (ix3 (0 : Fin 1) ⟨k + i.val, h⟩ l)) (c (ix3 (0 : Fin 1) ⟨k + i.val, h⟩ l))))
    (z z' : Vec Ideal S_ .f32) (hz : ∀ i, z i = 0) (hz' : ∀ i, z' i = 0) (h hu h' hu') (r : Fin 8192) :
    addf (F := Ideal) (φ := .f32) (Host.negf v) (Host.reduceWindowAdd (F := Ideal) (φ := .f32) (t := S1x8192x64) ![1, 8192, 1] ![1, 1, 1] ![0, 0, 0] ![0, 8191, 0]
      (addf (F := Ideal) (φ := .f32) (Host.divf v c) (pad S1x8192x64 ![0, 0, 0] ![0, k, 0] ![0, 0, 0] w z h hu)) z' h' hu') (ix3 (0 : Fin 1) r l)
      = grad (fun n => (x n : EReal)) k r.val := by
  rw [grad_coe x k r.val hk r.isLt]
  have hs : ∀ i : Fin 8192, (FloatOps.hostDivf (F := Ideal) (φ := .f32) (v (ix3 (0 : Fin 1) i l)) (c (ix3 (0 : Fin 1) i l)) : EReal) = share (fun n => (x n : EReal)) k i.val := by
    intro i
    rw [hv, hc, share, if_pos i.isLt]
    rfl
  have e : ∀ i : Fin 8192, (addf (F := Ideal) (φ := .f32) (Host.divf v c) (pad S1x8192x64 ![0, 0, 0] ![0, k, 0] ![0, 0, 0] w z h hu) (ix3 (0 : Fin 1) i l) : EReal)
      = share (fun n => (x n : EReal)) k i.val + -share (fun n => (x n : EReal)) k (i.val + k) := by
    intro i
    show (FloatOps.hostDivf (F := Ideal) (φ := .f32) (v (ix3 (0 : Fin 1) i l)) (c (ix3 (0 : Fin 1) i l)) : EReal) + pad S1x8192x64 ![0, 0, 0] ![0, k, 0] ![0, 0, 0] w z h hu (ix3 (0 : Fin 1) i l) = _
    rw [hs, pad_rows n k w z hz]
    congr 1
    split
    · next hi =>
      rw [hw ⟨i.val, hi⟩ (by show k + i.val < 8192; omega)]
      show -(FloatOps.hostDivf (F := Ideal) (φ := .f32) _ _ : EReal) = _
      rw [hs]
      show -share _ _ (k + i.val) = _
      rw [Nat.add_comm]
    · next hi =>
      rw [share, if_neg (by omega), neg_zero]
  have T := tail_at (addf (F := Ideal) (φ := .f32) (Host.divf v c) (pad S1x8192x64 ![0, 0, 0] ![0, k, 0] ![0, 0, 0] w z h hu)) z' hz' h' hu' r l
  generalize Host.reduceWindowAdd (F := Ideal) (φ := .f32) (t := S1x8192x64) ![1, 8192, 1] ![1, 1, 1] ![0, 0, 0] ![0, 8191, 0]
    (addf (F := Ideal) (φ := .f32) (Host.divf v c) (pad S1x8192x64 ![0, 0, 0] ![0, k, 0] ![0, 0, 0] w z h hu)) z' h' hu' = Y at T ⊢
  show (-(v (ix3 (0 : Fin 1) r l)) : EReal) + Y (ix3 (0 : Fin 1) r l) = _
  rw [T, hv]
  refine congrArg _ (Finset.sum_congr rfl fun i _ => ?_)
  split
  · exact e i
  · rfl

/-- The number one, printed as a word. -/
theorem one_word : Ideal.ofBits .f32 0x3F800000#32 = ((1 : ℝ) : EReal) := by
  simp [Ideal.ofBits, Ideal.ieee, -EReal.coe_mul]; norm_num

theorem two_word : Ideal.ofBits .f32 0x40000000#32 = (((2 : Nat) : ℝ) : EReal) := by
  simp [Ideal.ofBits, Ideal.ieee, -EReal.coe_mul]; norm_num

theorem four_word : Ideal.ofBits .f32 0x40800000#32 = (((4 : Nat) : ℝ) : EReal) := by
  simp [Ideal.ofBits, Ideal.ieee, -EReal.coe_mul]; norm_num

theorem eight_word : Ideal.ofBits .f32 0x41000000#32 = (((8 : Nat) : ℝ) : EReal) := by
  simp [Ideal.ofBits, Ideal.ieee, -EReal.coe_mul]; norm_num

theorem sixteen_word : Ideal.ofBits .f32 0x41800000#32 = (((16 : Nat) : ℝ) : EReal) := by
  simp [Ideal.ofBits, Ideal.ieee, -EReal.coe_mul]; norm_num

theorem zero_word : Ideal.ofBits .f32 0x00000000#32 = (0 : EReal) := by
  simp [Ideal.ofBits, Ideal.ieee]

/-- Row `r`'s number counted from one. -/
theorem row_at (r : Fin 8192) : (val_main_v4 (F := Ideal) (ix1 r) : EReal) = (((r.val : ℝ) + 1 : ℝ) : EReal) := by
  rw [val_main_v4_apply, val_main_v3_apply]
  show Ideal.ofBits .f32 0x3F800000#32 + (((BitVec.ofNat 32 r.val).toInt : ℝ) : EReal) = _
  rw [one_word, BitVec.toInt_eq_toNat_of_lt (by rw [BitVec.toNat_ofNat]; have := r.isLt; omega), BitVec.toNat_ofNat,
    Nat.mod_eq_of_lt (by have := r.isLt; omega), ← EReal.coe_add, add_comm]
  norm_cast

variable (x1 : (⟨S8192x256, .f32⟩ : BufTy).Contents (Elt Ideal)) (r : Fin 8192) (l : Fin 64)

theorem cnt16 : (val_main_v75 (F := Ideal) (ix3 (0 : Fin 1) r l) : EReal) = cnt 16 r.val := by
  rw [val_main_v75_apply, val_main_v56_apply, val_main_v55_apply, val_main_v54_apply]
  exact cnt_min 16 r.val _ _ ((congrArg _ (eq_ix1 _)).trans (row_at r)) sixteen_word

theorem cnt8 : (val_main_v87 (F := Ideal) (ix3 (0 : Fin 1) r l) : EReal) = cnt 8 r.val := by
  rw [val_main_v87_apply, val_main_v42_apply, val_main_v41_apply, val_main_v40_apply]
  exact cnt_min 8 r.val _ _ ((congrArg _ (eq_ix1 _)).trans (row_at r)) eight_word

theorem cnt4 : (val_main_v100 (F := Ideal) (ix3 (0 : Fin 1) r l) : EReal) = cnt 4 r.val := by
  rw [val_main_v100_apply, val_main_v28_apply, val_main_v27_apply, val_main_v26_apply]
  exact cnt_min 4 r.val _ _ ((congrArg _ (eq_ix1 _)).trans (row_at r)) four_word

theorem cnt2 : (val_main_v113 (F := Ideal) (ix3 (0 : Fin 1) r l) : EReal) = cnt 2 r.val := by
  rw [val_main_v113_apply, val_main_v14_apply, val_main_v13_apply, val_main_v12_apply]
  exact cnt_min 2 r.val _ _ ((congrArg _ (eq_ix1 _)).trans (row_at r)) two_word

/-- The column of the cotangent that group `g`'s lane `l` is. -/
theorem col_idx (g : Nat) (hg : g < 4) (i : S8192x256.Idx) (h0 : (i 0).val = r.val) (h1 : (i 1).val = 64 * g + l.val) :
    x1 i = x1 (ix2 r ⟨64 * g + l.val, by omega⟩) := by
  refine congrArg x1 (funext fun a => Fin.ext ?_)
  match a with
  | ⟨0, _⟩ => exact h0
  | ⟨1, _⟩ => exact h1

theorem col3 : val_main_v73 (F := Ideal) x1 (ix3 (0 : Fin 1) r l) = x1 (ix2 r ⟨64 * 3 + l.val, by omega⟩) := by
  rw [val_main_v73_apply, val_main_v72_apply, val_main_v0_apply]
  have := l.isLt
  have := r.isLt
  refine col_idx x1 r l 3 (by omega) _ ?_ ?_
  · simp only [ix3]; dsimp; omega
  · simp only [ix3]; dsimp; omega

theorem col2 : val_main_v71 (F := Ideal) x1 (ix3 (0 : Fin 1) r l) = x1 (ix2 r ⟨64 * 2 + l.val, by omega⟩) := by
  rw [val_main_v71_apply, val_main_v70_apply, val_main_v0_apply]
  have := l.isLt
  have := r.isLt
  refine col_idx x1 r l 2 (by omega) _ ?_ ?_
  · simp only [ix3]; dsimp; omega
  · simp only [ix3]; dsimp; omega

theorem col1 : val_main_v69 (F := Ideal) x1 (ix3 (0 : Fin 1) r l) = x1 (ix2 r ⟨64 * 1 + l.val, by omega⟩) := by
  rw [val_main_v69_apply, val_main_v68_apply, val_main_v0_apply]
  have := l.isLt
  have := r.isLt
  refine col_idx x1 r l 1 (by omega) _ ?_ ?_
  · simp only [ix3]; dsimp; omega
  · simp only [ix3]; dsimp; omega

theorem col0 : val_main_v67 (F := Ideal) x1 (ix3 (0 : Fin 1) r l) = x1 (ix2 r ⟨64 * 0 + l.val, by omega⟩) := by
  rw [val_main_v67_apply, val_main_v66_apply, val_main_v0_apply]
  have := l.isLt
  have := r.isLt
  refine col_idx x1 r l 0 (by omega) _ ?_ ?_
  · simp only [ix3]; dsimp; omega
  · simp only [ix3]; dsimp; omega

variable (x : Fin 4 → Nat → ℝ) (hx : ∀ (g : Fin 4) (n : Fin 8192), (x1 (ix2 n ⟨64 * g.val + l.val, by omega⟩) : EReal) = ((x g n.val : ℝ) : EReal))
include hx

theorem group3 : (val_main_v83 (F := Ideal) x1 (ix3 (0 : Fin 1) r l) : EReal) = grad (fun n => (x 3 n : EReal)) 16 r.val := by
  unfold val_main_v83 val_main_v74 val_main_v82 val_main_v81 val_main_v80 val_main_v76
  refine group_at 16 8176 (by omega) (by omega) (x 3) l _ _ (fun i => (col3 x1 i l).trans (hx 3 i)) (fun i => cnt16 i l) _ (fun i h => ?_) _ _
    (fun _ => zero_word) (fun _ => zero_word) _ _ _ _ r
  rw [val_main_v79_apply, val_main_v77_apply, val_main_v76_apply]
  have e : idx_main_v79 (ix3 (0 : Fin 1) i l) = ix3 (0 : Fin 1) ⟨16 + i.val, h⟩ l := by
    funext a
    match a with
    | ⟨0, _⟩ => rfl
    | ⟨1, _⟩ => rfl
    | ⟨2, _⟩ => rfl
  rw [e]

theorem group2 : (val_main_v95 (F := Ideal) x1 (ix3 (0 : Fin 1) r l) : EReal) = grad (fun n => (x 2 n : EReal)) 8 r.val := by
  unfold val_main_v95 val_main_v86 val_main_v94 val_main_v93 val_main_v92 val_main_v88
  refine group_at 8 8184 (by omega) (by omega) (x 2) l _ _ (fun i => (col2 x1 i l).trans (hx 2 i)) (fun i => cnt8 i l) _ (fun i h => ?_) _ _
    (fun _ => zero_word) (fun _ => zero_word) _ _ _ _ r
  rw [val_main_v91_apply, val_main_v89_apply, val_main_v88_apply]
  have e : idx_main_v91 (ix3 (0 : Fin 1) i l) = ix3 (0 : Fin 1) ⟨8 + i.val, h⟩ l := by
    funext a
    match a with
    | ⟨0, _⟩ => rfl
    | ⟨1, _⟩ => rfl
    | ⟨2, _⟩ => rfl
  rw [e]

theorem group1 : (val_main_v108 (F := Ideal) x1 (ix3 (0 : Fin 1) r l) : EReal) = grad (fun n => (x 1 n : EReal)) 4 r.val := by
  unfold val_main_v108 val_main_v99 val_main_v107 val_main_v106 val_main_v105 val_main_v101
  refine group_at 4 8188 (by omega) (by omega) (x 1) l _ _ (fun i => (col1 x1 i l).trans (hx 1 i)) (fun i => cnt4 i l) _ (fun i h => ?_) _ _
    (fun _ => zero_word) (fun _ => zero_word) _ _ _ _ r
  rw [val_main_v104_apply, val_main_v102_apply, val_main_v101_apply]
  have e : idx_main_v104 (ix3 (0 : Fin 1) i l) = ix3 (0 : Fin 1) ⟨4 + i.val, h⟩ l := by
    funext a
    match a with
    | ⟨0, _⟩ => rfl
    | ⟨1, _⟩ => rfl
    | ⟨2, _⟩ => rfl
  rw [e]

theorem group0 : (val_main_v121 (F := Ideal) x1 (ix3 (0 : Fin 1) r l) : EReal) = grad (fun n => (x 0 n : EReal)) 2 r.val := by
  unfold val_main_v121 val_main_v112 val_main_v120 val_main_v119 val_main_v118 val_main_v114
  refine group_at 2 8190 (by omega) (by omega) (x 0) l _ _ (fun i => (col0 x1 i l).trans (hx 0 i)) (fun i => cnt2 i l) _ (fun i h => ?_) _ _
    (fun _ => zero_word) (fun _ => zero_word) _ _ _ _ r
  rw [val_main_v117_apply, val_main_v115_apply, val_main_v114_apply]
  have e : idx_main_v117 (ix3 (0 : Fin 1) i l) = ix3 (0 : Fin 1) ⟨2 + i.val, h⟩ l := by
    funext a
    match a with
    | ⟨0, _⟩ => rfl
    | ⟨1, _⟩ => rfl
    | ⟨2, _⟩ => rfl
  rw [e]

/-- The four groups laid side by side: column `q`'s group `q / 64` has the window of that group. -/
theorem groups (q : Fin 4) : (val_main_v124 (F := Ideal) x1 (ix4 (0 : Fin 1) r q l) : EReal) = grad (fun n => (x q n : EReal)) (win q.val) r.val := by
  rw [val_main_v124_apply, val_main_v111_apply, val_main_v98_apply]
  unfold val_main_v85 val_main_v97 val_main_v110 val_main_v123
  rw [pad_group 3 0 _ (val_main_cst_13 (F := Ideal)) fun _ => zero_word, pad_group 2 1 _ (val_main_cst_15 (F := Ideal)) fun _ => zero_word,
    pad_group 1 2 _ (val_main_cst_17 (F := Ideal)) fun _ => zero_word, pad_group 0 3 _ (val_main_cst_19 (F := Ideal)) fun _ => zero_word]
  have g3 : val_main_v84 (F := Ideal) x1 (ix4 (0 : Fin 1) r (0 : Fin 1) l) = _ := (val_main_v84_apply x1 _).trans ((congrArg _ (eq_ix3 _)).trans (group3 x1 r l x hx))
  have g2 : val_main_v96 (F := Ideal) x1 (ix4 (0 : Fin 1) r (0 : Fin 1) l) = _ := (val_main_v96_apply x1 _).trans ((congrArg _ (eq_ix3 _)).trans (group2 x1 r l x hx))
  have g1 : val_main_v109 (F := Ideal) x1 (ix4 (0 : Fin 1) r (0 : Fin 1) l) = _ := (val_main_v109_apply x1 _).trans ((congrArg _ (eq_ix3 _)).trans (group1 x1 r l x hx))
  have g0 : val_main_v122 (F := Ideal) x1 (ix4 (0 : Fin 1) r (0 : Fin 1) l) = _ := (val_main_v122_apply x1 _).trans ((congrArg _ (eq_ix3 _)).trans (group0 x1 r l x hx))
  rw [g3, g2, g1, g0]
  show (((if q.val = 3 then _ else 0) + (if q.val = 2 then _ else 0)) + (if q.val = 1 then _ else 0) + (if q.val = 0 then _ else 0) : EReal) = _
  match q with
  | ⟨0, _⟩ => simp [win]
  | ⟨1, _⟩ => simp [win]
  | ⟨2, _⟩ => simp [win]
  | ⟨3, _⟩ => simp [win]

omit hx

/-- The whole result, at row `r` and column `c`, of a finite cotangent. -/
theorem result_at (hfin : ∀ i, ∃ a : ℝ, (x1 i : EReal) = (a : EReal)) (r : Fin 8192) (c : Fin 256) :
    (val_main_v127 (F := Ideal) x1 (ix2 r c) : EReal)
      = grad (fun n => if h : n < 8192 then x1 (ix2 ⟨n, h⟩ c) else 0) (win (c.val / 64)) r.val := by
  choose f hf using hfin
  have hq : c.val / 64 < 4 := by omega
  have hl : c.val % 64 < 64 := by omega
  rw [val_main_v127_apply]
  show (val_main_v126 (F := Ideal) x1 (ix2 r c) : EReal) = _
  rw [val_main_v126_apply, val_main_v125_apply]
  have e : idx_main_v125 (idx_main_v126 (ix2 r c)) = ix4 (0 : Fin 1) r ⟨c.val / 64, hq⟩ ⟨c.val % 64, hl⟩ := by
    have := r.isLt
    have := c.isLt
    funext a
    apply Fin.ext
    match a with
    | ⟨0, _⟩ => rfl
    | ⟨1, _⟩ => simp only [ix2, ix4]; dsimp; omega
    | ⟨2, _⟩ => simp only [ix2, ix4]; dsimp; omega
    | ⟨3, _⟩ => simp only [ix2, ix4]; dsimp; omega
  rw [e, groups x1 r ⟨c.val % 64, hl⟩ (fun g n => if h : n < 8192 then f (ix2 ⟨n, h⟩ ⟨64 * g.val + c.val % 64, by omega⟩) else 0)
    (fun g n => by rw [dif_pos n.isLt]; exact hf _)]
  congr 1
  funext n
  by_cases h : n < 8192
  · simp only [dif_pos h]
    rw [← hf]
    refine congrArg x1 (congrArg (ix2 _) (Fin.ext ?_))
    show 64 * (c.val / 64) + c.val % 64 = c.val
    omega
  · simp only [dif_neg h]
    rfl

end Cert.ReferenceIdeal.Pool

end
-- ==== Proof.PoolPre.lean ====
module

public import proofs.«01_k».proof.Defs
public import Idealize.ShloMosaic.Lib.Pointwise

@[expose] public section

noncomputable section

namespace Cert.Pool

open Idealize.ShloMosaic

/-- The printed precondition's side condition. -/
theorem pre_facts : Cert.Pre_finite_cotangent.Facts := ⟨by decide⟩

theorem inf_word : Ideal.ofBits .f32 0x7F800000#32 = (⊤ : EReal) := by
  simp [Ideal.ofBits, Ideal.ieee]

attribute [local instance] pre_facts in
/-- Where the precondition reads all ones every entry of the cotangent is a real number. -/
theorem finite_of_pre (x0 : FVec Ideal Cert.Pre_finite_cotangent.S1x8192x256 .f32) (x1 : FVec Ideal Cert.Pre_finite_cotangent.S8192x256 .f32)
    (h : Cert.Pre_finite_cotangent.fn (F := Ideal) x0 x1 = fun _ => 1#1) (i : Cert.Pre_finite_cotangent.S8192x256.Idx) :
    ∃ a : ℝ, (x1 i : EReal) = (a : EReal) := by
  have e := congrFun h i
  idx_vars i
  unfold Cert.Pre_finite_cotangent.fn at e
  pointwise at e
  rw [inf_word] at e
  have hlt : (max (x1 (ix2 i0 i1)) (-(x1 (ix2 i0 i1))) : EReal) < ⊤ := by
    by_contra hn
    rw [show (decide ((FloatOps.absf (F := Ideal) (φ := .f32) (x1 (ix2 i0 i1)) : EReal) < ⊤)) = false from decide_eq_false hn] at e
    exact absurd e (by decide)
  generalize (x1 (ix2 i0 i1) : EReal) = v at hlt ⊢
  induction v using EReal.rec with
  | bot => simp at hlt
  | coe a => exact ⟨a, rfl⟩
  | top => simp at hlt

end Cert.Pool

end
-- ==== Proof.PoolClaim.lean ====
module

public import proofs.«01_k».proof.Proof.PoolArray
public import proofs.«01_k».proof.Proof.PoolRef
public import proofs.«01_k».proof.Proof.PoolPre
public import proofs.«01_k».proof.Proof.Gen.ReferenceIdeal.Run

@[expose] public section

noncomputable section

namespace Cert.Pool

open Idealize.ShloMosaic Idealize.SL.Sem

attribute [local instance] pre_facts in
/-- The two programs leave the same array in their results, where the cotangent is finite. -/
theorem value : Cert.algebraic_KernelIdeal_ReferenceIdeal_pre_finite_cotangent := by
  intro m g m' g' hpre hargs
  refine ⟨fun c => Cert.KernelIdeal.Pool.G (m ((c.tc : Thread Cert.KernelIdeal.nD Cert.KernelIdeal.τ).loc Cert.KernelIdeal.main_arg1)), ?_, ?_⟩
  · refine (θ_run _ _ _).mono (fun r h c => ⟨(h c).1.trans (Cert.KernelIdeal.Pool.final_eq c m), (h c).2.1, (h c).2.2⟩)
      (Cert.KernelIdeal.Value.run_blocks (F := Ideal) m g)
  · refine (θ_run _ _ _).mono (fun r h c => ⟨(h c).1.trans ?_, (h c).2.1, (h c).2.2⟩) (Cert.ReferenceIdeal.Value.run (F := Ideal) m' g')
    rw [Cert.ReferenceIdeal.Read.val_main_v127_eq, (hargs c).2]
    funext i
    refine ((congrArg _ (eq_ix2 i)).trans (Cert.ReferenceIdeal.Pool.result_at _ (fun i => finite_of_pre _ _ (hpre c) i) (i 0) (i 1))).trans ?_
    rfl

end Cert.Pool

end
-- ==== Proof.AttnOffsets.lean ====
module

public import proofs.«01_k».proof.Proof.Gen.AttnIdeal.Loops

@[expose] public section

set_option maxRecDepth 16384

noncomputable section

namespace Cert.AttnIdeal.Attn

open Idealize.ShloMosaic Idealize.ShloMosaic.TcCoe Idealize.ShloMosaic.Tactic Cert.AttnIdeal.Gen

/-- The narrow loop makes one trip where the key block's number is even, and otherwise none. -/
theorem trips1 : ∀ i : grid0.Coords, (k0_t1_loop i).trips = ((i 1).val + 1) % 2 := by decide +kernel

/-- The rest of the narrow loop, after the trips that are unrolled by one: none. -/
theorem trips2 : ∀ i : grid0.Coords, (k0_t2_loop i).trips = 0 := by decide +kernel

/-- The wide loop runs from the first whole pair of blocks after the key block's own. -/
theorem trips3 : ∀ i : grid0.Coords, (k0_t3_loop i).trips = 4 - ((i 1).val + 2) / 2 := by decide +kernel

theorem trips4 : ∀ i : grid0.Coords, (k0_t4_loop i).trips = 0 := by decide +kernel

/-- Where the narrow loop's trip reads and writes: the rows of the block after the key block's own. -/
theorem off2_eq (i : grid0.Coords) (k : Fin (k0_t1_loop i).trips) :
    ∀ r : Fin 4, k0_off2 i k (BitVec.ofNat 32 (256 * r.val)) = ![0, 1024 * ((i 1).val + 1) + 1024 * k.val + 256 * r.val, 0] := by
  revert i k; decide +kernel

instance closedOff2_0 (i : grid0.Coords) (k : Fin (k0_t1_loop i).trips) : ClosedOff (k0_off2 i k (BitVec.ofNat 32 0)) := ⟨_, off2_eq i k 0⟩
instance closedOff2_1 (i : grid0.Coords) (k : Fin (k0_t1_loop i).trips) : ClosedOff (k0_off2 i k (BitVec.ofNat 32 256)) := ⟨_, off2_eq i k 1⟩
instance closedOff2_2 (i : grid0.Coords) (k : Fin (k0_t1_loop i).trips) : ClosedOff (k0_off2 i k (BitVec.ofNat 32 512)) := ⟨_, off2_eq i k 2⟩
instance closedOff2_3 (i : grid0.Coords) (k : Fin (k0_t1_loop i).trips) : ClosedOff (k0_off2 i k (BitVec.ofNat 32 768)) := ⟨_, off2_eq i k 3⟩

end Cert.AttnIdeal.Attn

end
-- ==== Proof.AttnTrip.lean ====
module

public import proofs.«01_k».proof.Proof.AttnOffsets
public import Idealize.ShloMosaic.Lib.ListedLoop

@[expose] public section

set_option maxRecDepth 16384
set_option warn.classDefReducibility false

noncomputable section

namespace Cert.AttnIdeal.Attn

open Idealize.ShloMosaic Idealize.ShloMosaic.TcCoe Idealize.ShloMosaic.Tactic Cert.AttnIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the loops carry: the four row blocks of the key gradient, then those of the value gradient. -/
abbrev Carried (F : FTy → Type) := FVec F S256x128 .f32 × FVec F S256x128 .f32 × FVec F S256x128 .f32 × FVec F S256x128 .f32 × FVec F S256x128 .f32 × FVec F S256x128 .f32 × FVec F S256x128 .f32 × FVec F S256x128 .f32

variable (𝒱 : Variants) (c : Dev nD) (bd : Option 𝒱.V) (E : Set ℕ) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (v4 : FVec F S1024x128 .bf16) (v6 : FVec F S1024x128 .bf16)
  (Q : BufTy.Contents (Elt F) arg2.view.ty) (D : BufTy.Contents (Elt F) arg5.view.ty) (Ls : BufTy.Contents (Elt F) arg6.view.ty) (Dl : BufTy.Contents (Elt F) arg7.view.ty)

/-- The buffers a trip of the narrow loop touches: the queries, the cotangent and the two row statistics read, the query gradient written. -/
abbrev Touched (f : BufTy.Contents (Elt F) arg9.view.ty) : sProp (MT nD τ sig Unit (Elt F) ℕ (UR sig nD τ) ℕ) :=
  iprop((arg2.view.loc (c : Thread nD τ) ↦[arg2.view.set]{fullShare} Q) ∗ (arg5.view.loc (c : Thread nD τ) ↦[arg5.view.set]{fullShare} D)
    ∗ (arg6.view.loc (c : Thread nD τ) ↦[arg6.view.set]{fullShare} Ls) ∗ (arg7.view.loc (c : Thread nD τ) ↦[arg7.view.set]{fullShare} Dl)
    ∗ (arg9.view.loc (c : Thread nD τ) ↦[arg9.view.set]{fullShare} f))

/-- One trip of the narrow loop: what it yields and the pieces it writes, found by running it. -/
@[irreducible] def narrowRun (v258 : BitVec 32) (k : Fin (k0_t1_loop i).trips) :
    Σ' (R : Carried F → BufTy.Contents (Elt F) arg9.view.ty → Carried F),
      { L : Carried F → BufTy.Contents (Elt F) arg9.view.ty → List (View.Piece (Elt F) S1x8192x128 .f32) //
        ∀ (E : Set ℕ) (acc : Carried F) (f : BufTy.Contents (Elt F) arg9.view.ty),
          Touched c arg2 arg5 arg6 arg7 arg9 Q D Ls Dl f
          ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v4 v6 v258 k acc)
              (fun yld => iprop(⌜yld = R acc f⌝ ∗ Touched c arg2 arg5 arg6 arg7 arg9 Q D Ls Dl (arg9.view.writes (Elt F) f (L acc f)))) } := by
  refine ⟨?_, ?_, fun E acc f => ?run⟩
  case run =>
    unfold k0_t1_body
    iintro ⟨HQ, HD, HL, HDl, HW⟩
    sl_exec
    sl_step
    sl_close

/-- The state before trip `k` of the narrow loop: the carried value, and the pieces written so far over the contents `G` at entry. -/
abbrev narrowState (v258 : BitVec 32) (G : BufTy.Contents (Elt F) arg9.view.ty) (init : Carried F) :
    ℕ → Carried F × List (View.Piece (Elt F) S1x8192x128 .f32) :=
  ListedLoop.st (fun k => (narrowRun 𝒱 c bd i arg2 harg2 arg3 harg3 arg4 harg4 arg5 harg5 arg6 harg6 arg7 harg7 arg8 harg8 arg9 harg9 arg10 harg10 arg11 harg11 v4 v6 Q D Ls Dl v258 k).1) (fun k => (narrowRun 𝒱 c bd i arg2 harg2 arg3 harg3 arg4 harg4 arg5 harg5 arg6 harg6 arg7 harg7 arg8 harg8 arg9 harg9 arg10 harg10 arg11 harg11 v4 v6 Q D Ls Dl v258 k).2.1)
    (fun l => arg9.view.writes (Elt F) G l) init

theorem narrowState_zero (v258 : BitVec 32) (G : BufTy.Contents (Elt F) arg9.view.ty) (init : Carried F) :
    (narrowState 𝒱 c bd i arg2 harg2 arg3 harg3 arg4 harg4 arg5 harg5 arg6 harg6 arg7 harg7 arg8 harg8 arg9 harg9 arg10 harg10 arg11 harg11 v4 v6 Q D Ls Dl v258 G init 0).1 = init := rfl

/-- The narrow loop by its invariant: the pieces of the trips before, and their carried value. -/
@[sl_loop] def narrowLoop (v258 : BitVec 32) (init : Carried F) (G : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 v4 v6 v258 init where
  inv k acc := iprop((arg2.view.loc (c : Thread nD τ) ↦[arg2.view.set]{fullShare} Q) ∗ (arg5.view.loc (c : Thread nD τ) ↦[arg5.view.set]{fullShare} D)
    ∗ (arg6.view.loc (c : Thread nD τ) ↦[arg6.view.set]{fullShare} Ls) ∗ (arg7.view.loc (c : Thread nD τ) ↦[arg7.view.set]{fullShare} Dl)
    ∗ (∃ f, (arg9.view.loc (c : Thread nD τ) ↦[arg9.view.set]{fullShare} f) ∗ ⌜f = arg9.view.writes (Elt F) G (narrowState 𝒱 c bd i arg2 harg2 arg3 harg3 arg4 harg4 arg5 harg5 arg6 harg6 arg7 harg7 arg8 harg8 arg9 harg9 arg10 harg10 arg11 harg11 v4 v6 Q D Ls Dl v258 G init k).2⌝)
    ∗ ⌜acc = (narrowState 𝒱 c bd i arg2 harg2 arg3 harg3 arg4 harg4 arg5 harg5 arg6 harg6 arg7 harg7 arg8 harg8 arg9 harg9 arg10 harg10 arg11 harg11 v4 v6 Q D Ls Dl v258 G init k).1⌝)
  step k acc := by
    iintro ⟨HQ, HD, HL, HDl, ⟨%f, HW, %hf⟩, %hacc⟩
    subst hacc
    iapply (wp_wand_r Idealize.ShloMosaic.frame (wpE (defs₀ (F := F)) 𝒱 (c : Thread nD τ) bd) E)
    isplitl [HQ HD HL HDl HW]
    · iapply ((narrowRun 𝒱 c bd i arg2 harg2 arg3 harg3 arg4 harg4 arg5 harg5 arg6 harg6 arg7 harg7 arg8 harg8 arg9 harg9 arg10 harg10 arg11 harg11 v4 v6 Q D Ls Dl v258 k).2.2 E _ f)
      isplitl [HQ]; · iexact HQ
      isplitl [HD]; · iexact HD
      isplitl [HL]; · iexact HL
      isplitl [HDl]; · iexact HDl
      iexact HW
    · iintro %yld ⟨%hres, HQ, HD, HL, HDl, HW⟩
      isplitl [HQ]; · iexact HQ
      isplitl [HD]; · iexact HD
      isplitl [HL]; · iexact HL
      isplitl [HDl]; · iexact HDl
      simp only [narrowState, ListedLoop.st_succ]
      isplitl [HW]
      · iexists _; isplitl [HW]; · iexact HW
        ipureintro; rw [hf, ← View.writes_append]
      ipureintro; rw [hres, hf]

/-- The rest of the narrow loop makes no trip: it yields what it is given. -/
@[sl_loop] def narrowRest (v265 : BitVec 32) (init : Carried F) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 v4 v6 v265 init where
  inv _ acc := iprop(⌜acc = init⌝)
  step k _ := absurd k.isLt (Nat.not_lt_of_le (le_of_eq_of_le (trips2 i) (Nat.zero_le _)))

end Cert.AttnIdeal.Attn

end
-- ==== Proof.AttnRun.lean ====
module

public import proofs.«01_k».proof.Proof.AttnTrip
public import proofs.«01_k».proof.Proof.Gen.AttnIdeal.Frame

@[expose] public section

set_option maxRecDepth 16384
set_option warn.classDefReducibility false

noncomputable section

namespace Cert.AttnIdeal.Attn

open Idealize.ShloMosaic Idealize.ShloMosaic.TcCoe Idealize.ShloMosaic.Tactic Cert.AttnIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (E : Set ℕ) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (Q : BufTy.Contents (Elt F) arg2.view.ty) (K : BufTy.Contents (Elt F) arg3.view.ty) (Vv : BufTy.Contents (Elt F) arg4.view.ty) (D : BufTy.Contents (Elt F) arg5.view.ty) (Ls : BufTy.Contents (Elt F) arg6.view.ty) (Dl : BufTy.Contents (Elt F) arg7.view.ty)

/-- The first block of keys of a head: the point at which the query gradient starts from zero. -/
abbrev Start : Prop := Scalar.cmpi .ne (Scalar.extui (Scalar.cmpi .eq (BitVec.ofNat 32 (i 1).val) 0#32) : BitVec 32) 0#32 = 1#1

theorem start_iff : ∀ i : grid0.Coords, Start i ↔ (i 1).val = 0 := by decide +kernel

/-- The staging buffers of a point: six read, three written. -/
abbrev Held (f : BufTy.Contents (Elt F) arg9.view.ty) (g : BufTy.Contents (Elt F) arg10.view.ty) (h : BufTy.Contents (Elt F) arg11.view.ty) : sProp (MT nD τ sig Unit (Elt F) ℕ (UR sig nD τ) ℕ) :=
  iprop((arg2.view.loc (c : Thread nD τ) ↦[arg2.view.set]{fullShare} Q) ∗ (arg3.view.loc (c : Thread nD τ) ↦[arg3.view.set]{fullShare} K)
    ∗ (arg4.view.loc (c : Thread nD τ) ↦[arg4.view.set]{fullShare} Vv) ∗ (arg5.view.loc (c : Thread nD τ) ↦[arg5.view.set]{fullShare} D)
    ∗ (arg6.view.loc (c : Thread nD τ) ↦[arg6.view.set]{fullShare} Ls) ∗ (arg7.view.loc (c : Thread nD τ) ↦[arg7.view.set]{fullShare} Dl)
    ∗ (arg9.view.loc (c : Thread nD τ) ↦[arg9.view.set]{fullShare} f) ∗ (arg10.view.loc (c : Thread nD τ) ↦[arg10.view.set]{fullShare} g) ∗ (arg11.view.loc (c : Thread nD τ) ↦[arg11.view.set]{fullShare} h))

/-- The body at the first block of keys of a head: the pieces it writes into the three outputs, found by running it; the store of zeros covers what the query gradient's buffer held. -/
@[irreducible] def startRun (hc : Start i) :
    Σ' (L : List (View.Piece (Elt F) S1x8192x128 .f32)) (LK : List (View.Piece (Elt F) S1x1024x128 .f32)),
      { LV : List (View.Piece (Elt F) S1x1024x128 .f32) //
        ∀ (E : Set ℕ) (f : BufTy.Contents (Elt F) arg9.view.ty) (g : BufTy.Contents (Elt F) arg10.view.ty) (h : BufTy.Contents (Elt F) arg11.view.ty),
          Held c arg2 arg3 arg4 arg5 arg6 arg7 arg9 arg10 arg11 Q K Vv D Ls Dl f g h
          ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11)
              (fun _ => Held c arg2 arg3 arg4 arg5 arg6 arg7 arg9 arg10 arg11 Q K Vv D Ls Dl
                (arg9.view.writes (Elt F) arg9.view.junk L) (arg10.view.writes (Elt F) g LK) (arg11.view.writes (Elt F) h LV)) } := by
  refine ⟨?_, ?_, ?_, fun E f g h => ?run⟩
  case run =>
    simp only [cc0_attn_bwd_eq_skeleton]
    unfold cc0_attn_bwd_skel
    simp only [k0_part31_eq_skeleton, k0_part32_eq_skeleton, k0_part33_eq_skeleton, k0_part34_eq_skeleton, k0_part35_eq_skeleton, k0_part36_eq_skeleton]
    iintro ⟨HQ, HK, HV, HD, HL, HDl, HW, HG, HH⟩
    sl_exec (disch := sl_exact hc)
    sl_step
    simp only [← View.writes_append]
    sl_close

/-- The body at a later block of keys: the pieces it writes into the three outputs, found by running it. -/
@[irreducible] def nextRun (hc : ¬Start i) :
    Σ' (L : BufTy.Contents (Elt F) arg9.view.ty → List (View.Piece (Elt F) S1x8192x128 .f32)) (LK : BufTy.Contents (Elt F) arg9.view.ty → List (View.Piece (Elt F) S1x1024x128 .f32)),
      { LV : BufTy.Contents (Elt F) arg9.view.ty → List (View.Piece (Elt F) S1x1024x128 .f32) //
        ∀ (E : Set ℕ) (f : BufTy.Contents (Elt F) arg9.view.ty) (g : BufTy.Contents (Elt F) arg10.view.ty) (h : BufTy.Contents (Elt F) arg11.view.ty),
          Held c arg2 arg3 arg4 arg5 arg6 arg7 arg9 arg10 arg11 Q K Vv D Ls Dl f g h
          ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11)
              (fun _ => Held c arg2 arg3 arg4 arg5 arg6 arg7 arg9 arg10 arg11 Q K Vv D Ls Dl
                (arg9.view.writes (Elt F) f (L f)) (arg10.view.writes (Elt F) g (LK f)) (arg11.view.writes (Elt F) h (LV f))) } := by
  refine ⟨?_, ?_, ?_, fun E f g h => ?run⟩
  case run =>
    simp only [cc0_attn_bwd_eq_skeleton]
    unfold cc0_attn_bwd_skel
    simp only [k0_part31_eq_skeleton, k0_part32_eq_skeleton, k0_part33_eq_skeleton, k0_part34_eq_skeleton, k0_part35_eq_skeleton, k0_part36_eq_skeleton]
    iintro ⟨HQ, HK, HV, HD, HL, HDl, HW, HG, HH⟩
    sl_exec (disch := sl_exact hc)
    sl_step
    simp only [← View.writes_append]
    sl_close

end Cert.AttnIdeal.Attn

end
-- ==== Proof.AttnStep.lean ====
module

public import proofs.«01_k».proof.Proof.AttnRun
public import Idealize.ShloMosaic.Lib.ListedLoop

@[expose] public section

set_option maxRecDepth 16384
set_option warn.classDefReducibility false

noncomputable section

namespace Cert.AttnIdeal.Attn

open Idealize.ShloMosaic Idealize.ShloMosaic.TcCoe Idealize.ShloMosaic.Tactic Cert.AttnIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The products of 256 query rows with `n` key rows: the scores, their transposes against the rows, and back to the rows; and the broadcast and the counters beside them. -/
structure Width (n : ℕ) where
  scoresOf : DotDims S256x128 ⟨2, ![n, 128]⟩ ⟨2, ![256, n]⟩
  columnsOf : DotDims ⟨2, ![256, n]⟩ S256x128 ⟨2, ![n, 128]⟩
  rowsOf : DotDims ⟨2, ![256, n]⟩ ⟨2, ![n, 128]⟩ S256x128
  spread : S256x1.Broadcasts ⟨2, ![256, n]⟩
  rowCount : (⟨2, ![256, n]⟩ : Shape).Iotas .tc 32 [0]
  columnCount : (⟨2, ![256, n]⟩ : Shape).Iotas .tc 32 [1]

def width256 : Width 256 := ⟨dot_S256x128_S256x128_S256x256_1_1_0_0_n_n, dot_S256x256_S256x128_S256x128_0_0_1_1_n_n, dot_S256x256_S256x128_S256x128_1_0_0_1_n_n,
  broadcasts_S256x1_S256x256, iota_S256x256_d0_w32, iota_S256x256_d1_w32⟩

def width512 : Width 512 := ⟨dot_S256x128_S512x128_S256x512_1_1_0_0_n_n, dot_S256x512_S256x128_S512x128_0_0_1_1_n_n, dot_S256x512_S512x128_S256x128_1_0_0_1_n_n,
  broadcasts_S256x1_S256x512, iota_S256x512_d0_w32, iota_S256x512_d1_w32⟩

def width768 : Width 768 := ⟨dot_S256x128_S768x128_S256x768_1_1_0_0_n_n, dot_S256x768_S256x128_S768x128_0_0_1_1_n_n, dot_S256x768_S768x128_S256x128_1_0_0_1_n_n,
  broadcasts_S256x1_S256x768, iota_S256x768_d0_w32, iota_S256x768_d1_w32⟩

def width1024 : Width 1024 := ⟨dot_S256x128_S1024x128_S256x1024_1_1_0_0_n_n, dot_S256x1024_S256x128_S1024x128_0_0_1_1_n_n, dot_S256x1024_S1024x128_S256x128_1_0_0_1_n_n,
  broadcasts_S256x1_S256x1024, iota_S256x1024_d0_w32, iota_S256x1024_d1_w32⟩

namespace Width

variable {n : ℕ} (w : Width n)

/-- The products of rows with the rows of a block. -/
def scores (q : FVec F S256x128 .bf16) (K : FVec F ⟨2, ![n, 128]⟩ .bf16) : FVec F ⟨2, ![256, n]⟩ .f32 :=
  matmul w.scoresOf none q K (constant ⟨2, ![256, n]⟩ .f32 0x00000000#32)

/-- The scores, masked right of the diagonal that starts at column `g`. -/
def masked (g : BitVec 32) (s : FVec F ⟨2, ![256, n]⟩ .f32) : FVec F ⟨2, ![256, n]⟩ .f32 :=
  select (cmpi .sle (iota .tc ⟨2, ![256, n]⟩ 32 [1] w.columnCount) (addi (iota .tc ⟨2, ![256, n]⟩ 32 [0] w.rowCount) (broadcast ⟨2, ![256, n]⟩ g))) s
    (broadcast ⟨2, ![256, n]⟩ (Named.named κ "mask" 0xF149F2CA#32))

/-- The scores less the rows' logarithmic sums, exponentiated: the softmax weights. -/
def weights (s : FVec F ⟨2, ![256, n]⟩ .f32) (l : FVec F S256x1 .f32) : FVec F ⟨2, ![256, n]⟩ .f32 :=
  exp2 (subf s (broadcastTo ⟨2, ![256, n]⟩ l w.spread))

/-- The gradient at the scores of weights `p`. -/
def scoreGrad (p : FVec F ⟨2, ![256, n]⟩ .f32) (V : FVec F ⟨2, ![n, 128]⟩ .bf16) (o : FVec F S256x128 .bf16) (d : FVec F S256x1 .f32) : FVec F ⟨2, ![256, n]⟩ .f32 :=
  mulf p (subf (w.scores o V) (broadcastTo ⟨2, ![256, n]⟩ d w.spread))

/-- The sums over the rows of weights or gradients times the rows: what the rows add to the gradient of a block of values or keys. -/
def columns (x : FVec F ⟨2, ![256, n]⟩ .f32) (y : FVec F S256x128 .bf16) : FVec F ⟨2, ![n, 128]⟩ .f32 :=
  matmul w.columnsOf none (truncf .bf16 x bitsLt_bf16_f32) y (constant ⟨2, ![n, 128]⟩ .f32 0x00000000#32)

/-- What a block of keys adds to the gradient of 256 query rows. -/
def rows (x : FVec F ⟨2, ![256, n]⟩ .f32) (K : FVec F ⟨2, ![n, 128]⟩ .bf16) : FVec F S256x128 .f32 :=
  mulf (matmul w.rowsOf none (truncf .bf16 x bitsLt_bf16_f32) K (constant S256x128 .f32 0x00000000#32))
    (broadcast S256x128 (Named.named κ "scale" 0x3DD105EC#32))

end Width

/-- The blocks of 256 rows of two arrays of 1024 rows, added to what the loops carry. -/
def addAll (dk dv : FVec F S1024x128 .f32) (a : Carried F) : Carried F :=
  (addf a.1 (extractStridedSlice S256x128 ![0, 0] dk slices_S1024x128_o0_0_S256x128),
    addf a.2.1 (extractStridedSlice S256x128 ![256, 0] dk slices_S1024x128_o256_0_S256x128),
    addf a.2.2.1 (extractStridedSlice S256x128 ![512, 0] dk slices_S1024x128_o512_0_S256x128),
    addf a.2.2.2.1 (extractStridedSlice S256x128 ![768, 0] dk slices_S1024x128_o768_0_S256x128),
    addf a.2.2.2.2.1 (extractStridedSlice S256x128 ![0, 0] dv slices_S1024x128_o0_0_S256x128),
    addf a.2.2.2.2.2.1 (extractStridedSlice S256x128 ![256, 0] dv slices_S1024x128_o256_0_S256x128),
    addf a.2.2.2.2.2.2.1 (extractStridedSlice S256x128 ![512, 0] dv slices_S1024x128_o512_0_S256x128),
    addf a.2.2.2.2.2.2.2 (extractStridedSlice S256x128 ![768, 0] dv slices_S1024x128_o768_0_S256x128))

/-- The same of arrays of 256 rows: the blocks past them stay. -/
def add256 (dk dv : FVec F S256x128 .f32) (a : Carried F) : Carried F :=
  (addf a.1 dk,
    a.2.1,
    a.2.2.1,
    a.2.2.2.1,
    addf a.2.2.2.2.1 dv,
    a.2.2.2.2.2.1,
    a.2.2.2.2.2.2.1,
    a.2.2.2.2.2.2.2)

/-- The same of arrays of 512 rows: the blocks past them stay. -/
def add512 (dk dv : FVec F S512x128 .f32) (a : Carried F) : Carried F :=
  (addf a.1 (extractStridedSlice S256x128 ![0, 0] dk slices_S512x128_o0_0_S256x128),
    addf a.2.1 (extractStridedSlice S256x128 ![256, 0] dk slices_S512x128_o256_0_S256x128),
    a.2.2.1,
    a.2.2.2.1,
    addf a.2.2.2.2.1 (extractStridedSlice S256x128 ![0, 0] dv slices_S512x128_o0_0_S256x128),
    addf a.2.2.2.2.2.1 (extractStridedSlice S256x128 ![256, 0] dv slices_S512x128_o256_0_S256x128),
    a.2.2.2.2.2.2.1,
    a.2.2.2.2.2.2.2)

/-- The same of arrays of 768 rows: the blocks past them stay. -/
def add768 (dk dv : FVec F S768x128 .f32) (a : Carried F) : Carried F :=
  (addf a.1 (extractStridedSlice S256x128 ![0, 0] dk slices_S768x128_o0_0_S256x128),
    addf a.2.1 (extractStridedSlice S256x128 ![256, 0] dk slices_S768x128_o256_0_S256x128),
    addf a.2.2.1 (extractStridedSlice S256x128 ![512, 0] dk slices_S768x128_o512_0_S256x128),
    a.2.2.2.1,
    addf a.2.2.2.2.1 (extractStridedSlice S256x128 ![0, 0] dv slices_S768x128_o0_0_S256x128),
    addf a.2.2.2.2.2.1 (extractStridedSlice S256x128 ![256, 0] dv slices_S768x128_o256_0_S256x128),
    addf a.2.2.2.2.2.2.1 (extractStridedSlice S256x128 ![512, 0] dv slices_S768x128_o512_0_S256x128),
    a.2.2.2.2.2.2.2)

variable (𝒱 : Variants) (c : Dev nD) (bd : Option 𝒱.V) (E : Set ℕ) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (v4 : FVec F S1024x128 .bf16) (v6 : FVec F S1024x128 .bf16)
  (Q : BufTy.Contents (Elt F) arg2.view.ty) (D : BufTy.Contents (Elt F) arg5.view.ty) (Ls : BufTy.Contents (Elt F) arg6.view.ty) (Dl : BufTy.Contents (Elt F) arg7.view.ty)

/-- 256 rows of the queries or of the cotangent, from the offsets of a load. -/
abbrev rowsAt {e : EltTy} (X : Vec F S1x256x128 e) : Vec F S256x128 e := shapeCast S256x128 X shapeCasts_S1x256x128_S256x128

/-- The first lane of 256 rows of a row statistic. -/
abbrev statAt (X : Vec F S1x256x128 .f32) : FVec F S256x1 .f32 := extractStridedSlice S256x1 ![0, 0] (rowsAt X) slices_S256x128_o0_0_S256x1

/-- Offsets at which 256 of the 8192 rows lie inside. -/
abbrev Offset := {off : Fin 3 → ℕ // ∀ x, off x + S1x256x128.size x ≤ S1x8192x128.size x}

/-- The load of 256 rows at an offset. -/
abbrev ld2 {e : EltTy} (a : Memref sig .tc .vmem S1x8192x128 e) (X : BufTy.Contents (Elt F) a.view.ty) (o : Offset) : Vec F S1x256x128 e :=
  View.readAt (Elt F) a.view (Rect.unit (s := S1x8192x128) o.1 S1x256x128.size o.2).toLoadRect X

/-- The weights of 256 rows at an offset against `n` keys, not masked; -/
abbrev openWeights {n : ℕ} (w : Width n) (K : FVec F ⟨2, ![n, 128]⟩ .bf16) (o : Offset) : FVec F ⟨2, ![256, n]⟩ .f32 :=
  w.weights (w.scores (rowsAt (ld2 arg2 Q o)) K) (statAt (ld2 arg6 Ls o))

/-- and masked. -/
abbrev maskedWeights {n : ℕ} (w : Width n) (g : BitVec 32) (K : FVec F ⟨2, ![n, 128]⟩ .bf16) (o : Offset) : FVec F ⟨2, ![256, n]⟩ .f32 :=
  w.weights (w.masked g (w.scores (rowsAt (ld2 arg2 Q o)) K)) (statAt (ld2 arg6 Ls o))

/-- The gradient at the scores of those rows. -/
abbrev gradAt {n : ℕ} (w : Width n) (p : FVec F ⟨2, ![256, n]⟩ .f32) (V : FVec F ⟨2, ![n, 128]⟩ .bf16) (o : Offset) : FVec F ⟨2, ![256, n]⟩ .f32 :=
  w.scoreGrad p V (rowsAt (ld2 arg5 D o)) (statAt (ld2 arg7 Dl o))

/-- The store that adds to 256 rows of the query gradient, its buffer at `f`. -/
abbrev addPiece (o : Offset) (x : FVec F S256x128 .f32) (f : BufTy.Contents (Elt F) arg9.view.ty) : View.Piece (Elt F) S1x8192x128 .f32 :=
  ⟨Rect.unit (s := S1x8192x128) o.1 S1x256x128.size o.2, shapeCast S1x256x128 (addf (rowsAt (ld2 arg9 f o)) x) shapeCasts_S256x128_S1x256x128⟩

/-- 256 rows at an offset below the diagonal, added to what the loops carry. -/
abbrev openAdd (o : Offset) (a : Carried F) : Carried F :=
  addAll (width1024.columns (gradAt arg5 arg7 D Dl width1024 (openWeights arg2 arg6 Q Ls width1024 v4 o) v6 o) (rowsAt (ld2 arg2 Q o)))
    (width1024.columns (openWeights arg2 arg6 Q Ls width1024 v4 o) (rowsAt (ld2 arg5 D o))) a

/-- What they add to the query gradient. -/
abbrev openRows (o : Offset) : FVec F S256x128 .f32 :=
  width1024.rows (gradAt arg5 arg7 D Dl width1024 (openWeights arg2 arg6 Q Ls width1024 v4 o) v6 o) v4

/-- Several such offsets one after the other, the last first: what is carried, -/
def openAdds : List Offset → Carried F → Carried F
  | [], a => a
  | o :: l, a => openAdd arg2 arg5 arg6 arg7 v4 v6 Q D Ls Dl o (openAdds l a)

/-- and the stores, each over what those before left. -/
def openPieces : List Offset → BufTy.Contents (Elt F) arg9.view.ty → List (View.Piece (Elt F) S1x8192x128 .f32)
  | [], _ => []
  | o :: l, f => addPiece arg9 o (openRows arg2 arg5 arg6 arg7 v4 v6 Q D Ls Dl o) (arg9.view.writes (Elt F) f (openPieces l f)) :: openPieces l f

/-- The stores where the loads before them all read `f`. -/
abbrev openPiecesOver (l : List Offset) (f : BufTy.Contents (Elt F) arg9.view.ty) : List (View.Piece (Elt F) S1x8192x128 .f32) :=
  l.map fun o => addPiece arg9 o (openRows arg2 arg5 arg6 arg7 v4 v6 Q D Ls Dl o) f

/-- The offsets of a trip of the narrow loop, -/
abbrev narrowOffsets (k : Fin (k0_t1_loop i).trips) : List Offset :=
  [⟨k0_off2 i k 768#32, k0_off2_inb i k 3⟩, ⟨k0_off2 i k 512#32, k0_off2_inb i k 2⟩, ⟨k0_off2 i k 256#32, k0_off2_inb i k 1⟩, ⟨k0_off2 i k 0#32, k0_off2_inb i k 0⟩]

/-- and of the wide loop. -/
abbrev wideOffsets (k : Fin (k0_t3_loop i).trips) : List Offset :=
  [⟨k0_off4 i k 1792#32, k0_off4_inb i k 7⟩, ⟨k0_off4 i k 1536#32, k0_off4_inb i k 6⟩, ⟨k0_off4 i k 1280#32, k0_off4_inb i k 5⟩, ⟨k0_off4 i k 1024#32, k0_off4_inb i k 4⟩, ⟨k0_off4 i k 768#32, k0_off4_inb i k 3⟩, ⟨k0_off4 i k 512#32, k0_off4_inb i k 2⟩, ⟨k0_off4 i k 256#32, k0_off4_inb i k 1⟩, ⟨k0_off4 i k 0#32, k0_off4_inb i k 0⟩]

theorem narrow_yields (v258 : BitVec 32) (k : Fin (k0_t1_loop i).trips) (acc : Carried F) (f : BufTy.Contents (Elt F) arg9.view.ty) :
    (narrowRun 𝒱 c bd i arg2 harg2 arg3 harg3 arg4 harg4 arg5 harg5 arg6 harg6 arg7 harg7 arg8 harg8 arg9 harg9 arg10 harg10 arg11 harg11 v4 v6 Q D Ls Dl v258 k).1 acc f = openAdds arg2 arg5 arg6 arg7 v4 v6 Q D Ls Dl (narrowOffsets i k) acc := by
  unfold narrowRun
  rfl

theorem narrow_writes (v258 : BitVec 32) (k : Fin (k0_t1_loop i).trips) (acc : Carried F) (f : BufTy.Contents (Elt F) arg9.view.ty) :
    (narrowRun 𝒱 c bd i arg2 harg2 arg3 harg3 arg4 harg4 arg5 harg5 arg6 harg6 arg7 harg7 arg8 harg8 arg9 harg9 arg10 harg10 arg11 harg11 v4 v6 Q D Ls Dl v258 k).2.1 acc f = openPieces arg2 arg5 arg6 arg7 arg9 v4 v6 Q D Ls Dl (narrowOffsets i k) f := by
  unfold narrowRun
  rfl

theorem wide_yields (v257 : BitVec 32) (k : Fin (k0_t3_loop i).trips) (acc : Carried F) (f : BufTy.Contents (Elt F) arg9.view.ty) :
    (trip_k0_t3 (F := F) 𝒱 c bd i arg2 harg2 arg3 harg3 arg4 harg4 arg5 harg5 arg6 harg6 arg7 harg7 arg8 harg8 arg9 harg9 arg10 harg10 arg11 harg11 v4 v6 v257 Q D Ls Dl k).1 acc f = openAdds arg2 arg5 arg6 arg7 v4 v6 Q D Ls Dl (wideOffsets i k) acc := by
  unfold trip_k0_t3
  rfl

theorem wide_writes (v257 : BitVec 32) (k : Fin (k0_t3_loop i).trips) (acc : Carried F) (f : BufTy.Contents (Elt F) arg9.view.ty) :
    (trip_k0_t3 (F := F) 𝒱 c bd i arg2 harg2 arg3 harg3 arg4 harg4 arg5 harg5 arg6 harg6 arg7 harg7 arg8 harg8 arg9 harg9 arg10 harg10 arg11 harg11 v4 v6 v257 Q D Ls Dl k).2.1 acc f = openPiecesOver arg2 arg5 arg6 arg7 arg9 v4 v6 Q D Ls Dl (wideOffsets i k) f := by
  unfold trip_k0_t3
  rfl

end Cert.AttnIdeal.Attn

end
-- ==== Proof.AttnBlocks.lean ====
module

public import proofs.«01_k».proof.Proof.AttnStep

@[expose] public section

set_option maxRecDepth 16384
set_option warn.classDefReducibility false

noncomputable section

namespace Cert.AttnIdeal.Attn

open Idealize.ShloMosaic Idealize.ShloMosaic.TcCoe Idealize.ShloMosaic.Tactic Cert.AttnIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (E : Set ℕ) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (Q : BufTy.Contents (Elt F) arg2.view.ty) (K : BufTy.Contents (Elt F) arg3.view.ty) (Vv : BufTy.Contents (Elt F) arg4.view.ty) (D : BufTy.Contents (Elt F) arg5.view.ty) (Ls : BufTy.Contents (Elt F) arg6.view.ty) (Dl : BufTy.Contents (Elt F) arg7.view.ty)

  (v4 : FVec F S1024x128 .bf16) (v6 : FVec F S1024x128 .bf16)

/-- A loaded block of keys or values. -/
abbrev blockOf (a : Memref sig .tc .vmem S1x1024x128 .bf16) (X : BufTy.Contents (Elt F) a.view.ty) : FVec F S1024x128 .bf16 :=
  shapeCast S1024x128 (View.readAt (Elt F) a.view (Rect.unit (s := S1x1024x128) ![0, 0, 0] S1x1024x128.size inb_S1x1024x128_S1x1024x128_0_0_0).toLoadRect X) shapeCasts_S1x1024x128_S1024x128

/-- The offset of a group of 256 rows on the diagonal. -/
abbrev diagOffset (r : Fin 4) : Offset := ⟨k0_off1 i (BitVec.ofNat 32 (256 * r.val)), k0_off1_inb i r⟩

/-- Group 0 of the rows on the diagonal against the first 256 keys: added to what the loops carry, -/
abbrev diagAdd0 (a : Carried F) : Carried F :=
  add256 (width256.columns (gradAt arg5 arg7 D Dl width256 (maskedWeights arg2 arg6 Q Ls width256 0#32 (extractStridedSlice S256x128 ![0, 0] v4 slices_S1024x128_o0_0_S256x128) (diagOffset i 0)) (extractStridedSlice S256x128 ![0, 0] v6 slices_S1024x128_o0_0_S256x128) (diagOffset i 0)) (rowsAt (ld2 arg2 Q (diagOffset i 0)))) (width256.columns (maskedWeights arg2 arg6 Q Ls width256 0#32 (extractStridedSlice S256x128 ![0, 0] v4 slices_S1024x128_o0_0_S256x128) (diagOffset i 0)) (rowsAt (ld2 arg5 D (diagOffset i 0)))) a

/-- and to the query gradient. -/
abbrev diagRows0 : FVec F S256x128 .f32 :=
  width256.rows (gradAt arg5 arg7 D Dl width256 (maskedWeights arg2 arg6 Q Ls width256 0#32 (extractStridedSlice S256x128 ![0, 0] v4 slices_S1024x128_o0_0_S256x128) (diagOffset i 0)) (extractStridedSlice S256x128 ![0, 0] v6 slices_S1024x128_o0_0_S256x128) (diagOffset i 0)) (extractStridedSlice S256x128 ![0, 0] v4 slices_S1024x128_o0_0_S256x128)

/-- Group 1 of the rows on the diagonal against the first 512 keys: added to what the loops carry, -/
abbrev diagAdd1 (a : Carried F) : Carried F :=
  add512 (width512.columns (gradAt arg5 arg7 D Dl width512 (maskedWeights arg2 arg6 Q Ls width512 256#32 (extractStridedSlice S512x128 ![0, 0] v4 slices_S1024x128_o0_0_S512x128) (diagOffset i 1)) (extractStridedSlice S512x128 ![0, 0] v6 slices_S1024x128_o0_0_S512x128) (diagOffset i 1)) (rowsAt (ld2 arg2 Q (diagOffset i 1)))) (width512.columns (maskedWeights arg2 arg6 Q Ls width512 256#32 (extractStridedSlice S512x128 ![0, 0] v4 slices_S1024x128_o0_0_S512x128) (diagOffset i 1)) (rowsAt (ld2 arg5 D (diagOffset i 1)))) a

/-- and to the query gradient. -/
abbrev diagRows1 : FVec F S256x128 .f32 :=
  width512.rows (gradAt arg5 arg7 D Dl width512 (maskedWeights arg2 arg6 Q Ls width512 256#32 (extractStridedSlice S512x128 ![0, 0] v4 slices_S1024x128_o0_0_S512x128) (diagOffset i 1)) (extractStridedSlice S512x128 ![0, 0] v6 slices_S1024x128_o0_0_S512x128) (diagOffset i 1)) (extractStridedSlice S512x128 ![0, 0] v4 slices_S1024x128_o0_0_S512x128)

/-- Group 2 of the rows on the diagonal against the first 768 keys: added to what the loops carry, -/
abbrev diagAdd2 (a : Carried F) : Carried F :=
  add768 (width768.columns (gradAt arg5 arg7 D Dl width768 (maskedWeights arg2 arg6 Q Ls width768 512#32 (extractStridedSlice S768x128 ![0, 0] v4 slices_S1024x128_o0_0_S768x128) (diagOffset i 2)) (extractStridedSlice S768x128 ![0, 0] v6 slices_S1024x128_o0_0_S768x128) (diagOffset i 2)) (rowsAt (ld2 arg2 Q (diagOffset i 2)))) (width768.columns (maskedWeights arg2 arg6 Q Ls width768 512#32 (extractStridedSlice S768x128 ![0, 0] v4 slices_S1024x128_o0_0_S768x128) (diagOffset i 2)) (rowsAt (ld2 arg5 D (diagOffset i 2)))) a

/-- and to the query gradient. -/
abbrev diagRows2 : FVec F S256x128 .f32 :=
  width768.rows (gradAt arg5 arg7 D Dl width768 (maskedWeights arg2 arg6 Q Ls width768 512#32 (extractStridedSlice S768x128 ![0, 0] v4 slices_S1024x128_o0_0_S768x128) (diagOffset i 2)) (extractStridedSlice S768x128 ![0, 0] v6 slices_S1024x128_o0_0_S768x128) (diagOffset i 2)) (extractStridedSlice S768x128 ![0, 0] v4 slices_S1024x128_o0_0_S768x128)

/-- Group 3 of the rows on the diagonal against the first 1024 keys: added to what the loops carry, -/
abbrev diagAdd3 (a : Carried F) : Carried F :=
  addAll (width1024.columns (gradAt arg5 arg7 D Dl width1024 (maskedWeights arg2 arg6 Q Ls width1024 768#32 v4 (diagOffset i 3)) v6 (diagOffset i 3)) (rowsAt (ld2 arg2 Q (diagOffset i 3)))) (width1024.columns (maskedWeights arg2 arg6 Q Ls width1024 768#32 v4 (diagOffset i 3)) (rowsAt (ld2 arg5 D (diagOffset i 3)))) a

/-- and to the query gradient. -/
abbrev diagRows3 : FVec F S256x128 .f32 :=
  width1024.rows (gradAt arg5 arg7 D Dl width1024 (maskedWeights arg2 arg6 Q Ls width1024 768#32 v4 (diagOffset i 3)) v6 (diagOffset i 3)) v4

/-- What the loops carry after the diagonal. -/
abbrev diagCarried : Carried F :=
  (diagAdd3 i arg2 arg5 arg6 arg7 Q D Ls Dl v4 v6 (diagAdd2 i arg2 arg5 arg6 arg7 Q D Ls Dl v4 v6 (diagAdd1 i arg2 arg5 arg6 arg7 Q D Ls Dl v4 v6 (diagAdd0 i arg2 arg5 arg6 arg7 Q D Ls Dl v4 v6 (constant S256x128 .f32 0x00000000#32, constant S256x128 .f32 0x00000000#32, constant S256x128 .f32 0x00000000#32, constant S256x128 .f32 0x00000000#32, constant S256x128 .f32 0x00000000#32, constant S256x128 .f32 0x00000000#32, constant S256x128 .f32 0x00000000#32, constant S256x128 .f32 0x00000000#32)))))

/-- The stores of the diagonal. -/
abbrev diagPieces (f : BufTy.Contents (Elt F) arg9.view.ty) : List (View.Piece (Elt F) S1x8192x128 .f32) :=
  [addPiece arg9 (diagOffset i 3) (diagRows3 i arg2 arg5 arg6 arg7 Q D Ls Dl v4 v6) f, addPiece arg9 (diagOffset i 2) (diagRows2 i arg2 arg5 arg6 arg7 Q D Ls Dl v4 v6) f, addPiece arg9 (diagOffset i 1) (diagRows1 i arg2 arg5 arg6 arg7 Q D Ls Dl v4 v6) f, addPiece arg9 (diagOffset i 0) (diagRows0 i arg2 arg5 arg6 arg7 Q D Ls Dl v4 v6) f]

/-- The stores of the diagonal over the pieces `L` written before, each load reading what those before left. -/
abbrev diagOver (L : List (View.Piece (Elt F) S1x8192x128 .f32)) : List (View.Piece (Elt F) S1x8192x128 .f32) :=
  let L1 := addPiece arg9 (diagOffset i 0) (diagRows0 i arg2 arg5 arg6 arg7 Q D Ls Dl v4 v6) (arg9.view.writes (Elt F) arg9.view.junk L) :: L
  let L2 := addPiece arg9 (diagOffset i 1) (diagRows1 i arg2 arg5 arg6 arg7 Q D Ls Dl v4 v6) (arg9.view.writes (Elt F) arg9.view.junk L1) :: L1
  let L3 := addPiece arg9 (diagOffset i 2) (diagRows2 i arg2 arg5 arg6 arg7 Q D Ls Dl v4 v6) (arg9.view.writes (Elt F) arg9.view.junk L2) :: L2
  addPiece arg9 (diagOffset i 3) (diagRows3 i arg2 arg5 arg6 arg7 Q D Ls Dl v4 v6) (arg9.view.writes (Elt F) arg9.view.junk L3) :: L3

/-- The store of zeros into the query gradient. -/
abbrev zeroPiece : View.Piece (Elt F) S1x8192x128 .f32 :=
  ⟨Rect.unit (s := S1x8192x128) ![0, 0, 0] S1x8192x128.size inb_S1x8192x128_S1x8192x128_0_0_0, k0_pay437⟩

/-- The states the loops reach from contents `G` and a carried value: the narrow loop's, -/
abbrev narrowEnd (v258 : BitVec 32) (G : BufTy.Contents (Elt F) arg9.view.ty) : Carried F × List (View.Piece (Elt F) S1x8192x128 .f32) :=
  narrowState 𝒱 c bd i arg2 harg2 arg3 harg3 arg4 harg4 arg5 harg5 arg6 harg6 arg7 harg7 arg8 harg8 arg9 harg9 arg10 harg10 arg11 harg11 v4 v6 Q D Ls Dl v258 G (diagCarried i arg2 arg5 arg6 arg7 Q D Ls Dl v4 v6) (k0_t1_loop i).trips

/-- the wide loop's after it, -/
abbrev wideEnd (v257 : BitVec 32) (G : BufTy.Contents (Elt F) arg9.view.ty) (a : Carried F) : Carried F × List (View.Piece (Elt F) S1x8192x128 .f32) :=
  st_k0_t3 (F := F) 𝒱 c bd i arg2 harg2 arg3 harg3 arg4 harg4 arg5 harg5 arg6 harg6 arg7 harg7 arg8 harg8 arg9 harg9 arg10 harg10 arg11 harg11 v4 v6 v257 Q D Ls Dl G a (k0_t3_loop i).trips

/-- and the rest of the wide loop's. -/
abbrev restEnd (v272 : BitVec 32) (G : BufTy.Contents (Elt F) arg9.view.ty) (a : Carried F) : Carried F × List (View.Piece (Elt F) S1x8192x128 .f32) :=
  st_k0_t4 (F := F) 𝒱 c bd i arg2 harg2 arg3 harg3 arg4 harg4 arg5 harg5 arg6 harg6 arg7 harg7 arg8 harg8 arg9 harg9 arg10 harg10 arg11 harg11 v4 v6 v272 Q D Ls Dl G a (k0_t4_loop i).trips

/-- The store of a whole block of the key gradient from what is carried, -/
abbrev keyPiece (a b c d : FVec F S256x128 .f32) : View.Piece (Elt F) S1x1024x128 .f32 :=
  ⟨Rect.unit (s := S1x1024x128) ![0, 0, 0] S1x1024x128.size inb_S1x1024x128_S1x1024x128_0_0_0, k0_pay5 a b c d⟩

/-- and of the value gradient. -/
abbrev valuePiece (a b c d : FVec F S256x128 .f32) : View.Piece (Elt F) S1x1024x128 .f32 :=
  ⟨Rect.unit (s := S1x1024x128) ![0, 0, 0] S1x1024x128.size inb_S1x1024x128_S1x1024x128_0_0_0, k0_pay6 a b c d⟩

theorem start_eq (hc : Start i) : ∃ (v257 v258 v272 : BitVec 32) (n w r : Carried F × List (View.Piece (Elt F) S1x8192x128 .f32)) (G₁ G₂ : BufTy.Contents (Elt F) arg9.view.ty) (a₁ a₂ : Carried F),
    (startRun (F := F) 𝒱 c bd i arg2 harg2 arg3 harg3 arg4 harg4 arg5 harg5 arg6 harg6 arg7 harg7 arg8 harg8 arg9 harg9 arg10 harg10 arg11 harg11 Q K Vv D Ls Dl hc).1 = r.2 ++ (w.2 ++ (n.2 ++ (diagOver i arg2 arg5 arg6 arg7 arg9 Q D Ls Dl (blockOf arg3 K) (blockOf arg4 Vv) [zeroPiece])))
    ∧ n = narrowEnd 𝒱 c bd i arg2 harg2 arg3 harg3 arg4 harg4 arg5 harg5 arg6 harg6 arg7 harg7 arg8 harg8 arg9 harg9 arg10 harg10 arg11 harg11 Q D Ls Dl (blockOf arg3 K) (blockOf arg4 Vv) v258 (arg9.view.writes (Elt F) arg9.view.junk (diagOver i arg2 arg5 arg6 arg7 arg9 Q D Ls Dl (blockOf arg3 K) (blockOf arg4 Vv) [zeroPiece]))
    ∧ w = (wideEnd 𝒱 c bd i arg2 harg2 arg3 harg3 arg4 harg4 arg5 harg5 arg6 harg6 arg7 harg7 arg8 harg8 arg9 harg9 arg10 harg10 arg11 harg11 Q D Ls Dl (blockOf arg3 K) (blockOf arg4 Vv) v257 G₁ a₁)
    ∧ r = (restEnd 𝒱 c bd i arg2 harg2 arg3 harg3 arg4 harg4 arg5 harg5 arg6 harg6 arg7 harg7 arg8 harg8 arg9 harg9 arg10 harg10 arg11 harg11 Q D Ls Dl (blockOf arg3 K) (blockOf arg4 Vv) v272 G₂ a₂)
    ∧ G₁ = arg9.view.writes (Elt F) arg9.view.junk (n.2 ++ (diagOver i arg2 arg5 arg6 arg7 arg9 Q D Ls Dl (blockOf arg3 K) (blockOf arg4 Vv) [zeroPiece]))
    ∧ a₁ = n.1
    ∧ G₂ = arg9.view.writes (Elt F) arg9.view.junk (w.2 ++ (n.2 ++ (diagOver i arg2 arg5 arg6 arg7 arg9 Q D Ls Dl (blockOf arg3 K) (blockOf arg4 Vv) [zeroPiece])))
    ∧ a₂ = w.1
    ∧ (startRun (F := F) 𝒱 c bd i arg2 harg2 arg3 harg3 arg4 harg4 arg5 harg5 arg6 harg6 arg7 harg7 arg8 harg8 arg9 harg9 arg10 harg10 arg11 harg11 Q K Vv D Ls Dl hc).2.1 = [keyPiece r.1.1 r.1.2.1 r.1.2.2.1 r.1.2.2.2.1]
    ∧ (startRun (F := F) 𝒱 c bd i arg2 harg2 arg3 harg3 arg4 harg4 arg5 harg5 arg6 harg6 arg7 harg7 arg8 harg8 arg9 harg9 arg10 harg10 arg11 harg11 Q K Vv D Ls Dl hc).2.2.1 = [valuePiece r.1.2.2.2.2.1 r.1.2.2.2.2.2.1 r.1.2.2.2.2.2.2.1 r.1.2.2.2.2.2.2.2] := by
  unfold startRun
  refine ⟨_, _, _, _, _, _, _, _, _, _, rfl, rfl, rfl, rfl, rfl, ?_, rfl, ?_, rfl, rfl⟩
  · refine Prod.ext ?_ (Prod.ext ?_ (Prod.ext ?_ (Prod.ext ?_ (Prod.ext ?_ (Prod.ext ?_ (Prod.ext ?_ ?_)))))) <;> dsimp only
  · refine Prod.ext ?_ (Prod.ext ?_ (Prod.ext ?_ (Prod.ext ?_ (Prod.ext ?_ (Prod.ext ?_ (Prod.ext ?_ ?_)))))) <;> dsimp only

theorem next_eq (hc : ¬Start i) (f : BufTy.Contents (Elt F) arg9.view.ty) : ∃ (v257 v258 v272 : BitVec 32) (n w r : Carried F × List (View.Piece (Elt F) S1x8192x128 .f32)) (G₁ G₂ : BufTy.Contents (Elt F) arg9.view.ty) (a₁ a₂ : Carried F),
    (nextRun (F := F) 𝒱 c bd i arg2 harg2 arg3 harg3 arg4 harg4 arg5 harg5 arg6 harg6 arg7 harg7 arg8 harg8 arg9 harg9 arg10 harg10 arg11 harg11 Q K Vv D Ls Dl hc).1 f = r.2 ++ (w.2 ++ (n.2 ++ (diagPieces i arg2 arg5 arg6 arg7 arg9 Q D Ls Dl (blockOf arg3 K) (blockOf arg4 Vv) f)))
    ∧ n = narrowEnd 𝒱 c bd i arg2 harg2 arg3 harg3 arg4 harg4 arg5 harg5 arg6 harg6 arg7 harg7 arg8 harg8 arg9 harg9 arg10 harg10 arg11 harg11 Q D Ls Dl (blockOf arg3 K) (blockOf arg4 Vv) v258 (arg9.view.writes (Elt F) f (diagPieces i arg2 arg5 arg6 arg7 arg9 Q D Ls Dl (blockOf arg3 K) (blockOf arg4 Vv) f))
    ∧ w = (wideEnd 𝒱 c bd i arg2 harg2 arg3 harg3 arg4 harg4 arg5 harg5 arg6 harg6 arg7 harg7 arg8 harg8 arg9 harg9 arg10 harg10 arg11 harg11 Q D Ls Dl (blockOf arg3 K) (blockOf arg4 Vv) v257 G₁ a₁)
    ∧ r = (restEnd 𝒱 c bd i arg2 harg2 arg3 harg3 arg4 harg4 arg5 harg5 arg6 harg6 arg7 harg7 arg8 harg8 arg9 harg9 arg10 harg10 arg11 harg11 Q D Ls Dl (blockOf arg3 K) (blockOf arg4 Vv) v272 G₂ a₂)
    ∧ G₁ = arg9.view.writes (Elt F) f (n.2 ++ (diagPieces i arg2 arg5 arg6 arg7 arg9 Q D Ls Dl (blockOf arg3 K) (blockOf arg4 Vv) f))
    ∧ a₁ = n.1
    ∧ G₂ = arg9.view.writes (Elt F) f (w.2 ++ (n.2 ++ (diagPieces i arg2 arg5 arg6 arg7 arg9 Q D Ls Dl (blockOf arg3 K) (blockOf arg4 Vv) f)))
    ∧ a₂ = w.1
    ∧ (nextRun (F := F) 𝒱 c bd i arg2 harg2 arg3 harg3 arg4 harg4 arg5 harg5 arg6 harg6 arg7 harg7 arg8 harg8 arg9 harg9 arg10 harg10 arg11 harg11 Q K Vv D Ls Dl hc).2.1 f = [keyPiece r.1.1 r.1.2.1 r.1.2.2.1 r.1.2.2.2.1]
    ∧ (nextRun (F := F) 𝒱 c bd i arg2 harg2 arg3 harg3 arg4 harg4 arg5 harg5 arg6 harg6 arg7 harg7 arg8 harg8 arg9 harg9 arg10 harg10 arg11 harg11 Q K Vv D Ls Dl hc).2.2.1 f = [valuePiece r.1.2.2.2.2.1 r.1.2.2.2.2.2.1 r.1.2.2.2.2.2.2.1 r.1.2.2.2.2.2.2.2] := by
  unfold nextRun
  refine ⟨_, _, _, _, _, _, _, _, _, _, rfl, rfl, rfl, rfl, rfl, ?_, rfl, ?_, rfl, rfl⟩
  · refine Prod.ext ?_ (Prod.ext ?_ (Prod.ext ?_ (Prod.ext ?_ (Prod.ext ?_ (Prod.ext ?_ (Prod.ext ?_ ?_)))))) <;> dsimp only
  · refine Prod.ext ?_ (Prod.ext ?_ (Prod.ext ?_ (Prod.ext ?_ (Prod.ext ?_ (Prod.ext ?_ (Prod.ext ?_ ?_)))))) <;> dsimp only

end Cert.AttnIdeal.Attn

end
-- ==== Proof.AttnReads.lean ====
module

public import proofs.«01_k».proof.Proof.AttnBlocks
public import Idealize.ShloMosaic.Lib.Pointwise
public import Idealize.ShloMosaic.Lib.Pipeline.ValueKit

@[expose] public section

set_option maxRecDepth 16384
set_option warn.classDefReducibility false

noncomputable section

namespace Cert.AttnIdeal.Attn

open Idealize.ShloMosaic Idealize.ShloMosaic.TcCoe Idealize.ShloMosaic.Tactic Cert.AttnIdeal.Gen
open Idealize.SL.Sem

/-- The mask's comparison of words is the comparison of numbers. -/
theorem mask_word (r c g : ℕ) (hr : r < 256) (hc : c < 1024) (hg : g < 4) {α : Type} (x y : α) :
    Scalar.select (IntOp.cmpi CmpIPredicate.sle (BitVec.ofNat 32 c) (IntOp.addi (BitVec.ofNat 32 r) (BitVec.ofNat 32 (256 * g)))) x y = if c ≤ r + 256 * g then x else y := by
  have h1 : (BitVec.ofNat 32 c).toInt = c := by
    rw [BitVec.toInt_ofNat', Int.bmod_def]; norm_num; omega
  have h2 : (BitVec.ofNat 32 r + BitVec.ofNat 32 (256 * g)).toInt = r + 256 * g := by
    rw [← BitVec.ofNat_add, BitVec.toInt_ofNat', Int.bmod_def]; norm_num; omega
  have h3 : BitVec.sle (BitVec.ofNat 32 c) (BitVec.ofNat 32 r + BitVec.ofNat 32 (256 * g)) = decide (c ≤ r + 256 * g) := by
    rw [BitVec.sle, h1, h2]
    congr 1
    exact propext ⟨fun h => by omega, fun h => by omega⟩
  have h4 : IntOp.cmpi CmpIPredicate.sle (BitVec.ofNat 32 c) (IntOp.addi (BitVec.ofNat 32 r) (BitVec.ofNat 32 (256 * g))) = BitVec.ofBool (decide (c ≤ r + 256 * g)) := by
    rw [← h3]; rfl
  rw [h4]
  by_cases h : c ≤ r + 256 * g
  · simp [h, Scalar.select]
  · simp [h, Scalar.select]

/-- What the products, the mask and the weights of a width are at an index, over the extended reals. -/
structure Width.Reads {n : ℕ} (w : Width n) : Prop where
  scores : ∀ (q : FVec Ideal S256x128 .bf16) (K : FVec Ideal ⟨2, ![n, 128]⟩ .bf16) (r : Fin 256) (c : Fin n), w.scores q K (ix2 r c) = ∑ d : Fin 128, q (ix2 r d) * K (ix2 c d)
  masked : ∀ (g : Fin 4) (s : FVec Ideal ⟨2, ![256, n]⟩ .f32) (r : Fin 256) (c : Fin n), w.masked (BitVec.ofNat 32 (256 * g.val)) s (ix2 r c) = if c.val ≤ r.val + 256 * g.val then s (ix2 r c) else Named.named κ "mask" 0xF149F2CA#32
  weights : ∀ (s : FVec Ideal ⟨2, ![256, n]⟩ .f32) (l : FVec Ideal S256x1 .f32) (r : Fin 256) (c : Fin n), w.weights s l (ix2 r c) = FloatOps.exp2 (F := Ideal) (φ := .f32) (s (ix2 r c) - l (ix2 r 0))
  scoreGrad : ∀ (p : FVec Ideal ⟨2, ![256, n]⟩ .f32) (V : FVec Ideal ⟨2, ![n, 128]⟩ .bf16) (o : FVec Ideal S256x128 .bf16) (d : FVec Ideal S256x1 .f32) (r : Fin 256) (c : Fin n),
    w.scoreGrad p V o d (ix2 r c) = p (ix2 r c) * ((∑ e : Fin 128, o (ix2 r e) * V (ix2 c e)) - d (ix2 r 0))
  columns : ∀ (x : FVec Ideal ⟨2, ![256, n]⟩ .f32) (y : FVec Ideal S256x128 .bf16) (c : Fin n) (d : Fin 128), w.columns x y (ix2 c d) = ∑ r : Fin 256, x (ix2 r c) * y (ix2 r d)
  rows : ∀ (x : FVec Ideal ⟨2, ![256, n]⟩ .f32) (K : FVec Ideal ⟨2, ![n, 128]⟩ .bf16) (r : Fin 256) (d : Fin 128), w.rows x K (ix2 r d) = (∑ c : Fin n, x (ix2 r c) * K (ix2 c d)) * Named.named κ "scale" 0x3DD105EC#32

theorem reads256 : width256.Reads where
  scores q K r c := by unfold Width.scores width256; pointwise
  masked g s r c := by
    unfold Width.masked width256
    pointwise
    exact mask_word _ _ _ r.isLt (by have := c.isLt; omega) g.isLt _ _
  weights s l r c := by unfold Width.weights width256; pointwise
  scoreGrad p V o d r c := by unfold Width.scoreGrad Width.scores width256; pointwise
  columns x y c d := by unfold Width.columns width256; pointwise
  rows x K r d := by unfold Width.rows width256; pointwise

theorem reads512 : width512.Reads where
  scores q K r c := by unfold Width.scores width512; pointwise
  masked g s r c := by
    unfold Width.masked width512
    pointwise
    exact mask_word _ _ _ r.isLt (by have := c.isLt; omega) g.isLt _ _
  weights s l r c := by unfold Width.weights width512; pointwise
  scoreGrad p V o d r c := by unfold Width.scoreGrad Width.scores width512; pointwise
  columns x y c d := by unfold Width.columns width512; pointwise
  rows x K r d := by unfold Width.rows width512; pointwise

theorem reads768 : width768.Reads where
  scores q K r c := by unfold Width.scores width768; pointwise
  masked g s r c := by
    unfold Width.masked width768
    pointwise
    exact mask_word _ _ _ r.isLt (by have := c.isLt; omega) g.isLt _ _
  weights s l r c := by unfold Width.weights width768; pointwise
  scoreGrad p V o d r c := by unfold Width.scoreGrad Width.scores width768; pointwise
  columns x y c d := by unfold Width.columns width768; pointwise
  rows x K r d := by unfold Width.rows width768; pointwise

theorem reads1024 : width1024.Reads where
  scores q K r c := by unfold Width.scores width1024; pointwise
  masked g s r c := by
    unfold Width.masked width1024
    pointwise
    exact mask_word _ _ _ r.isLt (by have := c.isLt; omega) g.isLt _ _
  weights s l r c := by unfold Width.weights width1024; pointwise
  scoreGrad p V o d r c := by unfold Width.scoreGrad Width.scores width1024; pointwise
  columns x y c d := by unfold Width.columns width1024; pointwise
  rows x K r d := by unfold Width.rows width1024; pointwise

end Cert.AttnIdeal.Attn

end
-- ==== Proof.AttnSums.lean ====
module

public import proofs.«01_k».proof.Proof.AttnReads

@[expose] public section

set_option maxRecDepth 16384

noncomputable section

namespace Cert.AttnIdeal.Attn

open Idealize.ShloMosaic Idealize.ShloMosaic.TcCoe Idealize.ShloMosaic.Tactic Cert.AttnIdeal.Gen
open Idealize.SL.Sem

/-- What one point of the grid works on: all the rows of the queries and of the cotangent, the two row statistics, and the keys and values of one block of 1024 columns. -/
structure Point where
  block : ℕ
  Q : ℕ → Fin 128 → EReal
  O : ℕ → Fin 128 → EReal
  L : ℕ → EReal
  D : ℕ → EReal
  K : Fin 1024 → Fin 128 → EReal
  V : Fin 1024 → Fin 128 → EReal

namespace Point

variable (P : Point)

/-- The weight of a column of the block in a row: zero right of the diagonal. -/
def wt (i : ℕ) (c : Fin 1024) : EReal := if 1024 * P.block + c.val ≤ i then FloatOps.exp2 (F := Ideal) (φ := .f32) ((∑ d : Fin 128, P.Q i d * P.K c d) - P.L i) else 0

/-- The gradient at the score. -/
def sg (i : ℕ) (c : Fin 1024) : EReal := P.wt i c * ((∑ e : Fin 128, P.O i e * P.V c e) - P.D i)

/-- What a group of 256 rows adds to the gradient of the values, -/
def valueSum (g : ℕ) (c : Fin 1024) (e : Fin 128) : EReal := ∑ r : Fin 256, P.wt (256 * g + r.val) c * P.O (256 * g + r.val) e

/-- to the gradient of the keys, -/
def keySum (g : ℕ) (c : Fin 1024) (d : Fin 128) : EReal := ∑ r : Fin 256, P.sg (256 * g + r.val) c * P.Q (256 * g + r.val) d

/-- and what the block adds to the gradient of a query row. -/
def queryAt (i : ℕ) (d : Fin 128) : EReal := (∑ c : Fin 1024, P.sg i c * P.K c d) * Named.named (F := Ideal) κ (φ := .f32) "scale" 0x3DD105EC#32

theorem wt_eq_zero {i : ℕ} {c : Fin 1024} (h : i < 1024 * P.block + c.val) : P.wt i c = 0 := if_neg (by omega)

theorem sg_eq_zero {i : ℕ} {c : Fin 1024} (h : i < 1024 * P.block + c.val) : P.sg i c = 0 := by
  unfold sg; rw [P.wt_eq_zero h, zero_mul]

theorem valueSum_eq_zero {g : ℕ} {c : Fin 1024} (e : Fin 128) (h : ∀ r : Fin 256, P.wt (256 * g + r.val) c = 0) : P.valueSum g c e = 0 :=
  Finset.sum_eq_zero fun r _ => by rw [h r, zero_mul]

theorem keySum_eq_zero {g : ℕ} {c : Fin 1024} (d : Fin 128) (h : ∀ r : Fin 256, P.wt (256 * g + r.val) c = 0) : P.keySum g c d = 0 :=
  Finset.sum_eq_zero fun r _ => by unfold sg; rw [h r, zero_mul, zero_mul]

end Point

/-- A sum over the first `n` columns of a function that vanishes past them. -/
theorem sum_first {n : ℕ} (hn : n ≤ 1024) (f : Fin 1024 → EReal) (h : ∀ c : Fin 1024, n ≤ c.val → f c = 0) :
    ∑ c : Fin n, f (Fin.castLE hn c) = ∑ c : Fin 1024, f c := by
  refine Finset.sum_of_injOn (Fin.castLE hn) (fun a _ b _ e => Fin.castLE_injective hn e) (fun a _ => Finset.mem_coe.mpr (Finset.mem_univ _)) (fun c _ hc => h c ?_) (fun _ _ => rfl)
  by_contra hlt
  exact hc ⟨⟨c.val, by omega⟩, Finset.mem_coe.mpr (Finset.mem_univ _), Fin.ext rfl⟩

/-- Weights below zero's exponent: a masked score has weight zero. -/
theorem exp2_mask (x : EReal) : FloatOps.exp2 (F := Ideal) (φ := .f32) (Named.named (F := Ideal) κ (φ := .f32) "mask" 0xF149F2CA#32 - x) = 0 := by
  have e : Named.named (F := Ideal) κ (φ := .f32) "mask" 0xF149F2CA#32 = (⊥ : EReal) := rfl
  rw [e]
  have : (⊥ : EReal) - x = ⊥ := by rw [sub_eq_add_neg, EReal.bot_add]
  refine Eq.trans (congrArg _ this) ?_
  rfl

/-- What the loads of 256 rows at an offset read, and the blocks. -/
structure Loaded (P : Point) (arg2 : Memref sig .tc .vmem S1x8192x128 .bf16) (arg5 : Memref sig .tc .vmem S1x8192x128 .bf16) (arg6 arg7 : Memref sig .tc .vmem S1x8192x128 .f32)
    (Q : BufTy.Contents (Elt Ideal) arg2.view.ty) (D : BufTy.Contents (Elt Ideal) arg5.view.ty) (Ls : BufTy.Contents (Elt Ideal) arg6.view.ty) (Dl : BufTy.Contents (Elt Ideal) arg7.view.ty)
    (m : ℕ) (o : Offset) : Prop where
  q : ∀ (r : Fin 256) (d : Fin 128), rowsAt (ld2 arg2 Q o) (ix2 r d) = P.Q (256 * m + r.val) d
  cot : ∀ (r : Fin 256) (d : Fin 128), rowsAt (ld2 arg5 D o) (ix2 r d) = P.O (256 * m + r.val) d
  l : ∀ r : Fin 256, statAt (ld2 arg6 Ls o) (ix2 r 0) = P.L (256 * m + r.val)
  d : ∀ r : Fin 256, statAt (ld2 arg7 Dl o) (ix2 r 0) = P.D (256 * m + r.val)

/-- Weights of the rows of a group against the first `n` columns, the others' weights being zero. -/
structure Weighs (P : Point) {n : ℕ} (hn : n ≤ 1024) (m : ℕ) (p : FVec Ideal ⟨2, ![256, n]⟩ .f32) : Prop where
  inside : ∀ (r : Fin 256) (c : Fin n), p (ix2 r c) = P.wt (256 * m + r.val) (Fin.castLE hn c)
  outside : ∀ (r : Fin 256) (c : Fin 1024), n ≤ c.val → P.wt (256 * m + r.val) c = 0

section

variable {P : Point} {arg2 : Memref sig .tc .vmem S1x8192x128 .bf16} {arg5 : Memref sig .tc .vmem S1x8192x128 .bf16} {arg6 arg7 : Memref sig .tc .vmem S1x8192x128 .f32}
  {Q : BufTy.Contents (Elt Ideal) arg2.view.ty} {D : BufTy.Contents (Elt Ideal) arg5.view.ty} {Ls : BufTy.Contents (Elt Ideal) arg6.view.ty} {Dl : BufTy.Contents (Elt Ideal) arg7.view.ty}
  {m : ℕ} {o : Offset} (hl : Loaded P arg2 arg5 arg6 arg7 Q D Ls Dl m o)
  {n : ℕ} (hn : n ≤ 1024) {w : Width n} (hw : w.Reads) {K V : FVec Ideal ⟨2, ![n, 128]⟩ .bf16}
  (hK : ∀ (c : Fin n) (d : Fin 128), K (ix2 c d) = P.K (Fin.castLE hn c) d) (hV : ∀ (c : Fin n) (d : Fin 128), V (ix2 c d) = P.V (Fin.castLE hn c) d)

include hl hw hK

/-- The weights of rows below the whole block. -/
theorem weighs_open (e : n = 1024) (hm : 4 * P.block + 4 ≤ m) : Weighs P hn m (openWeights arg2 arg6 Q Ls w K o) where
  inside r c := by
    show w.weights _ _ _ = _
    rw [hw.weights, hw.scores, hl.l]
    unfold Point.wt
    rw [if_pos (by have := c.isLt; simp only [Fin.val_castLE]; omega)]
    simp only [hl.q, hK]
  outside r c h := by have := c.isLt; omega

/-- The weights of rows on the diagonal. -/
theorem weighs_masked (g : Fin 4) (e : n = 256 * (g.val + 1)) (hm : m = 4 * P.block + g.val) : Weighs P hn m (maskedWeights arg2 arg6 Q Ls w (BitVec.ofNat 32 (256 * g.val)) K o) where
  inside r c := by
    show w.weights _ _ _ = _
    rw [hw.weights, hw.masked, hw.scores, hl.l]
    unfold Point.wt
    by_cases h : c.val ≤ r.val + 256 * g.val
    · rw [if_pos h, if_pos (by simp only [Fin.val_castLE]; omega)]
      simp only [hl.q, hK]
    · rw [if_neg h, if_neg (by simp only [Fin.val_castLE]; omega)]
      exact exp2_mask _
  outside r c h := P.wt_eq_zero (by have := r.isLt; omega)

include hV in
theorem grad_at {p : FVec Ideal ⟨2, ![256, n]⟩ .f32} (hp : Weighs P hn m p) (r : Fin 256) (c : Fin n) :
    gradAt arg5 arg7 D Dl w p V o (ix2 r c) = P.sg (256 * m + r.val) (Fin.castLE hn c) := by
  show w.scoreGrad _ _ _ _ _ = _
  rw [hw.scoreGrad, hp.inside, hl.d]
  unfold Point.sg
  simp only [hl.cot, hV]

include hV in
theorem key_columns {p : FVec Ideal ⟨2, ![256, n]⟩ .f32} (hp : Weighs P hn m p) (c : Fin n) (d : Fin 128) :
    w.columns (gradAt arg5 arg7 D Dl w p V o) (rowsAt (ld2 arg2 Q o)) (ix2 c d) = P.keySum m (Fin.castLE hn c) d := by
  rw [hw.columns]
  unfold Point.keySum
  exact Finset.sum_congr rfl fun r _ => by rw [grad_at hl hn hw hK hV hp, hl.q]

omit hK in
theorem value_columns {p : FVec Ideal ⟨2, ![256, n]⟩ .f32} (hp : Weighs P hn m p) (c : Fin n) (d : Fin 128) :
    w.columns p (rowsAt (ld2 arg5 D o)) (ix2 c d) = P.valueSum m (Fin.castLE hn c) d := by
  rw [hw.columns]
  unfold Point.valueSum
  exact Finset.sum_congr rfl fun r _ => by rw [hp.inside, hl.cot]

include hV in
theorem query_rows {p : FVec Ideal ⟨2, ![256, n]⟩ .f32} (hp : Weighs P hn m p) (r : Fin 256) (d : Fin 128) :
    w.rows (gradAt arg5 arg7 D Dl w p V o) K (ix2 r d) = P.queryAt (256 * m + r.val) d := by
  rw [hw.rows]
  unfold Point.queryAt
  rw [← sum_first hn (fun c => P.sg (256 * m + r.val) c * P.K c d) (fun c hc => by unfold Point.sg; rw [hp.outside r c hc, zero_mul, zero_mul])]
  simp only [grad_at hl hn hw hK hV hp, hK]

end

/-- The carried blocks of the key gradient, -/
def keyAt (a : Carried Ideal) : Fin 4 → FVec Ideal S256x128 .f32 := ![a.1, a.2.1, a.2.2.1, a.2.2.2.1]

/-- and of the value gradient. -/
def valueAt (a : Carried Ideal) : Fin 4 → FVec Ideal S256x128 .f32 := ![a.2.2.2.2.1, a.2.2.2.2.2.1, a.2.2.2.2.2.2.1, a.2.2.2.2.2.2.2]

/-- A column of the block by its part of 256. -/
def col (t : Fin 4) (r : Fin 256) : Fin 1024 := ⟨256 * t.val + r.val, by have := t.isLt; have := r.isLt; omega⟩

/-- What adding `dk` and `dv` of the first `n` columns does to what is carried. -/
structure Adds {n : ℕ} (dk dv : FVec Ideal ⟨2, ![n, 128]⟩ .f32) (a b : Carried Ideal) : Prop where
  key : ∀ (t : Fin 4) (r : Fin 256) (d : Fin 128), keyAt b t (ix2 r d) = keyAt a t (ix2 r d) + if h : (col t r).val < n then dk (ix2 ⟨(col t r).val, h⟩ d) else 0
  value : ∀ (t : Fin 4) (r : Fin 256) (d : Fin 128), valueAt b t (ix2 r d) = valueAt a t (ix2 r d) + if h : (col t r).val < n then dv (ix2 ⟨(col t r).val, h⟩ d) else 0

theorem adds256 (dk dv : FVec Ideal S256x128 .f32) (a : Carried Ideal) : Adds dk dv a (add256 dk dv a) := by
  constructor <;> intro t r d <;> have hr := r.isLt <;> fin_cases t <;> first
    | (rw [dif_neg (by simp [col] <;> omega), add_zero]; rfl)
    | (rw [dif_pos (by simp [col] <;> omega)]; simp [keyAt, valueAt, col, add256]; pointwise)

theorem adds512 (dk dv : FVec Ideal S512x128 .f32) (a : Carried Ideal) : Adds dk dv a (add512 dk dv a) := by
  constructor <;> intro t r d <;> have hr := r.isLt <;> fin_cases t <;> first
    | (rw [dif_neg (by simp [col] <;> omega), add_zero]; rfl)
    | (rw [dif_pos (by simp [col] <;> omega)]; simp [keyAt, valueAt, col, add512]; pointwise)

theorem adds768 (dk dv : FVec Ideal S768x128 .f32) (a : Carried Ideal) : Adds dk dv a (add768 dk dv a) := by
  constructor <;> intro t r d <;> have hr := r.isLt <;> fin_cases t <;> first
    | (rw [dif_neg (by simp [col] <;> omega), add_zero]; rfl)
    | (rw [dif_pos (by simp [col] <;> omega)]; simp [keyAt, valueAt, col, add768]; pointwise)

theorem adds1024 (dk dv : FVec Ideal S1024x128 .f32) (a : Carried Ideal) : Adds dk dv a (addAll dk dv a) := by
  constructor <;> intro t r d <;> have hr := r.isLt <;> fin_cases t <;> first
    | (rw [dif_neg (by simp [col] <;> omega), add_zero]; rfl)
    | (rw [dif_pos (by simp [col] <;> omega)]; simp [keyAt, valueAt, col, addAll]; pointwise)

end Cert.AttnIdeal.Attn

end
-- ==== Proof.AttnState.lean ====
module

public import proofs.«01_k».proof.Proof.AttnSums

@[expose] public section

set_option maxRecDepth 16384

noncomputable section

namespace Cert.AttnIdeal.Attn

open Idealize.ShloMosaic Idealize.ShloMosaic.TcCoe Idealize.ShloMosaic.Tactic Cert.AttnIdeal.Gen
open Idealize.SL.Sem

/-- What is carried after the groups of rows below `m`, from the diagonal on. -/
structure Gathered (P : Point) (m : ℕ) (a : Carried Ideal) : Prop where
  key : ∀ (t : Fin 4) (r : Fin 256) (d : Fin 128), keyAt a t (ix2 r d) = ∑ g ∈ Finset.Ico (4 * P.block) m, P.keySum g (col t r) d
  value : ∀ (t : Fin 4) (r : Fin 256) (d : Fin 128), valueAt a t (ix2 r d) = ∑ g ∈ Finset.Ico (4 * P.block) m, P.valueSum g (col t r) d

/-- One more group. -/
theorem Gathered.succ {P : Point} {m : ℕ} {a b : Carried Ideal} (h : Gathered P m a) (hm : 4 * P.block ≤ m) {n : ℕ} (hn : n ≤ 1024) {dk dv : FVec Ideal ⟨2, ![n, 128]⟩ .f32} (hab : Adds dk dv a b)
    (hk : ∀ (c : Fin n) (d : Fin 128), dk (ix2 c d) = P.keySum m (Fin.castLE hn c) d) (hv : ∀ (c : Fin n) (d : Fin 128), dv (ix2 c d) = P.valueSum m (Fin.castLE hn c) d)
    (hz : ∀ (r : Fin 256) (c : Fin 1024), n ≤ c.val → P.wt (256 * m + r.val) c = 0) : Gathered P (m + 1) b where
  key t r d := by
    rw [hab.key, h.key, Finset.sum_Ico_succ_top hm]
    congr 1
    by_cases hc : (col t r).val < n
    · rw [dif_pos hc, hk]; rfl
    · rw [dif_neg hc, P.keySum_eq_zero d fun r' => hz r' _ (by omega)]
  value t r d := by
    rw [hab.value, h.value, Finset.sum_Ico_succ_top hm]
    congr 1
    by_cases hc : (col t r).val < n
    · rw [dif_pos hc, hv]; rfl
    · rw [dif_neg hc, P.valueSum_eq_zero d fun r' => hz r' _ (by omega)]

theorem gathered_zero (P : Point) (z : FVec Ideal S256x128 .f32) (hz : ∀ (r : Fin 256) (d : Fin 128), z (ix2 r d) = 0) : Gathered P (4 * P.block) (z, z, z, z, z, z, z, z) where
  key t r d := by rw [Finset.Ico_self, Finset.sum_empty]; fin_cases t <;> exact hz r d
  value t r d := by rw [Finset.Ico_self, Finset.sum_empty]; fin_cases t <;> exact hz r d

variable (arg9 : Memref sig .tc .vmem S1x8192x128 .f32)

/-- The contents of the query gradient after those groups, from contents that read `old`. -/
def Grown (P : Point) (old : Fin 8192 → Fin 128 → EReal) (m : ℕ) (f : BufTy.Contents (Elt Ideal) arg9.view.ty) : Prop :=
  ∀ (i : Fin 8192) (d : Fin 128), arg9.view.read (Elt Ideal) f (ix3 0 i d) = old i d + if 4 * P.block ≤ i.val / 256 ∧ i.val / 256 < m then P.queryAt i.val d else 0

variable {arg9}

theorem grown_self (P : Point) {old : Fin 8192 → Fin 128 → EReal} {f : BufTy.Contents (Elt Ideal) arg9.view.ty} (h : ∀ i d, arg9.view.read (Elt Ideal) f (ix3 0 i d) = old i d) :
    Grown arg9 P old (4 * P.block) f := fun i d => by rw [if_neg (by omega), add_zero]; exact h i d

/-- The row of a load. -/
theorem load_row {o : Offset} {m : ℕ} (ho : o.1 = ![0, 256 * m, 0]) (r : Fin 256) : 256 * m + r.val < 8192 := by
  have h := o.2 1
  rw [ho] at h
  have h' : 256 * m + 256 ≤ 8192 := h
  have := r.isLt
  omega

theorem load_at {e : EltTy} (a : Memref sig .tc .vmem S1x8192x128 e) (X : BufTy.Contents (Elt Ideal) a.view.ty) {o : Offset} {m : ℕ} (ho : o.1 = ![0, 256 * m, 0]) (r : Fin 256) (d : Fin 128) :
    ld2 a X o (ix3 0 r d) = a.view.read (Elt Ideal) X (ix3 0 ⟨256 * m + r.val, load_row ho r⟩ d) := by
  refine congrArg (a.view.read (Elt Ideal) X) (funext fun x => Fin.ext ?_)
  show o.1 x + 1 * ((ix3 0 r d : S1x256x128.Idx) x).val = _
  rw [ho]
  match x with
  | ⟨0, _⟩ => rfl
  | ⟨1, _⟩ => show 256 * m + 1 * r.val = 256 * m + r.val; omega
  | ⟨2, _⟩ => show 0 + 1 * d.val = d.val; omega

theorem rowsAt_at {e : EltTy} (X : Vec Ideal S1x256x128 e) (r : Fin 256) (d : Fin 128) : rowsAt X (ix2 r d) = X (ix3 0 r d) := by
  unfold rowsAt
  pointwise

theorem statAt_at (X : Vec Ideal S1x256x128 .f32) (r : Fin 256) : statAt X (ix2 r 0) = X (ix3 0 r 0) := by
  unfold statAt rowsAt
  pointwise

/-- The store of one more group. -/
theorem Grown.succ {P : Point} {old : Fin 8192 → Fin 128 → EReal} {m : ℕ} {f : BufTy.Contents (Elt Ideal) arg9.view.ty} (h : Grown arg9 P old m f) (hm : 4 * P.block ≤ m)
    {o : Offset} (ho : o.1 = ![0, 256 * m, 0]) {x : FVec Ideal S256x128 .f32} (hx : ∀ (r : Fin 256) (d : Fin 128), x (ix2 r d) = P.queryAt (256 * m + r.val) d)
    {g : BufTy.Contents (Elt Ideal) arg9.view.ty} (hg : ∀ (i : Fin 8192) (d : Fin 128), i.val / 256 = m → arg9.view.read (Elt Ideal) g (ix3 0 i d) = old i d)
    {L : List (View.Piece (Elt Ideal) S1x8192x128 .f32)} {G : BufTy.Contents (Elt Ideal) arg9.view.ty} (hf : f = arg9.view.writes (Elt Ideal) G L) :
    Grown arg9 P old (m + 1) (arg9.view.writes (Elt Ideal) G (addPiece arg9 o x g :: L)) := by
  intro i d
  by_cases hi : i.val / 256 = m
  · rw [if_pos ⟨by omega, by omega⟩]
    have e : (ix3 0 i d : S1x8192x128.Idx) = (Rect.unit (s := S1x8192x128) o.1 S1x256x128.size o.2).emb (ix3 0 ⟨i.val % 256, Nat.mod_lt _ (by norm_num)⟩ d) := by
      refine funext fun a => Fin.ext ?_
      show _ = o.1 a + 1 * ((ix3 0 ⟨i.val % 256, Nat.mod_lt _ (by norm_num)⟩ d : S1x256x128.Idx) a).val
      rw [ho]
      match a with
      | ⟨0, _⟩ => rfl
      | ⟨1, _⟩ => show i.val = 256 * m + 1 * (i.val % 256); omega
      | ⟨2, _⟩ => show d.val = 0 + 1 * d.val; omega
    conv_lhs => rw [e]
    rw [View.read_writes_cons_emb]
    have hr : 256 * m + i.val % 256 = i.val := by omega
    have hi' : (⟨256 * m + (⟨i.val % 256, Nat.mod_lt _ (by norm_num)⟩ : Fin 256).val, load_row ho _⟩ : Fin 8192) = i := Fin.ext hr
    have e1 := rowsAt_at (ld2 arg9 g o) ⟨i.val % 256, Nat.mod_lt _ (by norm_num)⟩ d
    rw [load_at arg9 g ho, hi', hg i d hi] at e1
    have e2 := hx ⟨i.val % 256, Nat.mod_lt _ (by norm_num)⟩ d
    simp only [hr] at e2
    rw [← e1, ← e2]
    pointwise
  · have hn : (ix3 0 i d : S1x8192x128.Idx) ∉ Finset.univ.map (Rect.unit (s := S1x8192x128) o.1 S1x256x128.size o.2).emb := by
      intro hmem
      obtain ⟨y, -, hy⟩ := Finset.mem_map.mp hmem
      have h1 := congrArg Fin.val (congrFun hy 1)
      have h2 : o.1 1 + 1 * (y 1).val = i.val := h1
      have h3 : o.1 1 = 256 * m := by rw [ho]; rfl
      have h4 : (y 1).val < 256 := (y 1).isLt
      omega
    rw [View.writes_cons, View.read_slice_write_of_not_mem _ _ _ _ hn, ← hf, h i d]
    congr 1
    by_cases h' : 4 * P.block ≤ i.val / 256 ∧ i.val / 256 < m
    · rw [if_pos h', if_pos ⟨h'.1, by omega⟩]
    · rw [if_neg h', if_neg (by omega)]

end Cert.AttnIdeal.Attn

end
-- ==== Proof.AttnLoops.lean ====
module

public import proofs.«01_k».proof.Proof.AttnState

@[expose] public section

set_option maxRecDepth 16384

noncomputable section

namespace Cert.AttnIdeal.Attn

open Idealize.ShloMosaic Idealize.ShloMosaic.TcCoe Idealize.ShloMosaic.Tactic Cert.AttnIdeal.Gen
open Idealize.SL.Sem

/-- Offsets, the last first, of the groups of rows from `m` on. -/
def Follows (m : ℕ) : List Offset → Prop
  | [] => True
  | o :: l => o.1 = ![0, 256 * (m + l.length), 0] ∧ Follows m l

/-- What the loads read at every group, and the two blocks. -/
structure Reads (P : Point) (arg2 : Memref sig .tc .vmem S1x8192x128 .bf16) (arg5 : Memref sig .tc .vmem S1x8192x128 .bf16) (arg6 arg7 : Memref sig .tc .vmem S1x8192x128 .f32)
    (Q : BufTy.Contents (Elt Ideal) arg2.view.ty) (D : BufTy.Contents (Elt Ideal) arg5.view.ty) (Ls : BufTy.Contents (Elt Ideal) arg6.view.ty) (Dl : BufTy.Contents (Elt Ideal) arg7.view.ty)
    (v4 v6 : FVec Ideal S1024x128 .bf16) : Prop where
  loaded : ∀ (m : ℕ) (o : Offset), o.1 = ![0, 256 * m, 0] → Loaded P arg2 arg5 arg6 arg7 Q D Ls Dl m o
  keys : ∀ (c : Fin 1024) (d : Fin 128), v4 (ix2 c d) = P.K c d
  values : ∀ (c : Fin 1024) (d : Fin 128), v6 (ix2 c d) = P.V c d

section

variable {P : Point} {arg2 : Memref sig .tc .vmem S1x8192x128 .bf16} {arg5 : Memref sig .tc .vmem S1x8192x128 .bf16} {arg6 arg7 arg9 : Memref sig .tc .vmem S1x8192x128 .f32}
  {Q : BufTy.Contents (Elt Ideal) arg2.view.ty} {D : BufTy.Contents (Elt Ideal) arg5.view.ty} {Ls : BufTy.Contents (Elt Ideal) arg6.view.ty} {Dl : BufTy.Contents (Elt Ideal) arg7.view.ty}
  {v4 v6 : FVec Ideal S1024x128 .bf16} (hR : Reads P arg2 arg5 arg6 arg7 Q D Ls Dl v4 v6)

include hR

theorem openAdd_gathered {m : ℕ} {o : Offset} (ho : o.1 = ![0, 256 * m, 0]) (hm : 4 * P.block + 4 ≤ m) {a : Carried Ideal} (ha : Gathered P m a) :
    Gathered P (m + 1) (openAdd arg2 arg5 arg6 arg7 v4 v6 Q D Ls Dl o a) := by
  have hl := hR.loaded m o ho
  have hp := weighs_open hl le_rfl reads1024 hR.keys rfl hm
  exact ha.succ (by omega) le_rfl (adds1024 _ _ a) (fun c d => key_columns hl le_rfl reads1024 hR.keys hR.values hp c d) (fun c d => value_columns hl le_rfl reads1024 hp c d) hp.outside

theorem openRows_at {m : ℕ} {o : Offset} (ho : o.1 = ![0, 256 * m, 0]) (hm : 4 * P.block + 4 ≤ m) (r : Fin 256) (d : Fin 128) :
    openRows arg2 arg5 arg6 arg7 v4 v6 Q D Ls Dl o (ix2 r d) = P.queryAt (256 * m + r.val) d := by
  have hl := hR.loaded m o ho
  exact query_rows hl le_rfl reads1024 hR.keys hR.values (weighs_open hl le_rfl reads1024 hR.keys rfl hm) r d

theorem openAdds_gathered {m : ℕ} (hm : 4 * P.block + 4 ≤ m) {a : Carried Ideal} (ha : Gathered P m a) :
    ∀ l : List Offset, Follows m l → Gathered P (m + l.length) (openAdds arg2 arg5 arg6 arg7 v4 v6 Q D Ls Dl l a)
  | [], _ => ha
  | o :: l, h => openAdd_gathered hR h.1 (by omega) (openAdds_gathered hm ha l h.2)

theorem openPieces_grown {m : ℕ} (hm : 4 * P.block + 4 ≤ m) {old : Fin 8192 → Fin 128 → EReal} {f : BufTy.Contents (Elt Ideal) arg9.view.ty} (hf : Grown arg9 P old m f) :
    ∀ l : List Offset, Follows m l → Grown arg9 P old (m + l.length) (arg9.view.writes (Elt Ideal) f (openPieces arg2 arg5 arg6 arg7 arg9 v4 v6 Q D Ls Dl l f))
  | [], _ => hf
  | o :: l, h => (openPieces_grown hm hf l h.2).succ (by omega) h.1 (openRows_at hR h.1 (by omega))
      (fun i d hi => by rw [openPieces_grown hm hf l h.2 i d, if_neg (by omega), add_zero]) rfl

theorem openPiecesOver_grown {m : ℕ} (hm : 4 * P.block + 4 ≤ m) {old : Fin 8192 → Fin 128 → EReal} {f : BufTy.Contents (Elt Ideal) arg9.view.ty} (hf : Grown arg9 P old m f) :
    ∀ l : List Offset, Follows m l → Grown arg9 P old (m + l.length) (arg9.view.writes (Elt Ideal) f (openPiecesOver arg2 arg5 arg6 arg7 arg9 v4 v6 Q D Ls Dl l f))
  | [], _ => hf
  | o :: l, h => (openPiecesOver_grown hm hf l h.2).succ (by omega) h.1 (openRows_at hR h.1 (by omega))
      (fun i d hi => by rw [hf i d, if_neg (by omega), add_zero]) rfl

end

/-- The diagonal's groups of rows. -/
theorem off1_eq : ∀ (i : grid0.Coords) (r : Fin 4), k0_off1 i (BitVec.ofNat 32 (256 * r.val)) = ![0, 256 * (4 * (i 1).val + r.val), 0] := by decide +kernel

theorem narrow_off (i : grid0.Coords) (k : Fin (k0_t1_loop i).trips) (r : Fin 4) : k0_off2 i k (BitVec.ofNat 32 (256 * r.val)) = ![0, 256 * (4 * (i 1).val + 4 + 4 * k.val + r.val), 0] := by
  rw [off2_eq i k r]
  congr 2
  omega

/-- The wide loop's groups. -/
theorem off4_eq : ∀ (i : grid0.Coords) (k : Fin (k0_t3_loop i).trips) (r : Fin 8), k0_off4 i k (BitVec.ofNat 32 (256 * r.val)) = ![0, 256 * (8 * (((i 1).val + 2) / 2) + 8 * k.val + r.val), 0] := by decide +kernel

theorem follows_narrow (i : grid0.Coords) (k : Fin (k0_t1_loop i).trips) : Follows (4 * (i 1).val + 4 + 4 * k.val) (narrowOffsets i k) :=
  ⟨narrow_off i k 3, narrow_off i k 2, narrow_off i k 1, narrow_off i k 0, trivial⟩

theorem follows_wide (i : grid0.Coords) (k : Fin (k0_t3_loop i).trips) : Follows (8 * (((i 1).val + 2) / 2) + 8 * k.val) (wideOffsets i k) :=
  ⟨off4_eq i k 7, off4_eq i k 6, off4_eq i k 5, off4_eq i k 4, off4_eq i k 3, off4_eq i k 2, off4_eq i k 1, off4_eq i k 0, trivial⟩

section

variable {P : Point} {i : grid0.Coords} {arg2 : Memref sig .tc .vmem S1x8192x128 .bf16} {arg5 : Memref sig .tc .vmem S1x8192x128 .bf16} {arg6 arg7 arg9 : Memref sig .tc .vmem S1x8192x128 .f32}
  {Q : BufTy.Contents (Elt Ideal) arg2.view.ty} {D : BufTy.Contents (Elt Ideal) arg5.view.ty} {Ls : BufTy.Contents (Elt Ideal) arg6.view.ty} {Dl : BufTy.Contents (Elt Ideal) arg7.view.ty}
  {v4 v6 : FVec Ideal S1024x128 .bf16} (hR : Reads P arg2 arg5 arg6 arg7 Q D Ls Dl v4 v6) (hb : P.block = (i 1).val)

/-- The first `n` columns of a block. -/
theorem slice_at {n : ℕ} (hn : n ≤ 1024) (hs : S1024x128.Slices ![0, 0] ⟨2, ![n, 128]⟩) (v : FVec Ideal S1024x128 .bf16) (c : Fin n) (d : Fin 128) :
    extractStridedSlice ⟨2, ![n, 128]⟩ ![0, 0] v hs (ix2 c d) = v (ix2 (Fin.castLE hn c) d) := by
  pointwise
  rfl

include hR hb

/-- One group of the diagonal, of a width. -/
theorem diag_group {n : ℕ} (hn : n ≤ 1024) {w : Width n} (hw : w.Reads) {K V : FVec Ideal ⟨2, ![n, 128]⟩ .bf16} (hK : ∀ (c : Fin n) (d : Fin 128), K (ix2 c d) = P.K (Fin.castLE hn c) d)
    (hV : ∀ (c : Fin n) (d : Fin 128), V (ix2 c d) = P.V (Fin.castLE hn c) d) (g : Fin 4) (e : n = 256 * (g.val + 1)) {a b : Carried Ideal}
    (hab : Adds (w.columns (gradAt arg5 arg7 D Dl w (maskedWeights arg2 arg6 Q Ls w (BitVec.ofNat 32 (256 * g.val)) K (diagOffset i g)) V (diagOffset i g)) (rowsAt (ld2 arg2 Q (diagOffset i g))))
      (w.columns (maskedWeights arg2 arg6 Q Ls w (BitVec.ofNat 32 (256 * g.val)) K (diagOffset i g)) (rowsAt (ld2 arg5 D (diagOffset i g)))) a b)
    (ha : Gathered P (4 * P.block + g.val) a) : Gathered P (4 * P.block + g.val + 1) b := by
  have hl := hR.loaded (4 * P.block + g.val) (diagOffset i g) (by rw [hb]; exact off1_eq i g)
  have hp := weighs_masked hl hn hw hK g e rfl
  exact ha.succ (by omega) hn hab (fun c d => key_columns hl hn hw hK hV hp c d) (fun c d => value_columns hl hn hw hp c d) hp.outside

/-- What it adds to the query gradient. -/
theorem diag_rows {n : ℕ} (hn : n ≤ 1024) {w : Width n} (hw : w.Reads) {K V : FVec Ideal ⟨2, ![n, 128]⟩ .bf16} (hK : ∀ (c : Fin n) (d : Fin 128), K (ix2 c d) = P.K (Fin.castLE hn c) d)
    (hV : ∀ (c : Fin n) (d : Fin 128), V (ix2 c d) = P.V (Fin.castLE hn c) d) (g : Fin 4) (e : n = 256 * (g.val + 1)) (r : Fin 256) (d : Fin 128) :
    w.rows (gradAt arg5 arg7 D Dl w (maskedWeights arg2 arg6 Q Ls w (BitVec.ofNat 32 (256 * g.val)) K (diagOffset i g)) V (diagOffset i g)) K (ix2 r d) = P.queryAt (256 * (4 * P.block + g.val) + r.val) d := by
  have hl := hR.loaded (4 * P.block + g.val) (diagOffset i g) (by rw [hb]; exact off1_eq i g)
  exact query_rows hl hn hw hK hV (weighs_masked hl hn hw hK g e rfl) r d

omit hb in
theorem keys_slice {n : ℕ} (hn : n ≤ 1024) (hs : S1024x128.Slices ![0, 0] ⟨2, ![n, 128]⟩) (c : Fin n) (d : Fin 128) : extractStridedSlice ⟨2, ![n, 128]⟩ ![0, 0] v4 hs (ix2 c d) = P.K (Fin.castLE hn c) d := by
  rw [slice_at hn hs, hR.keys]

omit hb in
theorem values_slice {n : ℕ} (hn : n ≤ 1024) (hs : S1024x128.Slices ![0, 0] ⟨2, ![n, 128]⟩) (c : Fin n) (d : Fin 128) : extractStridedSlice ⟨2, ![n, 128]⟩ ![0, 0] v6 hs (ix2 c d) = P.V (Fin.castLE hn c) d := by
  rw [slice_at hn hs, hR.values]

/-- What is carried after the diagonal. -/
theorem diag_gathered : Gathered P (4 * P.block + 4) (diagCarried i arg2 arg5 arg6 arg7 Q D Ls Dl v4 v6) := by
  have h0 := gathered_zero P (constant S256x128 .f32 0x00000000#32) (fun r d => by pointwise)
  have h1 := diag_group hR hb (by norm_num) reads256 (keys_slice hR (by norm_num) slices_S1024x128_o0_0_S256x128) (values_slice hR (by norm_num) slices_S1024x128_o0_0_S256x128) 0 rfl (adds256 _ _ _) h0
  have h2 := diag_group hR hb (by norm_num) reads512 (keys_slice hR (by norm_num) slices_S1024x128_o0_0_S512x128) (values_slice hR (by norm_num) slices_S1024x128_o0_0_S512x128) 1 rfl (adds512 _ _ _) h1
  have h3 := diag_group hR hb (by norm_num) reads768 (keys_slice hR (by norm_num) slices_S1024x128_o0_0_S768x128) (values_slice hR (by norm_num) slices_S1024x128_o0_0_S768x128) 2 rfl (adds768 _ _ _) h2
  exact diag_group hR hb le_rfl reads1024 hR.keys hR.values 3 rfl (adds1024 _ _ _) h3

theorem diag_row0 (r : Fin 256) (d : Fin 128) : diagRows0 i arg2 arg5 arg6 arg7 Q D Ls Dl v4 v6 (ix2 r d) = P.queryAt (256 * (4 * P.block) + r.val) d :=
  diag_rows hR hb (by norm_num) reads256 (keys_slice hR (by norm_num) slices_S1024x128_o0_0_S256x128) (values_slice hR (by norm_num) slices_S1024x128_o0_0_S256x128) 0 rfl r d

theorem diag_row1 (r : Fin 256) (d : Fin 128) : diagRows1 i arg2 arg5 arg6 arg7 Q D Ls Dl v4 v6 (ix2 r d) = P.queryAt (256 * (4 * P.block + 1) + r.val) d :=
  diag_rows hR hb (by norm_num) reads512 (keys_slice hR (by norm_num) slices_S1024x128_o0_0_S512x128) (values_slice hR (by norm_num) slices_S1024x128_o0_0_S512x128) 1 rfl r d

theorem diag_row2 (r : Fin 256) (d : Fin 128) : diagRows2 i arg2 arg5 arg6 arg7 Q D Ls Dl v4 v6 (ix2 r d) = P.queryAt (256 * (4 * P.block + 2) + r.val) d :=
  diag_rows hR hb (by norm_num) reads768 (keys_slice hR (by norm_num) slices_S1024x128_o0_0_S768x128) (values_slice hR (by norm_num) slices_S1024x128_o0_0_S768x128) 2 rfl r d

theorem diag_row3 (r : Fin 256) (d : Fin 128) : diagRows3 i arg2 arg5 arg6 arg7 Q D Ls Dl v4 v6 (ix2 r d) = P.queryAt (256 * (4 * P.block + 3) + r.val) d :=
  diag_rows hR hb le_rfl reads1024 hR.keys hR.values 3 rfl r d

omit hR in
theorem diag_off (g : Fin 4) : (diagOffset i g).1 = ![0, 256 * (4 * P.block + g.val), 0] := by rw [hb]; exact off1_eq i g

/-- The query gradient after the diagonal, where each load reads what the stores before left, -/
theorem diagOver_grown {old : Fin 8192 → Fin 128 → EReal} {L : List (View.Piece (Elt Ideal) S1x8192x128 .f32)} (hL : Grown arg9 P old (4 * P.block) (arg9.view.writes (Elt Ideal) arg9.view.junk L)) :
    Grown arg9 P old (4 * P.block + 4) (arg9.view.writes (Elt Ideal) arg9.view.junk (diagOver i arg2 arg5 arg6 arg7 arg9 Q D Ls Dl v4 v6 L)) := by
  have g0 := hL.succ le_rfl (diag_off hb 0) (diag_row0 hR hb) (fun i d hi => by rw [hL i d, if_neg (by omega), add_zero]) rfl
  have g1 := g0.succ (by omega) (diag_off hb 1) (diag_row1 hR hb) (fun i d hi => by rw [g0 i d, if_neg (by omega), add_zero]) rfl
  have g2 := g1.succ (by omega) (diag_off hb 2) (diag_row2 hR hb) (fun i d hi => by rw [g1 i d, if_neg (by omega), add_zero]) rfl
  exact g2.succ (by omega) (diag_off hb 3) (diag_row3 hR hb) (fun i d hi => by rw [g2 i d, if_neg (by omega), add_zero]) rfl

/-- and where each reads what was there at first. -/
theorem diagPieces_grown {old : Fin 8192 → Fin 128 → EReal} {f : BufTy.Contents (Elt Ideal) arg9.view.ty} (hf : Grown arg9 P old (4 * P.block) f) :
    Grown arg9 P old (4 * P.block + 4) (arg9.view.writes (Elt Ideal) f (diagPieces i arg2 arg5 arg6 arg7 arg9 Q D Ls Dl v4 v6 f)) := by
  have hg : ∀ (m : ℕ), 4 * P.block ≤ m → ∀ (i : Fin 8192) (d : Fin 128), i.val / 256 = m → arg9.view.read (Elt Ideal) f (ix3 0 i d) = old i d :=
    fun m hm i d hi => by rw [hf i d, if_neg (by omega), add_zero]
  have g0 := hf.succ le_rfl (diag_off hb 0) (diag_row0 hR hb) (hg _ (by omega)) (L := []) rfl
  have g1 := g0.succ (by omega) (diag_off hb 1) (diag_row1 hR hb) (hg _ (by omega)) rfl
  have g2 := g1.succ (by omega) (diag_off hb 2) (diag_row2 hR hb) (hg _ (by omega)) rfl
  exact g2.succ (by omega) (diag_off hb 3) (diag_row3 hR hb) (hg _ (by omega)) rfl

end

section

variable (𝒱 : Variants) (c : Dev nD) (bd : Option 𝒱.V) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (Q : BufTy.Contents (Elt Ideal) arg2.view.ty) (D : BufTy.Contents (Elt Ideal) arg5.view.ty) (Ls : BufTy.Contents (Elt Ideal) arg6.view.ty) (Dl : BufTy.Contents (Elt Ideal) arg7.view.ty)
  (v4 v6 : FVec Ideal S1024x128 .bf16) {P : Point} (hR : Reads P arg2 arg5 arg6 arg7 Q D Ls Dl v4 v6) (hb : P.block = (i 1).val)

include hR hb

/-- The narrow loop brings what is carried and the query gradient up to the first whole pair of blocks. -/
theorem narrow_end (v258 : BitVec 32) (G : BufTy.Contents (Elt Ideal) arg9.view.ty) {old : Fin 8192 → Fin 128 → EReal} (hG : Grown arg9 P old (4 * P.block + 4) G) :
    Gathered P (8 * ((P.block + 2) / 2)) (narrowEnd 𝒱 c bd i arg2 harg2 arg3 harg3 arg4 harg4 arg5 harg5 arg6 harg6 arg7 harg7 arg8 harg8 arg9 harg9 arg10 harg10 arg11 harg11 Q D Ls Dl v4 v6 v258 G).1
      ∧ Grown arg9 P old (8 * ((P.block + 2) / 2)) (arg9.view.writes (Elt Ideal) G (narrowEnd 𝒱 c bd i arg2 harg2 arg3 harg3 arg4 harg4 arg5 harg5 arg6 harg6 arg7 harg7 arg8 harg8 arg9 harg9 arg10 harg10 arg11 harg11 Q D Ls Dl v4 v6 v258 G).2) := by
  have key : ∀ k : ℕ, k ≤ (k0_t1_loop i).trips → Gathered P (4 * P.block + 4 + 4 * k) (narrowState 𝒱 c bd i arg2 harg2 arg3 harg3 arg4 harg4 arg5 harg5 arg6 harg6 arg7 harg7 arg8 harg8 arg9 harg9 arg10 harg10 arg11 harg11 v4 v6 Q D Ls Dl v258 G (diagCarried i arg2 arg5 arg6 arg7 Q D Ls Dl v4 v6) k).1
      ∧ Grown arg9 P old (4 * P.block + 4 + 4 * k) (arg9.view.writes (Elt Ideal) G (narrowState 𝒱 c bd i arg2 harg2 arg3 harg3 arg4 harg4 arg5 harg5 arg6 harg6 arg7 harg7 arg8 harg8 arg9 harg9 arg10 harg10 arg11 harg11 v4 v6 Q D Ls Dl v258 G (diagCarried i arg2 arg5 arg6 arg7 Q D Ls Dl v4 v6) k).2) := by
    intro k
    induction k with
    | zero => exact fun _ => ⟨diag_gathered hR hb, hG⟩
    | succ k ih =>
      intro hk
      obtain ⟨h1, h2⟩ := ih (by omega)
      unfold narrowState at h1 h2 ⊢
      rw [ListedLoop.st_succ _ _ _ _ ⟨k, hk⟩]
      dsimp only
      rw [narrow_yields, narrow_writes, View.writes_append]
      have hF : Follows (4 * P.block + 4 + 4 * k) (narrowOffsets i ⟨k, hk⟩) := by rw [hb]; exact follows_narrow i ⟨k, hk⟩
      exact ⟨openAdds_gathered hR (by omega) h1 _ hF, openPieces_grown hR (by omega) h2 _ hF⟩
  have h := key _ le_rfl
  have e : 4 * P.block + 4 + 4 * (k0_t1_loop i).trips = 8 * ((P.block + 2) / 2) := by rw [trips1, ← hb]; omega
  rw [e] at h
  exact h

/-- The wide loop brings them to the last row. -/
theorem wide_end (v257 : BitVec 32) (G : BufTy.Contents (Elt Ideal) arg9.view.ty) (a : Carried Ideal) {old : Fin 8192 → Fin 128 → EReal} (ha : Gathered P (8 * ((P.block + 2) / 2)) a)
    (hG : Grown arg9 P old (8 * ((P.block + 2) / 2)) G) :
    Gathered P 32 (wideEnd 𝒱 c bd i arg2 harg2 arg3 harg3 arg4 harg4 arg5 harg5 arg6 harg6 arg7 harg7 arg8 harg8 arg9 harg9 arg10 harg10 arg11 harg11 Q D Ls Dl v4 v6 v257 G a).1
      ∧ Grown arg9 P old 32 (arg9.view.writes (Elt Ideal) G (wideEnd 𝒱 c bd i arg2 harg2 arg3 harg3 arg4 harg4 arg5 harg5 arg6 harg6 arg7 harg7 arg8 harg8 arg9 harg9 arg10 harg10 arg11 harg11 Q D Ls Dl v4 v6 v257 G a).2) := by
  have key : ∀ k : ℕ, k ≤ (k0_t3_loop i).trips → Gathered P (8 * ((P.block + 2) / 2) + 8 * k) (st_k0_t3 (F := Ideal) 𝒱 c bd i arg2 harg2 arg3 harg3 arg4 harg4 arg5 harg5 arg6 harg6 arg7 harg7 arg8 harg8 arg9 harg9 arg10 harg10 arg11 harg11 v4 v6 v257 Q D Ls Dl G a k).1
      ∧ Grown arg9 P old (8 * ((P.block + 2) / 2) + 8 * k) (arg9.view.writes (Elt Ideal) G (st_k0_t3 (F := Ideal) 𝒱 c bd i arg2 harg2 arg3 harg3 arg4 harg4 arg5 harg5 arg6 harg6 arg7 harg7 arg8 harg8 arg9 harg9 arg10 harg10 arg11 harg11 v4 v6 v257 Q D Ls Dl G a k).2) := by
    intro k
    induction k with
    | zero => exact fun _ => ⟨ha, hG⟩
    | succ k ih =>
      intro hk
      obtain ⟨h1, h2⟩ := ih (by omega)
      rw [st_k0_t3_succ 𝒱 c bd i arg2 harg2 arg3 harg3 arg4 harg4 arg5 harg5 arg6 harg6 arg7 harg7 arg8 harg8 arg9 harg9 arg10 harg10 arg11 harg11 v4 v6 v257 Q D Ls Dl G a ⟨k, hk⟩]
      dsimp only [tripR_k0_t3, tripL_k0_t3]
      rw [wide_yields, wide_writes, View.writes_append]
      have hF : Follows (8 * ((P.block + 2) / 2) + 8 * k) (wideOffsets i ⟨k, hk⟩) := by rw [hb]; exact follows_wide i ⟨k, hk⟩
      exact ⟨openAdds_gathered hR (by omega) h1 _ hF, openPiecesOver_grown hR (by omega) h2 _ hF⟩
  have h := key _ le_rfl
  have hi : (i 1).val < 8 := (i 1).isLt
  have e : 8 * ((P.block + 2) / 2) + 8 * (k0_t3_loop i).trips = 32 := by rw [trips3, ← hb]; omega
  rw [e] at h
  exact h

omit hR hb in
/-- What is left of the wide loop makes no trip. -/
theorem rest_end (v272 : BitVec 32) (G : BufTy.Contents (Elt Ideal) arg9.view.ty) (a : Carried Ideal) : restEnd 𝒱 c bd i arg2 harg2 arg3 harg3 arg4 harg4 arg5 harg5 arg6 harg6 arg7 harg7 arg8 harg8 arg9 harg9 arg10 harg10 arg11 harg11 Q D Ls Dl v4 v6 v272 G a = (a, []) := by
  unfold restEnd
  rw [trips4]
  rfl

end

end Cert.AttnIdeal.Attn

end
-- ==== Proof.AttnFrame.lean ====
module

public import proofs.«01_k».proof.Proof.AttnRun
public import Idealize.ShloMosaic.Lib.Claim

@[expose] public section

set_option maxRecDepth 16384
set_option warn.classDefReducibility false

noncomputable section

namespace Cert.AttnIdeal.Attn

open Idealize.ShloMosaic Idealize.ShloMosaic.TcCoe Idealize.ShloMosaic.Tactic Cert.AttnIdeal.Gen
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Point

variable (c : Dev nD) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (x2 : Vec F S1x8192x128 .bf16) (x3 : Vec F S1x1024x128 .bf16) (x4 : Vec F S1x1024x128 .bf16) (x5 : Vec F S1x8192x128 .bf16) (x6 : Vec F S1x8192x128 .f32) (x7 : Vec F S1x8192x128 .f32)

/-- What the body leaves in the three outputs at the first block of keys of a head. -/
def startOut (hc : Start i) : Vec F S1x8192x128 .f32 × Vec F S1x1024x128 .f32 × Vec F S1x1024x128 .f32 :=
  (arg9.view.read (Elt F) (arg9.view.writes (Elt F) arg9.view.junk (startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).1),
    arg10.view.read (Elt F) (arg10.view.writes (Elt F) arg10.view.junk (startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.1),
    arg11.view.read (Elt F) (arg11.view.writes (Elt F) arg11.view.junk (startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.1))

/-- What the body leaves in the three outputs at a later block of keys, over the query gradient `x9` so far. -/
def nextOut (hc : ¬Start i) (x9 : Vec F S1x8192x128 .f32) : Vec F S1x8192x128 .f32 × Vec F S1x1024x128 .f32 × Vec F S1x1024x128 .f32 :=
  (arg9.view.read (Elt F) (arg9.view.writes (Elt F) (harg9.unread x9) ((nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).1 (harg9.unread x9))),
    arg10.view.read (Elt F) (arg10.view.writes (Elt F) arg10.view.junk ((nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.1 (harg9.unread x9))),
    arg11.view.read (Elt F) (arg11.view.writes (Elt F) arg11.view.junk ((nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.1 (harg9.unread x9))))

/-- The staging buffers of a point, each holding a vector. -/
abbrev Holding (x9 : Vec F S1x8192x128 .f32) (x10 : Vec F S1x1024x128 .f32) (x11 : Vec F S1x1024x128 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg11 fullShare x11)

/-- The store of output 10 covers its block. -/
theorem startCover10 (hc : Start i) (y : S1x1024x128.Idx) : ∃ pc ∈ (startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.1, y ∈ pc.1.set :=
  View.cover_of_tiledL ((startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.1) S1x1024x128.size (by sl_kernel_rfl) y

/-- The store of output 11 covers its block. -/
theorem startCover11 (hc : Start i) (y : S1x1024x128.Idx) : ∃ pc ∈ (startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.1, y ∈ pc.1.set :=
  View.cover_of_tiledL ((startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.1) S1x1024x128.size (by sl_kernel_rfl) y

set_option maxHeartbeats 2400000 in
theorem start_sound (hc : Start i) (x9 : Vec F S1x8192x128 .f32) (x10 : Vec F S1x1024x128 .f32) (x11 : Vec F S1x1024x128 .f32) :
    Holding c arg2 arg3 arg4 arg5 arg6 arg7 arg9 arg10 arg11 x2 x3 x4 x5 x6 x7 x9 x10 x11
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11)
        (fun _ => Holding c arg2 arg3 arg4 arg5 arg6 arg7 arg9 arg10 arg11 x2 x3 x4 x5 x6 x7
          (startOut c i arg2 harg2 arg3 harg3 arg4 harg4 arg5 harg5 arg6 harg6 arg7 harg7 arg8 harg8 arg9 harg9 arg10 harg10 arg11 harg11 x2 x3 x4 x5 x6 x7 hc).1 (startOut c i arg2 harg2 arg3 harg3 arg4 harg4 arg5 harg5 arg6 harg6 arg7 harg7 arg8 harg8 arg9 harg9 arg10 harg10 arg11 harg11 x2 x3 x4 x5 x6 x7 hc).2.1 (startOut c i arg2 harg2 arg3 harg3 arg4 harg4 arg5 harg5 arg6 harg6 arg7 harg7 arg8 harg8 arg9 harg9 arg10 harg10 arg11 harg11 x2 x3 x4 x5 x6 x7 hc).2.2) := by
  unfold startOut; dsimp only
  unfold Holding owns
  iintro ⟨⟨%f2, %h2, H2⟩, ⟨%f3, %h3, H3⟩, ⟨%f4, %h4, H4⟩, ⟨%f5, %h5, H5⟩, ⟨%f6, %h6, H6⟩, ⟨%f7, %h7, H7⟩, ⟨%f9, %h9, H9⟩, ⟨%f10, %h10, H10⟩, ⟨%f11, %h11, H11⟩⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  iapply (wp_wand_r Idealize.ShloMosaic.frame (wpE (defs₀ (F := F)) Variants.none (c : Thread nD τ) none) Set.univ)
  isplitl [H2 H3 H4 H5 H6 H7 H9 H10 H11]
  · iapply ((startRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.2 Set.univ _ _ _)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H11
  · iintro %u ⟨H2, H3, H4, H5, H6, H7, H9, H10, H11⟩
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; rfl
      iexact H9
    isplitl [H10]
    · iexists _; isplitr
      swap; · iexact H10
      ipureintro; exact View.read_writes_of_cover _ _ _ _ _ (startCover10 c i arg2 harg2 arg3 harg3 arg4 harg4 arg5 harg5 arg6 harg6 arg7 harg7 arg8 harg8 arg9 harg9 arg10 harg10 arg11 harg11 x2 x3 x4 x5 x6 x7 hc)
    iexists _; isplitr
    swap; · iexact H11
    ipureintro; exact View.read_writes_of_cover _ _ _ _ _ (startCover11 c i arg2 harg2 arg3 harg3 arg4 harg4 arg5 harg5 arg6 harg6 arg7 harg7 arg8 harg8 arg9 harg9 arg10 harg10 arg11 harg11 x2 x3 x4 x5 x6 x7 hc)

/-- The store of output 10 covers its block. -/
theorem nextCover10 (hc : ¬Start i) (f : BufTy.Contents (Elt F) arg9.view.ty) (y : S1x1024x128.Idx) : ∃ pc ∈ (nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.1 f, y ∈ pc.1.set :=
  View.cover_of_tiledL ((nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.1 f) S1x1024x128.size (by sl_kernel_rfl) y

/-- The store of output 11 covers its block. -/
theorem nextCover11 (hc : ¬Start i) (f : BufTy.Contents (Elt F) arg9.view.ty) (y : S1x1024x128.Idx) : ∃ pc ∈ (nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.1 f, y ∈ pc.1.set :=
  View.cover_of_tiledL ((nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.1 f) S1x1024x128.size (by sl_kernel_rfl) y

set_option maxHeartbeats 2400000 in
theorem next_sound (hc : ¬Start i) (x9 : Vec F S1x8192x128 .f32) (x10 : Vec F S1x1024x128 .f32) (x11 : Vec F S1x1024x128 .f32) :
    Holding c arg2 arg3 arg4 arg5 arg6 arg7 arg9 arg10 arg11 x2 x3 x4 x5 x6 x7 x9 x10 x11
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11)
        (fun _ => Holding c arg2 arg3 arg4 arg5 arg6 arg7 arg9 arg10 arg11 x2 x3 x4 x5 x6 x7
          (nextOut c i arg2 harg2 arg3 harg3 arg4 harg4 arg5 harg5 arg6 harg6 arg7 harg7 arg8 harg8 arg9 harg9 arg10 harg10 arg11 harg11 x2 x3 x4 x5 x6 x7 hc x9).1 (nextOut c i arg2 harg2 arg3 harg3 arg4 harg4 arg5 harg5 arg6 harg6 arg7 harg7 arg8 harg8 arg9 harg9 arg10 harg10 arg11 harg11 x2 x3 x4 x5 x6 x7 hc x9).2.1 (nextOut c i arg2 harg2 arg3 harg3 arg4 harg4 arg5 harg5 arg6 harg6 arg7 harg7 arg8 harg8 arg9 harg9 arg10 harg10 arg11 harg11 x2 x3 x4 x5 x6 x7 hc x9).2.2) := by
  unfold nextOut; dsimp only
  unfold Holding owns
  iintro ⟨⟨%f2, %h2, H2⟩, ⟨%f3, %h3, H3⟩, ⟨%f4, %h4, H4⟩, ⟨%f5, %h5, H5⟩, ⟨%f6, %h6, H6⟩, ⟨%f7, %h7, H7⟩, ⟨%f9, %h9, H9⟩, ⟨%f10, %h10, H10⟩, ⟨%f11, %h11, H11⟩⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg9.eq_unread h9
  iapply (wp_wand_r Idealize.ShloMosaic.frame (wpE (defs₀ (F := F)) Variants.none (c : Thread nD τ) none) Set.univ)
  isplitl [H2 H3 H4 H5 H6 H7 H9 H10 H11]
  · iapply ((nextRun Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc).2.2.2 Set.univ _ _ _)
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H11
  · iintro %u ⟨H2, H3, H4, H5, H6, H7, H9, H10, H11⟩
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _; isplitr; · ipureintro; rfl
      iexact H9
    isplitl [H10]
    · iexists _; isplitr
      swap; · iexact H10
      ipureintro; exact View.read_writes_of_cover _ _ _ _ _ (nextCover10 c i arg2 harg2 arg3 harg3 arg4 harg4 arg5 harg5 arg6 harg6 arg7 harg7 arg8 harg8 arg9 harg9 arg10 harg10 arg11 harg11 x2 x3 x4 x5 x6 x7 hc (harg9.unread x9))
    iexists _; isplitr
    swap; · iexact H11
    ipureintro; exact View.read_writes_of_cover _ _ _ _ _ (nextCover11 c i arg2 harg2 arg3 harg3 arg4 harg4 arg5 harg5 arg6 harg6 arg7 harg7 arg8 harg8 arg9 harg9 arg10 harg10 arg11 harg11 x2 x3 x4 x5 x6 x7 hc (harg9.unread x9))

end Point

variable (m : (ℓ : Loc nD τ sig) → Buf (Elt F) ℓ) (ρ : Dev nD → PrngReg)

/-! ## The pipeline's proof data -/

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)
theorem hst5 (t : Fin cfg0.N) : (st0_5 t).IsWhole := hstage0_5 ((cfg0.slots t 5).cast nbuf0_5)
theorem hst6 (t : Fin cfg0.N) : (st0_6 t).IsWhole := hstage0_6 ((cfg0.slots t 6).cast nbuf0_6)
theorem hst7 (t : Fin cfg0.N) : (st0_7 t).IsWhole := hstage0_7 ((cfg0.slots t 7).cast nbuf0_7)
theorem hst8 (t : Fin cfg0.N) : (st0_8 t).IsWhole := hstage0_8 ((cfg0.slots t 8).cast nbuf0_8)

theorem start_of (t : Fin cfg0.N) : Start (grid0.coords t) ↔ t.val % 8 = 0 := by
  revert t; decide +kernel

/-- What the body leaves in the outputs at point `t`, over the query gradient `x` so far. -/
def pointOut (c : Dev nD) (t : Fin cfg0.N) (x : Vec F S1x8192x128 .f32) : Vec F S1x8192x128 .f32 × Vec F S1x1024x128 .f32 × Vec F S1x1024x128 .f32 :=
  if hc : Start (grid0.coords t) then startOut c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc
  else nextOut c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc x

/-- What the outputs hold after point `n`. -/
def outsAt (c : Dev nD) : (n : ℕ) → n < cfg0.N → Vec F S1x8192x128 .f32 × Vec F S1x1024x128 .f32 × Vec F S1x1024x128 .f32
  | 0, h => pointOut m c ⟨0, h⟩ (k0_pay437 (F := F))
  | n + 1, h => pointOut m c ⟨n + 1, h⟩ (outsAt c n (Nat.lt_of_succ_lt h)).1

theorem outsAt_start (c : Dev nD) (t : Fin cfg0.N) (hc : Start (grid0.coords t)) :
    outsAt m c t.val t.isLt = startOut c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc := by
  obtain ⟨n, hn⟩ := t
  cases n with
  | zero => exact dif_pos hc
  | succ n => exact dif_pos hc

theorem outsAt_next (c : Dev nD) (t : Fin cfg0.N) (hc : ¬Start (grid0.coords t)) :
    outsAt m c t.val t.isLt = nextOut c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc (outsAt m c (t.val - 1) (Nat.lt_of_le_of_lt (Nat.sub_le _ _) t.isLt)).1 := by
  obtain ⟨n, hn⟩ := t
  cases n with
  | zero => exact absurd ((start_of ⟨0, hn⟩).mpr rfl) hc
  | succ n => exact dif_neg hc

/-- The pipeline's proof data: the arrays as the region finds them, each input's buffer at its block, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem after_7 (c : Dev nD) (t : Fin cfg0.N) : (dats m 0 c).after 7 t = (outsAt m c t.val t.isLt).2.1 := by dsimp only [dats]
theorem after_8 (c : Dev nD) (t : Fin cfg0.N) : (dats m 0 c).after 8 t = (outsAt m c t.val t.isLt).2.2 := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- At a later block of keys the query gradient's buffer holds what the point before left. -/
theorem before_6 (c : Dev nD) (t : Fin cfg0.N) (hc : ¬Start (grid0.coords t)) (d) :
    (dats m 0 c).before 6 t d = (outsAt m c (t.val - 1) (Nat.lt_of_le_of_lt (Nat.sub_le _ _) t.isLt)).1 := by
  have h8 : ¬t.val % 8 = 0 := fun h => hc ((start_of t).mpr h)
  rw [Dat.before_out_kept _ 6 rfl t (fun h => h8 (by rw [h])) (by
    rw [Bool.eq_false_iff, Ne, flush0_6]; dsimp only; omega) (fun _ => rfl) (fun _ _ => rfl), after_6]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [show cfg0.idle w (cfg0.grid.coords t) = false from rfl]

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [leaves, before_0, before_1, before_2, before_3, before_4, before_5, after_0, after_1, after_2, after_3, after_4, after_5, after_6, after_7, after_8]
  rw [show (dats m 0 c).Φ t.succ = (dats m 0 c).Φ t.castSucc from rfl,
    show (dats m 0 c).owesAt () t.succ = (dats m 0 c).owesAt () t.castSucc from rfl]
  by_cases hc : Start (grid0.coords t)
  · rw [outsAt_start m c t hc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := F)) Variants.none (c : Thread nD τ) none) Set.univ)
    isplitl [H0 H1 H2 H3 H4 H5 H6 H7 H8]
    · iapply (start_sound c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro %u ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · rw [outsAt_next m c t hc]
    simp only [before_6 m c t hc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := F)) Variants.none (c : Thread nD τ) none) Set.univ)
    isplitl [H0 H1 H2 H3 H4 H5 H6 H7 H8]
    · iapply (next_sound c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro %u ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The run and the frame -/

set_option backward.isDefEq.respectTransparency.types false in
/-- Every run ends with the arrays at what the proof data says, and with every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame claim's statement, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_main m ρ)) ((θ_run defs _ _).mono (fun _ h => h.2) (run_quiescent m ρ))

end Cert.AttnIdeal.Attn

end
-- ==== Proof.AttnPoint.lean ====
module

public import proofs.«01_k».proof.Proof.AttnLoops
public import proofs.«01_k».proof.Proof.AttnFrame
public import Idealize.ShloMosaic.Lib.VecWindow

@[expose] public section

set_option maxRecDepth 16384

noncomputable section

namespace Cert.AttnIdeal.Attn

open Idealize.ShloMosaic Idealize.ShloMosaic.TcCoe Idealize.ShloMosaic.Tactic Cert.AttnIdeal.Gen
open Idealize.SL.Sem

namespace Point

variable (P : Point)

/-- What the block adds to the gradients of its keys, -/
def key (c : Fin 1024) (d : Fin 128) : EReal := ∑ i : Fin 8192, P.sg i.val c * P.Q i.val d

/-- and of its values. -/
def value (c : Fin 1024) (e : Fin 128) : EReal := ∑ i : Fin 8192, P.wt i.val c * P.O i.val e

/-- A row left of the block gets nothing from it. -/
theorem queryAt_eq_zero {i : ℕ} (d : Fin 128) (h : i / 256 < 4 * P.block) : P.queryAt i d = 0 := by
  unfold queryAt
  rw [Finset.sum_eq_zero fun c _ => by rw [P.sg_eq_zero (by omega), zero_mul], zero_mul]

theorem sum_groups (f : ℕ → EReal) (lo : ℕ) (hlo : lo ≤ 32) (h : ∀ i, i / 256 < lo → f i = 0) : ∑ g ∈ Finset.Ico lo 32, ∑ r : Fin 256, f (256 * g + r.val) = ∑ i : Fin 8192, f i.val := by
  have e1 : ∑ g ∈ Finset.range 32, ∑ r : Fin 256, f (256 * g + r.val) = ∑ g ∈ Finset.Ico lo 32, ∑ r : Fin 256, f (256 * g + r.val) := by
    refine (Finset.sum_subset (fun g hg => ?_) fun g hg hn => ?_).symm
    · rw [Finset.mem_Ico] at hg; exact Finset.mem_range.mpr hg.2
    · rw [Finset.mem_range] at hg
      rw [Finset.mem_Ico] at hn
      exact Finset.sum_eq_zero fun r _ => h _ (by have := r.isLt; omega)
  rw [← e1, Finset.sum_range, ← Fintype.sum_prod_type']
  exact Fintype.sum_equiv (finProdFinEquiv (m := 32) (n := 256)) _ (fun i : Fin (32 * 256) => f i.val) fun x => congrArg f (by
    show 256 * x.1.val + x.2.val = x.2.val + 256 * x.1.val
    omega)

theorem key_eq (hb : P.block < 8) (c : Fin 1024) (d : Fin 128) : ∑ g ∈ Finset.Ico (4 * P.block) 32, P.keySum g c d = P.key c d :=
  sum_groups (fun i => P.sg i c * P.Q i d) (4 * P.block) (by omega) fun i h => by rw [P.sg_eq_zero (by omega), zero_mul]

theorem value_eq (hb : P.block < 8) (c : Fin 1024) (e : Fin 128) : ∑ g ∈ Finset.Ico (4 * P.block) 32, P.valueSum g c e = P.value c e :=
  sum_groups (fun i => P.wt i c * P.O i e) (4 * P.block) (by omega) fun i h => by rw [P.wt_eq_zero (by omega), zero_mul]

end Point

/-- An array of rows as a function of the row's number. -/
def rowsOf {e : EltTy} (x : Vec Ideal S1x8192x128 e) (z : Elt Ideal e) (i : ℕ) (d : Fin 128) : Elt Ideal e := if h : i < 8192 then x (ix3 0 ⟨i, h⟩ d) else z

/-- The point of block `j` of the arrays. -/
def pointOf (j : ℕ) (x2 : Vec Ideal S1x8192x128 .bf16) (x3 x4 : Vec Ideal S1x1024x128 .bf16) (x5 : Vec Ideal S1x8192x128 .bf16) (x6 x7 : Vec Ideal S1x8192x128 .f32) : Point where
  block := j
  Q := rowsOf x2 (0 : EReal)
  O := rowsOf x5 (0 : EReal)
  L i := rowsOf x6 (0 : EReal) i 0
  D i := rowsOf x7 (0 : EReal) i 0
  K c d := x3 (ix3 0 c d)
  V c d := x4 (ix3 0 c d)

section

variable (c : Dev nD) (i : grid0.Coords)
  (arg2 : Memref sig .tc .vmem S1x8192x128 .bf16) (harg2 : arg2.IsWhole) (arg3 : Memref sig .tc .vmem S1x1024x128 .bf16) (harg3 : arg3.IsWhole)
  (arg4 : Memref sig .tc .vmem S1x1024x128 .bf16) (harg4 : arg4.IsWhole) (arg5 : Memref sig .tc .vmem S1x8192x128 .bf16) (harg5 : arg5.IsWhole)
  (arg6 : Memref sig .tc .vmem S1x8192x128 .f32) (harg6 : arg6.IsWhole) (arg7 : Memref sig .tc .vmem S1x8192x128 .f32) (harg7 : arg7.IsWhole)
  (arg8 : Memref sig .tc .hbm S8x1 .f32) (harg8 : arg8.IsWhole) (arg9 : Memref sig .tc .vmem S1x8192x128 .f32) (harg9 : arg9.IsWhole)
  (arg10 : Memref sig .tc .vmem S1x1024x128 .f32) (harg10 : arg10.IsWhole) (arg11 : Memref sig .tc .vmem S1x1024x128 .f32) (harg11 : arg11.IsWhole)
  (x2 : Vec Ideal S1x8192x128 .bf16) (x3 : Vec Ideal S1x1024x128 .bf16) (x4 : Vec Ideal S1x1024x128 .bf16) (x5 : Vec Ideal S1x8192x128 .bf16) (x6 : Vec Ideal S1x8192x128 .f32) (x7 : Vec Ideal S1x8192x128 .f32)

theorem block_at (a : Memref sig .tc .vmem S1x1024x128 .bf16) (ha : a.IsWhole) (x : Vec Ideal S1x1024x128 .bf16) (r : Fin 1024) (d : Fin 128) : blockOf a (ha.unread (Val := Elt Ideal) x) (ix2 r d) = x (ix3 0 r d) := by
  have e : View.readAt (Elt Ideal) a.view (Rect.unit (s := S1x1024x128) ![0, 0, 0] S1x1024x128.size inb_S1x1024x128_S1x1024x128_0_0_0).toLoadRect (ha.unread (Val := Elt Ideal) x) = x := by
    rw [View.readAt_full, ha.read_unread]
  unfold blockOf
  rw [e]
  pointwise

theorem row_at {e : EltTy} (a : Memref sig .tc .vmem S1x8192x128 e) (ha : a.IsWhole) (x : Vec Ideal S1x8192x128 e) (z : Elt Ideal e) {o : Offset} {m : ℕ} (ho : o.1 = ![0, 256 * m, 0]) (r : Fin 256) (d : Fin 128) :
    ld2 a (ha.unread (Val := Elt Ideal) x) o (ix3 0 r d) = rowsOf x z (256 * m + r.val) d := by
  rw [load_at a _ ho, ha.read_unread]
  unfold rowsOf
  rw [dif_pos (load_row ho r)]

/-- What the body loads. -/
theorem reads_point : Reads (pointOf (i 1).val x2 x3 x4 x5 x6 x7) arg2 arg5 arg6 arg7 (harg2.unread (Val := Elt Ideal) x2) (harg5.unread (Val := Elt Ideal) x5) (harg6.unread (Val := Elt Ideal) x6) (harg7.unread (Val := Elt Ideal) x7)
    (blockOf arg3 (harg3.unread (Val := Elt Ideal) x3)) (blockOf arg4 (harg4.unread (Val := Elt Ideal) x4)) where
  loaded m o ho := {
    q := fun r d => (rowsAt_at _ r d).trans (row_at arg2 harg2 x2 (0 : EReal) ho r d)
    cot := fun r d => (rowsAt_at _ r d).trans (row_at arg5 harg5 x5 (0 : EReal) ho r d)
    l := fun r => (statAt_at _ r).trans (row_at arg6 harg6 x6 (0 : EReal) ho r 0)
    d := fun r => (statAt_at _ r).trans (row_at arg7 harg7 x7 (0 : EReal) ho r 0) }
  keys r d := block_at arg3 harg3 x3 r d
  values r d := block_at arg4 harg4 x4 r d

/-- The body's output blocks: `old` and what the block adds to each query row, and the gradients of its keys and values. -/
structure Outputs (P : Point) (old : Fin 8192 → Fin 128 → EReal) (y : Vec Ideal S1x8192x128 .f32 × Vec Ideal S1x1024x128 .f32 × Vec Ideal S1x1024x128 .f32) : Prop where
  query : ∀ (r : Fin 8192) (d : Fin 128), y.1 (ix3 0 r d) = old r d + P.queryAt r.val d
  key : ∀ (r : Fin 1024) (d : Fin 128), y.2.1 (ix3 0 r d) = P.key r d * Named.named (F := Ideal) κ (φ := .f32) "ln2" 0x3F317218#32
  value : ∀ (r : Fin 1024) (d : Fin 128), y.2.2 (ix3 0 r d) = P.value r d

/-- Four blocks of 256 rows one below the other, scaled by the logarithm of two, at an index; -/
theorem pay5_at (a : Fin 4 → FVec Ideal S256x128 .f32) (t : Fin 4) (r : Fin 256) (d : Fin 128) :
    k0_pay5 (F := Ideal) (a 0) (a 1) (a 2) (a 3) (ix3 0 (col t r) d) = a t (ix2 r d) * Named.named (F := Ideal) κ (φ := .f32) "ln2" 0x3F317218#32 := by
  unfold k0_pay5 col
  have hr := r.isLt
  have e2 : ∀ h, (⟨512 + r.val - 256 - 256, h⟩ : Fin 256) = r := fun h => Fin.ext (by show 512 + r.val - 256 - 256 = r.val; omega)
  have e3 : ∀ h, (⟨768 + r.val - 256 - 256 - 256, h⟩ : Fin 256) = r := fun h => Fin.ext (by show 768 + r.val - 256 - 256 - 256 = r.val; omega)
  fin_cases t
  · pointwise
  · pointwise
  · pointwise
    rw [dif_neg (by omega), dif_neg (by omega), dif_pos (by omega), e2]
  · pointwise
    rw [dif_neg (by omega), dif_neg (by omega), dif_neg (by omega), e3]

/-- and not scaled. -/
theorem pay6_at (a : Fin 4 → FVec Ideal S256x128 .f32) (t : Fin 4) (r : Fin 256) (d : Fin 128) :
    k0_pay6 (F := Ideal) (a 0) (a 1) (a 2) (a 3) (ix3 0 (col t r) d) = a t (ix2 r d) := by
  unfold k0_pay6 col
  have hr := r.isLt
  have e2 : ∀ h, (⟨512 + r.val - 256 - 256, h⟩ : Fin 256) = r := fun h => Fin.ext (by show 512 + r.val - 256 - 256 = r.val; omega)
  have e3 : ∀ h, (⟨768 + r.val - 256 - 256 - 256, h⟩ : Fin 256) = r := fun h => Fin.ext (by show 768 + r.val - 256 - 256 - 256 = r.val; omega)
  fin_cases t
  · pointwise
  · pointwise
  · pointwise
    rw [dif_neg (by omega), dif_neg (by omega), dif_pos (by omega), e2]
  · pointwise
    rw [dif_neg (by omega), dif_neg (by omega), dif_neg (by omega), e3]

theorem exists_col (r : Fin 1024) : ∃ (t : Fin 4) (r' : Fin 256), r = col t r' :=
  ⟨⟨r.val / 256, by have := r.isLt; omega⟩, ⟨r.val % 256, Nat.mod_lt _ (by norm_num)⟩, Fin.ext (by show r.val = 256 * (r.val / 256) + r.val % 256; omega)⟩

/-- A block stored whole reads what was stored. -/
theorem read_stored {s : Shape} (a : Memref sig .tc .vmem s .f32) (f : BufTy.Contents (Elt Ideal) a.view.ty) {off : Fin s.rank → ℕ} (inb : ∀ x, off x + s.size x ≤ s.size x) (w : s.Idx → Elt Ideal .f32) (y : s.Idx) :
    a.view.read (Elt Ideal) (a.view.writes (Elt Ideal) f [⟨Rect.unit (s := s) off s.size inb, w⟩]) y = w y := by
  have h := View.read_writes_cons_emb a.view f (Rect.unit (s := s) off s.size inb) w [] y
  rwa [Rect.emb_unit_full inb y] at h

/-- The output blocks from what is carried and stored at the end. -/
theorem outputs_of (P : Point) (hb : P.block < 8) {old : Fin 8192 → Fin 128 → EReal} {a : Carried Ideal} (ha : Gathered P 32 a) {f9 : BufTy.Contents (Elt Ideal) arg9.view.ty} (hf : Grown arg9 P old 32 f9)
    (f10 : BufTy.Contents (Elt Ideal) arg10.view.ty) (f11 : BufTy.Contents (Elt Ideal) arg11.view.ty) :
    Outputs P old (arg9.view.read (Elt Ideal) f9, arg10.view.read (Elt Ideal) (arg10.view.writes (Elt Ideal) f10 [keyPiece a.1 a.2.1 a.2.2.1 a.2.2.2.1]),
      arg11.view.read (Elt Ideal) (arg11.view.writes (Elt Ideal) f11 [valuePiece a.2.2.2.2.1 a.2.2.2.2.2.1 a.2.2.2.2.2.2.1 a.2.2.2.2.2.2.2])) where
  query r d := by
    show arg9.view.read (Elt Ideal) f9 (ix3 0 r d) = _
    rw [hf r d]
    congr 1
    have := r.isLt
    by_cases h : 4 * P.block ≤ r.val / 256
    · rw [if_pos ⟨h, by omega⟩]
    · rw [if_neg (fun h' => h h'.1), P.queryAt_eq_zero d (by omega)]
  key r d := by
    obtain ⟨t, r', rfl⟩ := exists_col r
    refine (read_stored arg10 f10 _ _ _).trans ?_
    refine (pay5_at (keyAt a) t r' d).trans ?_
    rw [ha.key, P.key_eq hb]
  value r d := by
    obtain ⟨t, r', rfl⟩ := exists_col r
    refine (read_stored arg11 f11 _ _ _).trans ?_
    refine (pay6_at (valueAt a) t r' d).trans ?_
    rw [ha.value, P.value_eq hb]

/-- At the first block of keys of a head the query gradient starts at zero; -/
theorem start_outputs (hc : Start i) : Outputs (pointOf (i 1).val x2 x3 x4 x5 x6 x7) (fun _ _ => 0)
    (startOut (F := Ideal) c i arg2 harg2 arg3 harg3 arg4 harg4 arg5 harg5 arg6 harg6 arg7 harg7 arg8 harg8 arg9 harg9 arg10 harg10 arg11 harg11 x2 x3 x4 x5 x6 x7 hc) := by
  have hR := reads_point i arg2 harg2 arg3 harg3 arg4 harg4 arg5 harg5 arg6 harg6 arg7 harg7 x2 x3 x4 x5 x6 x7
  have hb : (i 1).val < 8 := (i 1).isLt
  obtain ⟨v257, v258, v272, n, w, r, G₁, G₂, a₁, a₂, e1, en, ew, er, eG₁, ea₁, eG₂, ea₂, e2, e3⟩ := start_eq (F := Ideal) Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc
  have z := grown_self (arg9 := arg9) (pointOf (i 1).val x2 x3 x4 x5 x6 x7) (old := fun _ _ => 0) (f := arg9.view.writes (Elt Ideal) arg9.view.junk [zeroPiece]) (fun r d => by
    refine Eq.trans ?_ (?_ : k0_pay437 (F := Ideal) (ix3 0 r d) = 0)
    · exact read_stored arg9 _ _ _ _
    · unfold k0_pay437; pointwise)
  have g0 := diagOver_grown hR rfl z
  have g1 := narrow_end Variants.none c none i arg2 harg2 arg3 harg3 arg4 harg4 arg5 harg5 arg6 harg6 arg7 harg7 arg8 harg8 arg9 harg9 arg10 harg10 arg11 harg11 _ _ _ _ _ _ hR rfl v258 _ g0
  rw [← en] at g1
  rw [← View.writes_append, ← eG₁, ← ea₁] at g1
  have g2 := wide_end Variants.none c none i arg2 harg2 arg3 harg3 arg4 harg4 arg5 harg5 arg6 harg6 arg7 harg7 arg8 harg8 arg9 harg9 arg10 harg10 arg11 harg11 _ _ _ _ _ _ hR rfl v257 _ _ g1.1 g1.2
  rw [← ew] at g2
  have er' : r = (w.1, []) := by rw [er, ea₂]; exact rest_end Variants.none c none i arg2 harg2 arg3 harg3 arg4 harg4 arg5 harg5 arg6 harg6 arg7 harg7 arg8 harg8 arg9 harg9 arg10 harg10 arg11 harg11 _ _ _ _ _ _ v272 G₂ w.1
  have g3 := g2.2
  rw [eG₁, ← View.writes_append] at g3
  replace g2 := g2.1
  clear er en ew eG₂ eG₁ ea₁ g0 z hR
  unfold startOut
  rw [e3, e2, e1]
  subst er'
  exact outputs_of arg9 arg10 arg11 _ hb g2 g3 _ _

/-- at a later one it goes on from `x9`. -/
theorem next_outputs (hc : ¬Start i) (x9 : Vec Ideal S1x8192x128 .f32) : Outputs (pointOf (i 1).val x2 x3 x4 x5 x6 x7) (fun r d => x9 (ix3 0 r d))
    (nextOut (F := Ideal) c i arg2 harg2 arg3 harg3 arg4 harg4 arg5 harg5 arg6 harg6 arg7 harg7 arg8 harg8 arg9 harg9 arg10 harg10 arg11 harg11 x2 x3 x4 x5 x6 x7 hc x9) := by
  have hR := reads_point i arg2 harg2 arg3 harg3 arg4 harg4 arg5 harg5 arg6 harg6 arg7 harg7 x2 x3 x4 x5 x6 x7
  have hb : (i 1).val < 8 := (i 1).isLt
  obtain ⟨v257, v258, v272, n, w, r, G₁, G₂, a₁, a₂, e1, en, ew, er, eG₁, ea₁, eG₂, ea₂, e2, e3⟩ := next_eq (F := Ideal) Variants.none c none i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread x7) hc (harg9.unread (Val := Elt Ideal) x9)
  have z := grown_self (arg9 := arg9) (pointOf (i 1).val x2 x3 x4 x5 x6 x7) (old := fun r d => x9 (ix3 0 r d)) (f := harg9.unread (Val := Elt Ideal) x9) (fun r d => by rw [harg9.read_unread])
  have g0 := diagPieces_grown hR rfl z
  have g1 := narrow_end Variants.none c none i arg2 harg2 arg3 harg3 arg4 harg4 arg5 harg5 arg6 harg6 arg7 harg7 arg8 harg8 arg9 harg9 arg10 harg10 arg11 harg11 _ _ _ _ _ _ hR rfl v258 _ g0
  rw [← en] at g1
  rw [← View.writes_append, ← eG₁, ← ea₁] at g1
  have g2 := wide_end Variants.none c none i arg2 harg2 arg3 harg3 arg4 harg4 arg5 harg5 arg6 harg6 arg7 harg7 arg8 harg8 arg9 harg9 arg10 harg10 arg11 harg11 _ _ _ _ _ _ hR rfl v257 _ _ g1.1 g1.2
  rw [← ew] at g2
  have er' : r = (w.1, []) := by rw [er, ea₂]; exact rest_end Variants.none c none i arg2 harg2 arg3 harg3 arg4 harg4 arg5 harg5 arg6 harg6 arg7 harg7 arg8 harg8 arg9 harg9 arg10 harg10 arg11 harg11 _ _ _ _ _ _ v272 G₂ w.1
  have g3 := g2.2
  rw [eG₁, ← View.writes_append] at g3
  replace g2 := g2.1
  clear er en ew eG₂ eG₁ ea₁ g0 z hR
  unfold nextOut
  rw [e3, e2, e1]
  subst er'
  exact outputs_of arg9 arg10 arg11 _ hb g2 g3 _ _

end

end Cert.AttnIdeal.Attn

end
-- ==== Proof.AttnArray.lean ====
module

public import proofs.«01_k».proof.Proof.AttnPoint
public import Idealize.ShloMosaic.Lib.Pipeline.ValueKit

@[expose] public section

set_option maxRecDepth 16384

noncomputable section

namespace Cert.AttnIdeal.Attn

open Cert.AttnIdeal Idealize.ShloMosaic Idealize.ShloMosaic.TcCoe Idealize.ShloMosaic.Tactic Cert.AttnIdeal.Gen
open Idealize.SL.Sem

/-- One head's columns `1024 j …` against all its rows, read off the whole arrays. -/
def headPoint (A0 A1 A2 A3 : Vec Ideal S4x8192x128 .bf16) (A4 A5 : Vec Ideal S4x8192x128 .f32) (h : Fin 4) (j : ℕ) : Point where
  block := j
  Q i d := if hi : i < 8192 then A0 (ix3 h ⟨i, hi⟩ d) else 0
  O i d := if hi : i < 8192 then A3 (ix3 h ⟨i, hi⟩ d) else 0
  L i := if hi : i < 8192 then A4 (ix3 h ⟨i, hi⟩ 0) else 0
  D i := if hi : i < 8192 then A5 (ix3 h ⟨i, hi⟩ 0) else 0
  K c d := if hc : 1024 * j + c.val < 8192 then A1 (ix3 h ⟨1024 * j + c.val, hc⟩ d) else 0
  V c d := if hc : 1024 * j + c.val < 8192 then A2 (ix3 h ⟨1024 * j + c.val, hc⟩ d) else 0

theorem index_row : ∀ t : Fin cfg0.N, win0_0.index t = ![t.val / 8, 0, 0] ∧ win0_3.index t = ![t.val / 8, 0, 0] ∧ win0_4.index t = ![t.val / 8, 0, 0]
    ∧ win0_5.index t = ![t.val / 8, 0, 0] ∧ win0_6.index t = ![t.val / 8, 0, 0] :=
  (by decide +kernel : ∀ t : Fin grid0.N, win0_0.index t = ![t.val / 8, 0, 0] ∧ win0_3.index t = ![t.val / 8, 0, 0] ∧ win0_4.index t = ![t.val / 8, 0, 0]
    ∧ win0_5.index t = ![t.val / 8, 0, 0] ∧ win0_6.index t = ![t.val / 8, 0, 0])

theorem index_col : ∀ t : Fin cfg0.N, win0_1.index t = ![t.val / 8, t.val % 8, 0] ∧ win0_2.index t = ![t.val / 8, t.val % 8, 0] ∧ win0_7.index t = ![t.val / 8, t.val % 8, 0]
    ∧ win0_8.index t = ![t.val / 8, t.val % 8, 0] :=
  (by decide +kernel : ∀ t : Fin grid0.N, win0_1.index t = ![t.val / 8, t.val % 8, 0] ∧ win0_2.index t = ![t.val / 8, t.val % 8, 0] ∧ win0_7.index t = ![t.val / 8, t.val % 8, 0]
    ∧ win0_8.index t = ![t.val / 8, t.val % 8, 0])

theorem coord_col : ∀ t : Fin cfg0.N, (grid0.coords t 1).val = t.val % 8 :=
  (by decide +kernel : ∀ t : Fin grid0.N, (grid0.coords t 1).val = t.val % 8)

variable (m : (ℓ : Loc nD τ sig) → Buf (Elt Ideal) ℓ) (c : Dev nD)

/-- Head `h`'s block `j`, of the arrays the grid is entered with. -/
abbrev enteredPoint (h : Fin 4) (j : ℕ) : Point :=
  headPoint (V m c main_v45) (V m c main_v49) (V m c main_v53) (V m c main_v57) (V m c main_v59) (V m c main_v60) h j

abbrev headOf (t : Fin cfg0.N) : Fin 4 := ⟨t.val / 8, by have : t.val < 32 := t.isLt; omega⟩

set_option maxHeartbeats 2000000 in
theorem row_emb (t : Fin cfg0.N) (i : Fin 8192) (d : Fin 128) :
    (win0_0.blk t).view.emb (ix3 0 i d) = ix3 (headOf t) i d ∧ (win0_3.blk t).view.emb (ix3 0 i d) = ix3 (headOf t) i d
    ∧ (win0_4.blk t).view.emb (ix3 0 i d) = ix3 (headOf t) i d ∧ (win0_5.blk t).view.emb (ix3 0 i d) = ix3 (headOf t) i d
    ∧ (win0_6.blk t).view.emb (ix3 0 i d) = ix3 (headOf t) i d := by
  obtain ⟨e0, e3, e4, e5, e6⟩ := index_row t
  refine ⟨?_, ?_, ?_, ?_, ?_⟩
  · blk_ext [e0]
  · blk_ext [e3]
  · blk_ext [e4]
  · blk_ext [e5]
  · blk_ext [e6]

theorem read0 (A : Vec Ideal S4x8192x128 .bf16) (t : Fin cfg0.N) (i : Fin 8192) (d : Fin 128) :
    (win0_0.blk t).view.read (Elt Ideal) A (ix3 0 i d) = A (ix3 (headOf t) i d) := congrArg A (row_emb t i d).1

theorem read3 (A : Vec Ideal S4x8192x128 .bf16) (t : Fin cfg0.N) (i : Fin 8192) (d : Fin 128) :
    (win0_3.blk t).view.read (Elt Ideal) A (ix3 0 i d) = A (ix3 (headOf t) i d) := congrArg A (row_emb t i d).2.1

theorem read4 (A : Vec Ideal S4x8192x128 .f32) (t : Fin cfg0.N) (i : Fin 8192) (d : Fin 128) :
    (win0_4.blk t).view.read (Elt Ideal) A (ix3 0 i d) = A (ix3 (headOf t) i d) := congrArg A (row_emb t i d).2.2.1

theorem read5 (A : Vec Ideal S4x8192x128 .f32) (t : Fin cfg0.N) (i : Fin 8192) (d : Fin 128) :
    (win0_5.blk t).view.read (Elt Ideal) A (ix3 0 i d) = A (ix3 (headOf t) i d) := congrArg A (row_emb t i d).2.2.2.1

theorem row_read (t : Fin cfg0.N) (i : Fin 8192) (d : Fin 128) :
    iblk m c 0 t (ix3 0 i d) = (V m c main_v45 : Vec Ideal S4x8192x128 .bf16) (ix3 (headOf t) i d)
    ∧ iblk m c 3 t (ix3 0 i d) = (V m c main_v57 : Vec Ideal S4x8192x128 .bf16) (ix3 (headOf t) i d)
    ∧ iblk m c 4 t (ix3 0 i d) = (V m c main_v59 : Vec Ideal S4x8192x128 .f32) (ix3 (headOf t) i d)
    ∧ iblk m c 5 t (ix3 0 i d) = (V m c main_v60 : Vec Ideal S4x8192x128 .f32) (ix3 (headOf t) i d) := by
  unfold iblk
  exact ⟨read0 (V m c main_v45) t i d, read3 (V m c main_v57) t i d, read4 (V m c main_v59) t i d, read5 (V m c main_v60) t i d⟩

theorem col_lt (t : Fin cfg0.N) (k : Fin 1024) : 1024 * (t.val % 8) + k.val < 8192 := by have := k.isLt; omega

set_option maxHeartbeats 2000000 in
theorem col_emb (t : Fin cfg0.N) (k : Fin 1024) (d : Fin 128) :
    (win0_1.blk t).view.emb (ix3 0 k d) = ix3 (headOf t) ⟨1024 * (t.val % 8) + k.val, col_lt t k⟩ d
    ∧ (win0_2.blk t).view.emb (ix3 0 k d) = ix3 (headOf t) ⟨1024 * (t.val % 8) + k.val, col_lt t k⟩ d
    ∧ (win0_7.blk t).view.emb (ix3 0 k d) = ix3 (headOf t) ⟨1024 * (t.val % 8) + k.val, col_lt t k⟩ d
    ∧ (win0_8.blk t).view.emb (ix3 0 k d) = ix3 (headOf t) ⟨1024 * (t.val % 8) + k.val, col_lt t k⟩ d := by
  obtain ⟨e1, e2, e7, e8⟩ := index_col t
  refine ⟨?_, ?_, ?_, ?_⟩
  · blk_ext [e1]
  · blk_ext [e2]
  · blk_ext [e7]
  · blk_ext [e8]

theorem read1 (A : Vec Ideal S4x8192x128 .bf16) (t : Fin cfg0.N) (i : Fin 1024) (d : Fin 128) :
    (win0_1.blk t).view.read (Elt Ideal) A (ix3 0 i d) = A (ix3 (headOf t) ⟨1024 * (t.val % 8) + i.val, col_lt t i⟩ d) := congrArg A (col_emb t i d).1

theorem read2 (A : Vec Ideal S4x8192x128 .bf16) (t : Fin cfg0.N) (i : Fin 1024) (d : Fin 128) :
    (win0_2.blk t).view.read (Elt Ideal) A (ix3 0 i d) = A (ix3 (headOf t) ⟨1024 * (t.val % 8) + i.val, col_lt t i⟩ d) := congrArg A (col_emb t i d).2.1

theorem col_read (t : Fin cfg0.N) (k : Fin 1024) (d : Fin 128) :
    iblk m c 1 t (ix3 0 k d) = (V m c main_v49 : Vec Ideal S4x8192x128 .bf16) (ix3 (headOf t) ⟨1024 * (t.val % 8) + k.val, col_lt t k⟩ d)
    ∧ iblk m c 2 t (ix3 0 k d) = (V m c main_v53 : Vec Ideal S4x8192x128 .bf16) (ix3 (headOf t) ⟨1024 * (t.val % 8) + k.val, col_lt t k⟩ d) := by
  unfold iblk
  exact ⟨read1 (V m c main_v49) t k d, read2 (V m c main_v53) t k d⟩

/-- What point `t` works on is its head's block. -/
theorem point_entered (t : Fin cfg0.N) :
    pointOf (grid0.coords t 1).val (iblk m c 0 t) (iblk m c 1 t) (iblk m c 2 t) (iblk m c 3 t) (iblk m c 4 t) (iblk m c 5 t)
      = enteredPoint m c (headOf t) (t.val % 8) := by
  unfold pointOf enteredPoint headPoint
  rw [Point.mk.injEq]
  refine ⟨coord_col t, ?_, ?_, ?_, ?_, ?_, ?_⟩
  · funext i d
    show rowsOf _ _ _ _ = _
    unfold rowsOf
    by_cases hi : i < 8192
    · rw [dif_pos hi, dif_pos hi]; exact (row_read m c t ⟨i, hi⟩ d).1
    · rw [dif_neg hi, dif_neg hi]
  · funext i d
    show rowsOf _ _ _ _ = _
    unfold rowsOf
    by_cases hi : i < 8192
    · rw [dif_pos hi, dif_pos hi]; exact (row_read m c t ⟨i, hi⟩ d).2.1
    · rw [dif_neg hi, dif_neg hi]
  · funext i
    show rowsOf _ _ _ _ = _
    unfold rowsOf
    by_cases hi : i < 8192
    · rw [dif_pos hi, dif_pos hi]; exact (row_read m c t ⟨i, hi⟩ 0).2.2.1
    · rw [dif_neg hi, dif_neg hi]
  · funext i
    show rowsOf _ _ _ _ = _
    unfold rowsOf
    by_cases hi : i < 8192
    · rw [dif_pos hi, dif_pos hi]; exact (row_read m c t ⟨i, hi⟩ 0).2.2.2
    · rw [dif_neg hi, dif_neg hi]
  · funext k d
    rw [dif_pos (col_lt t k)]; exact (col_read m c t k d).1
  · funext k d
    rw [dif_pos (col_lt t k)]; exact (col_read m c t k d).2

/-- After point `t` the first block holds the sum of its head's blocks so far. -/
theorem outs_at : ∀ (n : ℕ) (h : n < cfg0.N),
    Outputs (enteredPoint m c (headOf ⟨n, h⟩) (n % 8)) (fun r d => ∑ j ∈ Finset.range (n % 8), (enteredPoint m c (headOf ⟨n, h⟩) j).queryAt r d) (outsAt m c n h) := by
  intro n
  induction n with
  | zero =>
    intro h
    have hc : Start (grid0.coords ⟨0, h⟩) := (start_of ⟨0, h⟩).mpr rfl
    have H := start_outputs c (grid0.coords ⟨0, h⟩) (st0_0 ⟨0, h⟩) (hst0 ⟨0, h⟩) (st0_1 ⟨0, h⟩) (hst1 ⟨0, h⟩) (st0_2 ⟨0, h⟩) (hst2 ⟨0, h⟩) (st0_3 ⟨0, h⟩) (hst3 ⟨0, h⟩) (st0_4 ⟨0, h⟩) (hst4 ⟨0, h⟩) (st0_5 ⟨0, h⟩) (hst5 ⟨0, h⟩) (Memref.whole main_v62) (Memref.isWhole_whole _) (st0_6 ⟨0, h⟩) (hst6 ⟨0, h⟩) (st0_7 ⟨0, h⟩) (hst7 ⟨0, h⟩) (st0_8 ⟨0, h⟩) (hst8 ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) hc
    rw [← outsAt_start m c ⟨0, h⟩ hc, point_entered] at H
    exact H
  | succ n ih =>
    intro h
    generalize ht : (⟨n + 1, h⟩ : Fin cfg0.N) = t
    have htv : t.val = n + 1 := by rw [← ht]
    by_cases hs : t.val % 8 = 0
    · have hc : Start (grid0.coords t) := (start_of t).mpr hs
      have H := start_outputs c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc
      rw [← outsAt_start m c t hc, point_entered] at H
      subst ht
      have e : (n + 1) % 8 = 0 := hs
      convert H using 1
      funext r d
      rw [e]; rfl
    · have hc : ¬Start (grid0.coords t) := fun q => hs ((start_of t).mp q)
      have hn : n < cfg0.N := Nat.lt_of_succ_lt h
      have H := next_outputs c (grid0.coords t) (st0_0 t) (hst0 t) (st0_1 t) (hst1 t) (st0_2 t) (hst2 t) (st0_3 t) (hst3 t) (st0_4 t) (hst4 t) (st0_5 t) (hst5 t) (Memref.whole main_v62) (Memref.isWhole_whole _) (st0_6 t) (hst6 t) (st0_7 t) (hst7 t) (st0_8 t) (hst8 t) (iblk m c 0 t) (iblk m c 1 t) (iblk m c 2 t) (iblk m c 3 t) (iblk m c 4 t) (iblk m c 5 t) hc (outsAt m c (t.val - 1) (Nat.lt_of_le_of_lt (Nat.sub_le _ _) t.isLt)).1
      rw [← outsAt_next m c t hc, point_entered] at H
      subst ht
      have e : (n + 1) % 8 = n % 8 + 1 := by have : (n + 1) % 8 ≠ 0 := hs; omega
      have eh : headOf ⟨n + 1, h⟩ = headOf ⟨n, hn⟩ := Fin.ext (show (n + 1) / 8 = n / 8 by omega)
      convert H using 1
      funext r d
      rw [e, Finset.sum_range_succ, eh]
      exact ((ih hn).query r d).symm

/-- The gradient of the queries of all heads: each row's sum over its head's blocks. -/
def queryArr : Vec Ideal S4x8192x128 .f32 := fun y => ∑ j ∈ Finset.range 8, (enteredPoint m c (y 0) j).queryAt (y 1).val (y 2)

/-- The gradient of the keys of all heads, -/
def keyArr : Vec Ideal S4x8192x128 .f32 := fun y =>
  (enteredPoint m c (y 0) ((y 1).val / 1024)).key ⟨(y 1).val % 1024, Nat.mod_lt _ (by norm_num)⟩ (y 2) * Named.named (F := Ideal) κ (φ := .f32) "ln2" 0x3F317218#32

/-- and of the values. -/
def valueArr : Vec Ideal S4x8192x128 .f32 := fun y =>
  (enteredPoint m c (y 0) ((y 1).val / 1024)).value ⟨(y 1).val % 1024, Nat.mod_lt _ (by norm_num)⟩ (y 2)

theorem flush6 : ∀ t : Fin cfg0.N, (win0 6).flush t = true → t.val % 8 = 7 :=
  (by decide +kernel : ∀ t : Fin grid0.N, (win0 6).flush t = true → t.val % 8 = 7)

theorem query_final : (dats m 0 c).arrAt 6 cfg0.N = queryArr m c := by
  refine (dats m 0 c).arrAt_eq_of_covers 6 _ (by decide +kernel) fun t hf y => ?_
  have e := flush6 t hf
  blk_simp
  idx_vars y
  obtain rfl : y0 = 0 := Subsingleton.elim _ _
  rw [after_6, (row_emb t y1 y2).2.2.2.2]
  refine ((outs_at m c t.val t.isLt).query y1 y2).trans ?_
  rw [e]
  exact (Finset.sum_range_succ (fun j => (enteredPoint m c (headOf t) j).queryAt y1.val y2) 7).symm

theorem key_final : (dats m 0 c).arrAt 7 cfg0.N = keyArr m c := by
  refine (dats m 0 c).arrAt_eq_of_covers 7 _ (by decide +kernel) fun t hf y => ?_
  blk_simp
  idx_vars y
  obtain rfl : y0 = 0 := Subsingleton.elim _ _
  rw [after_7, (col_emb t y1 y2).2.2.1]
  refine ((outs_at m c t.val t.isLt).key y1 y2).trans ?_
  have ht := col_lt t y1
  have hy := y1.isLt
  have e1 : (1024 * (t.val % 8) + y1.val) / 1024 = t.val % 8 := by omega
  have e2 : (1024 * (t.val % 8) + y1.val) % 1024 = y1.val := by omega
  unfold keyArr
  show _ = (enteredPoint m c (headOf t) ((1024 * (t.val % 8) + y1.val) / 1024)).key ⟨(1024 * (t.val % 8) + y1.val) % 1024, _⟩ y2 * Named.named (F := Ideal) κ (φ := .f32) "ln2" 0x3F317218#32
  simp only [e1, e2]

theorem value_final : (dats m 0 c).arrAt 8 cfg0.N = valueArr m c := by
  refine (dats m 0 c).arrAt_eq_of_covers 8 _ (by decide +kernel) fun t hf y => ?_
  blk_simp
  idx_vars y
  obtain rfl : y0 = 0 := Subsingleton.elim _ _
  rw [after_8, (col_emb t y1 y2).2.2.2]
  refine ((outs_at m c t.val t.isLt).value y1 y2).trans ?_
  have ht := col_lt t y1
  have hy := y1.isLt
  have e1 : (1024 * (t.val % 8) + y1.val) / 1024 = t.val % 8 := by omega
  have e2 : (1024 * (t.val % 8) + y1.val) % 1024 = y1.val := by omega
  unfold valueArr
  show _ = (enteredPoint m c (headOf t) ((1024 * (t.val % 8) + y1.val) / 1024)).value ⟨(1024 * (t.val % 8) + y1.val) % 1024, _⟩ y2
  simp only [e1, e2]

end Cert.AttnIdeal.Attn
-- ==== Proof.AttnMath.lean ====
module

public import Mathlib.Data.EReal.Operations
public import Mathlib.Analysis.SpecialFunctions.Pow.Real

@[expose] public section

noncomputable section

namespace Cert.AttnMath

/-- A sum of real numbers, taken among the extended ones. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scale of the scores. -/
def scale : ℝ := (Real.sqrt 96)⁻¹

/-- One head of the attention: its queries, keys and values and the cotangent of its output. -/
structure Head where
  q : Fin 8192 → Fin 96 → ℝ
  k : Fin 8192 → Fin 96 → ℝ
  v : Fin 8192 → Fin 128 → ℝ
  o : Fin 8192 → Fin 128 → ℝ

namespace Head

variable (H : Head)

def score (i j : Fin 8192) : ℝ := (∑ d, H.q i d * H.k j d) * scale

/-- The score of a column left of the diagonal or on it, nothing right of it. -/
def masked (i j : Fin 8192) : EReal := if j.val ≤ i.val then (H.score i j : EReal) else ⊥

/-- The largest score of a row. -/
def top (i : Fin 8192) : ℝ := (Finset.univ.sup (H.masked i)).toReal

theorem top_eq (i : Fin 8192) : Finset.univ.sup (H.masked i) = (H.top i : EReal) := by
  refine (EReal.coe_toReal ?_ ?_).symm
  · obtain ⟨j, -, hj⟩ := Finset.exists_mem_eq_sup Finset.univ ⟨i, Finset.mem_univ i⟩ (H.masked i)
    rw [hj, masked]
    split
    · exact EReal.coe_ne_top _
    · exact bot_ne_top
  · have h : H.masked i i ≤ Finset.univ.sup (H.masked i) := Finset.le_sup (Finset.mem_univ i)
    rw [masked, if_pos le_rfl] at h
    exact ne_bot_of_le_ne_bot (EReal.coe_ne_bot _) h

def expo (i j : Fin 8192) : ℝ := if j.val ≤ i.val then Real.exp (H.score i j - H.top i) else 0

def tot (i : Fin 8192) : ℝ := ∑ j, H.expo i j

theorem tot_pos (i : Fin 8192) : 0 < H.tot i := by
  refine Finset.sum_pos' (fun j _ => ?_) ⟨i, Finset.mem_univ i, ?_⟩
  · unfold expo
    split
    · exact (Real.exp_pos _).le
    · exact le_rfl
  · rw [expo, if_pos le_rfl]
    exact Real.exp_pos _

/-- The softmax of the scores. -/
def prob (i j : Fin 8192) : ℝ := H.expo i j / H.tot i

/-- The cotangent of the softmax, -/
def dprob (i j : Fin 8192) : ℝ := ∑ e, H.o i e * H.v j e

/-- its mean in a row, -/
def delta (i : Fin 8192) : ℝ := ∑ j, H.prob i j * H.dprob i j

/-- and the cotangent of the scores. -/
def dscore (i j : Fin 8192) : ℝ := H.prob i j * (H.dprob i j - H.delta i)

/-- A row of 96 numbers, zeros after it. -/
def wide (x : Fin 8192 → Fin 96 → ℝ) (i : Fin 8192) (d : Fin 128) : ℝ := if h : d.val < 96 then x i ⟨d.val, h⟩ else 0

/-- The gradient of the queries, -/
def dq (i : Fin 8192) (d : Fin 128) : ℝ := (∑ j, H.dscore i j * wide H.k j d) * scale

/-- of the keys, -/
def dk (j : Fin 8192) (d : Fin 128) : ℝ := (∑ i, H.dscore i j * wide H.q i d) * scale

/-- and of the values. -/
def dv (j : Fin 8192) (e : Fin 128) : ℝ := ∑ i, H.prob i j * H.o i e

theorem sum_wide (x y : Fin 8192 → Fin 96 → ℝ) (i j : Fin 8192) : ∑ d, wide x i d * wide y j d = ∑ d, x i d * y j d := by
  rw [show (∑ d : Fin 128, wide x i d * wide y j d) = ∑ d : Fin (96 + 32), wide x i d * wide y j d from rfl, Fin.sum_univ_add]
  rw [Finset.sum_eq_zero (s := Finset.univ) (f := fun d : Fin 32 => wide x i (Fin.natAdd 96 d) * wide y j (Fin.natAdd 96 d))
    (fun d _ => by rw [wide, dif_neg (by simp), zero_mul]), add_zero]
  refine Finset.sum_congr rfl fun d _ => ?_
  rw [wide, wide, dif_pos (by simp), dif_pos (by simp)]
  rfl

/-- The row statistic the kernel is given, in base two. -/
def lse (i : Fin 8192) : ℝ := (H.top i + Real.log (H.tot i)) * (Real.log 2)⁻¹

/-- The queries as the kernel is given them. -/
def qs (i : Fin 8192) (d : Fin 128) : ℝ := wide H.q i d * (scale * (Real.log 2)⁻¹)

theorem log_two_ne : Real.log 2 ≠ 0 := (Real.log_pos (by norm_num)).ne'

/-- From the scores and the row statistic the kernel gets the softmax back. -/
theorem two_rpow (i j : Fin 8192) (h : j.val ≤ i.val) : Real.rpow 2 ((∑ d, H.qs i d * wide H.k j d) - H.lse i) = H.prob i j := by
  have e : (∑ d, H.qs i d * wide H.k j d) = H.score i j * (Real.log 2)⁻¹ := by
    rw [score, ← sum_wide, mul_assoc, Finset.sum_mul]
    refine Finset.sum_congr rfl fun d _ => ?_
    unfold qs; ring
  rw [e, lse, ← sub_mul]
  show (2 : ℝ) ^ ((H.score i j - (H.top i + Real.log (H.tot i))) * (Real.log 2)⁻¹) = _
  rw [Real.rpow_def_of_pos (by norm_num), mul_comm, mul_assoc, inv_mul_cancel₀ log_two_ne, mul_one, ← sub_sub, Real.exp_sub, Real.exp_log (H.tot_pos i),
    prob, expo, if_pos h]

theorem prob_eq_zero (i j : Fin 8192) (h : ¬ j.val ≤ i.val) : H.prob i j = 0 := by
  rw [prob, expo, if_neg h, zero_div]

end Head

/-- Column `c` of block `b`. -/
def colOf (b : Fin 8) (c : Fin 1024) : Fin 8192 := ⟨1024 * b.val + c.val, by have := b.isLt; have := c.isLt; omega⟩

/-- A sum over the columns is the sum over the blocks of the sums over their columns. -/
theorem sum_blocks (f : Fin 8192 → ℝ) : ∑ b : Fin 8, ∑ c : Fin 1024, f (colOf b c) = ∑ j, f j := by
  rw [← Fintype.sum_prod_type', ← Equiv.sum_comp (finProdFinEquiv (m := 8) (n := 1024)) f]
  refine Finset.sum_congr rfl fun x _ => congrArg f (Fin.ext ?_)
  show 1024 * x.1.val + x.2.val = x.2.val + 1024 * x.1.val
  omega

end Cert.AttnMath
-- ==== Proof.AttnHeads.lean ====
module

public import proofs.«01_k».proof.Proof.AttnArray
public import proofs.«01_k».proof.Proof.AttnMath

@[expose] public section

set_option maxRecDepth 16384

noncomputable section

namespace Cert.AttnIdeal.Attn

open Cert.AttnIdeal Idealize.ShloMosaic Idealize.ShloMosaic.TcCoe Idealize.ShloMosaic.Tactic Cert.AttnIdeal.Gen
open Cert.AttnMath

/-- A block of a head's columns, when what the kernel is given are real numbers. -/
structure Of (H : Head) (b : Fin 8) (P : Point) : Prop where
  block : P.block = b.val
  query : ∀ (i : Fin 8192) (d : Fin 128), P.Q i.val d = (H.qs i d : EReal)
  cot : ∀ (i : Fin 8192) (e : Fin 128), P.O i.val e = (H.o i e : EReal)
  lse : ∀ i : Fin 8192, P.L i.val = (H.lse i : EReal)
  delta : ∀ i : Fin 8192, P.D i.val = (H.delta i : EReal)
  key : ∀ (c : Fin 1024) (d : Fin 128), P.K c d = (Head.wide H.k (colOf b c) d : EReal)
  value : ∀ (c : Fin 1024) (e : Fin 128), P.V c e = (H.v (colOf b c) e : EReal)

/-- A power of two, over the reals. -/
theorem exp2_real (r : ℝ) : FloatOps.exp2 (F := Ideal) (φ := .f32) (r : EReal) = ((Real.rpow 2 r : ℝ) : EReal) := rfl

namespace Of

variable {H : Head} {b : Fin 8} {P : Point} (h : Of H b P)

include h

theorem wt (i : Fin 8192) (c : Fin 1024) : P.wt i.val c = (H.prob i (colOf b c) : EReal) := by
  unfold Point.wt
  rw [h.block]
  by_cases hc : 1024 * b.val + c.val ≤ i.val
  · rw [if_pos hc, h.lse, Finset.sum_congr rfl fun d _ => by rw [h.query, h.key, ← EReal.coe_mul], coe_sum, ← EReal.coe_sub]
    exact (exp2_real _).trans (congrArg (fun r : ℝ => (r : EReal)) (H.two_rpow i (colOf b c) hc))
  · rw [if_neg hc, H.prob_eq_zero i (colOf b c) hc, EReal.coe_zero]

theorem sg (i : Fin 8192) (c : Fin 1024) : P.sg i.val c = (H.dscore i (colOf b c) : EReal) := by
  unfold Point.sg
  rw [h.wt, h.delta, Finset.sum_congr rfl fun d _ => by rw [h.cot, h.value, ← EReal.coe_mul], coe_sum, ← EReal.coe_sub, ← EReal.coe_mul]
  rfl

theorem queryAt (i : Fin 8192) (d : Fin 128) :
    P.queryAt i.val d = (((∑ c, H.dscore i (colOf b c) * Head.wide H.k (colOf b c) d) * scale : ℝ) : EReal) := by
  unfold Point.queryAt
  rw [Finset.sum_congr rfl fun c _ => by rw [h.sg, h.key, ← EReal.coe_mul], coe_sum, EReal.coe_mul]
  rfl

theorem keyGrad (c : Fin 1024) (d : Fin 128) : P.key c d * Named.named (F := Ideal) κ (φ := .f32) "ln2" 0x3F317218#32 = (H.dk (colOf b c) d : EReal) := by
  unfold Point.key
  rw [Finset.sum_congr rfl fun i _ => by rw [h.sg, h.query, ← EReal.coe_mul], coe_sum]
  show ((∑ i, H.dscore i (colOf b c) * H.qs i d : ℝ) : EReal) * ((Real.log 2 : ℝ) : EReal) = _
  rw [← EReal.coe_mul, Head.dk, Finset.sum_mul, Finset.sum_mul]
  refine congrArg _ (Finset.sum_congr rfl fun i _ => ?_)
  rw [Head.qs, mul_assoc, mul_assoc, mul_assoc, mul_assoc, inv_mul_cancel₀ Head.log_two_ne, mul_one]

theorem valueGrad (c : Fin 1024) (e : Fin 128) : P.value c e = (H.dv (colOf b c) e : EReal) := by
  unfold Point.value
  rw [Finset.sum_congr rfl fun i _ => by rw [h.wt, h.cot, ← EReal.coe_mul], coe_sum]
  rfl

end Of

/-- The blocks of a head add up to the gradient of its queries. -/
theorem query_blocks {H : Head} {P : ℕ → Point} (h : ∀ b : Fin 8, Of H b (P b.val)) (i : Fin 8192) (d : Fin 128) :
    ∑ j ∈ Finset.range 8, (P j).queryAt i.val d = (H.dq i d : EReal) := by
  rw [← Fin.sum_univ_eq_sum_range (fun j => (P j).queryAt i.val d) 8, Finset.sum_congr rfl fun b _ => (h b).queryAt i d, coe_sum, ← Finset.sum_mul,
    sum_blocks (fun j => H.dscore i j * Head.wide H.k j d)]
  rfl

variable (m : (ℓ : Loc nD τ sig) → Buf (Elt Ideal) ℓ) (c : Dev nD) (H : Fin 4 → Head)
  (h : ∀ (n : Fin 4) (b : Fin 8), Of (H n) b (enteredPoint m c n b.val))

include h

theorem query_real (n : Fin 4) (i : Fin 8192) (d : Fin 128) : queryArr m c (ix3 n i d) = ((H n).dq i d : EReal) :=
  query_blocks (h n) i d

theorem col_split (j : Fin 8192) : colOf ⟨j.val / 1024, by have := j.isLt; omega⟩ ⟨j.val % 1024, Nat.mod_lt _ (by norm_num)⟩ = j :=
  Fin.ext (Nat.div_add_mod j.val 1024)

theorem key_real (n : Fin 4) (j : Fin 8192) (d : Fin 128) : keyArr m c (ix3 n j d) = ((H n).dk j d : EReal) := by
  refine ((h n ⟨j.val / 1024, by have := j.isLt; omega⟩).keyGrad ⟨j.val % 1024, Nat.mod_lt _ (by norm_num)⟩ d).trans ?_
  rw [col_split m c H h]

theorem value_real (n : Fin 4) (j : Fin 8192) (d : Fin 128) : valueArr m c (ix3 n j d) = ((H n).dv j d : EReal) := by
  refine ((h n ⟨j.val / 1024, by have := j.isLt; omega⟩).valueGrad ⟨j.val % 1024, Nat.mod_lt _ (by norm_num)⟩ d).trans ?_
  rw [col_split m c H h]

end Cert.AttnIdeal.Attn
-- ==== Proof.AttnRef.lean ====
module

public import proofs.«01_k».proof.Proof.Gen.AttnReferenceIdeal.Read
public import proofs.«01_k».proof.Proof.AttnMath
public import Idealize.ShloMosaic.Lib.Pointwise
public import Idealize.ShloMosaic.Lib.KernelVsHost

@[expose] public section

set_option maxRecDepth 16384

noncomputable section

namespace Cert.AttnMath

open Idealize.ShloMosaic

/-- The four arrays of numbers, and what they are for one head. -/
structure Args where
  q : (⟨4, ![1, 8192, 4, 96]⟩ : Shape).Idx → ℝ
  k : (⟨4, ![1, 8192, 4, 96]⟩ : Shape).Idx → ℝ
  v : (⟨4, ![1, 8192, 4, 128]⟩ : Shape).Idx → ℝ
  o : (⟨4, ![1, 8192, 4, 128]⟩ : Shape).Idx → ℝ

def Args.head (A : Args) (n : Fin 4) : Head where
  q i d := A.q (ix4 0 i n d)
  k i d := A.k (ix4 0 i n d)
  v i d := A.v (ix4 0 i n d)
  o i d := A.o (ix4 0 i n d)

theorem idx_first {a b c : ℕ} (y : (⟨4, ![1, a, b, c]⟩ : Shape).Idx) : y = ix4 (0 : Fin 1) (y 1) (y 2) (y 3) :=
  (eq_ix4 y).trans (by congr 1; exact Subsingleton.elim (α := Fin 1) _ _)

theorem word_96 : Ideal.ofBits .f32 0x42C00000#32 = ((96 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; try norm_num

theorem word_two : Ideal.ofBits .f32 0x40000000#32 = ((2 : ℝ) : EReal) := by
  simp [Ideal.ofBits, Ideal.ieee, -EReal.coe_mul]; try norm_num

theorem word_bot : Ideal.ofBits .f32 0xFF800000#32 = (⊥ : EReal) := by
  simp [Ideal.ofBits, Ideal.ieee]

theorem word_zero : Ideal.ofBits .f32 0x00000000#32 = (0 : EReal) := by
  simp [Ideal.ofBits, Ideal.ieee]

theorem div_real (x y : ℝ) (h : y ≠ 0) : Ideal.div (x : EReal) (y : EReal) = ((x / y : ℝ) : EReal) := by
  rw [Ideal.div_coe h, ← EReal.coe_mul, mul_one_div]

/-- The scale as the programs compute it. -/
theorem scale_word : Ideal.div (Ideal.ofBits .f32 0x3F800000#32) (Ideal.sqrt (Ideal.ofBits .f32 0x42C00000#32)) = (scale : EReal) := by
  rw [word_one, word_96, Ideal.sqrt_coe, if_neg (by norm_num), div_real _ _ (by positivity), one_div]
  rfl

/-- The order of two positions, of their words. -/
theorem sle_word (i j : Fin 8192) : IntOp.cmpi .sle (BitVec.ofNat 32 j.val) (BitVec.ofNat 32 i.val) = if j.val ≤ i.val then 1#1 else 0#1 := by
  have hi := i.isLt
  have hj := j.isLt
  have ti : (BitVec.ofNat 32 i.val).toInt = i.val := by rw [BitVec.toInt_eq_toNat_cond, BitVec.toNat_ofNat]; omega
  have tj : (BitVec.ofNat 32 j.val).toInt = j.val := by rw [BitVec.toInt_eq_toNat_cond, BitVec.toNat_ofNat]; omega
  have e : (BitVec.ofNat 32 j.val).sle (BitVec.ofNat 32 i.val) = decide (j.val ≤ i.val) := by
    rw [BitVec.sle_eq_decide, ti, tj]
    exact decide_eq_decide.mpr (by omega)
  show BitVec.ofBool ((BitVec.ofNat 32 j.val).sle (BitVec.ofNat 32 i.val)) = _
  rw [e]
  split <;> rename_i h <;> simp [h]

/-- A fold of maxima from nothing is the largest. -/
theorem fold_max (f : Fin 8192 → EReal) : Finset.univ.fold max ⊥ f = Finset.univ.sup f := by
  unfold Finset.sup
  rfl

/-- The exponential of a masked score less the largest of its row. -/
theorem expo_masked (H : Head) (i j : Fin 8192) : Ideal.exp (H.masked i j - (H.top i : EReal)) = (H.expo i j : EReal) := by
  unfold Head.masked Head.expo
  split
  · rw [← EReal.coe_sub, Ideal.exp_coe]
  · rw [EReal.bot_sub, EReal.coe_zero]; rfl

/-- Columns of zeros put after an array's. -/
theorem pad_lanes {k p : ℕ} (x : (⟨3, ![4, 8192, k]⟩ : Shape).Idx → EReal) (v : (⟨0, ![]⟩ : Shape).Idx → EReal) (hv : ∀ i, v i = 0) (h hu) (n : Fin 4) (i : Fin 8192) (d : Fin 128) :
    pad (⟨3, ![4, 8192, 128]⟩ : Shape) ![0, 0, 0] ![0, 0, p] ![0, 0, 0] x v h hu (ix3 n i d) = if hd : d.val < k then x (ix3 n i ⟨d.val, hd⟩) else 0 := by
  split
  · next hd =>
    refine pad_apply_of_inside _ _ _ _ _ _ _ _ _ fun a => ?_
    match a with
    | ⟨0, _⟩ => show n.val = 0 + n.val * (0 + 1); omega
    | ⟨1, _⟩ => show i.val = 0 + i.val * (0 + 1); omega
    | ⟨2, _⟩ => show d.val = 0 + d.val * (0 + 1); omega
  · next hd =>
    rw [pad_apply_of_not_inside _ _ _ _ _ _ _ _ 2 (fun hin => hd ?_), hv]
    have := hin.2.2
    change (d.val - 0) / (0 + 1) < k at this
    simpa using this

end Cert.AttnMath

namespace Cert.AttnReferenceIdeal.Attn

open Cert.AttnReferenceIdeal Cert.AttnReferenceIdeal.Gen Cert.AttnReferenceIdeal.Read Idealize.ShloMosaic Cert.AttnMath

/-- A sum over two axes of length one. -/
theorem sum_units (S : Vec Ideal S1x4x8192x1 .f32) (n : Fin 4) (i : Fin 8192) :
    Ideal.hostReduceAdd reducesTo_S1x4x8192x1_S4x8192_d0_3 S 0 (ix2 n i) = S (ix4 (0 : Fin 1) n i (0 : Fin 1)) := by
  unfold Ideal.hostReduceAdd
  have e : (Finset.univ.filter fun y : S1x4x8192x1.Idx => reducesTo_S1x4x8192x1_S4x8192_d0_3.drop y = ix2 n i) = {ix4 (0 : Fin 1) n i (0 : Fin 1)} := by
    ext y
    rw [Finset.mem_filter, Finset.mem_singleton]
    constructor
    · rintro ⟨-, e⟩
      refine (eq_ix4 y).trans ?_
      have e0 : y 1 = n := Fin.ext (congrArg (fun z : S4x8192.Idx => (z 0).val) e)
      have e1 : y 2 = i := Fin.ext (congrArg (fun z : S4x8192.Idx => (z 1).val) e)
      have e2 : y 0 = (0 : Fin 1) := Subsingleton.elim (α := Fin 1) _ _
      have e3 : y 3 = (0 : Fin 1) := Subsingleton.elim (α := Fin 1) _ _
      rw [e0, e1, e2, e3]
    · rintro rfl
      refine ⟨Finset.mem_univ _, funext fun b => ?_⟩
      match b with
      | ⟨0, _⟩ => rfl
      | ⟨1, _⟩ => rfl
  rw [zero_add, e, Finset.sum_singleton]

theorem split_unit (n : Fin 4) (i : Fin 8192) : idx_main_v51 (ix4 (0 : Fin 1) n i (0 : Fin 1)) = ix3 (0 : Fin 1) n i := by
  have b0 := n.isLt
  have b1 := i.isLt
  funext a
  apply Fin.ext
  match a with
  | ⟨0, _⟩ => rfl
  | ⟨1, _⟩ => show (((0 * 4 + n.val) * 8192 + i.val) * 1 + 0) / 8192 % 4 = n.val; omega
  | ⟨2, _⟩ => show (((0 * 4 + n.val) * 8192 + i.val) * 1 + 0) % 8192 = i.val; omega

theorem turned_query (n : Fin 4) (i : Fin 8192) (d : Fin 96) : idx_main_v66 (idx_main_v67 (idx_main_v68 (ix3 n i d))) = ix4 (0 : Fin 1) n i d := by
  have b0 := n.isLt
  have b1 := i.isLt
  have b2 := d.isLt
  funext a
  apply Fin.ext
  match a with
  | ⟨0, _⟩ => rfl
  | ⟨1, _⟩ => show ((i.val * 4 + n.val) * 96 + d.val) / 96 % 4 = n.val; omega
  | ⟨2, _⟩ => show ((i.val * 4 + n.val) * 96 + d.val) / 384 % 8192 = i.val; omega
  | ⟨3, _⟩ => show ((i.val * 4 + n.val) * 96 + d.val) % 96 = d.val; omega

theorem turned_value (n : Fin 4) (i : Fin 8192) (d : Fin 128) : idx_main_v46 (idx_main_v73 (idx_main_v74 (ix3 n i d))) = ix4 (0 : Fin 1) n d i := by
  have b0 := n.isLt
  have b1 := i.isLt
  have b2 := d.isLt
  funext a
  apply Fin.ext
  match a with
  | ⟨0, _⟩ => rfl
  | ⟨1, _⟩ => show ((i.val * 4 + n.val) * 128 + d.val) / 128 % 4 = n.val; omega
  | ⟨2, _⟩ => show ((i.val * 4 + n.val) * 128 + d.val) % 128 = d.val; omega
  | ⟨3, _⟩ => show ((i.val * 4 + n.val) * 128 + d.val) / 512 % 8192 = i.val; omega

theorem filler (i : S_.Idx) : FloatOps.sitofp (F := Ideal) .f32 (0#32) = (0 : EReal) := by
  show (((0#32 : BitVec 32).toInt : ℝ) : EReal) = 0
  simp

variable (A : Args) (x0 x1 : (⟨S1x8192x4x96, .f32⟩ : BufTy).Contents (Elt Ideal)) (x2 x3 : (⟨S1x8192x4x128, .f32⟩ : BufTy).Contents (Elt Ideal))
  (h0 : ∀ i, x0 i = (A.q i : EReal)) (h1 : ∀ i, x1 i = (A.k i : EReal)) (h2 : ∀ i, x2 i = (A.v i : EReal)) (h3 : ∀ i, x3 i = (A.o i : EReal))

include h0 h1

theorem dot_at (i : S1x4x8192x8192.Idx) : val_main_v0 (F := Ideal) x0 x1 i = ((∑ d, (A.head (i 1)).q (i 2) d * (A.head (i 1)).k (i 3) d : ℝ) : EReal) := by
  rw [val_main_v0_apply, Finset.sum_congr rfl fun d _ => by rw [h0, h1, ← EReal.coe_mul], coe_sum]
  refine congrArg _ (Finset.sum_congr rfl fun d _ => ?_)
  rw [idx_first (lidx_main_v0 i d), idx_first (ridx_main_v0 i d)]
  rfl

theorem scale_at (i : S_.Idx) : val_main_v2 (F := Ideal) i = (scale : EReal) := scale_word

theorem score_at (i : S1x4x8192x8192.Idx) : val_main_v4 (F := Ideal) x0 x1 i = ((A.head (i 1)).score (i 2) (i 3) : EReal) := by
  rw [val_main_v4_apply, dot_at A x0 x1 h0 h1, val_main_v3_apply]
  refine (congrArg (fun z : EReal => _ * z) (scale_at A x0 x1 h0 h1 _)).trans (EReal.coe_mul _ _).symm

theorem mask_at (i : S1x4x8192x8192.Idx) : val_main_v12_1 (F := Ideal) i = if (i 3).val ≤ (i 2).val then 1#1 else 0#1 := by
  rw [val_main_v12_1_apply, val_main_v11_apply, val_main_v10_apply, val_main_v8_apply, val_main_v9_apply, val_main_v6_apply, val_main_v7_apply, val_main_v5_apply, val_main_v5_apply]
  exact sle_word (i 2) (i 3)

theorem masked_at (i : S1x4x8192x8192.Idx) : val_main_v12_0 (F := Ideal) x0 x1 i = (A.head (i 1)).masked (i 2) (i 3) := by
  rw [val_main_v12_0_apply, mask_at A x0 x1 h0 h1, score_at A x0 x1 h0 h1]
  unfold Head.masked
  split
  · rfl
  · exact word_bot

theorem top_at (i : S1x4x8192.Idx) : val_main_v13 (F := Ideal) x0 x1 i = ((A.head (i 1)).top (i 2) : EReal) := by
  have T := masked_at A x0 x1 h0 h1
  unfold val_main_v13
  generalize val_main_v12_0 (F := Ideal) x0 x1 = S at T ⊢
  refine Eq.trans ?_ ((fold_max _).trans (Head.top_eq (A.head (i 1)) (i 2)))
  pointwise
  rw [show val_main_cst_2 (F := Ideal) (Shape.Idx.first h_S_) = (⊥ : EReal) from word_bot]
  refine Finset.fold_congr fun j _ => (T _).trans ?_
  rfl

theorem max_at (i : S1x4x8192.Idx) : val_main_v20 (F := Ideal) x0 x1 i = ((A.head (i 1)).top (i 2) : EReal) := by
  rw [val_main_v20_apply, top_at A x0 x1 h0 h1, val_main_v19_apply]
  show max (Ideal.ofBits .f32 0xFF800000#32) _ = _
  rw [word_bot]
  exact max_eq_right bot_le

theorem expo_at (i : S1x4x8192x8192.Idx) : val_main_v33 (F := Ideal) x0 x1 i = ((A.head (i 1)).expo (i 2) (i 3) : EReal) := by
  rw [val_main_v33_apply, val_main_v32_apply, masked_at A x0 x1 h0 h1, val_main_v31_apply, val_main_v30_apply, max_at A x0 x1 h0 h1]
  exact expo_masked _ _ _

theorem tot_at (i : S1x4x8192.Idx) : val_main_v34 (F := Ideal) x0 x1 i = ((A.head (i 1)).tot (i 2) : EReal) := by
  rw [val_main_v34_apply, Finset.sum_congr rfl fun j _ => expo_at A x0 x1 h0 h1 _, coe_sum]
  refine (congrArg (fun z : EReal => z + _) word_zero).trans ?_
  rw [zero_add]
  rfl

theorem row_tot_at (i : S1x4x8192x1.Idx) : val_main_v35 (F := Ideal) x0 x1 i = ((A.head (i 1)).tot (i 2) : EReal) := by
  rw [val_main_v35_apply, tot_at A x0 x1 h0 h1]
  rfl

theorem prob_at (i : S1x4x8192x8192.Idx) : val_main_v37 (F := Ideal) x0 x1 i = ((A.head (i 1)).prob (i 2) (i 3) : EReal) := by
  rw [val_main_v37_apply, expo_at A x0 x1 h0 h1, val_main_v36_apply, row_tot_at A x0 x1 h0 h1]
  exact div_real _ _ (Head.tot_pos _ _).ne'

theorem square_at (i : S1x4x8192x1.Idx) : val_main_v40 (F := Ideal) x0 x1 i = ((1 / ((A.head (i 1)).tot (i 2) * (A.head (i 1)).tot (i 2)) : ℝ) : EReal) := by
  rw [val_main_v40_apply, val_main_v38_apply, row_tot_at A x0 x1 h0 h1, val_main_v39_apply]
  refine Eq.trans ?_ (div_real _ _ (mul_pos (Head.tot_pos (A.head (i 1)) (i 2)) (Head.tot_pos (A.head (i 1)) (i 2))).ne')
  rw [EReal.coe_mul, ← word_one]
  rfl

include h3

theorem value_dot_at (i : S1x4x128x8192.Idx) : val_main_v45 (F := Ideal) x0 x1 x3 i = ((A.head (i 1)).dv (i 3) (i 2) : EReal) := by
  rw [val_main_v45_apply, Finset.sum_congr rfl fun j _ => by rw [val_main_v43_apply, h3, prob_at A x0 x1 h0 h1, ← EReal.coe_mul], coe_sum]
  refine congrArg _ (Finset.sum_congr rfl fun j _ => ?_)
  rw [idx_first (idx_main_v43 _), mul_comm]
  rfl

include h2

theorem dprob_at (i : S1x4x8192x8192.Idx) : val_main_v44 (F := Ideal) x2 x3 i = ((A.head (i 1)).dprob (i 2) (i 3) : EReal) := by
  rw [val_main_v44_apply, Finset.sum_congr rfl fun j _ => by rw [val_main_v43_apply, h3, h2, ← EReal.coe_mul], coe_sum]
  refine congrArg _ (Finset.sum_congr rfl fun j _ => ?_)
  rw [idx_first (idx_main_v43 _), idx_first (ridx_main_v44 _ _)]
  rfl

theorem mean_at (i : S1x4x8192.Idx) : val_main_v50 (F := Ideal) x0 x1 x2 x3 i = (((A.head (i 1)).delta (i 2) / (A.head (i 1)).tot (i 2) : ℝ) : EReal) := by
  rw [val_main_v50_apply, Finset.sum_congr rfl fun j _ => by
    rw [val_main_v49_apply, val_main_v48_apply, dprob_at A x0 x1 x2 x3 h0 h1 h2 h3, val_main_v47_apply, square_at A x0 x1 h0 h1, expo_at A x0 x1 h0 h1]]
  refine (congrArg (fun z : EReal => z + _) word_zero).trans ?_
  rw [zero_add]
  unfold Head.delta
  rw [Finset.sum_div]
  refine Eq.trans (Finset.sum_congr rfl fun j _ => ?_) (coe_sum _ _)
  show ((_ : ℝ) : EReal) * ((_ : ℝ) : EReal) * ((_ : ℝ) : EReal) = _
  rw [← EReal.coe_mul, ← EReal.coe_mul]
  refine congrArg _ ?_
  show (A.head (i 1)).dprob (i 2) j * (1 / ((A.head (i 1)).tot (i 2) * (A.head (i 1)).tot (i 2))) * (A.head (i 1)).expo (i 2) j = _
  have := (Head.tot_pos (A.head (i 1)) (i 2)).ne'
  unfold Head.prob
  field_simp

theorem neg_mean_at (n : Fin 4) (i : Fin 8192) : val_main_v55 (F := Ideal) x0 x1 x2 x3 (ix2 n i) = ((-((A.head n).delta i / (A.head n).tot i) : ℝ) : EReal) := by
  unfold val_main_v55
  refine (congrArg (fun z => Ideal.hostReduceAdd reducesTo_S1x4x8192x1_S4x8192_d0_3 (val_main_v52 (F := Ideal) x0 x1 x2 x3) z (ix2 n i)) word_zero).trans ?_
  rw [sum_units, val_main_v52_apply, val_main_v51_apply, split_unit, mean_at A x0 x1 x2 x3 h0 h1 h2 h3]
  exact (EReal.coe_neg _).symm

theorem neg_mean_any (i : S4x8192.Idx) : val_main_v55 (F := Ideal) x0 x1 x2 x3 i = ((-((A.head (i 0)).delta (i 1) / (A.head (i 0)).tot (i 1)) : ℝ) : EReal) := by
  refine (congrArg (val_main_v55 (F := Ideal) x0 x1 x2 x3) (eq_ix2 i)).trans ?_
  exact neg_mean_at A x0 x1 x2 x3 h0 h1 h2 h3 (i 0) (i 1)

theorem dscore_at (i : S1x4x8192x8192.Idx) : val_main_v59 (F := Ideal) x0 x1 x2 x3 i = ((A.head (i 1)).dscore (i 2) (i 3) : EReal) := by
  rw [val_main_v59_apply, expo_at A x0 x1 h0 h1, val_main_v58_apply, val_main_v54_apply, dprob_at A x0 x1 x2 x3 h0 h1 h2 h3, val_main_v53_apply, row_tot_at A x0 x1 h0 h1,
    val_main_v57_apply, val_main_v56_apply, neg_mean_any A x0 x1 x2 x3 h0 h1 h2 h3]
  refine Eq.trans (congrArg (fun z : EReal => (z + _) * _) (div_real _ _ (Head.tot_pos _ _).ne')) ?_
  refine Eq.trans (congrArg (fun z : EReal => z * _) (EReal.coe_add _ _).symm) ((EReal.coe_mul _ _).symm.trans (congrArg _ ?_))
  show ((A.head (i 1)).dprob (i 2) (i 3) / (A.head (i 1)).tot (i 2) + -((A.head (i 1)).delta (i 2) / (A.head (i 1)).tot (i 2))) * (A.head (i 1)).expo (i 2) (i 3) = _
  have := (Head.tot_pos (A.head (i 1)) (i 2)).ne'
  unfold Head.dscore Head.prob
  field_simp
  ring

theorem scaled_at (i : S1x4x8192x8192.Idx) : val_main_v62 (F := Ideal) x0 x1 x2 x3 i = (((A.head (i 1)).dscore (i 2) (i 3) * scale : ℝ) : EReal) := by
  rw [val_main_v62_apply, val_main_v60_apply, mask_at A x0 x1 h0 h1, dscore_at A x0 x1 x2 x3 h0 h1 h2 h3, val_main_v61_apply]
  refine Eq.trans ?_ (EReal.coe_mul _ _).symm
  refine congrArg₂ (fun y z : EReal => y * z) ?_ (scale_at A x0 x1 h0 h1 _)
  split
  · rfl
  · next h =>
    refine Eq.trans word_zero ?_
    unfold Head.dscore
    rw [Head.prob_eq_zero _ _ _ h, zero_mul, EReal.coe_zero]

theorem query_dot_at (i : S1x4x8192x96.Idx) : val_main_v65 (F := Ideal) x0 x1 x2 x3 i
    = (((∑ j, (A.head (i 1)).dscore (i 2) j * (A.head (i 1)).k j (i 3)) * scale : ℝ) : EReal) := by
  rw [val_main_v65_apply, Finset.sum_congr rfl fun j _ => by rw [scaled_at A x0 x1 x2 x3 h0 h1 h2 h3, h1, ← EReal.coe_mul], coe_sum]
  refine congrArg _ ?_
  rw [Finset.sum_mul]
  refine Finset.sum_congr rfl fun j _ => ?_
  rw [idx_first (ridx_main_v65 _ _)]
  exact mul_right_comm _ _ _

theorem key_dot_at (i : S1x4x8192x96.Idx) : val_main_v63 (F := Ideal) x0 x1 x2 x3 i
    = (((∑ j, (A.head (i 1)).dscore j (i 2) * (A.head (i 1)).q j (i 3)) * scale : ℝ) : EReal) := by
  rw [val_main_v63_apply, Finset.sum_congr rfl fun j _ => by rw [scaled_at A x0 x1 x2 x3 h0 h1 h2 h3, h0, ← EReal.coe_mul], coe_sum]
  refine congrArg _ ?_
  rw [Finset.sum_mul]
  refine Finset.sum_congr rfl fun j _ => ?_
  rw [idx_first (ridx_main_v63 _ _)]
  exact mul_right_comm _ _ _

theorem query_at (n : Fin 4) (i : Fin 8192) (d : Fin 128) : val_main_v69 (F := Ideal) x0 x1 x2 x3 (ix3 n i d) = ((A.head n).dq i d : EReal) := by
  unfold val_main_v69
  refine (pad_lanes _ _ filler _ _ n i d).trans ?_
  unfold Head.dq Head.wide
  split
  · next hd =>
    rw [val_main_v68_apply, val_main_v67_apply, val_main_v66_apply, turned_query, query_dot_at A x0 x1 x2 x3 h0 h1 h2 h3]
    rfl
  · simp

theorem key_at (n : Fin 4) (i : Fin 8192) (d : Fin 128) : val_main_v72 (F := Ideal) x0 x1 x2 x3 (ix3 n i d) = ((A.head n).dk i d : EReal) := by
  unfold val_main_v72
  refine (pad_lanes _ _ filler _ _ n i d).trans ?_
  unfold Head.dk Head.wide
  split
  · next hd =>
    rw [val_main_v71_apply, val_main_v70_apply, val_main_v64_apply]
    refine (congrArg (val_main_v63 (F := Ideal) x0 x1 x2 x3) (turned_query n i ⟨d.val, hd⟩)).trans ?_
    rw [key_dot_at A x0 x1 x2 x3 h0 h1 h2 h3]
    rfl
  · simp

omit h2 in
theorem value_at (n : Fin 4) (i : Fin 8192) (d : Fin 128) : val_main_v75 (F := Ideal) x0 x1 x3 (ix3 n i d) = ((A.head n).dv i d : EReal) := by
  unfold val_main_v75
  refine (pad_lanes _ _ filler _ _ n i d).trans ?_
  rw [dif_pos d.isLt, val_main_v74_apply, val_main_v73_apply, val_main_v46_apply]
  refine (congrArg (val_main_v45 (F := Ideal) x0 x1 x3) (turned_value n i d)).trans ?_
  rw [value_dot_at A x0 x1 x3 h0 h1 h3]
  rfl

end Cert.AttnReferenceIdeal.Attn
-- ==== Proof.AttnHost.lean ====
module

public import proofs.«01_k».proof.Proof.AttnHeads
public import proofs.«01_k».proof.Proof.AttnRef
public import Idealize.ShloMosaic.Lib.StableHlo.ReadAt

@[expose] public section

set_option maxRecDepth 16384

noncomputable section

/-! The arrays the host hands to the gradient kernel, at an index and over the reals. -/

namespace Cert.AttnIdeal.Attn

open Cert.AttnIdeal Idealize.ShloMosaic Idealize.ShloMosaic.TcCoe Idealize.ShloMosaic.Tactic Cert.AttnIdeal.Gen
open Idealize.SL.Sem Idealize.ShloMosaic.StableHlo Cert.AttnMath

/-- The arrays of the queries and keys, and of the values and cotangents. -/
abbrev Wide96 := FVec Ideal S1x8192x4x96 .f32
abbrev Wide128 := FVec Ideal S1x8192x4x128 .f32

/-- The scaled scores with minus infinity above the diagonal. -/
def maskedScores (x0 x1 : Wide96) : FVec Ideal S1x4x8192x8192 .f32 :=
  select (broadcastInDim S1x4x8192x8192 ![0, 1, 2, 3] bcast_S1x1x8192x8192_S1x4x8192x8192_0_1_2_3 (broadcastInDim S1x1x8192x8192 ![2, 3] bcast_S8192x8192_S1x1x8192x8192_2_3
      (cmpi CmpIPredicate.sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (mulf (F := Ideal) (Host.dotGeneral (F := Ideal) dot_S1x8192x4x96_S1x8192x4x96_S1x4x8192x8192_3_3_1_1_02_02 none x0 x1)
      (broadcastInDim S1x4x8192x8192 ![] bcast_S_S1x4x8192x8192 (Host.divf (F := Ideal) (constant (F := Ideal) S_ FTy.f32 1065353216#32) (Host.sqrt (F := Ideal) (constant (F := Ideal) S_ FTy.f32 1119879168#32)))))
    (broadcastInDim S1x4x8192x8192 ![] bcast_S_S1x4x8192x8192 (constant (F := Ideal) S_ FTy.f32 4286578688#32))

/-- The maximum of each row, -/
def rowTop (y : FVec Ideal S1x4x8192x8192 .f32) : FVec Ideal S1x4x8192 .f32 :=
  Host.reduce (FloatOps.maximumf (F := Ideal) (φ := .f32)) y (constant (F := Ideal) S_ FTy.f32 4286578688#32) reducesTo_S1x4x8192x8192_S1x4x8192_d3 h_S_

/-- the exponentials of the row below its maximum, -/
def rowExps (y : FVec Ideal S1x4x8192x8192 .f32) (t : FVec Ideal S1x4x8192 .f32) : FVec Ideal S1x4x8192x8192 .f32 :=
  Host.exp (F := Ideal) (subf (F := Ideal) y (broadcastInDim S1x4x8192x8192 ![0, 1, 2, 3] bcast_S1x4x8192x1_S1x4x8192x8192_0_1_2_3 (broadcastInDim S1x4x8192x1 ![0, 1, 2] bcast_S1x4x8192_S1x4x8192x1_0_1_2 t)))

/-- and their sum. -/
def rowSum (y : FVec Ideal S1x4x8192x8192 .f32) : FVec Ideal S1x4x8192 .f32 :=
  Host.reduceAdd (F := Ideal) y (constant (F := Ideal) S_ FTy.f32 0#32) reducesTo_S1x4x8192x8192_S1x4x8192_d3 h_S_

/-- The logarithm to the base two of the row's sum, in every lane. -/
def lseLanes (t s : FVec Ideal S1x4x8192 .f32) : FVec Ideal S4x8192x128 .f32 :=
  broadcastInDim S4x8192x128 ![0, 1, 2] bcast_S4x8192x1_S4x8192x128_0_1_2 (shapeCast S4x8192x1
    (mulf (F := Ideal) (addf (F := Ideal) (broadcastInDim S1x4x8192x1 ![0, 1, 2] bcast_S1x4x8192_S1x4x8192x1_0_1_2 t) (Host.log (F := Ideal) (broadcastInDim S1x4x8192x1 ![0, 1, 2] bcast_S1x4x8192_S1x4x8192x1_0_1_2 s)))
      (broadcastInDim S1x4x8192x1 ![] bcast_S_S1x4x8192x1 (Host.divf (F := Ideal) (constant (F := Ideal) S_ FTy.f32 1065353216#32) (Host.log (F := Ideal) (constant (F := Ideal) S_ FTy.f32 1073741824#32)))))
    shapeCasts_S1x4x8192x1_S4x8192x1)

/-- The sum along a row of cotangent times output, in every lane. -/
def deltaLanes (y : FVec Ideal S1x4x8192x8192 .f32) (s : FVec Ideal S1x4x8192 .f32) (x2 x3 : Wide128) : FVec Ideal S4x8192x128 .f32 :=
  broadcastInDim S4x8192x128 ![0, 1, 2] bcast_S4x8192x1_S4x8192x128_0_1_2 (broadcastInDim S4x8192x1 ![0, 1] bcast_S4x8192_S4x8192x1_0_1 (shapeCast S4x8192
    (transpose S1x4x8192 [0, 2, 1]
      (Host.reduceAdd (F := Ideal) (mulf (F := Ideal) x3 (transpose S1x8192x4x128 [0, 3, 1, 2]
          (Host.dotGeneral (F := Ideal) dot_S1x8192x4x128_S1x4x8192x8192_S1x4x128x8192_1_3_3_2_02_01 none x2
            (Host.divf (F := Ideal) y (broadcastInDim S1x4x8192x8192 ![0, 1, 2, 3] bcast_S1x4x8192x1_S1x4x8192x8192_0_1_2_3 (broadcastInDim S1x4x8192x1 ![0, 1, 2] bcast_S1x4x8192_S1x4x8192x1_0_1_2 s))))
          transposes_S1x4x128x8192_S1x8192x4x128_0_3_1_2))
        (constant (F := Ideal) S_ FTy.f32 0#32) reducesTo_S1x8192x4x128_S1x8192x4_d3 h_S_)
      transposes_S1x8192x4_S1x4x8192_0_2_1)
    shapeCasts_S1x4x8192_S4x8192))

theorem log_real {r : ℝ} (h : 0 < r) : Ideal.log (r : EReal) = (Real.log r : EReal) := by
  rw [Ideal.log_coe, if_neg h.not_ge]

theorem base_word : Ideal.div (Ideal.ofBits .f32 0x3F800000#32) (Ideal.log (Ideal.ofBits .f32 0x40000000#32)) = (((Real.log 2)⁻¹ : ℝ) : EReal) := by
  rw [word_one, word_two, log_real (by norm_num), div_real _ _ Head.log_two_ne, one_div]

section Rows

variable (A : Args) (x0 x1 : Wide96) (x2 x3 : Wide128)
  (h0 : ∀ i, x0 i = (A.q i : EReal)) (h1 : ∀ i, x1 i = (A.k i : EReal)) (h2 : ∀ i, x2 i = (A.v i : EReal)) (h3 : ∀ i, x3 i = (A.o i : EReal))

include h0 h1

theorem maskedScores_at (n : Fin 4) (i j : Fin 8192) : maskedScores x0 x1 (ix4 (0 : Fin 1) n i j) = (A.head n).masked i j :=
  Cert.AttnReferenceIdeal.Attn.masked_at A x0 x1 h0 h1 (ix4 (0 : Fin 1) n i j)

theorem rowTop_at (n : Fin 4) (i : Fin 8192) : rowTop (maskedScores x0 x1) (ix3 (0 : Fin 1) n i) = ((A.head n).top i : EReal) :=
  Cert.AttnReferenceIdeal.Attn.top_at A x0 x1 h0 h1 (ix3 (0 : Fin 1) n i)

omit h0 h1 in
theorem rowExps_apply (y : FVec Ideal S1x4x8192x8192 .f32) (t : FVec Ideal S1x4x8192 .f32) (n : Fin 4) (i j : Fin 8192) :
    rowExps y t (ix4 (0 : Fin 1) n i j) = Ideal.exp (y (ix4 (0 : Fin 1) n i j) - t (ix3 (0 : Fin 1) n i)) := by
  unfold rowExps
  pointwise

theorem rowExps_at (n : Fin 4) (i j : Fin 8192) : rowExps (maskedScores x0 x1) (rowTop (maskedScores x0 x1)) (ix4 (0 : Fin 1) n i j) = ((A.head n).expo i j : EReal) := by
  rw [rowExps_apply, maskedScores_at A x0 x1 h0 h1, rowTop_at A x0 x1 h0 h1]
  exact expo_masked _ _ _

omit h0 h1 in
theorem rowSum_apply (y : FVec Ideal S1x4x8192x8192 .f32) (n : Fin 4) (i : Fin 8192) :
    rowSum y (ix3 (0 : Fin 1) n i) = ∑ j : Fin 8192, (y (ix4 (0 : Fin 1) n i j) : EReal) := by
  unfold rowSum
  pointwise

theorem rowSum_at (n : Fin 4) (i : Fin 8192) : rowSum (rowExps (maskedScores x0 x1) (rowTop (maskedScores x0 x1))) (ix3 (0 : Fin 1) n i) = ((A.head n).tot i : EReal) := by
  rw [rowSum_apply, Finset.sum_congr rfl fun j _ => rowExps_at A x0 x1 h0 h1 n i j]
  exact coe_sum _ _

omit h0 h1 in
theorem lseLanes_apply (t s : FVec Ideal S1x4x8192 .f32) (n : Fin 4) (i : Fin 8192) (d : Fin 128) :
    lseLanes t s (ix3 n i d) = ((t (ix3 (0 : Fin 1) n i) : EReal) + Ideal.log (s (ix3 (0 : Fin 1) n i))) * Ideal.div (Ideal.ofBits .f32 0x3F800000#32) (Ideal.log (Ideal.ofBits .f32 0x40000000#32)) := by
  unfold lseLanes
  pointwise

omit h0 h1 in
theorem deltaLanes_apply (y : FVec Ideal S1x4x8192x8192 .f32) (s : FVec Ideal S1x4x8192 .f32) (x2 x3 : Wide128) (n : Fin 4) (i : Fin 8192) (d : Fin 128) :
    deltaLanes y s x2 x3 (ix3 n i d) = ∑ e : Fin 128, (x3 (ix4 (0 : Fin 1) i n e) : EReal) * ∑ j : Fin 8192, (x2 (ix4 (0 : Fin 1) j n e) : EReal) * Ideal.div (y (ix4 (0 : Fin 1) n i j)) (s (ix3 (0 : Fin 1) n i)) := by
  unfold deltaLanes
  pointwise

theorem lse_lanes (n : Fin 4) (i : Fin 8192) (d : Fin 128) :
    lseLanes (rowTop (maskedScores x0 x1)) (rowSum (rowExps (maskedScores x0 x1) (rowTop (maskedScores x0 x1)))) (ix3 n i d) = ((A.head n).lse i : EReal) := by
  rw [lseLanes_apply, rowTop_at A x0 x1 h0 h1, rowSum_at A x0 x1 h0 h1, base_word, log_real (Head.tot_pos _ _), ← EReal.coe_add, ← EReal.coe_mul]
  rfl

include h2 h3

theorem delta_lanes (n : Fin 4) (i : Fin 8192) (d : Fin 128) :
    deltaLanes (rowExps (maskedScores x0 x1) (rowTop (maskedScores x0 x1))) (rowSum (rowExps (maskedScores x0 x1) (rowTop (maskedScores x0 x1)))) x2 x3 (ix3 n i d) = ((A.head n).delta i : EReal) := by
  rw [deltaLanes_apply]
  have e : ∀ e : Fin 128, (x3 (ix4 (0 : Fin 1) i n e) : EReal) * ∑ j : Fin 8192, (x2 (ix4 (0 : Fin 1) j n e) : EReal)
      * Ideal.div (rowExps (maskedScores x0 x1) (rowTop (maskedScores x0 x1)) (ix4 (0 : Fin 1) n i j)) (rowSum (rowExps (maskedScores x0 x1) (rowTop (maskedScores x0 x1))) (ix3 (0 : Fin 1) n i))
      = (((A.head n).o i e * ∑ j, (A.head n).v j e * (A.head n).prob i j : ℝ) : EReal) := by
    intro e
    rw [EReal.coe_mul, ← coe_sum]
    refine congrArg₂ (fun y z : EReal => y * z) (h3 _) (Finset.sum_congr rfl fun j _ => ?_)
    rw [EReal.coe_mul]
    refine congrArg₂ (fun y z : EReal => y * z) (h2 _) ?_
    rw [rowExps_at A x0 x1 h0 h1, rowSum_at A x0 x1 h0 h1]
    exact div_real _ _ (Head.tot_pos _ _).ne'
  rw [Finset.sum_congr rfl fun x _ => e x, coe_sum]
  refine congrArg _ ?_
  unfold Head.delta Head.dprob
  simp only [Finset.mul_sum]
  rw [Finset.sum_comm]
  refine Finset.sum_congr rfl fun j _ => Finset.sum_congr rfl fun x _ => ?_
  ring

end Rows

variable (m : (ℓ : Loc nD τ sig) → Buf (Elt Ideal) ℓ) (c : Dev nD)

theorem lse_host : (V m c main_v59 : Vec Ideal S4x8192x128 .f32) =
    lseLanes (rowTop (maskedScores (m ((c : Thread nD τ).loc main_arg0)) (m ((c : Thread nD τ).loc main_arg1))))
      (rowSum (rowExps (maskedScores (m ((c : Thread nD τ).loc main_arg0)) (m ((c : Thread nD τ).loc main_arg1))) (rowTop (maskedScores (m ((c : Thread nD τ).loc main_arg0)) (m ((c : Thread nD τ).loc main_arg1)))))) := by
  unfold V
  after_reads_simp
  simp only [TRef.toBuf, TRef.ofBuf, cast_eq]
  rfl

theorem delta_host : (V m c main_v60 : Vec Ideal S4x8192x128 .f32) =
    deltaLanes (rowExps (maskedScores (m ((c : Thread nD τ).loc main_arg0)) (m ((c : Thread nD τ).loc main_arg1))) (rowTop (maskedScores (m ((c : Thread nD τ).loc main_arg0)) (m ((c : Thread nD τ).loc main_arg1)))))
      (rowSum (rowExps (maskedScores (m ((c : Thread nD τ).loc main_arg0)) (m ((c : Thread nD τ).loc main_arg1))) (rowTop (maskedScores (m ((c : Thread nD τ).loc main_arg0)) (m ((c : Thread nD τ).loc main_arg1))))))
      (m ((c : Thread nD τ).loc main_arg2)) (m ((c : Thread nD τ).loc main_arg3)) := by
  unfold V
  after_reads_simp
  simp only [TRef.toBuf, TRef.ofBuf, cast_eq]
  rfl

theorem cot_host (n : Fin 4) (i : Fin 8192) (d : Fin 128) : (V m c main_v57 : Vec Ideal S4x8192x128 .bf16) (ix3 n i d) = m ((c : Thread nD τ).loc main_arg3) (ix4 (0 : Fin 1) i n d) := by
  unfold V
  after_reads_at

theorem value_host (n : Fin 4) (i : Fin 8192) (d : Fin 128) : (V m c main_v53 : Vec Ideal S4x8192x128 .bf16) (ix3 n i d) = m ((c : Thread nD τ).loc main_arg2) (ix4 (0 : Fin 1) i n d) := by
  unfold V
  after_reads_at

theorem key_host (n : Fin 4) (i : Fin 8192) (d : Fin 128) : (V m c main_v49 : Vec Ideal S4x8192x128 .bf16) (ix3 n i d)
    = (if h : d.val < 96 then m ((c : Thread nD τ).loc main_arg1) (ix4 (0 : Fin 1) i n ⟨d.val, h⟩) else FloatOps.sitofp (F := Ideal) .f32 0#32 : EReal) := by
  unfold V
  after_reads_at

theorem query_host (n : Fin 4) (i : Fin 8192) (d : Fin 128) : (V m c main_v45 : Vec Ideal S4x8192x128 .bf16) (ix3 n i d)
    = (if h : d.val < 96 then m ((c : Thread nD τ).loc main_arg0) (ix4 (0 : Fin 1) i n ⟨d.val, h⟩) else FloatOps.sitofp (F := Ideal) .f32 0#32 : EReal)
      * (Ideal.div (Ideal.ofBits .f32 0x3F800000#32) (Ideal.sqrt (Ideal.ofBits .f32 0x42C00000#32)) * Ideal.div (Ideal.ofBits .f32 0x3F800000#32) (Ideal.log (Ideal.ofBits .f32 0x40000000#32))) := by
  unfold V
  after_reads_at

/-- What the kernel is given for a block of a head's columns, when the arguments are real numbers. -/
theorem entered_of (A : Args)
    (h0 : ∀ i, (m ((c : Thread nD τ).loc main_arg0) : Wide96) i = (A.q i : EReal)) (h1 : ∀ i, (m ((c : Thread nD τ).loc main_arg1) : Wide96) i = (A.k i : EReal))
    (h2 : ∀ i, (m ((c : Thread nD τ).loc main_arg2) : Wide128) i = (A.v i : EReal)) (h3 : ∀ i, (m ((c : Thread nD τ).loc main_arg3) : Wide128) i = (A.o i : EReal))
    (n : Fin 4) (b : Fin 8) : Of (A.head n) b (enteredPoint m c n b.val) := by
  have z : (FloatOps.sitofp (F := Ideal) .f32 (0#32) : EReal) = ((0 : ℝ) : EReal) := (Cert.AttnReferenceIdeal.Attn.filler ix0).trans EReal.coe_zero.symm
  refine ⟨rfl, fun i d => ?_, fun i e => ?_, fun i => ?_, fun i => ?_, fun j d => ?_, fun j e => ?_⟩
  · refine (dif_pos i.isLt).trans ((query_host m c n i d).trans ?_)
    rw [scale_word, base_word, ← EReal.coe_mul]
    unfold Head.qs Head.wide
    refine Eq.trans (congrArg (fun y : EReal => y * _) ?_) (EReal.coe_mul _ _).symm
    split
    · exact h0 _
    · exact z
  · exact (dif_pos i.isLt).trans ((cot_host m c n i e).trans (h3 _))
  · exact (dif_pos i.isLt).trans ((congrFun (lse_host m c) _).trans (lse_lanes A _ _ h0 h1 n i 0))
  · exact (dif_pos i.isLt).trans ((congrFun (delta_host m c) _).trans (delta_lanes A _ _ _ _ h0 h1 h2 h3 n i 0))
  · refine (dif_pos (colOf b j).isLt).trans ((key_host m c n (colOf b j) d).trans ?_)
    unfold Head.wide
    split
    · exact h1 _
    · exact z
  · exact (dif_pos (colOf b j).isLt).trans ((value_host m c n (colOf b j) e).trans (h2 _))

end Cert.AttnIdeal.Attn
-- ==== Proof.AttnPre.lean ====
module

public import proofs.«01_k».proof.Defs
public import proofs.«01_k».proof.Proof.AttnRef

@[expose] public section

noncomputable section

/-! What the precondition of the attention gradient says: every argument is an array of real numbers. -/

namespace Cert.Attention

open Idealize.ShloMosaic Cert.AttnMath

/-- The printed precondition's side condition. -/
theorem pre_facts : Cert.Pre_finite_attention.Facts := ⟨by decide, by decide, by decide⟩

/-- A running maximum is above where it starts and above all it has passed. -/
theorem le_running {ι : Type} (f : ι → EReal) (l : List ι) (b : EReal) :
    b ≤ l.foldl (fun r n => max r (f n)) b ∧ ∀ n ∈ l, f n ≤ l.foldl (fun r n => max r (f n)) b := by
  induction l generalizing b with
  | nil => exact ⟨le_refl _, fun n hn => absurd hn List.not_mem_nil⟩
  | cons a l ih =>
    obtain ⟨h, hl⟩ := ih (max b (f a))
    refine ⟨(le_max_left _ _).trans h, fun n hn => ?_⟩
    rcases List.mem_cons.mp hn with rfl | hn
    · exact (le_max_right _ _).trans h
    · exact hl n hn

/-- A maximum over all axes is above every entry. -/
theorem le_maximum {s u : Shape} {axes : List (Fin s.rank)} (x : s.Idx → EReal) (b : u.Idx → EReal) (h : s.ReducesTo axes (⟨0, ![]⟩ : Shape)) (hu : 0 < u.numel) (i : s.Idx) :
    x i ≤ Host.reduce max x b h hu ix0 := by
  have e := (le_running (fun n => x (s.rowMajor.symm n)) ((List.finRange s.numel).filter fun n => h.drop (s.rowMajor.symm n) = ix0) (b (Shape.Idx.first hu))).2
    (s.rowMajor i) (List.mem_filter.mpr ⟨List.mem_finRange _, decide_eq_true (Subsingleton.elim _ _)⟩)
  rw [Equiv.symm_apply_apply] at e
  exact e

theorem real_of_abs (v : EReal) (h : max v (-v) < ⊤) : ∃ a : ℝ, v = (a : EReal) := by
  induction v using EReal.rec with
  | bot => simp at h
  | coe a => exact ⟨a, rfl⟩
  | top => simp at h

theorem both {a b : BitVec 1} (h : IntOp.andi a b = 1#1) : a = 1#1 ∧ b = 1#1 := by
  revert a b; decide

/-- The test the precondition makes of each argument. -/
theorem real_of_test {s : Shape} {axes : List (Fin s.rank)} (x : FVec Ideal s .f32) (h : s.ReducesTo axes Cert.Pre_finite_attention.S_) (hu : 0 < Cert.Pre_finite_attention.S_.numel)
    (e : cmpf (F := Ideal) .olt (Host.reduce (FloatOps.maximumf (F := Ideal) (φ := .f32)) (Host.absf (F := Ideal) x) (constant (F := Ideal) Cert.Pre_finite_attention.S_ .f32 0xFF800000#32) h hu)
      (constant (F := Ideal) Cert.Pre_finite_attention.S_ .f32 0x7F800000#32) ix0 = 1#1) (i : s.Idx) : ∃ a : ℝ, (x i : EReal) = (a : EReal) := by
  refine real_of_abs _ ?_
  have top : Ideal.ofBits .f32 0x7F800000#32 = (⊤ : EReal) := by simp [Ideal.ofBits, Ideal.ieee]
  have hlt : (Host.reduce (FloatOps.maximumf (F := Ideal) (φ := .f32)) (Host.absf (F := Ideal) x) (constant (F := Ideal) Cert.Pre_finite_attention.S_ .f32 0xFF800000#32) h hu ix0 : EReal) < Ideal.ofBits .f32 0x7F800000#32 := by
    by_contra hn
    have : cmpf (F := Ideal) .olt (Host.reduce (FloatOps.maximumf (F := Ideal) (φ := .f32)) (Host.absf (F := Ideal) x) (constant (F := Ideal) Cert.Pre_finite_attention.S_ .f32 0xFF800000#32) h hu)
      (constant (F := Ideal) Cert.Pre_finite_attention.S_ .f32 0x7F800000#32) ix0 = BitVec.ofBool false := congrArg BitVec.ofBool (decide_eq_false hn)
    exact absurd (this.symm.trans e) (by decide)
  rw [top] at hlt
  exact (le_maximum (Host.absf (F := Ideal) x) _ h hu i).trans_lt hlt

attribute [local instance] pre_facts in
/-- Where the precondition reads one, the arguments are arrays of real numbers. -/
theorem args_of_pre (x0 x1 : FVec Ideal Cert.Pre_finite_attention.S1x8192x4x96 .f32) (x2 x3 : FVec Ideal Cert.Pre_finite_attention.S1x8192x4x128 .f32)
    (h : Cert.Pre_finite_attention.fn (F := Ideal) x0 x1 x2 x3 = fun _ => 1#1) :
    ∃ A : Args, (∀ i, (x0 i : EReal) = (A.q i : EReal)) ∧ (∀ i, (x1 i : EReal) = (A.k i : EReal)) ∧ (∀ i, (x2 i : EReal) = (A.v i : EReal)) ∧ (∀ i, (x3 i : EReal) = (A.o i : EReal)) := by
  have e := congrFun h ix0
  unfold Cert.Pre_finite_attention.fn at e
  obtain ⟨e, e3⟩ := both e
  obtain ⟨e, e2⟩ := both e
  obtain ⟨e0, e1⟩ := both e
  choose q hq using real_of_test x0 _ _ e0
  choose k hk using real_of_test x1 _ _ e1
  choose v hv using real_of_test x2 _ _ e2
  choose o ho using real_of_test x3 _ _ e3
  exact ⟨⟨q, k, v, o⟩, hq, hk, hv, ho⟩

end Cert.Attention

end
-- ==== Proof.AttnBits.lean ====
module

public import proofs.«01_k».proof.Defs
public import proofs.«01_k».proof.Proof.AttnFrame
public import proofs.«01_k».proof.Proof.Gen.Attn.Launch

@[expose] public section

set_option maxRecDepth 65536

noncomputable section

namespace Cert.AttnIdeal.Attn

open Cert.AttnIdeal.Gen Idealize.ShloMosaic Idealize.ShloMosaic.TcCoe Idealize.ShloMosaic.Tactic Idealize.SL.Sem

/-- A named constant read at the machine's words: the printed word itself, whatever its name. -/
@[instance_reducible] def literal : Named Bits := ⟨fun _ _ φ b => FloatOps.ofBits φ b⟩

theorem preserves : Cert.preserves_Attn_AttnIdeal :=
  ⟨IdealRules.named_const.statement Cert.AttnIdeal.κ "mask" .f32 0xF149F2CA#32 _ rfl,
    IdealRules.named_const.statement Cert.AttnIdeal.κ "scale" .f32 0x3DD105EC#32 _ rfl,
    IdealRules.named_const.statement Cert.AttnIdeal.κ "ln2" .f32 0x3F317218#32 _ rfl⟩

theorem frame_ideal : Cert.quiescent_AttnIdeal (hAttnIdeal := Cert.AttnIdeal.Gen.facts) := fun m ρ _ => frame m ρ

attribute [local instance] literal in
/-- The frame of the idealized text read at the machine's words. -/
def FrameBits : Prop :=
  ∀ (m : (ℓ : Loc nD τ sig) → Buf (Elt Bits) ℓ) (ρ : Dev nD → PrngReg), Cert.Pre_Attn m →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frameBits_eq : Cert.quiescent_Attn (hAttn := Cert.Attn.Gen.facts) = FrameBits := by
  sl_kernel_rfl

attribute [local instance] literal in
/-- The same program at the machine's words: its constants are the printed words, so it is the idealized text read there. -/
theorem frame_bits : Cert.quiescent_Attn (hAttn := Cert.Attn.Gen.facts) :=
  frameBits_eq.mpr fun m ρ _ => frame m ρ

end Cert.AttnIdeal.Attn

end
-- ==== Proof.AttnClaim.lean ====
module

public import proofs.«01_k».proof.Proof.AttnHost
public import proofs.«01_k».proof.Proof.AttnPre
public import proofs.«01_k».proof.Proof.AttnBits
public import proofs.«01_k».proof.Proof.Gen.AttnReferenceIdeal.Run

@[expose] public section

noncomputable section

/-! The kernel of the attention's gradient leaves what the derivative of the plain attention leaves. -/

namespace Cert.Attention

open Idealize.ShloMosaic Idealize.SL.Sem Cert.AttnMath

/-- The reference's run leaves its arguments. -/
theorem frame_reference : Cert.quiescent_AttnReferenceIdeal (hAttnReferenceIdeal := Cert.AttnReferenceIdeal.Gen.facts) :=
  fun m ρ _ => (θ_run Cert.AttnReferenceIdeal.defs _ _).mono (fun r h => ⟨fun c => (h c).2.2.2, sem_eq_zero_of_no_sems (by decide) _⟩)
    (Cert.AttnReferenceIdeal.Value.run (F := Ideal) m ρ)

section Kernel

open Cert.AttnIdeal Cert.AttnIdeal.Gen Cert.AttnIdeal.Attn Idealize.ShloMosaic.TcCoe

/-- The kernel's run leaves the three gradients it has gathered, and its arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63_0) = queryArr m c
      ∧ r.2.mem ((c.tc : Thread nD τ).loc main_v63_1) = keyArr m c
      ∧ r.2.mem ((c.tc : Thread nD τ).loc main_v63_2) = valueArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono ?_ (θ_run_and (run_main m ρ) (frame (F := Ideal) m ρ))
  rintro r ⟨h, hf⟩ c
  exact ⟨(h.out_eq c 6).trans (query_final m c), (h.out_eq c 7).trans (key_final m c), (h.out_eq c 8).trans (value_final m c), hf.1 c⟩

end Kernel

attribute [local instance] pre_facts in
/-- The two programs leave the same three arrays in their results, where the arguments are finite. -/
theorem value : Cert.algebraic_AttnIdeal_AttnReferenceIdeal_pre_finite_attention := by
  intro m g m' g' hpre hargs
  have hA := fun c => args_of_pre _ _ _ _ (hpre c)
  choose A hq hk hv ho using hA
  have hof := fun c (n : Fin 4) (b : Fin 8) => Cert.AttnIdeal.Attn.entered_of m c (A c) (hq c) (hk c) (hv c) (ho c) n b
  refine ⟨fun c => Cert.AttnIdeal.Attn.queryArr m c, fun c => Cert.AttnIdeal.Attn.keyArr m c, fun c => Cert.AttnIdeal.Attn.valueArr m c, kernel_run m g, ?_⟩
  refine (θ_run _ _ _).mono (fun r h c => ⟨(h c).1.trans ?_, (h c).2.1.trans ?_, (h c).2.2.1.trans ?_, (h c).2.2.2⟩) (Cert.AttnReferenceIdeal.Value.run (F := Ideal) m' g')
  · rw [Cert.AttnReferenceIdeal.Read.val_main_v69_eq, (hargs c).1, (hargs c).2.1, (hargs c).2.2.1, (hargs c).2.2.2]
    funext i
    refine (congrArg _ (eq_ix3 i)).trans ?_
    refine (Cert.AttnReferenceIdeal.Attn.query_at (A c) _ _ _ _ (hq c) (hk c) (hv c) (ho c) (i 0) (i 1) (i 2)).trans ?_
    exact ((congrArg (Cert.AttnIdeal.Attn.queryArr m c) (eq_ix3 i)).trans (Cert.AttnIdeal.Attn.query_real m c (A c).head (hof c) (i 0) (i 1) (i 2))).symm
  · rw [Cert.AttnReferenceIdeal.Read.val_main_v72_eq, (hargs c).1, (hargs c).2.1, (hargs c).2.2.1, (hargs c).2.2.2]
    funext i
    refine (congrArg _ (eq_ix3 i)).trans ?_
    refine (Cert.AttnReferenceIdeal.Attn.key_at (A c) _ _ _ _ (hq c) (hk c) (hv c) (ho c) (i 0) (i 1) (i 2)).trans ?_
    exact ((congrArg (Cert.AttnIdeal.Attn.keyArr m c) (eq_ix3 i)).trans (Cert.AttnIdeal.Attn.key_real m c (A c).head (hof c) (i 0) (i 1) (i 2))).symm
  · rw [Cert.AttnReferenceIdeal.Read.val_main_v75_eq, (hargs c).1, (hargs c).2.1, (hargs c).2.2.2]
    funext i
    refine (congrArg _ (eq_ix3 i)).trans ?_
    refine (Cert.AttnReferenceIdeal.Attn.value_at (A c) _ _ _ (hq c) (hk c) (ho c) (i 0) (i 1) (i 2)).trans ?_
    exact ((congrArg (Cert.AttnIdeal.Attn.valueArr m c) (eq_ix3 i)).trans (Cert.AttnIdeal.Attn.value_real m c (A c).head (hof c) (i 0) (i 1) (i 2))).symm

end Cert.Attention

end
-- ==== Proof.NormMath.lean ====
module

public import proofs.«01_k».proof.Proof.AttnRef

@[expose] public section

noncomputable section

/-! The gradient of a row divided by its root mean square, over the real numbers. -/

namespace Cert.NormMath

open Idealize.ShloMosaic Cert.AttnMath

/-- The number added to the mean of the squares. -/
def eps : ℝ := 8796093 / 2 ^ 43

theorem eps_pos : 0 < eps := by unfold eps; positivity

theorem word_eps : Ideal.ofBits .f32 0x358637BD#32 = (eps : EReal) := by
  unfold eps
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_1024th : Ideal.ofBits .f32 0x3A800000#32 = ((1 / 1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

variable {n : ℕ}

/-- The mean of the squares of a row, with the number added. -/
def square (x : Fin n → ℝ) : ℝ := (∑ e, x e * x e) / n + eps

theorem square_pos (x : Fin n → ℝ) : 0 < square x :=
  add_pos_of_nonneg_of_pos (div_nonneg (Finset.sum_nonneg fun e _ => mul_self_nonneg _) (Nat.cast_nonneg _)) eps_pos

/-- One over the root. -/
def inv (x : Fin n → ℝ) : ℝ := (Real.sqrt (square x))⁻¹

theorem rsqrt_square (x : Fin n → ℝ) : Ideal.rsqrt (square x : EReal) = (inv x : EReal) := by
  rw [Ideal.rsqrt_coe, if_neg (square_pos x).le.not_gt, if_neg (square_pos x).ne']
  rfl

theorem inv_sq (x : Fin n → ℝ) : inv x * inv x = 1 / square x := by
  unfold inv
  rw [← mul_inv, Real.mul_self_sqrt (square_pos x).le, one_div]

/-- The gradient at a row, of the gradient `y` at its quotient. -/
def grad (x y : Fin n → ℝ) (d : Fin n) : ℝ := inv x * (y d - x d * inv x * ((∑ e, y e * (x e * inv x)) / n))

/-- The derivative through the mean of the squares. -/
def slope (x y : Fin n → ℝ) : ℝ := (∑ e, x e * y e) * (-(1 / 2) * (inv x / square x)) / n

/-- The gradient is that of the factor and that of the root. -/
theorem grad_eq (x y : Fin n → ℝ) (d : Fin n) : grad x y d = y d * inv x + x d * slope x y + slope x y * x d := by
  have h : ∑ e, y e * (x e * inv x) = (∑ e, x e * y e) * inv x := by
    rw [Finset.sum_mul]; exact Finset.sum_congr rfl fun e _ => by ring
  have hs := inv_sq x
  unfold grad slope
  rw [h]
  have e : inv x / square x = inv x * (inv x * inv x) := by rw [hs]; ring
  rw [e]
  ring

end Cert.NormMath

namespace Cert.InMath

open Cert.NormMath

/-- The rows, the factors of the norm, the matrix and the gradient at the product. -/
structure Args where
  x : Fin 8192 → Fin 1024 → ℝ
  g : Fin 1024 → ℝ
  w : Fin 1024 → Fin 1184 → ℝ
  z : Fin 8192 → Fin 1184 → ℝ

namespace Args

variable (A : Args)

/-- The gradient at the normed rows. -/
def dy (i : Fin 8192) (d : Fin 1024) : ℝ := ∑ j, A.z i j * A.w d j

/-- The gradient at the rows. -/
def dx (i : Fin 8192) (d : Fin 1024) : ℝ := grad (A.x i) (fun e => A.dy i e * A.g e) d

/-- What a row adds to the gradient at the factors. -/
def dgRow (i : Fin 8192) (d : Fin 1024) : ℝ := A.dy i d * (A.x i d * inv (A.x i))

def dg (d : Fin 1024) : ℝ := ∑ i, A.dgRow i d

end Args

/-- Columns set apart by zeros: 64 after the first 384, 32 more after the next 32. -/
def pk (f : Fin 1184 → ℝ) (k : ℕ) : ℝ :=
  if h : k < 384 then f ⟨k, by omega⟩ else if k < 448 then 0 else if h : k < 480 then f ⟨k - 64, by omega⟩ else if k < 512 then 0
  else if h : k < 1280 then f ⟨k - 96, by omega⟩ else 0

theorem pk_head (f : Fin 1184 → ℝ) {k : ℕ} (h : k < 384) : pk f k = f ⟨k, by omega⟩ := by unfold pk; rw [dif_pos h]

theorem pk_gap (f : Fin 1184 → ℝ) {k : ℕ} (h : 384 ≤ k) (h' : k < 448) : pk f k = 0 := by
  unfold pk; rw [dif_neg (by omega), if_pos h']

theorem pk_turn (f : Fin 1184 → ℝ) {k : ℕ} (h : 448 ≤ k) (h' : k < 480) : pk f k = f ⟨k - 64, by omega⟩ := by
  unfold pk; rw [dif_neg (by omega), if_neg (by omega), dif_pos h']

theorem pk_rest (f : Fin 1184 → ℝ) {k : ℕ} (h : 480 ≤ k) (h' : k < 512) : pk f k = 0 := by
  unfold pk; rw [dif_neg (by omega), if_neg (by omega), dif_neg (by omega), if_pos h']

theorem pk_tail (f : Fin 1184 → ℝ) {k : ℕ} (h : 512 ≤ k) (h' : k < 1280) : pk f k = f ⟨k - 96, by omega⟩ := by
  unfold pk; rw [dif_neg (by omega), if_neg (by omega), dif_neg (by omega), if_neg (by omega), dif_pos h']

theorem pk_mul (f h : Fin 1184 → ℝ) (k : ℕ) : pk f k * pk h k = pk (fun j => f j * h j) k := by
  unfold pk
  split
  · rfl
  split
  · exact mul_zero _
  split
  · rfl
  split
  · exact mul_zero _
  split
  · rfl
  exact mul_zero _

/-- The zeros add nothing. -/
theorem sum_pk (f : Fin 1184 → ℝ) : ∑ k ∈ Finset.range 1280, pk f k = ∑ j, f j := by
  let F : ℕ → ℝ := fun n => if h : n < 1184 then f ⟨n, h⟩ else 0
  have hF : ∑ j, f j = ∑ n ∈ Finset.range 1184, F n := by
    rw [← Fin.sum_univ_eq_sum_range]
    exact Finset.sum_congr rfl fun j _ => by simp only [F, dif_pos j.isLt]
  rw [hF, show 1280 = 384 + 64 + 32 + 32 + 768 from rfl, show 1184 = 384 + 32 + 768 from rfl]
  simp only [Finset.sum_range_add]
  have e1 : ∑ k ∈ Finset.range 384, pk f k = ∑ k ∈ Finset.range 384, F k := Finset.sum_congr rfl fun k hk => by
    have := Finset.mem_range.mp hk
    simp only [pk_head f this, F, dif_pos (show k < 1184 by omega)]
  have e2 : ∑ k ∈ Finset.range 64, pk f (384 + k) = 0 := Finset.sum_eq_zero fun k hk => by
    have := Finset.mem_range.mp hk
    exact pk_gap f (by omega) (by omega)
  have e3 : ∑ k ∈ Finset.range 32, pk f (384 + 64 + k) = ∑ k ∈ Finset.range 32, F (384 + k) := Finset.sum_congr rfl fun k hk => by
    have := Finset.mem_range.mp hk
    rw [pk_turn f (by omega) (by omega)]
    simp only [F, dif_pos (show 384 + k < 1184 by omega)]
    exact congrArg f (Fin.ext (by show 384 + 64 + k - 64 = 384 + k; omega))
  have e4 : ∑ k ∈ Finset.range 32, pk f (384 + 64 + 32 + k) = 0 := Finset.sum_eq_zero fun k hk => by
    have := Finset.mem_range.mp hk
    exact pk_rest f (by omega) (by omega)
  have e5 : ∑ k ∈ Finset.range 768, pk f (384 + 64 + 32 + 32 + k) = ∑ k ∈ Finset.range 768, F (384 + 32 + k) := Finset.sum_congr rfl fun k hk => by
    have := Finset.mem_range.mp hk
    rw [pk_tail f (by omega) (by omega)]
    simp only [F, dif_pos (show 384 + 32 + k < 1184 by omega)]
    exact congrArg f (Fin.ext (by show 384 + 64 + 32 + 32 + k - 96 = 384 + 32 + k; omega))
  rw [e1, e2, e3, e4, e5, add_zero, add_zero]

/-- The product of two rows set apart, taken in three parts. -/
theorem sum_parts (f h : Fin 1184 → ℝ) : (∑ k : Fin 512, pk f k.val * pk h k.val) + (∑ k : Fin 512, pk f (512 + k.val) * pk h (512 + k.val))
    + ∑ k : Fin 256, pk f (1024 + k.val) * pk h (1024 + k.val) = ∑ j, f j * h j := by
  simp only [pk_mul]
  rw [← sum_pk (fun j => f j * h j), show 1280 = 512 + 512 + 256 from rfl, Finset.sum_range_add, Finset.sum_range_add]
  simp only [Fin.sum_univ_eq_sum_range (fun k => pk (fun j => f j * h j) k), Fin.sum_univ_eq_sum_range (fun k => pk (fun j => f j * h j) (512 + k)), Fin.sum_univ_eq_sum_range (fun k => pk (fun j => f j * h j) (1024 + k))]

end Cert.InMath

end
-- ==== Proof.InBody.lean ====
module

public import proofs.«01_k».proof.Proof.Gen.InProjIdeal.Skeleton
public import proofs.«01_k».proof.Proof.NormMath

@[expose] public section

set_option maxRecDepth 16384

noncomputable section

/-! What the body computes of 256 rows. -/

namespace Cert.InProjIdeal.Norm

open Cert.InProjIdeal Cert.InProjIdeal.Gen Idealize.ShloMosaic Idealize.ShloMosaic.TcCoe
open Cert.AttnMath (coe_sum word_zero)
open Cert.NormMath Cert.InMath

/-- The three parts' products added, at an index. -/
theorem sum_at (v0 : Vec Ideal S256x512 .bf16) (v2 : Vec Ideal S1024x512 .bf16) (v5 : Vec Ideal S256x512 .bf16) (v7 : Vec Ideal S1024x512 .bf16) (v11 : Vec Ideal S256x256 .bf16) (v13 : Vec Ideal S1024x256 .bf16)
    (r : Fin 256) (d : Fin 1024) : k0_pay6 (F := Ideal) v0 v2 v5 v7 v11 v13 (ix2 r d)
      = (∑ k : Fin 512, v0 (ix2 r k) * v2 (ix2 d k)) + (∑ k : Fin 512, v5 (ix2 r k) * v7 (ix2 d k)) + ∑ k : Fin 256, v11 (ix2 r k) * v13 (ix2 d k) := by
  unfold k0_pay6
  pointwise

variable (A : Args) (i : Fin 256 → Fin 8192)

/-- What is loaded for 256 rows. -/
structure Loaded (v0 : Vec Ideal S256x512 .bf16) (v2 : Vec Ideal S1024x512 .bf16) (v5 : Vec Ideal S256x512 .bf16) (v7 : Vec Ideal S1024x512 .bf16) (v11 : Vec Ideal S256x256 .bf16) (v13 : Vec Ideal S1024x256 .bf16) : Prop where
  z0 : ∀ r k, v0 (ix2 r k) = (pk (A.z (i r)) k.val : EReal)
  z1 : ∀ r k, v5 (ix2 r k) = (pk (A.z (i r)) (512 + k.val) : EReal)
  z2 : ∀ r k, v11 (ix2 r k) = (pk (A.z (i r)) (1024 + k.val) : EReal)
  w0 : ∀ d k, v2 (ix2 d k) = (pk (A.w d) k.val : EReal)
  w1 : ∀ d k, v7 (ix2 d k) = (pk (A.w d) (512 + k.val) : EReal)
  w2 : ∀ d k, v13 (ix2 d k) = (pk (A.w d) (1024 + k.val) : EReal)

theorem Loaded.dy {v0 : Vec Ideal S256x512 .bf16} {v2 : Vec Ideal S1024x512 .bf16} {v5 : Vec Ideal S256x512 .bf16} {v7 : Vec Ideal S1024x512 .bf16} {v11 : Vec Ideal S256x256 .bf16} {v13 : Vec Ideal S1024x256 .bf16}
    (h : Loaded A i v0 v2 v5 v7 v11 v13) (r : Fin 256) (d : Fin 1024) : k0_pay6 (F := Ideal) v0 v2 v5 v7 v11 v13 (ix2 r d) = (A.dy (i r) d : EReal) := by
  rw [sum_at]
  simp only [h.z0, h.z1, h.z2, h.w0, h.w1, h.w2, ← EReal.coe_mul, coe_sum, ← EReal.coe_add]
  exact congrArg _ (sum_parts _ _)

/-- The product of the second half of the rows is written in two steps. -/
theorem later (v0 : Vec Ideal S256x512 .bf16) (v2 : Vec Ideal S1024x512 .bf16) (v5 : Vec Ideal S256x512 .bf16) (v7 : Vec Ideal S1024x512 .bf16) (v11 : Vec Ideal S256x256 .bf16) (v13 : Vec Ideal S1024x256 .bf16) :
    k0_pay9 (F := Ideal) (k0_pay7 v0 v2 v5 v7) (k0_pay8 v11) v13 = k0_pay6 v0 v2 v5 v7 v11 v13 := rfl

section Rows

variable {x dh : FVec Ideal S256x1024 .f32} (hx : ∀ r e, x (ix2 r e) = (A.x (i r) e : EReal)) (hd : ∀ r e, dh (ix2 r e) = (A.dy (i r) e : EReal))

theorem inv_words (x : FVec Ideal S256x1024 .f32) (r : Fin 256) :
    k0_pay1 (F := Ideal) x (ix2 r 0) = Ideal.rsqrt ((∑ e, x (ix2 r e) * x (ix2 r e)) * Ideal.ofBits .f32 0x3A800000#32 + Ideal.ofBits .f32 0x358637BD#32) := by
  unfold k0_pay1
  pointwise

include hx

theorem inv_at (r : Fin 256) : k0_pay1 (F := Ideal) x (ix2 r 0) = (inv (A.x (i r)) : EReal) := by
  rw [inv_words, word_1024th, word_eps]
  simp only [hx, ← EReal.coe_mul, coe_sum, ← EReal.coe_add]
  rw [← rsqrt_square, square, mul_one_div]
  norm_num

theorem quot_at (r : Fin 256) (e : Fin 1024) : k0_pay2 (F := Ideal) x (ix2 r e) = (A.x (i r) e * inv (A.x (i r)) : ℝ) := by
  have h : k0_pay2 (F := Ideal) x (ix2 r e) = x (ix2 r e) * k0_pay1 (F := Ideal) x (ix2 r 0) := by
    unfold k0_pay2
    generalize k0_pay1 (F := Ideal) x = v
    pointwise
  rw [h, hx, inv_at A i hx, ← EReal.coe_mul]

include hd

/-- The gradient at the rows, added to what comes past the norm. -/
theorem dx_at (g : Vec Ideal S1x1024 .f32) (hg : ∀ e, g (ix2 0 e) = (A.g e : EReal)) (y : Vec Ideal S256x1024 .f32) (r : Fin 256) (d : Fin 1024) :
    k0_pay3 (F := Ideal) dh x g y (ix2 r d) = y (ix2 r d) + (A.dx (i r) d : EReal) := by
  have hq := quot_at A i hx
  have hi := inv_at A i hx
  have h : k0_pay3 (F := Ideal) dh x g y (ix2 r d) = y (ix2 r d) + k0_pay1 (F := Ideal) x (ix2 r 0) * (dh (ix2 r d) * g (ix2 0 d)
      - k0_pay2 (F := Ideal) x (ix2 r d) * ((∑ e, dh (ix2 r e) * g (ix2 0 e) * k0_pay2 (F := Ideal) x (ix2 r e)) * Ideal.ofBits .f32 0x3A800000#32)) := by
    unfold k0_pay3
    generalize k0_pay1 (F := Ideal) x = u
    generalize k0_pay2 (F := Ideal) x = v
    pointwise
  rw [h, word_1024th]
  simp only [hq, hi, hd, hg, ← EReal.coe_mul, coe_sum, ← EReal.coe_sub]
  refine congrArg (fun z : ℝ => y (ix2 r d) + (z : EReal)) ?_
  unfold Args.dx grad
  rw [mul_one_div]
  norm_num

/-- What the rows add to the gradient at the factors. -/
theorem dg_at (s : FVec Ideal S1x1024 .f32) (d : Fin 1024) :
    k0_pay4 (F := Ideal) dh s x (ix2 0 d) = s (ix2 0 d) + ((∑ r, A.dgRow (i r) d : ℝ) : EReal) := by
  have hq := quot_at A i hx
  have h : k0_pay4 (F := Ideal) dh s x (ix2 0 d) = s (ix2 0 d) + ∑ r, dh (ix2 r d) * k0_pay2 (F := Ideal) x (ix2 r d) := by
    unfold k0_pay4
    generalize k0_pay2 (F := Ideal) x = v
    pointwise
  rw [h]
  simp only [hq, hd, ← EReal.coe_mul, coe_sum]
  rfl

end Rows

/-- A cast to the same shape changes nothing. -/
theorem same (x : Vec Ideal S256x1024 .f32) : k0_pay15 (F := Ideal) x = x := by
  funext j
  unfold k0_pay15
  pointwise

/-- The first half of the rows is worked on as the second. -/
theorem first_rows (dh : FVec Ideal S256x1024 .f32) (x : Vec Ideal S256x1024 .f32) (g : Vec Ideal S1x1024 .f32) (y : Vec Ideal S256x1024 .f32) :
    k0_pay13 (F := Ideal) dh x g y = k0_pay3 dh x g y := by
  have h : k0_pay13 (F := Ideal) dh x g y = k0_pay3 dh (k0_pay15 x) g y := rfl
  rw [h, same]

theorem first_sum (dh : FVec Ideal S256x1024 .f32) (x : Vec Ideal S256x1024 .f32) :
    k0_pay14 (F := Ideal) dh x = k0_pay4 dh (fun _ => 0) x := by
  have h : k0_pay14 (F := Ideal) dh x = k0_pay4 dh (broadcast S1x1024 (Scalar.ofBits .f32 0x00000000#32)) (k0_pay15 x) := rfl
  rw [h, same]
  exact congrArg (fun s => k0_pay4 dh s x) (funext fun _ => word_zero)

/-- What a later point adds to what it finds. -/
theorem added (dh : FVec Ideal S256x1024 .f32) (s : FVec Ideal S1x1024 .f32) (x : FVec Ideal S256x1024 .f32) (u : Vec Ideal S1x1024 .f32) (d : Fin 1024) :
    k0_pay5 (F := Ideal) dh s x u (ix2 0 d) = u (ix2 0 d) + k0_pay4 dh s x (ix2 0 d) := by
  unfold k0_pay5
  generalize k0_pay4 dh s x = v
  pointwise

end Cert.InProjIdeal.Norm

end
-- ==== Proof.InPoint.lean ====
module

public import proofs.«01_k».proof.Proof.InBody
public import proofs.«01_k».proof.Proof.Gen.InProjIdeal.Value
public import Idealize.ShloMosaic.Lib.Pipeline.ValueKit

@[expose] public section

set_option maxRecDepth 16384

noncomputable section

/-! What one point of the grid leaves in its output blocks. -/

namespace Cert.InProjIdeal.Norm

open Cert.InProjIdeal Cert.InProjIdeal.Gen Idealize.ShloMosaic Idealize.ShloMosaic.TcCoe Idealize.ShloMosaic.Tactic Idealize.SL.Sem
open Cert.NormMath Cert.InMath

/-- A load of a buffer that holds `x` reads `x`. -/
theorem loaded {sp : Space} {s : Shape} {e : EltTy} (arg : Memref sig .tc sp s e) (h : arg.IsWhole) (x : Vec Ideal s e) (r : Rect s) :
    View.readAt (Elt Ideal) arg.view r.toLoadRect (h.unread x) = View.ld x r := by
  have e : View.readAt (Elt Ideal) arg.view r.toLoadRect (h.unread x) = View.ld (arg.view.read (Elt Ideal) (h.unread x)) r := rfl
  rw [e, h.read_unread]

section Halves

variable (x0 : Vec Ideal S512x512 .bf16) (x1 : Vec Ideal S512x512 .bf16) (x2 : Vec Ideal S512x256 .bf16) (x3 : Vec Ideal S512x1024 .f32) (x4 : Vec Ideal S512x1024 .f32) (x5 : Vec Ideal S1x1024 .f32) (x6 : Vec Ideal S1024x1280 .bf16)

/-- The first 256 rows and the last of a block of the gradient at the product, -/
def up512 (x : Vec Ideal S512x512 .bf16) : Vec Ideal S256x512 .bf16 := View.ld x (Rect.unit (s := S512x512) ![0, 0] S256x512.size inb_S512x512_S256x512_0_0)

def lo512 (x : Vec Ideal S512x512 .bf16) : Vec Ideal S256x512 .bf16 := View.ld x (Rect.unit (s := S512x512) ![256, 0] S256x512.size inb_S512x512_S256x512_256_0)

def up256 (x : Vec Ideal S512x256 .bf16) : Vec Ideal S256x256 .bf16 := View.ld x (Rect.unit (s := S512x256) ![0, 0] S256x256.size inb_S512x256_S256x256_0_0)

def lo256 (x : Vec Ideal S512x256 .bf16) : Vec Ideal S256x256 .bf16 := View.ld x (Rect.unit (s := S512x256) ![256, 0] S256x256.size inb_S512x256_S256x256_256_0)

/-- of a block of rows, -/
def upRect : Rect S512x1024 := Rect.unit (s := S512x1024) ![0, 0] S256x1024.size inb_S512x1024_S256x1024_0_0

def loRect : Rect S512x1024 := Rect.unit (s := S512x1024) ![256, 0] S256x1024.size inb_S512x1024_S256x1024_256_0

def up1024 (x : Vec Ideal S512x1024 .f32) : Vec Ideal S256x1024 .f32 := View.ld x upRect

def lo1024 (x : Vec Ideal S512x1024 .f32) : Vec Ideal S256x1024 .f32 := View.ld x loRect

/-- and the three parts of the matrix's columns. -/
def col0 (x : Vec Ideal S1024x1280 .bf16) : Vec Ideal S1024x512 .bf16 := View.ld x (Rect.unit (s := S1024x1280) ![0, 0] S1024x512.size inb_S1024x1280_S1024x512_0_0)

def col1 (x : Vec Ideal S1024x1280 .bf16) : Vec Ideal S1024x512 .bf16 := View.ld x (Rect.unit (s := S1024x1280) ![0, 512] S1024x512.size inb_S1024x1280_S1024x512_0_512)

def col2 (x : Vec Ideal S1024x1280 .bf16) : Vec Ideal S1024x256 .bf16 := View.ld x (Rect.unit (s := S1024x1280) ![0, 1024] S1024x256.size inb_S1024x1280_S1024x256_0_1024)

def whole (x : Vec Ideal S1x1024 .f32) : Vec Ideal S1x1024 .f32 := View.ld x (Rect.unit (s := S1x1024) ![0, 0] S1x1024.size inb_S1x1024_S1x1024_0_0)

/-- The gradient at the normed rows, of the first half and of the last. -/
def upGrad : FVec Ideal S256x1024 .f32 := k0_pay6 (up512 x0) (col0 x6) (up512 x1) (col1 x6) (up256 x2) (col2 x6)

def loGrad : FVec Ideal S256x1024 .f32 := k0_pay9 (k0_pay7 (lo512 x0) (col0 x6) (lo512 x1) (col1 x6)) (k0_pay8 (lo256 x2)) (col2 x6)

/-- The two stores of the gradient at the rows, -/
def rowPieces : List (View.Piece (Elt Ideal) S512x1024 .f32) :=
  [⟨loRect, k0_pay3 (loGrad x0 x1 x2 x6) (k0_pay15 (lo1024 x3)) (whole x5) (lo1024 x4)⟩,
   ⟨upRect, k0_pay13 (upGrad x0 x1 x2 x6) (up1024 x3) (whole x5) (up1024 x4)⟩]

/-- and the sum the block adds to the gradient at the factors. -/
def blockSum : FVec Ideal S1x1024 .f32 := k0_pay4 (loGrad x0 x1 x2 x6) (k0_pay14 (upGrad x0 x1 x2 x6) (up1024 x3)) (k0_pay15 (lo1024 x3))

end Halves

variable (c : Dev nD) (i : grid0.Coords) (arg1 : Memref sig .tc .vmem S512x512 .bf16) (w1 : arg1.IsWhole) (arg2 : Memref sig .tc .vmem S512x512 .bf16) (w2 : arg2.IsWhole) (arg3 : Memref sig .tc .vmem S512x256 .bf16) (w3 : arg3.IsWhole) (arg4 : Memref sig .tc .vmem S512x1024 .f32) (w4 : arg4.IsWhole) (arg5 : Memref sig .tc .vmem S512x1024 .f32) (w5 : arg5.IsWhole) (arg6 : Memref sig .tc .vmem S1x1024 .f32) (w6 : arg6.IsWhole) (arg7 : Memref sig .tc .vmem S1024x1280 .bf16) (w7 : arg7.IsWhole) (arg8 : Memref sig .tc .vmem S512x1024 .f32) (w8 : arg8.IsWhole) (arg9 : Memref sig .tc .vmem S1x1024 .f32) (w9 : arg9.IsWhole)
  (x0 : Vec Ideal S512x512 .bf16) (x1 : Vec Ideal S512x512 .bf16) (x2 : Vec Ideal S512x256 .bf16) (x3 : Vec Ideal S512x1024 .f32) (x4 : Vec Ideal S512x1024 .f32) (x5 : Vec Ideal S1x1024 .f32) (x6 : Vec Ideal S1024x1280 .bf16) (x8 : Vec Ideal S1x1024 .f32)

section First

variable (hc0 : cond0_0 i) (hc1 : ¬cond0_1 i)

theorem rows_first : (kernelRun0_A (F := Ideal) c i _ w1 _ w2 _ w3 _ w4 _ w5 _ w6 _ w7 _ w8 _ w9 hc0 hc1 x0 x1 x2 x3 x4 x5 x6).1 = rowPieces x0 x1 x2 x3 x4 x5 x6 := by
  unfold kernelRun0_A
  dsimp only
  sl_unfold_words
  simp only [loaded]
  rfl

theorem sum_first : (kernelRun0_A (F := Ideal) c i _ w1 _ w2 _ w3 _ w4 _ w5 _ w6 _ w7 _ w8 _ w9 hc0 hc1 x0 x1 x2 x3 x4 x5 x6).2.1 = [⟨Rect.unit (s := S1x1024) ![0, 0] S1x1024.size inb_S1x1024_S1x1024_0_0, blockSum x0 x1 x2 x3 x6⟩] := by
  unfold kernelRun0_A
  dsimp only
  sl_unfold_words
  simp only [loaded]
  rfl

end First

section Later

variable (hc0 : ¬cond0_0 i) (hc1 : cond0_1 i)

theorem rows_later : (kernelRun0_B (F := Ideal) c i _ w1 _ w2 _ w3 _ w4 _ w5 _ w6 _ w7 _ w8 _ w9 hc0 hc1 x0 x1 x2 x3 x4 x5 x6 x8).1 = rowPieces x0 x1 x2 x3 x4 x5 x6 := by
  unfold kernelRun0_B
  dsimp only
  sl_unfold_words
  simp only [loaded]
  rfl

theorem sum_later : (kernelRun0_B (F := Ideal) c i _ w1 _ w2 _ w3 _ w4 _ w5 _ w6 _ w7 _ w8 _ w9 hc0 hc1 x0 x1 x2 x3 x4 x5 x6 x8).2.1
    = [⟨Rect.unit (s := S1x1024) ![0, 0] S1x1024.size inb_S1x1024_S1x1024_0_0, k0_pay5 (loGrad x0 x1 x2 x6) (k0_pay14 (upGrad x0 x1 x2 x6) (up1024 x3)) (k0_pay15 (lo1024 x3)) (whole x8)⟩] := by
  unfold kernelRun0_B
  dsimp only
  sl_unfold_words
  simp only [loaded]
  rfl

end Later

end Cert.InProjIdeal.Norm

end
-- ==== Proof.InHost.lean ====
module

public import proofs.«01_k».proof.Proof.InBody
public import proofs.«01_k».proof.Proof.Gen.InProjIdeal.Value
public import Idealize.ShloMosaic.Lib.StableHlo.ReadAt

@[expose] public section

set_option maxRecDepth 16384

noncomputable section

/-! The arrays the host hands to the kernel, at an index. -/

namespace Cert.InProjIdeal.Norm

open Cert.InProjIdeal Cert.InProjIdeal.Gen Idealize.ShloMosaic Idealize.ShloMosaic.TcCoe Idealize.SL.Sem
open Cert.NormMath Cert.InMath

variable (m : (ℓ : Loc nD τ sig) → Buf (Elt Ideal) ℓ) (c : Dev nD)

theorem rows_at (i : Fin 8192) (d : Fin 1024) : (V m c main_v17 : Vec Ideal S8192x1024 .f32) (ix2 i d) = m ((c : Thread nD τ).loc main_arg0) (ix3 0 i d) := by
  unfold V; after_reads_at

theorem past_at (i : Fin 8192) (d : Fin 1024) : (V m c main_v18 : Vec Ideal S8192x1024 .f32) (ix2 i d) = m ((c : Thread nD τ).loc main_arg4) (ix3 0 i d) := by
  unfold V; after_reads_at

theorem factor_at (d : Fin 1024) : (V m c main_v19 : Vec Ideal S1x1024 .f32) (ix2 0 d) = m ((c : Thread nD τ).loc main_arg1) (ix1 d) := by
  unfold V; after_reads_at

/-! A row of the gradient at the product, and of the matrix, is handed over with its columns set apart. -/

variable (z : Fin 1184 → ℝ)

theorem z1_at (i : Fin 8192) (h : ∀ j, m ((c : Thread nD τ).loc main_arg3) (ix3 0 i j) = (z j : EReal)) (k : Fin 512) :
    (V m c main_v15 : Vec Ideal S8192x512 .bf16) (ix2 i k) = (pk z (512 + k.val) : EReal) := by
  have e : (V m c main_v15 : Vec Ideal S8192x512 .bf16) (ix2 i k) = m ((c : Thread nD τ).loc main_arg3) (ix3 0 i ⟨416 + k.val, by omega⟩) := by
    unfold V; after_reads_at
  rw [e, h, pk_tail z (by omega) (by omega)]
  exact congrArg (fun j => (z j : EReal)) (Fin.ext (by show 416 + k.val = 512 + k.val - 96; omega))

theorem z2_at (i : Fin 8192) (h : ∀ j, m ((c : Thread nD τ).loc main_arg3) (ix3 0 i j) = (z j : EReal)) (k : Fin 256) :
    (V m c main_v16 : Vec Ideal S8192x256 .bf16) (ix2 i k) = (pk z (1024 + k.val) : EReal) := by
  have e : (V m c main_v16 : Vec Ideal S8192x256 .bf16) (ix2 i k) = m ((c : Thread nD τ).loc main_arg3) (ix3 0 i ⟨928 + k.val, by omega⟩) := by
    unfold V; after_reads_at
  rw [e, h, pk_tail z (by omega) (by omega)]
  exact congrArg (fun j => (z j : EReal)) (Fin.ext (by show 928 + k.val = 1024 + k.val - 96; omega))

theorem z0_at (i : Fin 8192) (h : ∀ j, m ((c : Thread nD τ).loc main_arg3) (ix3 0 i j) = (z j : EReal)) (k : Fin 512) :
    (V m c main_v14 : Vec Ideal S8192x512 .bf16) (ix2 i k) = (pk z k.val : EReal) := by
  have hk := k.isLt
  unfold V
  after_reads_at
  by_cases h1 : k.val < 384
  · refine (dif_pos h1).trans ?_
    rw [pk_head z h1, ← h]
    after_reads_at
  refine (dif_neg h1).trans ?_
  by_cases h2 : k.val - 384 < 64
  · refine (dif_pos h2).trans ?_
    rw [pk_gap z (by omega) (by omega)]
    after_reads_at
    exact EReal.coe_zero.symm
  refine (dif_neg h2).trans ?_
  by_cases h3 : k.val - 384 - 64 < 32
  · refine (dif_pos h3).trans ?_
    rw [pk_turn z (by omega) (by omega), ← h]
    after_reads_at
    exact congrArg (fun j => m ((c : Thread nD τ).loc main_arg3) (ix3 0 i j)) (Fin.ext (by show 384 + (k.val - 384 - 64) = k.val - 64; omega))
  refine (dif_neg h3).trans ?_
  rw [pk_rest z (by omega) (by omega)]
  after_reads_at
  exact EReal.coe_zero.symm

theorem w_at (i : Fin 1024) (h : ∀ j, m ((c : Thread nD τ).loc main_arg2) (ix2 i j) = (z j : EReal)) (k : Fin 1280) :
    (V m c main_v7 : Vec Ideal S1024x1280 .bf16) (ix2 i k) = (pk z k.val : EReal) := by
  have hk := k.isLt
  unfold V
  after_reads_at
  by_cases h1 : k.val < 384
  · refine (dif_pos h1).trans ?_
    rw [pk_head z h1, ← h]
    after_reads_at
  refine (dif_neg h1).trans ?_
  by_cases h2 : k.val - 384 < 64
  · refine (dif_pos h2).trans ?_
    rw [pk_gap z (by omega) (by omega)]
    after_reads_at
    exact EReal.coe_zero.symm
  refine (dif_neg h2).trans ?_
  by_cases h3 : k.val - 384 - 64 < 32
  · refine (dif_pos h3).trans ?_
    rw [pk_turn z (by omega) (by omega), ← h]
    after_reads_at
    exact congrArg (fun j => m ((c : Thread nD τ).loc main_arg2) (ix2 i j)) (Fin.ext (by show 384 + (k.val - 384 - 64) = k.val - 64; omega))
  refine (dif_neg h3).trans ?_
  by_cases h4 : k.val - 384 - 64 - 32 < 32
  · refine (dif_pos h4).trans ?_
    rw [pk_rest z (by omega) (by omega)]
    after_reads_at
    exact EReal.coe_zero.symm
  refine (dif_neg h4).trans ?_
  by_cases h5 : k.val - 384 - 64 - 32 - 32 < 512
  · refine (dif_pos h5).trans ?_
    rw [pk_tail z (by omega) (by omega), ← h]
    after_reads_at
    exact congrArg (fun j => m ((c : Thread nD τ).loc main_arg2) (ix2 i j)) (Fin.ext (by show 416 + (k.val - 384 - 64 - 32 - 32) = k.val - 96; omega))
  refine (dif_neg h5).trans ?_
  rw [pk_tail z (by omega) (by omega), ← h]
  after_reads_at
  exact congrArg (fun j => m ((c : Thread nD τ).loc main_arg2) (ix2 i j)) (Fin.ext (by show 928 + (k.val - 384 - 64 - 32 - 32 - 512) = k.val - 96; omega))

end Cert.InProjIdeal.Norm

end
-- ==== Proof.InArray.lean ====
module

public import proofs.«01_k».proof.Proof.InPoint
public import proofs.«01_k».proof.Proof.InHost

@[expose] public section

set_option maxRecDepth 16384

noncomputable section

/-! The arrays the kernel leaves. -/

namespace Cert.InProjIdeal.Norm

open Cert.InProjIdeal Cert.InProjIdeal.Gen Idealize.ShloMosaic Idealize.ShloMosaic.TcCoe Idealize.SL.Sem
open Cert.NormMath Cert.InMath
open Cert.AttnMath (coe_sum)

/-- A load of a part of a matrix, at an index. -/
theorem ld_two {a b a' b' o p : ℕ} {e : EltTy} (x : Vec Ideal ⟨2, ![a, b]⟩ e) (h : ∀ q, ![o, p] q + ![a', b'] q ≤ (⟨2, ![a, b]⟩ : Shape).size q) (r : Fin a') (k : Fin b') (hr : o + r.val < a) (hk : p + k.val < b) :
    View.ld x (Rect.unit (s := ⟨2, ![a, b]⟩) ![o, p] ![a', b'] h) (ix2 r k) = x (ix2 ⟨o + r.val, hr⟩ ⟨p + k.val, hk⟩) := by
  show x _ = x _
  congr 1
  funext q
  apply Fin.ext
  match q with
  | ⟨0, _⟩ => show o + 1 * r.val = o + r.val; omega
  | ⟨1, _⟩ => show p + 1 * k.val = p + k.val; omega

variable (A : Args) (i : Fin 512 → Fin 8192)

/-- What the blocks of a point hold. -/
structure Blocks (x0 x1 : Vec Ideal S512x512 .bf16) (x2 : Vec Ideal S512x256 .bf16) (x3 : Vec Ideal S512x1024 .f32) (x5 : Vec Ideal S1x1024 .f32) (x6 : Vec Ideal S1024x1280 .bf16) : Prop where
  z0 : ∀ r k, x0 (ix2 r k) = (pk (A.z (i r)) k.val : EReal)
  z1 : ∀ r k, x1 (ix2 r k) = (pk (A.z (i r)) (512 + k.val) : EReal)
  z2 : ∀ r k, x2 (ix2 r k) = (pk (A.z (i r)) (1024 + k.val) : EReal)
  x : ∀ r e, x3 (ix2 r e) = (A.x (i r) e : EReal)
  g : ∀ e, x5 (ix2 0 e) = (A.g e : EReal)
  w : ∀ d k, x6 (ix2 d k) = (pk (A.w d) k.val : EReal)

/-- The two halves of a block's rows. -/
def upper (r : Fin 256) : Fin 512 := ⟨r.val, by omega⟩

def lower (r : Fin 256) : Fin 512 := ⟨256 + r.val, by omega⟩

section

variable {A i} {x0 x1 : Vec Ideal S512x512 .bf16} {x2 : Vec Ideal S512x256 .bf16} {x3 : Vec Ideal S512x1024 .f32} {x5 : Vec Ideal S1x1024 .f32} {x6 : Vec Ideal S1024x1280 .bf16}
  (h : Blocks A i x0 x1 x2 x3 x5 x6)

include h

theorem Blocks.up : Loaded A (fun r => i (upper r)) (up512 x0) (col0 x6) (up512 x1) (col1 x6) (up256 x2) (col2 x6) where
  z0 r k := (ld_two _ _ r k (by omega) (by omega)).trans ((h.z0 _ _).trans (by simp only [Nat.zero_add]; rfl))
  z1 r k := (ld_two _ _ r k (by omega) (by omega)).trans ((h.z1 _ _).trans (by simp only [Nat.zero_add]; rfl))
  z2 r k := (ld_two _ _ r k (by omega) (by omega)).trans ((h.z2 _ _).trans (by simp only [Nat.zero_add]; rfl))
  w0 d k := (ld_two _ _ d k (by omega) (by omega)).trans ((h.w _ _).trans (by simp only [Nat.zero_add]))
  w1 d k := (ld_two _ _ d k (by omega) (by omega)).trans ((h.w _ _).trans (by simp only [Nat.zero_add]))
  w2 d k := (ld_two _ _ d k (by omega) (by omega)).trans ((h.w _ _).trans (by simp only [Nat.zero_add]))

theorem Blocks.lo : Loaded A (fun r => i (lower r)) (lo512 x0) (col0 x6) (lo512 x1) (col1 x6) (lo256 x2) (col2 x6) where
  z0 r k := (ld_two _ _ r k (by omega) (by omega)).trans ((h.z0 _ _).trans (by simp only [Nat.zero_add]; rfl))
  z1 r k := (ld_two _ _ r k (by omega) (by omega)).trans ((h.z1 _ _).trans (by simp only [Nat.zero_add]; rfl))
  z2 r k := (ld_two _ _ r k (by omega) (by omega)).trans ((h.z2 _ _).trans (by simp only [Nat.zero_add]; rfl))
  w0 d k := (ld_two _ _ d k (by omega) (by omega)).trans ((h.w _ _).trans (by simp only [Nat.zero_add]))
  w1 d k := (ld_two _ _ d k (by omega) (by omega)).trans ((h.w _ _).trans (by simp only [Nat.zero_add]))
  w2 d k := (ld_two _ _ d k (by omega) (by omega)).trans ((h.w _ _).trans (by simp only [Nat.zero_add]))

theorem Blocks.xUp (r : Fin 256) (e : Fin 1024) : up1024 x3 (ix2 r e) = (A.x (i (upper r)) e : EReal) :=
  (ld_two _ _ r e (by omega) (by omega)).trans ((h.x _ _).trans (by simp only [Nat.zero_add]; rfl))

theorem Blocks.xLo (r : Fin 256) (e : Fin 1024) : lo1024 x3 (ix2 r e) = (A.x (i (lower r)) e : EReal) :=
  (ld_two _ _ r e (by omega) (by omega)).trans ((h.x _ _).trans (by simp only [Nat.zero_add]; rfl))

theorem Blocks.gAll (e : Fin 1024) : whole x5 (ix2 0 e) = (A.g e : EReal) :=
  (ld_two _ _ 0 e (by omega) (by omega)).trans ((congrArg x5 (by congr 1; exact Fin.ext (Nat.zero_add _))).trans (h.g e))

theorem Blocks.dUp (r : Fin 256) (d : Fin 1024) : upGrad x0 x1 x2 x6 (ix2 r d) = (A.dy (i (upper r)) d : EReal) := h.up.dy A _ r d

theorem Blocks.dLo (r : Fin 256) (d : Fin 1024) : loGrad x0 x1 x2 x6 (ix2 r d) = (A.dy (i (lower r)) d : EReal) := by
  unfold loGrad
  rw [later]
  exact h.lo.dy A _ r d

/-- The two stores hold the gradient at the rows, added to what comes past the norm. -/
theorem Blocks.rows (x4 : Vec Ideal S512x1024 .f32) (pc : View.Piece (Elt Ideal) S512x1024 .f32) (hpc : pc ∈ rowPieces x0 x1 x2 x3 x4 x5 x6) (y : pc.1.shape.Idx) :
    pc.2 y = (fun j : S512x1024.Idx => (x4 j + (A.dx (i (j 0)) (j 1) : EReal) : EReal)) (pc.1.emb y) := by
  rcases List.mem_cons.mp hpc with rfl | hpc
  · change S256x1024.Idx at y
    idx_vars y
    show k0_pay3 (F := Ideal) _ _ _ _ (ix2 y0 y1) = _
    rw [same, dx_at A _ h.xLo h.dLo _ h.gAll]
    have e : loRect.emb (ix2 y0 y1) = ix2 (lower y0) y1 := by
      funext q
      apply Fin.ext
      match q with
      | ⟨0, _⟩ => show 256 + 1 * y0.val = 256 + y0.val; omega
      | ⟨1, _⟩ => show 0 + 1 * y1.val = y1.val; omega
    show x4 (loRect.emb (ix2 y0 y1)) + _ = (fun j : S512x1024.Idx => (x4 j + (A.dx (i (j 0)) (j 1) : EReal) : EReal)) (loRect.emb (ix2 y0 y1))
    rw [e]
    rfl
  · obtain rfl := List.mem_singleton.mp hpc
    change S256x1024.Idx at y
    idx_vars y
    show k0_pay13 (F := Ideal) _ _ _ _ (ix2 y0 y1) = _
    rw [first_rows, dx_at A _ h.xUp h.dUp _ h.gAll]
    have e : upRect.emb (ix2 y0 y1) = ix2 (upper y0) y1 := by
      funext q
      apply Fin.ext
      match q with
      | ⟨0, _⟩ => show 0 + 1 * y0.val = y0.val; omega
      | ⟨1, _⟩ => show 0 + 1 * y1.val = y1.val; omega
    show x4 (upRect.emb (ix2 y0 y1)) + _ = (fun j : S512x1024.Idx => (x4 j + (A.dx (i (j 0)) (j 1) : EReal) : EReal)) (upRect.emb (ix2 y0 y1))
    rw [e]
    rfl

/-- What the block adds to the gradient at the factors. -/
theorem Blocks.sum (d : Fin 1024) : blockSum x0 x1 x2 x3 x6 (ix2 0 d) = ((∑ r, A.dgRow (i r) d : ℝ) : EReal) := by
  unfold blockSum
  rw [same, dg_at A _ h.xLo h.dLo, first_sum, dg_at A _ h.xUp h.dUp]
  show (0 : EReal) + _ + _ = _
  rw [zero_add, ← EReal.coe_add]
  refine congrArg _ ?_
  exact (Fin.sum_univ_add (a := 256) (b := 256) fun r => A.dgRow (i r) d).symm

end

section Outs

variable (c : Dev nD) (q : grid0.Coords) (arg1 : Memref sig .tc .vmem S512x512 .bf16) (w1 : arg1.IsWhole) (arg2 : Memref sig .tc .vmem S512x512 .bf16) (w2 : arg2.IsWhole) (arg3 : Memref sig .tc .vmem S512x256 .bf16) (w3 : arg3.IsWhole) (arg4 : Memref sig .tc .vmem S512x1024 .f32) (w4 : arg4.IsWhole) (arg5 : Memref sig .tc .vmem S512x1024 .f32) (w5 : arg5.IsWhole) (arg6 : Memref sig .tc .vmem S1x1024 .f32) (w6 : arg6.IsWhole) (arg7 : Memref sig .tc .vmem S1024x1280 .bf16) (w7 : arg7.IsWhole) (arg8 : Memref sig .tc .vmem S512x1024 .f32) (w8 : arg8.IsWhole) (arg9 : Memref sig .tc .vmem S1x1024 .f32) (w9 : arg9.IsWhole)
  (x0 : Vec Ideal S512x512 .bf16) (x1 : Vec Ideal S512x512 .bf16) (x2 : Vec Ideal S512x256 .bf16) (x3 : Vec Ideal S512x1024 .f32) (x4 : Vec Ideal S512x1024 .f32) (x5 : Vec Ideal S1x1024 .f32) (x6 : Vec Ideal S1024x1280 .bf16) (x8 : Vec Ideal S1x1024 .f32)
  (h : Blocks A i x0 x1 x2 x3 x5 x6)

include h

theorem rows_A (hc0 : cond0_0 q) (hc1 : ¬cond0_1 q) (j : S512x1024.Idx) :
    out0_A_7 (F := Ideal) c q _ w1 _ w2 _ w3 _ w4 _ w5 _ w6 _ w7 _ w8 _ w9 hc0 hc1 x0 x1 x2 x3 x4 x5 x6 j = (x4 j + (A.dx (i (j 0)) (j 1) : EReal) : EReal) := by
  unfold out0_A_7
  refine View.read_writes_apply_of_pieces VO0_7 _ (fun j : S512x1024.Idx => (x4 j + (A.dx (i (j 0)) (j 1) : EReal) : EReal)) _ ?_ j (cover0_A_7 ..)
  rw [rows_first]
  exact fun pc hpc y => h.rows x4 pc hpc y

theorem rows_B (hc0 : ¬cond0_0 q) (hc1 : cond0_1 q) (j : S512x1024.Idx) :
    out0_B_7 (F := Ideal) c q _ w1 _ w2 _ w3 _ w4 _ w5 _ w6 _ w7 _ w8 _ w9 hc0 hc1 x0 x1 x2 x3 x4 x5 x6 x8 j = (x4 j + (A.dx (i (j 0)) (j 1) : EReal) : EReal) := by
  unfold out0_B_7
  refine View.read_writes_apply_of_pieces VO0_7 _ (fun j : S512x1024.Idx => (x4 j + (A.dx (i (j 0)) (j 1) : EReal) : EReal)) _ ?_ j (cover0_B_7 ..)
  rw [rows_later]
  exact fun pc hpc y => h.rows x4 pc hpc y

omit h in
theorem whole_emb (y : S1x1024.Idx) : (Rect.unit (s := S1x1024) ![0, 0] S1x1024.size inb_S1x1024_S1x1024_0_0).emb y = y := by
  funext a
  apply Fin.ext
  match a with
  | ⟨0, _⟩ => show 0 + 1 * (y 0).val = (y 0).val; omega
  | ⟨1, _⟩ => show 0 + 1 * (y 1).val = (y 1).val; omega

theorem sum_A (hc0 : cond0_0 q) (hc1 : ¬cond0_1 q) (d : Fin 1024) :
    out0_A_8 (F := Ideal) c q _ w1 _ w2 _ w3 _ w4 _ w5 _ w6 _ w7 _ w8 _ w9 hc0 hc1 x0 x1 x2 x3 x4 x5 x6 (ix2 0 d) = ((∑ r, A.dgRow (i r) d : ℝ) : EReal) := by
  unfold out0_A_8
  refine (View.read_writes_apply_of_pieces VO0_8 _ (blockSum x0 x1 x2 x3 x6) _ ?_ (ix2 0 d) (cover0_A_8 ..)).trans (h.sum d)
  rw [sum_first]
  intro pc hpc y
  obtain rfl := List.mem_singleton.mp hpc
  exact (congrArg (blockSum x0 x1 x2 x3 x6) (whole_emb y)).symm

theorem sum_B (hc0 : ¬cond0_0 q) (hc1 : cond0_1 q) (d : Fin 1024) :
    out0_B_8 (F := Ideal) c q _ w1 _ w2 _ w3 _ w4 _ w5 _ w6 _ w7 _ w8 _ w9 hc0 hc1 x0 x1 x2 x3 x4 x5 x6 x8 (ix2 0 d) = (x8 (ix2 0 d) + ((∑ r, A.dgRow (i r) d : ℝ) : EReal) : EReal) := by
  unfold out0_B_8
  refine (View.read_writes_apply_of_pieces VO0_8 _ (k0_pay5 (loGrad x0 x1 x2 x6) (k0_pay14 (upGrad x0 x1 x2 x6) (up1024 x3)) (k0_pay15 (lo1024 x3)) (whole x8)) _ ?_ (ix2 0 d) (cover0_B_8 ..)).trans ?_
  · rw [sum_later]
    intro pc hpc y
    obtain rfl := List.mem_singleton.mp hpc
    exact (congrArg (k0_pay5 (loGrad x0 x1 x2 x6) (k0_pay14 (upGrad x0 x1 x2 x6) (up1024 x3)) (k0_pay15 (lo1024 x3)) (whole x8)) (whole_emb y)).symm
  · rw [added]
    have e : whole x8 (ix2 0 d) = x8 (ix2 0 d) := congrArg x8 (whole_emb (ix2 0 d))
    rw [e]
    exact congrArg (fun z : EReal => (x8 (ix2 0 d) : EReal) + z) (h.sum d)

end Outs

section Arrays

variable (m : (ℓ : Loc nD τ sig) → Buf (Elt Ideal) ℓ) (c : Dev nD)

/-- The arguments are these numbers. -/
structure Given : Prop where
  x : ∀ i d, m ((c : Thread nD τ).loc main_arg0) (ix3 0 i d) = (A.x i d : EReal)
  g : ∀ d, m ((c : Thread nD τ).loc main_arg1) (ix1 d) = (A.g d : EReal)
  w : ∀ d j, m ((c : Thread nD τ).loc main_arg2) (ix2 d j) = (A.w d j : EReal)
  z : ∀ i j, m ((c : Thread nD τ).loc main_arg3) (ix3 0 i j) = (A.z i j : EReal)

/-- The rows of a point. -/
def row (t : Fin cfg0.N) (r : Fin 512) : Fin 8192 := ⟨512 * t.val + r.val, by have : t.val < 16 := t.isLt; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val, 0] := by decide +kernel
theorem index8 : ∀ t : Fin grid0.N, win0_8.index t = ![0, 0] := by decide +kernel

/-- What a point reads. -/
theorem blocks (h : Given A m c) (t : Fin cfg0.N) :
    Blocks A (row t) (iblk m c 0 t) (iblk m c 1 t) (iblk m c 2 t) (iblk m c 3 t) (iblk m c 5 t) (iblk m c 6 t) where
  z0 r k := by
    rw [← z0_at m c (A.z (row t r)) (row t r) (h.z _) k]
    have e := index0 t
    blk_simp [iblk]
    congr 1
    blk_ext [e, row]
  z1 r k := by
    rw [← z1_at m c (A.z (row t r)) (row t r) (h.z _) k]
    have e := index1 t
    blk_simp [iblk]
    congr 1
    blk_ext [e, row]
  z2 r k := by
    rw [← z2_at m c (A.z (row t r)) (row t r) (h.z _) k]
    have e := index2 t
    blk_simp [iblk]
    congr 1
    blk_ext [e, row]
  x r d := by
    rw [← h.x, ← rows_at m c]
    have e := index3 t
    blk_simp [iblk]
    congr 1
    blk_ext [e, row]
  g d := by
    rw [← h.g, ← factor_at m c]
    have e := index5 t
    blk_simp [iblk]
    congr 1
    blk_ext [e]
  w d k := by
    rw [← w_at m c (A.w d) d (h.w _) k]
    have e := index6 t
    blk_simp [iblk]
    congr 1
    blk_ext [e]

/-- A sum of two extended reals. -/
abbrev plus (a b : EReal) : EReal := a + b

/-- The first output: what was there already plus the gradient of the rows. -/
def dxArr (A : Args) (m : (ℓ : Loc nD τ sig) → Buf (Elt Ideal) ℓ) (c : Dev nD) : Vec Ideal S8192x1024 .f32 :=
  fun j => plus (m ((c : Thread nD τ).loc main_arg4) (ix3 0 (j 0) (j 1))) (A.dx (j 0) (j 1) : EReal)

theorem out_rows (h : Given A m c) (t : Fin cfg0.N) (y : S512x1024.Idx) : (outsAt0 m c t.val t.isLt).1 y = plus (iblk m c 4 t y) (A.dx (row t (y 0)) (y 1) : EReal) := by
  have ht : t.val < 16 := t.isLt
  by_cases h0 : t.val % 16 = 0
  · refine (congrArg (fun z => z.1 y) (outsAt0_A m c t h0 (by omega))).trans ?_
    have k := rows_A A (row t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (blocks A m c h t) ((hcond0_0 t).mpr (by omega)) (fun e => absurd ((hcond0_1 t).mp e) (by omega)) y
    refine Eq.trans ?_ (k.trans ?_)
    · dsimp only
    · rfl
  · refine (congrArg (fun z => z.1 y) (outsAt0_B m c t h0 (by omega))).trans ?_
    have k := rows_B A (row t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (outsAt0 m c (t.val - 1) (by have := t.isLt; omega)).2 (blocks A m c h t) (fun e => absurd ((hcond0_0 t).mp e) (by omega)) ((hcond0_1 t).mpr (by omega)) y
    refine Eq.trans ?_ (k.trans ?_)
    · dsimp only
    · rfl

theorem out_sum_first (h : Given A m c) (t : Fin cfg0.N) (h0 : t.val = 0) (d : Fin 1024) : (outsAt0 m c t.val t.isLt).2 (ix2 0 d) = ((∑ r, A.dgRow (row t r) d : ℝ) : EReal) := by
  refine (congrArg (fun z => z.2 (ix2 0 d)) (outsAt0_A m c t (by omega) (by omega))).trans ?_
  have k := sum_A A (row t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (blocks A m c h t) ((hcond0_0 t).mpr (by omega)) (fun e => absurd ((hcond0_1 t).mp e) (by omega)) d
  refine Eq.trans ?_ (k.trans ?_)
  · dsimp only
  · rfl

theorem out_sum_later (h : Given A m c) (t : Fin cfg0.N) (h0 : 1 ≤ t.val) (d : Fin 1024) :
    (outsAt0 m c t.val t.isLt).2 (ix2 0 d) = plus ((outsAt0 m c (t.val - 1) (by have := t.isLt; omega)).2 (ix2 0 d)) ((∑ r, A.dgRow (row t r) d : ℝ) : EReal) := by
  have ht : t.val < 16 := t.isLt
  refine (congrArg (fun z => z.2 (ix2 0 d)) (outsAt0_B m c t (by omega) h0)).trans ?_
  have k := sum_B A (row t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (outsAt0 m c (t.val - 1) (by have := t.isLt; omega)).2 (blocks A m c h t) (fun e => absurd ((hcond0_0 t).mp e) (by omega)) ((hcond0_1 t).mpr (by omega)) d
  refine Eq.trans ?_ (k.trans ?_)
  · dsimp only
  · rfl

theorem past_block (t : Fin cfg0.N) (y : S512x1024.Idx) : iblk m c 4 t y = m ((c : Thread nD τ).loc main_arg4) (ix3 0 (row t (y 0)) (y 1)) := by
  have e4 := index4 t
  refine Eq.trans ?_ (past_at m c (row t (y 0)) (y 1))
  idx_vars y
  blk_simp [iblk]
  congr 1
  blk_ext [e4, row]

theorem final_rows (h : Given A m c) : (dats m 0 c).arrAt 7 cfg0.N = dxArr A m c := by
  refine (dats m 0 c).arrAt_eq_of_covers 7 _ (by decide +kernel) fun t hf y => ?_
  have e7 := index7 t
  have e : (win0_7.blk t).view.emb y = ix2 (row t (y 0)) (y 1) := by
    idx_vars y
    blk_ext [e7, row]
  blk_simp
  rw [after0_7, e]
  exact (out_rows A m c h t y).trans (congrArg (fun z : EReal => plus z (A.dx (row t (y 0)) (y 1) : EReal)) (past_block m c t y))

/-- The terms of the second output, numbered by the rows. -/
def term (d : Fin 1024) (n : ℕ) : ℝ := if h : n < 8192 then A.dgRow ⟨n, h⟩ d else 0

theorem term_at (d : Fin 1024) (r : Fin 8192) : term A d r.val = A.dgRow r d := dif_pos r.isLt

theorem all_terms (d : Fin 1024) : (∑ k ∈ Finset.range (512 * 15 + 512), term A d k) = A.dg d := by
  have e : 512 * 15 + 512 = 8192 := by norm_num
  rw [e, Finset.sum_range]
  exact Finset.sum_congr rfl fun r _ => term_at A d r

theorem point_sum (t : Fin cfg0.N) (d : Fin 1024) : (∑ r, A.dgRow (row t r) d) = ∑ r ∈ Finset.range 512, term A d (512 * t.val + r) := by
  have ht : t.val < 16 := t.isLt
  rw [Finset.sum_range]
  exact Finset.sum_congr rfl fun r _ => (term_at A d (row t r)).symm

theorem sum_after (h : Given A m c) (d : Fin 1024) : ∀ (n : ℕ) (hn : n < cfg0.N), (outsAt0 m c n hn).2 (ix2 0 d) = ((∑ k ∈ Finset.range (512 * n + 512), term A d k : ℝ) : EReal)
  | 0, hn => by
    refine (out_sum_first A m c h ⟨0, hn⟩ rfl d).trans ?_
    rw [point_sum]
    simp only [Nat.mul_zero, Nat.zero_add]
  | n + 1, hn => by
    refine (out_sum_later A m c h ⟨n + 1, hn⟩ (Nat.le_add_left _ _) d).trans ?_
    rw [point_sum]
    refine (congrArg (fun z : EReal => plus z _) (sum_after h d n (Nat.lt_of_succ_lt hn))).trans ?_
    refine (EReal.coe_add _ _).symm.trans (congrArg _ ?_)
    exact (Finset.sum_range_add (fun k => term A d k) (512 * n + 512) 512).symm

/-- The second output: the sum over all rows. -/
def dgArr (A : Args) : Vec Ideal S1x1024 .f32 := fun j => (A.dg (j 1) : EReal)

theorem last8 : ∀ t : Fin cfg0.N, (cfg0.win 8).flush t = true → t.val = 15 := by decide +kernel

theorem final_sum (h : Given A m c) : (dats m 0 c).arrAt 8 cfg0.N = dgArr A := by
  refine (dats m 0 c).arrAt_eq_of_covers 8 _ (by decide +kernel) fun t hf y => ?_
  have e8 := index8 t
  have e : (win0_8.blk t).view.emb y = y := by
    idx_vars y
    blk_ext [e8]
  have ey : y = ix2 0 (y 1) := by
    funext a
    match a with
    | ⟨0, _⟩ => exact Subsingleton.elim (α := Fin 1) _ _
    | ⟨1, _⟩ => rfl
  blk_simp
  rw [after0_8, e]
  have h15 : t.val = 15 := last8 t hf
  have k := sum_after A m c h (y 1) t.val t.isLt
  refine ((congrArg (outsAt0 m c t.val t.isLt).2 ey).trans k).trans ?_
  rw [h15]
  exact congrArg (fun r : ℝ => (r : EReal)) (all_terms A (y 1))

end Arrays

end Cert.InProjIdeal.Norm

end
-- ==== Proof.InRef.lean ====
module

public import proofs.«01_k».proof.Proof.Gen.InProjReferenceIdeal.Read
public import proofs.«01_k».proof.Proof.NormMath
public import proofs.«01_k».proof.Proof.AttnRef

@[expose] public section

set_option maxRecDepth 16384

noncomputable section

/-! What the derivative of the plain projection leaves, where its arguments are real numbers: the gradient of the
    normalized rows on top of what was there, and the gradient of the factors. -/

namespace Cert.InProjReferenceIdeal.Norm

open Idealize.ShloMosaic Cert.InProjReferenceIdeal Cert.InProjReferenceIdeal.Gen Cert.InProjReferenceIdeal.Read
open Cert.NormMath Cert.InMath
open Cert.AttnMath (coe_sum word_zero div_real)

/-- A sum over two axes of length one. -/
theorem sum_units_row (S : Vec Ideal S1x1x1024 .f32) (d : Fin 1024) :
    Ideal.hostReduceAdd reducesTo_S1x1x1024_S1024_d0_1 S 0 (ix1 d) = S (ix3 (0 : Fin 1) (0 : Fin 1) d) := by
  unfold Ideal.hostReduceAdd
  have e : (Finset.univ.filter fun y : S1x1x1024.Idx => reducesTo_S1x1x1024_S1024_d0_1.drop y = ix1 d) = {ix3 (0 : Fin 1) (0 : Fin 1) d} := by
    ext y
    rw [Finset.mem_filter, Finset.mem_singleton]
    constructor
    · rintro ⟨-, e⟩
      refine (eq_ix3 y).trans ?_
      have e0 : y 2 = d := Fin.ext (congrArg (fun z : S1024.Idx => (z 0).val) e)
      have e1 : y 0 = (0 : Fin 1) := Subsingleton.elim (α := Fin 1) _ _
      have e2 : y 1 = (0 : Fin 1) := Subsingleton.elim (α := Fin 1) _ _
      rw [e0, e1, e2]
    · rintro rfl
      refine ⟨Finset.mem_univ _, funext fun b => ?_⟩
      match b with
      | ⟨0, _⟩ => rfl
  rw [e, Finset.sum_singleton, zero_add]

theorem sum_units_col (S : Vec Ideal S1x8192x1 .f32) (i : Fin 8192) :
    Ideal.hostReduceAdd reducesTo_S1x8192x1_S8192_d0_2 S 0 (ix1 i) = S (ix3 (0 : Fin 1) i (0 : Fin 1)) := by
  unfold Ideal.hostReduceAdd
  have e : (Finset.univ.filter fun y : S1x8192x1.Idx => reducesTo_S1x8192x1_S8192_d0_2.drop y = ix1 i) = {ix3 (0 : Fin 1) i (0 : Fin 1)} := by
    ext y
    rw [Finset.mem_filter, Finset.mem_singleton]
    constructor
    · rintro ⟨-, e⟩
      refine (eq_ix3 y).trans ?_
      have e0 : y 1 = i := Fin.ext (congrArg (fun z : S8192.Idx => (z 0).val) e)
      have e1 : y 0 = (0 : Fin 1) := Subsingleton.elim (α := Fin 1) _ _
      have e2 : y 2 = (0 : Fin 1) := Subsingleton.elim (α := Fin 1) _ _
      rw [e0, e1, e2]
    · rintro rfl
      refine ⟨Finset.mem_univ _, funext fun b => ?_⟩
      match b with
      | ⟨0, _⟩ => rfl
  rw [e, Finset.sum_singleton, zero_add]

variable (A : Args) (x0 : Vec Ideal S1x8192x1024 .f32) (x1 : Vec Ideal S1024 .f32) (x2 : Vec Ideal S1024x1184 .f32) (x3 : Vec Ideal S1x8192x1184 .f32) (x4 : Vec Ideal S1x8192x1024 .f32)
  (h0 : ∀ i, x0 i = (A.x (i 1) (i 2) : EReal)) (h1 : ∀ i, x1 i = (A.g (i 0) : EReal)) (h2 : ∀ i, x2 i = (A.w (i 0) (i 1) : EReal)) (h3 : ∀ i, x3 i = (A.z (i 1) (i 2) : EReal))

section

include h0

theorem square_at (i : S1x8192x1.Idx) : val_main_v6 (F := Ideal) x0 i = (square (A.x (i 1)) : EReal) := by
  rw [val_main_v6_apply, val_main_v4_apply, val_main_v2_apply, val_main_v1_apply, val_main_v3_apply, val_main_v5_apply]
  have e : ∀ k : Fin 1024, val_main_v0 (F := Ideal) x0 (idx_main_v1 (idx_main_v2 i) k) = ((A.x (i 1) k * A.x (i 1) k : ℝ) : EReal) := fun k => by
    rw [val_main_v0_apply, h0]
    exact (EReal.coe_mul _ _).symm
  have e' : (val_main_cst (F := Ideal) (Shape.Idx.first h_S_) + ∑ k : Fin 1024, val_main_v0 (F := Ideal) x0 (idx_main_v1 (idx_main_v2 i) k) : EReal) = ((∑ k, A.x (i 1) k * A.x (i 1) k : ℝ) : EReal) := by
    rw [Finset.sum_congr rfl fun k _ => e k, coe_sum]
    refine (congrArg (fun z : EReal => z + _) word_zero).trans (zero_add _)
  refine (congrArg (fun z : EReal => Ideal.div z (Ideal.ofBits .f32 0x44800000#32) + Ideal.ofBits .f32 0x358637BD#32) e').trans ?_
  rw [word_1024, word_eps, div_real _ _ (by norm_num), ← EReal.coe_add]
  unfold square
  norm_num

theorem inv_at (i : S1x8192x1.Idx) : val_main_v7 (F := Ideal) x0 i = (inv (A.x (i 1)) : EReal) := by
  rw [val_main_v7_apply, square_at A x0 h0]
  exact rsqrt_square _

theorem slope_part (i : S1x8192x1.Idx) : val_main_v10 (F := Ideal) x0 i = ((-(1 / 2) * (inv (A.x (i 1)) / square (A.x (i 1))) : ℝ) : EReal) := by
  rw [val_main_v10_apply, val_main_v9_apply, val_main_v8_apply, inv_at A x0 h0, square_at A x0 h0]
  refine (congrArg (fun z : EReal => Ideal.ofBits .f32 0xBF000000#32 * z) (div_real _ _ (square_pos _).ne')).trans ?_
  rw [word_neg_half]
  exact (EReal.coe_mul _ _).symm

theorem unit_at (i : S1x8192x1024.Idx) : val_main_v12 (F := Ideal) x0 i = ((A.x (i 1) (i 2) * inv (A.x (i 1)) : ℝ) : EReal) := by
  rw [val_main_v12_apply, val_main_v11_apply, inv_at A x0 h0, h0]
  exact (EReal.coe_mul _ _).symm

end

include h2 h3 in
theorem dy_at (i : S1x8192x1024.Idx) : val_main_v17 (F := Ideal) x2 x3 i = (A.dy (i 1) (i 2) : EReal) := by
  rw [val_main_v17_apply]
  unfold Args.dy
  rw [← coe_sum]
  refine Finset.sum_congr rfl fun k _ => ?_
  rw [h3, h2]
  exact (EReal.coe_mul _ _).symm

include h1 in
theorem factor_at (i : S1x8192x1024.Idx) : val_main_v21 (F := Ideal) x1 i = (A.g (i 2) : EReal) := by
  rw [val_main_v21_apply, val_main_v13_apply, h1]
  rfl

include h1 h2 h3 in
theorem dyg_at (i : S1x8192x1024.Idx) : val_main_v22 (F := Ideal) x1 x2 x3 i = ((A.dy (i 1) (i 2) * A.g (i 2) : ℝ) : EReal) := by
  rw [val_main_v22_apply, dy_at A x2 x3 h2 h3, factor_at A x1 h1]
  exact (EReal.coe_mul _ _).symm

section

include h0 h2 h3

/-- The gradient of the factors. -/
theorem dg_at (d : Fin 1024) : val_main_v41 (F := Ideal) x0 x2 x3 (ix2 0 d) = (A.dg d : EReal) := by
  rw [val_main_v41_apply]
  have e : idx_main_v41 (ix2 0 d) = ix1 d := by
    funext a
    match a with
    | ⟨0, _⟩ => apply Fin.ext; show 0 * 1024 + d.val = d.val; omega
  rw [e]
  unfold val_main_v23
  refine (congrArg (fun z => Ideal.hostReduceAdd reducesTo_S1x1x1024_S1024_d0_1 (val_main_v20 (F := Ideal) x0 x2 x3) z (ix1 d)) word_zero).trans ?_
  rw [sum_units_row, val_main_v20_apply, val_main_v19_apply]
  have ei : ∀ k : Fin 8192, idx_main_v19 (idx_main_v20 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 1024 + d.val) % 1024 = d.val; omega
  have e : ∀ k : Fin 8192, val_main_v18 (F := Ideal) x0 x2 x3 (idx_main_v19 (idx_main_v20 (ix3 (0 : Fin 1) (0 : Fin 1) d)) k) = (A.dgRow k d : EReal) := fun k => by
    rw [ei, val_main_v18_apply, unit_at A x0 h0, dy_at A x2 x3 h2 h3]
    refine (EReal.coe_mul _ _).symm.trans (congrArg _ ?_)
    exact mul_comm _ _
  rw [Finset.sum_congr rfl fun k _ => e k, coe_sum]
  exact (congrArg (fun z : EReal => z + _) word_zero).trans (zero_add _)

include h1

theorem slope_row (n : Fin 8192) : val_main_v33 (F := Ideal) x0 x1 x2 x3 (ix1 n) = (NormMath.slope (A.x n) (fun e => A.dy n e * A.g e) : EReal) := by
  unfold val_main_v33
  refine (congrArg (fun z => Ideal.hostReduceAdd reducesTo_S1x8192x1_S8192_d0_2 (val_main_v32 (F := Ideal) x0 x1 x2 x3) z (ix1 n)) word_zero).trans ?_
  refine (sum_units_col _ n).trans ?_
  rw [val_main_v32_apply, val_main_v30_apply, val_main_v26_apply, val_main_v25_apply, slope_part A x0 h0, val_main_v31_apply]
  have ei : ∀ k : Fin 1024, idx_main_v25 (idx_main_v26 (ix3 (0 : Fin 1) n (0 : Fin 1))) k = ix3 (0 : Fin 1) n k := fun k => by
    funext a
    match a with
    | ⟨0, _⟩ => rfl
    | ⟨1, _⟩ => apply Fin.ext; show ((0 * 8192 + n.val) * 1 + 0) % 8192 = n.val; omega
    | ⟨2, _⟩ => rfl
  have e : ∀ k : Fin 1024, val_main_v24 (F := Ideal) x0 x1 x2 x3 (idx_main_v25 (idx_main_v26 (ix3 (0 : Fin 1) n (0 : Fin 1))) k) = ((A.x n k * (A.dy n k * A.g k) : ℝ) : EReal) := fun k => by
    rw [ei, val_main_v24_apply, h0, dyg_at A x1 x2 x3 h1 h2 h3]
    exact (EReal.coe_mul _ _).symm
  have e' : (val_main_cst_5 (F := Ideal) (Shape.Idx.first h_S_) + ∑ k : Fin 1024, val_main_v24 (F := Ideal) x0 x1 x2 x3 (idx_main_v25 (idx_main_v26 (ix3 (0 : Fin 1) n (0 : Fin 1))) k) : EReal)
      = ((∑ k, A.x n k * (A.dy n k * A.g k) : ℝ) : EReal) := by
    rw [Finset.sum_congr rfl fun k _ => e k, coe_sum]
    refine (congrArg (fun z : EReal => z + _) word_zero).trans (zero_add _)
  refine (congrArg (fun z : EReal => Ideal.div (z * _) (Ideal.ofBits .f32 0x44800000#32)) e').trans ?_
  rw [word_1024, ← EReal.coe_mul, div_real _ _ (by norm_num)]
  unfold NormMath.slope
  rw [Nat.cast_ofNat]
  rfl

theorem slope_at (i : S1x8192x1024.Idx) : val_main_v35 (F := Ideal) x0 x1 x2 x3 i = (NormMath.slope (A.x (i 1)) (fun e => A.dy (i 1) e * A.g e) : EReal) := by
  rw [val_main_v35_apply, val_main_v34_apply]
  have e : idx_main_v34 (idx_main_v35 i) = ix1 (i 1) := by funext a; match a with | ⟨0, _⟩ => rfl
  exact (congrArg (val_main_v33 (F := Ideal) x0 x1 x2 x3) e).trans (slope_row A x0 x1 x2 x3 h0 h1 h2 h3 (i 1))

/-- The gradient of the rows, on top of what was there. -/
theorem dx_at (i : Fin 8192) (d : Fin 1024) : val_main_v40 (F := Ideal) x0 x1 x2 x3 x4 (ix2 i d) = (x4 (ix3 0 i d) + (A.dx i d : EReal) : EReal) := by
  rw [val_main_v40_apply]
  have e : idx_main_v40 (ix2 i d) = ix3 (0 : Fin 1) i d := by
    funext a
    match a with
    | ⟨0, _⟩ => exact Subsingleton.elim (α := Fin 1) _ _
    | ⟨1, _⟩ => apply Fin.ext; show (i.val * 1024 + d.val) / 1024 % 8192 = i.val; omega
    | ⟨2, _⟩ => apply Fin.ext; show (i.val * 1024 + d.val) % 1024 = d.val; omega
  rw [e, val_main_v39_apply, val_main_v37_apply, val_main_v29_apply, val_main_v28_apply, val_main_v27_apply, val_main_v36_apply, val_main_v38_apply,
    dyg_at A x1 x2 x3 h1 h2 h3, inv_at A x0 h0, slope_at A x0 x1 x2 x3 h0 h1 h2 h3, h0]
  show ((x4 (ix3 0 i d) + ((A.dy i d * A.g d : ℝ) : EReal) * (inv (A.x i) : EReal) + (A.x i d : EReal) * (NormMath.slope (A.x i) (fun e => A.dy i e * A.g e) : EReal))
    + (NormMath.slope (A.x i) (fun e => A.dy i e * A.g e) : EReal) * (A.x i d : EReal) : EReal) = _
  rw [← EReal.coe_mul, ← EReal.coe_mul, ← EReal.coe_mul, add_assoc, add_assoc, ← EReal.coe_add, ← EReal.coe_add]
  unfold Args.dx
  rw [grad_eq, add_assoc]

end

end Cert.InProjReferenceIdeal.Norm

end
-- ==== Proof.InClaim.lean ====
module

public import proofs.«01_k».proof.Proof.InArray
public import proofs.«01_k».proof.Proof.InRef
public import proofs.«01_k».proof.Proof.AttnPre
public import proofs.«01_k».proof.Proof.Gen.InProjIdeal.Value
public import proofs.«01_k».proof.Proof.Gen.InProjReferenceIdeal.Run

@[expose] public section

noncomputable section

/-! The kernel of the projection's gradient leaves what the derivative of the plain projection leaves. -/

namespace Cert.InProjection

open Idealize.ShloMosaic Idealize.SL.Sem Cert.InMath
open Cert.Attention (both real_of_test)

/-- The printed precondition's side conditions. -/
theorem pre_facts : Cert.Pre_finite_in.Facts := ⟨by decide, by decide, by decide, by decide, by decide⟩

attribute [local instance] pre_facts in
/-- Where the precondition reads one, its four arguments are arrays of real numbers. -/
theorem args_of_pre (x0 : FVec Ideal Cert.Pre_finite_in.S1x8192x1024 .f32) (x1 : FVec Ideal Cert.Pre_finite_in.S1024 .f32) (x2 : FVec Ideal Cert.Pre_finite_in.S1024x1184 .f32)
    (x3 : FVec Ideal Cert.Pre_finite_in.S1x8192x1184 .f32) (x4 : FVec Ideal Cert.Pre_finite_in.S1x8192x1024 .f32) (h : Cert.Pre_finite_in.fn (F := Ideal) x0 x1 x2 x3 x4 = fun _ => 1#1) :
    ∃ A : Args, (∀ i, (x0 i : EReal) = (A.x (i 1) (i 2) : EReal)) ∧ (∀ i, (x1 i : EReal) = (A.g (i 0) : EReal)) ∧ (∀ i, (x2 i : EReal) = (A.w (i 0) (i 1) : EReal))
      ∧ (∀ i, (x3 i : EReal) = (A.z (i 1) (i 2) : EReal)) := by
  have e := congrFun h ix0
  unfold Cert.Pre_finite_in.fn at e
  obtain ⟨e, e3⟩ := both e
  obtain ⟨e, e2⟩ := both e
  obtain ⟨e0, e1⟩ := both e
  choose x hx using real_of_test x0 _ _ e0
  choose g hg using real_of_test x1 _ _ e1
  choose w hw using real_of_test x2 _ _ e2
  choose z hz using real_of_test x3 _ _ e3
  refine ⟨⟨fun i d => x (ix3 0 i d), fun d => g (ix1 d), fun d j => w (ix2 d j), fun i j => z (ix3 0 i j)⟩, fun i => ?_, fun i => ?_, fun i => ?_, fun i => ?_⟩
  · rw [hx]
    exact congrArg (fun y => (x y : EReal)) ((eq_ix3 i).trans (congrArg (fun a => ix3 a (i 1) (i 2)) (Subsingleton.elim (α := Fin 1) (i 0) 0)))
  · rw [hg]
    exact congrArg (fun y => (g y : EReal)) (eq_ix1 i)
  · rw [hw]
    exact congrArg (fun y => (w y : EReal)) (eq_ix2 i)
  · rw [hz]
    exact congrArg (fun y => (z y : EReal)) ((eq_ix3 i).trans (congrArg (fun a => ix3 a (i 1) (i 2)) (Subsingleton.elim (α := Fin 1) (i 0) 0)))

/-- The reference's run leaves its arguments. -/
theorem frame_reference : Cert.quiescent_InProjReferenceIdeal (hInProjReferenceIdeal := Cert.InProjReferenceIdeal.Gen.facts) :=
  fun m ρ _ => (θ_run Cert.InProjReferenceIdeal.defs _ _).mono (fun r h => ⟨fun c => (h c).2.2, sem_eq_zero_of_no_sems (by decide) _⟩)
    (Cert.InProjReferenceIdeal.Value.run (F := Ideal) m ρ)

attribute [local instance] pre_facts in
/-- The two programs leave the same two arrays in their results, where the arguments are finite. -/
theorem value : Cert.algebraic_InProjIdeal_InProjReferenceIdeal_pre_finite_in := by
  intro m g m' g' hpre hargs
  have hA := fun c => args_of_pre _ _ _ _ _ (hpre c)
  choose A hx hg hw hz using hA
  have hG : ∀ c, Cert.InProjIdeal.Norm.Given (A c) m c := fun c => ⟨fun i d => hx c (ix3 0 i d), fun d => hg c (ix1 d), fun d j => hw c (ix2 d j), fun i j => hz c (ix3 0 i j)⟩
  refine ⟨fun c => Cert.InProjIdeal.Norm.dxArr (A c) m c, fun c => Cert.InProjIdeal.Norm.dgArr (A c), ?_, ?_⟩
  · refine (θ_run _ _ _).mono (fun r h c => ?_) (Cert.InProjIdeal.Value.run_blocks m g)
    exact ⟨(h c).1.trans (Cert.InProjIdeal.Norm.final_rows (A c) m c (hG c)), (h c).2.1.trans (Cert.InProjIdeal.Norm.final_sum (A c) m c (hG c)), (h c).2.2⟩
  · refine (θ_run _ _ _).mono (fun r h c => ⟨(h c).1.trans ?_, (h c).2.1.trans ?_, (h c).2.2⟩) (Cert.InProjReferenceIdeal.Value.run (F := Ideal) m' g')
    · rw [Cert.InProjReferenceIdeal.Read.val_main_v40_eq, (hargs c).1, (hargs c).2.1, (hargs c).2.2.1, (hargs c).2.2.2.1, (hargs c).2.2.2.2]
      funext i
      refine (congrArg _ (eq_ix2 i)).trans ?_
      exact Cert.InProjReferenceIdeal.Norm.dx_at (A c) _ _ _ _ _ (hx c) (hg c) (hw c) (hz c) (i 0) (i 1)
    · rw [Cert.InProjReferenceIdeal.Read.val_main_v41_eq, (hargs c).1, (hargs c).2.2.1, (hargs c).2.2.2.1]
      funext i
      have e : i = ix2 0 (i 1) := (eq_ix2 i).trans (congrArg (fun a => ix2 a (i 1)) (Subsingleton.elim (α := Fin 1) (i 0) 0))
      refine (congrArg _ e).trans ?_
      exact Cert.InProjReferenceIdeal.Norm.dg_at (A c) _ _ _ (hx c) (hw c) (hz c) (i 1)

end Cert.InProjection

end
-- ==== Proof.FfnMath.lean ====
module

public import proofs.«01_k».proof.Proof.NormMath

@[expose] public section

noncomputable section

/-! The gradient of a gated feed-forward layer behind a norm, over the real numbers. -/

namespace Cert.FfnMath

open Cert.NormMath

/-- The rows, the factors of the norm, the three matrices and the gradient at the layer's output. -/
structure Args where
  x : Fin 8192 → Fin 1024 → ℝ
  g : Fin 1024 → ℝ
  wg : Fin 1024 → Fin 2816 → ℝ
  wu : Fin 1024 → Fin 2816 → ℝ
  wd : Fin 2816 → Fin 1024 → ℝ
  y : Fin 8192 → Fin 1024 → ℝ

/-- One over one plus the exponential of the negative. -/
def sg (r : ℝ) : ℝ := (1 + Real.exp (-r))⁻¹

namespace Args

variable (A : Args)

/-- The normed rows, -/
def h (i : Fin 8192) (e : Fin 1024) : ℝ := A.x i e * inv (A.x i) * A.g e

/-- the gate before its function, -/
def a (i : Fin 8192) (j : Fin 2816) : ℝ := ∑ e, A.h i e * A.wg e j

/-- and what it is multiplied with. -/
def b (i : Fin 8192) (j : Fin 2816) : ℝ := ∑ e, A.h i e * A.wu e j

/-- The hidden layer. -/
def hid (i : Fin 8192) (j : Fin 2816) : ℝ := A.a i j * sg (A.a i j) * A.b i j

/-- The gradient at the hidden layer, -/
def dhid (i : Fin 8192) (j : Fin 2816) : ℝ := ∑ d, A.y i d * A.wd j d

/-- at its second factor, -/
def db (i : Fin 8192) (j : Fin 2816) : ℝ := A.dhid i j * (A.a i j * sg (A.a i j))

/-- at the gate, -/
def da (i : Fin 8192) (j : Fin 2816) : ℝ := A.dhid i j * A.b i j * (sg (A.a i j) * (1 + A.a i j * (1 - sg (A.a i j))))

/-- at the normed rows, -/
def dh (i : Fin 8192) (d : Fin 1024) : ℝ := (∑ j, A.db i j * A.wu d j) + ∑ j, A.da i j * A.wg d j

/-- and at the rows. -/
def dx (i : Fin 8192) (d : Fin 1024) : ℝ := grad (A.x i) (fun e => A.dh i e * A.g e) d

/-- What a row adds to the gradient at the factors. -/
def dgRow (i : Fin 8192) (d : Fin 1024) : ℝ := A.dh i d * (A.x i d * inv (A.x i))

def dg (d : Fin 1024) : ℝ := ∑ i, A.dgRow i d

theorem da_eq (i : Fin 8192) (j : Fin 2816) :
    A.da i j = A.dhid i j * A.b i j * sg (A.a i j) + A.a i j * (A.dhid i j * A.b i j) * (sg (A.a i j) * (1 - sg (A.a i j))) := by
  unfold da; ring

end Args

/-- Column `j` of part `k` of four. -/
def col (k : Fin 4) (j : Fin 704) : Fin 2816 := ⟨k.val * 704 + j.val, by omega⟩

/-- A sum over all columns, by parts. -/
theorem sum_cols {M : Type} [AddCommMonoid M] (f : Fin 2816 → M) : ∑ j, f j = (∑ j, f (col 0 j)) + (∑ j, f (col 1 j)) + (∑ j, f (col 2 j)) + ∑ j, f (col 3 j) := by
  have e3 := Fin.sum_univ_add (a := 2112) (b := 704) f
  have e2 := Fin.sum_univ_add (a := 1408) (b := 704) fun j => f (Fin.castAdd 704 j)
  have e1 := Fin.sum_univ_add (a := 704) (b := 704) fun j => f (Fin.castAdd 704 (Fin.castAdd 704 j))
  refine e3.trans (congrArg₂ (· + ·) (e2.trans (congrArg₂ (· + ·) (e1.trans (congrArg₂ (· + ·) ?_ ?_)) ?_)) ?_) <;>
    exact Finset.sum_congr rfl fun j _ => congrArg f (Fin.ext (by simp [col, Nat.add_comm]))

/-- The products of the four parts in turn make up the gradient at the normed rows. -/
theorem dh_parts (A : Args) (i : Fin 8192) (d : Fin 1024) :
    (∑ j, A.da i (col 0 j) * A.wg d (col 0 j)) + (∑ j, A.db i (col 0 j) * A.wu d (col 0 j)) + (∑ j, A.da i (col 1 j) * A.wg d (col 1 j)) + (∑ j, A.db i (col 1 j) * A.wu d (col 1 j))
      + (∑ j, A.da i (col 2 j) * A.wg d (col 2 j)) + (∑ j, A.db i (col 2 j) * A.wu d (col 2 j)) + (∑ j, A.da i (col 3 j) * A.wg d (col 3 j)) + (∑ j, A.db i (col 3 j) * A.wu d (col 3 j)) = A.dh i d := by
  unfold Args.dh
  rw [sum_cols, sum_cols fun j => A.da i j * A.wg d j]
  ring

end Cert.FfnMath

end
-- ==== Proof.FfnBody.lean ====
module

public import proofs.«01_k».proof.Proof.Gen.FfnIdeal.Skeleton
public import proofs.«01_k».proof.Proof.FfnMath

@[expose] public section

set_option maxRecDepth 16384

noncomputable section

/-! What the body computes of 256 rows. -/

namespace Cert.FfnIdeal.Layer

open Cert.FfnIdeal Cert.FfnIdeal.Gen Idealize.ShloMosaic Idealize.ShloMosaic.TcCoe
open Cert.AttnMath (coe_sum word_zero word_one)
open Cert.NormMath Cert.FfnMath

/-! ### One part of the hidden layer's columns -/

section Words

variable (y : Vec Ideal S256x1024 .f32) (wd wg wu : Vec Ideal S1x704x1024 .bf16) (a b : Vec Ideal S1x256x704 .f32) (r : Fin 256) (j : Fin 704)

theorem past_words (d : Fin 1024) : k0_pay7 (F := Ideal) y (ix2 r d) = y (ix2 r d) := by
  unfold k0_pay7 k0_pay6
  pointwise

theorem past_same : k0_pay6 (F := Ideal) y = y := by
  funext i
  unfold k0_pay6
  pointwise

theorem dhid_words : k0_pay9 (F := Ideal) y wd (ix2 r j) = ∑ d : Fin 1024, y (ix2 r d) * wd (ix3 0 j d) := by
  unfold k0_pay9 k0_pay7 k0_pay6
  pointwise

theorem gate_words : k0_pay14 (F := Ideal) a (ix2 r j) = a (ix3 0 r j) * Ideal.logistic (a (ix3 0 r j)) := by
  unfold k0_pay14 k0_pay13 k0_pay10
  pointwise

theorem hid_words : k0_pay15 (F := Ideal) a b (ix3 0 r j) = a (ix3 0 r j) * Ideal.logistic (a (ix3 0 r j)) * b (ix3 0 r j) := by
  rw [← gate_words a]
  unfold k0_pay15 k0_pay11
  generalize k0_pay14 (F := Ideal) a = v
  pointwise

theorem db_words : k0_pay16 (F := Ideal) y wd a (ix2 r j) = (∑ d : Fin 1024, y (ix2 r d) * wd (ix3 0 j d)) * (a (ix3 0 r j) * Ideal.logistic (a (ix3 0 r j))) := by
  rw [← dhid_words, ← gate_words a]
  unfold k0_pay16
  generalize k0_pay14 (F := Ideal) a = v
  generalize k0_pay9 (F := Ideal) y wd = u
  pointwise

theorem da_words : k0_pay17 (F := Ideal) y wd a b (ix2 r j) = (∑ d : Fin 1024, y (ix2 r d) * wd (ix3 0 j d)) * b (ix3 0 r j)
    * (Ideal.logistic (a (ix3 0 r j)) * (Ideal.ofBits .f32 0x3F800000#32 + a (ix3 0 r j) * (Ideal.ofBits .f32 0x3F800000#32 - Ideal.logistic (a (ix3 0 r j))))) := by
  rw [← dhid_words]
  unfold k0_pay17 k0_pay13 k0_pay11 k0_pay10
  generalize k0_pay9 (F := Ideal) y wd = u
  pointwise

theorem db_stored (v : FVec Ideal S256x704 .bf16) : k0_pay18 (F := Ideal) v (ix3 0 r j) = v (ix2 r j) := by
  unfold k0_pay18
  pointwise

theorem da_stored (v : FVec Ideal S256x704 .bf16) : k0_pay19 (F := Ideal) v (ix3 0 r j) = v (ix2 r j) := by
  unfold k0_pay19
  pointwise

theorem step_words (s : FVec Ideal S256x1024 .f32) (u v : FVec Ideal S256x704 .bf16) (d : Fin 1024) :
    k0_pay20 (F := Ideal) s u v wg wu (ix2 r d) = s (ix2 r d) + (∑ j : Fin 704, v (ix2 r j) * wg (ix3 0 j d)) + ∑ j : Fin 704, u (ix2 r j) * wu (ix3 0 j d) := by
  unfold k0_pay20
  pointwise

end Words

variable (A : Args) (i : Fin 256 → Fin 8192)

/-- What is loaded for a part of the columns. -/
structure Part (k : Fin 4) (wd wg wu : Vec Ideal S1x704x1024 .bf16) (a b : Vec Ideal S1x256x704 .f32) : Prop where
  wd : ∀ j d, wd (ix3 0 j d) = (A.wd (col k j) d : EReal)
  wg : ∀ j d, wg (ix3 0 j d) = (A.wg d (col k j) : EReal)
  wu : ∀ j d, wu (ix3 0 j d) = (A.wu d (col k j) : EReal)
  a : ∀ r j, a (ix3 0 r j) = (A.a (i r) (col k j) : EReal)
  b : ∀ r j, b (ix3 0 r j) = (A.b (i r) (col k j) : EReal)

namespace Part

variable {A i} {k : Fin 4} {wd wg wu : Vec Ideal S1x704x1024 .bf16} {a b : Vec Ideal S1x256x704 .f32} (h : Part A i k wd wg wu a b)
  {y : Vec Ideal S256x1024 .f32} (hy : ∀ r d, y (ix2 r d) = (A.y (i r) d : EReal))

include h

theorem hid (r : Fin 256) (j : Fin 704) : k0_pay15 (F := Ideal) a b (ix3 0 r j) = (A.hid (i r) (col k j) : EReal) := by
  rw [hid_words, h.a, h.b, Ideal.logistic_coe, ← EReal.coe_mul, ← EReal.coe_mul]
  rfl

include hy

theorem dhid (r : Fin 256) (j : Fin 704) : (∑ d : Fin 1024, y (ix2 r d) * wd (ix3 0 j d) : EReal) = (A.dhid (i r) (col k j) : EReal) := by
  simp only [hy, h.wd, ← EReal.coe_mul, coe_sum]
  rfl

theorem db (r : Fin 256) (j : Fin 704) : k0_pay16 (F := Ideal) y wd a (ix2 r j) = (A.db (i r) (col k j) : EReal) := by
  rw [db_words, h.dhid hy, h.a, Ideal.logistic_coe, ← EReal.coe_mul, ← EReal.coe_mul]
  rfl

theorem da (r : Fin 256) (j : Fin 704) : k0_pay17 (F := Ideal) y wd a b (ix2 r j) = (A.da (i r) (col k j) : EReal) := by
  rw [da_words, h.dhid hy, h.a, h.b, Ideal.logistic_coe, word_one]
  simp only [← EReal.coe_one, ← EReal.coe_mul, ← EReal.coe_sub, ← EReal.coe_add]
  rfl

/-- The part's products on top of what was summed before. -/
theorem step (s : FVec Ideal S256x1024 .f32) (r : Fin 256) (d : Fin 1024) :
    k0_pay20 (F := Ideal) s (k0_pay16 y wd a) (k0_pay17 y wd a b) wg wu (ix2 r d)
      = s (ix2 r d) + ((∑ j, A.da (i r) (col k j) * A.wg d (col k j) : ℝ) : EReal) + ((∑ j, A.db (i r) (col k j) * A.wu d (col k j) : ℝ) : EReal) := by
  rw [step_words]
  simp only [h.da hy, h.db hy, h.wg, h.wu, ← EReal.coe_mul, coe_sum]

end Part

/-- The sum begins at zero. -/
theorem none_yet (r : Fin 256) (d : Fin 1024) : k0_pay8 (F := Ideal) (ix2 r d) = ((0 : ℝ) : EReal) := by
  unfold k0_pay8
  exact word_zero

/-! ### Through the norm -/

section Rows

variable {x dh : FVec Ideal S256x1024 .f32} (hx : ∀ r e, x (ix2 r e) = (A.x (i r) e : EReal)) (hd : ∀ r e, dh (ix2 r e) = (A.dh (i r) e : EReal))

theorem inv_words (x : FVec Ideal S256x1024 .f32) (r : Fin 256) :
    k0_pay1 (F := Ideal) x (ix2 r 0) = Ideal.rsqrt ((∑ e, x (ix2 r e) * x (ix2 r e)) * Ideal.ofBits .f32 0x3A800000#32 + Ideal.ofBits .f32 0x358637BD#32) := by
  unfold k0_pay1
  pointwise

include hx

theorem inv_at (r : Fin 256) : k0_pay1 (F := Ideal) x (ix2 r 0) = (inv (A.x (i r)) : EReal) := by
  rw [inv_words, word_1024th, word_eps]
  simp only [hx, ← EReal.coe_mul, coe_sum, ← EReal.coe_add]
  rw [← rsqrt_square, square, mul_one_div]
  norm_num

theorem quot_at (r : Fin 256) (e : Fin 1024) : k0_pay2 (F := Ideal) x (ix2 r e) = (A.x (i r) e * inv (A.x (i r)) : ℝ) := by
  have h : k0_pay2 (F := Ideal) x (ix2 r e) = x (ix2 r e) * k0_pay1 (F := Ideal) x (ix2 r 0) := by
    unfold k0_pay2
    generalize k0_pay1 (F := Ideal) x = v
    pointwise
  rw [h, hx, inv_at A i hx, ← EReal.coe_mul]

include hd

/-- The gradient at the rows, added to what comes past the layer. -/
theorem dx_at (g : Vec Ideal S1x1024 .f32) (hg : ∀ e, g (ix2 0 e) = (A.g e : EReal)) (y : FVec Ideal S256x1024 .f32) (r : Fin 256) (d : Fin 1024) :
    k0_pay4 (F := Ideal) y dh x g (ix2 r d) = y (ix2 r d) + (A.dx (i r) d : EReal) := by
  have hq := quot_at A i hx
  have hi := inv_at A i hx
  have h : k0_pay4 (F := Ideal) y dh x g (ix2 r d) = y (ix2 r d) + k0_pay1 (F := Ideal) x (ix2 r 0) * (dh (ix2 r d) * g (ix2 0 d)
      - k0_pay2 (F := Ideal) x (ix2 r d) * ((∑ e, dh (ix2 r e) * g (ix2 0 e) * k0_pay2 (F := Ideal) x (ix2 r e)) * Ideal.ofBits .f32 0x3A800000#32)) := by
    unfold k0_pay4
    generalize k0_pay1 (F := Ideal) x = u
    generalize k0_pay2 (F := Ideal) x = v
    pointwise
  rw [h, word_1024th]
  simp only [hq, hi, hd, hg, ← EReal.coe_mul, coe_sum, ← EReal.coe_sub]
  refine congrArg (fun z : ℝ => y (ix2 r d) + (z : EReal)) ?_
  unfold Args.dx grad
  rw [mul_one_div]
  norm_num

/-- What the rows add to the gradient at the factors. -/
theorem dg_at (d : Fin 1024) : k0_pay3 (F := Ideal) dh x (ix2 0 d) = ((∑ r, A.dgRow (i r) d : ℝ) : EReal) := by
  have hq := quot_at A i hx
  have h : k0_pay3 (F := Ideal) dh x (ix2 0 d) = ∑ r, dh (ix2 r d) * k0_pay2 (F := Ideal) x (ix2 r d) := by
    unfold k0_pay3
    generalize k0_pay2 (F := Ideal) x = v
    pointwise
  rw [h]
  simp only [hq, hd, ← EReal.coe_mul, coe_sum]
  rfl

end Rows

/-- A cast to the same shape changes nothing. -/
theorem same (x : Vec Ideal S256x1024 .f32) : k0_pay53 (F := Ideal) x = x := by
  funext j
  unfold k0_pay53
  pointwise

/-- What a later point adds to what it finds. -/
theorem added (dh : FVec Ideal S256x1024 .f32) (x : FVec Ideal S256x1024 .f32) (u : Vec Ideal S1x1024 .f32) (d : Fin 1024) :
    k0_pay5 (F := Ideal) dh x u (ix2 0 d) = u (ix2 0 d) + k0_pay3 dh x (ix2 0 d) := by
  unfold k0_pay5
  generalize k0_pay3 (F := Ideal) dh x = v
  pointwise

end Cert.FfnIdeal.Layer

end
-- ==== Proof.FfnPoint.lean ====
module

public import proofs.«01_k».proof.Proof.FfnBody
public import proofs.«01_k».proof.Proof.Gen.FfnIdeal.Value
public import Idealize.ShloMosaic.Lib.Pipeline.ValueKit

@[expose] public section

set_option maxRecDepth 16384

noncomputable section

/-! What one point of the grid stores in its output blocks. -/

namespace Cert.FfnIdeal.Layer

open Cert.FfnIdeal Cert.FfnIdeal.Gen Idealize.ShloMosaic Idealize.ShloMosaic.TcCoe Idealize.ShloMosaic.Tactic Idealize.SL.Sem
open Cert.NormMath Cert.FfnMath

/-- A load of a buffer that holds `x` reads `x`. -/
theorem loaded {sp : Space} {s : Shape} {e : EltTy} (arg : Memref sig .tc sp s e) (h : arg.IsWhole) (x : Vec Ideal s e) (r : Rect s) :
    View.readAt (Elt Ideal) arg.view r.toLoadRect (h.unread x) = View.ld x r := by
  have e : View.readAt (Elt Ideal) arg.view r.toLoadRect (h.unread x) = View.ld (arg.view.read (Elt Ideal) (h.unread x)) r := rfl
  rw [e, h.read_unread]

/-- A part of four of a block of rows, and of a matrix. -/
def partRect (k : Fin 4) : Rect S4x256x704 := Rect.unit (s := S4x256x704) ![k.val, 0, 0] S1x256x704.size fun q => by
  have := k.isLt
  match q with
  | ⟨0, _⟩ => show k.val + 1 ≤ 4; omega
  | ⟨1, _⟩ => show 0 + 256 ≤ 256; omega
  | ⟨2, _⟩ => show 0 + 704 ≤ 704; omega

def partOf (k : Fin 4) (x : Vec Ideal S4x256x704 .f32) : Vec Ideal S1x256x704 .f32 := View.ld x (partRect k)

def matRect (k : Fin 4) : Rect S4x704x1024 := Rect.unit (s := S4x704x1024) ![k.val, 0, 0] S1x704x1024.size fun q => by
  have := k.isLt
  match q with
  | ⟨0, _⟩ => show k.val + 1 ≤ 4; omega
  | ⟨1, _⟩ => show 0 + 704 ≤ 704; omega
  | ⟨2, _⟩ => show 0 + 1024 ≤ 1024; omega

def matOf (k : Fin 4) (x : Vec Ideal S4x704x1024 .bf16) : Vec Ideal S1x704x1024 .bf16 := View.ld x (matRect k)

def rowRect : Rect S256x1024 := Rect.unit (s := S256x1024) ![0, 0] S256x1024.size inb_S256x1024_S256x1024_0_0

def rows (x : Vec Ideal S256x1024 .f32) : Vec Ideal S256x1024 .f32 := View.ld x rowRect

def oneRect : Rect S1x1024 := Rect.unit (s := S1x1024) ![0, 0] S1x1024.size inb_S1x1024_S1x1024_0_0

def one (x : Vec Ideal S1x1024 .f32) : Vec Ideal S1x1024 .f32 := View.ld x oneRect

section Stores

variable (x0 : Vec Ideal S256x1024 .f32) (x1 : Vec Ideal S256x1024 .f32) (x2 : Vec Ideal S4x256x704 .f32) (x3 : Vec Ideal S4x256x704 .f32) (x4 : Vec Ideal S1x1024 .f32) (x5 : Vec Ideal S4x704x1024 .bf16) (x6 : Vec Ideal S4x704x1024 .bf16) (x7 : Vec Ideal S4x704x1024 .bf16)

/-- What a part stores of the hidden layer, and of the gradients at its two factors. -/
def hidPart (k : Fin 4) : FVec Ideal S1x256x704 .bf16 := k0_pay15 (partOf k x2) (partOf k x3)

def dbPart (k : Fin 4) : FVec Ideal S256x704 .bf16 := k0_pay16 (rows x0) (matOf k x7) (partOf k x2)

def daPart (k : Fin 4) : FVec Ideal S256x704 .bf16 := k0_pay17 (rows x0) (matOf k x7) (partOf k x2) (partOf k x3)

/-- The gradient at the normed rows grows by each part in turn. -/
def grown (k : Fin 4) (s : FVec Ideal S256x1024 .f32) : FVec Ideal S256x1024 .f32 := k0_pay20 s (dbPart x0 x2 x7 k) (daPart x0 x2 x3 x7 k) (matOf k x5) (matOf k x6)

def normGrad : FVec Ideal S256x1024 .f32 :=
  grown x0 x2 x3 x5 x6 x7 3 (grown x0 x2 x3 x5 x6 x7 2 (grown x0 x2 x3 x5 x6 x7 1 (grown x0 x2 x3 x5 x6 x7 0 k0_pay8)))

def rowStore : FVec Ideal S256x1024 .f32 := k0_pay4 (k0_pay6 (rows x0)) (normGrad x0 x2 x3 x5 x6 x7) (k0_pay53 (rows x1)) (one x4)

def hidStores : List (View.Piece (Elt Ideal) S4x256x704 .bf16) := [3, 2, 1, 0].map fun k => ⟨partRect k, hidPart x2 x3 k⟩

def dbStores : List (View.Piece (Elt Ideal) S4x256x704 .bf16) := [3, 2, 1, 0].map fun k => ⟨partRect k, k0_pay18 (dbPart x0 x2 x7 k)⟩

def daStores : List (View.Piece (Elt Ideal) S4x256x704 .bf16) := [3, 2, 1, 0].map fun k => ⟨partRect k, k0_pay19 (daPart x0 x2 x3 x7 k)⟩

end Stores

variable (c : Dev nD) (i : grid0.Coords) (arg1 : Memref sig .tc .vmem S256x1024 .f32) (w1 : arg1.IsWhole) (arg2 : Memref sig .tc .vmem S256x1024 .f32) (w2 : arg2.IsWhole) (arg3 : Memref sig .tc .vmem S4x256x704 .f32) (w3 : arg3.IsWhole) (arg4 : Memref sig .tc .vmem S4x256x704 .f32) (w4 : arg4.IsWhole) (arg5 : Memref sig .tc .vmem S1x1024 .f32) (w5 : arg5.IsWhole) (arg6 : Memref sig .tc .vmem S4x704x1024 .bf16) (w6 : arg6.IsWhole) (arg7 : Memref sig .tc .vmem S4x704x1024 .bf16) (w7 : arg7.IsWhole) (arg8 : Memref sig .tc .vmem S4x704x1024 .bf16) (w8 : arg8.IsWhole) (arg9 : Memref sig .tc .vmem S256x1024 .f32) (w9 : arg9.IsWhole) (arg10 : Memref sig .tc .vmem S4x256x704 .bf16) (w10 : arg10.IsWhole) (arg11 : Memref sig .tc .vmem S4x256x704 .bf16) (w11 : arg11.IsWhole) (arg12 : Memref sig .tc .vmem S4x256x704 .bf16) (w12 : arg12.IsWhole) (arg13 : Memref sig .tc .vmem S256x1024 .bf16) (w13 : arg13.IsWhole) (arg14 : Memref sig .tc .vmem S1x1024 .f32) (w14 : arg14.IsWhole)
  (x0 : Vec Ideal S256x1024 .f32) (x1 : Vec Ideal S256x1024 .f32) (x2 : Vec Ideal S4x256x704 .f32) (x3 : Vec Ideal S4x256x704 .f32) (x4 : Vec Ideal S1x1024 .f32) (x5 : Vec Ideal S4x704x1024 .bf16) (x6 : Vec Ideal S4x704x1024 .bf16) (x7 : Vec Ideal S4x704x1024 .bf16)

section First

variable (hc0 : cond0_0 i) (hc1 : ¬cond0_1 i)

theorem rows_first : (kernelRun0_A (F := Ideal) c i _ w1 _ w2 _ w3 _ w4 _ w5 _ w6 _ w7 _ w8 _ w9 _ w10 _ w11 _ w12 _ w13 _ w14 hc0 hc1 x0 x1 x2 x3 x4 x5 x6 x7).1 = [⟨rowRect, rowStore x0 x1 x2 x3 x4 x5 x6 x7⟩] := by
  unfold kernelRun0_A
  dsimp only
  sl_unfold_words
  simp only [loaded]
  rfl

theorem hid_first : (kernelRun0_A (F := Ideal) c i _ w1 _ w2 _ w3 _ w4 _ w5 _ w6 _ w7 _ w8 _ w9 _ w10 _ w11 _ w12 _ w13 _ w14 hc0 hc1 x0 x1 x2 x3 x4 x5 x6 x7).2.1 = hidStores x2 x3 := by
  unfold kernelRun0_A
  dsimp only
  sl_unfold_words
  simp only [loaded]
  rfl

theorem da_first : (kernelRun0_A (F := Ideal) c i _ w1 _ w2 _ w3 _ w4 _ w5 _ w6 _ w7 _ w8 _ w9 _ w10 _ w11 _ w12 _ w13 _ w14 hc0 hc1 x0 x1 x2 x3 x4 x5 x6 x7).2.2.1 = daStores x0 x2 x3 x7 := by
  unfold kernelRun0_A
  dsimp only
  sl_unfold_words
  simp only [loaded]
  rfl

theorem db_first : (kernelRun0_A (F := Ideal) c i _ w1 _ w2 _ w3 _ w4 _ w5 _ w6 _ w7 _ w8 _ w9 _ w10 _ w11 _ w12 _ w13 _ w14 hc0 hc1 x0 x1 x2 x3 x4 x5 x6 x7).2.2.2.1 = dbStores x0 x2 x7 := by
  unfold kernelRun0_A
  dsimp only
  sl_unfold_words
  simp only [loaded]
  rfl

theorem past_first : (kernelRun0_A (F := Ideal) c i _ w1 _ w2 _ w3 _ w4 _ w5 _ w6 _ w7 _ w8 _ w9 _ w10 _ w11 _ w12 _ w13 _ w14 hc0 hc1 x0 x1 x2 x3 x4 x5 x6 x7).2.2.2.2.1 = [⟨rowRect, k0_pay7 (rows x0)⟩] := by
  unfold kernelRun0_A
  dsimp only
  sl_unfold_words
  simp only [loaded]
  rfl

theorem sum_first : (kernelRun0_A (F := Ideal) c i _ w1 _ w2 _ w3 _ w4 _ w5 _ w6 _ w7 _ w8 _ w9 _ w10 _ w11 _ w12 _ w13 _ w14 hc0 hc1 x0 x1 x2 x3 x4 x5 x6 x7).2.2.2.2.2.1 = [⟨oneRect, k0_pay3 (normGrad x0 x2 x3 x5 x6 x7) (k0_pay53 (rows x1))⟩] := by
  unfold kernelRun0_A
  dsimp only
  sl_unfold_words
  simp only [loaded]
  rfl

end First

section Later

variable (hc0 : ¬cond0_0 i) (hc1 : cond0_1 i) (x13 : Vec Ideal S1x1024 .f32)

theorem rows_later : (kernelRun0_B (F := Ideal) c i _ w1 _ w2 _ w3 _ w4 _ w5 _ w6 _ w7 _ w8 _ w9 _ w10 _ w11 _ w12 _ w13 _ w14 hc0 hc1 x0 x1 x2 x3 x4 x5 x6 x7 x13).1 = [⟨rowRect, rowStore x0 x1 x2 x3 x4 x5 x6 x7⟩] := by
  unfold kernelRun0_B
  dsimp only
  sl_unfold_words
  simp only [loaded]
  rfl

theorem hid_later : (kernelRun0_B (F := Ideal) c i _ w1 _ w2 _ w3 _ w4 _ w5 _ w6 _ w7 _ w8 _ w9 _ w10 _ w11 _ w12 _ w13 _ w14 hc0 hc1 x0 x1 x2 x3 x4 x5 x6 x7 x13).2.1 = hidStores x2 x3 := by
  unfold kernelRun0_B
  dsimp only
  sl_unfold_words
  simp only [loaded]
  rfl

theorem da_later : (kernelRun0_B (F := Ideal) c i _ w1 _ w2 _ w3 _ w4 _ w5 _ w6 _ w7 _ w8 _ w9 _ w10 _ w11 _ w12 _ w13 _ w14 hc0 hc1 x0 x1 x2 x3 x4 x5 x6 x7 x13).2.2.1 = daStores x0 x2 x3 x7 := by
  unfold kernelRun0_B
  dsimp only
  sl_unfold_words
  simp only [loaded]
  rfl

theorem db_later : (kernelRun0_B (F := Ideal) c i _ w1 _ w2 _ w3 _ w4 _ w5 _ w6 _ w7 _ w8 _ w9 _ w10 _ w11 _ w12 _ w13 _ w14 hc0 hc1 x0 x1 x2 x3 x4 x5 x6 x7 x13).2.2.2.1 = dbStores x0 x2 x7 := by
  unfold kernelRun0_B
  dsimp only
  sl_unfold_words
  simp only [loaded]
  rfl

theorem past_later : (kernelRun0_B (F := Ideal) c i _ w1 _ w2 _ w3 _ w4 _ w5 _ w6 _ w7 _ w8 _ w9 _ w10 _ w11 _ w12 _ w13 _ w14 hc0 hc1 x0 x1 x2 x3 x4 x5 x6 x7 x13).2.2.2.2.1 = [⟨rowRect, k0_pay7 (rows x0)⟩] := by
  unfold kernelRun0_B
  dsimp only
  sl_unfold_words
  simp only [loaded]
  rfl

theorem sum_later : (kernelRun0_B (F := Ideal) c i _ w1 _ w2 _ w3 _ w4 _ w5 _ w6 _ w7 _ w8 _ w9 _ w10 _ w11 _ w12 _ w13 _ w14 hc0 hc1 x0 x1 x2 x3 x4 x5 x6 x7 x13).2.2.2.2.2.1 = [⟨oneRect, k0_pay5 (normGrad x0 x2 x3 x5 x6 x7) (k0_pay53 (rows x1)) (one x13)⟩] := by
  unfold kernelRun0_B
  dsimp only
  sl_unfold_words
  simp only [loaded]
  rfl

end Later

end Cert.FfnIdeal.Layer

end
-- ==== Proof.FfnHost.lean ====
module

public import proofs.«01_k».proof.Proof.FfnBody
public import proofs.«01_k».proof.Proof.Gen.FfnIdeal.Value
public import Idealize.ShloMosaic.Lib.StableHlo.ReadAt

@[expose] public section

set_option maxRecDepth 16384

noncomputable section

/-! The arrays the host hands to the kernel, at an index. -/

namespace Cert.FfnIdeal.Layer

open Cert.FfnIdeal Cert.FfnIdeal.Gen Idealize.ShloMosaic Idealize.ShloMosaic.TcCoe Idealize.SL.Sem
open Cert.NormMath Cert.FfnMath
open Cert.AttnMath (coe_sum div_real)

variable (m : (ℓ : Loc nD τ sig) → Buf (Elt Ideal) ℓ) (c : Dev nD)

theorem past_at (i : Fin 8192) (d : Fin 1024) : (V m c main_v31 : Vec Ideal S8192x1024 .f32) (ix2 i d) = m ((c : Thread nD τ).loc main_arg5) (ix3 0 i d) := by
  unfold V; after_reads_at

theorem rows_at (i : Fin 8192) (d : Fin 1024) : (V m c main_v32 : Vec Ideal S8192x1024 .f32) (ix2 i d) = m ((c : Thread nD τ).loc main_arg0) (ix3 0 i d) := by
  unfold V; after_reads_at

theorem factor_at (d : Fin 1024) : (V m c main_v33 : Vec Ideal S1x1024 .f32) (ix2 0 d) = m ((c : Thread nD τ).loc main_arg1) (ix1 d) := by
  unfold V; after_reads_at

theorem wd_at (k : Fin 4) (j : Fin 704) (d : Fin 1024) : (V m c main_v9 : Vec Ideal S4x704x1024 .bf16) (ix3 k j d) = m ((c : Thread nD τ).loc main_arg4) (ix2 (col k j) d) := by
  unfold V; after_reads_at
  rfl

theorem wg_at (k : Fin 4) (j : Fin 704) (d : Fin 1024) : (V m c main_v3 : Vec Ideal S4x704x1024 .bf16) (ix3 k j d) = m ((c : Thread nD τ).loc main_arg2) (ix2 d (col k j)) := by
  unfold V; after_reads_at
  rfl

theorem wu_at (k : Fin 4) (j : Fin 704) (d : Fin 1024) : (V m c main_v7 : Vec Ideal S4x704x1024 .bf16) (ix3 k j d) = m ((c : Thread nD τ).loc main_arg3) (ix2 d (col k j)) := by
  unfold V; after_reads_at
  rfl

/-- A normed row's product with a column, where all are real numbers. -/
theorem normed_product (X G W : Fin 1024 → EReal) (x g w : Fin 1024 → ℝ) (hx : ∀ e, X e = (x e : EReal)) (hg : ∀ e, G e = (g e : EReal)) (hw : ∀ e, W e = (w e : EReal)) :
    (∑ e, X e * Ideal.rsqrt (Ideal.div (∑ e, X e * X e) (Ideal.ofBits .f32 0x44800000#32) + Ideal.ofBits .f32 0x358637BD#32) * G e * W e : EReal)
      = ((∑ e, x e * inv x * g e * w e : ℝ) : EReal) := by
  have e : Ideal.rsqrt (Ideal.div (∑ e, X e * X e) (Ideal.ofBits .f32 0x44800000#32) + Ideal.ofBits .f32 0x358637BD#32) = (inv x : EReal) := by
    simp only [hx, ← EReal.coe_mul, coe_sum]
    rw [word_1024, word_eps, div_real _ _ (by norm_num), ← EReal.coe_add, ← rsqrt_square, square]
    norm_num
  rw [e]
  simp only [hx, hg, hw, ← EReal.coe_mul, coe_sum]

section Forward

variable (A : Args) (hx : ∀ i d, m ((c : Thread nD τ).loc main_arg0) (ix3 0 i d) = (A.x i d : EReal)) (hg : ∀ d, m ((c : Thread nD τ).loc main_arg1) (ix1 d) = (A.g d : EReal))

include hx hg

theorem a_at (hw : ∀ d j, m ((c : Thread nD τ).loc main_arg2) (ix2 d j) = (A.wg d j : EReal)) (k : Fin 4) (i : Fin 8192) (j : Fin 704) :
    (V m c main_v26 : Vec Ideal S4x8192x704 .f32) (ix3 k i j) = (A.a i (col k j) : EReal) := by
  unfold V; after_reads_at
  exact normed_product (fun e => m ((c : Thread nD τ).loc main_arg0) (ix3 0 i e)) (fun e => m ((c : Thread nD τ).loc main_arg1) (ix1 e)) (fun e => m ((c : Thread nD τ).loc main_arg2) (ix2 e (col k j)))
    (A.x i) A.g (fun e => A.wg e (col k j)) (hx i) hg fun e => hw e (col k j)

theorem b_at (hw : ∀ d j, m ((c : Thread nD τ).loc main_arg3) (ix2 d j) = (A.wu d j : EReal)) (k : Fin 4) (i : Fin 8192) (j : Fin 704) :
    (V m c main_v30 : Vec Ideal S4x8192x704 .f32) (ix3 k i j) = (A.b i (col k j) : EReal) := by
  unfold V; after_reads_at
  exact normed_product (fun e => m ((c : Thread nD τ).loc main_arg0) (ix3 0 i e)) (fun e => m ((c : Thread nD τ).loc main_arg1) (ix1 e)) (fun e => m ((c : Thread nD τ).loc main_arg3) (ix2 e (col k j)))
    (A.x i) A.g (fun e => A.wu e (col k j)) (hx i) hg fun e => hw e (col k j)

end Forward

end Cert.FfnIdeal.Layer

end
-- ==== Proof.FfnArray.lean ====
module

public import proofs.«01_k».proof.Proof.FfnPoint
public import proofs.«01_k».proof.Proof.FfnHost

@[expose] public section

set_option maxRecDepth 16384

noncomputable section

/-! The arrays the kernel leaves. -/

namespace Cert.FfnIdeal.Layer

open Cert.FfnIdeal Cert.FfnIdeal.Gen Idealize.ShloMosaic Idealize.ShloMosaic.TcCoe Idealize.SL.Sem
open Cert.NormMath Cert.FfnMath
open Cert.AttnMath (coe_sum)

/-- Where a part lies in its buffer. -/
theorem part_emb (k : Fin 4) (r : Fin 256) (j : Fin 704) : (partRect k).emb (ix3 0 r j) = ix3 k r j := by
  funext q
  apply Fin.ext
  match q with
  | ⟨0, _⟩ => show k.val + 1 * 0 = k.val; omega
  | ⟨1, _⟩ => show 0 + 1 * r.val = r.val; omega
  | ⟨2, _⟩ => show 0 + 1 * j.val = j.val; omega

theorem mat_emb (k : Fin 4) (j : Fin 704) (d : Fin 1024) : (matRect k).emb (ix3 0 j d) = ix3 k j d := by
  funext q
  apply Fin.ext
  match q with
  | ⟨0, _⟩ => show k.val + 1 * 0 = k.val; omega
  | ⟨1, _⟩ => show 0 + 1 * j.val = j.val; omega
  | ⟨2, _⟩ => show 0 + 1 * d.val = d.val; omega

theorem row_emb (y : S256x1024.Idx) : rowRect.emb y = y := by
  funext a
  apply Fin.ext
  match a with
  | ⟨0, _⟩ => show 0 + 1 * (y 0).val = (y 0).val; omega
  | ⟨1, _⟩ => show 0 + 1 * (y 1).val = (y 1).val; omega

theorem one_emb (y : S1x1024.Idx) : oneRect.emb y = y := by
  funext a
  apply Fin.ext
  match a with
  | ⟨0, _⟩ => show 0 + 1 * (y 0).val = (y 0).val; omega
  | ⟨1, _⟩ => show 0 + 1 * (y 1).val = (y 1).val; omega

theorem rows_eq (x : Vec Ideal S256x1024 .f32) : rows x = x := funext fun y => congrArg x (row_emb y)

theorem one_eq (x : Vec Ideal S1x1024 .f32) : one x = x := funext fun y => congrArg x (one_emb y)

variable (A : Args) (i : Fin 256 → Fin 8192)

/-- What the blocks of a point hold. -/
structure Blocks (x0 x1 : Vec Ideal S256x1024 .f32) (x2 x3 : Vec Ideal S4x256x704 .f32) (x4 : Vec Ideal S1x1024 .f32) (x5 x6 x7 : Vec Ideal S4x704x1024 .bf16) : Prop where
  y : ∀ r d, x0 (ix2 r d) = (A.y (i r) d : EReal)
  x : ∀ r d, x1 (ix2 r d) = (A.x (i r) d : EReal)
  a : ∀ k r j, x2 (ix3 k r j) = (A.a (i r) (col k j) : EReal)
  b : ∀ k r j, x3 (ix3 k r j) = (A.b (i r) (col k j) : EReal)
  g : ∀ d, x4 (ix2 0 d) = (A.g d : EReal)
  wg : ∀ k j d, x5 (ix3 k j d) = (A.wg d (col k j) : EReal)
  wu : ∀ k j d, x6 (ix3 k j d) = (A.wu d (col k j) : EReal)
  wd : ∀ k j d, x7 (ix3 k j d) = (A.wd (col k j) d : EReal)

/-- What a point leaves in its blocks of rows. -/
def rowsLeft (x0 : Vec Ideal S256x1024 .f32) : Vec Ideal S256x1024 .f32 := fun j => (x0 j + (A.dx (i (j 0)) (j 1) : EReal) : EReal)

def hidLeft : Vec Ideal S4x256x704 .bf16 := fun j => (A.hid (i (j 1)) (col (j 0) (j 2)) : EReal)

def daLeft : Vec Ideal S4x256x704 .bf16 := fun j => (A.da (i (j 1)) (col (j 0) (j 2)) : EReal)

def dbLeft : Vec Ideal S4x256x704 .bf16 := fun j => (A.db (i (j 1)) (col (j 0) (j 2)) : EReal)

structure Left (x0 : Vec Ideal S256x1024 .f32)
    (o8 : Vec Ideal S256x1024 .f32) (o9 o10 o11 : Vec Ideal S4x256x704 .bf16) (o12 : Vec Ideal S256x1024 .bf16) : Prop where
  rows : ∀ j, o8 j = rowsLeft A i x0 j
  hid : ∀ j, o9 j = hidLeft A i j
  da : ∀ j, o10 j = daLeft A i j
  db : ∀ j, o11 j = dbLeft A i j
  past : ∀ j, o12 j = x0 j

namespace Blocks

variable {A i} {x0 x1 : Vec Ideal S256x1024 .f32} {x2 x3 : Vec Ideal S4x256x704 .f32} {x4 : Vec Ideal S1x1024 .f32} {x5 x6 x7 : Vec Ideal S4x704x1024 .bf16}
  (h : Blocks A i x0 x1 x2 x3 x4 x5 x6 x7)

include h

theorem part (k : Fin 4) : Part A i k (matOf k x7) (matOf k x5) (matOf k x6) (partOf k x2) (partOf k x3) where
  wd j d := (congrArg x7 (mat_emb k j d)).trans (h.wd k j d)
  wg j d := (congrArg x5 (mat_emb k j d)).trans (h.wg k j d)
  wu j d := (congrArg x6 (mat_emb k j d)).trans (h.wu k j d)
  a r j := (congrArg x2 (part_emb k r j)).trans (h.a k r j)
  b r j := (congrArg x3 (part_emb k r j)).trans (h.b k r j)

/-- The four parts in turn make up the gradient at the normed rows. -/
theorem dh (r : Fin 256) (d : Fin 1024) : normGrad x0 x2 x3 x5 x6 x7 (ix2 r d) = (A.dh (i r) d : EReal) := by
  unfold normGrad grown dbPart daPart
  rw [rows_eq, (h.part 3).step h.y, (h.part 2).step h.y, (h.part 1).step h.y, (h.part 0).step h.y, none_yet]
  simp only [← EReal.coe_add]
  rw [zero_add, dh_parts]

theorem rows_pieces (pc : View.Piece (Elt Ideal) S256x1024 .f32) (hpc : pc ∈ [(⟨rowRect, rowStore x0 x1 x2 x3 x4 x5 x6 x7⟩ : View.Piece (Elt Ideal) S256x1024 .f32)]) (y : pc.1.shape.Idx) :
    pc.2 y = rowsLeft A i x0 (pc.1.emb y) := by
  obtain rfl := List.mem_singleton.mp hpc
  change S256x1024.Idx at y
  refine Eq.trans ?_ (congrArg (rowsLeft A i x0) (row_emb y)).symm
  idx_vars y
  show rowStore x0 x1 x2 x3 x4 x5 x6 x7 (ix2 y0 y1) = _
  unfold rowStore
  rw [same, past_same, rows_eq, rows_eq, one_eq, dx_at A i h.x h.dh x4 h.g]
  rfl

theorem hid_pieces (pc : View.Piece (Elt Ideal) S4x256x704 .bf16) (hpc : pc ∈ hidStores x2 x3) (y : pc.1.shape.Idx) : pc.2 y = hidLeft A i (pc.1.emb y) := by
  obtain ⟨k, -, rfl⟩ := List.mem_map.mp hpc
  change S1x256x704.Idx at y
  idx_vars y
  obtain rfl : y0 = 0 := Subsingleton.elim (α := Fin 1) _ _
  exact ((h.part k).hid y1 y2).trans (congrArg (hidLeft A i) (part_emb k y1 y2)).symm

theorem da_pieces (pc : View.Piece (Elt Ideal) S4x256x704 .bf16) (hpc : pc ∈ daStores x0 x2 x3 x7) (y : pc.1.shape.Idx) : pc.2 y = daLeft A i (pc.1.emb y) := by
  obtain ⟨k, -, rfl⟩ := List.mem_map.mp hpc
  change S1x256x704.Idx at y
  idx_vars y
  obtain rfl : y0 = 0 := Subsingleton.elim (α := Fin 1) _ _
  refine Eq.trans ?_ (congrArg (daLeft A i) (part_emb k y1 y2)).symm
  show k0_pay19 (daPart x0 x2 x3 x7 k) (ix3 0 y1 y2) = _
  rw [da_stored]
  unfold daPart
  rw [rows_eq]
  exact (h.part k).da h.y y1 y2

theorem db_pieces (pc : View.Piece (Elt Ideal) S4x256x704 .bf16) (hpc : pc ∈ dbStores x0 x2 x7) (y : pc.1.shape.Idx) : pc.2 y = dbLeft A i (pc.1.emb y) := by
  obtain ⟨k, -, rfl⟩ := List.mem_map.mp hpc
  change S1x256x704.Idx at y
  idx_vars y
  obtain rfl : y0 = 0 := Subsingleton.elim (α := Fin 1) _ _
  refine Eq.trans ?_ (congrArg (dbLeft A i) (part_emb k y1 y2)).symm
  show k0_pay18 (dbPart x0 x2 x7 k) (ix3 0 y1 y2) = _
  rw [db_stored]
  unfold dbPart
  rw [rows_eq]
  exact (h.part k).db h.y y1 y2

theorem past_pieces (pc : View.Piece (Elt Ideal) S256x1024 .bf16) (hpc : pc ∈ [(⟨rowRect, k0_pay7 (rows x0)⟩ : View.Piece (Elt Ideal) S256x1024 .bf16)]) (y : pc.1.shape.Idx) :
    pc.2 y = x0 (pc.1.emb y) := by
  obtain rfl := List.mem_singleton.mp hpc
  change S256x1024.Idx at y
  refine Eq.trans ?_ (congrArg x0 (row_emb y)).symm
  idx_vars y
  show k0_pay7 (rows x0) (ix2 y0 y1) = _
  rw [past_words, rows_eq]

/-- What the point adds to the gradient at the factors. -/
theorem sum (d : Fin 1024) : k0_pay3 (normGrad x0 x2 x3 x5 x6 x7) (k0_pay53 (rows x1)) (ix2 0 d) = ((∑ r, A.dgRow (i r) d : ℝ) : EReal) := by
  rw [same, rows_eq, dg_at A i h.x h.dh]

end Blocks

section Outs

variable (c : Dev nD) (q : grid0.Coords) (arg1 : Memref sig .tc .vmem S256x1024 .f32) (w1 : arg1.IsWhole) (arg2 : Memref sig .tc .vmem S256x1024 .f32) (w2 : arg2.IsWhole) (arg3 : Memref sig .tc .vmem S4x256x704 .f32) (w3 : arg3.IsWhole) (arg4 : Memref sig .tc .vmem S4x256x704 .f32) (w4 : arg4.IsWhole) (arg5 : Memref sig .tc .vmem S1x1024 .f32) (w5 : arg5.IsWhole) (arg6 : Memref sig .tc .vmem S4x704x1024 .bf16) (w6 : arg6.IsWhole) (arg7 : Memref sig .tc .vmem S4x704x1024 .bf16) (w7 : arg7.IsWhole) (arg8 : Memref sig .tc .vmem S4x704x1024 .bf16) (w8 : arg8.IsWhole) (arg9 : Memref sig .tc .vmem S256x1024 .f32) (w9 : arg9.IsWhole) (arg10 : Memref sig .tc .vmem S4x256x704 .bf16) (w10 : arg10.IsWhole) (arg11 : Memref sig .tc .vmem S4x256x704 .bf16) (w11 : arg11.IsWhole) (arg12 : Memref sig .tc .vmem S4x256x704 .bf16) (w12 : arg12.IsWhole) (arg13 : Memref sig .tc .vmem S256x1024 .bf16) (w13 : arg13.IsWhole) (arg14 : Memref sig .tc .vmem S1x1024 .f32) (w14 : arg14.IsWhole)
  (x0 : Vec Ideal S256x1024 .f32) (x1 : Vec Ideal S256x1024 .f32) (x2 : Vec Ideal S4x256x704 .f32) (x3 : Vec Ideal S4x256x704 .f32) (x4 : Vec Ideal S1x1024 .f32) (x5 : Vec Ideal S4x704x1024 .bf16) (x6 : Vec Ideal S4x704x1024 .bf16) (x7 : Vec Ideal S4x704x1024 .bf16)
  (h : Blocks A i x0 x1 x2 x3 x4 x5 x6 x7)

include h

theorem point_A (hc0 : cond0_0 q) (hc1 : ¬cond0_1 q) :
    Left A i x0 (out0_A_8 (F := Ideal) c q _ w1 _ w2 _ w3 _ w4 _ w5 _ w6 _ w7 _ w8 _ w9 _ w10 _ w11 _ w12 _ w13 _ w14 hc0 hc1 x0 x1 x2 x3 x4 x5 x6 x7)
      (out0_A_9 (F := Ideal) c q _ w1 _ w2 _ w3 _ w4 _ w5 _ w6 _ w7 _ w8 _ w9 _ w10 _ w11 _ w12 _ w13 _ w14 hc0 hc1 x0 x1 x2 x3 x4 x5 x6 x7)
      (out0_A_10 (F := Ideal) c q _ w1 _ w2 _ w3 _ w4 _ w5 _ w6 _ w7 _ w8 _ w9 _ w10 _ w11 _ w12 _ w13 _ w14 hc0 hc1 x0 x1 x2 x3 x4 x5 x6 x7)
      (out0_A_11 (F := Ideal) c q _ w1 _ w2 _ w3 _ w4 _ w5 _ w6 _ w7 _ w8 _ w9 _ w10 _ w11 _ w12 _ w13 _ w14 hc0 hc1 x0 x1 x2 x3 x4 x5 x6 x7)
      (out0_A_12 (F := Ideal) c q _ w1 _ w2 _ w3 _ w4 _ w5 _ w6 _ w7 _ w8 _ w9 _ w10 _ w11 _ w12 _ w13 _ w14 hc0 hc1 x0 x1 x2 x3 x4 x5 x6 x7)
      ∧ ∀ d, (out0_A_13 (F := Ideal) c q _ w1 _ w2 _ w3 _ w4 _ w5 _ w6 _ w7 _ w8 _ w9 _ w10 _ w11 _ w12 _ w13 _ w14 hc0 hc1 x0 x1 x2 x3 x4 x5 x6 x7) (ix2 0 d) = ((∑ r, A.dgRow (i r) d : ℝ) : EReal) := by
  refine ⟨⟨fun j => ?_, fun j => ?_, fun j => ?_, fun j => ?_, fun j => ?_⟩, fun d => ?_⟩
  · unfold out0_A_8
    refine View.read_writes_apply_of_pieces VO0_8 _ (rowsLeft A i x0) _ ?_ j (cover0_A_8 ..)
    rw [rows_first]
    exact h.rows_pieces
  · unfold out0_A_9
    refine View.read_writes_apply_of_pieces VO0_9 _ (hidLeft A i) _ ?_ j (cover0_A_9 ..)
    rw [hid_first]
    exact h.hid_pieces
  · unfold out0_A_10
    refine View.read_writes_apply_of_pieces VO0_10 _ (daLeft A i) _ ?_ j (cover0_A_10 ..)
    rw [da_first]
    exact h.da_pieces
  · unfold out0_A_11
    refine View.read_writes_apply_of_pieces VO0_11 _ (dbLeft A i) _ ?_ j (cover0_A_11 ..)
    rw [db_first]
    exact h.db_pieces
  · unfold out0_A_12
    refine View.read_writes_apply_of_pieces (Val := Elt Ideal) VO0_12 _ x0 _ ?_ j (cover0_A_12 ..)
    rw [past_first]
    exact h.past_pieces
  · unfold out0_A_13
    refine (View.read_writes_apply_of_pieces VO0_13 _ (k0_pay3 (normGrad x0 x2 x3 x5 x6 x7) (k0_pay53 (rows x1))) _ ?_ (ix2 0 d) (cover0_A_13 ..)).trans ?_
    · rw [sum_first]
      intro pc hpc y
      obtain rfl := List.mem_singleton.mp hpc
      exact (congrArg (k0_pay3 (normGrad x0 x2 x3 x5 x6 x7) (k0_pay53 (rows x1))) (one_emb y)).symm
    · exact h.sum d

theorem point_B (hc0 : ¬cond0_0 q) (hc1 : cond0_1 q) (x13 : Vec Ideal S1x1024 .f32) :
    Left A i x0 (out0_B_8 (F := Ideal) c q _ w1 _ w2 _ w3 _ w4 _ w5 _ w6 _ w7 _ w8 _ w9 _ w10 _ w11 _ w12 _ w13 _ w14 hc0 hc1 x0 x1 x2 x3 x4 x5 x6 x7 x13)
      (out0_B_9 (F := Ideal) c q _ w1 _ w2 _ w3 _ w4 _ w5 _ w6 _ w7 _ w8 _ w9 _ w10 _ w11 _ w12 _ w13 _ w14 hc0 hc1 x0 x1 x2 x3 x4 x5 x6 x7 x13)
      (out0_B_10 (F := Ideal) c q _ w1 _ w2 _ w3 _ w4 _ w5 _ w6 _ w7 _ w8 _ w9 _ w10 _ w11 _ w12 _ w13 _ w14 hc0 hc1 x0 x1 x2 x3 x4 x5 x6 x7 x13)
      (out0_B_11 (F := Ideal) c q _ w1 _ w2 _ w3 _ w4 _ w5 _ w6 _ w7 _ w8 _ w9 _ w10 _ w11 _ w12 _ w13 _ w14 hc0 hc1 x0 x1 x2 x3 x4 x5 x6 x7 x13)
      (out0_B_12 (F := Ideal) c q _ w1 _ w2 _ w3 _ w4 _ w5 _ w6 _ w7 _ w8 _ w9 _ w10 _ w11 _ w12 _ w13 _ w14 hc0 hc1 x0 x1 x2 x3 x4 x5 x6 x7 x13)
      ∧ ∀ d, (out0_B_13 (F := Ideal) c q _ w1 _ w2 _ w3 _ w4 _ w5 _ w6 _ w7 _ w8 _ w9 _ w10 _ w11 _ w12 _ w13 _ w14 hc0 hc1 x0 x1 x2 x3 x4 x5 x6 x7 x13) (ix2 0 d) = (x13 (ix2 0 d) + ((∑ r, A.dgRow (i r) d : ℝ) : EReal) : EReal) := by
  refine ⟨⟨fun j => ?_, fun j => ?_, fun j => ?_, fun j => ?_, fun j => ?_⟩, fun d => ?_⟩
  · unfold out0_B_8
    refine View.read_writes_apply_of_pieces VO0_8 _ (rowsLeft A i x0) _ ?_ j (cover0_B_8 ..)
    rw [rows_later]
    exact h.rows_pieces
  · unfold out0_B_9
    refine View.read_writes_apply_of_pieces VO0_9 _ (hidLeft A i) _ ?_ j (cover0_B_9 ..)
    rw [hid_later]
    exact h.hid_pieces
  · unfold out0_B_10
    refine View.read_writes_apply_of_pieces VO0_10 _ (daLeft A i) _ ?_ j (cover0_B_10 ..)
    rw [da_later]
    exact h.da_pieces
  · unfold out0_B_11
    refine View.read_writes_apply_of_pieces VO0_11 _ (dbLeft A i) _ ?_ j (cover0_B_11 ..)
    rw [db_later]
    exact h.db_pieces
  · unfold out0_B_12
    refine View.read_writes_apply_of_pieces (Val := Elt Ideal) VO0_12 _ x0 _ ?_ j (cover0_B_12 ..)
    rw [past_later]
    exact h.past_pieces
  · unfold out0_B_13
    refine (View.read_writes_apply_of_pieces VO0_13 _ (k0_pay5 (normGrad x0 x2 x3 x5 x6 x7) (k0_pay53 (rows x1)) (one x13)) _ ?_ (ix2 0 d) (cover0_B_13 ..)).trans ?_
    · rw [sum_later]
      intro pc hpc y
      obtain rfl := List.mem_singleton.mp hpc
      exact (congrArg (k0_pay5 (normGrad x0 x2 x3 x5 x6 x7) (k0_pay53 (rows x1)) (one x13)) (one_emb y)).symm
    · rw [added, one_eq]
      exact congrArg (fun z : EReal => (x13 (ix2 0 d) : EReal) + z) (h.sum d)

end Outs

section Arrays

variable (m : (ℓ : Loc nD τ sig) → Buf (Elt Ideal) ℓ) (c : Dev nD)

/-- The arguments are these numbers. -/
structure Given : Prop where
  x : ∀ i d, m ((c : Thread nD τ).loc main_arg0) (ix3 0 i d) = (A.x i d : EReal)
  g : ∀ d, m ((c : Thread nD τ).loc main_arg1) (ix1 d) = (A.g d : EReal)
  wg : ∀ d j, m ((c : Thread nD τ).loc main_arg2) (ix2 d j) = (A.wg d j : EReal)
  wu : ∀ d j, m ((c : Thread nD τ).loc main_arg3) (ix2 d j) = (A.wu d j : EReal)
  wd : ∀ j d, m ((c : Thread nD τ).loc main_arg4) (ix2 j d) = (A.wd j d : EReal)
  y : ∀ i d, m ((c : Thread nD τ).loc main_arg5) (ix3 0 i d) = (A.y i d : EReal)

/-- The rows of a point. -/
def row (t : Fin cfg0.N) (r : Fin 256) : Fin 8192 := ⟨256 * t.val + r.val, by have : t.val < 32 := t.isLt; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![0, 0] := by decide +kernel
theorem index5 : ∀ t : Fin grid0.N, win0_5.index t = ![0, 0, 0] := by decide +kernel
theorem index6 : ∀ t : Fin grid0.N, win0_6.index t = ![0, 0, 0] := by decide +kernel
theorem index7 : ∀ t : Fin grid0.N, win0_7.index t = ![0, 0, 0] := by decide +kernel
theorem index8 : ∀ t : Fin grid0.N, win0_8.index t = ![t.val, 0] := by decide +kernel
theorem index9 : ∀ t : Fin grid0.N, win0_9.index t = ![0, t.val, 0] := by decide +kernel
theorem index10 : ∀ t : Fin grid0.N, win0_10.index t = ![0, t.val, 0] := by decide +kernel
theorem index11 : ∀ t : Fin grid0.N, win0_11.index t = ![0, t.val, 0] := by decide +kernel
theorem index12 : ∀ t : Fin grid0.N, win0_12.index t = ![t.val, 0] := by decide +kernel
theorem index13 : ∀ t : Fin grid0.N, win0_13.index t = ![0, 0] := by decide +kernel

set_option maxHeartbeats 1000000 in
/-- What a point reads. -/
theorem blocks (h : Given A m c) (t : Fin cfg0.N) :
    Blocks A (row t) (iblk m c 0 t) (iblk m c 1 t) (iblk m c 2 t) (iblk m c 3 t) (iblk m c 4 t) (iblk m c 5 t) (iblk m c 6 t) (iblk m c 7 t) where
  y r d := by
    rw [← h.y, ← past_at m c]
    have e := index0 t
    blk_simp [iblk]
    congr 1
    blk_ext [e, row]
  x r d := by
    rw [← h.x, ← rows_at m c]
    have e := index1 t
    blk_simp [iblk]
    congr 1
    blk_ext [e, row]
  a k r j := by
    rw [← a_at m c A h.x h.g h.wg k (row t r) j]
    have e := index2 t
    blk_simp [iblk]
    congr 1
    blk_ext [e, row]
  b k r j := by
    rw [← b_at m c A h.x h.g h.wu k (row t r) j]
    have e := index3 t
    blk_simp [iblk]
    congr 1
    blk_ext [e, row]
  g d := by
    rw [← h.g, ← factor_at m c]
    have e := index4 t
    blk_simp [iblk]
    congr 1
    blk_ext [e, row]
  wg k j d := by
    rw [← h.wg, ← wg_at m c]
    have e := index5 t
    blk_simp [iblk]
    congr 1
    blk_ext [e, row]
  wu k j d := by
    rw [← h.wu, ← wu_at m c]
    have e := index6 t
    blk_simp [iblk]
    congr 1
    blk_ext [e, row]
  wd k j d := by
    rw [← h.wd, ← wd_at m c]
    have e := index7 t
    blk_simp [iblk]
    congr 1
    blk_ext [e, row]

/-- A sum of two extended reals. -/
abbrev plus (a b : EReal) : EReal := a + b

theorem first_point (h : Given A m c) (t : Fin cfg0.N) (h0 : t.val = 0) :
    Left A (row t) (iblk m c 0 t) (outsAt0 m c t.val t.isLt).1 (outsAt0 m c t.val t.isLt).2.1 (outsAt0 m c t.val t.isLt).2.2.1 (outsAt0 m c t.val t.isLt).2.2.2.1 (outsAt0 m c t.val t.isLt).2.2.2.2.1 ∧ ∀ d, (outsAt0 m c t.val t.isLt).2.2.2.2.2 (ix2 0 d) = ((∑ r, A.dgRow (row t r) d : ℝ) : EReal) := by
  have k := point_A A (row t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (blocks A m c h t) ((hcond0_0 t).mpr (by omega)) (fun e => absurd ((hcond0_1 t).mp e) (by omega))
  rw [outsAt0_A m c t (by omega) (by omega)]
  dsimp only
  exact k

theorem later_point (h : Given A m c) (t : Fin cfg0.N) (h0 : 1 ≤ t.val) :
    Left A (row t) (iblk m c 0 t) (outsAt0 m c t.val t.isLt).1 (outsAt0 m c t.val t.isLt).2.1 (outsAt0 m c t.val t.isLt).2.2.1 (outsAt0 m c t.val t.isLt).2.2.2.1 (outsAt0 m c t.val t.isLt).2.2.2.2.1
      ∧ ∀ d, (outsAt0 m c t.val t.isLt).2.2.2.2.2 (ix2 0 d) = plus ((outsAt0 m c (t.val - 1) (by have := t.isLt; omega)).2.2.2.2.2 (ix2 0 d)) ((∑ r, A.dgRow (row t r) d : ℝ) : EReal) := by
  have ht : t.val < 32 := t.isLt
  have k := point_B A (row t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (blocks A m c h t) (fun e => absurd ((hcond0_0 t).mp e) (by omega)) ((hcond0_1 t).mpr (by omega)) (outsAt0 m c (t.val - 1) (by have := t.isLt; omega)).2.2.2.2.2
  rw [outsAt0_B m c t (by omega) h0]
  dsimp only
  exact k

theorem any_point (h : Given A m c) (t : Fin cfg0.N) : Left A (row t) (iblk m c 0 t) (outsAt0 m c t.val t.isLt).1 (outsAt0 m c t.val t.isLt).2.1 (outsAt0 m c t.val t.isLt).2.2.1 (outsAt0 m c t.val t.isLt).2.2.2.1 (outsAt0 m c t.val t.isLt).2.2.2.2.1 := by
  by_cases h0 : t.val = 0
  · exact (first_point A m c h t h0).1
  · exact (later_point A m c h t (by omega)).1

theorem past_block (t : Fin cfg0.N) (y : S256x1024.Idx) : iblk m c 0 t y = m ((c : Thread nD τ).loc main_arg5) (ix3 0 (row t (y 0)) (y 1)) := by
  have e0 := index0 t
  refine Eq.trans ?_ (past_at m c (row t (y 0)) (y 1))
  idx_vars y
  blk_simp [iblk]
  congr 1
  blk_ext [e0, row]

/-- The six outputs: the gradient at the rows added to what comes past the layer, -/
def dxArr (A : Args) (m : (ℓ : Loc nD τ sig) → Buf (Elt Ideal) ℓ) (c : Dev nD) : Vec Ideal S8192x1024 .f32 :=
  fun j => plus (m ((c : Thread nD τ).loc main_arg5) (ix3 0 (j 0) (j 1))) (A.dx (j 0) (j 1) : EReal)

/-- the hidden layer, the gradients at its two factors, -/
def hidArr (A : Args) : Vec Ideal S4x8192x704 .bf16 := fun j => (A.hid (j 1) (col (j 0) (j 2)) : EReal)

def daArr (A : Args) : Vec Ideal S4x8192x704 .bf16 := fun j => (A.da (j 1) (col (j 0) (j 2)) : EReal)

def dbArr (A : Args) : Vec Ideal S4x8192x704 .bf16 := fun j => (A.db (j 1) (col (j 0) (j 2)) : EReal)

/-- what comes past the layer, -/
def pastArr (m : (ℓ : Loc nD τ sig) → Buf (Elt Ideal) ℓ) (c : Dev nD) : Vec Ideal S8192x1024 .bf16 := fun j => m ((c : Thread nD τ).loc main_arg5) (ix3 0 (j 0) (j 1))

/-- and the gradient at the factors. -/
def dgArr (A : Args) : Vec Ideal S1x1024 .f32 := fun j => (A.dg (j 1) : EReal)

theorem final_rows (h : Given A m c) : (dats m 0 c).arrAt 8 cfg0.N = dxArr A m c := by
  refine (dats m 0 c).arrAt_eq_of_covers 8 _ (by decide +kernel) fun t hf y => ?_
  have e8 := index8 t
  have e : (win0_8.blk t).view.emb y = ix2 (row t (y 0)) (y 1) := by
    idx_vars y
    blk_ext [e8, row]
  blk_simp
  rw [after0_8, e]
  exact ((any_point A m c h t).rows y).trans (congrArg (fun z : EReal => plus z (A.dx (row t (y 0)) (y 1) : EReal)) (past_block m c t y))

theorem final_past (h : Given A m c) : (dats m 0 c).arrAt 12 cfg0.N = pastArr m c := by
  refine (dats m 0 c).arrAt_eq_of_covers 12 _ (by decide +kernel) fun t hf y => ?_
  have e12 := index12 t
  have e : (win0_12.blk t).view.emb y = ix2 (row t (y 0)) (y 1) := by
    idx_vars y
    blk_ext [e12, row]
  blk_simp
  rw [after0_12, e]
  exact ((any_point A m c h t).past y).trans (past_block m c t y)

theorem final_hid (h : Given A m c) : (dats m 0 c).arrAt 9 cfg0.N = hidArr A := by
  refine (dats m 0 c).arrAt_eq_of_covers 9 _ (by decide +kernel) fun t hf y => ?_
  have ew := index9 t
  have e : (win0_9.blk t).view.emb y = ix3 (y 0) (row t (y 1)) (y 2) := by
    idx_vars y
    blk_ext [ew, row]
  blk_simp
  rw [after0_9, e]
  exact (any_point A m c h t).hid y

theorem final_da (h : Given A m c) : (dats m 0 c).arrAt 10 cfg0.N = daArr A := by
  refine (dats m 0 c).arrAt_eq_of_covers 10 _ (by decide +kernel) fun t hf y => ?_
  have ew := index10 t
  have e : (win0_10.blk t).view.emb y = ix3 (y 0) (row t (y 1)) (y 2) := by
    idx_vars y
    blk_ext [ew, row]
  blk_simp
  rw [after0_10, e]
  exact (any_point A m c h t).da y

theorem final_db (h : Given A m c) : (dats m 0 c).arrAt 11 cfg0.N = dbArr A := by
  refine (dats m 0 c).arrAt_eq_of_covers 11 _ (by decide +kernel) fun t hf y => ?_
  have ew := index11 t
  have e : (win0_11.blk t).view.emb y = ix3 (y 0) (row t (y 1)) (y 2) := by
    idx_vars y
    blk_ext [ew, row]
  blk_simp
  rw [after0_11, e]
  exact (any_point A m c h t).db y

/-- The terms of the last output, numbered by the rows. -/
def term (d : Fin 1024) (n : ℕ) : ℝ := if h : n < 8192 then A.dgRow ⟨n, h⟩ d else 0

theorem term_at (d : Fin 1024) (r : Fin 8192) : term A d r.val = A.dgRow r d := dif_pos r.isLt

theorem all_terms (d : Fin 1024) : (∑ k ∈ Finset.range (256 * 31 + 256), term A d k) = A.dg d := by
  have e : 256 * 31 + 256 = 8192 := by norm_num
  rw [e, Finset.sum_range]
  exact Finset.sum_congr rfl fun r _ => term_at A d r

theorem point_sum (t : Fin cfg0.N) (d : Fin 1024) : (∑ r, A.dgRow (row t r) d) = ∑ r ∈ Finset.range 256, term A d (256 * t.val + r) := by
  have ht : t.val < 32 := t.isLt
  rw [Finset.sum_range]
  exact Finset.sum_congr rfl fun r _ => (term_at A d (row t r)).symm

theorem sum_after (h : Given A m c) (d : Fin 1024) : ∀ (n : ℕ) (hn : n < cfg0.N), (outsAt0 m c n hn).2.2.2.2.2 (ix2 0 d) = ((∑ k ∈ Finset.range (256 * n + 256), term A d k : ℝ) : EReal)
  | 0, hn => by
    refine ((first_point A m c h ⟨0, hn⟩ rfl).2 d).trans ?_
    rw [point_sum]
    simp only [Nat.mul_zero, Nat.zero_add]
  | n + 1, hn => by
    refine ((later_point A m c h ⟨n + 1, hn⟩ (Nat.le_add_left _ _)).2 d).trans ?_
    rw [point_sum]
    refine (congrArg (fun z : EReal => plus z _) (sum_after h d n (Nat.lt_of_succ_lt hn))).trans ?_
    refine (EReal.coe_add _ _).symm.trans (congrArg _ ?_)
    exact (Finset.sum_range_add (fun k => term A d k) (256 * n + 256) 256).symm

theorem last13 : ∀ t : Fin cfg0.N, (cfg0.win 13).flush t = true → t.val = 31 := by decide +kernel

theorem final_sum (h : Given A m c) : (dats m 0 c).arrAt 13 cfg0.N = dgArr A := by
  refine (dats m 0 c).arrAt_eq_of_covers 13 _ (by decide +kernel) fun t hf y => ?_
  have e13 := index13 t
  have e : (win0_13.blk t).view.emb y = y := by
    idx_vars y
    blk_ext [e13]
  have ey : y = ix2 0 (y 1) := by
    funext a
    match a with
    | ⟨0, _⟩ => exact Subsingleton.elim (α := Fin 1) _ _
    | ⟨1, _⟩ => rfl
  blk_simp
  rw [after0_13, e]
  have h31 : t.val = 31 := last13 t hf
  have k := sum_after A m c h (y 1) t.val t.isLt
  refine ((congrArg (outsAt0 m c t.val t.isLt).2.2.2.2.2 ey).trans k).trans ?_
  rw [h31]
  exact congrArg (fun r : ℝ => (r : EReal)) (all_terms A (y 1))

end Arrays

end Cert.FfnIdeal.Layer

end
-- ==== Proof.FfnRef.lean ====
module

public import proofs.«01_k».proof.Proof.Gen.FfnReferenceIdeal.Read
public import proofs.«01_k».proof.Proof.FfnMath
public import proofs.«01_k».proof.Proof.InRef

@[expose] public section

set_option maxRecDepth 16384

noncomputable section

/-! What the derivative of the plain feed-forward layer leaves, where its arguments are real numbers. -/

namespace Cert.FfnReferenceIdeal.Layer

open Idealize.ShloMosaic Cert.FfnReferenceIdeal Cert.FfnReferenceIdeal.Gen Cert.FfnReferenceIdeal.Read
open Cert.NormMath Cert.FfnMath
open Cert.AttnMath (coe_sum word_zero word_one div_real)

/-- A sum over two axes of length one. -/
theorem sum_units_row (S : Vec Ideal S1x1x1024 .f32) (d : Fin 1024) :
    Ideal.hostReduceAdd reducesTo_S1x1x1024_S1024_d0_1 S 0 (ix1 d) = S (ix3 (0 : Fin 1) (0 : Fin 1) d) :=
  Cert.InProjReferenceIdeal.Norm.sum_units_row S d

theorem sum_units_col (S : Vec Ideal S1x8192x1 .f32) (i : Fin 8192) :
    Ideal.hostReduceAdd reducesTo_S1x8192x1_S8192_d0_2 S 0 (ix1 i) = S (ix3 (0 : Fin 1) i (0 : Fin 1)) :=
  Cert.InProjReferenceIdeal.Norm.sum_units_col S i

variable (A : Args) (x0 : Vec Ideal S1x8192x1024 .f32) (x1 : Vec Ideal S1024 .f32) (x2 x3 : Vec Ideal S1024x2816 .f32) (x4 : Vec Ideal S2816x1024 .f32) (x5 : Vec Ideal S1x8192x1024 .f32)
  (h0 : ∀ i, x0 i = (A.x (i 1) (i 2) : EReal)) (h1 : ∀ i, x1 i = (A.g (i 0) : EReal)) (h2 : ∀ i, x2 i = (A.wg (i 0) (i 1) : EReal)) (h3 : ∀ i, x3 i = (A.wu (i 0) (i 1) : EReal))
  (h4 : ∀ i, x4 i = (A.wd (i 0) (i 1) : EReal)) (h5 : ∀ i, x5 i = (A.y (i 1) (i 2) : EReal))

section

include h0

theorem square_at (i : S1x8192x1.Idx) : val_main_v7 (F := Ideal) x0 i = (square (A.x (i 1)) : EReal) := by
  rw [val_main_v7_apply, val_main_v5_apply, val_main_v3_apply, val_main_v2_apply, val_main_v4_apply, val_main_v6_apply]
  have e : ∀ k : Fin 1024, val_main_v1 (F := Ideal) x0 (idx_main_v2 (idx_main_v3 i) k) = ((A.x (i 1) k * A.x (i 1) k : ℝ) : EReal) := fun k => by
    rw [val_main_v1_apply, h0]
    exact (EReal.coe_mul _ _).symm
  have e' : (val_main_cst_0 (F := Ideal) (Shape.Idx.first h_S_) + ∑ k : Fin 1024, val_main_v1 (F := Ideal) x0 (idx_main_v2 (idx_main_v3 i) k) : EReal) = ((∑ k, A.x (i 1) k * A.x (i 1) k : ℝ) : EReal) := by
    rw [Finset.sum_congr rfl fun k _ => e k, coe_sum]
    refine (congrArg (fun z : EReal => z + _) word_zero).trans (zero_add _)
  refine (congrArg (fun z : EReal => Ideal.div z (Ideal.ofBits .f32 0x44800000#32) + Ideal.ofBits .f32 0x358637BD#32) e').trans ?_
  rw [word_1024, word_eps, div_real _ _ (by norm_num), ← EReal.coe_add]
  unfold square
  norm_num

theorem inv_at (i : S1x8192x1.Idx) : val_main_v8 (F := Ideal) x0 i = (inv (A.x (i 1)) : EReal) := by
  rw [val_main_v8_apply, square_at A x0 h0]
  exact rsqrt_square _

theorem slope_part (i : S1x8192x1.Idx) : val_main_v11 (F := Ideal) x0 i = ((-(1 / 2) * (inv (A.x (i 1)) / square (A.x (i 1))) : ℝ) : EReal) := by
  rw [val_main_v11_apply, val_main_v10_apply, val_main_v9_apply, inv_at A x0 h0, square_at A x0 h0]
  refine (congrArg (fun z : EReal => Ideal.ofBits .f32 0xBF000000#32 * z) (div_real _ _ (square_pos _).ne')).trans ?_
  rw [word_neg_half]
  exact (EReal.coe_mul _ _).symm

theorem unit_at (i : S1x8192x1024.Idx) : val_main_v13 (F := Ideal) x0 i = ((A.x (i 1) (i 2) * inv (A.x (i 1)) : ℝ) : EReal) := by
  rw [val_main_v13_apply, val_main_v12_apply, inv_at A x0 h0, h0]
  exact (EReal.coe_mul _ _).symm

end

/-! ### The hidden layer -/

theorem zero_at (i : S1x8192x2816.Idx) : val_main_v0 (F := Ideal) i = ((0 : ℝ) : EReal) := by
  rw [val_main_v0_apply]
  exact word_zero

section

include h0 h1

theorem h_at (i : S1x8192x1024.Idx) : val_main_v16 (F := Ideal) x0 x1 i = (A.h (i 1) (i 2) : EReal) := by
  rw [val_main_v16_apply, unit_at A x0 h0, val_main_v15_apply, val_main_v14_apply, h1]
  exact (EReal.coe_mul _ _).symm

include h2 in
theorem a_at (i : S1x8192x2816.Idx) : val_main_v18 (F := Ideal) x0 x1 x2 i = (A.a (i 1) (i 2) : EReal) := by
  rw [val_main_v18_apply, zero_at, val_main_v17_apply]
  have e : ∀ k : Fin 1024, val_main_v16 (F := Ideal) x0 x1 (lidx_main_v17 i k) * x2 (ridx_main_v17 i k) = ((A.h (i 1) k * A.wg k (i 2) : ℝ) : EReal) := fun k => by
    rw [h_at A x0 x1 h0 h1, h2]
    exact (EReal.coe_mul _ _).symm
  rw [Finset.sum_congr rfl fun k _ => e k, coe_sum]
  exact (EReal.coe_add _ _).symm.trans (congrArg (fun r : ℝ => (r : EReal)) (add_zero _))

include h3 in
theorem b_at (i : S1x8192x2816.Idx) : val_main_v21 (F := Ideal) x0 x1 x3 i = (A.b (i 1) (i 2) : EReal) := by
  rw [val_main_v21_apply, zero_at, val_main_v20_apply]
  have e : ∀ k : Fin 1024, val_main_v16 (F := Ideal) x0 x1 (lidx_main_v20 i k) * x3 (ridx_main_v20 i k) = ((A.h (i 1) k * A.wu k (i 2) : ℝ) : EReal) := fun k => by
    rw [h_at A x0 x1 h0 h1, h3]
    exact (EReal.coe_mul _ _).symm
  rw [Finset.sum_congr rfl fun k _ => e k, coe_sum]
  exact (EReal.coe_add _ _).symm.trans (congrArg (fun r : ℝ => (r : EReal)) (add_zero _))

include h2

theorem sg_at (i : S1x8192x2816.Idx) : val_main_v19_2 (F := Ideal) x0 x1 x2 i = (sg (A.a (i 1) (i 2)) : EReal) := by
  rw [val_main_v19_2_apply, val_main_call0_v4_apply, val_main_call0_v3_apply, val_main_call0_v2_apply, val_main_call0_v1_apply, val_main_call0_v0_apply, a_at A x0 x1 x2 h0 h1 h2]
  show Ideal.div (Ideal.ofBits .f32 0x3F800000#32) (Ideal.ofBits .f32 0x3F800000#32 + Ideal.exp (-(A.a (i 1) (i 2) : EReal))) = _
  rw [word_one]
  exact Ideal.logistic_coe (A.a (i 1) (i 2))

theorem turn_at (i : S1x8192x2816.Idx) : val_main_v19_1 (F := Ideal) x0 x1 x2 i = ((sg (A.a (i 1) (i 2)) * (1 - sg (A.a (i 1) (i 2))) : ℝ) : EReal) := by
  rw [val_main_v19_1_apply, val_main_call0_v7_apply, val_main_call0_v6_apply, sg_at A x0 x1 x2 h0 h1 h2]
  refine (congrArg (fun z : EReal => (sg (A.a (i 1) (i 2)) : EReal) * (z - (sg (A.a (i 1) (i 2)) : EReal))) word_one).trans ?_
  rw [EReal.coe_mul, EReal.coe_sub, EReal.coe_one]

theorem gate_at (i : S1x8192x2816.Idx) : val_main_v19_0 (F := Ideal) x0 x1 x2 i = ((A.a (i 1) (i 2) * sg (A.a (i 1) (i 2)) : ℝ) : EReal) := by
  rw [val_main_v19_0_apply, sg_at A x0 x1 x2 h0 h1 h2, a_at A x0 x1 x2 h0 h1 h2]
  exact (EReal.coe_mul _ _).symm

include h3 in
theorem hid_at (i : S1x8192x2816.Idx) : val_main_v22 (F := Ideal) x0 x1 x2 x3 i = (A.hid (i 1) (i 2) : EReal) := by
  rw [val_main_v22_apply, gate_at A x0 x1 x2 h0 h1 h2, b_at A x0 x1 x3 h0 h1 h3]
  exact (EReal.coe_mul _ _).symm

end

include h4 h5 in
theorem dhid_at (i : S1x8192x2816.Idx) : val_main_v26 (F := Ideal) x4 x5 i = (A.dhid (i 1) (i 2) : EReal) := by
  rw [val_main_v26_apply]
  unfold Args.dhid
  rw [← coe_sum]
  refine Finset.sum_congr rfl fun k _ => ?_
  rw [val_main_v25_apply, h5, h4]
  have e : idx_main_v25 (lidx_main_v26 i k) = ix3 (0 : Fin 1) (i 1) k := by
    have l1 : (i 1).val < 8192 := (i 1).isLt
    have l0 : (i 0).val < 1 := (i 0).isLt
    have lk := k.isLt
    funext a
    match a with
    | ⟨0, _⟩ => rfl
    | ⟨1, _⟩ => apply Fin.ext; show (((i 0).val * 8192 + (i 1).val) * 1024 + k.val) / 1024 % 8192 = (i 1).val; omega
    | ⟨2, _⟩ => apply Fin.ext; show (((i 0).val * 8192 + (i 1).val) * 1024 + k.val) % 1024 = k.val; omega
  rw [e]
  exact (EReal.coe_mul _ _).symm

section

include h0 h1 h2 h4 h5

theorem db_at (i : S1x8192x2816.Idx) : val_main_v27 (F := Ideal) x0 x1 x2 x4 x5 i = (A.db (i 1) (i 2) : EReal) := by
  rw [val_main_v27_apply, gate_at A x0 x1 x2 h0 h1 h2, dhid_at A x4 x5 h4 h5]
  refine (EReal.coe_mul _ _).symm.trans (congrArg _ ?_)
  exact mul_comm _ _

include h3

theorem da_at (i : S1x8192x2816.Idx) : val_main_v30 (F := Ideal) x0 x1 x2 x3 x4 x5 i = (A.da (i 1) (i 2) : EReal) := by
  have e : val_main_v28 (F := Ideal) x0 x1 x3 x4 x5 i = ((A.dhid (i 1) (i 2) * A.b (i 1) (i 2) : ℝ) : EReal) := by
    rw [val_main_v28_apply, dhid_at A x4 x5 h4 h5, b_at A x0 x1 x3 h0 h1 h3]
    exact (EReal.coe_mul _ _).symm
  have key : ∀ u s a w : ℝ, ((u : EReal) * s + (a : EReal) * u * w : EReal) = ((u * s + a * u * w : ℝ) : EReal) := fun u s a w => by
    simp only [EReal.coe_add, EReal.coe_mul]
  rw [val_main_v30_apply, val_main_call1_v1_apply, val_main_call1_v2_apply, val_main_call1_v0_apply, e, sg_at A x0 x1 x2 h0 h1 h2, turn_at A x0 x1 x2 h0 h1 h2, a_at A x0 x1 x2 h0 h1 h2]
  exact (key _ _ _ _).trans (congrArg (fun r : ℝ => (r : EReal)) (A.da_eq (i 1) (i 2)).symm)

theorem dh_at (i : S1x8192x1024.Idx) : val_main_v32 (F := Ideal) x0 x1 x2 x3 x4 x5 i = (A.dh (i 1) (i 2) : EReal) := by
  rw [val_main_v32_apply, val_main_v29_apply, val_main_v31_apply]
  have e : ∀ k : Fin 2816, val_main_v27 (F := Ideal) x0 x1 x2 x4 x5 (lidx_main_v29 i k) * x3 (ridx_main_v29 i k) = ((A.db (i 1) k * A.wu (i 2) k : ℝ) : EReal) := fun k => by
    rw [db_at A x0 x1 x2 x4 x5 h0 h1 h2 h4 h5, h3]
    exact (EReal.coe_mul _ _).symm
  have e' : ∀ k : Fin 2816, val_main_v30 (F := Ideal) x0 x1 x2 x3 x4 x5 (lidx_main_v31 i k) * x2 (ridx_main_v31 i k) = ((A.da (i 1) k * A.wg (i 2) k : ℝ) : EReal) := fun k => by
    rw [da_at A x0 x1 x2 x3 x4 x5 h0 h1 h2 h3 h4 h5, h2]
    exact (EReal.coe_mul _ _).symm
  rw [Finset.sum_congr rfl fun k _ => e k, Finset.sum_congr rfl fun k _ => e' k, coe_sum, coe_sum]
  exact (EReal.coe_add _ _).symm

end

/-! ### The hidden layer's columns come in four parts -/

section

variable (k : Fin 4) (i : Fin 8192) (j : Fin 704)

theorem part_of_row : idx_main_v56 (idx_main_v57 (idx_main_v58 (ix3 k i j))) = ix3 (0 : Fin 1) i (col k j) := by
  have l := k.isLt
  have l' := i.isLt
  have l'' := j.isLt
  have e : ((i.val * 4 + k.val) * 704 + j.val) / 2816 = i.val := by omega
  have e' : ((i.val * 4 + k.val) * 704 + j.val) % 2816 = k.val * 704 + j.val := by omega
  funext a
  match a with
  | ⟨0, _⟩ => rfl
  | ⟨1, _⟩ =>
    apply Fin.ext
    show (((i.val * 4 + k.val) * 704 + j.val) / 2816 * 2816 + ((i.val * 4 + k.val) * 704 + j.val) % 2816) / 2816 % 8192 = i.val
    rw [e, e']
    omega
  | ⟨2, _⟩ =>
    apply Fin.ext
    show (((i.val * 4 + k.val) * 704 + j.val) / 2816 * 2816 + ((i.val * 4 + k.val) * 704 + j.val) % 2816) % 2816 = k.val * 704 + j.val
    rw [e, e']
    omega

include h0 h1 h2 h3 in
theorem hid_out : val_main_v59 (F := Ideal) x0 x1 x2 x3 (ix3 k i j) = (A.hid i (col k j) : EReal) := by
  refine Eq.trans ?_ ((congrArg (val_main_v22 (F := Ideal) x0 x1 x2 x3) (part_of_row k i j)).trans (hid_at A x0 x1 x2 x3 h0 h1 h2 h3 _))
  rw [val_main_v59_apply, val_main_v58_apply, val_main_v57_apply, val_main_v56_apply]
  rfl

include h0 h1 h2 h4 h5

include h3 in
theorem da_out : val_main_v63 (F := Ideal) x0 x1 x2 x3 x4 x5 (ix3 k i j) = (A.da i (col k j) : EReal) := by
  refine Eq.trans ?_ ((congrArg (val_main_v30 (F := Ideal) x0 x1 x2 x3 x4 x5) (part_of_row k i j)).trans (da_at A x0 x1 x2 x3 x4 x5 h0 h1 h2 h3 h4 h5 _))
  rw [val_main_v63_apply, val_main_v62_apply, val_main_v61_apply, val_main_v60_apply]
  rfl

theorem db_out : val_main_v67 (F := Ideal) x0 x1 x2 x4 x5 (ix3 k i j) = (A.db i (col k j) : EReal) := by
  refine Eq.trans ?_ ((congrArg (val_main_v27 (F := Ideal) x0 x1 x2 x4 x5) (part_of_row k i j)).trans (db_at A x0 x1 x2 x4 x5 h0 h1 h2 h4 h5 _))
  rw [val_main_v67_apply, val_main_v66_apply, val_main_v65_apply, val_main_v64_apply]
  rfl

end

/-- The gradient at the output is handed on. -/
theorem past_out (i : Fin 8192) (d : Fin 1024) : val_main_v69 (F := Ideal) x5 (ix2 i d) = x5 (ix3 0 i d) := by
  rw [val_main_v69_apply, val_main_v68_apply]
  have e : idx_main_v68 (ix2 i d) = ix3 (0 : Fin 1) i d := by
    funext a
    match a with
    | ⟨0, _⟩ => exact Subsingleton.elim (α := Fin 1) _ _
    | ⟨1, _⟩ => apply Fin.ext; show (i.val * 1024 + d.val) / 1024 % 8192 = i.val; omega
    | ⟨2, _⟩ => apply Fin.ext; show (i.val * 1024 + d.val) % 1024 = d.val; omega
  rw [e]
  rfl

/-! ### Through the norm -/

include h1 in
theorem factor_at (i : S1x8192x1024.Idx) : val_main_v36 (F := Ideal) x1 i = (A.g (i 2) : EReal) := by
  rw [val_main_v36_apply, val_main_v14_apply, h1]
  rfl

include h0 h1 h2 h3 h4 h5 in
theorem dhg_at (i : S1x8192x1024.Idx) : val_main_v37 (F := Ideal) x0 x1 x2 x3 x4 x5 i = ((A.dh (i 1) (i 2) * A.g (i 2) : ℝ) : EReal) := by
  rw [val_main_v37_apply, dh_at A x0 x1 x2 x3 x4 x5 h0 h1 h2 h3 h4 h5, factor_at A x1 h1]
  exact (EReal.coe_mul _ _).symm

section

include h0 h1 h2 h3 h4 h5

/-- The gradient of the factors. -/
theorem dg_at (d : Fin 1024) : val_main_v70 (F := Ideal) x0 x1 x2 x3 x4 x5 (ix2 0 d) = (A.dg d : EReal) := by
  rw [val_main_v70_apply]
  have e : idx_main_v70 (ix2 0 d) = ix1 d := by
    funext a
    match a with
    | ⟨0, _⟩ => apply Fin.ext; show 0 * 1024 + d.val = d.val; omega
  rw [e]
  unfold val_main_v38
  refine (congrArg (fun z => Ideal.hostReduceAdd reducesTo_S1x1x1024_S1024_d0_1 (val_main_v35 (F := Ideal) x0 x1 x2 x3 x4 x5) z (ix1 d)) word_zero).trans ?_
  rw [sum_units_row, val_main_v35_apply, val_main_v34_apply]
  have ei : ∀ k : Fin 8192, idx_main_v34 (idx_main_v35 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 1024 + d.val) % 1024 = d.val; omega
  have e : ∀ k : Fin 8192, val_main_v33 (F := Ideal) x0 x1 x2 x3 x4 x5 (idx_main_v34 (idx_main_v35 (ix3 (0 : Fin 1) (0 : Fin 1) d)) k) = (A.dgRow k d : EReal) := fun k => by
    rw [ei, val_main_v33_apply, unit_at A x0 h0, dh_at A x0 x1 x2 x3 x4 x5 h0 h1 h2 h3 h4 h5]
    refine (EReal.coe_mul _ _).symm.trans (congrArg _ ?_)
    exact mul_comm _ _
  rw [Finset.sum_congr rfl fun k _ => e k, coe_sum]
  exact (congrArg (fun z : EReal => z + _) word_zero).trans (zero_add _)

theorem slope_row (n : Fin 8192) : val_main_v48 (F := Ideal) x0 x1 x2 x3 x4 x5 (ix1 n) = (NormMath.slope (A.x n) (fun e => A.dh n e * A.g e) : EReal) := by
  unfold val_main_v48
  refine (congrArg (fun z => Ideal.hostReduceAdd reducesTo_S1x8192x1_S8192_d0_2 (val_main_v47 (F := Ideal) x0 x1 x2 x3 x4 x5) z (ix1 n)) word_zero).trans ?_
  refine (sum_units_col _ n).trans ?_
  rw [val_main_v47_apply, val_main_v45_apply, val_main_v41_apply, val_main_v40_apply, slope_part A x0 h0, val_main_v46_apply]
  have ei : ∀ k : Fin 1024, idx_main_v40 (idx_main_v41 (ix3 (0 : Fin 1) n (0 : Fin 1))) k = ix3 (0 : Fin 1) n k := fun k => by
    funext a
    match a with
    | ⟨0, _⟩ => rfl
    | ⟨1, _⟩ => apply Fin.ext; show ((0 * 8192 + n.val) * 1 + 0) % 8192 = n.val; omega
    | ⟨2, _⟩ => rfl
  have e : ∀ k : Fin 1024, val_main_v39 (F := Ideal) x0 x1 x2 x3 x4 x5 (idx_main_v40 (idx_main_v41 (ix3 (0 : Fin 1) n (0 : Fin 1))) k) = ((A.x n k * (A.dh n k * A.g k) : ℝ) : EReal) := fun k => by
    rw [ei, val_main_v39_apply, h0, dhg_at A x0 x1 x2 x3 x4 x5 h0 h1 h2 h3 h4 h5]
    exact (EReal.coe_mul _ _).symm
  have e' : (val_main_cst_6 (F := Ideal) (Shape.Idx.first h_S_) + ∑ k : Fin 1024, val_main_v39 (F := Ideal) x0 x1 x2 x3 x4 x5 (idx_main_v40 (idx_main_v41 (ix3 (0 : Fin 1) n (0 : Fin 1))) k) : EReal)
      = ((∑ k, A.x n k * (A.dh n k * A.g k) : ℝ) : EReal) := by
    rw [Finset.sum_congr rfl fun k _ => e k, coe_sum]
    refine (congrArg (fun z : EReal => z + _) word_zero).trans (zero_add _)
  refine (congrArg (fun z : EReal => Ideal.div (z * _) (Ideal.ofBits .f32 0x44800000#32)) e').trans ?_
  rw [word_1024, ← EReal.coe_mul, div_real _ _ (by norm_num)]
  unfold NormMath.slope
  rw [Nat.cast_ofNat]
  rfl

theorem slope_at (i : S1x8192x1024.Idx) : val_main_v50 (F := Ideal) x0 x1 x2 x3 x4 x5 i = (NormMath.slope (A.x (i 1)) (fun e => A.dh (i 1) e * A.g e) : EReal) := by
  rw [val_main_v50_apply, val_main_v49_apply]
  have e : idx_main_v49 (idx_main_v50 i) = ix1 (i 1) := by funext a; match a with | ⟨0, _⟩ => rfl
  exact (congrArg (val_main_v48 (F := Ideal) x0 x1 x2 x3 x4 x5) e).trans (slope_row A x0 x1 x2 x3 x4 x5 h0 h1 h2 h3 h4 h5 (i 1))

/-- The gradient of the rows, on top of what was there. -/
theorem dx_at (i : Fin 8192) (d : Fin 1024) : val_main_v55 (F := Ideal) x0 x1 x2 x3 x4 x5 (ix2 i d) = (x5 (ix3 0 i d) + (A.dx i d : EReal) : EReal) := by
  rw [val_main_v55_apply]
  have e : idx_main_v55 (ix2 i d) = ix3 (0 : Fin 1) i d := by
    funext a
    match a with
    | ⟨0, _⟩ => exact Subsingleton.elim (α := Fin 1) _ _
    | ⟨1, _⟩ => apply Fin.ext; show (i.val * 1024 + d.val) / 1024 % 8192 = i.val; omega
    | ⟨2, _⟩ => apply Fin.ext; show (i.val * 1024 + d.val) % 1024 = d.val; omega
  rw [e, val_main_v54_apply, val_main_v52_apply, val_main_v44_apply, val_main_v43_apply, val_main_v42_apply, val_main_v51_apply, val_main_v53_apply,
    dhg_at A x0 x1 x2 x3 x4 x5 h0 h1 h2 h3 h4 h5, inv_at A x0 h0, slope_at A x0 x1 x2 x3 x4 x5 h0 h1 h2 h3 h4 h5, h0]
  show ((x5 (ix3 0 i d) + ((A.dh i d * A.g d : ℝ) : EReal) * (inv (A.x i) : EReal) + (A.x i d : EReal) * (NormMath.slope (A.x i) (fun e => A.dh i e * A.g e) : EReal))
    + (NormMath.slope (A.x i) (fun e => A.dh i e * A.g e) : EReal) * (A.x i d : EReal) : EReal) = _
  rw [← EReal.coe_mul, ← EReal.coe_mul, ← EReal.coe_mul, add_assoc, add_assoc, ← EReal.coe_add, ← EReal.coe_add]
  unfold Args.dx
  rw [grad_eq, add_assoc]

end

end Cert.FfnReferenceIdeal.Layer

end
-- ==== Proof.FfnClaim.lean ====
module

public import proofs.«01_k».proof.Proof.FfnArray
public import proofs.«01_k».proof.Proof.FfnRef
public import proofs.«01_k».proof.Proof.AttnPre
public import proofs.«01_k».proof.Proof.Gen.FfnIdeal.Value
public import proofs.«01_k».proof.Proof.Gen.FfnReferenceIdeal.Run

@[expose] public section

noncomputable section

/-! The kernel of the feed-forward layer's gradient leaves what the derivative of the plain layer leaves. -/

namespace Cert.FeedForward

open Idealize.ShloMosaic Idealize.SL.Sem Cert.FfnMath
open Cert.Attention (both real_of_test)

/-- The printed precondition's side conditions. -/
theorem pre_facts : Cert.Pre_finite_ffn.Facts := ⟨by decide, by decide, by decide, by decide, by decide⟩

attribute [local instance] pre_facts in
/-- Where the precondition reads one, the six arguments are arrays of real numbers. -/
theorem args_of_pre (x0 : FVec Ideal Cert.Pre_finite_ffn.S1x8192x1024 .f32) (x1 : FVec Ideal Cert.Pre_finite_ffn.S1024 .f32) (x2 x3 : FVec Ideal Cert.Pre_finite_ffn.S1024x2816 .f32)
    (x4 : FVec Ideal Cert.Pre_finite_ffn.S2816x1024 .f32) (x5 : FVec Ideal Cert.Pre_finite_ffn.S1x8192x1024 .f32) (h : Cert.Pre_finite_ffn.fn (F := Ideal) x0 x1 x2 x3 x4 x5 = fun _ => 1#1) :
    ∃ A : Args, (∀ i, (x0 i : EReal) = (A.x (i 1) (i 2) : EReal)) ∧ (∀ i, (x1 i : EReal) = (A.g (i 0) : EReal)) ∧ (∀ i, (x2 i : EReal) = (A.wg (i 0) (i 1) : EReal))
      ∧ (∀ i, (x3 i : EReal) = (A.wu (i 0) (i 1) : EReal)) ∧ (∀ i, (x4 i : EReal) = (A.wd (i 0) (i 1) : EReal)) ∧ (∀ i, (x5 i : EReal) = (A.y (i 1) (i 2) : EReal)) := by
  have e := congrFun h ix0
  unfold Cert.Pre_finite_ffn.fn at e
  obtain ⟨e, e5⟩ := both e
  obtain ⟨e, e4⟩ := both e
  obtain ⟨e, e3⟩ := both e
  obtain ⟨e, e2⟩ := both e
  obtain ⟨e0, e1⟩ := both e
  choose x hx using real_of_test x0 _ _ e0
  choose g hg using real_of_test x1 _ _ e1
  choose wg hwg using real_of_test x2 _ _ e2
  choose wu hwu using real_of_test x3 _ _ e3
  choose wd hwd using real_of_test x4 _ _ e4
  choose y hy using real_of_test x5 _ _ e5
  refine ⟨⟨fun i d => x (ix3 0 i d), fun d => g (ix1 d), fun d j => wg (ix2 d j), fun d j => wu (ix2 d j), fun j d => wd (ix2 j d), fun i d => y (ix3 0 i d)⟩,
    fun i => ?_, fun i => ?_, fun i => ?_, fun i => ?_, fun i => ?_, fun i => ?_⟩
  · rw [hx]
    exact congrArg (fun z => (x z : EReal)) ((eq_ix3 i).trans (congrArg (fun a => ix3 a (i 1) (i 2)) (Subsingleton.elim (α := Fin 1) (i 0) 0)))
  · rw [hg]
    exact congrArg (fun z => (g z : EReal)) (eq_ix1 i)
  · rw [hwg]
    exact congrArg (fun z => (wg z : EReal)) (eq_ix2 i)
  · rw [hwu]
    exact congrArg (fun z => (wu z : EReal)) (eq_ix2 i)
  · rw [hwd]
    exact congrArg (fun z => (wd z : EReal)) (eq_ix2 i)
  · rw [hy]
    exact congrArg (fun z => (y z : EReal)) ((eq_ix3 i).trans (congrArg (fun a => ix3 a (i 1) (i 2)) (Subsingleton.elim (α := Fin 1) (i 0) 0)))

/-- The reference's run leaves its arguments. -/
theorem frame_reference : Cert.quiescent_FfnReferenceIdeal (hFfnReferenceIdeal := Cert.FfnReferenceIdeal.Gen.facts) :=
  fun m ρ _ => (θ_run Cert.FfnReferenceIdeal.defs _ _).mono (fun r h => ⟨fun c => (h c).2.2.2.2.2.2, sem_eq_zero_of_no_sems (by decide) _⟩)
    (Cert.FfnReferenceIdeal.Value.run (F := Ideal) m ρ)

attribute [local instance] pre_facts in
/-- The two programs leave the same six arrays in their results, where the arguments are finite. -/
theorem value : Cert.algebraic_FfnIdeal_FfnReferenceIdeal_pre_finite_ffn := by
  intro m g m' g' hpre hargs
  have hA := fun c => args_of_pre _ _ _ _ _ _ (hpre c)
  choose A hx hg hwg hwu hwd hy using hA
  have hG : ∀ c, Cert.FfnIdeal.Layer.Given (A c) m c := fun c =>
    ⟨fun i d => hx c (ix3 0 i d), fun d => hg c (ix1 d), fun d j => hwg c (ix2 d j), fun d j => hwu c (ix2 d j), fun j d => hwd c (ix2 j d), fun i d => hy c (ix3 0 i d)⟩
  refine ⟨fun c => Cert.FfnIdeal.Layer.dxArr (A c) m c, fun c => Cert.FfnIdeal.Layer.hidArr (A c), fun c => Cert.FfnIdeal.Layer.daArr (A c), fun c => Cert.FfnIdeal.Layer.dbArr (A c),
    fun c => Cert.FfnIdeal.Layer.pastArr m c, fun c => Cert.FfnIdeal.Layer.dgArr (A c), ?_, ?_⟩
  · refine (θ_run _ _ _).mono (fun r h c => ?_) (Cert.FfnIdeal.Value.run_blocks m g)
    obtain ⟨e0, e1, e2, e3, e4, e5, kept⟩ := h c
    exact ⟨e0.trans (Cert.FfnIdeal.Layer.final_rows (A c) m c (hG c)), e1.trans (Cert.FfnIdeal.Layer.final_hid (A c) m c (hG c)), e2.trans (Cert.FfnIdeal.Layer.final_da (A c) m c (hG c)),
      e3.trans (Cert.FfnIdeal.Layer.final_db (A c) m c (hG c)), e4.trans (Cert.FfnIdeal.Layer.final_past (A c) m c (hG c)), e5.trans (Cert.FfnIdeal.Layer.final_sum (A c) m c (hG c)), kept⟩
  · refine (θ_run _ _ _).mono (fun r h c => ?_) (Cert.FfnReferenceIdeal.Value.run (F := Ideal) m' g')
    obtain ⟨e0, e1, e2, e3, e4, e5, kept⟩ := h c
    obtain ⟨a0, a1, a2, a3, a4, a5⟩ := hargs c
    refine ⟨e0.trans ?_, e1.trans ?_, e2.trans ?_, e3.trans ?_, e4.trans ?_, e5.trans ?_, kept⟩
    · rw [Cert.FfnReferenceIdeal.Read.val_main_v55_eq, a0, a1, a2, a3, a4, a5]
      funext i
      exact (congrArg _ (eq_ix2 i)).trans (Cert.FfnReferenceIdeal.Layer.dx_at (A c) _ _ _ _ _ _ (hx c) (hg c) (hwg c) (hwu c) (hwd c) (hy c) (i 0) (i 1))
    · rw [Cert.FfnReferenceIdeal.Read.val_main_v59_eq, a0, a1, a2, a3]
      funext i
      exact (congrArg _ (eq_ix3 i)).trans (Cert.FfnReferenceIdeal.Layer.hid_out (A c) _ _ _ _ (hx c) (hg c) (hwg c) (hwu c) (i 0) (i 1) (i 2))
    · rw [Cert.FfnReferenceIdeal.Read.val_main_v63_eq, a0, a1, a2, a3, a4, a5]
      funext i
      exact (congrArg _ (eq_ix3 i)).trans (Cert.FfnReferenceIdeal.Layer.da_out (A c) _ _ _ _ _ _ (hx c) (hg c) (hwg c) (hwu c) (hwd c) (hy c) (i 0) (i 1) (i 2))
    · rw [Cert.FfnReferenceIdeal.Read.val_main_v67_eq, a0, a1, a2, a4, a5]
      funext i
      exact (congrArg _ (eq_ix3 i)).trans (Cert.FfnReferenceIdeal.Layer.db_out (A c) _ _ _ _ _ (hx c) (hg c) (hwg c) (hwd c) (hy c) (i 0) (i 1) (i 2))
    · rw [Cert.FfnReferenceIdeal.Read.val_main_v69_eq, a5]
      funext i
      exact (congrArg _ (eq_ix2 i)).trans (Cert.FfnReferenceIdeal.Layer.past_out _ (i 0) (i 1))
    · rw [Cert.FfnReferenceIdeal.Read.val_main_v70_eq, a0, a1, a2, a3, a4, a5]
      funext i
      have e : i = ix2 0 (i 1) := (eq_ix2 i).trans (congrArg (fun a => ix2 a (i 1)) (Subsingleton.elim (α := Fin 1) (i 0) 0))
      exact (congrArg _ e).trans (Cert.FfnReferenceIdeal.Layer.dg_at (A c) _ _ _ _ _ _ (hx c) (hg c) (hwg c) (hwu c) (hwd c) (hy c) (i 1))

end Cert.FeedForward

end
-- ==== Proof.MixWords.lean ====
module

public import proofs.«01_k».proof.Proof.Gen.MixIdeal.Skeleton
public import proofs.«01_k».proof.Proof.NormMath

@[expose] public section

set_option maxRecDepth 16384

noncomputable section

/-! The body's operations, said once for the eight groups of 128 rows and the four groups of 64 lanes. -/

namespace Cert.MixIdeal.Layer

open Cert.MixIdeal Cert.MixIdeal.Gen Idealize.ShloMosaic Idealize.ShloMosaic.TcCoe

/-- The lanes whose number divided by 64 is `h`. -/
def lanes (h : BitVec 32) : IVec S128x256 1 :=
  have i : IVec S128x256 32 := iota .tc S128x256 32 [1] iota_S128x256_d1_w32
  have q : IVec S128x256 32 := divsi i (broadcast S128x256 64#32)
  have up : IVec S128x256 32 := extui 32 (cmpi .sgt i (broadcast S128x256 0#32)) natLt_1_32
  have down : IVec S128x256 32 := extui 32 (cmpi .slt i (broadcast S128x256 0#32)) natLt_1_32
  have other : IVec S128x256 1 := cmpi .ne (subi up down)
    (broadcast S128x256 (Scalar.subi (Scalar.extui (Scalar.cmpi .sgt 64#32 0#32)) (Scalar.extui (Scalar.cmpi .slt 64#32 0#32))))
  have left : IVec S128x256 1 := cmpi .ne (remsi i (broadcast S128x256 64#32)) (broadcast S128x256 0#32)
  cmpi .eq (select (andi other left) (subi q (broadcast S128x256 1#32)) q) (broadcast S128x256 h)

theorem group_slices (k : Fin 8) : S1024x256.Slices ![k.val * 128, 0] S128x256 := by
  revert k; decide

/-- A group of 128 rows. -/
def groupOf {t : FTy} (k : Fin 8) (v : FVec Ideal S1024x256 t) : FVec Ideal S128x256 t :=
  extractStridedSlice S128x256 ![k.val * 128, 0] v (group_slices k)

theorem head_slices (h : Fin 4) : S1024x512.Slices ![0, h.val * 128] S1024x128 := by
  revert h; decide

/-- A head's 128 columns. -/
def headOf (h : Fin 4) (v : FVec Ideal S1024x512 .f32) : FVec Ideal S1024x128 .f32 :=
  extractStridedSlice S1024x128 ![0, h.val * 128] v (head_slices h)

/-- The eight groups, one after the other. -/
def stack (f : Fin 8 → FVec Ideal S128x256 .f32) : FVec Ideal S1024x256 .f32 :=
  concatenate S1024x256 0 [⟨S128x256, f 0⟩, ⟨S128x256, f 1⟩, ⟨S128x256, f 2⟩, ⟨S128x256, f 3⟩, ⟨S128x256, f 4⟩, ⟨S128x256, f 5⟩, ⟨S128x256, f 6⟩, ⟨S128x256, f 7⟩]
    concatenates_S128x256_S128x256_S128x256_S128x256_S128x256_S128x256_S128x256_S128x256_S1024x256_d0

def zeros : FVec Ideal S128x256 .f32 := broadcast S128x256 (Scalar.ofBits .f32 0x00000000#32 : Ideal .f32)

/-- A matrix's product with a group of rows, in one group of lanes. -/
def gateStep (h : BitVec 32) (w : FVec Ideal S128x128 .bf16) (v : FVec Ideal S128x256 .bf16) (s : FVec Ideal S128x256 .f32) : FVec Ideal S128x256 .f32 :=
  addf s (select (lanes h) (matmul dot_S128x128_S128x256_S128x256_1_0_0_1_n_n none w v (constant S128x256 .f32 0x00000000#32)) zeros)

def backStep (h : BitVec 32) (w : FVec Ideal S128x128 .bf16) (v : FVec Ideal S128x256 .bf16) (s : FVec Ideal S128x256 .f32) : FVec Ideal S128x256 .f32 :=
  addf s (select (lanes h) (matmul dot_S128x128_S128x256_S128x256_0_0_1_1_n_n none w v (constant S128x256 .f32 0x00000000#32)) zeros)

def weightStep (h : BitVec 32) (z : FVec Ideal S128x256 .f32) (v : FVec Ideal S128x256 .bf16) (s : FVec Ideal S128x128 .f32) : FVec Ideal S128x128 .f32 :=
  addf s (matmul dot_S128x256_S128x256_S128x128_1_1_0_0_n_n none (truncf .bf16 (select (lanes h) z zeros) bitsLt_bf16_f32) v (constant S128x128 .f32 0x00000000#32))

section Words

variable (dx : Vec Ideal S1024x1024 .f32) (uv : Vec Ideal S1024x512 .f32) (w : Fin 4 → Vec Ideal S1x128x128 .f32)
  (b : Vec Ideal S128x256 .f32) (gv : Vec Ideal S1x256 .f32) (g : Vec Ideal S1x1024 .f32) (wo : Vec Ideal S1024x1024 .bf16)

def low : IVec S128x128 1 := k0_pay28

/-- A matrix without what lies above its diagonal. -/
def lowOf (h : Fin 4) : FVec Ideal S128x128 .bf16 := k0_pay29 low (w h)

def spread (v : FVec Ideal S128x256 .bf16) : FVec Ideal S128x256 .f32 :=
  gateStep 3#32 (lowOf w 3) v (gateStep 2#32 (lowOf w 2) v (gateStep 1#32 (lowOf w 1) v (gateStep 0#32 (lowOf w 0) v (k0_pay33 b))))

def gate : FVec Ideal S1024x256 .f32 := stack fun k => spread w b (groupOf k (k0_pay27 uv gv))

def gated : FVec Ideal S1024x256 .f32 := mulf (k0_pay23 uv) (gate uv w b gv)

/-- One over the root of a row's mean square. -/
def invOf (x : FVec Ideal S1024x256 .f32) : FVec Ideal S1024x1 .f32 :=
  rsqrt (addf (mulf (shapeCast S1024x1 (multiReduction .add [1] S1024 (mulf x x) 0x00000000#32 reduces_S1024x256_S1024 (.inl rfl) rfl) shapeCasts_S1024_S1024x1)
    (broadcast S1024x1 (Scalar.ofBits .f32 0x3B800000#32 : Ideal .f32))) (broadcast S1024x1 (Scalar.ofBits .f32 0x358637BD#32 : Ideal .f32)))

def quotOf (x : FVec Ideal S1024x256 .f32) : FVec Ideal S1024x256 .f32 := mulf x (broadcastTo S1024x256 (invOf x) broadcasts_S1024x1_S1024x256)

/-- Back through the norm, from the gradient `d` at the quotients. -/
def backOf (x d : FVec Ideal S1024x256 .f32) : FVec Ideal S1024x256 .f32 := k0_pay118 (invOf x) (quotOf x) d (mulf d (quotOf x))

def gatedGrad : FVec Ideal S1024x256 .f32 := backOf (gated uv w b gv) (k0_pay116 (k0_pay4 g) (k0_pay5 dx wo))

def gateGrad : FVec Ideal S1024x256 .f32 := mulf (gatedGrad dx uv w b gv g wo) (k0_pay23 uv)

def gateGroup (k : Fin 8) : FVec Ideal S128x256 .f32 := groupOf k (gateGrad dx uv w b gv g wo)

/-- Back through the product with the matrices. -/
def spreadBack (z : FVec Ideal S128x256 .f32) : FVec Ideal S128x256 .f32 :=
  backStep 3#32 (lowOf w 3) (truncf .bf16 z bitsLt_bf16_f32) (backStep 2#32 (lowOf w 2) (truncf .bf16 z bitsLt_bf16_f32)
    (backStep 1#32 (lowOf w 1) (truncf .bf16 z bitsLt_bf16_f32) (backStep 0#32 (lowOf w 0) (truncf .bf16 z bitsLt_bf16_f32) zeros)))

def normedGrad : FVec Ideal S1024x256 .f32 := stack fun k => spreadBack w (gateGroup dx uv w b gv g wo k)

/-- The rows' gradient at the two factors, side by side. -/
def factorsGrad : FVec Ideal S1024x512 .bf16 :=
  k0_pay303 (k0_pay25 uv) (k0_pay26 uv) (mulf (gatedGrad dx uv w b gv g wo) (gate uv w b gv))
    (mulf (normedGrad dx uv w b gv g wo) (broadcastTo S1024x256 (shapeCast S1x256 gv shapeCasts_S1x256_S1x256) broadcasts_S1x256_S1024x256))
    (mulf (mulf (normedGrad dx uv w b gv g wo) (broadcastTo S1024x256 (shapeCast S1x256 gv shapeCasts_S1x256_S1x256) broadcasts_S1x256_S1024x256)) (k0_pay26 uv))

/-- The sum over eight groups, from the first to the last. -/
def eight {s : Shape} (z : FVec Ideal s .f32) (f : Fin 8 → FVec Ideal s .f32 → FVec Ideal s .f32) : FVec Ideal s .f32 :=
  f 7 (f 6 (f 5 (f 4 (f 3 (f 2 (f 1 (f 0 z)))))))

def biasGrad : FVec Ideal S128x256 .f32 := eight zeros fun k s => addf s (gateGroup dx uv w b gv g wo k)

def weightGrad (h : BitVec 32) : FVec Ideal S128x128 .f32 :=
  eight (broadcast S128x128 (Scalar.ofBits .f32 0x00000000#32 : Ideal .f32))
    fun k s => weightStep h (gateGroup dx uv w b gv g wo k) (groupOf k (k0_pay27 uv gv)) s

def weightStore (h : BitVec 32) : FVec Ideal S1x128x128 .f32 := k0_pay325 low (weightGrad dx uv w b gv g wo h)

/-- A row's factors times every row, and the product with the pooled weights' transpose. -/
def scaleBack (s : Vec Ideal S1x256 .f32) (x : FVec Ideal S1024x256 .f32) : FVec Ideal S1024x256 .bf16 :=
  truncf .bf16 (mulf x (broadcastTo S1024x256 (shapeCast S1x256 s shapeCasts_S1x256_S1x256) broadcasts_S1x256_S1024x256)) bitsLt_bf16_f32

def poolBack (d : FVec Ideal S1024x256 .bf16) (w : Vec Ideal S256x256 .bf16) : FVec Ideal S1024x256 .f32 :=
  matmul (φ₁ := .bf16) (φ₂ := .bf16) dot_S1024x256_S256x256_S1024x256_1_1_0_0_n_n none d (shapeCast S256x256 w shapeCasts_S256x256_S256x256) (constant S1024x256 .f32 0x00000000#32)

end Words

end Cert.MixIdeal.Layer

end
-- ==== Proof.MixStores.lean ====
module

public import proofs.«01_k».proof.Proof.MixWords
public import proofs.«01_k».proof.Proof.Gen.MixIdeal.Value
public import Idealize.ShloMosaic.Lib.Pipeline.ValueKit

@[expose] public section

set_option maxRecDepth 16384

noncomputable section

/-! What one point of the grid stores in its output blocks. -/

namespace Cert.MixIdeal.Layer

open Cert.MixIdeal Cert.MixIdeal.Gen Idealize.ShloMosaic Idealize.ShloMosaic.TcCoe Idealize.ShloMosaic.Tactic Idealize.SL.Sem

/-- A load of a buffer that holds `x` reads `x`. -/
theorem loaded {sp : Space} {s : Shape} {e : EltTy} (arg : Memref sig .tc sp s e) (h : arg.IsWhole) (x : Vec Ideal s e) (r : Rect s) :
    View.readAt (Elt Ideal) arg.view r.toLoadRect (h.unread x) = View.ld x r := by
  have e : View.readAt (Elt Ideal) arg.view r.toLoadRect (h.unread x) = View.ld (arg.view.read (Elt Ideal) (h.unread x)) r := rfl
  rw [e, h.read_unread]

def sqRect : Rect S1024x1024 := Rect.unit (s := S1024x1024) ![0, 0] S1024x1024.size inb_S1024x1024_S1024x1024_0_0
def wideRect : Rect S1024x512 := Rect.unit (s := S1024x512) ![0, 0] S1024x512.size inb_S1024x512_S1024x512_0_0
def tallRect : Rect S1024x256 := Rect.unit (s := S1024x256) ![0, 0] S1024x256.size inb_S1024x256_S1024x256_0_0
def biasRect : Rect S128x256 := Rect.unit (s := S128x256) ![0, 0] S128x256.size inb_S128x256_S128x256_0_0
def poolRect : Rect S256x256 := Rect.unit (s := S256x256) ![0, 0] S256x256.size inb_S256x256_S256x256_0_0
def rowRect : Rect S1x256 := Rect.unit (s := S1x256) ![0, 0] S1x256.size inb_S1x256_S1x256_0_0
def longRect : Rect S1x1024 := Rect.unit (s := S1x1024) ![0, 0] S1x1024.size inb_S1x1024_S1x1024_0_0

/-- A matrix of four, and a head of four. -/
def matRect (k : Fin 4) : Rect S4x128x128 := Rect.unit (s := S4x128x128) ![k.val, 0, 0] S1x128x128.size fun q => by
  have := k.isLt
  match q with
  | ⟨0, _⟩ => show k.val + 1 ≤ 4; omega
  | ⟨1, _⟩ => show 0 + 128 ≤ 128; omega
  | ⟨2, _⟩ => show 0 + 128 ≤ 128; omega

def headRect (k : Fin 4) : Rect S4x1024x128 := Rect.unit (s := S4x1024x128) ![k.val, 0, 0] S1x1024x128.size fun q => by
  have := k.isLt
  match q with
  | ⟨0, _⟩ => show k.val + 1 ≤ 4; omega
  | ⟨1, _⟩ => show 0 + 1024 ≤ 1024; omega
  | ⟨2, _⟩ => show 0 + 128 ≤ 128; omega

def matOf (x : Vec Ideal S4x128x128 .f32) (k : Fin 4) : Vec Ideal S1x128x128 .f32 := View.ld x (matRect k)

section Stores

variable (x0 : Vec Ideal S1024x1024 .f32) (x1 : Vec Ideal S1024x512 .f32) (x2 : Vec Ideal S1024x512 .f32) (x3 : Vec Ideal S1024x256 .f32) (x4 : Vec Ideal S4x128x128 .f32) (x5 : Vec Ideal S128x256 .f32) (x6 : Vec Ideal S256x256 .bf16) (x7 : Vec Ideal S1x256 .f32) (x8 : Vec Ideal S1x256 .f32) (x9 : Vec Ideal S1x1024 .f32) (x10 : Vec Ideal S1024x1024 .bf16)

def mixGrad : FVec Ideal S1024x1024 .f32 := k0_pay5 (View.ld x0 sqRect) (View.ld x10 sqRect)

def attnGrad : FVec Ideal S1024x512 .f32 := k0_pay10 (View.ld x9 longRect) (View.ld x0 sqRect) (View.ld x10 sqRect) (View.ld x1 wideRect)

def headStores : List (View.Piece (Elt Ideal) S4x1024x128 .bf16) := [3, 2, 1, 0].map fun k => ⟨headRect k,
  (shapeCast S1x1024x128 (truncf .bf16 (headOf k (attnGrad x0 x1 x9 x10)) bitsLt_bf16_f32 : FVec Ideal S1024x128 .bf16) shapeCasts_S1024x128_S1x1024x128 : FVec Ideal S1x1024x128 .bf16)⟩

/-- The sum of a row's products. -/
def rowDot (a b : FVec Ideal S1024x128 .f32) : FVec Ideal S1x1024x128 .f32 :=
  shapeCast S1x1024x128 (broadcastTo S1024x128 (shapeCast S1024x1 (shapeCast S1024x1 (multiReduction .add [1] S1024 (mulf a b) 0x00000000#32 reduces_S1024x128_S1024 (.inl rfl) rfl)
    shapeCasts_S1024_S1024x1) shapeCasts_S1024x1_S1024x1) broadcasts_S1024x1_S1024x128) shapeCasts_S1024x128_S1x1024x128

def sumStores : List (View.Piece (Elt Ideal) S4x1024x128 .f32) := [3, 2, 1, 0].map fun k => ⟨headRect k,
  (rowDot (headOf k (attnGrad x0 x1 x9 x10)) (headOf k (k0_pay6 (View.ld x1 wideRect))) : FVec Ideal S1x1024x128 .f32)⟩

def factorsStore : FVec Ideal S1024x512 .bf16 := factorsGrad (View.ld x0 sqRect) (View.ld x2 wideRect) (matOf x4) (View.ld x5 biasRect) (View.ld x8 rowRect) (View.ld x9 longRect) (View.ld x10 sqRect)

/-- The pooled rows' product with the matrix, scaled, and back. -/
def pooled : FVec Ideal S1024x256 .f32 := k0_pay305 (View.ld x3 tallRect) (View.ld x6 poolRect)

def scaled : FVec Ideal S1024x256 .f32 := k0_pay306 (View.ld x3 tallRect) (View.ld x6 poolRect) (View.ld x7 rowRect)

def scaledGrad : FVec Ideal S1024x256 .f32 := backOf (scaled x3 x6 x7) (k0_pay310 (k0_pay4 (View.ld x9 longRect)) (mixGrad x0 x10))

def pooledGrad : FVec Ideal S1024x256 .bf16 :=
  scaleBack (View.ld x7 rowRect) (scaledGrad x0 x3 x6 x7 x9 x10)

def rowsStore : FVec Ideal S1024x256 .f32 :=
  poolBack (pooledGrad x0 x3 x6 x7 x9 x10) (View.ld x6 poolRect)

/-- The sum of the rows of a product. -/
def columns (a b : FVec Ideal S1024x256 .f32) : FVec Ideal S1x256 .f32 :=
  shapeCast S1x256 (multiReduction .add [0] S256 (mulf a b) 0x00000000#32 reduces_S1024x256_S256 (.inl rfl) rfl) shapeCasts_S256_S1x256

def outFactors : FVec Ideal S1x1024 .f32 :=
  k0_pay316 (k0_pay11 (View.ld x0 sqRect) (View.ld x10 sqRect) (View.ld x1 wideRect))
    (columns (k0_pay115 (mixGrad x0 x10)) (quotOf (gated (View.ld x2 wideRect) (matOf x4) (View.ld x5 biasRect) (View.ld x8 rowRect))))
    (quotOf (scaled x3 x6 x7)) (k0_pay309 (mixGrad x0 x10))

def gateFactors : FVec Ideal S1x256 .f32 := columns (normedGrad (View.ld x0 sqRect) (View.ld x2 wideRect) (matOf x4) (View.ld x5 biasRect) (View.ld x8 rowRect) (View.ld x9 longRect) (View.ld x10 sqRect)) (k0_pay26 (View.ld x2 wideRect))

def scaleStore : FVec Ideal S1x256 .f32 := columns (scaledGrad x0 x3 x6 x7 x9 x10) (pooled x3 x6)

def matStore (h : BitVec 32) : FVec Ideal S1x128x128 .f32 := weightStore (View.ld x0 sqRect) (View.ld x2 wideRect) (matOf x4) (View.ld x5 biasRect) (View.ld x8 rowRect) (View.ld x9 longRect) (View.ld x10 sqRect) h

def matStores : List (View.Piece (Elt Ideal) S4x128x128 .f32) := [⟨matRect 3, matStore x0 x2 x4 x5 x8 x9 x10 3#32⟩, ⟨matRect 2, matStore x0 x2 x4 x5 x8 x9 x10 2#32⟩,
  ⟨matRect 1, matStore x0 x2 x4 x5 x8 x9 x10 1#32⟩, ⟨matRect 0, matStore x0 x2 x4 x5 x8 x9 x10 0#32⟩]

def biasStore : FVec Ideal S128x256 .f32 := biasGrad (View.ld x0 sqRect) (View.ld x2 wideRect) (matOf x4) (View.ld x5 biasRect) (View.ld x8 rowRect) (View.ld x9 longRect) (View.ld x10 sqRect)

def poolStore : FVec Ideal S256x256 .f32 := k0_pay322 (k0_pay304 (View.ld x3 tallRect)) (pooledGrad x0 x3 x6 x7 x9 x10)

end Stores

section Again

variable (xo15 : Vec Ideal S1x1024 .f32) (xo16 : Vec Ideal S1x256 .f32) (xo17 : Vec Ideal S1x256 .f32) (xo18 : Vec Ideal S4x128x128 .f32) (xo19 : Vec Ideal S128x256 .f32) (xo20 : Vec Ideal S256x256 .f32)
variable (x0 : Vec Ideal S1024x1024 .f32) (x1 : Vec Ideal S1024x512 .f32) (x2 : Vec Ideal S1024x512 .f32) (x3 : Vec Ideal S1024x256 .f32) (x4 : Vec Ideal S4x128x128 .f32) (x5 : Vec Ideal S128x256 .f32) (x6 : Vec Ideal S256x256 .bf16) (x7 : Vec Ideal S1x256 .f32) (x8 : Vec Ideal S1x256 .f32) (x9 : Vec Ideal S1x1024 .f32) (x10 : Vec Ideal S1024x1024 .bf16)

def outLater : FVec Ideal S1x1024 .f32 := k0_pay317 (k0_pay11 (View.ld x0 sqRect) (View.ld x10 sqRect) (View.ld x1 wideRect))
    (columns (k0_pay115 (mixGrad x0 x10)) (quotOf (gated (View.ld x2 wideRect) (matOf x4) (View.ld x5 biasRect) (View.ld x8 rowRect))))
    (quotOf (scaled x3 x6 x7)) (k0_pay309 (mixGrad x0 x10)) (View.ld xo15 longRect)

def matLater (k : Fin 4) (h : BitVec 32) : FVec Ideal S1x128x128 .f32 :=
  k0_pay326 low (weightGrad (View.ld x0 sqRect) (View.ld x2 wideRect) (matOf x4) (View.ld x5 biasRect) (View.ld x8 rowRect) (View.ld x9 longRect) (View.ld x10 sqRect) h) (matOf xo18 k)

def matsLater : List (View.Piece (Elt Ideal) S4x128x128 .f32) := [⟨matRect 3, matLater xo18 x0 x2 x4 x5 x8 x9 x10 3 3#32⟩, ⟨matRect 2, matLater xo18 x0 x2 x4 x5 x8 x9 x10 2 2#32⟩,
  ⟨matRect 1, matLater xo18 x0 x2 x4 x5 x8 x9 x10 1 1#32⟩, ⟨matRect 0, matLater xo18 x0 x2 x4 x5 x8 x9 x10 0 0#32⟩]

end Again

end Cert.MixIdeal.Layer

end
-- ==== Proof.MixFirst.lean ====
module

public import proofs.«01_k».proof.Proof.MixStores

@[expose] public section

set_option maxRecDepth 16384

noncomputable section

/-! What the first point of the grid stores in its output blocks. -/

namespace Cert.MixIdeal.Layer

open Cert.MixIdeal Cert.MixIdeal.Gen Idealize.ShloMosaic Idealize.ShloMosaic.TcCoe Idealize.ShloMosaic.Tactic Idealize.SL.Sem

variable (c : Dev nD) (i : grid0.Coords) (arg1 : Memref sig .tc .vmem S1024x1024 .f32) (w1 : arg1.IsWhole) (arg2 : Memref sig .tc .vmem S1024x512 .f32) (w2 : arg2.IsWhole) (arg3 : Memref sig .tc .vmem S1024x512 .f32) (w3 : arg3.IsWhole) (arg4 : Memref sig .tc .vmem S1024x256 .f32) (w4 : arg4.IsWhole) (arg5 : Memref sig .tc .vmem S4x128x128 .f32) (w5 : arg5.IsWhole) (arg6 : Memref sig .tc .vmem S128x256 .f32) (w6 : arg6.IsWhole) (arg7 : Memref sig .tc .vmem S256x256 .bf16) (w7 : arg7.IsWhole) (arg8 : Memref sig .tc .vmem S1x256 .f32) (w8 : arg8.IsWhole) (arg9 : Memref sig .tc .vmem S1x256 .f32) (w9 : arg9.IsWhole) (arg10 : Memref sig .tc .vmem S1x1024 .f32) (w10 : arg10.IsWhole) (arg11 : Memref sig .tc .vmem S1024x1024 .bf16) (w11 : arg11.IsWhole) (arg12 : Memref sig .tc .vmem S4x1024x128 .bf16) (w12 : arg12.IsWhole) (arg13 : Memref sig .tc .vmem S4x1024x128 .f32) (w13 : arg13.IsWhole) (arg14 : Memref sig .tc .vmem S1024x512 .bf16) (w14 : arg14.IsWhole) (arg15 : Memref sig .tc .vmem S1024x256 .f32) (w15 : arg15.IsWhole) (arg16 : Memref sig .tc .vmem S1x1024 .f32) (w16 : arg16.IsWhole) (arg17 : Memref sig .tc .vmem S1x256 .f32) (w17 : arg17.IsWhole) (arg18 : Memref sig .tc .vmem S1x256 .f32) (w18 : arg18.IsWhole) (arg19 : Memref sig .tc .vmem S4x128x128 .f32) (w19 : arg19.IsWhole) (arg20 : Memref sig .tc .vmem S128x256 .f32) (w20 : arg20.IsWhole) (arg21 : Memref sig .tc .vmem S256x256 .f32) (w21 : arg21.IsWhole)
  (x0 : Vec Ideal S1024x1024 .f32) (x1 : Vec Ideal S1024x512 .f32) (x2 : Vec Ideal S1024x512 .f32) (x3 : Vec Ideal S1024x256 .f32) (x4 : Vec Ideal S4x128x128 .f32) (x5 : Vec Ideal S128x256 .f32) (x6 : Vec Ideal S256x256 .bf16) (x7 : Vec Ideal S1x256 .f32) (x8 : Vec Ideal S1x256 .f32) (x9 : Vec Ideal S1x1024 .f32) (x10 : Vec Ideal S1024x1024 .bf16)

variable (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i) (hc16 : cond0_16 i) (hc17 : ¬cond0_17 i)

set_option maxHeartbeats 2000000 in
theorem stores_first {R} (hR : kernelRun0_A (F := Ideal) c i _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 = R) :
    R.1 = headStores x0 x1 x9 x10
      ∧ R.2.1 = sumStores x0 x1 x9 x10
      ∧ R.2.2.1 = [⟨wideRect, factorsStore x0 x2 x4 x5 x8 x9 x10⟩]
      ∧ R.2.2.2.1 = [⟨tallRect, rowsStore x0 x3 x6 x7 x9 x10⟩]
      ∧ R.2.2.2.2.1 = [⟨longRect, outFactors x0 x1 x2 x3 x4 x5 x6 x7 x8 x10⟩]
      ∧ R.2.2.2.2.2.1 = [⟨rowRect, gateFactors x0 x2 x4 x5 x8 x9 x10⟩]
      ∧ R.2.2.2.2.2.2.1 = [⟨rowRect, scaleStore x0 x3 x6 x7 x9 x10⟩]
      ∧ R.2.2.2.2.2.2.2.1 = matStores x0 x2 x4 x5 x8 x9 x10
      ∧ R.2.2.2.2.2.2.2.2.1 = [⟨biasRect, biasStore x0 x2 x4 x5 x8 x9 x10⟩]
      ∧ R.2.2.2.2.2.2.2.2.2.1 = [⟨poolRect, poolStore x0 x3 x6 x7 x9 x10⟩] := by
  subst hR
  refine ⟨?_, ?_, ?_, ?_, ?_, ?_, ?_, ?_, ?_, ?_⟩ <;>
    (unfold kernelRun0_A; dsimp only; sl_unfold_words; simp only [loaded]; rfl)

end Cert.MixIdeal.Layer

end
-- ==== Proof.MixLater.lean ====
module

public import proofs.«01_k».proof.Proof.MixStores

@[expose] public section

set_option maxRecDepth 16384

noncomputable section

/-! What a later point of the grid stores in its output blocks. -/

namespace Cert.MixIdeal.Layer

open Cert.MixIdeal Cert.MixIdeal.Gen Idealize.ShloMosaic Idealize.ShloMosaic.TcCoe Idealize.ShloMosaic.Tactic Idealize.SL.Sem

variable (c : Dev nD) (i : grid0.Coords) (arg1 : Memref sig .tc .vmem S1024x1024 .f32) (w1 : arg1.IsWhole) (arg2 : Memref sig .tc .vmem S1024x512 .f32) (w2 : arg2.IsWhole) (arg3 : Memref sig .tc .vmem S1024x512 .f32) (w3 : arg3.IsWhole) (arg4 : Memref sig .tc .vmem S1024x256 .f32) (w4 : arg4.IsWhole) (arg5 : Memref sig .tc .vmem S4x128x128 .f32) (w5 : arg5.IsWhole) (arg6 : Memref sig .tc .vmem S128x256 .f32) (w6 : arg6.IsWhole) (arg7 : Memref sig .tc .vmem S256x256 .bf16) (w7 : arg7.IsWhole) (arg8 : Memref sig .tc .vmem S1x256 .f32) (w8 : arg8.IsWhole) (arg9 : Memref sig .tc .vmem S1x256 .f32) (w9 : arg9.IsWhole) (arg10 : Memref sig .tc .vmem S1x1024 .f32) (w10 : arg10.IsWhole) (arg11 : Memref sig .tc .vmem S1024x1024 .bf16) (w11 : arg11.IsWhole) (arg12 : Memref sig .tc .vmem S4x1024x128 .bf16) (w12 : arg12.IsWhole) (arg13 : Memref sig .tc .vmem S4x1024x128 .f32) (w13 : arg13.IsWhole) (arg14 : Memref sig .tc .vmem S1024x512 .bf16) (w14 : arg14.IsWhole) (arg15 : Memref sig .tc .vmem S1024x256 .f32) (w15 : arg15.IsWhole) (arg16 : Memref sig .tc .vmem S1x1024 .f32) (w16 : arg16.IsWhole) (arg17 : Memref sig .tc .vmem S1x256 .f32) (w17 : arg17.IsWhole) (arg18 : Memref sig .tc .vmem S1x256 .f32) (w18 : arg18.IsWhole) (arg19 : Memref sig .tc .vmem S4x128x128 .f32) (w19 : arg19.IsWhole) (arg20 : Memref sig .tc .vmem S128x256 .f32) (w20 : arg20.IsWhole) (arg21 : Memref sig .tc .vmem S256x256 .f32) (w21 : arg21.IsWhole)
  (x0 : Vec Ideal S1024x1024 .f32) (x1 : Vec Ideal S1024x512 .f32) (x2 : Vec Ideal S1024x512 .f32) (x3 : Vec Ideal S1024x256 .f32) (x4 : Vec Ideal S4x128x128 .f32) (x5 : Vec Ideal S128x256 .f32) (x6 : Vec Ideal S256x256 .bf16) (x7 : Vec Ideal S1x256 .f32) (x8 : Vec Ideal S1x256 .f32) (x9 : Vec Ideal S1x1024 .f32) (x10 : Vec Ideal S1024x1024 .bf16)

variable (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i) (hc16 : ¬cond0_16 i) (hc17 : cond0_17 i) (xo15 : Vec Ideal S1x1024 .f32) (xo16 : Vec Ideal S1x256 .f32) (xo17 : Vec Ideal S1x256 .f32) (xo18 : Vec Ideal S4x128x128 .f32) (xo19 : Vec Ideal S128x256 .f32) (xo20 : Vec Ideal S256x256 .f32)

set_option maxHeartbeats 2000000 in
theorem stores_later {R} (hR : kernelRun0_B (F := Ideal) c i _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20 = R) :
    R.1 = headStores x0 x1 x9 x10
      ∧ R.2.1 = sumStores x0 x1 x9 x10
      ∧ R.2.2.1 = [⟨wideRect, factorsStore x0 x2 x4 x5 x8 x9 x10⟩]
      ∧ R.2.2.2.1 = [⟨tallRect, rowsStore x0 x3 x6 x7 x9 x10⟩]
      ∧ R.2.2.2.2.1 = [⟨longRect, outLater xo15 x0 x1 x2 x3 x4 x5 x6 x7 x8 x10⟩]
      ∧ R.2.2.2.2.2.1 = [⟨rowRect, k0_pay318 (gateFactors x0 x2 x4 x5 x8 x9 x10) (View.ld xo16 rowRect)⟩]
      ∧ R.2.2.2.2.2.2.1 = [⟨rowRect, k0_pay320 (scaleStore x0 x3 x6 x7 x9 x10) (View.ld xo17 rowRect)⟩]
      ∧ R.2.2.2.2.2.2.2.1 = matsLater xo18 x0 x2 x4 x5 x8 x9 x10
      ∧ R.2.2.2.2.2.2.2.2.1 = [⟨biasRect, k0_pay321 (biasStore x0 x2 x4 x5 x8 x9 x10) (View.ld xo19 biasRect)⟩]
      ∧ R.2.2.2.2.2.2.2.2.2.1 = [⟨poolRect, k0_pay323 (k0_pay304 (View.ld x3 tallRect)) (pooledGrad x0 x3 x6 x7 x9 x10) (View.ld xo20 poolRect)⟩] := by
  subst hR
  refine ⟨?_, ?_, ?_, ?_, ?_, ?_, ?_, ?_, ?_, ?_⟩ <;>
    (unfold kernelRun0_B; dsimp only; sl_unfold_words; simp only [loaded]; rfl)

end Cert.MixIdeal.Layer

end
-- ==== Proof.MixMath.lean ====
module

public import proofs.«01_k».proof.Proof.NormMath

@[expose] public section

noncomputable section

/-! The gradient of the layer which joins attention, the spatial gate and the pool before the output
product, over the real numbers. A row is a chunk and a position in it, a column a head and a lane of it. -/

namespace Cert.MixMath

open Cert.NormMath

/-- The head of a column, -/
def head (l : Fin 256) : Fin 4 := ⟨l.val / 64, by omega⟩

/-- its lane in the head, -/
def lane (l : Fin 256) : Fin 64 := ⟨l.val % 64, by omega⟩

/-- and the column of both. -/
def col (h : Fin 4) (d : Fin 64) : Fin 256 := ⟨h.val * 64 + d.val, by omega⟩

/-- The chunk of a row, -/
def chunk (i : Fin 8192) : Fin 64 := ⟨i.val / 128, by omega⟩

/-- its position in the chunk, -/
def pos (i : Fin 8192) : Fin 128 := ⟨i.val % 128, by omega⟩

/-- and the row of both. -/
def row (c : Fin 64) (t : Fin 128) : Fin 8192 := ⟨c.val * 128 + t.val, by omega⟩

/-- The first half of the joined columns, -/
def fst (k : Fin 512) : Fin 1024 := ⟨k.val, by omega⟩

/-- the third quarter, -/
def mid (k : Fin 256) : Fin 1024 := ⟨512 + k.val, by omega⟩

/-- and the last. -/
def lst (k : Fin 256) : Fin 1024 := ⟨768 + k.val, by omega⟩

/-- A column of a head of the attention. -/
def wide (h : Fin 4) (d : Fin 128) : Fin 512 := ⟨h.val * 128 + d.val, by omega⟩

theorem head_col (h : Fin 4) (d : Fin 64) : head (col h d) = h := Fin.ext (by show (h.val * 64 + d.val) / 64 = h.val; omega)

theorem lane_col (h : Fin 4) (d : Fin 64) : lane (col h d) = d := Fin.ext (by show (h.val * 64 + d.val) % 64 = d.val; omega)

theorem col_head (l : Fin 256) : col (head l) (lane l) = l := Fin.ext (by show l.val / 64 * 64 + l.val % 64 = l.val; omega)

/-- The columns are those of the heads. -/
def columns : Fin 4 × Fin 64 ≃ Fin 256 where
  toFun p := col p.1 p.2
  invFun l := (head l, lane l)
  left_inv p := Prod.ext (head_col _ _) (lane_col _ _)
  right_inv l := col_head l

/-- A sum over the columns of one head. -/
theorem sum_head (h : Fin 4) (f : Fin 256 → ℝ) : ∑ l, (if head l = h then f l else 0) = ∑ d, f (col h d) := by
  rw [← columns.sum_comp, Fintype.sum_prod_type]
  rw [Finset.sum_eq_single h]
  · exact Finset.sum_congr rfl fun d _ => if_pos (head_col h d)
  · exact fun b _ hb => Finset.sum_eq_zero fun d _ => if_neg fun e => hb ((head_col b d).symm.trans e)
  · exact fun hn => absurd (Finset.mem_univ h) hn

/-- The rows, the factors and matrices, and the gradient at the layer's output. -/
structure Args where
  o : Fin 8192 → Fin 512 → ℝ
  u : Fin 8192 → Fin 256 → ℝ
  v : Fin 8192 → Fin 256 → ℝ
  m : Fin 8192 → Fin 256 → ℝ
  ws : Fin 4 → Fin 128 → Fin 128 → ℝ
  bs : Fin 4 → Fin 128 → ℝ
  wp : Fin 4 → Fin 64 → Fin 64 → ℝ
  ps : Fin 256 → ℝ
  gv : Fin 256 → ℝ
  ga : Fin 512 → ℝ
  gg : Fin 256 → ℝ
  gp : Fin 256 → ℝ
  wo : Fin 1024 → Fin 1024 → ℝ
  dx : Fin 8192 → Fin 1024 → ℝ

namespace Args

variable (A : Args)

/-- The gradient at the joined columns. -/
def dmix (i : Fin 8192) (k : Fin 1024) : ℝ := ∑ j, A.dx i j * A.wo k j

/-- The quotient the gate's factors meet, -/
def vq (i : Fin 8192) (l : Fin 256) : ℝ := A.v i l * inv (A.v i)

/-- the normed rows of the gate, -/
def vn (i : Fin 8192) (l : Fin 256) : ℝ := A.vq i l * A.gv l

/-- the matrix along the positions, below its diagonal, -/
def wl (h : Fin 4) (t s : Fin 128) : ℝ := if s ≤ t then A.ws h t s else 0

/-- the gate, -/
def zt (c : Fin 64) (t : Fin 128) (h : Fin 4) (d : Fin 64) : ℝ := (∑ s, A.vn (row c s) (col h d) * A.wl h t s) + A.bs h t

/-- by row and column, -/
def zc (i : Fin 8192) (l : Fin 256) : ℝ := A.zt (chunk i) (pos i) (head l) (lane l)

/-- and the gated rows. -/
def gm (i : Fin 8192) (l : Fin 256) : ℝ := A.u i l * A.zc i l

/-- The pooled product, -/
def pw (i : Fin 8192) (l : Fin 256) : ℝ := ∑ c, A.wp (head l) c (lane l) * A.m i (col (head l) c)

/-- and what it is scaled to. -/
def po (i : Fin 8192) (l : Fin 256) : ℝ := A.pw i l * A.ps l

/-- The gradient at the attention, -/
def dO (i : Fin 8192) (k : Fin 512) : ℝ := grad (A.o i) (fun e => A.dmix i (fst e) * A.ga e) k

/-- its sum with the attention over a head, -/
def dl (h : Fin 4) (i : Fin 8192) : ℝ := ∑ d, A.dO i (wide h d) * A.o i (wide h d)

/-- the gradient at the gated rows, -/
def dgm (i : Fin 8192) (l : Fin 256) : ℝ := grad (A.gm i) (fun e => A.dmix i (mid e) * A.gg e) l

/-- at the factor of the gate, -/
def du (i : Fin 8192) (l : Fin 256) : ℝ := A.dgm i l * A.zc i l

/-- at the gate, -/
def dzc (i : Fin 8192) (l : Fin 256) : ℝ := A.u i l * A.dgm i l

/-- at the normed rows of the gate, -/
def dvt (c : Fin 64) (s : Fin 128) (h : Fin 4) (d : Fin 64) : ℝ := ∑ t, A.dzc (row c t) (col h d) * A.wl h t s

/-- by row and column, -/
def dvn (i : Fin 8192) (l : Fin 256) : ℝ := A.dvt (chunk i) (pos i) (head l) (lane l)

/-- at the rows of the gate, -/
def dv (i : Fin 8192) (l : Fin 256) : ℝ := grad (A.v i) (fun e => A.dvn i e * A.gv e) l

/-- at the scaled pool, -/
def dpo (i : Fin 8192) (l : Fin 256) : ℝ := grad (A.po i) (fun e => A.dmix i (lst e) * A.gp e) l

/-- at the pooled product, -/
def dpw (i : Fin 8192) (l : Fin 256) : ℝ := A.dpo i l * A.ps l

/-- and at the rows of the pool. -/
def dm (i : Fin 8192) (l : Fin 256) : ℝ := ∑ d, A.dpw i (col (head l) d) * A.wp (head l) (lane l) d

/-- What the factors of the three norms are multiplied with. -/
def quot (i : Fin 8192) (k : Fin 1024) : ℝ :=
  if h : k.val < 512 then A.o i ⟨k.val, h⟩ * inv (A.o i)
  else if h' : k.val < 768 then A.gm i ⟨k.val - 512, by omega⟩ * inv (A.gm i)
  else A.po i ⟨k.val - 768, by omega⟩ * inv (A.po i)

/-- What a row adds at the factors of the three norms, -/
def dgoRow (i : Fin 8192) (k : Fin 1024) : ℝ := A.dmix i k * A.quot i k

/-- at those of the gate's norm, -/
def dgvRow (i : Fin 8192) (l : Fin 256) : ℝ := A.dvn i l * A.vq i l

/-- and at the scale of the pool. -/
def dpsRow (i : Fin 8192) (l : Fin 256) : ℝ := A.dpo i l * A.pw i l

/-- What a chunk adds at the matrices along the positions. -/
def dwsChunk (c : Fin 64) (h : Fin 4) (t s : Fin 128) : ℝ := ∑ d, A.dzc (row c t) (col h d) * A.vn (row c s) (col h d)

def dgo (k : Fin 1024) : ℝ := ∑ i, A.dgoRow i k

def dgv (l : Fin 256) : ℝ := ∑ i, A.dgvRow i l

def dps (l : Fin 256) : ℝ := ∑ i, A.dpsRow i l

def dws (h : Fin 4) (t s : Fin 128) : ℝ := if s ≤ t then ∑ c, A.dwsChunk c h t s else 0

def dbs (t : Fin 128) (l : Fin 256) : ℝ := ∑ c, A.dzc (row c t) l

def dwbd (k d : Fin 256) : ℝ := ∑ i, A.m i k * A.dpw i d

/-- The pool's matrix with its blocks along the diagonal. -/
def wbd (k d : Fin 256) : ℝ := if head k = head d then A.wp (head d) (lane k) (lane d) else 0

theorem pw_wbd (i : Fin 8192) (d : Fin 256) : ∑ k, A.m i k * A.wbd k d = A.pw i d := by
  have e : ∀ k, A.m i k * A.wbd k d = if head k = head d then A.wp (head d) (lane k) (lane d) * A.m i k else 0 := fun k => by
    unfold wbd
    split_ifs
    · exact mul_comm _ _
    · exact mul_zero _
  rw [Finset.sum_congr rfl fun k _ => e k, sum_head]
  exact Finset.sum_congr rfl fun c _ => by rw [lane_col]

theorem dm_wbd (i : Fin 8192) (k : Fin 256) : ∑ d, A.dpw i d * A.wbd k d = A.dm i k := by
  have e : ∀ d, A.dpw i d * A.wbd k d = if head d = head k then A.dpw i d * A.wp (head k) (lane k) (lane d) else 0 := fun d => by
    unfold wbd
    by_cases h : head k = head d
    · rw [if_pos h, if_pos h.symm, h]
    · rw [if_neg h, if_neg fun e => h e.symm, mul_zero]
  rw [Finset.sum_congr rfl fun d _ => e d, sum_head]
  exact Finset.sum_congr rfl fun c _ => by rw [lane_col]

end Args

end Cert.MixMath
-- ==== Proof.MixBody.lean ====
module

public import proofs.«01_k».proof.Proof.MixWords
public import proofs.«01_k».proof.Proof.MixMath

@[expose] public section

set_option maxRecDepth 16384

noncomputable section

/-! What the body's operations are of real arguments. -/

namespace Cert.MixIdeal.Layer

open Cert.MixIdeal Cert.MixIdeal.Gen Idealize.ShloMosaic Idealize.ShloMosaic.TcCoe
open Cert.AttnMath (coe_sum word_zero)
open Cert.NormMath Cert.MixMath

theorem word_256th : Ideal.ofBits .f32 0x3B800000#32 = ((1 / 256 : ℝ) : EReal) := by
  simp [Ideal.ofBits, Ideal.ieee, -EReal.coe_mul]; norm_num

theorem word_512th : Ideal.ofBits .f32 0x3B000000#32 = ((1 / 512 : ℝ) : EReal) := by
  simp [Ideal.ofBits, Ideal.ieee, -EReal.coe_mul]; norm_num

/-! ### Rows and groups -/

/-- A block's row, -/
def spot (p : Fin 8) (r : Fin 1024) : Fin 8192 := ⟨p.val * 1024 + r.val, by omega⟩

/-- a block's chunk, -/
def part (p k : Fin 8) : Fin 64 := ⟨p.val * 8 + k.val, by omega⟩

/-- and a group's row in the block. -/
def inner (k : Fin 8) (t : Fin 128) : Fin 1024 := ⟨k.val * 128 + t.val, by omega⟩

theorem spot_inner (p k : Fin 8) (t : Fin 128) : spot p (inner k t) = row (part p k) t := by
  apply Fin.ext; show p.val * 1024 + (k.val * 128 + t.val) = (p.val * 8 + k.val) * 128 + t.val; omega

theorem exists_inner (r : Fin 1024) : ∃ k t, r = inner k t :=
  ⟨⟨r.val / 128, by omega⟩, ⟨r.val % 128, by omega⟩, by apply Fin.ext; show r.val = r.val / 128 * 128 + r.val % 128; omega⟩

theorem chunk_part (p k : Fin 8) (t : Fin 128) : chunk (spot p (inner k t)) = part p k := by
  rw [spot_inner]; apply Fin.ext; show ((p.val * 8 + k.val) * 128 + t.val) / 128 = p.val * 8 + k.val; omega

theorem pos_part (p k : Fin 8) (t : Fin 128) : pos (spot p (inner k t)) = t := by
  rw [spot_inner]; apply Fin.ext; show ((p.val * 8 + k.val) * 128 + t.val) % 128 = t.val; omega

theorem group_at {f : FTy} (k : Fin 8) (v : FVec Ideal S1024x256 f) (t : Fin 128) (l : Fin 256) : groupOf k v (ix2 t l) = v (ix2 (inner k t) l) := by
  unfold groupOf
  pointwise
  rfl

theorem head_at (h : Fin 4) (v : FVec Ideal S1024x512 .f32) (r : Fin 1024) (d : Fin 128) : headOf h v (ix2 r d) = v (ix2 r (wide h d)) := by
  unfold headOf
  pointwise
  rfl

theorem stack_at (f : Fin 8 → FVec Ideal S128x256 .f32) (k : Fin 8) (t : Fin 128) (l : Fin 256) : stack f (ix2 (inner k t) l) = f k (ix2 t l) := by
  unfold stack
  refine concatenate_ofFn_apply (t := S1024x256) (s₁ := S128x256) 0 f _ rfl 128 rfl (ix2 (inner k t) l : S1024x256.Idx) k ?_ (ix2 t l) ?_ ?_
  · show (k.val * 128 + t.val) / 128 = k.val; omega
  · show t.val = (k.val * 128 + t.val) % 128; omega
  · intro b hb
    match b, hb with
    | ⟨0, _⟩, hb => exact absurd rfl hb
    | ⟨1, _⟩, _ => rfl

/-! ### The masks -/

theorem low_at (t s : Fin 128) : low (ix2 t s) = if s ≤ t then 1#1 else 0#1 := by
  have e : low (ix2 t s) = IntOp.cmpi .sle (BitVec.ofNat 32 s.val) (BitVec.ofNat 32 t.val) := by
    unfold low k0_pay28
    pointwise
  have ht := t.isLt
  have hs := s.isLt
  have it : (BitVec.ofNat 32 t.val).toInt = t.val := by rw [BitVec.toInt_eq_toNat_cond, BitVec.toNat_ofNat]; omega
  have is : (BitVec.ofNat 32 s.val).toInt = s.val := by rw [BitVec.toInt_eq_toNat_cond, BitVec.toNat_ofNat]; omega
  have k : (BitVec.ofNat 32 s.val).sle (BitVec.ofNat 32 t.val) = decide (s ≤ t) := by
    rw [BitVec.sle_eq_decide, it, is]
    exact decide_eq_decide.mpr (by rw [Fin.le_def]; omega)
  rw [e]
  show BitVec.ofBool ((BitVec.ofNat 32 s.val).sle (BitVec.ofNat 32 t.val)) = _
  rw [k]
  split <;> rename_i h <;> simp [h]

theorem lanes_at (h : Fin 4) (t : Fin 128) (l : Fin 256) : lanes (BitVec.ofNat 32 h.val) (ix2 t l) = if head l = h then 1#1 else 0#1 := by
  unfold lanes
  pointwise
  revert h l
  decide +kernel

/-! ### The norm of a row, and back through it -/

section Norm

theorem norm_words {n : ℕ} {S : Fin n → EReal} {x : Fin n → ℝ} {c : EReal} (hc : c = ((1 / (n : ℝ) : ℝ) : EReal)) (h : ∀ k, S k = ((x k : ℝ) : EReal)) :
    Ideal.rsqrt ((∑ k, S k * S k) * c + Ideal.ofBits .f32 0x358637BD#32) = (inv x : EReal) := by
  rw [hc, word_eps]
  simp only [h, ← EReal.coe_mul, coe_sum, ← EReal.coe_add]
  rw [← rsqrt_square, square, mul_one_div]

theorem grad_words {n : ℕ} {x y : Fin n → ℝ} {c I : EReal} {D Q : Fin n → EReal} (hc : c = ((1 / (n : ℝ) : ℝ) : EReal)) (hI : I = (inv x : EReal))
    (hD : ∀ k, D k = (y k : EReal)) (hQ : ∀ k, Q k = ((x k * inv x : ℝ) : EReal)) (d : Fin n) :
    I * (D d - Q d * ((∑ k, D k * Q k) * c)) = (grad x y d : EReal) := by
  rw [hc, hI]
  simp only [hD, hQ, ← EReal.coe_mul, coe_sum, ← EReal.coe_sub]
  refine congrArg (fun z : ℝ => (z : EReal)) ?_
  unfold grad
  rw [mul_one_div]

theorem cast_256th : Ideal.ofBits .f32 0x3B800000#32 = ((1 / ((256 : ℕ) : ℝ) : ℝ) : EReal) := by
  rw [word_256th]; norm_num

theorem cast_512th : Ideal.ofBits .f32 0x3B000000#32 = ((1 / ((512 : ℕ) : ℝ) : ℝ) : EReal) := by
  rw [word_512th]; norm_num

variable (x d : FVec Ideal S1024x256 .f32) {X D : Fin 1024 → Fin 256 → ℝ} (hx : ∀ r l, x (ix2 r l) = (X r l : EReal)) (hd : ∀ r l, d (ix2 r l) = (D r l : EReal))

include hx

theorem inv_at (r : Fin 1024) : invOf x (ix2 r 0) = (inv (X r) : EReal) := by
  have e : invOf x (ix2 r 0) = Ideal.rsqrt ((∑ k, x (ix2 r k) * x (ix2 r k)) * Ideal.ofBits .f32 0x3B800000#32 + Ideal.ofBits .f32 0x358637BD#32) := by
    unfold invOf
    pointwise
  rw [e]
  exact norm_words cast_256th (hx r)

theorem quot_at (r : Fin 1024) (l : Fin 256) : quotOf x (ix2 r l) = ((X r l * inv (X r) : ℝ) : EReal) := by
  have e : quotOf x (ix2 r l) = x (ix2 r l) * invOf x (ix2 r 0) := by
    unfold quotOf
    generalize invOf x = v
    pointwise
  rw [e, hx, inv_at x hx, ← EReal.coe_mul]

include hd

theorem back_at (r : Fin 1024) (l : Fin 256) : backOf x d (ix2 r l) = (grad (X r) (D r) l : EReal) := by
  have e : backOf x d (ix2 r l) = invOf x (ix2 r 0) * (d (ix2 r l) - quotOf x (ix2 r l) * ((∑ k, d (ix2 r k) * quotOf x (ix2 r k)) * Ideal.ofBits .f32 0x3B800000#32)) := by
    unfold backOf k0_pay118
    generalize invOf x = u
    generalize quotOf x = v
    pointwise
  rw [e]
  exact grad_words cast_256th (inv_at x hx r) (hd r) (quot_at x hx r) l

end Norm

section Rows

variable (a b : FVec Ideal S1024x256 .f32) {X Y : Fin 1024 → Fin 256 → ℝ} (ha : ∀ r l, a (ix2 r l) = (X r l : EReal)) (hb : ∀ r l, b (ix2 r l) = (Y r l : EReal))

include ha hb in
theorem prod_at (r : Fin 1024) (l : Fin 256) : mulf a b (ix2 r l) = ((X r l * Y r l : ℝ) : EReal) := by
  have e : mulf a b (ix2 r l) = a (ix2 r l) * b (ix2 r l) := by pointwise
  rw [e, ha, hb, ← EReal.coe_mul]

end Rows

/-! ### The product along the positions -/

theorem pick (k : Fin 4) (f : Fin 4 → ℝ) (b : ℝ) :
    b + (if k = 0 then f 0 else 0) + (if k = 1 then f 1 else 0) + (if k = 2 then f 2 else 0) + (if k = 3 then f 3 else 0) = b + f k := by
  fin_cases k <;> simp

theorem select_bit (q : Prop) [Decidable q] (a : ℝ) : (Scalar.select (if q then 1#1 else 0#1) (a : EReal) (0 : EReal) : EReal) = ((if q then a else 0 : ℝ) : EReal) := by
  split_ifs <;> rfl

section Steps

variable (h : Fin 4) {w : FVec Ideal S128x128 .bf16} {v : FVec Ideal S128x256 .bf16} {s : FVec Ideal S128x256 .f32}
  {W : Fin 128 → Fin 128 → ℝ} {V : Fin 128 → Fin 256 → ℝ} (hw : ∀ t s, w (ix2 t s) = (W t s : EReal)) (hv : ∀ t l, v (ix2 t l) = (V t l : EReal))

include hw hv

theorem gateStep_at {t : Fin 128} {l : Fin 256} {S : ℝ} (hs : s (ix2 t l) = (S : EReal)) :
    gateStep (BitVec.ofNat 32 h.val) w v s (ix2 t l) = ((S + if head l = h then ∑ k, W t k * V k l else 0 : ℝ) : EReal) := by
  have e : gateStep (BitVec.ofNat 32 h.val) w v s (ix2 t l)
      = s (ix2 t l) + Scalar.select (lanes (BitVec.ofNat 32 h.val) (ix2 t l)) (∑ k, w (ix2 t k) * v (ix2 k l)) (Ideal.ofBits .f32 0x00000000#32) := by
    unfold gateStep zeros
    generalize lanes (BitVec.ofNat 32 h.val) = m
    pointwise
  have q : ∑ k, w (ix2 t k) * v (ix2 k l) = ((∑ k, W t k * V k l : ℝ) : EReal) := by
    simp only [hw, hv, ← EReal.coe_mul, coe_sum]
  rw [e, lanes_at, q, word_zero, select_bit, hs, ← EReal.coe_add]

theorem backStep_at {t : Fin 128} {l : Fin 256} {S : ℝ} (hs : s (ix2 t l) = (S : EReal)) :
    backStep (BitVec.ofNat 32 h.val) w v s (ix2 t l) = ((S + if head l = h then ∑ k, W k t * V k l else 0 : ℝ) : EReal) := by
  have e : backStep (BitVec.ofNat 32 h.val) w v s (ix2 t l)
      = s (ix2 t l) + Scalar.select (lanes (BitVec.ofNat 32 h.val) (ix2 t l)) (∑ k, w (ix2 k t) * v (ix2 k l)) (Ideal.ofBits .f32 0x00000000#32) := by
    unfold backStep zeros
    generalize lanes (BitVec.ofNat 32 h.val) = m
    pointwise
  have q : ∑ k, w (ix2 k t) * v (ix2 k l) = ((∑ k, W k t * V k l : ℝ) : EReal) := by
    simp only [hw, hv, ← EReal.coe_mul, coe_sum]
  rw [e, lanes_at, q, word_zero, select_bit, hs, ← EReal.coe_add]

end Steps

theorem weightStep_at (h : Fin 4) {z : FVec Ideal S128x256 .f32} {v : FVec Ideal S128x256 .bf16} {s : FVec Ideal S128x128 .f32}
    {Z V : Fin 128 → Fin 256 → ℝ} (hz : ∀ t l, z (ix2 t l) = (Z t l : EReal)) (hv : ∀ t l, v (ix2 t l) = (V t l : EReal)) {t t' : Fin 128} {S : ℝ} (hs : s (ix2 t t') = (S : EReal)) :
    weightStep (BitVec.ofNat 32 h.val) z v s (ix2 t t') = ((S + ∑ d, Z t (col h d) * V t' (col h d) : ℝ) : EReal) := by
  have e : weightStep (BitVec.ofNat 32 h.val) z v s (ix2 t t')
      = s (ix2 t t') + ∑ l, Scalar.select (lanes (BitVec.ofNat 32 h.val) (ix2 t l)) (z (ix2 t l)) (Ideal.ofBits .f32 0x00000000#32) * v (ix2 t' l) := by
    unfold weightStep zeros
    generalize lanes (BitVec.ofNat 32 h.val) = m
    pointwise
  have q : ∀ l, Scalar.select (lanes (BitVec.ofNat 32 h.val) (ix2 t l)) (z (ix2 t l)) (Ideal.ofBits .f32 0x00000000#32) * v (ix2 t' l)
      = ((if head l = h then Z t l * V t' l else 0 : ℝ) : EReal) := fun l => by
    rw [lanes_at, hz, hv, word_zero, select_bit, ← EReal.coe_mul, ite_mul, zero_mul]
  rw [e, Finset.sum_congr rfl fun l _ => q l, coe_sum, sum_head, hs, ← EReal.coe_add]

theorem eight_at {s : Shape} {z : FVec Ideal s .f32} {f : Fin 8 → FVec Ideal s .f32 → FVec Ideal s .f32} {j : s.Idx} {g : Fin 8 → ℝ} (hz : z j = ((0 : ℝ) : EReal))
    (hf : ∀ (k : Fin 8) (v : FVec Ideal s .f32) (S : ℝ), v j = (S : EReal) → f k v j = ((S + g k : ℝ) : EReal)) : eight z f j = ((∑ k, g k : ℝ) : EReal) := by
  refine (hf 7 _ _ (hf 6 _ _ (hf 5 _ _ (hf 4 _ _ (hf 3 _ _ (hf 2 _ _ (hf 1 _ _ (hf 0 _ _ hz)))))))).trans ?_
  rw [Fin.sum_univ_eight, zero_add]

end Cert.MixIdeal.Layer

end
-- ==== Proof.MixReal.lean ====
module

public import proofs.«01_k».proof.Proof.MixStores
public import proofs.«01_k».proof.Proof.MixBody

@[expose] public section

set_option maxRecDepth 16384

noncomputable section

/-! What a block's stores are where what is loaded is real. -/

namespace Cert.MixIdeal.Layer

open Cert.MixIdeal Cert.MixIdeal.Gen Idealize.ShloMosaic Idealize.ShloMosaic.TcCoe
open Cert.AttnMath (coe_sum word_zero)
open Cert.NormMath Cert.MixMath

/-- What the block `p` loads. -/
structure Loaded (A : Args) (p : Fin 8) (dx : Vec Ideal S1024x1024 .f32) (o uv : Vec Ideal S1024x512 .f32) (m : Vec Ideal S1024x256 .f32) (w : Fin 4 → Vec Ideal S1x128x128 .f32)
    (b : Vec Ideal S128x256 .f32) (wb : Vec Ideal S256x256 .bf16) (ps gv : Vec Ideal S1x256 .f32) (g : Vec Ideal S1x1024 .f32) (wo : Vec Ideal S1024x1024 .bf16) : Prop where
  dx : ∀ r j, dx (ix2 r j) = (A.dx (spot p r) j : EReal)
  o : ∀ r k, o (ix2 r k) = (A.o (spot p r) k : EReal)
  u : ∀ r (l : Fin 256), uv (ix2 r (⟨l.val, by omega⟩ : Fin 512)) = (A.u (spot p r) l : EReal)
  v : ∀ r (l : Fin 256), uv (ix2 r (⟨256 + l.val, by omega⟩ : Fin 512)) = (A.v (spot p r) l : EReal)
  m : ∀ r l, m (ix2 r l) = (A.m (spot p r) l : EReal)
  w : ∀ h t s, w h (ix3 0 t s) = (A.ws h t s : EReal)
  b : ∀ t l, b (ix2 t l) = (A.bs (head l) t : EReal)
  wb : ∀ k d, wb (ix2 k d) = (A.wbd k d : EReal)
  ps : ∀ l, ps (ix2 0 l) = (A.ps l : EReal)
  gv : ∀ l, gv (ix2 0 l) = (A.gv l : EReal)
  ga : ∀ k, g (ix2 0 (fst k)) = (A.ga k : EReal)
  gg : ∀ k, g (ix2 0 (mid k)) = (A.gg k : EReal)
  gp : ∀ k, g (ix2 0 (lst k)) = (A.gp k : EReal)
  wo : ∀ k j, wo (ix2 k j) = (A.wo k j : EReal)

section Real

variable {A : Args} {p : Fin 8} {dx : Vec Ideal S1024x1024 .f32} {o uv : Vec Ideal S1024x512 .f32} {m : Vec Ideal S1024x256 .f32} {w : Fin 4 → Vec Ideal S1x128x128 .f32}
  {b : Vec Ideal S128x256 .f32} {wb : Vec Ideal S256x256 .bf16} {ps gv : Vec Ideal S1x256 .f32} {g : Vec Ideal S1x1024 .f32} {wo : Vec Ideal S1024x1024 .bf16}
  (H : Loaded A p dx o uv m w b wb ps gv g wo)

include H

/-! ### The gradient at the three parts -/

theorem dmix_at (r k : Fin 1024) : k0_pay5 dx wo (ix2 r k) = (A.dmix (spot p r) k : EReal) := by
  have e : k0_pay5 dx wo (ix2 r k) = ∑ j, dx (ix2 r j) * wo (ix2 k j) := by
    unfold k0_pay5
    pointwise
  rw [e]
  simp only [H.dx, H.wo, ← EReal.coe_mul, coe_sum]
  rfl

theorem o_inv (r : Fin 1024) : k0_pay7 o (ix2 r 0) = (inv (A.o (spot p r)) : EReal) := by
  have e : k0_pay7 o (ix2 r 0) = Ideal.rsqrt ((∑ k, o (ix2 r k) * o (ix2 r k)) * Ideal.ofBits .f32 0x3B000000#32 + Ideal.ofBits .f32 0x358637BD#32) := by
    unfold k0_pay7 k0_pay6
    pointwise
  rw [e]
  exact norm_words cast_512th (H.o r)

theorem o_quot (r : Fin 1024) (k : Fin 512) : k0_pay8 o (ix2 r k) = ((A.o (spot p r) k * inv (A.o (spot p r)) : ℝ) : EReal) := by
  have e : k0_pay8 o (ix2 r k) = o (ix2 r k) * k0_pay7 o (ix2 r 0) := by
    unfold k0_pay8 k0_pay6
    generalize k0_pay7 (F := Ideal) o = v
    pointwise
  rw [e, H.o, o_inv H, ← EReal.coe_mul]

theorem do_at (r : Fin 1024) (k : Fin 512) : k0_pay10 g dx wo o (ix2 r k) = (A.dO (spot p r) k : EReal) := by
  have e : k0_pay10 g dx wo o (ix2 r k) = k0_pay7 o (ix2 r 0) * (k0_pay5 dx wo (ix2 r (fst k)) * g (ix2 0 (fst k))
      - k0_pay8 o (ix2 r k) * ((∑ e, k0_pay5 dx wo (ix2 r (fst e)) * g (ix2 0 (fst e)) * k0_pay8 o (ix2 r e)) * Ideal.ofBits .f32 0x3B000000#32)) := by
    unfold k0_pay10 k0_pay9 k0_pay4
    generalize k0_pay7 (F := Ideal) o = u
    generalize k0_pay8 (F := Ideal) o = v
    generalize k0_pay5 (F := Ideal) dx wo = d
    pointwise
    rfl
  rw [e]
  exact grad_words (y := fun e => A.dmix (spot p r) (fst e) * A.ga e) (D := fun e => k0_pay5 dx wo (ix2 r (fst e)) * g (ix2 0 (fst e))) cast_512th (o_inv H r) (fun e => by show k0_pay5 dx wo (ix2 r (fst e)) * g (ix2 0 (fst e)) = _; rw [dmix_at H, H.ga, ← EReal.coe_mul]) (o_quot H r) k

theorem dmid_at (r : Fin 1024) (l : Fin 256) : k0_pay115 (k0_pay5 dx wo) (ix2 r l) = (A.dmix (spot p r) (mid l) : EReal) := by
  have e : k0_pay115 (k0_pay5 dx wo) (ix2 r l) = k0_pay5 dx wo (ix2 r (mid l)) := by
    unfold k0_pay115
    generalize k0_pay5 (F := Ideal) dx wo = d
    pointwise
    rfl
  rw [e, dmix_at H]

theorem dlst_at (r : Fin 1024) (l : Fin 256) : k0_pay309 (k0_pay5 dx wo) (ix2 r l) = (A.dmix (spot p r) (lst l) : EReal) := by
  have e : k0_pay309 (k0_pay5 dx wo) (ix2 r l) = k0_pay5 dx wo (ix2 r (lst l)) := by
    unfold k0_pay309
    generalize k0_pay5 (F := Ideal) dx wo = d
    pointwise
    rfl
  rw [e, dmix_at H]

theorem dmid_scaled (r : Fin 1024) (l : Fin 256) : k0_pay116 (k0_pay4 g) (k0_pay5 dx wo) (ix2 r l) = ((A.dmix (spot p r) (mid l) * A.gg l : ℝ) : EReal) := by
  have e : k0_pay116 (k0_pay4 g) (k0_pay5 dx wo) (ix2 r l) = k0_pay115 (k0_pay5 dx wo) (ix2 r l) * g (ix2 0 (mid l)) := by
    unfold k0_pay116 k0_pay4
    generalize k0_pay115 (F := Ideal) (k0_pay5 dx wo) = d
    pointwise
    rfl
  rw [e, dmid_at H, H.gg, ← EReal.coe_mul]

theorem dlst_scaled (r : Fin 1024) (l : Fin 256) : k0_pay310 (k0_pay4 g) (k0_pay5 dx wo) (ix2 r l) = ((A.dmix (spot p r) (lst l) * A.gp l : ℝ) : EReal) := by
  have e : k0_pay310 (k0_pay4 g) (k0_pay5 dx wo) (ix2 r l) = k0_pay309 (k0_pay5 dx wo) (ix2 r l) * g (ix2 0 (lst l)) := by
    unfold k0_pay310 k0_pay4
    generalize k0_pay309 (F := Ideal) (k0_pay5 dx wo) = d
    pointwise
    rfl
  rw [e, dlst_at H, H.gp, ← EReal.coe_mul]

/-! ### The gate -/

theorem u_at (r : Fin 1024) (l : Fin 256) : k0_pay23 uv (ix2 r l) = (A.u (spot p r) l : EReal) := by
  have e : k0_pay23 uv (ix2 r l) = uv (ix2 r (⟨l.val, by omega⟩ : Fin 512)) := by
    unfold k0_pay23 k0_pay22
    pointwise
  rw [e, H.u]

theorem v_at (r : Fin 1024) (l : Fin 256) : k0_pay24 uv (ix2 r l) = (A.v (spot p r) l : EReal) := by
  have e : k0_pay24 uv (ix2 r l) = uv (ix2 r (⟨256 + l.val, by omega⟩ : Fin 512)) := by
    unfold k0_pay24 k0_pay22
    pointwise
  rw [e, H.v]

theorem vq_at (r : Fin 1024) (l : Fin 256) : k0_pay26 uv (ix2 r l) = (A.vq (spot p r) l : EReal) := by
  have e : k0_pay26 (F := Ideal) uv = quotOf (k0_pay24 uv) := rfl
  rw [e]
  exact quot_at _ (v_at H) r l

theorem vn_at (r : Fin 1024) (l : Fin 256) : k0_pay27 uv gv (ix2 r l) = (A.vn (spot p r) l : EReal) := by
  have e : k0_pay27 uv gv (ix2 r l) = k0_pay26 uv (ix2 r l) * gv (ix2 0 l) := by
    unfold k0_pay27
    generalize k0_pay26 (F := Ideal) uv = v
    pointwise
  rw [e, vq_at H, H.gv, ← EReal.coe_mul]
  rfl

theorem low_mat (h : Fin 4) (t s : Fin 128) : lowOf w h (ix2 t s) = (A.wl h t s : EReal) := by
  have e : lowOf w h (ix2 t s) = Scalar.select (low (ix2 t s)) (w h (ix3 0 t s)) (Ideal.ofBits .f32 0x00000000#32) := by
    unfold lowOf k0_pay29
    generalize low = q
    pointwise
  rw [e, low_at, H.w, word_zero, select_bit]
  rfl

theorem group_vn (k : Fin 8) (t : Fin 128) (l : Fin 256) : groupOf k (k0_pay27 (F := Ideal) uv gv) (ix2 t l) = (A.vn (row (part p k) t) l : EReal) := by
  rw [group_at, vn_at H, spot_inner]

theorem gate_at (r : Fin 1024) (l : Fin 256) : gate uv w b gv (ix2 r l) = (A.zc (spot p r) l : EReal) := by
  obtain ⟨k, t, rfl⟩ := exists_inner r
  unfold gate
  rw [stack_at]
  have hb : k0_pay33 (F := Ideal) b (ix2 t l) = (A.bs (head l) t : EReal) := by
    rw [← H.b]
    unfold k0_pay33
    pointwise
  have hv := group_vn H k
  refine (gateStep_at 3 (low_mat H 3) hv (gateStep_at 2 (low_mat H 2) hv (gateStep_at 1 (low_mat H 1) hv (gateStep_at 0 (low_mat H 0) hv hb)))).trans ?_
  refine congrArg (fun z : ℝ => (z : EReal)) ?_
  rw [pick (head l) (fun h => ∑ s, A.wl h t s * A.vn (row (part p k) s) l)]
  unfold Args.zc Args.zt
  rw [chunk_part, pos_part, col_head, add_comm]
  exact congrArg (· + _) (Finset.sum_congr rfl fun s _ => mul_comm _ _)

theorem gated_at (r : Fin 1024) (l : Fin 256) : gated uv w b gv (ix2 r l) = (A.gm (spot p r) l : EReal) :=
  prod_at _ _ (u_at H) (gate_at H) r l

theorem dgm_at (r : Fin 1024) (l : Fin 256) : gatedGrad dx uv w b gv g wo (ix2 r l) = (A.dgm (spot p r) l : EReal) :=
  back_at _ _ (gated_at H) (dmid_scaled H) r l

theorem dzc_at (r : Fin 1024) (l : Fin 256) : gateGrad dx uv w b gv g wo (ix2 r l) = (A.dzc (spot p r) l : EReal) := by
  unfold gateGrad
  rw [prod_at _ _ (dgm_at H) (u_at H), mul_comm]
  rfl

theorem group_dzc (k : Fin 8) (t : Fin 128) (l : Fin 256) : gateGroup dx uv w b gv g wo k (ix2 t l) = (A.dzc (row (part p k) t) l : EReal) := by
  unfold gateGroup
  rw [group_at, dzc_at H, spot_inner]

theorem dvn_at (r : Fin 1024) (l : Fin 256) : normedGrad dx uv w b gv g wo (ix2 r l) = (A.dvn (spot p r) l : EReal) := by
  obtain ⟨k, t, rfl⟩ := exists_inner r
  unfold normedGrad
  rw [stack_at]
  have hb : zeros (ix2 t l) = ((0 : ℝ) : EReal) := word_zero
  have hv : ∀ t l, truncf .bf16 (gateGroup dx uv w b gv g wo k) bitsLt_bf16_f32 (ix2 t l) = (A.dzc (row (part p k) t) l : EReal) := fun t l => by
    rw [← group_dzc H k]
    generalize gateGroup dx uv w b gv g wo k = z
    pointwise
  refine (backStep_at 3 (low_mat H 3) hv (backStep_at 2 (low_mat H 2) hv (backStep_at 1 (low_mat H 1) hv (backStep_at 0 (low_mat H 0) hv hb)))).trans ?_
  refine congrArg (fun z : ℝ => (z : EReal)) ?_
  rw [pick (head l) (fun h => ∑ s, A.wl h s t * A.dzc (row (part p k) s) l), zero_add]
  unfold Args.dvn Args.dvt
  rw [chunk_part, pos_part, col_head]
  exact Finset.sum_congr rfl fun s _ => mul_comm _ _

theorem factors_at (r : Fin 1024) (k : Fin 512) : factorsGrad dx uv w b gv g wo (ix2 r k)
    = ((if h : k.val < 256 then A.du (spot p r) ⟨k.val, h⟩ else A.dv (spot p r) ⟨k.val - 256, by omega⟩ : ℝ) : EReal) := by
  have hd : ∀ r l, mulf (normedGrad dx uv w b gv g wo) (broadcastTo S1024x256 (shapeCast S1x256 gv shapeCasts_S1x256_S1x256) broadcasts_S1x256_S1024x256) (ix2 r l)
      = ((A.dvn (spot p r) l * A.gv l : ℝ) : EReal) := fun r l => by
    rw [EReal.coe_mul, ← dvn_at H, ← H.gv]
    generalize normedGrad dx uv w b gv g wo = z
    pointwise
  have e : factorsGrad dx uv w b gv g wo = truncf .bf16 (concatenate S1024x512 1 [⟨S1024x256, mulf (gatedGrad dx uv w b gv g wo) (gate uv w b gv)⟩,
      ⟨S1024x256, backOf (k0_pay24 uv) (mulf (normedGrad dx uv w b gv g wo) (broadcastTo S1024x256 (shapeCast S1x256 gv shapeCasts_S1x256_S1x256) broadcasts_S1x256_S1024x256))⟩]
      concatenates_S1024x256_S1024x256_S1024x512_d1 : FVec Ideal S1024x512 .f32) bitsLt_bf16_f32 := rfl
  have h1 := prod_at _ _ (dgm_at H) (gate_at H)
  have h2 := back_at _ _ (v_at H) hd
  rw [e]
  clear e
  generalize mulf (gatedGrad dx uv w b gv g wo) (gate uv w b gv) = y at h1 ⊢
  generalize backOf _ _ = z at h2 ⊢
  pointwise
  by_cases h : k.val < 256
  · rw [dif_pos h, dif_pos h, h1]; rfl
  · rw [dif_neg h, dif_neg h, h2]; rfl

/-! ### The pool -/

theorem pw_at (r : Fin 1024) (l : Fin 256) : k0_pay305 m wb (ix2 r l) = (A.pw (spot p r) l : EReal) := by
  have e : k0_pay305 m wb (ix2 r l) = ∑ k, m (ix2 r k) * wb (ix2 k l) := by
    unfold k0_pay305 k0_pay304
    pointwise
  rw [e]
  simp only [H.m, H.wb, ← EReal.coe_mul, coe_sum]
  rw [A.pw_wbd]

theorem po_at (r : Fin 1024) (l : Fin 256) : k0_pay306 m wb ps (ix2 r l) = (A.po (spot p r) l : EReal) := by
  have e : k0_pay306 m wb ps (ix2 r l) = k0_pay305 m wb (ix2 r l) * ps (ix2 0 l) := by
    unfold k0_pay306
    generalize k0_pay305 (F := Ideal) m wb = z
    pointwise
  rw [e, pw_at H, H.ps, ← EReal.coe_mul]
  rfl

theorem dpo_at (r : Fin 1024) (l : Fin 256) : backOf (k0_pay306 m wb ps) (k0_pay310 (k0_pay4 g) (k0_pay5 dx wo)) (ix2 r l) = (A.dpo (spot p r) l : EReal) :=
  back_at _ _ (po_at H) (dlst_scaled H) r l

theorem dpw_at (r : Fin 1024) (l : Fin 256) : scaleBack ps (backOf (k0_pay306 m wb ps) (k0_pay310 (k0_pay4 g) (k0_pay5 dx wo))) (ix2 r l) = (A.dpw (spot p r) l : EReal) := by
  have h := dpo_at H
  generalize backOf _ _ = z at h ⊢
  have e : scaleBack ps z (ix2 r l) = z (ix2 r l) * ps (ix2 0 l) := by
    unfold scaleBack
    pointwise
  rw [e, h, H.ps, ← EReal.coe_mul]
  rfl

theorem dm_at (r : Fin 1024) (l : Fin 256) :
    poolBack (scaleBack ps (backOf (k0_pay306 m wb ps) (k0_pay310 (k0_pay4 g) (k0_pay5 dx wo)))) wb (ix2 r l) = (A.dm (spot p r) l : EReal) := by
  have h := dpw_at H
  generalize scaleBack _ _ = z at h ⊢
  have e : poolBack z wb (ix2 r l) = ∑ k, z (ix2 r k) * wb (ix2 l k) := by
    unfold poolBack
    pointwise
  rw [e]
  simp only [h, H.wb, ← EReal.coe_mul, coe_sum]
  rw [A.dm_wbd]

theorem wbd_at (k d : Fin 256) :
    k0_pay322 (k0_pay304 m) (scaleBack ps (backOf (k0_pay306 m wb ps) (k0_pay310 (k0_pay4 g) (k0_pay5 dx wo)))) (ix2 k d)
      = ((∑ r, A.m (spot p r) k * A.dpw (spot p r) d : ℝ) : EReal) := by
  have h := dpw_at H
  generalize scaleBack _ _ = z at h ⊢
  have e : k0_pay322 (k0_pay304 m) z (ix2 k d) = ∑ r, m (ix2 r k) * z (ix2 r d) := by
    unfold k0_pay322 k0_pay304
    pointwise
  rw [e]
  simp only [h, H.m, ← EReal.coe_mul, coe_sum]

/-! ### The sums over the block's rows -/

omit H in
theorem columns_at {a b : FVec Ideal S1024x256 .f32} {X Y : Fin 1024 → Fin 256 → ℝ} (ha : ∀ r l, a (ix2 r l) = (X r l : EReal)) (hb : ∀ r l, b (ix2 r l) = (Y r l : EReal)) (l : Fin 256) :
    columns a b (ix2 0 l) = ((∑ r, X r l * Y r l : ℝ) : EReal) := by
  have e : columns a b (ix2 0 l) = ∑ r, a (ix2 r l) * b (ix2 r l) := by
    unfold columns
    pointwise
  rw [e]
  simp only [ha, hb, ← EReal.coe_mul, coe_sum]

theorem gates_at (l : Fin 256) : columns (normedGrad dx uv w b gv g wo) (k0_pay26 uv) (ix2 0 l) = ((∑ r, A.dgvRow (spot p r) l : ℝ) : EReal) :=
  columns_at (dvn_at H) (vq_at H) l

theorem scales_at (l : Fin 256) : columns (backOf (k0_pay306 m wb ps) (k0_pay310 (k0_pay4 g) (k0_pay5 dx wo))) (k0_pay305 m wb) (ix2 0 l) = ((∑ r, A.dpsRow (spot p r) l : ℝ) : EReal) :=
  columns_at (dpo_at H) (pw_at H) l

theorem attn_factors_at (k : Fin 512) : k0_pay11 dx wo o (ix2 0 k) = ((∑ r, A.dmix (spot p r) (fst k) * (A.o (spot p r) k * inv (A.o (spot p r))) : ℝ) : EReal) := by
  have e : k0_pay11 dx wo o (ix2 0 k) = ∑ r, k0_pay5 dx wo (ix2 r (fst k)) * k0_pay8 o (ix2 r k) := by
    unfold k0_pay11 k0_pay9
    generalize k0_pay8 (F := Ideal) o = v
    generalize k0_pay5 (F := Ideal) dx wo = d
    pointwise
    rfl
  rw [e]
  simp only [dmix_at H, o_quot H, ← EReal.coe_mul, coe_sum]

theorem out_factors_at (k : Fin 1024) :
    k0_pay316 (k0_pay11 dx wo o) (columns (k0_pay115 (k0_pay5 dx wo)) (quotOf (gated uv w b gv))) (quotOf (k0_pay306 m wb ps)) (k0_pay309 (k0_pay5 dx wo)) (ix2 0 k)
      = ((∑ r, A.dgoRow (spot p r) k : ℝ) : EReal) := by
  have h1 := attn_factors_at H
  have h2 := columns_at (dmid_at H) (quot_at _ (gated_at H))
  have h3 := columns_at (dlst_at H) (quot_at _ (po_at H))
  have e : k0_pay316 (k0_pay11 dx wo o) (columns (k0_pay115 (k0_pay5 dx wo)) (quotOf (gated uv w b gv))) (quotOf (k0_pay306 m wb ps)) (k0_pay309 (k0_pay5 dx wo))
      = concatenate S1x1024 1 [⟨S1x512, k0_pay11 dx wo o⟩, ⟨S1x256, columns (k0_pay115 (k0_pay5 dx wo)) (quotOf (gated uv w b gv))⟩,
        ⟨S1x256, columns (k0_pay309 (k0_pay5 dx wo)) (quotOf (k0_pay306 m wb ps))⟩] concatenates_S1x512_S1x256_S1x256_S1x1024_d1 := rfl
  rw [e]
  clear e
  generalize k0_pay11 (F := Ideal) dx wo o = a1 at h1 ⊢
  generalize columns (k0_pay115 (k0_pay5 dx wo)) (quotOf (gated uv w b gv)) = a2 at h2 ⊢
  generalize columns (k0_pay309 (k0_pay5 dx wo)) (quotOf (k0_pay306 m wb ps)) = a3 at h3 ⊢
  unfold Args.dgoRow Args.quot
  pointwise
  by_cases h : k.val < 512
  · simp only [dif_pos h]
    rw [h1]
    rfl
  · by_cases h' : k.val < 768
    · have g : k.val - 512 < 256 := by omega
      simp only [dif_neg h, dif_pos h', dif_pos g]
      have q : mid ⟨k.val - 512, g⟩ = k := by apply Fin.ext; show 512 + (k.val - 512) = k.val; omega
      rw [h2, q]
    · have g : ¬ k.val - 512 < 256 := by omega
      simp only [dif_neg h, dif_neg h', dif_neg g]
      have q : lst ⟨k.val - 768, by omega⟩ = k := by apply Fin.ext; show 768 + (k.val - 768) = k.val; omega
      have e : (⟨k.val - 512 - 256, by omega⟩ : Fin 256) = ⟨k.val - 768, by omega⟩ := by apply Fin.ext; show k.val - 512 - 256 = k.val - 768; omega
      rw [e, h3, q]

theorem bias_at (t : Fin 128) (l : Fin 256) : biasGrad dx uv w b gv g wo (ix2 t l) = ((∑ k, A.dzc (row (part p k) t) l : ℝ) : EReal) := by
  unfold biasGrad
  refine eight_at word_zero fun k v S hs => ?_
  have e : addf v (gateGroup dx uv w b gv g wo k) (ix2 t l) = v (ix2 t l) + gateGroup dx uv w b gv g wo k (ix2 t l) := by
    generalize gateGroup dx uv w b gv g wo k = z
    pointwise
  rw [e, hs, group_dzc H, ← EReal.coe_add]

theorem weight_at (h : Fin 4) (t s : Fin 128) : weightGrad dx uv w b gv g wo (BitVec.ofNat 32 h.val) (ix2 t s) = ((∑ k, A.dwsChunk (part p k) h t s : ℝ) : EReal) := by
  unfold weightGrad
  exact eight_at word_zero fun k v S hs => weightStep_at h (group_dzc H k) (group_vn H k) hs

/-- What the block adds at a matrix along the positions. -/
def dwsPart (A : Args) (p : Fin 8) (h : Fin 4) (t s : Fin 128) : ℝ := if s ≤ t then ∑ k, A.dwsChunk (part p k) h t s else 0

theorem mat_at (h : Fin 4) (t s : Fin 128) : weightStore dx uv w b gv g wo (BitVec.ofNat 32 h.val) (ix3 0 t s) = (dwsPart A p h t s : EReal) := by
  have q := weight_at H h t s
  unfold weightStore
  generalize weightGrad dx uv w b gv g wo (BitVec.ofNat 32 h.val) = z at q ⊢
  have e : k0_pay325 low z (ix3 0 t s) = Scalar.select (low (ix2 t s)) (z (ix2 t s)) (Ideal.ofBits .f32 0x00000000#32) := by
    unfold k0_pay325 k0_pay324
    generalize low = q
    pointwise
  rw [e, low_at, q, word_zero, select_bit]
  rfl

theorem mat_later_at (h : Fin 4) (y : Vec Ideal S1x128x128 .f32) (t s : Fin 128) :
    k0_pay326 low (weightGrad dx uv w b gv g wo (BitVec.ofNat 32 h.val)) y (ix3 0 t s) = y (ix3 0 t s) + (dwsPart A p h t s : EReal) := by
  have q := weight_at H h t s
  generalize weightGrad dx uv w b gv g wo (BitVec.ofNat 32 h.val) = z at q ⊢
  have e : k0_pay326 low z y (ix3 0 t s) = y (ix3 0 t s) + Scalar.select (low (ix2 t s)) (z (ix2 t s)) (Ideal.ofBits .f32 0x00000000#32) := by
    unfold k0_pay326 k0_pay324
    generalize low = q
    pointwise
  rw [e, low_at, q, word_zero, select_bit]
  rfl

/-! ### The attention's outputs -/

theorem head_do (h : Fin 4) (r : Fin 1024) (d : Fin 128) :
    (shapeCast S1x1024x128 (truncf .bf16 (headOf h (k0_pay10 g dx wo o)) bitsLt_bf16_f32 : FVec Ideal S1024x128 .bf16) shapeCasts_S1024x128_S1x1024x128 : FVec Ideal S1x1024x128 .bf16) (ix3 0 r d)
      = (A.dO (spot p r) (wide h d) : EReal) := by
  rw [← do_at H, ← head_at h (k0_pay10 (F := Ideal) g dx wo o)]
  generalize headOf h (k0_pay10 (F := Ideal) g dx wo o) = z
  pointwise

theorem head_dl (h : Fin 4) (r : Fin 1024) (d : Fin 128) : rowDot (headOf h (k0_pay10 g dx wo o)) (headOf h (k0_pay6 o)) (ix3 0 r d) = (A.dl h (spot p r) : EReal) := by
  have h1 : ∀ d, headOf h (k0_pay10 (F := Ideal) g dx wo o) (ix2 r d) = (A.dO (spot p r) (wide h d) : EReal) := fun d => by rw [head_at, do_at H]
  have h2 : ∀ d, headOf h (k0_pay6 (F := Ideal) o) (ix2 r d) = (A.o (spot p r) (wide h d) : EReal) := fun d => by
    rw [head_at, ← H.o]
    unfold k0_pay6
    pointwise
  generalize headOf h (k0_pay10 (F := Ideal) g dx wo o) = y at h1 ⊢
  generalize headOf h (k0_pay6 (F := Ideal) o) = z at h2 ⊢
  have e : rowDot y z (ix3 0 r d) = ∑ k, y (ix2 r k) * z (ix2 r k) := by
    unfold rowDot
    pointwise
  rw [e]
  simp only [h1, h2, ← EReal.coe_mul, coe_sum]
  rfl

end Real

end Cert.MixIdeal.Layer

end
-- ==== Proof.MixPoint.lean ====
module

public import proofs.«01_k».proof.Proof.MixFirst
public import proofs.«01_k».proof.Proof.MixLater
public import proofs.«01_k».proof.Proof.MixReal

@[expose] public section

set_option maxRecDepth 16384

noncomputable section

/-! What a point of the grid leaves. -/

namespace Cert.MixIdeal.Layer

open Cert.MixIdeal Cert.MixIdeal.Gen Idealize.ShloMosaic Idealize.ShloMosaic.TcCoe Idealize.SL.Sem
open Cert.NormMath Cert.MixMath

/-! ### Where the parts lie in their buffers -/

theorem head_emb (k : Fin 4) (r : Fin 1024) (d : Fin 128) : (headRect k).emb (ix3 0 r d) = ix3 k r d := by
  funext q
  apply Fin.ext
  match q with
  | ⟨0, _⟩ => show k.val + 1 * 0 = k.val; omega
  | ⟨1, _⟩ => show 0 + 1 * r.val = r.val; omega
  | ⟨2, _⟩ => show 0 + 1 * d.val = d.val; omega

theorem mat_emb (k : Fin 4) (r : Fin 128) (d : Fin 128) : (matRect k).emb (ix3 0 r d) = ix3 k r d := by
  funext q
  apply Fin.ext
  match q with
  | ⟨0, _⟩ => show k.val + 1 * 0 = k.val; omega
  | ⟨1, _⟩ => show 0 + 1 * r.val = r.val; omega
  | ⟨2, _⟩ => show 0 + 1 * d.val = d.val; omega

/-- A rectangle that starts at the origin. -/
theorem whole_emb (a b : ℕ) (v : Fin a) (w : Fin b) : (0 + 1 * v.val = v.val) ∧ (0 + 1 * w.val = w.val) := ⟨by omega, by omega⟩

theorem sq_emb (y : S1024x1024.Idx) : sqRect.emb y = y := by
  funext a
  apply Fin.ext
  match a with
  | ⟨0, _⟩ => exact (whole_emb _ _ (y 0) (y 1)).1
  | ⟨1, _⟩ => exact (whole_emb _ _ (y 0) (y 1)).2

theorem sq_eq {e : EltTy} (x : Vec Ideal S1024x1024 e) : View.ld x sqRect = x := funext fun y => congrArg x (sq_emb y)

theorem wide_emb (y : S1024x512.Idx) : wideRect.emb y = y := by
  funext a
  apply Fin.ext
  match a with
  | ⟨0, _⟩ => exact (whole_emb _ _ (y 0) (y 1)).1
  | ⟨1, _⟩ => exact (whole_emb _ _ (y 0) (y 1)).2

theorem wide_eq {e : EltTy} (x : Vec Ideal S1024x512 e) : View.ld x wideRect = x := funext fun y => congrArg x (wide_emb y)

theorem tall_emb (y : S1024x256.Idx) : tallRect.emb y = y := by
  funext a
  apply Fin.ext
  match a with
  | ⟨0, _⟩ => exact (whole_emb _ _ (y 0) (y 1)).1
  | ⟨1, _⟩ => exact (whole_emb _ _ (y 0) (y 1)).2

theorem tall_eq {e : EltTy} (x : Vec Ideal S1024x256 e) : View.ld x tallRect = x := funext fun y => congrArg x (tall_emb y)

theorem bias_emb (y : S128x256.Idx) : biasRect.emb y = y := by
  funext a
  apply Fin.ext
  match a with
  | ⟨0, _⟩ => exact (whole_emb _ _ (y 0) (y 1)).1
  | ⟨1, _⟩ => exact (whole_emb _ _ (y 0) (y 1)).2

theorem bias_eq {e : EltTy} (x : Vec Ideal S128x256 e) : View.ld x biasRect = x := funext fun y => congrArg x (bias_emb y)

theorem pool_emb (y : S256x256.Idx) : poolRect.emb y = y := by
  funext a
  apply Fin.ext
  match a with
  | ⟨0, _⟩ => exact (whole_emb _ _ (y 0) (y 1)).1
  | ⟨1, _⟩ => exact (whole_emb _ _ (y 0) (y 1)).2

theorem pool_eq {e : EltTy} (x : Vec Ideal S256x256 e) : View.ld x poolRect = x := funext fun y => congrArg x (pool_emb y)

theorem row_emb (y : S1x256.Idx) : rowRect.emb y = y := by
  funext a
  apply Fin.ext
  match a with
  | ⟨0, _⟩ => exact (whole_emb _ _ (y 0) (y 1)).1
  | ⟨1, _⟩ => exact (whole_emb _ _ (y 0) (y 1)).2

theorem row_eq {e : EltTy} (x : Vec Ideal S1x256 e) : View.ld x rowRect = x := funext fun y => congrArg x (row_emb y)

theorem long_emb (y : S1x1024.Idx) : longRect.emb y = y := by
  funext a
  apply Fin.ext
  match a with
  | ⟨0, _⟩ => exact (whole_emb _ _ (y 0) (y 1)).1
  | ⟨1, _⟩ => exact (whole_emb _ _ (y 0) (y 1)).2

theorem long_eq {e : EltTy} (x : Vec Ideal S1x1024 e) : View.ld x longRect = x := funext fun y => congrArg x (long_emb y)

/-! ### What the blocks hold when a point is done -/

/-- A sum of two extended reals. -/
abbrev plus (a b : EReal) : EReal := a + b

/-- A block of real numbers, and one that has grown by them. -/
def real {s : Shape} (f : s.Idx → ℝ) : Vec Ideal s .f32 := fun j => (f j : EReal)

def grown {s : Shape} (x : Vec Ideal s .f32) (f : s.Idx → ℝ) : Vec Ideal s .f32 := fun j => plus (x j) (f j : EReal)

variable (A : Args) (p : Fin 8)

def headsLeft : Vec Ideal S4x1024x128 .bf16 := fun j => (A.dO (spot p (j 1)) (wide (j 0) (j 2)) : EReal)

def sumsLeft : Vec Ideal S4x1024x128 .f32 := fun j => (A.dl (j 0) (spot p (j 1)) : EReal)

/-- The gradients at the two factors side by side. -/
def sides (r : Fin 8192) (k : Fin 512) : ℝ := if h : k.val < 256 then A.du r ⟨k.val, h⟩ else A.dv r ⟨k.val - 256, by omega⟩

def factorsLeft : Vec Ideal S1024x512 .bf16 := fun j => (sides A (spot p (j 0)) (j 1) : EReal)

def rowsLeft : Vec Ideal S1024x256 .f32 := fun j => (A.dm (spot p (j 0)) (j 1) : EReal)

/-- What the point adds to the six sums. -/
def outPart (j : S1x1024.Idx) : ℝ := ∑ r, A.dgoRow (spot p r) (j 1)

def gatesPart (j : S1x256.Idx) : ℝ := ∑ r, A.dgvRow (spot p r) (j 1)

def scalesPart (j : S1x256.Idx) : ℝ := ∑ r, A.dpsRow (spot p r) (j 1)

def matsPart (j : S4x128x128.Idx) : ℝ := dwsPart A p (j 0) (j 1) (j 2)

def biasPart (j : S128x256.Idx) : ℝ := ∑ k, A.dzc (row (part p k) (j 0)) (j 1)

def poolPart (j : S256x256.Idx) : ℝ := ∑ r, A.m (spot p r) (j 0) * A.dpw (spot p r) (j 1)

/-- What a point leaves in its blocks of rows, -/
structure Left (o11 : Vec Ideal S4x1024x128 .bf16) (o12 : Vec Ideal S4x1024x128 .f32) (o13 : Vec Ideal S1024x512 .bf16) (o14 : Vec Ideal S1024x256 .f32) : Prop where
  heads : ∀ j, o11 j = headsLeft A p j
  sums : ∀ j, o12 j = sumsLeft A p j
  factors : ∀ j, o13 j = factorsLeft A p j
  rows : ∀ j, o14 j = rowsLeft A p j

/-- what the first one leaves of the sums, -/
structure Begun (o15 : Vec Ideal S1x1024 .f32) (o16 o17 : Vec Ideal S1x256 .f32) (o18 : Vec Ideal S4x128x128 .f32) (o19 : Vec Ideal S128x256 .f32) (o20 : Vec Ideal S256x256 .f32) : Prop where
  out : ∀ j, o15 j = real (outPart A p) j
  gates : ∀ j, o16 j = real (gatesPart A p) j
  scales : ∀ j, o17 j = real (scalesPart A p) j
  mats : ∀ j, o18 j = real (matsPart A p) j
  bias : ∀ j, o19 j = real (biasPart A p) j
  pool : ∀ j, o20 j = real (poolPart A p) j

/-- and what a later one makes of them. -/
structure Grown (x15 : Vec Ideal S1x1024 .f32) (x16 x17 : Vec Ideal S1x256 .f32) (x18 : Vec Ideal S4x128x128 .f32) (x19 : Vec Ideal S128x256 .f32) (x20 : Vec Ideal S256x256 .f32)
    (o15 : Vec Ideal S1x1024 .f32) (o16 o17 : Vec Ideal S1x256 .f32) (o18 : Vec Ideal S4x128x128 .f32) (o19 : Vec Ideal S128x256 .f32) (o20 : Vec Ideal S256x256 .f32) : Prop where
  out : ∀ j, o15 j = grown x15 (outPart A p) j
  gates : ∀ j, o16 j = grown x16 (gatesPart A p) j
  scales : ∀ j, o17 j = grown x17 (scalesPart A p) j
  mats : ∀ j, o18 j = grown x18 (matsPart A p) j
  bias : ∀ j, o19 j = grown x19 (biasPart A p) j
  pool : ∀ j, o20 j = grown x20 (poolPart A p) j

section Pieces

variable {A p} (x0 : Vec Ideal S1024x1024 .f32) (x1 : Vec Ideal S1024x512 .f32) (x2 : Vec Ideal S1024x512 .f32) (x3 : Vec Ideal S1024x256 .f32) (x4 : Vec Ideal S4x128x128 .f32) (x5 : Vec Ideal S128x256 .f32) (x6 : Vec Ideal S256x256 .bf16) (x7 : Vec Ideal S1x256 .f32) (x8 : Vec Ideal S1x256 .f32) (x9 : Vec Ideal S1x1024 .f32) (x10 : Vec Ideal S1024x1024 .bf16)
  (xo15 : Vec Ideal S1x1024 .f32) (xo16 xo17 : Vec Ideal S1x256 .f32) (xo18 : Vec Ideal S4x128x128 .f32) (xo19 : Vec Ideal S128x256 .f32) (xo20 : Vec Ideal S256x256 .f32)
  (H : Loaded A p x0 x1 x2 x3 (matOf x4) x5 x6 x7 x8 x9 x10)

include H

theorem heads_pieces (pc : View.Piece (Elt Ideal) S4x1024x128 .bf16) (hpc : pc ∈ headStores x0 x1 x9 x10) (y : pc.1.shape.Idx) : pc.2 y = headsLeft A p (pc.1.emb y) := by
  obtain ⟨k, -, rfl⟩ := List.mem_map.mp hpc
  change S1x1024x128.Idx at y
  idx_vars y
  obtain rfl : y0 = 0 := Subsingleton.elim (α := Fin 1) _ _
  refine Eq.trans ?_ (congrArg (headsLeft A p) (head_emb k y1 y2)).symm
  show (shapeCast S1x1024x128 (truncf .bf16 (headOf k (attnGrad x0 x1 x9 x10)) bitsLt_bf16_f32 : FVec Ideal S1024x128 .bf16) shapeCasts_S1024x128_S1x1024x128 : FVec Ideal S1x1024x128 .bf16) (ix3 0 y1 y2) = _
  unfold attnGrad
  simp only [sq_eq, wide_eq, tall_eq, bias_eq, pool_eq, row_eq, long_eq]
  exact head_do H k y1 y2

theorem sums_pieces (pc : View.Piece (Elt Ideal) S4x1024x128 .f32) (hpc : pc ∈ sumStores x0 x1 x9 x10) (y : pc.1.shape.Idx) : pc.2 y = sumsLeft A p (pc.1.emb y) := by
  obtain ⟨k, -, rfl⟩ := List.mem_map.mp hpc
  change S1x1024x128.Idx at y
  idx_vars y
  obtain rfl : y0 = 0 := Subsingleton.elim (α := Fin 1) _ _
  refine Eq.trans ?_ (congrArg (sumsLeft A p) (head_emb k y1 y2)).symm
  show rowDot (headOf k (attnGrad x0 x1 x9 x10)) (headOf k (k0_pay6 (View.ld x1 wideRect))) (ix3 0 y1 y2) = _
  unfold attnGrad
  simp only [sq_eq, wide_eq, tall_eq, bias_eq, pool_eq, row_eq, long_eq]
  exact head_dl H k y1 y2

theorem factors_pieces (pc : View.Piece (Elt Ideal) S1024x512 .bf16) (hpc : pc ∈ [(⟨wideRect, factorsStore x0 x2 x4 x5 x8 x9 x10⟩ : View.Piece (Elt Ideal) S1024x512 .bf16)]) (y : pc.1.shape.Idx) :
    pc.2 y = factorsLeft A p (pc.1.emb y) := by
  obtain rfl := List.mem_singleton.mp hpc
  change S1024x512.Idx at y
  refine Eq.trans ?_ (congrArg (factorsLeft A p) (wide_emb y)).symm
  idx_vars y
  show (factorsStore x0 x2 x4 x5 x8 x9 x10) (ix2 y0 y1) = _
  unfold factorsStore
  simp only [sq_eq, wide_eq, tall_eq, bias_eq, pool_eq, row_eq, long_eq]
  exact factors_at H y0 y1

theorem rows_pieces (pc : View.Piece (Elt Ideal) S1024x256 .f32) (hpc : pc ∈ [(⟨tallRect, rowsStore x0 x3 x6 x7 x9 x10⟩ : View.Piece (Elt Ideal) S1024x256 .f32)]) (y : pc.1.shape.Idx) :
    pc.2 y = rowsLeft A p (pc.1.emb y) := by
  obtain rfl := List.mem_singleton.mp hpc
  change S1024x256.Idx at y
  refine Eq.trans ?_ (congrArg (rowsLeft A p) (tall_emb y)).symm
  idx_vars y
  show (rowsStore x0 x3 x6 x7 x9 x10) (ix2 y0 y1) = _
  unfold rowsStore pooledGrad scaledGrad scaled mixGrad
  simp only [sq_eq, wide_eq, tall_eq, bias_eq, pool_eq, row_eq, long_eq]
  exact dm_at H y0 y1

omit H in
/-- A block added to what was there. -/
theorem add_at {s : Shape} (x y : FVec Ideal s .f32) (hs : s.ShapeCasts s) (j : s.Idx) : addf (shapeCast s x hs) y j = plus (x j) (y j) :=
  congrArg (fun z : EReal => plus z (y j)) (congrFun (shapeCast_self x hs) j)

theorem out_pieces (pc : View.Piece (Elt Ideal) S1x1024 .f32) (hpc : pc ∈ [(⟨longRect, outFactors x0 x1 x2 x3 x4 x5 x6 x7 x8 x10⟩ : View.Piece (Elt Ideal) S1x1024 .f32)]) (y : pc.1.shape.Idx) :
    pc.2 y = real (outPart A p) (pc.1.emb y) := by
  obtain rfl := List.mem_singleton.mp hpc
  change S1x1024.Idx at y
  refine Eq.trans ?_ (congrArg (real (outPart A p)) (long_emb y)).symm
  idx_vars y
  obtain rfl : y0 = 0 := Subsingleton.elim (α := Fin 1) _ _
  show (outFactors x0 x1 x2 x3 x4 x5 x6 x7 x8 x10) (ix2 0 y1) = _
  unfold outFactors scaled mixGrad
  simp only [sq_eq, wide_eq, tall_eq, bias_eq, pool_eq, row_eq, long_eq]
  exact out_factors_at H y1

theorem out_more (pc : View.Piece (Elt Ideal) S1x1024 .f32) (hpc : pc ∈ [(⟨longRect, outLater xo15 x0 x1 x2 x3 x4 x5 x6 x7 x8 x10⟩ : View.Piece (Elt Ideal) S1x1024 .f32)]) (y : pc.1.shape.Idx) :
    pc.2 y = grown xo15 (outPart A p) (pc.1.emb y) := by
  obtain rfl := List.mem_singleton.mp hpc
  change S1x1024.Idx at y
  refine Eq.trans ?_ (congrArg (grown xo15 (outPart A p)) (long_emb y)).symm
  idx_vars y
  obtain rfl : y0 = 0 := Subsingleton.elim (α := Fin 1) _ _
  show (outLater xo15 x0 x1 x2 x3 x4 x5 x6 x7 x8 x10) (ix2 0 y1) = _
  unfold outLater scaled mixGrad
  simp only [sq_eq, wide_eq, tall_eq, bias_eq, pool_eq, row_eq, long_eq]
  unfold k0_pay317
  exact (add_at _ _ _ _).trans (congrArg (plus (xo15 (ix2 0 y1))) (out_factors_at H y1))

theorem gates_pieces (pc : View.Piece (Elt Ideal) S1x256 .f32) (hpc : pc ∈ [(⟨rowRect, gateFactors x0 x2 x4 x5 x8 x9 x10⟩ : View.Piece (Elt Ideal) S1x256 .f32)]) (y : pc.1.shape.Idx) :
    pc.2 y = real (gatesPart A p) (pc.1.emb y) := by
  obtain rfl := List.mem_singleton.mp hpc
  change S1x256.Idx at y
  refine Eq.trans ?_ (congrArg (real (gatesPart A p)) (row_emb y)).symm
  idx_vars y
  obtain rfl : y0 = 0 := Subsingleton.elim (α := Fin 1) _ _
  show (gateFactors x0 x2 x4 x5 x8 x9 x10) (ix2 0 y1) = _
  unfold gateFactors
  simp only [sq_eq, wide_eq, tall_eq, bias_eq, pool_eq, row_eq, long_eq]
  exact gates_at H y1

theorem gates_more (pc : View.Piece (Elt Ideal) S1x256 .f32) (hpc : pc ∈ [(⟨rowRect, k0_pay318 (gateFactors x0 x2 x4 x5 x8 x9 x10) (View.ld xo16 rowRect)⟩ : View.Piece (Elt Ideal) S1x256 .f32)]) (y : pc.1.shape.Idx) :
    pc.2 y = grown xo16 (gatesPart A p) (pc.1.emb y) := by
  obtain rfl := List.mem_singleton.mp hpc
  change S1x256.Idx at y
  refine Eq.trans ?_ (congrArg (grown xo16 (gatesPart A p)) (row_emb y)).symm
  idx_vars y
  obtain rfl : y0 = 0 := Subsingleton.elim (α := Fin 1) _ _
  show (k0_pay318 (gateFactors x0 x2 x4 x5 x8 x9 x10) (View.ld xo16 rowRect)) (ix2 0 y1) = _
  unfold gateFactors
  simp only [sq_eq, wide_eq, tall_eq, bias_eq, pool_eq, row_eq, long_eq]
  unfold k0_pay318
  exact (add_at _ _ _ _).trans (congrArg (plus (xo16 (ix2 0 y1))) (gates_at H y1))

theorem scales_pieces (pc : View.Piece (Elt Ideal) S1x256 .f32) (hpc : pc ∈ [(⟨rowRect, scaleStore x0 x3 x6 x7 x9 x10⟩ : View.Piece (Elt Ideal) S1x256 .f32)]) (y : pc.1.shape.Idx) :
    pc.2 y = real (scalesPart A p) (pc.1.emb y) := by
  obtain rfl := List.mem_singleton.mp hpc
  change S1x256.Idx at y
  refine Eq.trans ?_ (congrArg (real (scalesPart A p)) (row_emb y)).symm
  idx_vars y
  obtain rfl : y0 = 0 := Subsingleton.elim (α := Fin 1) _ _
  show (scaleStore x0 x3 x6 x7 x9 x10) (ix2 0 y1) = _
  unfold scaleStore scaledGrad scaled pooled mixGrad
  simp only [sq_eq, wide_eq, tall_eq, bias_eq, pool_eq, row_eq, long_eq]
  exact scales_at H y1

theorem scales_more (pc : View.Piece (Elt Ideal) S1x256 .f32) (hpc : pc ∈ [(⟨rowRect, k0_pay320 (scaleStore x0 x3 x6 x7 x9 x10) (View.ld xo17 rowRect)⟩ : View.Piece (Elt Ideal) S1x256 .f32)]) (y : pc.1.shape.Idx) :
    pc.2 y = grown xo17 (scalesPart A p) (pc.1.emb y) := by
  obtain rfl := List.mem_singleton.mp hpc
  change S1x256.Idx at y
  refine Eq.trans ?_ (congrArg (grown xo17 (scalesPart A p)) (row_emb y)).symm
  idx_vars y
  obtain rfl : y0 = 0 := Subsingleton.elim (α := Fin 1) _ _
  show (k0_pay320 (scaleStore x0 x3 x6 x7 x9 x10) (View.ld xo17 rowRect)) (ix2 0 y1) = _
  unfold scaleStore scaledGrad scaled pooled mixGrad
  simp only [sq_eq, wide_eq, tall_eq, bias_eq, pool_eq, row_eq, long_eq]
  unfold k0_pay320
  exact (add_at _ _ _ _).trans (congrArg (plus (xo17 (ix2 0 y1))) (scales_at H y1))

theorem bias_pieces (pc : View.Piece (Elt Ideal) S128x256 .f32) (hpc : pc ∈ [(⟨biasRect, biasStore x0 x2 x4 x5 x8 x9 x10⟩ : View.Piece (Elt Ideal) S128x256 .f32)]) (y : pc.1.shape.Idx) :
    pc.2 y = real (biasPart A p) (pc.1.emb y) := by
  obtain rfl := List.mem_singleton.mp hpc
  change S128x256.Idx at y
  refine Eq.trans ?_ (congrArg (real (biasPart A p)) (bias_emb y)).symm
  idx_vars y
  show (biasStore x0 x2 x4 x5 x8 x9 x10) (ix2 y0 y1) = _
  unfold biasStore
  simp only [sq_eq, wide_eq, tall_eq, bias_eq, pool_eq, row_eq, long_eq]
  exact bias_at H y0 y1

theorem bias_more (pc : View.Piece (Elt Ideal) S128x256 .f32) (hpc : pc ∈ [(⟨biasRect, k0_pay321 (biasStore x0 x2 x4 x5 x8 x9 x10) (View.ld xo19 biasRect)⟩ : View.Piece (Elt Ideal) S128x256 .f32)]) (y : pc.1.shape.Idx) :
    pc.2 y = grown xo19 (biasPart A p) (pc.1.emb y) := by
  obtain rfl := List.mem_singleton.mp hpc
  change S128x256.Idx at y
  refine Eq.trans ?_ (congrArg (grown xo19 (biasPart A p)) (bias_emb y)).symm
  idx_vars y
  show (k0_pay321 (biasStore x0 x2 x4 x5 x8 x9 x10) (View.ld xo19 biasRect)) (ix2 y0 y1) = _
  unfold biasStore
  simp only [sq_eq, wide_eq, tall_eq, bias_eq, pool_eq, row_eq, long_eq]
  unfold k0_pay321
  exact (add_at _ _ _ _).trans (congrArg (plus (xo19 (ix2 y0 y1))) (bias_at H y0 y1))

theorem pool_pieces (pc : View.Piece (Elt Ideal) S256x256 .f32) (hpc : pc ∈ [(⟨poolRect, poolStore x0 x3 x6 x7 x9 x10⟩ : View.Piece (Elt Ideal) S256x256 .f32)]) (y : pc.1.shape.Idx) :
    pc.2 y = real (poolPart A p) (pc.1.emb y) := by
  obtain rfl := List.mem_singleton.mp hpc
  change S256x256.Idx at y
  refine Eq.trans ?_ (congrArg (real (poolPart A p)) (pool_emb y)).symm
  idx_vars y
  show (poolStore x0 x3 x6 x7 x9 x10) (ix2 y0 y1) = _
  unfold poolStore pooledGrad scaledGrad scaled mixGrad
  simp only [sq_eq, wide_eq, tall_eq, bias_eq, pool_eq, row_eq, long_eq]
  exact wbd_at H y0 y1

theorem pool_more (pc : View.Piece (Elt Ideal) S256x256 .f32) (hpc : pc ∈ [(⟨poolRect, k0_pay323 (k0_pay304 (View.ld x3 tallRect)) (pooledGrad x0 x3 x6 x7 x9 x10) (View.ld xo20 poolRect)⟩ : View.Piece (Elt Ideal) S256x256 .f32)]) (y : pc.1.shape.Idx) :
    pc.2 y = grown xo20 (poolPart A p) (pc.1.emb y) := by
  obtain rfl := List.mem_singleton.mp hpc
  change S256x256.Idx at y
  refine Eq.trans ?_ (congrArg (grown xo20 (poolPart A p)) (pool_emb y)).symm
  idx_vars y
  show (k0_pay323 (k0_pay304 (View.ld x3 tallRect)) (pooledGrad x0 x3 x6 x7 x9 x10) (View.ld xo20 poolRect)) (ix2 y0 y1) = _
  unfold pooledGrad scaledGrad scaled mixGrad
  simp only [sq_eq, wide_eq, tall_eq, bias_eq, pool_eq, row_eq, long_eq]
  unfold k0_pay323
  exact (add_at _ _ _ _).trans (congrArg (plus (xo20 (ix2 y0 y1))) (wbd_at H y0 y1))

theorem mats_piece (h : Fin 4) (y : S1x128x128.Idx) : matStore x0 x2 x4 x5 x8 x9 x10 (BitVec.ofNat 32 h.val) y = real (matsPart A p) ((matRect h).emb y) := by
  idx_vars y
  obtain rfl : y0 = 0 := Subsingleton.elim (α := Fin 1) _ _
  refine Eq.trans ?_ (congrArg (real (matsPart A p)) (mat_emb h y1 y2)).symm
  unfold matStore
  simp only [sq_eq, wide_eq, tall_eq, bias_eq, pool_eq, row_eq, long_eq]
  exact mat_at H h y1 y2

theorem mats_another (h : Fin 4) (y : S1x128x128.Idx) : matLater xo18 x0 x2 x4 x5 x8 x9 x10 h (BitVec.ofNat 32 h.val) y = grown xo18 (matsPart A p) ((matRect h).emb y) := by
  idx_vars y
  obtain rfl : y0 = 0 := Subsingleton.elim (α := Fin 1) _ _
  refine Eq.trans ?_ (congrArg (grown xo18 (matsPart A p)) (mat_emb h y1 y2)).symm
  unfold matLater
  simp only [sq_eq, wide_eq, tall_eq, bias_eq, pool_eq, row_eq, long_eq]
  exact (mat_later_at H h (matOf xo18 h) y1 y2).trans (congrArg (fun z : EReal => plus z (dwsPart A p h y1 y2 : EReal)) (congrArg xo18 (mat_emb h y1 y2)))

theorem mats_pieces (pc : View.Piece (Elt Ideal) S4x128x128 .f32) (hpc : pc ∈ matStores x0 x2 x4 x5 x8 x9 x10) (y : pc.1.shape.Idx) : pc.2 y = real (matsPart A p) (pc.1.emb y) := by
  simp only [matStores, List.mem_cons, List.not_mem_nil, or_false] at hpc
  rcases hpc with rfl | rfl | rfl | rfl
  · exact mats_piece x0 x1 x2 x3 x4 x5 x6 x7 x8 x9 x10 H 3 y
  · exact mats_piece x0 x1 x2 x3 x4 x5 x6 x7 x8 x9 x10 H 2 y
  · exact mats_piece x0 x1 x2 x3 x4 x5 x6 x7 x8 x9 x10 H 1 y
  · exact mats_piece x0 x1 x2 x3 x4 x5 x6 x7 x8 x9 x10 H 0 y

theorem mats_more (pc : View.Piece (Elt Ideal) S4x128x128 .f32) (hpc : pc ∈ matsLater xo18 x0 x2 x4 x5 x8 x9 x10) (y : pc.1.shape.Idx) : pc.2 y = grown xo18 (matsPart A p) (pc.1.emb y) := by
  simp only [matsLater, List.mem_cons, List.not_mem_nil, or_false] at hpc
  rcases hpc with rfl | rfl | rfl | rfl
  · exact mats_another x0 x1 x2 x3 x4 x5 x6 x7 x8 x9 x10 xo18 H 3 y
  · exact mats_another x0 x1 x2 x3 x4 x5 x6 x7 x8 x9 x10 xo18 H 2 y
  · exact mats_another x0 x1 x2 x3 x4 x5 x6 x7 x8 x9 x10 xo18 H 1 y
  · exact mats_another x0 x1 x2 x3 x4 x5 x6 x7 x8 x9 x10 xo18 H 0 y

end Pieces

section Outs

variable (c : Dev nD) (q : grid0.Coords) (arg1 : Memref sig .tc .vmem S1024x1024 .f32) (w1 : arg1.IsWhole) (arg2 : Memref sig .tc .vmem S1024x512 .f32) (w2 : arg2.IsWhole) (arg3 : Memref sig .tc .vmem S1024x512 .f32) (w3 : arg3.IsWhole) (arg4 : Memref sig .tc .vmem S1024x256 .f32) (w4 : arg4.IsWhole) (arg5 : Memref sig .tc .vmem S4x128x128 .f32) (w5 : arg5.IsWhole) (arg6 : Memref sig .tc .vmem S128x256 .f32) (w6 : arg6.IsWhole) (arg7 : Memref sig .tc .vmem S256x256 .bf16) (w7 : arg7.IsWhole) (arg8 : Memref sig .tc .vmem S1x256 .f32) (w8 : arg8.IsWhole) (arg9 : Memref sig .tc .vmem S1x256 .f32) (w9 : arg9.IsWhole) (arg10 : Memref sig .tc .vmem S1x1024 .f32) (w10 : arg10.IsWhole) (arg11 : Memref sig .tc .vmem S1024x1024 .bf16) (w11 : arg11.IsWhole) (arg12 : Memref sig .tc .vmem S4x1024x128 .bf16) (w12 : arg12.IsWhole) (arg13 : Memref sig .tc .vmem S4x1024x128 .f32) (w13 : arg13.IsWhole) (arg14 : Memref sig .tc .vmem S1024x512 .bf16) (w14 : arg14.IsWhole) (arg15 : Memref sig .tc .vmem S1024x256 .f32) (w15 : arg15.IsWhole) (arg16 : Memref sig .tc .vmem S1x1024 .f32) (w16 : arg16.IsWhole) (arg17 : Memref sig .tc .vmem S1x256 .f32) (w17 : arg17.IsWhole) (arg18 : Memref sig .tc .vmem S1x256 .f32) (w18 : arg18.IsWhole) (arg19 : Memref sig .tc .vmem S4x128x128 .f32) (w19 : arg19.IsWhole) (arg20 : Memref sig .tc .vmem S128x256 .f32) (w20 : arg20.IsWhole) (arg21 : Memref sig .tc .vmem S256x256 .f32) (w21 : arg21.IsWhole)
  (x0 : Vec Ideal S1024x1024 .f32) (x1 : Vec Ideal S1024x512 .f32) (x2 : Vec Ideal S1024x512 .f32) (x3 : Vec Ideal S1024x256 .f32) (x4 : Vec Ideal S4x128x128 .f32) (x5 : Vec Ideal S128x256 .f32) (x6 : Vec Ideal S256x256 .bf16) (x7 : Vec Ideal S1x256 .f32) (x8 : Vec Ideal S1x256 .f32) (x9 : Vec Ideal S1x1024 .f32) (x10 : Vec Ideal S1024x1024 .bf16)
  (H : Loaded A p x0 x1 x2 x3 (matOf x4) x5 x6 x7 x8 x9 x10)

include H

theorem point_A (hc0 : cond0_0 q) (hc1 : ¬cond0_1 q) (hc2 : cond0_2 q) (hc3 : ¬cond0_3 q) (hc4 : cond0_4 q) (hc5 : ¬cond0_5 q) (hc6 : cond0_6 q) (hc7 : ¬cond0_7 q) (hc8 : cond0_8 q) (hc9 : ¬cond0_9 q) (hc10 : cond0_10 q) (hc11 : ¬cond0_11 q) (hc12 : cond0_12 q) (hc13 : ¬cond0_13 q) (hc14 : cond0_14 q) (hc15 : ¬cond0_15 q) (hc16 : cond0_16 q) (hc17 : ¬cond0_17 q) :
    Left A p (out0_A_11 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_12 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_13 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_14 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
    ∧ Begun A p (out0_A_15 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_16 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_17 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_18 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_19 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10)
      (out0_A_20 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10) := by
  refine ⟨⟨fun j => ?_, fun j => ?_, fun j => ?_, fun j => ?_⟩, ⟨fun j => ?_, fun j => ?_, fun j => ?_, fun j => ?_, fun j => ?_, fun j => ?_⟩⟩
  · unfold out0_A_11
    refine View.read_writes_apply_of_pieces VO0_11 _ (headsLeft A p) _ ?_ j (cover0_A_11 ..)
    rw [(stores_first (hR := rfl) ..).1]
    exact heads_pieces x0 x1 x2 x3 x4 x5 x6 x7 x8 x9 x10 H
  · unfold out0_A_12
    refine View.read_writes_apply_of_pieces VO0_12 _ (sumsLeft A p) _ ?_ j (cover0_A_12 ..)
    rw [(stores_first (hR := rfl) ..).2.1]
    exact sums_pieces x0 x1 x2 x3 x4 x5 x6 x7 x8 x9 x10 H
  · unfold out0_A_13
    refine View.read_writes_apply_of_pieces VO0_13 _ (factorsLeft A p) _ ?_ j (cover0_A_13 ..)
    rw [(stores_first (hR := rfl) ..).2.2.1]
    exact factors_pieces x0 x1 x2 x3 x4 x5 x6 x7 x8 x9 x10 H
  · unfold out0_A_14
    refine View.read_writes_apply_of_pieces VO0_14 _ (rowsLeft A p) _ ?_ j (cover0_A_14 ..)
    rw [(stores_first (hR := rfl) ..).2.2.2.1]
    exact rows_pieces x0 x1 x2 x3 x4 x5 x6 x7 x8 x9 x10 H
  · unfold out0_A_15
    refine View.read_writes_apply_of_pieces VO0_15 _ (real (outPart A p)) _ ?_ j (cover0_A_15 ..)
    rw [(stores_first (hR := rfl) ..).2.2.2.2.1]
    exact out_pieces x0 x1 x2 x3 x4 x5 x6 x7 x8 x9 x10 H
  · unfold out0_A_16
    refine View.read_writes_apply_of_pieces VO0_16 _ (real (gatesPart A p)) _ ?_ j (cover0_A_16 ..)
    rw [(stores_first (hR := rfl) ..).2.2.2.2.2.1]
    exact gates_pieces x0 x1 x2 x3 x4 x5 x6 x7 x8 x9 x10 H
  · unfold out0_A_17
    refine View.read_writes_apply_of_pieces VO0_17 _ (real (scalesPart A p)) _ ?_ j (cover0_A_17 ..)
    rw [(stores_first (hR := rfl) ..).2.2.2.2.2.2.1]
    exact scales_pieces x0 x1 x2 x3 x4 x5 x6 x7 x8 x9 x10 H
  · unfold out0_A_18
    refine View.read_writes_apply_of_pieces VO0_18 _ (real (matsPart A p)) _ ?_ j (cover0_A_18 ..)
    rw [(stores_first (hR := rfl) ..).2.2.2.2.2.2.2.1]
    exact mats_pieces x0 x1 x2 x3 x4 x5 x6 x7 x8 x9 x10 H
  · unfold out0_A_19
    refine View.read_writes_apply_of_pieces VO0_19 _ (real (biasPart A p)) _ ?_ j (cover0_A_19 ..)
    rw [(stores_first (hR := rfl) ..).2.2.2.2.2.2.2.2.1]
    exact bias_pieces x0 x1 x2 x3 x4 x5 x6 x7 x8 x9 x10 H
  · unfold out0_A_20
    refine View.read_writes_apply_of_pieces VO0_20 _ (real (poolPart A p)) _ ?_ j (cover0_A_20 ..)
    rw [(stores_first (hR := rfl) ..).2.2.2.2.2.2.2.2.2]
    exact pool_pieces x0 x1 x2 x3 x4 x5 x6 x7 x8 x9 x10 H

theorem point_B (hc0 : ¬cond0_0 q) (hc1 : cond0_1 q) (hc2 : ¬cond0_2 q) (hc3 : cond0_3 q) (hc4 : ¬cond0_4 q) (hc5 : cond0_5 q) (hc6 : ¬cond0_6 q) (hc7 : cond0_7 q) (hc8 : ¬cond0_8 q) (hc9 : cond0_9 q) (hc10 : ¬cond0_10 q) (hc11 : cond0_11 q) (hc12 : ¬cond0_12 q) (hc13 : cond0_13 q) (hc14 : ¬cond0_14 q) (hc15 : cond0_15 q) (hc16 : ¬cond0_16 q) (hc17 : cond0_17 q) (xo15 : Vec Ideal S1x1024 .f32) (xo16 xo17 : Vec Ideal S1x256 .f32) (xo18 : Vec Ideal S4x128x128 .f32) (xo19 : Vec Ideal S128x256 .f32) (xo20 : Vec Ideal S256x256 .f32) :
    Left A p (out0_B_11 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_12 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_13 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_14 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
    ∧ Grown A p xo15 xo16 xo17 xo18 xo19 xo20 (out0_B_15 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_16 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_17 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_18 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_19 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20)
      (out0_B_20 (F := Ideal) c q _ w1 _ w2 _ w3 _ w4 _ w5 _ w6 _ w7 _ w8 _ w9 _ w10 _ w11 _ w12 _ w13 _ w14 _ w15 _ w16 _ w17 _ w18 _ w19 _ w20 _ w21 hc0 hc1 hc2 hc3 hc4 hc5 hc6 hc7 hc8 hc9 hc10 hc11 hc12 hc13 hc14 hc15 hc16 hc17 x0 x1 x2 x3 x4 x5 x6 x7 x8 x9 x10 xo15 xo16 xo17 xo18 xo19 xo20) := by
  refine ⟨⟨fun j => ?_, fun j => ?_, fun j => ?_, fun j => ?_⟩, ⟨fun j => ?_, fun j => ?_, fun j => ?_, fun j => ?_, fun j => ?_, fun j => ?_⟩⟩
  · unfold out0_B_11
    refine View.read_writes_apply_of_pieces VO0_11 _ (headsLeft A p) _ ?_ j (cover0_B_11 ..)
    rw [(stores_later (hR := rfl) ..).1]
    exact heads_pieces x0 x1 x2 x3 x4 x5 x6 x7 x8 x9 x10 H
  · unfold out0_B_12
    refine View.read_writes_apply_of_pieces VO0_12 _ (sumsLeft A p) _ ?_ j (cover0_B_12 ..)
    rw [(stores_later (hR := rfl) ..).2.1]
    exact sums_pieces x0 x1 x2 x3 x4 x5 x6 x7 x8 x9 x10 H
  · unfold out0_B_13
    refine View.read_writes_apply_of_pieces VO0_13 _ (factorsLeft A p) _ ?_ j (cover0_B_13 ..)
    rw [(stores_later (hR := rfl) ..).2.2.1]
    exact factors_pieces x0 x1 x2 x3 x4 x5 x6 x7 x8 x9 x10 H
  · unfold out0_B_14
    refine View.read_writes_apply_of_pieces VO0_14 _ (rowsLeft A p) _ ?_ j (cover0_B_14 ..)
    rw [(stores_later (hR := rfl) ..).2.2.2.1]
    exact rows_pieces x0 x1 x2 x3 x4 x5 x6 x7 x8 x9 x10 H
  · unfold out0_B_15
    refine View.read_writes_apply_of_pieces VO0_15 _ (grown xo15 (outPart A p)) _ ?_ j (cover0_B_15 ..)
    rw [(stores_later (hR := rfl) ..).2.2.2.2.1]
    exact out_more x0 x1 x2 x3 x4 x5 x6 x7 x8 x9 x10 xo15 H
  · unfold out0_B_16
    refine View.read_writes_apply_of_pieces VO0_16 _ (grown xo16 (gatesPart A p)) _ ?_ j (cover0_B_16 ..)
    rw [(stores_later (hR := rfl) ..).2.2.2.2.2.1]
    exact gates_more x0 x1 x2 x3 x4 x5 x6 x7 x8 x9 x10 xo16 H
  · unfold out0_B_17
    refine View.read_writes_apply_of_pieces VO0_17 _ (grown xo17 (scalesPart A p)) _ ?_ j (cover0_B_17 ..)
    rw [(stores_later (hR := rfl) ..).2.2.2.2.2.2.1]
    exact scales_more x0 x1 x2 x3 x4 x5 x6 x7 x8 x9 x10 xo17 H
  · unfold out0_B_18
    refine View.read_writes_apply_of_pieces VO0_18 _ (grown xo18 (matsPart A p)) _ ?_ j (cover0_B_18 ..)
    rw [(stores_later (hR := rfl) ..).2.2.2.2.2.2.2.1]
    exact mats_more x0 x1 x2 x3 x4 x5 x6 x7 x8 x9 x10 xo18 H
  · unfold out0_B_19
    refine View.read_writes_apply_of_pieces VO0_19 _ (grown xo19 (biasPart A p)) _ ?_ j (cover0_B_19 ..)
    rw [(stores_later (hR := rfl) ..).2.2.2.2.2.2.2.2.1]
    exact bias_more x0 x1 x2 x3 x4 x5 x6 x7 x8 x9 x10 xo19 H
  · unfold out0_B_20
    refine View.read_writes_apply_of_pieces VO0_20 _ (grown xo20 (poolPart A p)) _ ?_ j (cover0_B_20 ..)
    rw [(stores_later (hR := rfl) ..).2.2.2.2.2.2.2.2.2]
    exact pool_more x0 x1 x2 x3 x4 x5 x6 x7 x8 x9 x10 xo20 H

end Outs

end Cert.MixIdeal.Layer

end
-- ==== Proof.MixHost.lean ====
module

public import proofs.«01_k».proof.Proof.MixMath
public import proofs.«01_k».proof.Proof.Gen.MixIdeal.Value
public import Idealize.ShloMosaic.Lib.StableHlo.ReadAt

@[expose] public section

set_option maxRecDepth 16384

noncomputable section

/-! The arrays the host hands to the kernel, at an index. -/

namespace Cert.MixIdeal.Layer

open Cert.MixIdeal Cert.MixIdeal.Gen Idealize.ShloMosaic Idealize.ShloMosaic.TcCoe Idealize.SL.Sem
open Cert.MixMath

variable (m : (ℓ : Loc nD τ sig) → Buf (Elt Ideal) ℓ) (c : Dev nD)

theorem dx_host (i : Fin 8192) (j : Fin 1024) : (V m c main_v22 : Vec Ideal S8192x1024 .f32) (ix2 i j) = m ((c : Thread nD τ).loc main_arg12) (ix3 0 i j) := by
  unfold V; after_reads_at

theorem o_host (i : Fin 8192) (k : Fin 512) : (V m c main_v23 : Vec Ideal S8192x512 .f32) (ix2 i k) = m ((c : Thread nD τ).loc main_arg0) (ix3 0 i k) := by
  unfold V; after_reads_at

theorem m_host (i : Fin 8192) (l : Fin 256) : (V m c main_v24 : Vec Ideal S8192x256 .f32) (ix2 i l) = m ((c : Thread nD τ).loc main_arg2) (ix3 0 i l) := by
  unfold V; after_reads_at

/-- The middle one of three arrays side by side. -/
theorem middle (x y : S8192x512.Idx → EReal) (z : S8192x256.Idx → EReal) (h) (i : Fin 8192) (k : Fin 512) :
    concatenate S8192x1280 1 [⟨S8192x512, x⟩, ⟨S8192x512, y⟩, ⟨S8192x256, z⟩] h (ix2 i (⟨512 + k.val, by omega⟩ : Fin 1280)) = y (ix2 i k) := by
  have h0 : ¬ 512 + k.val < 512 := by omega
  have h1 : 512 + k.val - 512 < 512 := by omega
  have e : (⟨512 + k.val - 512, h1⟩ : Fin 512) = k := by apply Fin.ext; show 512 + k.val - 512 = k.val; omega
  pointwise

theorem uv_host (i : Fin 8192) (k : Fin 512) : (V m c main_v3 : Vec Ideal S8192x1280 .f32) (ix2 i (⟨512 + k.val, by omega⟩ : Fin 1280)) = m ((c : Thread nD τ).loc main_arg1) (ix3 0 i k) := by
  unfold V; after_reads_simp
  refine (middle _ _ _ _ i k).trans ?_
  show (StableHlo.reshape main_arg1 main_v1 _ shapeCasts_S1x8192x512_S8192x512 _ _).result (StableHlo.upto hostOps0 (fun b => m (c, b)) 2) (Proc.tc.devRef main_v1) (ix2 i k) = _
  after_reads_at

theorem w_host (h : Fin 4) (t s : Fin 128) : (V m c main_arg3 : Vec Ideal S4x128x128 .f32) (ix3 h t s) = m ((c : Thread nD τ).loc main_arg3) (ix3 h t s) := by
  unfold V; after_reads_at

theorem b_host (t : Fin 128) (l : Fin 256) : (V m c main_v6 : Vec Ideal S128x256 .f32) (ix2 t l) = m ((c : Thread nD τ).loc main_arg4) (ix2 (head l) t) := by
  unfold V; after_reads_at
  rfl

theorem ps_host (l : Fin 256) : (V m c main_v26 : Vec Ideal S1x256 .f32) (ix2 0 l) = m ((c : Thread nD τ).loc main_arg6) (ix1 l) := by
  unfold V; after_reads_at

theorem gv_host (l : Fin 256) : (V m c main_v27 : Vec Ideal S1x256 .f32) (ix2 0 l) = m ((c : Thread nD τ).loc main_arg7) (ix1 l) := by
  unfold V; after_reads_at

theorem ga_host (k : Fin 512) : (V m c main_v21 : Vec Ideal S1x1024 .f32) (ix2 0 (fst k)) = m ((c : Thread nD τ).loc main_arg8) (ix1 k) := by
  unfold V; after_reads_at
  rw [dif_pos (show (fst k).val < 512 from k.isLt)]
  after_reads_at
  rfl

theorem gg_host (k : Fin 256) : (V m c main_v21 : Vec Ideal S1x1024 .f32) (ix2 0 (mid k)) = m ((c : Thread nD τ).loc main_arg9) (ix1 k) := by
  unfold V; after_reads_at
  have h0 : ¬ (mid k).val < 512 := by show ¬ 512 + k.val < 512; omega
  have h1 : (mid k).val - 512 < 256 := by show 512 + k.val - 512 < 256; omega
  have e : (⟨(mid k).val - 512, h1⟩ : Fin 256) = k := by apply Fin.ext; show 512 + k.val - 512 = k.val; omega
  rw [dif_neg h0, dif_pos h1, e]
  after_reads_at

theorem gp_host (k : Fin 256) : (V m c main_v21 : Vec Ideal S1x1024 .f32) (ix2 0 (lst k)) = m ((c : Thread nD τ).loc main_arg10) (ix1 k) := by
  unfold V; after_reads_at
  have h0 : ¬ (lst k).val < 512 := by show ¬ 768 + k.val < 512; omega
  have h1 : ¬ (lst k).val - 512 < 256 := by show ¬ 768 + k.val - 512 < 256; omega
  have e : (⟨(lst k).val - 512 - 256, by show 768 + k.val - 512 - 256 < 256; omega⟩ : Fin 256) = k := by apply Fin.ext; show 768 + k.val - 512 - 256 = k.val; omega
  rw [dif_neg h0, dif_neg h1, e]
  after_reads_at

theorem wo_host (k j : Fin 1024) : (V m c main_v28 : Vec Ideal S1024x1024 .bf16) (ix2 k j) = m ((c : Thread nD τ).loc main_arg11) (ix2 k j) := by
  unfold V; after_reads_at

theorem fits (h : Fin 4) : S256x256.Slices (fun _ => h.val * 64) S64x64 := by
  revert h; decide

/-- A block put on the diagonal. -/
theorem put (h : Fin 4) (x : S256x256.Idx → EReal) (u : S64x64.Idx → EReal) (start : Fin 2 → Int) (hs : ∀ a, start a = ((h.val * 64 : ℕ) : Int)) (U : Fin 64 → Fin 64 → EReal)
    (hu : ∀ a b, u (ix2 a b) = U a b) (k d : Fin 256) :
    Host.dynamicUpdateSlice x u start updateFits_S256x256_S64x64 (ix2 k d) = if head k = h ∧ head d = h then U (lane k) (lane d) else x (ix2 k d) := by
  rw [Host.dynamicUpdateSlice_eq_updateSlice x u start updateFits_S256x256_S64x64 (fun _ => h.val * 64) (fun a => by
    rw [hs]
    have hh := h.isLt
    match a with
    | ⟨0, _⟩ => show (min (max ((h.val * 64 : ℕ) : Int) 0) ((256 - 64 : ℕ) : Int)).toNat = h.val * 64; omega
    | ⟨1, _⟩ => show (min (max ((h.val * 64 : ℕ) : Int) 0) ((256 - 64 : ℕ) : Int)).toNat = h.val * 64; omega) (fits h)]
  unfold updateSlice
  by_cases q : head k = h ∧ head d = h
  · have ek : k.val / 64 = h.val := congrArg Fin.val q.1
    have ed : d.val / 64 = h.val := congrArg Fin.val q.2
    rw [if_pos q, dif_pos (fun a => by
      match a with
      | ⟨0, _⟩ => show h.val * 64 ≤ k.val ∧ k.val < h.val * 64 + 64; omega
      | ⟨1, _⟩ => show h.val * 64 ≤ d.val ∧ d.val < h.val * 64 + 64; omega), ← hu]
    refine congrArg u (funext fun a => Fin.ext ?_)
    match a with
    | ⟨0, _⟩ => show k.val - h.val * 64 = k.val % 64; omega
    | ⟨1, _⟩ => show d.val - h.val * 64 = d.val % 64; omega
  · rw [if_neg q, dif_neg]
    intro r
    have r0 : h.val * 64 ≤ k.val ∧ k.val < h.val * 64 + 64 := r 0
    have r1 : h.val * 64 ≤ d.val ∧ d.val < h.val * 64 + 64 := r 1
    exact q ⟨Fin.ext (show k.val / 64 = h.val by omega), Fin.ext (show d.val / 64 = h.val by omega)⟩

theorem diagonal (a b : Fin 4) (U : Fin 4 → EReal) :
    (if a = 3 ∧ b = 3 then U 3 else if a = 2 ∧ b = 2 then U 2 else if a = 1 ∧ b = 1 then U 1 else if a = 0 ∧ b = 0 then U 0 else 0) = if a = b then U b else 0 := by
  fin_cases a <;> fin_cases b <;> simp

set_option maxHeartbeats 1000000 in
theorem wb_host (k d : Fin 256) : (V m c main_v25 : Vec Ideal S256x256 .bf16) (ix2 k d)
    = if head k = head d then m ((c : Thread nD τ).loc main_arg5) (ix3 (head d) (lane k) (lane d)) else (0 : EReal) := by
  refine Eq.trans ?_ (diagonal (head k) (head d) fun h => m ((c : Thread nD τ).loc main_arg5) (ix3 h (lane k) (lane d)))
  unfold V; after_reads_simp
  rw [show ∀ (x : FVec Ideal S256x256 .f32) j, (truncf .bf16 x bitsLt_bf16_f32 : FVec Ideal S256x256 .bf16) j = x j from fun _ _ => rfl]
  refine (put 3 _ _ _ ?_ (fun a b => m ((c : Thread nD τ).loc main_arg5) (ix3 3 a b)) ?_ k d).trans (congrArg (fun z : EReal => ite _ _ z) ?_)
  · intro a
    match a with
    | ⟨0, _⟩ =>
      show BitVec.toInt ((StableHlo.upto hostOps0 (fun b => m (c, b)) 30 (Proc.tc.devRef main_c_7) : IVec S_ 32) (Shape.Idx.first h_S_)) = _
      after_reads_at
      rfl
    | ⟨1, _⟩ =>
      show BitVec.toInt ((StableHlo.upto hostOps0 (fun b => m (c, b)) 30 (Proc.tc.devRef main_c_8) : IVec S_ 32) (Shape.Idx.first h_S_)) = _
      after_reads_at
      rfl
  · intro a b
    pointwise
  refine (put 2 _ _ _ ?_ (fun a b => m ((c : Thread nD τ).loc main_arg5) (ix3 2 a b)) ?_ k d).trans (congrArg (fun z : EReal => ite _ _ z) ?_)
  · intro a
    match a with
    | ⟨0, _⟩ =>
      show BitVec.toInt ((StableHlo.upto hostOps0 (fun b => m (c, b)) 25 (Proc.tc.devRef main_c_5) : IVec S_ 32) (Shape.Idx.first h_S_)) = _
      after_reads_at
      rfl
    | ⟨1, _⟩ =>
      show BitVec.toInt ((StableHlo.upto hostOps0 (fun b => m (c, b)) 25 (Proc.tc.devRef main_c_6) : IVec S_ 32) (Shape.Idx.first h_S_)) = _
      after_reads_at
      rfl
  · intro a b
    pointwise
  refine (put 1 _ _ _ ?_ (fun a b => m ((c : Thread nD τ).loc main_arg5) (ix3 1 a b)) ?_ k d).trans (congrArg (fun z : EReal => ite _ _ z) ?_)
  · intro a
    match a with
    | ⟨0, _⟩ =>
      show BitVec.toInt ((StableHlo.upto hostOps0 (fun b => m (c, b)) 20 (Proc.tc.devRef main_c_3) : IVec S_ 32) (Shape.Idx.first h_S_)) = _
      after_reads_at
      rfl
    | ⟨1, _⟩ =>
      show BitVec.toInt ((StableHlo.upto hostOps0 (fun b => m (c, b)) 20 (Proc.tc.devRef main_c_4) : IVec S_ 32) (Shape.Idx.first h_S_)) = _
      after_reads_at
      rfl
  · intro a b
    pointwise
  refine (put 0 _ _ _ ?_ (fun a b => m ((c : Thread nD τ).loc main_arg5) (ix3 0 a b)) ?_ k d).trans (congrArg (fun z : EReal => ite _ _ z) ?_)
  · intro a
    match a with
    | ⟨0, _⟩ =>
      show BitVec.toInt ((StableHlo.upto hostOps0 (fun b => m (c, b)) 15 (Proc.tc.devRef main_c) : IVec S_ 32) (Shape.Idx.first h_S_)) = _
      after_reads_at
      rfl
    | ⟨1, _⟩ =>
      show BitVec.toInt ((StableHlo.upto hostOps0 (fun b => m (c, b)) 15 (Proc.tc.devRef main_c_2) : IVec S_ 32) (Shape.Idx.first h_S_)) = _
      after_reads_at
      rfl
  · intro a b
    pointwise
  exact Cert.AttnMath.word_zero

end Cert.MixIdeal.Layer

end
-- ==== Proof.MixArray.lean ====
module

public import proofs.«01_k».proof.Proof.MixPoint
public import proofs.«01_k».proof.Proof.MixHost

@[expose] public section

set_option maxRecDepth 16384

noncomputable section

/-! The arrays the kernel leaves. -/

namespace Cert.MixIdeal.Layer

open Cert.MixIdeal Cert.MixIdeal.Gen Idealize.ShloMosaic Idealize.ShloMosaic.TcCoe Idealize.SL.Sem
open Cert.NormMath Cert.MixMath
open Cert.AttnMath (coe_sum)

/-! ### Sums over the blocks -/

/-- A row is a block and a place in it; a group is a block and a place among its eight. -/
def spots : Fin 8 × Fin 1024 ≃ Fin 8192 where
  toFun q := spot q.1 q.2
  invFun i := (⟨i.val / 1024, by omega⟩, ⟨i.val % 1024, by omega⟩)
  left_inv q := by
    obtain ⟨p, r⟩ := q
    refine Prod.ext (Fin.ext ?_) (Fin.ext ?_)
    · show (p.val * 1024 + r.val) / 1024 = p.val; omega
    · show (p.val * 1024 + r.val) % 1024 = r.val; omega
  right_inv i := by
    apply Fin.ext
    show i.val / 1024 * 1024 + i.val % 1024 = i.val
    omega

def parts : Fin 8 × Fin 8 ≃ Fin 64 where
  toFun q := part q.1 q.2
  invFun i := (⟨i.val / 8, by omega⟩, ⟨i.val % 8, by omega⟩)
  left_inv q := by
    obtain ⟨p, k⟩ := q
    refine Prod.ext (Fin.ext ?_) (Fin.ext ?_)
    · show (p.val * 8 + k.val) / 8 = p.val; omega
    · show (p.val * 8 + k.val) % 8 = k.val; omega
  right_inv i := by
    apply Fin.ext
    show i.val / 8 * 8 + i.val % 8 = i.val
    omega

theorem sum_spots (f : Fin 8192 → ℝ) : ∑ p, ∑ r, f (spot p r) = ∑ i, f i := by
  rw [← spots.sum_comp, Fintype.sum_prod_type]
  rfl

theorem sum_parts (f : Fin 64 → ℝ) : ∑ p, ∑ k, f (part p k) = ∑ i, f i := by
  rw [← parts.sum_comp, Fintype.sum_prod_type]
  rfl

/-- A value that starts as the first of eight numbers and grows by each of the others is their sum. -/
theorem eight_steps (f : Fin 8 → ℝ) (S : (n : ℕ) → n < 8 → EReal) (h0 : S 0 (by omega) = (f 0 : EReal))
    (hs : ∀ n (hn : n + 1 < 8), S (n + 1) hn = plus (S n (Nat.lt_of_succ_lt hn)) (f ⟨n + 1, hn⟩ : EReal)) : S 7 (by omega) = ((∑ p, f p : ℝ) : EReal) := by
  rw [hs 6, hs 5, hs 4, hs 3, hs 2, hs 1, hs 0, h0, Fin.sum_univ_eight]
  simp only [plus, EReal.coe_add]
  rfl

variable (A : Args)

theorem sum_out (j : S1x1024.Idx) : ∑ p, outPart A p j = A.dgo (j 1) := sum_spots fun i => A.dgoRow i (j 1)

theorem sum_gates (j : S1x256.Idx) : ∑ p, gatesPart A p j = A.dgv (j 1) := sum_spots fun i => A.dgvRow i (j 1)

theorem sum_scales (j : S1x256.Idx) : ∑ p, scalesPart A p j = A.dps (j 1) := sum_spots fun i => A.dpsRow i (j 1)

theorem sum_bias (j : S128x256.Idx) : ∑ p, biasPart A p j = A.dbs (j 0) (j 1) := sum_parts fun k => A.dzc (row k (j 0)) (j 1)

theorem sum_pool (j : S256x256.Idx) : ∑ p, poolPart A p j = A.dwbd (j 0) (j 1) := sum_spots fun i => A.m i (j 0) * A.dpw i (j 1)

theorem sum_mats (j : S4x128x128.Idx) : ∑ p, matsPart A p j = A.dws (j 0) (j 1) (j 2) := by
  by_cases h : (j 2 : Fin 128) ≤ j 1
  · refine (Finset.sum_congr rfl fun p _ => if_pos h).trans ?_
    exact (sum_parts fun k => A.dwsChunk k (j 0) (j 1) (j 2)).trans (if_pos h).symm
  · refine (Finset.sum_congr rfl fun p _ => if_neg h).trans ?_
    exact Finset.sum_const_zero.trans (if_neg h).symm

/-! ### The points -/

section Arrays

variable (m : (ℓ : Loc nD τ sig) → Buf (Elt Ideal) ℓ) (c : Dev nD)

/-- The arguments are these numbers. -/
structure Given : Prop where
  o : ∀ i k, m ((c : Thread nD τ).loc main_arg0) (ix3 0 i k) = (A.o i k : EReal)
  u : ∀ i (l : Fin 256), m ((c : Thread nD τ).loc main_arg1) (ix3 0 i (⟨l.val, by omega⟩ : Fin 512)) = (A.u i l : EReal)
  v : ∀ i (l : Fin 256), m ((c : Thread nD τ).loc main_arg1) (ix3 0 i (⟨256 + l.val, by omega⟩ : Fin 512)) = (A.v i l : EReal)
  rows : ∀ i l, m ((c : Thread nD τ).loc main_arg2) (ix3 0 i l) = (A.m i l : EReal)
  ws : ∀ h t s, m ((c : Thread nD τ).loc main_arg3) (ix3 h t s) = (A.ws h t s : EReal)
  bs : ∀ h t, m ((c : Thread nD τ).loc main_arg4) (ix2 h t) = (A.bs h t : EReal)
  wp : ∀ h k d, m ((c : Thread nD τ).loc main_arg5) (ix3 h k d) = (A.wp h k d : EReal)
  ps : ∀ l, m ((c : Thread nD τ).loc main_arg6) (ix1 l) = (A.ps l : EReal)
  gv : ∀ l, m ((c : Thread nD τ).loc main_arg7) (ix1 l) = (A.gv l : EReal)
  ga : ∀ k, m ((c : Thread nD τ).loc main_arg8) (ix1 k) = (A.ga k : EReal)
  gg : ∀ l, m ((c : Thread nD τ).loc main_arg9) (ix1 l) = (A.gg l : EReal)
  gp : ∀ l, m ((c : Thread nD τ).loc main_arg10) (ix1 l) = (A.gp l : EReal)
  wo : ∀ k j, m ((c : Thread nD τ).loc main_arg11) (ix2 k j) = (A.wo k j : EReal)
  dx : ∀ i j, m ((c : Thread nD τ).loc main_arg12) (ix3 0 i j) = (A.dx i j : EReal)

/-- The block of a point. -/
def block (t : Fin cfg0.N) : Fin 8 := ⟨t.val, t.isLt⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 1] := by decide +kernel
theorem index3 : ∀ t : Fin grid0.N, win0_3.index t = ![t.val, 0] := by decide +kernel
theorem index4 : ∀ t : Fin grid0.N, win0_4.index t = ![0, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, t.val, 0] := by decide +kernel
theorem index12 : ∀ t : Fin grid0.N, win0_12.index t = ![0, t.val, 0] := by decide +kernel
theorem index13 : ∀ t : Fin grid0.N, win0_13.index t = ![t.val, 0] := by decide +kernel
theorem index14 : ∀ t : Fin grid0.N, win0_14.index t = ![t.val, 0] := by decide +kernel
theorem index15 : ∀ t : Fin grid0.N, win0_15.index t = ![0, 0] := by decide +kernel
theorem index16 : ∀ t : Fin grid0.N, win0_16.index t = ![0, 0] := by decide +kernel
theorem index17 : ∀ t : Fin grid0.N, win0_17.index t = ![0, 0] := by decide +kernel
theorem index18 : ∀ t : Fin grid0.N, win0_18.index t = ![0, 0, 0] := by decide +kernel
theorem index19 : ∀ t : Fin grid0.N, win0_19.index t = ![0, 0] := by decide +kernel
theorem index20 : ∀ t : Fin grid0.N, win0_20.index t = ![0, 0] := by decide +kernel

/-- The factors of the gate lie in the middle columns of the array. -/
theorem factors_block (t : Fin cfg0.N) (r : Fin 1024) (k : Fin 512) : X0_2 m c t (ix2 r k) = m ((c : Thread nD τ).loc main_arg1) (ix3 0 (spot (block t) r) k) := by
  rw [← uv_host m c]
  have e := index2 t
  unfold X0_2 Pipeline.Window.fill
  rw [dif_pos (moved0_2 t (ix2 r k))]
  blk_simp [iblk]
  congr 1
  blk_ext [e, spot, block]

set_option maxHeartbeats 1000000 in
/-- What a point reads. -/
theorem blocks (h : Given A m c) (t : Fin cfg0.N) :
    Loaded A (block t) (iblk m c 0 t) (iblk m c 1 t) (X0_2 m c t) (iblk m c 3 t) (matOf (iblk m c 4 t)) (iblk m c 5 t) (iblk m c 6 t) (iblk m c 7 t) (iblk m c 8 t) (iblk m c 9 t) (iblk m c 10 t) where
  dx r j := by
    rw [← h.dx, ← dx_host m c]
    have e := index0 t
    blk_simp [iblk]
    congr 1
    blk_ext [e, spot, block]
  o r k := by
    rw [← h.o, ← o_host m c]
    have e := index1 t
    blk_simp [iblk]
    congr 1
    blk_ext [e, spot, block]
  u r l := (factors_block m c t r _).trans (h.u _ l)
  v r l := (factors_block m c t r _).trans (h.v _ l)
  m r l := by
    rw [← h.rows, ← m_host m c]
    have e := index3 t
    blk_simp [iblk]
    congr 1
    blk_ext [e, spot, block]
  w k a b := by
    refine (congrArg (iblk m c 4 t) (mat_emb k a b)).trans ?_
    rw [← h.ws, ← w_host m c]
    have e := index4 t
    blk_simp [iblk]
    congr 1
    blk_ext [e]
  b a l := by
    rw [← h.bs, ← b_host m c]
    have e := index5 t
    blk_simp [iblk]
    congr 1
    blk_ext [e, spot, block]
  wb k d := by
    have q : (V m c main_v25 : Vec Ideal S256x256 .bf16) (ix2 k d) = (A.wbd k d : EReal) := by
      rw [wb_host, h.wp]
      unfold Args.wbd
      by_cases hk : head k = head d
      · rw [if_pos hk, if_pos hk]
      · rw [if_neg hk, if_neg hk]
        rfl
    rw [← q]
    have e := index6 t
    blk_simp [iblk]
    congr 1
    blk_ext [e]
  ps l := by
    rw [← h.ps, ← ps_host m c]
    have e := index7 t
    blk_simp [iblk]
    congr 1
    blk_ext [e, spot, block]
  gv l := by
    rw [← h.gv, ← gv_host m c]
    have e := index8 t
    blk_simp [iblk]
    congr 1
    blk_ext [e, spot, block]
  ga k := by
    rw [← h.ga, ← ga_host m c]
    have e := index9 t
    blk_simp [iblk]
    congr 1
    blk_ext [e, spot, block]
  gg k := by
    rw [← h.gg, ← gg_host m c]
    have e := index9 t
    blk_simp [iblk]
    congr 1
    blk_ext [e, spot, block]
  gp k := by
    rw [← h.gp, ← gp_host m c]
    have e := index9 t
    blk_simp [iblk]
    congr 1
    blk_ext [e, spot, block]
  wo k j := by
    rw [← h.wo, ← wo_host m c]
    have e := index10 t
    blk_simp [iblk]
    congr 1
    blk_ext [e, spot, block]

theorem first_point (h : Given A m c) (t : Fin cfg0.N) (ht : t.val = 0) :
    Left A (block t) (outsAt0 m c t.val t.isLt).1 (outsAt0 m c t.val t.isLt).2.1 (outsAt0 m c t.val t.isLt).2.2.1 (outsAt0 m c t.val t.isLt).2.2.2.1
      ∧ Begun A (block t) (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2.1 (outsAt0 m c t.val t.isLt).2.2.2.2.2.2.2.2.2 := by
  have h0 : t.val % 8 = 0 := by omega
  have h1 : ¬1 ≤ t.val := by omega
  have k := point_A A (block t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (X0_2 m c t) (iblk m c 3 t) (iblk m c 4 t) (iblk m c 5 t) (iblk m c 6 t) (iblk m c 7 t) (iblk m c 8 t) (iblk m c 9 t) (iblk m c 10 t) (blocks A m c h t) ((hcond0_0 t).mpr h0) (fun e => h1 ((hcond0_1 t).mp e)) ((hcond0_2 t).mpr h0) (fun e => h1 ((hcond0_3 t).mp e)) ((hcond0_4 t).mpr h0) (fun e => h1 ((hcond0_5 t).mp e)) ((hcond0_6 t).mpr h0) (fun e => h1 ((hcond0_7 t).mp e)) ((hcond0_8 t).mpr h0) (fun e => h1 ((hcond0_9 t).mp e)) ((hcond0_10 t).mpr h0) (fun e => h1 ((hcond0_11 t).mp e)) ((hcond0_12 t).mpr h0) (fun e => h1 ((hcond0_13 t).mp e)) ((hcond0_14 t).mpr h0) (fun e => h1 ((hcond0_15 t).mp e)) ((hcond0_16 t).mpr h0) (fun e => h1 ((hcond0_17 t).mp e))
  rw [outsAt0_A m c t h0 h1 h0 h1 h0 h1 h0 h1 h0 h1 h0 h1 h0 h1 h0 h1 h0 h1]
  dsimp only
  exact k

theorem later_point (h : Given A m c) (t : Fin cfg0.N) (h1 : 1 ≤ t.val) :
    Left A (block t) (outsAt0 m c t.val t.isLt).1 (outsAt0 m c t.val t.isLt).2.1 (outsAt0 m c t.val t.isLt).2.2.1 (outsAt0 m c t.val t.isLt).2.2.2.1
      ∧ Grown A (block t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
        (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2.1 (outsAt0 m c t.val t.isLt).2.2.2.2.2.2.2.2.2 := by
  have h0 : ¬t.val % 8 = 0 := by have : t.val < 8 := t.isLt; omega
  have k := point_B A (block t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (X0_2 m c t) (iblk m c 3 t) (iblk m c 4 t) (iblk m c 5 t) (iblk m c 6 t) (iblk m c 7 t) (iblk m c 8 t) (iblk m c 9 t) (iblk m c 10 t) (blocks A m c h t) (fun e => h0 ((hcond0_0 t).mp e)) ((hcond0_1 t).mpr h1) (fun e => h0 ((hcond0_2 t).mp e)) ((hcond0_3 t).mpr h1) (fun e => h0 ((hcond0_4 t).mp e)) ((hcond0_5 t).mpr h1) (fun e => h0 ((hcond0_6 t).mp e)) ((hcond0_7 t).mpr h1) (fun e => h0 ((hcond0_8 t).mp e)) ((hcond0_9 t).mpr h1) (fun e => h0 ((hcond0_10 t).mp e)) ((hcond0_11 t).mpr h1) (fun e => h0 ((hcond0_12 t).mp e)) ((hcond0_13 t).mpr h1) (fun e => h0 ((hcond0_14 t).mp e)) ((hcond0_15 t).mpr h1) (fun e => h0 ((hcond0_16 t).mp e)) ((hcond0_17 t).mpr h1) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2
  rw [outsAt0_B m c t h0 h1 h0 h1 h0 h1 h0 h1 h0 h1 h0 h1 h0 h1 h0 h1 h0 h1]
  dsimp only
  exact k

theorem any_point (h : Given A m c) (t : Fin cfg0.N) : Left A (block t) (outsAt0 m c t.val t.isLt).1 (outsAt0 m c t.val t.isLt).2.1 (outsAt0 m c t.val t.isLt).2.2.1 (outsAt0 m c t.val t.isLt).2.2.2.1 := by
  by_cases h0 : t.val = 0
  · exact (first_point A m c h t h0).1
  · exact (later_point A m c h t (by omega)).1

/-! ### The outputs -/

/-- The four outputs of the rows, -/
def headsArr : Vec Ideal S4x8192x128 .bf16 := fun j => (A.dO (j 1) (wide (j 0) (j 2)) : EReal)

def sumsArr : Vec Ideal S4x8192x128 .f32 := fun j => (A.dl (j 0) (j 1) : EReal)

def factorsArr : Vec Ideal S8192x512 .bf16 := fun j => (sides A (j 0) (j 1) : EReal)

def rowsArr : Vec Ideal S8192x256 .f32 := fun j => (A.dm (j 0) (j 1) : EReal)

/-- and the six sums. -/
def outArr : Vec Ideal S1x1024 .f32 := fun j => (A.dgo (j 1) : EReal)

def gatesArr : Vec Ideal S1x256 .f32 := fun j => (A.dgv (j 1) : EReal)

def scalesArr : Vec Ideal S1x256 .f32 := fun j => (A.dps (j 1) : EReal)

def matsArr : Vec Ideal S4x128x128 .f32 := fun j => (A.dws (j 0) (j 1) (j 2) : EReal)

def biasArr : Vec Ideal S128x256 .f32 := fun j => (A.dbs (j 0) (j 1) : EReal)

def poolArr : Vec Ideal S256x256 .f32 := fun j => (A.dwbd (j 0) (j 1) : EReal)

theorem final_heads (h : Given A m c) : (dats m 0 c).arrAt 11 cfg0.N = headsArr A := by
  refine (dats m 0 c).arrAt_eq_of_covers 11 _ (by decide +kernel) fun t hf y => ?_
  have ew := index11 t
  have e : (win0_11.blk t).view.emb y = ix3 (y 0) (spot (block t) (y 1)) (y 2) := by
    idx_vars y
    blk_ext [ew, spot, block]
  blk_simp
  rw [after0_11, e]
  exact (any_point A m c h t).heads y

theorem final_sums (h : Given A m c) : (dats m 0 c).arrAt 12 cfg0.N = sumsArr A := by
  refine (dats m 0 c).arrAt_eq_of_covers 12 _ (by decide +kernel) fun t hf y => ?_
  have ew := index12 t
  have e : (win0_12.blk t).view.emb y = ix3 (y 0) (spot (block t) (y 1)) (y 2) := by
    idx_vars y
    blk_ext [ew, spot, block]
  blk_simp
  rw [after0_12, e]
  exact (any_point A m c h t).sums y

theorem final_factors (h : Given A m c) : (dats m 0 c).arrAt 13 cfg0.N = factorsArr A := by
  refine (dats m 0 c).arrAt_eq_of_covers 13 _ (by decide +kernel) fun t hf y => ?_
  have ew := index13 t
  have e : (win0_13.blk t).view.emb y = ix2 (spot (block t) (y 0)) (y 1) := by
    idx_vars y
    blk_ext [ew, spot, block]
  blk_simp
  rw [after0_13, e]
  exact (any_point A m c h t).factors y

theorem final_rows (h : Given A m c) : (dats m 0 c).arrAt 14 cfg0.N = rowsArr A := by
  refine (dats m 0 c).arrAt_eq_of_covers 14 _ (by decide +kernel) fun t hf y => ?_
  have ew := index14 t
  have e : (win0_14.blk t).view.emb y = ix2 (spot (block t) (y 0)) (y 1) := by
    idx_vars y
    blk_ext [ew, spot, block]
  blk_simp
  rw [after0_14, e]
  exact (any_point A m c h t).rows y

theorem last15 : ∀ t : Fin cfg0.N, (cfg0.win 15).flush t = true → t.val = 7 := by decide +kernel

theorem final_out (h : Given A m c) : (dats m 0 c).arrAt 15 cfg0.N = outArr A := by
  refine (dats m 0 c).arrAt_eq_of_covers 15 _ (by decide +kernel) fun t hf y => ?_
  have ew := index15 t
  have e : (win0_15.blk t).view.emb y = y := by
    idx_vars y
    blk_ext [ew]
  blk_simp
  rw [after0_15, e]
  obtain rfl : t = ⟨7, by decide⟩ := Fin.ext (last15 t hf)
  refine (eight_steps (fun p => outPart A p y) (fun n hn => (outsAt0 m c n hn).2.2.2.2.1 y) ((first_point A m c h ⟨0, by decide⟩ rfl).2.out y)
    fun n hn => (later_point A m c h ⟨n + 1, hn⟩ (Nat.le_add_left _ _)).2.out y).trans ?_
  exact congrArg (fun r : ℝ => (r : EReal)) (sum_out A y)

theorem last16 : ∀ t : Fin cfg0.N, (cfg0.win 16).flush t = true → t.val = 7 := by decide +kernel

theorem final_gates (h : Given A m c) : (dats m 0 c).arrAt 16 cfg0.N = gatesArr A := by
  refine (dats m 0 c).arrAt_eq_of_covers 16 _ (by decide +kernel) fun t hf y => ?_
  have ew := index16 t
  have e : (win0_16.blk t).view.emb y = y := by
    idx_vars y
    blk_ext [ew]
  blk_simp
  rw [after0_16, e]
  obtain rfl : t = ⟨7, by decide⟩ := Fin.ext (last16 t hf)
  refine (eight_steps (fun p => gatesPart A p y) (fun n hn => (outsAt0 m c n hn).2.2.2.2.2.1 y) ((first_point A m c h ⟨0, by decide⟩ rfl).2.gates y)
    fun n hn => (later_point A m c h ⟨n + 1, hn⟩ (Nat.le_add_left _ _)).2.gates y).trans ?_
  exact congrArg (fun r : ℝ => (r : EReal)) (sum_gates A y)

theorem last17 : ∀ t : Fin cfg0.N, (cfg0.win 17).flush t = true → t.val = 7 := by decide +kernel

theorem final_scales (h : Given A m c) : (dats m 0 c).arrAt 17 cfg0.N = scalesArr A := by
  refine (dats m 0 c).arrAt_eq_of_covers 17 _ (by decide +kernel) fun t hf y => ?_
  have ew := index17 t
  have e : (win0_17.blk t).view.emb y = y := by
    idx_vars y
    blk_ext [ew]
  blk_simp
  rw [after0_17, e]
  obtain rfl : t = ⟨7, by decide⟩ := Fin.ext (last17 t hf)
  refine (eight_steps (fun p => scalesPart A p y) (fun n hn => (outsAt0 m c n hn).2.2.2.2.2.2.1 y) ((first_point A m c h ⟨0, by decide⟩ rfl).2.scales y)
    fun n hn => (later_point A m c h ⟨n + 1, hn⟩ (Nat.le_add_left _ _)).2.scales y).trans ?_
  exact congrArg (fun r : ℝ => (r : EReal)) (sum_scales A y)

theorem last18 : ∀ t : Fin cfg0.N, (cfg0.win 18).flush t = true → t.val = 7 := by decide +kernel

theorem final_mats (h : Given A m c) : (dats m 0 c).arrAt 18 cfg0.N = matsArr A := by
  refine (dats m 0 c).arrAt_eq_of_covers 18 _ (by decide +kernel) fun t hf y => ?_
  have ew := index18 t
  have e : (win0_18.blk t).view.emb y = y := by
    idx_vars y
    blk_ext [ew]
  blk_simp
  rw [after0_18, e]
  obtain rfl : t = ⟨7, by decide⟩ := Fin.ext (last18 t hf)
  refine (eight_steps (fun p => matsPart A p y) (fun n hn => (outsAt0 m c n hn).2.2.2.2.2.2.2.1 y) ((first_point A m c h ⟨0, by decide⟩ rfl).2.mats y)
    fun n hn => (later_point A m c h ⟨n + 1, hn⟩ (Nat.le_add_left _ _)).2.mats y).trans ?_
  exact congrArg (fun r : ℝ => (r : EReal)) (sum_mats A y)

theorem last19 : ∀ t : Fin cfg0.N, (cfg0.win 19).flush t = true → t.val = 7 := by decide +kernel

theorem final_bias (h : Given A m c) : (dats m 0 c).arrAt 19 cfg0.N = biasArr A := by
  refine (dats m 0 c).arrAt_eq_of_covers 19 _ (by decide +kernel) fun t hf y => ?_
  have ew := index19 t
  have e : (win0_19.blk t).view.emb y = y := by
    idx_vars y
    blk_ext [ew]
  blk_simp
  rw [after0_19, e]
  obtain rfl : t = ⟨7, by decide⟩ := Fin.ext (last19 t hf)
  refine (eight_steps (fun p => biasPart A p y) (fun n hn => (outsAt0 m c n hn).2.2.2.2.2.2.2.2.1 y) ((first_point A m c h ⟨0, by decide⟩ rfl).2.bias y)
    fun n hn => (later_point A m c h ⟨n + 1, hn⟩ (Nat.le_add_left _ _)).2.bias y).trans ?_
  exact congrArg (fun r : ℝ => (r : EReal)) (sum_bias A y)

theorem last20 : ∀ t : Fin cfg0.N, (cfg0.win 20).flush t = true → t.val = 7 := by decide +kernel

theorem final_pool (h : Given A m c) : (dats m 0 c).arrAt 20 cfg0.N = poolArr A := by
  refine (dats m 0 c).arrAt_eq_of_covers 20 _ (by decide +kernel) fun t hf y => ?_
  have ew := index20 t
  have e : (win0_20.blk t).view.emb y = y := by
    idx_vars y
    blk_ext [ew]
  blk_simp
  rw [after0_20, e]
  obtain rfl : t = ⟨7, by decide⟩ := Fin.ext (last20 t hf)
  refine (eight_steps (fun p => poolPart A p y) (fun n hn => (outsAt0 m c n hn).2.2.2.2.2.2.2.2.2 y) ((first_point A m c h ⟨0, by decide⟩ rfl).2.pool y)
    fun n hn => (later_point A m c h ⟨n + 1, hn⟩ (Nat.le_add_left _ _)).2.pool y).trans ?_
  exact congrArg (fun r : ℝ => (r : EReal)) (sum_pool A y)

end Arrays

end Cert.MixIdeal.Layer

end
-- ==== Proof.MixRef.lean ====
module

public import proofs.«01_k».proof.Proof.Gen.MixReferenceIdeal.Read
public import proofs.«01_k».proof.Proof.MixMath
public import proofs.«01_k».proof.Proof.InRef

@[expose] public section

set_option maxRecDepth 16384

noncomputable section

/-! What the derivative of the plain layer before the output product leaves, where its arguments are real numbers. -/

namespace Cert.MixMath

open Idealize.ShloMosaic Cert.NormMath
open Cert.AttnMath (coe_sum word_zero word_one div_real)

theorem word_256 : Ideal.ofBits .f32 0x43800000#32 = ((256 : ℕ) : ℝ) := by
  simp [Ideal.ofBits, Ideal.ieee, -EReal.coe_mul]; norm_num

theorem word_512 : Ideal.ofBits .f32 0x44000000#32 = ((512 : ℕ) : ℝ) := by
  simp [Ideal.ofBits, Ideal.ieee, -EReal.coe_mul]; norm_num

variable {n : ℕ}

/-- A sum from zero of real numbers. -/
theorem zero_sum (S : Fin n → EReal) (f : Fin n → ℝ) (h : ∀ k, S k = (f k : EReal)) : Ideal.ofBits .f32 0x00000000#32 + ∑ k, S k = ((∑ k, f k : ℝ) : EReal) := by
  rw [Finset.sum_congr rfl fun k _ => h k, coe_sum, word_zero, zero_add]

theorem real_sum (S : Fin n → EReal) (f : Fin n → ℝ) (h : ∀ k, S k = (f k : EReal)) : ∑ k, S k = ((∑ k, f k : ℝ) : EReal) := by
  rw [Finset.sum_congr rfl fun k _ => h k, coe_sum]

/-- The mean of the squares with the small number added, -/
theorem square_words (hn : n ≠ 0) {N : EReal} (hN : N = ((n : ℝ) : EReal)) (S : Fin n → EReal) (x : Fin n → ℝ) (h : ∀ k, S k = ((x k * x k : ℝ) : EReal)) :
    Ideal.div (Ideal.ofBits .f32 0x00000000#32 + ∑ k, S k) N + Ideal.ofBits .f32 0x358637BD#32 = (square x : EReal) := by
  rw [zero_sum S _ h, hN, word_eps, div_real _ _ (Nat.cast_ne_zero.mpr hn), ← EReal.coe_add]
  rfl

/-- and the derivative through it. -/
theorem slope_words (hn : n ≠ 0) {N : EReal} (hN : N = ((n : ℝ) : EReal)) (S : Fin n → EReal) (x y : Fin n → ℝ) (h : ∀ k, S k = ((x k * y k : ℝ) : EReal)) :
    Ideal.div ((Ideal.ofBits .f32 0x00000000#32 + ∑ k, S k) * ((-(1 / 2) * (inv x / square x) : ℝ) : EReal)) N = (NormMath.slope x y : EReal) := by
  rw [zero_sum S _ h, hN, ← EReal.coe_mul, div_real _ _ (Nat.cast_ne_zero.mpr hn)]
  rfl

theorem slope_part (x : Fin n → ℝ) : Ideal.ofBits .f32 0xBF000000#32 * Ideal.div (inv x : EReal) (square x : EReal) = ((-(1 / 2) * (inv x / square x) : ℝ) : EReal) := by
  rw [div_real _ _ (square_pos _).ne', word_neg_half, ← EReal.coe_mul]

theorem grad_words (x y : Fin n → ℝ) (d : Fin n) :
    (y d : EReal) * (inv x : EReal) + (x d : EReal) * (NormMath.slope x y : EReal) + (NormMath.slope x y : EReal) * (x d : EReal) = (grad x y d : EReal) := by
  rw [← EReal.coe_mul, ← EReal.coe_mul, ← EReal.coe_mul, ← EReal.coe_add, ← EReal.coe_add, grad_eq]

/-- A sum over two axes of length one. -/
theorem sum_units_row (h : (⟨3, ![1, 1, n]⟩ : Shape).ReducesTo [0, 1] ⟨1, ![n]⟩) (S : (⟨3, ![1, 1, n]⟩ : Shape).Idx → EReal) (d : Fin n) :
    Ideal.hostReduceAdd h S (Ideal.ofBits .f32 0x00000000#32) (ix1 d) = S (ix3 (0 : Fin 1) (0 : Fin 1) d) := by
  rw [word_zero]
  unfold Ideal.hostReduceAdd
  have e : (Finset.univ.filter fun y : (⟨3, ![1, 1, n]⟩ : Shape).Idx => h.drop y = ix1 d) = {ix3 (0 : Fin 1) (0 : Fin 1) d} := by
    ext y
    rw [Finset.mem_filter, Finset.mem_singleton]
    constructor
    · rintro ⟨-, e⟩
      refine (eq_ix3 y).trans ?_
      have e0 : y 2 = d := Fin.ext (congrArg (fun z : (⟨1, ![n]⟩ : Shape).Idx => (z 0).val) e)
      have e1 : y 0 = (0 : Fin 1) := Subsingleton.elim (α := Fin 1) _ _
      have e2 : y 1 = (0 : Fin 1) := Subsingleton.elim (α := Fin 1) _ _
      rw [e0, e1, e2]
    · rintro rfl
      refine ⟨Finset.mem_univ _, funext fun b => ?_⟩
      match b with
      | ⟨0, _⟩ => rfl
  rw [e, Finset.sum_singleton, zero_add]

end Cert.MixMath

namespace Cert.MixReferenceIdeal.Layer

open Idealize.ShloMosaic Cert.MixReferenceIdeal Cert.MixReferenceIdeal.Gen Cert.MixReferenceIdeal.Read
open Cert.NormMath Cert.MixMath
open Cert.AttnMath (coe_sum word_zero word_one div_real)

/-- The thirteen arguments, as real numbers. -/
structure Reals (A : Args) (x0 x1 : Vec Ideal S1x8192x512 .f32) (x2 : Vec Ideal S1x8192x256 .f32) (x3 : Vec Ideal S4x128x128 .f32) (x4 : Vec Ideal S4x128 .f32) (x5 : Vec Ideal S4x64x64 .f32)
    (x6 x7 : Vec Ideal S256 .f32) (x8 : Vec Ideal S512 .f32) (x9 x10 : Vec Ideal S256 .f32) (x11 : Vec Ideal S1024x1024 .f32) (x12 : Vec Ideal S1x8192x1024 .f32) : Prop where
  h0 : ∀ i, x0 i = (A.o (i 1) (i 2) : EReal)
  h1u : ∀ (r : Fin 8192) (l : Fin 256), x1 (ix3 (0 : Fin 1) r (⟨l.val, by omega⟩ : Fin 512)) = (A.u r l : EReal)
  h1v : ∀ (r : Fin 8192) (l : Fin 256), x1 (ix3 (0 : Fin 1) r (⟨256 + l.val, by omega⟩ : Fin 512)) = (A.v r l : EReal)
  h2 : ∀ i, x2 i = (A.m (i 1) (i 2) : EReal)
  h3 : ∀ i, x3 i = (A.ws (i 0) (i 1) (i 2) : EReal)
  h4 : ∀ i, x4 i = (A.bs (i 0) (i 1) : EReal)
  h5 : ∀ i, x5 i = (A.wp (i 0) (i 1) (i 2) : EReal)
  h6 : ∀ i, x6 i = (A.ps (i 0) : EReal)
  h7 : ∀ i, x7 i = (A.gv (i 0) : EReal)
  h8 : ∀ i, x8 i = (A.ga (i 0) : EReal)
  h9 : ∀ i, x9 i = (A.gg (i 0) : EReal)
  h10 : ∀ i, x10 i = (A.gp (i 0) : EReal)
  h11 : ∀ i, x11 i = (A.wo (i 0) (i 1) : EReal)
  h12 : ∀ i, x12 i = (A.dx (i 1) (i 2) : EReal)

variable {A : Args} {x0 x1 : Vec Ideal S1x8192x512 .f32} {x2 : Vec Ideal S1x8192x256 .f32} {x3 : Vec Ideal S4x128x128 .f32} {x4 : Vec Ideal S4x128 .f32} {x5 : Vec Ideal S4x64x64 .f32}
  {x6 x7 : Vec Ideal S256 .f32} {x8 : Vec Ideal S512 .f32} {x9 x10 : Vec Ideal S256 .f32} {x11 : Vec Ideal S1024x1024 .f32} {x12 : Vec Ideal S1x8192x1024 .f32}
  (H : Reals A x0 x1 x2 x3 x4 x5 x6 x7 x8 x9 x10 x11 x12)

include H

/-! ### The two halves of the gate -/

theorem v2_at (i : S1x8192x256.Idx) : val_main_v2 (F := Ideal) x1 i = (A.u (i 1) (i 2) : EReal) := by
  rw [val_main_v2_apply]
  exact (congrArg x1 (funext fun a => by match a with | ⟨0, _⟩ => exact Subsingleton.elim (α := Fin 1) _ _ | ⟨1, _⟩ => rfl | ⟨2, _⟩ => rfl)).trans (H.h1u (i 1) (i 2))

theorem v3_at (i : S1x8192x256.Idx) : val_main_v3 (F := Ideal) x1 i = (A.v (i 1) (i 2) : EReal) := by
  rw [val_main_v3_apply]
  exact (congrArg x1 (funext fun a => by match a with | ⟨0, _⟩ => exact Subsingleton.elim (α := Fin 1) _ _ | ⟨1, _⟩ => rfl | ⟨2, _⟩ => rfl)).trans (H.h1v (i 1) (i 2))

/-! ### The norm of the gate's second half -/

theorem v10_at (i : S1x8192x1.Idx) : val_main_v10 (F := Ideal) x1 i = ((square (A.v (i 1)) : ℝ) : EReal) := by
  rw [val_main_v10_apply, val_main_v8_apply, val_main_v6_apply, val_main_v5_apply, val_main_v7_apply, val_main_v9_apply]
  exact square_words (n := 256) (by norm_num) word_256 _ (A.v (i 1)) fun k => by rw [val_main_v4_apply, v3_at H]; exact (EReal.coe_mul _ _).symm

theorem v11_at (i : S1x8192x1.Idx) : val_main_v11 (F := Ideal) x1 i = ((inv (A.v (i 1)) : ℝ) : EReal) := by
  rw [val_main_v11_apply, v10_at H]
  exact rsqrt_square _

theorem v14_at (i : S1x8192x1.Idx) : val_main_v14 (F := Ideal) x1 i = ((-(1 / 2) * (inv (A.v (i 1)) / square (A.v (i 1))) : ℝ) : EReal) := by
  rw [val_main_v14_apply, val_main_v13_apply, val_main_v12_apply, v11_at H, v10_at H]
  exact slope_part _

theorem v16_at (i : S1x8192x256.Idx) : val_main_v16 (F := Ideal) x1 i = ((A.v (i 1) (i 2) * inv (A.v (i 1)) : ℝ) : EReal) := by
  rw [val_main_v16_apply, val_main_v15_apply, v11_at H, v3_at H]
  exact (EReal.coe_mul _ _).symm

theorem v19_at (i : S1x8192x256.Idx) : val_main_v19 (F := Ideal) x1 x7 i = ((A.vn (i 1) (i 2) : ℝ) : EReal) := by
  rw [val_main_v19_apply, v16_at H, val_main_v18_apply, val_main_v17_apply, H.h7]
  exact (EReal.coe_mul _ _).symm

/-! ### The gate -/

theorem v20_at (i : S1x64x128x4x64.Idx) : val_main_v20 (F := Ideal) x1 x7 i = (A.vn (row (i 1) (i 2)) (col (i 3) (i 4)) : EReal) := by
  have l0 : (i 0).val < 1 := (i 0).isLt
  have l1 : (i 1).val < 64 := (i 1).isLt
  have l2 : (i 2).val < 128 := (i 2).isLt
  have l3 : (i 3).val < 4 := (i 3).isLt
  have l4 : (i 4).val < 64 := (i 4).isLt
  have e : idx_main_v20 i = ix3 (0 : Fin 1) (row (i 1) (i 2)) (col (i 3) (i 4)) := by
    funext a
    match a with
    | ⟨0, _⟩ => rfl
    | ⟨1, _⟩ => apply Fin.ext; show (((((i 0).val * 64 + (i 1).val) * 128 + (i 2).val) * 4 + (i 3).val) * 64 + (i 4).val) / 256 % 8192 = (i 1).val * 128 + (i 2).val; omega
    | ⟨2, _⟩ => apply Fin.ext; show (((((i 0).val * 64 + (i 1).val) * 128 + (i 2).val) * 4 + (i 3).val) * 64 + (i 4).val) % 256 = (i 3).val * 64 + (i 4).val; omega
  rw [val_main_v20_apply, v19_at H, e]
  rfl

omit H in
theorem below (t s : Fin 128) : IntOp.cmpi .sge (BitVec.ofNat 32 t.val + 0#32) (BitVec.ofNat 32 s.val) = if s ≤ t then 1#1 else 0#1 := by
  revert t s
  decide +kernel

omit H in
theorem picked (b : Prop) [Decidable b] : (Scalar.select (if b then 1#1 else 0#1) ((1 : ℝ) : EReal) (0 : EReal) : EReal) = ((if b then 1 else 0 : ℝ) : EReal) := by
  split_ifs
  · rfl
  · rfl

omit H in
theorem v22_at (i : S128x128.Idx) : val_main_v22 (F := Ideal) i = ((if (i 1 : Fin 128) ≤ i 0 then 1 else 0 : ℝ) : EReal) := by
  rw [val_main_v22_apply, val_main_call0_v4_apply, val_main_call0_v2_apply, val_main_call0_v0_apply, val_main_call0_v1_apply, val_main_call0_v3_apply, val_main_v21_apply, val_main_call0_v5_apply]
  refine (congrArg (fun b => Scalar.select b (Ideal.ofBits .f32 0x3F800000#32 : EReal) (Ideal.ofBits .f32 0x00000000#32)) (below (i 0) (i 1))).trans ?_
  rw [word_one, word_zero]
  exact picked _

theorem v25_at (i : S4x128x128.Idx) : val_main_v25 (F := Ideal) x3 i = (A.wl (i 0) (i 1) (i 2) : EReal) := by
  rw [val_main_v25_apply, val_main_v24_apply, val_main_v23_apply, v22_at, H.h3]
  refine (EReal.coe_mul _ _).symm.trans (congrArg _ ?_)
  unfold Args.wl
  exact (mul_ite _ _ _ _).trans (by rw [mul_one, mul_zero]; rfl)

theorem v34_at (i : S1x64x128x4x64.Idx) : val_main_v34 (F := Ideal) x1 x3 x4 x7 i = (A.zt (i 1) (i 2) (i 3) (i 4) : EReal) := by
  rw [val_main_v34_apply, val_main_v27_apply, val_main_v26_apply, val_main_v33_apply, val_main_v32_apply, val_main_v31_apply, val_main_v30_apply, val_main_v29_apply, val_main_v28_apply, val_main_v0_apply, H.h4]
  have e := real_sum _ (fun k => A.vn (row (i 1) k) (col (i 3) (i 4)) * A.wl (i 3) (i 2) k) (fun k => (by
    rw [v20_at H, v25_at H]
    exact (EReal.coe_mul _ _).symm : (val_main_v20 (F := Ideal) x1 x7 (lidx_main_v26 (idx_main_v27 i) k) * val_main_v25 (F := Ideal) x3 (ridx_main_v26 (idx_main_v27 i) k) : EReal) = _))
  refine (congrArg₂ (fun y z : EReal => y + (_ + z)) e word_zero).trans ?_
  rw [add_zero]
  exact (EReal.coe_add _ _).symm

theorem v35_at (i : S1x8192x256.Idx) : val_main_v35 (F := Ideal) x1 x3 x4 x7 i = (A.zc (i 1) (i 2) : EReal) := by
  have l0 : (i 0).val < 1 := (i 0).isLt
  have l1 : (i 1).val < 8192 := (i 1).isLt
  have l2 : (i 2).val < 256 := (i 2).isLt
  have e1 : idx_main_v35 i 1 = chunk (i 1) := by apply Fin.ext; show (((i 0).val * 8192 + (i 1).val) * 256 + (i 2).val) / 32768 % 64 = (i 1).val / 128; omega
  have e2 : idx_main_v35 i 2 = pos (i 1) := by apply Fin.ext; show (((i 0).val * 8192 + (i 1).val) * 256 + (i 2).val) / 256 % 128 = (i 1).val % 128; omega
  have e3 : idx_main_v35 i 3 = head (i 2) := by apply Fin.ext; show (((i 0).val * 8192 + (i 1).val) * 256 + (i 2).val) / 64 % 4 = (i 2).val / 64; omega
  have e4 : idx_main_v35 i 4 = lane (i 2) := by apply Fin.ext; show (((i 0).val * 8192 + (i 1).val) * 256 + (i 2).val) % 64 = (i 2).val % 64; omega
  rw [val_main_v35_apply, v34_at H, e1, e2, e3, e4]
  rfl

theorem v36_at (i : S1x8192x256.Idx) : val_main_v36 (F := Ideal) x1 x3 x4 x7 i = ((A.gm (i 1) (i 2) : ℝ) : EReal) := by
  rw [val_main_v36_apply, v2_at H, v35_at H]
  exact (EReal.coe_mul _ _).symm

/-! ### The pool -/

theorem v37_at (i : S1x8192x4x64.Idx) : val_main_v37 (F := Ideal) x2 i = (A.m (i 1) (col (i 2) (i 3)) : EReal) := by
  have l0 : (i 0).val < 1 := (i 0).isLt
  have l1 : (i 1).val < 8192 := (i 1).isLt
  have l2 : (i 2).val < 4 := (i 2).isLt
  have l3 : (i 3).val < 64 := (i 3).isLt
  have e : idx_main_v37 i = ix3 (0 : Fin 1) (i 1) (col (i 2) (i 3)) := by
    funext a
    match a with
    | ⟨0, _⟩ => rfl
    | ⟨1, _⟩ => apply Fin.ext; show ((((i 0).val * 8192 + (i 1).val) * 4 + (i 2).val) * 64 + (i 3).val) / 256 % 8192 = (i 1).val; omega
    | ⟨2, _⟩ => apply Fin.ext; show ((((i 0).val * 8192 + (i 1).val) * 4 + (i 2).val) * 64 + (i 3).val) % 256 = (i 2).val * 64 + (i 3).val; omega
  rw [val_main_v37_apply, H.h2, e]
  rfl

theorem v39_at (i : S1x8192x4x64.Idx) : val_main_v39 (F := Ideal) x2 x5 i = ((∑ c, A.wp (i 2) c (i 3) * A.m (i 1) (col (i 2) c) : ℝ) : EReal) := by
  rw [val_main_v39_apply, val_main_v38_apply]
  exact real_sum _ _ fun k => by rw [H.h5, v37_at H]; exact (EReal.coe_mul _ _).symm

theorem v40_at (i : S1x8192x256.Idx) : val_main_v40 (F := Ideal) x2 x5 i = (A.pw (i 1) (i 2) : EReal) := by
  have l0 : (i 0).val < 1 := (i 0).isLt
  have l1 : (i 1).val < 8192 := (i 1).isLt
  have l2 : (i 2).val < 256 := (i 2).isLt
  have e1 : idx_main_v40 i 1 = (i 1 : Fin 8192) := by apply Fin.ext; show (((i 0).val * 8192 + (i 1).val) * 256 + (i 2).val) / 256 % 8192 = (i 1).val; omega
  have e2 : idx_main_v40 i 2 = head (i 2) := by apply Fin.ext; show (((i 0).val * 8192 + (i 1).val) * 256 + (i 2).val) / 64 % 4 = (i 2).val / 64; omega
  have e3 : idx_main_v40 i 3 = lane (i 2) := by apply Fin.ext; show (((i 0).val * 8192 + (i 1).val) * 256 + (i 2).val) % 64 = (i 2).val % 64; omega
  rw [val_main_v40_apply, v39_at H, e1, e2, e3]
  rfl

theorem v42_at (i : S1x8192x256.Idx) : val_main_v42 (F := Ideal) x2 x5 i = (A.pw (i 1) (i 2) : EReal) := by
  rw [val_main_v42_apply, val_main_v41_apply, v40_at H]
  have e := real_sum _ (fun _ => 0) (fun k => (by
    rw [H.h2, val_main_v1_apply]
    refine (congrArg (fun z : EReal => _ * z) word_zero).trans ?_
    rw [mul_zero]
    rfl : (x2 (lidx_main_v41 i k) * val_main_v1 (F := Ideal) (ridx_main_v41 i k) : EReal) = _))
  refine (congrArg (fun z : EReal => _ + z) e).trans ?_
  rw [Finset.sum_const_zero]
  exact add_zero _

theorem v45_at (i : S1x8192x256.Idx) : val_main_v45 (F := Ideal) x2 x5 x6 i = ((A.po (i 1) (i 2) : ℝ) : EReal) := by
  rw [val_main_v45_apply, v42_at H, val_main_v44_apply, val_main_v43_apply, H.h6]
  exact (EReal.coe_mul _ _).symm

/-! ### The three norms -/

theorem v52_at (i : S1x8192x1.Idx) : val_main_v52 (F := Ideal) x0 i = ((square (A.o (i 1)) : ℝ) : EReal) := by
  rw [val_main_v52_apply, val_main_v50_apply, val_main_v48_apply, val_main_v47_apply, val_main_v49_apply, val_main_v51_apply]
  exact square_words (n := 512) (by norm_num) word_512 _ (A.o (i 1)) fun k => by rw [val_main_v46_apply, H.h0]; exact (EReal.coe_mul _ _).symm

theorem v53_at (i : S1x8192x1.Idx) : val_main_v53 (F := Ideal) x0 i = ((inv (A.o (i 1)) : ℝ) : EReal) := by
  rw [val_main_v53_apply, v52_at H]
  exact rsqrt_square _

theorem v56_at (i : S1x8192x1.Idx) : val_main_v56 (F := Ideal) x0 i = ((-(1 / 2) * (inv (A.o (i 1)) / square (A.o (i 1))) : ℝ) : EReal) := by
  rw [val_main_v56_apply, val_main_v55_apply, val_main_v54_apply, v53_at H, v52_at H]
  exact slope_part _

theorem v58_at (i : S1x8192x512.Idx) : val_main_v58 (F := Ideal) x0 i = ((A.o (i 1) (i 2) * inv (A.o (i 1)) : ℝ) : EReal) := by
  rw [val_main_v58_apply, val_main_v57_apply, v53_at H, H.h0]
  exact (EReal.coe_mul _ _).symm

theorem v68_at (i : S1x8192x1.Idx) : val_main_v68 (F := Ideal) x1 x3 x4 x7 i = ((square (A.gm (i 1)) : ℝ) : EReal) := by
  rw [val_main_v68_apply, val_main_v66_apply, val_main_v64_apply, val_main_v63_apply, val_main_v65_apply, val_main_v67_apply]
  exact square_words (n := 256) (by norm_num) word_256 _ (A.gm (i 1)) fun k => by rw [val_main_v62_apply, v36_at H]; exact (EReal.coe_mul _ _).symm

theorem v69_at (i : S1x8192x1.Idx) : val_main_v69 (F := Ideal) x1 x3 x4 x7 i = ((inv (A.gm (i 1)) : ℝ) : EReal) := by
  rw [val_main_v69_apply, v68_at H]
  exact rsqrt_square _

theorem v72_at (i : S1x8192x1.Idx) : val_main_v72 (F := Ideal) x1 x3 x4 x7 i = ((-(1 / 2) * (inv (A.gm (i 1)) / square (A.gm (i 1))) : ℝ) : EReal) := by
  rw [val_main_v72_apply, val_main_v71_apply, val_main_v70_apply, v69_at H, v68_at H]
  exact slope_part _

theorem v74_at (i : S1x8192x256.Idx) : val_main_v74 (F := Ideal) x1 x3 x4 x7 i = ((A.gm (i 1) (i 2) * inv (A.gm (i 1)) : ℝ) : EReal) := by
  rw [val_main_v74_apply, val_main_v73_apply, v69_at H, v36_at H]
  exact (EReal.coe_mul _ _).symm

theorem v84_at (i : S1x8192x1.Idx) : val_main_v84 (F := Ideal) x2 x5 x6 i = ((square (A.po (i 1)) : ℝ) : EReal) := by
  rw [val_main_v84_apply, val_main_v82_apply, val_main_v80_apply, val_main_v79_apply, val_main_v81_apply, val_main_v83_apply]
  exact square_words (n := 256) (by norm_num) word_256 _ (A.po (i 1)) fun k => by rw [val_main_v78_apply, v45_at H]; exact (EReal.coe_mul _ _).symm

theorem v85_at (i : S1x8192x1.Idx) : val_main_v85 (F := Ideal) x2 x5 x6 i = ((inv (A.po (i 1)) : ℝ) : EReal) := by
  rw [val_main_v85_apply, v84_at H]
  exact rsqrt_square _

theorem v88_at (i : S1x8192x1.Idx) : val_main_v88 (F := Ideal) x2 x5 x6 i = ((-(1 / 2) * (inv (A.po (i 1)) / square (A.po (i 1))) : ℝ) : EReal) := by
  rw [val_main_v88_apply, val_main_v87_apply, val_main_v86_apply, v85_at H, v84_at H]
  exact slope_part _

theorem v90_at (i : S1x8192x256.Idx) : val_main_v90 (F := Ideal) x2 x5 x6 i = ((A.po (i 1) (i 2) * inv (A.po (i 1)) : ℝ) : EReal) := by
  rw [val_main_v90_apply, val_main_v89_apply, v85_at H, v45_at H]
  exact (EReal.coe_mul _ _).symm

/-! ### Back through the output product and the norms -/

theorem v96_at (i : S1x8192x1024.Idx) : val_main_v96 (F := Ideal) x11 x12 i = (A.dmix (i 1) (i 2) : EReal) := by
  rw [val_main_v96_apply]
  exact real_sum _ _ fun k => by rw [H.h12, H.h11]; exact (EReal.coe_mul _ _).symm

theorem v97_at (i : S1x8192x512.Idx) : val_main_v97 (F := Ideal) x11 x12 i = (A.dmix (i 1) (fst (i 2)) : EReal) := by
  rw [val_main_v97_apply, v96_at H]
  rfl

theorem v98_at (i : S1x8192x256.Idx) : val_main_v98 (F := Ideal) x11 x12 i = (A.dmix (i 1) (mid (i 2)) : EReal) := by
  rw [val_main_v98_apply, v96_at H]
  rfl

theorem v99_at (i : S1x8192x256.Idx) : val_main_v99 (F := Ideal) x11 x12 i = (A.dmix (i 1) (lst (i 2)) : EReal) := by
  rw [val_main_v99_apply, v96_at H]
  rfl

theorem v104_at (i : S1x8192x256.Idx) : val_main_v104 (F := Ideal) x10 x11 x12 i = ((A.dmix (i 1) (lst (i 2)) * A.gp (i 2) : ℝ) : EReal) := by
  rw [val_main_v104_apply, v99_at H, val_main_v103_apply, val_main_v91_apply, H.h10]
  exact (EReal.coe_mul _ _).symm

theorem v106_at (i : S1x8192x256.Idx) : val_main_v106 (F := Ideal) x2 x5 x6 x10 x11 x12 i = ((A.po (i 1) (i 2) * (A.dmix (i 1) (lst (i 2)) * A.gp (i 2)) : ℝ) : EReal) := by
  rw [val_main_v106_apply, v45_at H, v104_at H]
  exact (EReal.coe_mul _ _).symm

theorem v114_at (r : Fin 8192) : val_main_v114 (F := Ideal) x2 x5 x6 x10 x11 x12 (ix1 r) = (NormMath.slope (A.po r) (fun e => A.dmix r (lst e) * A.gp e) : EReal) := by
  unfold val_main_v114
  refine (congrArg (fun z => Ideal.hostReduceAdd reducesTo_S1x8192x1_S8192_d0_2 (val_main_v113 (F := Ideal) x2 x5 x6 x10 x11 x12) z (ix1 r)) word_zero).trans ?_
  refine (Cert.InProjReferenceIdeal.Norm.sum_units_col _ r).trans ?_
  rw [val_main_v113_apply, val_main_v111_apply, val_main_v108_apply, val_main_v107_apply, v88_at H, val_main_v112_apply]
  have ei : ∀ k : Fin 256, idx_main_v107 (idx_main_v108 (ix3 (0 : Fin 1) r (0 : Fin 1))) k = ix3 (0 : Fin 1) r k := fun k => by
    funext a
    match a with
    | ⟨0, _⟩ => rfl
    | ⟨1, _⟩ => apply Fin.ext; show ((0 * 8192 + r.val) * 1 + 0) % 8192 = r.val; omega
    | ⟨2, _⟩ => rfl
  exact slope_words (n := 256) (by norm_num) word_256 _ (A.po r) _ fun k => by rw [ei, v106_at H]; rfl

theorem v116_at (i : S1x8192x256.Idx) : val_main_v116 (F := Ideal) x2 x5 x6 x10 x11 x12 i = (NormMath.slope (A.po (i 1)) (fun e => A.dmix (i 1) (lst e) * A.gp e) : EReal) := by
  rw [val_main_v116_apply, val_main_v115_apply]
  have e : idx_main_v115 (idx_main_v116 i) = ix1 (i 1) := by funext a; match a with | ⟨0, _⟩ => rfl
  exact (congrArg (val_main_v114 (F := Ideal) x2 x5 x6 x10 x11 x12) e).trans (v114_at H (i 1))

theorem v120_at (i : S1x8192x256.Idx) : val_main_v120 (F := Ideal) x2 x5 x6 x10 x11 x12 i = (grad (A.po (i 1)) (fun e => A.dmix (i 1) (lst e) * A.gp e) (i 2) : EReal) := by
  rw [val_main_v120_apply, val_main_v118_apply, val_main_v110_apply, val_main_v109_apply, val_main_v117_apply, val_main_v119_apply, v104_at H, v85_at H, v116_at H, v45_at H]
  exact grad_words _ (fun e => A.dmix (i 1) (lst e) * A.gp e) _

theorem v125_at (i : S1x8192x256.Idx) : val_main_v125 (F := Ideal) x9 x11 x12 i = ((A.dmix (i 1) (mid (i 2)) * A.gg (i 2) : ℝ) : EReal) := by
  rw [val_main_v125_apply, v98_at H, val_main_v124_apply, val_main_v75_apply, H.h9]
  exact (EReal.coe_mul _ _).symm

theorem v127_at (i : S1x8192x256.Idx) : val_main_v127 (F := Ideal) x1 x3 x4 x7 x9 x11 x12 i = ((A.gm (i 1) (i 2) * (A.dmix (i 1) (mid (i 2)) * A.gg (i 2)) : ℝ) : EReal) := by
  rw [val_main_v127_apply, v36_at H, v125_at H]
  exact (EReal.coe_mul _ _).symm

theorem v135_at (r : Fin 8192) : val_main_v135 (F := Ideal) x1 x3 x4 x7 x9 x11 x12 (ix1 r) = (NormMath.slope (A.gm r) (fun e => A.dmix r (mid e) * A.gg e) : EReal) := by
  unfold val_main_v135
  refine (congrArg (fun z => Ideal.hostReduceAdd reducesTo_S1x8192x1_S8192_d0_2 (val_main_v134 (F := Ideal) x1 x3 x4 x7 x9 x11 x12) z (ix1 r)) word_zero).trans ?_
  refine (Cert.InProjReferenceIdeal.Norm.sum_units_col _ r).trans ?_
  rw [val_main_v134_apply, val_main_v132_apply, val_main_v129_apply, val_main_v128_apply, v72_at H, val_main_v133_apply]
  have ei : ∀ k : Fin 256, idx_main_v128 (idx_main_v129 (ix3 (0 : Fin 1) r (0 : Fin 1))) k = ix3 (0 : Fin 1) r k := fun k => by
    funext a
    match a with
    | ⟨0, _⟩ => rfl
    | ⟨1, _⟩ => apply Fin.ext; show ((0 * 8192 + r.val) * 1 + 0) % 8192 = r.val; omega
    | ⟨2, _⟩ => rfl
  exact slope_words (n := 256) (by norm_num) word_256 _ (A.gm r) _ fun k => by rw [ei, v127_at H]; rfl

theorem v137_at (i : S1x8192x256.Idx) : val_main_v137 (F := Ideal) x1 x3 x4 x7 x9 x11 x12 i = (NormMath.slope (A.gm (i 1)) (fun e => A.dmix (i 1) (mid e) * A.gg e) : EReal) := by
  rw [val_main_v137_apply, val_main_v136_apply]
  have e : idx_main_v136 (idx_main_v137 i) = ix1 (i 1) := by funext a; match a with | ⟨0, _⟩ => rfl
  exact (congrArg (val_main_v135 (F := Ideal) x1 x3 x4 x7 x9 x11 x12) e).trans (v135_at H (i 1))

theorem v141_at (i : S1x8192x256.Idx) : val_main_v141 (F := Ideal) x1 x3 x4 x7 x9 x11 x12 i = (grad (A.gm (i 1)) (fun e => A.dmix (i 1) (mid e) * A.gg e) (i 2) : EReal) := by
  rw [val_main_v141_apply, val_main_v139_apply, val_main_v131_apply, val_main_v130_apply, val_main_v138_apply, val_main_v140_apply, v125_at H, v69_at H, v137_at H, v36_at H]
  exact grad_words _ (fun e => A.dmix (i 1) (mid e) * A.gg e) _

theorem v146_at (i : S1x8192x512.Idx) : val_main_v146 (F := Ideal) x8 x11 x12 i = ((A.dmix (i 1) (fst (i 2)) * A.ga (i 2) : ℝ) : EReal) := by
  rw [val_main_v146_apply, v97_at H, val_main_v145_apply, val_main_v59_apply, H.h8]
  exact (EReal.coe_mul _ _).symm

theorem v148_at (i : S1x8192x512.Idx) : val_main_v148 (F := Ideal) x0 x8 x11 x12 i = ((A.o (i 1) (i 2) * (A.dmix (i 1) (fst (i 2)) * A.ga (i 2)) : ℝ) : EReal) := by
  rw [val_main_v148_apply, H.h0, v146_at H]
  exact (EReal.coe_mul _ _).symm

theorem v156_at (r : Fin 8192) : val_main_v156 (F := Ideal) x0 x8 x11 x12 (ix1 r) = (NormMath.slope (A.o r) (fun e => A.dmix r (fst e) * A.ga e) : EReal) := by
  unfold val_main_v156
  refine (congrArg (fun z => Ideal.hostReduceAdd reducesTo_S1x8192x1_S8192_d0_2 (val_main_v155 (F := Ideal) x0 x8 x11 x12) z (ix1 r)) word_zero).trans ?_
  refine (Cert.InProjReferenceIdeal.Norm.sum_units_col _ r).trans ?_
  rw [val_main_v155_apply, val_main_v153_apply, val_main_v150_apply, val_main_v149_apply, v56_at H, val_main_v154_apply]
  have ei : ∀ k : Fin 512, idx_main_v149 (idx_main_v150 (ix3 (0 : Fin 1) r (0 : Fin 1))) k = ix3 (0 : Fin 1) r k := fun k => by
    funext a
    match a with
    | ⟨0, _⟩ => rfl
    | ⟨1, _⟩ => apply Fin.ext; show ((0 * 8192 + r.val) * 1 + 0) % 8192 = r.val; omega
    | ⟨2, _⟩ => rfl
  exact slope_words (n := 512) (by norm_num) word_512 _ (A.o r) _ fun k => by rw [ei, v148_at H]; rfl

theorem v158_at (i : S1x8192x512.Idx) : val_main_v158 (F := Ideal) x0 x8 x11 x12 i = (NormMath.slope (A.o (i 1)) (fun e => A.dmix (i 1) (fst e) * A.ga e) : EReal) := by
  rw [val_main_v158_apply, val_main_v157_apply]
  have e : idx_main_v157 (idx_main_v158 i) = ix1 (i 1) := by funext a; match a with | ⟨0, _⟩ => rfl
  exact (congrArg (val_main_v156 (F := Ideal) x0 x8 x11 x12) e).trans (v156_at H (i 1))

theorem v162_at (i : S1x8192x512.Idx) : val_main_v162 (F := Ideal) x0 x8 x11 x12 i = (grad (A.o (i 1)) (fun e => A.dmix (i 1) (fst e) * A.ga e) (i 2) : EReal) := by
  rw [val_main_v162_apply, val_main_v160_apply, val_main_v152_apply, val_main_v151_apply, val_main_v159_apply, val_main_v161_apply, v146_at H, v53_at H, v158_at H, H.h0]
  exact grad_words _ (fun e => A.dmix (i 1) (fst e) * A.ga e) _

theorem v105_at (d : Fin 256) : val_main_v105 (F := Ideal) x2 x5 x6 x11 x12 (ix1 d) = ((∑ r, A.po r d * inv (A.po r) * A.dmix r (lst d) : ℝ) : EReal) := by
  unfold val_main_v105
  refine (sum_units_row reducesTo_S1x1x256_S256_d0_1 _ d).trans ?_
  rw [val_main_v102_apply, val_main_v101_apply]
  have ei : ∀ k : Fin 8192, idx_main_v101 (idx_main_v102 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 256 + d.val) % 256 = d.val; omega
  exact zero_sum _ _ fun k => by rw [ei, val_main_v100_apply, v90_at H, v99_at H]; exact (EReal.coe_mul _ _).symm

theorem v126_at (d : Fin 256) : val_main_v126 (F := Ideal) x1 x3 x4 x7 x11 x12 (ix1 d) = ((∑ r, A.gm r d * inv (A.gm r) * A.dmix r (mid d) : ℝ) : EReal) := by
  unfold val_main_v126
  refine (sum_units_row reducesTo_S1x1x256_S256_d0_1 _ d).trans ?_
  rw [val_main_v123_apply, val_main_v122_apply]
  have ei : ∀ k : Fin 8192, idx_main_v122 (idx_main_v123 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 256 + d.val) % 256 = d.val; omega
  exact zero_sum _ _ fun k => by rw [ei, val_main_v121_apply, v74_at H, v98_at H]; exact (EReal.coe_mul _ _).symm

theorem v147_at (d : Fin 512) : val_main_v147 (F := Ideal) x0 x11 x12 (ix1 d) = ((∑ r, A.o r d * inv (A.o r) * A.dmix r (fst d) : ℝ) : EReal) := by
  unfold val_main_v147
  refine (sum_units_row reducesTo_S1x1x512_S512_d0_1 _ d).trans ?_
  rw [val_main_v144_apply, val_main_v143_apply]
  have ei : ∀ k : Fin 8192, idx_main_v143 (idx_main_v144 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 512 + d.val) % 512 = d.val; omega
  exact zero_sum _ _ fun k => by rw [ei, val_main_v142_apply, v58_at H, v97_at H]; exact (EReal.coe_mul _ _).symm

/-! ### Back through the pool -/

theorem v168_at (d : Fin 256) : val_main_v168 (F := Ideal) x2 x5 x6 x10 x11 x12 (ix1 d) = ((∑ r, A.pw r d * A.dpo r d : ℝ) : EReal) := by
  unfold val_main_v168
  refine (sum_units_row reducesTo_S1x1x256_S256_d0_1 _ d).trans ?_
  rw [val_main_v165_apply, val_main_v164_apply]
  have ei : ∀ k : Fin 8192, idx_main_v164 (idx_main_v165 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 256 + d.val) % 256 = d.val; omega
  exact zero_sum _ _ fun k => by rw [ei, val_main_v163_apply, v42_at H, v120_at H]; exact (EReal.coe_mul _ _).symm

theorem v167_at (i : S1x8192x256.Idx) : val_main_v167 (F := Ideal) x2 x5 x6 x10 x11 x12 i = ((A.dpw (i 1) (i 2) : ℝ) : EReal) := by
  rw [val_main_v167_apply, v120_at H, val_main_v166_apply, val_main_v43_apply, H.h6]
  exact (EReal.coe_mul _ _).symm

theorem v172_at (i : S1x8192x4x64.Idx) : val_main_v172 (F := Ideal) x2 x5 x6 x10 x11 x12 i = (A.dpw (i 1) (col (i 2) (i 3)) : EReal) := by
  have l0 : (i 0).val < 1 := (i 0).isLt
  have l1 : (i 1).val < 8192 := (i 1).isLt
  have l2 : (i 2).val < 4 := (i 2).isLt
  have l3 : (i 3).val < 64 := (i 3).isLt
  have e : idx_main_v172 i = ix3 (0 : Fin 1) (i 1) (col (i 2) (i 3)) := by
    funext a
    match a with
    | ⟨0, _⟩ => rfl
    | ⟨1, _⟩ => apply Fin.ext; show ((((i 0).val * 8192 + (i 1).val) * 4 + (i 2).val) * 64 + (i 3).val) / 256 % 8192 = (i 1).val; omega
    | ⟨2, _⟩ => apply Fin.ext; show ((((i 0).val * 8192 + (i 1).val) * 4 + (i 2).val) * 64 + (i 3).val) % 256 = (i 2).val * 64 + (i 3).val; omega
  rw [val_main_v172_apply, v167_at H, e]
  rfl

theorem v175_at (i : S1x8192x4x64.Idx) : val_main_v175 (F := Ideal) x2 x5 x6 x10 x11 x12 i = ((∑ d, A.dpw (i 1) (col (i 2) d) * A.wp (i 2) (i 3) d : ℝ) : EReal) := by
  rw [val_main_v175_apply, val_main_v174_apply]
  exact real_sum _ _ fun k => by rw [val_main_v173_apply, v172_at H, H.h5]; exact (EReal.coe_mul _ _).symm

theorem v176_at (i : S1x8192x256.Idx) : val_main_v176 (F := Ideal) x2 x5 x6 x10 x11 x12 i = (A.dm (i 1) (i 2) : EReal) := by
  have l0 : (i 0).val < 1 := (i 0).isLt
  have l1 : (i 1).val < 8192 := (i 1).isLt
  have l2 : (i 2).val < 256 := (i 2).isLt
  have e1 : idx_main_v176 i 1 = (i 1 : Fin 8192) := by apply Fin.ext; show (((i 0).val * 8192 + (i 1).val) * 256 + (i 2).val) / 256 % 8192 = (i 1).val; omega
  have e2 : idx_main_v176 i 2 = head (i 2) := by apply Fin.ext; show (((i 0).val * 8192 + (i 1).val) * 256 + (i 2).val) / 64 % 4 = (i 2).val / 64; omega
  have e3 : idx_main_v176 i 3 = lane (i 2) := by apply Fin.ext; show (((i 0).val * 8192 + (i 1).val) * 256 + (i 2).val) % 64 = (i 2).val % 64; omega
  rw [val_main_v176_apply, v175_at H, e1, e2, e3]
  rfl

theorem v177_at (i : S1x8192x256.Idx) : val_main_v177 (F := Ideal) x2 x5 x6 x10 x11 x12 i = (A.dm (i 1) (i 2) : EReal) := by
  rw [val_main_v177_apply, val_main_v171_apply, v176_at H]
  have e := real_sum _ (fun _ => 0) (fun k => (by
    rw [v167_at H, val_main_v1_apply]
    refine (congrArg (fun z : EReal => _ * z) word_zero).trans ?_
    rw [mul_zero]
    rfl : (val_main_v167 (F := Ideal) x2 x5 x6 x10 x11 x12 (lidx_main_v171 i k) * val_main_v1 (F := Ideal) (ridx_main_v171 i k) : EReal) = _))
  refine (congrArg (fun z : EReal => z + _) e).trans ?_
  rw [Finset.sum_const_zero]
  exact zero_add _

omit H in
/-- The rows a product over them runs through. -/
def rows : Fin 8192 ≃ dot_S1x8192x256_S1x8192x256_S256x256_01_01_2_2_n_n.contr.Idx where
  toFun r := fun a => match a with
    | ⟨0, _⟩ => (0 : Fin 1)
    | ⟨1, _⟩ => r
  invFun q := q ⟨1, by decide⟩
  left_inv r := rfl
  right_inv q := funext fun a => match a with
    | ⟨0, _⟩ => Subsingleton.elim (α := Fin 1) _ _
    | ⟨1, _⟩ => rfl

theorem v170_at (k d : Fin 256) : val_main_v170 (F := Ideal) x2 x5 x6 x10 x11 x12 (ix2 k d) = (A.dwbd k d : EReal) := by
  rw [val_main_v170_apply]
  unfold val_main_v169
  simp only [Host.dotGeneral]
  rw [Ideal.dotGeneral_apply, ← Equiv.sum_comp rows]
  refine real_sum _ _ fun r => ?_
  have el : dot_S1x8192x256_S1x8192x256_S256x256_01_01_2_2_n_n.lhsIdx (idx_main_v170 (ix2 k d)) (rows r) = ix3 (0 : Fin 1) r d := funext fun a => match a with
    | ⟨0, _⟩ => rfl
    | ⟨1, _⟩ => rfl
    | ⟨2, _⟩ => rfl
  have er : dot_S1x8192x256_S1x8192x256_S256x256_01_01_2_2_n_n.rhsIdx (idx_main_v170 (ix2 k d)) (rows r) = ix3 (0 : Fin 1) r k := funext fun a => match a with
    | ⟨0, _⟩ => rfl
    | ⟨1, _⟩ => rfl
    | ⟨2, _⟩ => rfl
  rw [el, er, v167_at H, H.h2, mul_comm]
  exact (EReal.coe_mul _ _).symm

/-! ### Back through the gate -/

theorem v178_at (i : S1x8192x256.Idx) : val_main_v178 (F := Ideal) x1 x3 x4 x7 x9 x11 x12 i = ((A.dzc (i 1) (i 2) : ℝ) : EReal) := by
  rw [val_main_v178_apply, v2_at H, v141_at H]
  exact (EReal.coe_mul _ _).symm

theorem v179_at (i : S1x8192x256.Idx) : val_main_v179 (F := Ideal) x1 x3 x4 x7 x9 x11 x12 i = ((A.du (i 1) (i 2) : ℝ) : EReal) := by
  rw [val_main_v179_apply, v141_at H, v35_at H]
  exact (EReal.coe_mul _ _).symm

theorem v180_at (i : S1x64x128x4x64.Idx) : val_main_v180 (F := Ideal) x1 x3 x4 x7 x9 x11 x12 i = (A.dzc (row (i 1) (i 2)) (col (i 3) (i 4)) : EReal) := by
  have l0 : (i 0).val < 1 := (i 0).isLt
  have l1 : (i 1).val < 64 := (i 1).isLt
  have l2 : (i 2).val < 128 := (i 2).isLt
  have l3 : (i 3).val < 4 := (i 3).isLt
  have l4 : (i 4).val < 64 := (i 4).isLt
  have e : idx_main_v180 i = ix3 (0 : Fin 1) (row (i 1) (i 2)) (col (i 3) (i 4)) := by
    funext a
    match a with
    | ⟨0, _⟩ => rfl
    | ⟨1, _⟩ => apply Fin.ext; show (((((i 0).val * 64 + (i 1).val) * 128 + (i 2).val) * 4 + (i 3).val) * 64 + (i 4).val) / 256 % 8192 = (i 1).val * 128 + (i 2).val; omega
    | ⟨2, _⟩ => apply Fin.ext; show (((((i 0).val * 64 + (i 1).val) * 128 + (i 2).val) * 4 + (i 3).val) * 64 + (i 4).val) % 256 = (i 3).val * 64 + (i 4).val; omega
  rw [val_main_v180_apply, v178_at H, e]
  rfl

theorem v183_at (t : Fin 128) (l : Fin 256) : val_main_v183 (F := Ideal) x1 x3 x4 x7 x9 x11 x12 (ix2 t l) = (A.dbs t l : EReal) := by
  rw [val_main_v183_apply, val_main_v182_apply, val_main_v181_apply]
  refine zero_sum _ _ fun c => ?_
  rw [v180_at H]
  have e2 : idx_main_v182 (idx_main_v183 (ix2 t l)) 1 = t := by apply Fin.ext; show (((((0 * 1 + 0) * 128 + (t.val * 256 + l.val) / 256 % 128) * 4 + (t.val * 256 + l.val) / 64 % 4) * 64 + (t.val * 256 + l.val) % 64) / 256 % 128) = t.val; omega
  have e3 : col (idx_main_v182 (idx_main_v183 (ix2 t l)) 2) (idx_main_v182 (idx_main_v183 (ix2 t l)) 3) = l := by
    apply Fin.ext
    show (((((0 * 1 + 0) * 128 + (t.val * 256 + l.val) / 256 % 128) * 4 + (t.val * 256 + l.val) / 64 % 4) * 64 + (t.val * 256 + l.val) % 64) / 64 % 4) * 64
      + ((((0 * 1 + 0) * 128 + (t.val * 256 + l.val) / 256 % 128) * 4 + (t.val * 256 + l.val) / 64 % 4) * 64 + (t.val * 256 + l.val) % 64) % 64 = l.val
    omega
  exact congrArg₂ (fun y z => (A.dzc (row c y) z : EReal)) e2 e3

omit H in
/-- The chunks and lanes a product over both runs through. -/
def chunks : Fin 64 × Fin 64 ≃ dot_S4x1x64x64x128_S1x64x128x4x64_S4x128x128_123_014_4_2_0_3.contr.Idx where
  toFun p := fun a => match a with
    | ⟨0, _⟩ => (0 : Fin 1)
    | ⟨1, _⟩ => p.1
    | ⟨2, _⟩ => p.2
  invFun q := (q ⟨1, by decide⟩, q ⟨2, by decide⟩)
  left_inv p := rfl
  right_inv q := funext fun a => match a with
    | ⟨0, _⟩ => Subsingleton.elim (α := Fin 1) _ _
    | ⟨1, _⟩ => rfl
    | ⟨2, _⟩ => rfl

theorem v189_at (i : S4x128x128.Idx) : val_main_v189 (F := Ideal) x1 x3 x4 x7 x9 x11 x12 i = (A.dws (i 0) (i 1) (i 2) : EReal) := by
  have e : val_main_v185 (F := Ideal) x1 x3 x4 x7 x9 x11 x12 i = ((∑ c, A.dwsChunk c (i 0) (i 1) (i 2) : ℝ) : EReal) := by
    unfold val_main_v185
    simp only [Host.dotGeneral]
    rw [Ideal.dotGeneral_apply, ← Equiv.sum_comp chunks, Fintype.sum_prod_type]
    refine real_sum _ _ fun c => real_sum _ _ fun d => ?_
    rw [val_main_v184_apply, v180_at H, v20_at H]
    exact (EReal.coe_mul _ _).symm
  rw [val_main_v189_apply, e, val_main_v188_apply, val_main_v23_apply, v22_at]
  refine (EReal.coe_mul _ _).symm.trans (congrArg _ ?_)
  unfold Args.dws
  exact (mul_ite _ _ _ _).trans (by rw [mul_one, mul_zero]; rfl)

theorem v187_at (i : S1x64x128x4x64.Idx) : val_main_v187 (F := Ideal) x1 x3 x4 x7 x9 x11 x12 i = (A.dvt (i 1) (i 2) (i 3) (i 4) : EReal) := by
  rw [val_main_v187_apply, val_main_v186_apply]
  exact real_sum _ _ fun k => by rw [val_main_v184_apply, v180_at H, v25_at H]; exact (EReal.coe_mul _ _).symm

theorem v190_at (i : S1x8192x256.Idx) : val_main_v190 (F := Ideal) x1 x3 x4 x7 x9 x11 x12 i = (A.dvn (i 1) (i 2) : EReal) := by
  have l0 : (i 0).val < 1 := (i 0).isLt
  have l1 : (i 1).val < 8192 := (i 1).isLt
  have l2 : (i 2).val < 256 := (i 2).isLt
  have e1 : idx_main_v190 i 1 = chunk (i 1) := by apply Fin.ext; show (((i 0).val * 8192 + (i 1).val) * 256 + (i 2).val) / 32768 % 64 = (i 1).val / 128; omega
  have e2 : idx_main_v190 i 2 = pos (i 1) := by apply Fin.ext; show (((i 0).val * 8192 + (i 1).val) * 256 + (i 2).val) / 256 % 128 = (i 1).val % 128; omega
  have e3 : idx_main_v190 i 3 = head (i 2) := by apply Fin.ext; show (((i 0).val * 8192 + (i 1).val) * 256 + (i 2).val) / 64 % 4 = (i 2).val / 64; omega
  have e4 : idx_main_v190 i 4 = lane (i 2) := by apply Fin.ext; show (((i 0).val * 8192 + (i 1).val) * 256 + (i 2).val) % 64 = (i 2).val % 64; omega
  rw [val_main_v190_apply, v187_at H, e1, e2, e3, e4]
  rfl

theorem v195_at (i : S1x8192x256.Idx) : val_main_v195 (F := Ideal) x1 x3 x4 x7 x9 x11 x12 i = ((A.dvn (i 1) (i 2) * A.gv (i 2) : ℝ) : EReal) := by
  rw [val_main_v195_apply, v190_at H, val_main_v194_apply, val_main_v17_apply, H.h7]
  exact (EReal.coe_mul _ _).symm

theorem v197_at (i : S1x8192x256.Idx) : val_main_v197 (F := Ideal) x1 x3 x4 x7 x9 x11 x12 i = ((A.v (i 1) (i 2) * (A.dvn (i 1) (i 2) * A.gv (i 2)) : ℝ) : EReal) := by
  rw [val_main_v197_apply, v3_at H, v195_at H]
  exact (EReal.coe_mul _ _).symm

theorem v205_at (r : Fin 8192) : val_main_v205 (F := Ideal) x1 x3 x4 x7 x9 x11 x12 (ix1 r) = (NormMath.slope (A.v r) (fun e => A.dvn r e * A.gv e) : EReal) := by
  unfold val_main_v205
  refine (congrArg (fun z => Ideal.hostReduceAdd reducesTo_S1x8192x1_S8192_d0_2 (val_main_v204 (F := Ideal) x1 x3 x4 x7 x9 x11 x12) z (ix1 r)) word_zero).trans ?_
  refine (Cert.InProjReferenceIdeal.Norm.sum_units_col _ r).trans ?_
  rw [val_main_v204_apply, val_main_v202_apply, val_main_v199_apply, val_main_v198_apply, v14_at H, val_main_v203_apply]
  have ei : ∀ k : Fin 256, idx_main_v198 (idx_main_v199 (ix3 (0 : Fin 1) r (0 : Fin 1))) k = ix3 (0 : Fin 1) r k := fun k => by
    funext a
    match a with
    | ⟨0, _⟩ => rfl
    | ⟨1, _⟩ => apply Fin.ext; show ((0 * 8192 + r.val) * 1 + 0) % 8192 = r.val; omega
    | ⟨2, _⟩ => rfl
  exact slope_words (n := 256) (by norm_num) word_256 _ (A.v r) _ fun k => by rw [ei, v197_at H]; rfl

theorem v207_at (i : S1x8192x256.Idx) : val_main_v207 (F := Ideal) x1 x3 x4 x7 x9 x11 x12 i = (NormMath.slope (A.v (i 1)) (fun e => A.dvn (i 1) e * A.gv e) : EReal) := by
  rw [val_main_v207_apply, val_main_v206_apply]
  have e : idx_main_v206 (idx_main_v207 i) = ix1 (i 1) := by funext a; match a with | ⟨0, _⟩ => rfl
  exact (congrArg (val_main_v205 (F := Ideal) x1 x3 x4 x7 x9 x11 x12) e).trans (v205_at H (i 1))

theorem v211_at (i : S1x8192x256.Idx) : val_main_v211 (F := Ideal) x1 x3 x4 x7 x9 x11 x12 i = (grad (A.v (i 1)) (fun e => A.dvn (i 1) e * A.gv e) (i 2) : EReal) := by
  rw [val_main_v211_apply, val_main_v209_apply, val_main_v201_apply, val_main_v200_apply, val_main_v208_apply, val_main_v210_apply, v195_at H, v11_at H, v207_at H, v3_at H]
  exact grad_words _ (fun e => A.dvn (i 1) e * A.gv e) _

theorem v196_at (d : Fin 256) : val_main_v196 (F := Ideal) x1 x3 x4 x7 x9 x11 x12 (ix1 d) = ((∑ r, A.vq r d * A.dvn r d : ℝ) : EReal) := by
  unfold val_main_v196
  refine (sum_units_row reducesTo_S1x1x256_S256_d0_1 _ d).trans ?_
  rw [val_main_v193_apply, val_main_v192_apply]
  have ei : ∀ k : Fin 8192, idx_main_v192 (idx_main_v193 (ix3 (0 : Fin 1) (0 : Fin 1) d)) k = ix3 (0 : Fin 1) k d := fun k => by
    funext a
    match a with
    | ⟨0, _⟩ => rfl
    | ⟨1, _⟩ => rfl
    | ⟨2, _⟩ => apply Fin.ext; show ((0 * 1 + 0) * 256 + d.val) % 256 = d.val; omega
  exact zero_sum _ _ fun k => by rw [ei, val_main_v191_apply, v16_at H, v190_at H]; exact (EReal.coe_mul _ _).symm

/-! ### The results -/

omit H in
theorem pad_columns {lo hi : ℕ} (x : (⟨3, ![1, 8192, 256]⟩ : Shape).Idx → EReal) (v : (⟨0, ![]⟩ : Shape).Idx → EReal) (hv : ∀ i, v i = 0) (h hu) (i : Fin 8192) (d : Fin 512) :
    pad (⟨3, ![1, 8192, 512]⟩ : Shape) ![0, 0, lo] ![0, 0, hi] ![0, 0, 0] x v h hu (ix3 (0 : Fin 1) i d) = if hd : lo ≤ d.val ∧ d.val < lo + 256 then x (ix3 (0 : Fin 1) i ⟨d.val - lo, by omega⟩) else 0 := by
  split
  · next hd =>
    refine pad_apply_of_inside _ _ _ _ _ _ _ _ _ fun a => ?_
    match a with
    | ⟨0, _⟩ => rfl
    | ⟨1, _⟩ => show i.val = 0 + i.val * (0 + 1); omega
    | ⟨2, _⟩ => show d.val = lo + (d.val - lo) * (0 + 1); omega
  · next hd =>
    rw [pad_apply_of_not_inside _ _ _ _ _ _ _ _ 2 (fun hin => hd ?_), hv]
    have h1 := hin.1
    have h2 := hin.2.2
    change lo ≤ d.val at h1
    change (d.val - lo) / (0 + 1) < 256 at h2
    rw [Nat.div_one] at h2
    omega

/-- The gradient at the two halves of the gate, -/
theorem duv_at (r : Fin 8192) (k : Fin 512) : val_main_v230 (F := Ideal) x1 x3 x4 x7 x9 x11 x12 (ix2 r k) = ((if h : k.val < 256 then A.du r ⟨k.val, h⟩ else A.dv r ⟨k.val - 256, by omega⟩ : ℝ) : EReal) := by
  have e : idx_main_v229 (ix2 r k) = ix3 (0 : Fin 1) r k := by
    funext a
    match a with
    | ⟨0, _⟩ => rfl
    | ⟨1, _⟩ => apply Fin.ext; show (r.val * 512 + k.val) / 512 % 8192 = r.val; omega
    | ⟨2, _⟩ => apply Fin.ext; show (r.val * 512 + k.val) % 512 = k.val; omega
  rw [val_main_v230_apply, val_main_v229_apply, e, val_main_v214_apply]
  unfold val_main_v212 val_main_v213
  refine (congrArg₂ (fun y z : EReal => y + z) (pad_columns _ _ (fun _ => word_zero) _ _ r k) (pad_columns _ _ (fun _ => word_zero) _ _ r k)).trans ?_
  by_cases h : k.val < 256
  · rw [dif_pos h, dif_neg (by omega), dif_pos ⟨Nat.zero_le _, by omega⟩, zero_add, v179_at H]
    rfl
  · rw [dif_neg h, dif_pos ⟨by omega, by omega⟩, dif_neg (by omega), add_zero, v211_at H]
    rfl

/-- at the rows of the pool, -/
theorem dm_at (r : Fin 8192) (k : Fin 256) : val_main_v231 (F := Ideal) x2 x5 x6 x10 x11 x12 (ix2 r k) = (A.dm r k : EReal) := by
  have e : idx_main_v231 (ix2 r k) = ix3 (0 : Fin 1) r k := by
    funext a
    match a with
    | ⟨0, _⟩ => rfl
    | ⟨1, _⟩ => apply Fin.ext; show (r.val * 256 + k.val) / 256 % 8192 = r.val; omega
    | ⟨2, _⟩ => apply Fin.ext; show (r.val * 256 + k.val) % 256 = k.val; omega
  rw [val_main_v231_apply, e, v177_at H]
  rfl

theorem v217_at (h : Fin 4) (r : Fin 8192) (d : Fin 128) : val_main_v217 (F := Ideal) x0 x8 x11 x12 (ix3 h r d) = (A.dO r (wide h d) : EReal) := by
  have e : idx_main_v215 (idx_main_v216 (idx_main_v217 (ix3 h r d))) = ix3 (0 : Fin 1) r (wide h d) := by
    funext a
    match a with
    | ⟨0, _⟩ => rfl
    | ⟨1, _⟩ => apply Fin.ext; show (((r.val * 4 + h.val) * 128 + d.val) / 512 * 512 + ((r.val * 4 + h.val) * 128 + d.val) % 512) / 512 % 8192 = r.val; omega
    | ⟨2, _⟩ => apply Fin.ext; show (((r.val * 4 + h.val) * 128 + d.val) / 512 * 512 + ((r.val * 4 + h.val) * 128 + d.val) % 512) % 512 = h.val * 128 + d.val; omega
  rw [val_main_v217_apply, val_main_v216_apply, val_main_v215_apply, e, v162_at H]
  rfl

theorem v220_at (h : Fin 4) (r : Fin 8192) (d : Fin 128) : val_main_v220 (F := Ideal) x0 (ix3 h r d) = (A.o r (wide h d) : EReal) := by
  have e : idx_main_v218 (idx_main_v219 (idx_main_v220 (ix3 h r d))) = ix3 (0 : Fin 1) r (wide h d) := by
    funext a
    match a with
    | ⟨0, _⟩ => rfl
    | ⟨1, _⟩ => apply Fin.ext; show (((r.val * 4 + h.val) * 128 + d.val) / 512 * 512 + ((r.val * 4 + h.val) * 128 + d.val) % 512) / 512 % 8192 = r.val; omega
    | ⟨2, _⟩ => apply Fin.ext; show (((r.val * 4 + h.val) * 128 + d.val) / 512 * 512 + ((r.val * 4 + h.val) * 128 + d.val) % 512) % 512 = h.val * 128 + d.val; omega
  rw [val_main_v220_apply, val_main_v219_apply, val_main_v218_apply, e, H.h0]
  rfl

theorem v227_at (h : Fin 4) (r : Fin 8192) (d : Fin 128) : val_main_v227 (F := Ideal) x0 x8 x11 x12 (ix3 h r d) = (A.dO r (wide h d) : EReal) := by
  have e : idx_main_v225 (idx_main_v226 (idx_main_v227 (ix3 h r d))) = ix3 (0 : Fin 1) r (wide h d) := by
    funext a
    match a with
    | ⟨0, _⟩ => rfl
    | ⟨1, _⟩ => apply Fin.ext; show (((r.val * 4 + h.val) * 128 + d.val) / 512 * 512 + ((r.val * 4 + h.val) * 128 + d.val) % 512) / 512 % 8192 = r.val; omega
    | ⟨2, _⟩ => apply Fin.ext; show (((r.val * 4 + h.val) * 128 + d.val) / 512 * 512 + ((r.val * 4 + h.val) * 128 + d.val) % 512) % 512 = h.val * 128 + d.val; omega
  rw [val_main_v227_apply, val_main_v226_apply, val_main_v225_apply, e, v162_at H]
  rfl

/-- at the attention, -/
theorem do_at (h : Fin 4) (r : Fin 8192) (d : Fin 128) : val_main_v228 (F := Ideal) x0 x8 x11 x12 (ix3 h r d) = (A.dO r (wide h d) : EReal) := by
  rw [val_main_v228_apply, v227_at H]
  rfl

/-- and its sum with the attention. -/
theorem dl_at (h : Fin 4) (r : Fin 8192) (d : Fin 128) : val_main_v224 (F := Ideal) x0 x8 x11 x12 (ix3 h r d) = (A.dl h r : EReal) := by
  rw [val_main_v224_apply, val_main_v223_apply, val_main_v222_apply]
  have e : ∀ k : Fin 128, idx_main_v222 (idx_main_v223 (idx_main_v224 (ix3 h r d))) k = ix3 h r k := fun k => by
    funext a
    match a with
    | ⟨0, _⟩ => rfl
    | ⟨1, _⟩ => rfl
    | ⟨2, _⟩ => rfl
  exact zero_sum _ _ fun k => by rw [e, val_main_v221_apply, v217_at H, v220_at H]; exact (EReal.coe_mul _ _).symm

theorem dgv_at (d : Fin 256) : val_main_v234 (F := Ideal) x1 x3 x4 x7 x9 x11 x12 (ix2 (0 : Fin 1) d) = (A.dgv d : EReal) := by
  rw [val_main_v234_apply]
  have e : idx_main_v234 (ix2 (0 : Fin 1) d) = ix1 d := by
    funext a
    match a with
    | ⟨0, _⟩ => apply Fin.ext; show 0 * 256 + d.val = d.val; omega
  rw [e, v196_at H]
  exact congrArg (fun z : ℝ => (z : EReal)) (Finset.sum_congr rfl fun _ _ => mul_comm _ _)

theorem dps_at (d : Fin 256) : val_main_v235 (F := Ideal) x2 x5 x6 x10 x11 x12 (ix2 (0 : Fin 1) d) = (A.dps d : EReal) := by
  rw [val_main_v235_apply]
  have e : idx_main_v235 (ix2 (0 : Fin 1) d) = ix1 d := by
    funext a
    match a with
    | ⟨0, _⟩ => apply Fin.ext; show 0 * 256 + d.val = d.val; omega
  rw [e, v168_at H]
  exact congrArg (fun z : ℝ => (z : EReal)) (Finset.sum_congr rfl fun _ _ => mul_comm _ _)

theorem dgo_at (d : Fin 1024) : val_main_v233 (F := Ideal) x0 x1 x2 x3 x4 x5 x6 x7 x11 x12 (ix2 (0 : Fin 1) d) = (A.dgo d : EReal) := by
  rw [val_main_v233_apply]
  have e : idx_main_v233 (ix2 (0 : Fin 1) d) = ix1 d := by
    funext a
    match a with
    | ⟨0, _⟩ => apply Fin.ext; show 0 * 1024 + d.val = d.val; omega
  rw [e]
  unfold val_main_v232
  have g0 := v147_at H
  have g1 := v126_at H
  have g2 := v105_at H
  generalize val_main_v147 (F := Ideal) x0 x11 x12 = y0 at *
  generalize val_main_v126 (F := Ideal) x1 x3 x4 x7 x11 x12 = y1 at *
  generalize val_main_v105 (F := Ideal) x2 x5 x6 x11 x12 = y2 at *
  have c : (concatenate S1024 0 [⟨S512, y0⟩, ⟨S256, y1⟩, ⟨S256, y2⟩] concatenates_S512_S256_S256_S1024_d0 : Vec Ideal S1024 .f32) (ix1 d)
      = if h : d.val < 512 then y0 (ix1 ⟨d.val, h⟩) else if h' : d.val < 768 then y1 (ix1 ⟨d.val - 512, by omega⟩) else y2 (ix1 ⟨d.val - 768, by omega⟩) := by
    split_ifs with h h'
    · pointwise
      rw [dif_pos h]
    · pointwise
      rw [dif_neg h, dif_pos (by omega)]
    · pointwise
      rw [dif_neg h, dif_neg (by omega)]
      exact congrArg y2 (congrArg ix1 (Fin.ext (by show d.val - 512 - 256 = d.val - 768; omega)))
  refine c.trans ?_
  unfold Args.dgo Args.dgoRow Args.quot
  split_ifs with h h'
  · rw [g0]
    exact congrArg (fun z : ℝ => (z : EReal)) (Finset.sum_congr rfl fun _ _ => mul_comm _ _)
  · rw [g1]
    refine congrArg (fun z : ℝ => (z : EReal)) (Finset.sum_congr rfl fun _ _ => (mul_comm _ _).trans (congrArg (fun k => A.dmix _ k * _) (Fin.ext ?_)))
    show 512 + (d.val - 512) = d.val
    omega
  · rw [g2]
    refine congrArg (fun z : ℝ => (z : EReal)) (Finset.sum_congr rfl fun _ _ => (mul_comm _ _).trans (congrArg (fun k => A.dmix _ k * _) (Fin.ext ?_)))
    show 768 + (d.val - 768) = d.val
    omega

end Cert.MixReferenceIdeal.Layer

end
-- ==== Proof.MixClaim.lean ====
module

public import proofs.«01_k».proof.Proof.MixArray
public import proofs.«01_k».proof.Proof.MixRef
public import proofs.«01_k».proof.Proof.AttnPre
public import proofs.«01_k».proof.Proof.Gen.MixIdeal.Value
public import proofs.«01_k».proof.Proof.Gen.MixReferenceIdeal.Run

@[expose] public section

noncomputable section

/-! The kernel of the gradient of what mixes the three branches leaves what the derivative of the plain lines leaves. -/

namespace Cert.Mixing

open Idealize.ShloMosaic Idealize.SL.Sem Cert.MixMath
open Cert.Attention (both real_of_test)
open Cert.MixReferenceIdeal.Layer (Reals)

/-- The printed precondition's side conditions. -/
theorem pre_facts : Cert.Pre_finite_mix.Facts := ⟨by decide, by decide, by decide, by decide, by decide, by decide, by decide, by decide, by decide, by decide⟩

/-- An index whose first part can only be zero. -/
theorem one_first {a b : ℕ} (i : (⟨3, ![1, a, b]⟩ : Shape).Idx) : i = ix3 0 (i 1) (i 2) := (eq_ix3 i).trans (congrArg (fun k => ix3 k (i 1) (i 2)) (Subsingleton.elim (α := Fin 1) (i 0) 0))

theorem one_row {a : ℕ} (i : (⟨2, ![1, a]⟩ : Shape).Idx) : i = ix2 0 (i 1) := (eq_ix2 i).trans (congrArg (fun k => ix2 k (i 1)) (Subsingleton.elim (α := Fin 1) (i 0) 0))

attribute [local instance] pre_facts in
/-- Where the precondition reads one, the thirteen arguments are arrays of real numbers. -/
theorem args_of_pre (x0 : FVec Ideal Cert.Pre_finite_mix.S1x8192x512 .f32) (x1 : FVec Ideal Cert.Pre_finite_mix.S1x8192x512 .f32) (x2 : FVec Ideal Cert.Pre_finite_mix.S1x8192x256 .f32) (x3 : FVec Ideal Cert.Pre_finite_mix.S4x128x128 .f32) (x4 : FVec Ideal Cert.Pre_finite_mix.S4x128 .f32) (x5 : FVec Ideal Cert.Pre_finite_mix.S4x64x64 .f32) (x6 : FVec Ideal Cert.Pre_finite_mix.S256 .f32) (x7 : FVec Ideal Cert.Pre_finite_mix.S256 .f32) (x8 : FVec Ideal Cert.Pre_finite_mix.S512 .f32) (x9 : FVec Ideal Cert.Pre_finite_mix.S256 .f32) (x10 : FVec Ideal Cert.Pre_finite_mix.S256 .f32) (x11 : FVec Ideal Cert.Pre_finite_mix.S1024x1024 .f32) (x12 : FVec Ideal Cert.Pre_finite_mix.S1x8192x1024 .f32)
    (h : Cert.Pre_finite_mix.fn (F := Ideal) x0 x1 x2 x3 x4 x5 x6 x7 x8 x9 x10 x11 x12 = fun _ => 1#1) : ∃ A : Args, Reals A x0 x1 x2 x3 x4 x5 x6 x7 x8 x9 x10 x11 x12 := by
  have e := congrFun h ix0
  unfold Cert.Pre_finite_mix.fn Cert.Pre_finite_mix.fn_part1 Cert.Pre_finite_mix.fn_part2 Cert.Pre_finite_mix.fn_part3 at e
  obtain ⟨e, e12⟩ := both e
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  choose o ho using real_of_test x0 _ _ e0
  choose uv huv using real_of_test x1 _ _ e1
  choose m hm using real_of_test x2 _ _ e2
  choose ws hws using real_of_test x3 _ _ e3
  choose bs hbs using real_of_test x4 _ _ e4
  choose wp hwp using real_of_test x5 _ _ e5
  choose ps hps using real_of_test x6 _ _ e6
  choose gv hgv using real_of_test x7 _ _ e7
  choose ga hga using real_of_test x8 _ _ e8
  choose gg hgg using real_of_test x9 _ _ e9
  choose gp hgp using real_of_test x10 _ _ e10
  choose wo hwo using real_of_test x11 _ _ e11
  choose dx hdx using real_of_test x12 _ _ e12
  refine ⟨⟨fun i k => o (ix3 0 i k), fun i l => uv (ix3 0 i (⟨l.val, by omega⟩ : Fin 512)), fun i l => uv (ix3 0 i (⟨256 + l.val, by omega⟩ : Fin 512)), fun i l => m (ix3 0 i l),
    fun h t s => ws (ix3 h t s), fun h t => bs (ix2 h t), fun h k d => wp (ix3 h k d), fun l => ps (ix1 l), fun l => gv (ix1 l), fun k => ga (ix1 k), fun l => gg (ix1 l), fun l => gp (ix1 l),
    fun k j => wo (ix2 k j), fun i j => dx (ix3 0 i j)⟩, ⟨fun i => ?_, fun r l => huv _, fun r l => huv _, fun i => ?_, fun i => ?_, fun i => ?_, fun i => ?_, fun i => ?_, fun i => ?_, fun i => ?_, fun i => ?_, fun i => ?_, fun i => ?_, fun i => ?_⟩⟩
  · exact (ho i).trans (congrArg (fun z => (o z : EReal)) (one_first i))
  · exact (hm i).trans (congrArg (fun z => (m z : EReal)) (one_first i))
  · exact (hws i).trans (congrArg (fun z => (ws z : EReal)) (eq_ix3 i))
  · exact (hbs i).trans (congrArg (fun z => (bs z : EReal)) (eq_ix2 i))
  · exact (hwp i).trans (congrArg (fun z => (wp z : EReal)) (eq_ix3 i))
  · exact (hps i).trans (congrArg (fun z => (ps z : EReal)) (eq_ix1 i))
  · exact (hgv i).trans (congrArg (fun z => (gv z : EReal)) (eq_ix1 i))
  · exact (hga i).trans (congrArg (fun z => (ga z : EReal)) (eq_ix1 i))
  · exact (hgg i).trans (congrArg (fun z => (gg z : EReal)) (eq_ix1 i))
  · exact (hgp i).trans (congrArg (fun z => (gp z : EReal)) (eq_ix1 i))
  · exact (hwo i).trans (congrArg (fun z => (wo z : EReal)) (eq_ix2 i))
  · exact (hdx i).trans (congrArg (fun z => (dx z : EReal)) (one_first i))

/-- The reference's run leaves its arguments. -/
theorem frame_reference : Cert.quiescent_MixReferenceIdeal (hMixReferenceIdeal := Cert.MixReferenceIdeal.Gen.facts) :=
  fun m ρ _ => (θ_run Cert.MixReferenceIdeal.defs _ _).mono (fun r h => ⟨fun c => (h c).2.2.2.2.2.2.2.2.2.2, sem_eq_zero_of_no_sems (by decide) _⟩)
    (Cert.MixReferenceIdeal.Value.run (F := Ideal) m ρ)

set_option maxHeartbeats 2000000 in
attribute [local instance] pre_facts in
/-- The two programs leave the same ten arrays in their results, where the arguments are finite. -/
theorem value : Cert.algebraic_MixIdeal_MixReferenceIdeal_pre_finite_mix := by
  intro m g m' g' hpre hargs
  have hA := fun c => args_of_pre _ _ _ _ _ _ _ _ _ _ _ _ _ (hpre c)
  choose A hH using hA
  have hG : ∀ c, Cert.MixIdeal.Layer.Given (A c) m c := fun c =>
    ⟨fun i k => (hH c).h0 (ix3 0 i k), (hH c).h1u, (hH c).h1v, fun i l => (hH c).h2 (ix3 0 i l), fun h t s => (hH c).h3 (ix3 h t s), fun h t => (hH c).h4 (ix2 h t), fun h k d => (hH c).h5 (ix3 h k d),
      fun l => (hH c).h6 (ix1 l), fun l => (hH c).h7 (ix1 l), fun k => (hH c).h8 (ix1 k), fun l => (hH c).h9 (ix1 l), fun l => (hH c).h10 (ix1 l), fun k j => (hH c).h11 (ix2 k j), fun i j => (hH c).h12 (ix3 0 i j)⟩
  refine ⟨fun c => Cert.MixIdeal.Layer.headsArr (A c), fun c => Cert.MixIdeal.Layer.sumsArr (A c), fun c => Cert.MixIdeal.Layer.factorsArr (A c), fun c => Cert.MixIdeal.Layer.rowsArr (A c), fun c => Cert.MixIdeal.Layer.outArr (A c), fun c => Cert.MixIdeal.Layer.gatesArr (A c), fun c => Cert.MixIdeal.Layer.scalesArr (A c), fun c => Cert.MixIdeal.Layer.matsArr (A c), fun c => Cert.MixIdeal.Layer.biasArr (A c), fun c => Cert.MixIdeal.Layer.poolArr (A c), ?_, ?_⟩
  · refine (θ_run _ _ _).mono (fun r h c => ?_) (Cert.MixIdeal.Value.run_blocks m g)
    obtain ⟨e0, e1, e2, e3, e4, e5, e6, e7, e8, e9, kept⟩ := h c
    exact ⟨e0.trans (Cert.MixIdeal.Layer.final_heads (A c) m c (hG c)), e1.trans (Cert.MixIdeal.Layer.final_sums (A c) m c (hG c)), e2.trans (Cert.MixIdeal.Layer.final_factors (A c) m c (hG c)), e3.trans (Cert.MixIdeal.Layer.final_rows (A c) m c (hG c)), e4.trans (Cert.MixIdeal.Layer.final_out (A c) m c (hG c)), e5.trans (Cert.MixIdeal.Layer.final_gates (A c) m c (hG c)), e6.trans (Cert.MixIdeal.Layer.final_scales (A c) m c (hG c)), e7.trans (Cert.MixIdeal.Layer.final_mats (A c) m c (hG c)), e8.trans (Cert.MixIdeal.Layer.final_bias (A c) m c (hG c)), e9.trans (Cert.MixIdeal.Layer.final_pool (A c) m c (hG c)), kept⟩
  · refine (θ_run _ _ _).mono (fun r h c => ?_) (Cert.MixReferenceIdeal.Value.run (F := Ideal) m' g')
    obtain ⟨e0, e1, e2, e3, e4, e5, e6, e7, e8, e9, kept⟩ := h c
    obtain ⟨a0, a1, a2, a3, a4, a5, a6, a7, a8, a9, a10, a11, a12⟩ := hargs c
    replace a0 : StableHlo.launchContents m' c (Proc.tc.devRef Cert.MixReferenceIdeal.main_arg0) = m ((c.tc : Thread Cert.MixIdeal.nD Cert.MixIdeal.τ).loc Cert.MixIdeal.main_arg0) := a0
    replace a1 : StableHlo.launchContents m' c (Proc.tc.devRef Cert.MixReferenceIdeal.main_arg1) = m ((c.tc : Thread Cert.MixIdeal.nD Cert.MixIdeal.τ).loc Cert.MixIdeal.main_arg1) := a1
    replace a2 : StableHlo.launchContents m' c (Proc.tc.devRef Cert.MixReferenceIdeal.main_arg2) = m ((c.tc : Thread Cert.MixIdeal.nD Cert.MixIdeal.τ).loc Cert.MixIdeal.main_arg2) := a2
    replace a3 : StableHlo.launchContents m' c (Proc.tc.devRef Cert.MixReferenceIdeal.main_arg3) = m ((c.tc : Thread Cert.MixIdeal.nD Cert.MixIdeal.τ).loc Cert.MixIdeal.main_arg3) := a3
    replace a4 : StableHlo.launchContents m' c (Proc.tc.devRef Cert.MixReferenceIdeal.main_arg4) = m ((c.tc : Thread Cert.MixIdeal.nD Cert.MixIdeal.τ).loc Cert.MixIdeal.main_arg4) := a4
    replace a5 : StableHlo.launchContents m' c (Proc.tc.devRef Cert.MixReferenceIdeal.main_arg5) = m ((c.tc : Thread Cert.MixIdeal.nD Cert.MixIdeal.τ).loc Cert.MixIdeal.main_arg5) := a5
    replace a6 : StableHlo.launchContents m' c (Proc.tc.devRef Cert.MixReferenceIdeal.main_arg6) = m ((c.tc : Thread Cert.MixIdeal.nD Cert.MixIdeal.τ).loc Cert.MixIdeal.main_arg6) := a6
    replace a7 : StableHlo.launchContents m' c (Proc.tc.devRef Cert.MixReferenceIdeal.main_arg7) = m ((c.tc : Thread Cert.MixIdeal.nD Cert.MixIdeal.τ).loc Cert.MixIdeal.main_arg7) := a7
    replace a8 : StableHlo.launchContents m' c (Proc.tc.devRef Cert.MixReferenceIdeal.main_arg8) = m ((c.tc : Thread Cert.MixIdeal.nD Cert.MixIdeal.τ).loc Cert.MixIdeal.main_arg8) := a8
    replace a9 : StableHlo.launchContents m' c (Proc.tc.devRef Cert.MixReferenceIdeal.main_arg9) = m ((c.tc : Thread Cert.MixIdeal.nD Cert.MixIdeal.τ).loc Cert.MixIdeal.main_arg9) := a9
    replace a10 : StableHlo.launchContents m' c (Proc.tc.devRef Cert.MixReferenceIdeal.main_arg10) = m ((c.tc : Thread Cert.MixIdeal.nD Cert.MixIdeal.τ).loc Cert.MixIdeal.main_arg10) := a10
    replace a11 : StableHlo.launchContents m' c (Proc.tc.devRef Cert.MixReferenceIdeal.main_arg11) = m ((c.tc : Thread Cert.MixIdeal.nD Cert.MixIdeal.τ).loc Cert.MixIdeal.main_arg11) := a11
    replace a12 : StableHlo.launchContents m' c (Proc.tc.devRef Cert.MixReferenceIdeal.main_arg12) = m ((c.tc : Thread Cert.MixIdeal.nD Cert.MixIdeal.τ).loc Cert.MixIdeal.main_arg12) := a12
    refine ⟨e0.trans ?_, e1.trans ?_, e2.trans ?_, e3.trans ?_, e4.trans ?_, e5.trans ?_, e6.trans ?_, e7.trans ?_, e8.trans ?_, e9.trans ?_, kept⟩
    · rw [Cert.MixReferenceIdeal.Read.val_main_v228_eq, a0, a8, a11, a12]
      funext i
      exact (congrArg _ (eq_ix3 i)).trans (Cert.MixReferenceIdeal.Layer.do_at (hH c) (i 0) (i 1) (i 2))
    · rw [Cert.MixReferenceIdeal.Read.val_main_v224_eq, a0, a8, a11, a12]
      funext i
      exact (congrArg _ (eq_ix3 i)).trans (Cert.MixReferenceIdeal.Layer.dl_at (hH c) (i 0) (i 1) (i 2))
    · rw [Cert.MixReferenceIdeal.Read.val_main_v230_eq, a1, a3, a4, a7, a9, a11, a12]
      funext i
      exact (congrArg _ (eq_ix2 i)).trans (Cert.MixReferenceIdeal.Layer.duv_at (hH c) (i 0) (i 1))
    · rw [Cert.MixReferenceIdeal.Read.val_main_v231_eq, a2, a5, a6, a10, a11, a12]
      funext i
      exact (congrArg _ (eq_ix2 i)).trans (Cert.MixReferenceIdeal.Layer.dm_at (hH c) (i 0) (i 1))
    · rw [Cert.MixReferenceIdeal.Read.val_main_v233_eq, a0, a1, a2, a3, a4, a5, a6, a7, a11, a12]
      funext i
      exact (congrArg _ (one_row i)).trans (Cert.MixReferenceIdeal.Layer.dgo_at (hH c) (i 1))
    · rw [Cert.MixReferenceIdeal.Read.val_main_v234_eq, a1, a3, a4, a7, a9, a11, a12]
      funext i
      exact (congrArg _ (one_row i)).trans (Cert.MixReferenceIdeal.Layer.dgv_at (hH c) (i 1))
    · rw [Cert.MixReferenceIdeal.Read.val_main_v235_eq, a2, a5, a6, a10, a11, a12]
      funext i
      exact (congrArg _ (one_row i)).trans (Cert.MixReferenceIdeal.Layer.dps_at (hH c) (i 1))
    · rw [Cert.MixReferenceIdeal.Read.val_main_v189_eq, a1, a3, a4, a7, a9, a11, a12]
      funext i
      exact Cert.MixReferenceIdeal.Layer.v189_at (hH c) i
    · rw [Cert.MixReferenceIdeal.Read.val_main_v183_eq, a1, a3, a4, a7, a9, a11, a12]
      funext i
      exact (congrArg _ (eq_ix2 i)).trans (Cert.MixReferenceIdeal.Layer.v183_at (hH c) (i 0) (i 1))
    · rw [Cert.MixReferenceIdeal.Read.val_main_v170_eq, a2, a5, a6, a10, a11, a12]
      funext i
      exact (congrArg _ (eq_ix2 i)).trans (Cert.MixReferenceIdeal.Layer.v170_at (hH c) (i 0) (i 1))

end Cert.Mixing

end
-- ==== Proof.ProjRef.lean ====
module

public import proofs.«01_k».proof.Proof.Gen.ProjReferenceIdeal.Read
public import proofs.«01_k».proof.Proof.NormMath

@[expose] public section

set_option maxRecDepth 16384

noncomputable section

/-! The projection: a row divided by its root mean square, times the gains, times the matrix, the product's columns set
    apart. Nothing is asked of the arguments, infinities are allowed. -/

namespace Cert.ProjMath

open Idealize.ShloMosaic

/-- One over the root of a row's mean square. -/
def factor (x : Fin 1024 → EReal) : EReal :=
  Ideal.rsqrt ((∑ e, x e * x e) * ((1 / 1024 : ℝ) : EReal) + Ideal.ofBits .f32 0x358637BD#32)

/-- A row divided by its root mean square, times the gains. -/
def normed (x g : Fin 1024 → EReal) (d : Fin 1024) : EReal := x d * factor x * g d

/-- The columns set apart: zeros stand in the two gaps. -/
def placed (z : Fin 1184 → EReal) (k : Fin 1280) : EReal :=
  if h : k.val < 384 then z ⟨k.val, by omega⟩ else if k.val < 448 then 0 else if h : k.val < 480 then z ⟨k.val - 64, by omega⟩
  else if k.val < 512 then 0 else z ⟨k.val - 96, by omega⟩

variable (z : Fin 1184 → EReal) {k : Fin 1280}

theorem placed_head (h : k.val < 384) : placed z k = z ⟨k.val, by omega⟩ := by unfold placed; rw [dif_pos h]

theorem placed_gap (h : 384 ≤ k.val) (h' : k.val < 448) : placed z k = 0 := by
  unfold placed; rw [dif_neg (by omega), if_pos h']

theorem placed_turn (h : 448 ≤ k.val) (h' : k.val < 480) : placed z k = z ⟨k.val - 64, by omega⟩ := by
  unfold placed; rw [dif_neg (by omega), if_neg (by omega), dif_pos h']

theorem placed_rest (h : 480 ≤ k.val) (h' : k.val < 512) : placed z k = 0 := by
  unfold placed; rw [dif_neg (by omega), if_neg (by omega), dif_neg (by omega), if_pos h']

theorem placed_tail (h : 512 ≤ k.val) : placed z k = z ⟨k.val - 96, by omega⟩ := by
  unfold placed; rw [dif_neg (by omega), if_neg (by omega), dif_neg (by omega), if_neg (by omega)]

/-- The product with the columns set apart is the product with the matrix whose columns are set apart. -/
theorem placed_sum (h : Fin 1024 → EReal) (w : Fin 1024 → Fin 1184 → EReal) (k : Fin 1280) :
    placed (fun j => ∑ d, h d * w d j) k = ∑ d, h d * placed (w d) k := by
  have zero : (∑ d, h d * 0 : EReal) = 0 := Finset.sum_eq_zero fun d _ => mul_zero _
  unfold placed
  split_ifs
  · rfl
  · exact zero.symm
  · rfl
  · exact zero.symm
  · rfl

/-- The projected row. -/
def projected (x g : Fin 1024 → EReal) (w : Fin 1024 → Fin 1184 → EReal) : Fin 1280 → EReal := placed fun j => ∑ d, normed x g d * w d j

end Cert.ProjMath

namespace Cert.ProjReferenceIdeal.Plain

open Idealize.ShloMosaic Cert.ProjReferenceIdeal Cert.ProjReferenceIdeal.Gen Cert.ProjReferenceIdeal.Read
open Cert.AttnMath (word_zero)
open Cert.NormMath (word_1024)
open Cert.ProjMath

variable (x0 : Vec Ideal S1x8192x1024 .f32) (x1 : Vec Ideal S1024 .f32) (x2 : Vec Ideal S1024x1184 .f32)

/-- A row of the input. -/
abbrev rowOf (i : Fin 8192) : Fin 1024 → EReal := fun e => x0 (ix3 (0 : Fin 1) i e)

abbrev gains : Fin 1024 → EReal := fun e => x1 (ix1 e)

theorem factor_at (i : S1x8192x1.Idx) : val_main_v7 (F := Ideal) x0 i = factor (rowOf x0 (i 1)) := by
  rw [val_main_v7_apply, val_main_v6_apply, val_main_v4_apply, val_main_v2_apply, val_main_v1_apply, val_main_v3_apply, val_main_v5_apply]
  have e : ∀ k : Fin 1024, val_main_v0 (F := Ideal) x0 (idx_main_v1 (idx_main_v2 i) k) = rowOf x0 (i 1) k * rowOf x0 (i 1) k := fun k => by
    rw [val_main_v0_apply]
    have e0 : idx_main_v1 (idx_main_v2 i) k = ix3 (0 : Fin 1) (i 1) k := funext fun a => match a with
      | ⟨0, _⟩ => Subsingleton.elim (α := Fin 1) _ _
      | ⟨1, _⟩ => rfl
      | ⟨2, _⟩ => rfl
    rw [e0]
    rfl
  have e' : (val_main_cst (F := Ideal) (Shape.Idx.first h_S_) + ∑ k : Fin 1024, val_main_v0 (F := Ideal) x0 (idx_main_v1 (idx_main_v2 i) k) : EReal)
      = ∑ k, rowOf x0 (i 1) k * rowOf x0 (i 1) k := by
    rw [Finset.sum_congr rfl fun k _ => e k]
    exact (congrArg (fun z : EReal => z + _) word_zero).trans (zero_add _)
  refine (congrArg (fun z : EReal => Ideal.rsqrt (Ideal.div z (Ideal.ofBits .f32 0x44800000#32) + Ideal.ofBits .f32 0x358637BD#32)) e').trans ?_
  rw [word_1024, Ideal.div_coe (by norm_num)]
  rfl

theorem normed_at (i : Fin 8192) (d : Fin 1024) : val_main_v12 (F := Ideal) x0 x1 (ix3 (0 : Fin 1) i d) = normed (rowOf x0 i) (gains x1) d := by
  rw [val_main_v12_apply, val_main_v9_apply, val_main_v8_apply, factor_at, val_main_v11_apply, val_main_v10_apply]
  have e : idx_main_v10 (idx_main_v11 (ix3 (0 : Fin 1) i d)) = ix1 d := funext fun a => match a with
    | ⟨0, _⟩ => rfl
  rw [e]
  rfl

theorem product_at (i : Fin 8192) (j : Fin 1184) :
    val_main_v13 (F := Ideal) x0 x1 x2 (ix3 (0 : Fin 1) i j) = ∑ d, normed (rowOf x0 i) (gains x1) d * x2 (ix2 d j) := by
  rw [val_main_v13_apply]
  refine Finset.sum_congr rfl fun d _ => ?_
  have e : lidx_main_v13 (ix3 (0 : Fin 1) i j) d = ix3 (0 : Fin 1) i d := funext fun a => match a with
    | ⟨0, _⟩ => rfl
    | ⟨1, _⟩ => rfl
    | ⟨2, _⟩ => rfl
  have e' : ridx_main_v13 (ix3 (0 : Fin 1) i j) d = ix2 d j := funext fun a => match a with
    | ⟨0, _⟩ => rfl
    | ⟨1, _⟩ => rfl
  rw [e, e', normed_at]

/-- The normalized rows. -/
theorem rows_at (i : Fin 8192) (d : Fin 1024) : val_main_v22 (F := Ideal) x0 x1 (ix2 i d) = normed (rowOf x0 i) (gains x1) d := by
  rw [val_main_v22_apply, val_main_v21_apply, ← normed_at]
  have hi := i.isLt
  have hd := d.isLt
  refine congrArg (val_main_v12 (F := Ideal) x0 x1) (funext fun a => Fin.ext ?_)
  match a with
  | ⟨0, _⟩ => rfl
  | ⟨1, _⟩ => show (i.val * 1024 + d.val) / 1024 % 8192 = i.val; omega
  | ⟨2, _⟩ => show (i.val * 1024 + d.val) % 1024 = d.val; omega

/-- Five arrays side by side. -/
theorem five {n : Fin 8192} (k : Fin 1280) (y0 : S1x8192x384.Idx → EReal) (y1 : S1x8192x64.Idx → EReal) (y2 y3 : S1x8192x32.Idx → EReal)
    (y4 : S1x8192x768.Idx → EReal) (h) :
    concatenate S1x8192x1280 2 [⟨S1x8192x384, y0⟩, ⟨S1x8192x64, y1⟩, ⟨S1x8192x32, y2⟩, ⟨S1x8192x32, y3⟩, ⟨S1x8192x768, y4⟩] h (ix3 (0 : Fin 1) n k)
      = if h1 : k.val < 384 then y0 (ix3 (0 : Fin 1) n ⟨k.val, h1⟩) else if h2 : k.val - 384 < 64 then y1 (ix3 (0 : Fin 1) n ⟨k.val - 384, h2⟩)
        else if h3 : k.val - 384 - 64 < 32 then y2 (ix3 (0 : Fin 1) n ⟨k.val - 384 - 64, h3⟩)
        else if h4 : k.val - 384 - 64 - 32 < 32 then y3 (ix3 (0 : Fin 1) n ⟨k.val - 384 - 64 - 32, h4⟩)
        else y4 (ix3 (0 : Fin 1) n ⟨k.val - 384 - 64 - 32 - 32, by omega⟩) := by
  pointwise

set_option maxHeartbeats 1000000 in
/-- The product, its columns set apart. -/
theorem apart_at (i : Fin 8192) (k : Fin 1280) :
    val_main_v19 (F := Ideal) x0 x1 x2 (ix3 (0 : Fin 1) i k) = projected (rowOf x0 i) (gains x1) (fun d j => x2 (ix2 d j)) k := by
  have hk := k.isLt
  unfold projected val_main_v19
  refine (five k _ _ _ _ _ _).trans ?_
  split_ifs with h1 h2 h3 h4
  · rw [placed_head _ h1, val_main_v14_apply, ← product_at]
    refine congrArg (val_main_v13 (F := Ideal) x0 x1 x2) (funext fun a => Fin.ext ?_)
    match a with
    | ⟨0, _⟩ => rfl
    | ⟨1, _⟩ => rfl
    | ⟨2, _⟩ => rfl
  · rw [placed_gap _ (by omega) (by omega), val_main_v15_apply]
    exact word_zero
  · rw [placed_turn _ (by omega) (by omega), val_main_v16_apply, ← product_at]
    refine congrArg (val_main_v13 (F := Ideal) x0 x1 x2) (funext fun a => Fin.ext ?_)
    match a with
    | ⟨0, _⟩ => rfl
    | ⟨1, _⟩ => rfl
    | ⟨2, _⟩ => show 384 + (k.val - 384 - 64) = k.val - 64; omega
  · rw [placed_rest _ (by omega) (by omega), val_main_v17_apply]
    exact word_zero
  · rw [placed_tail _ (by omega), val_main_v18_apply, ← product_at]
    refine congrArg (val_main_v13 (F := Ideal) x0 x1 x2) (funext fun a => Fin.ext ?_)
    match a with
    | ⟨0, _⟩ => rfl
    | ⟨1, _⟩ => rfl
    | ⟨2, _⟩ => show 416 + (k.val - 384 - 64 - 32 - 32) = k.val - 96; omega

theorem result_at (i : Fin 8192) (k : Fin 1280) :
    val_main_v20 (F := Ideal) x0 x1 x2 (ix2 i k) = projected (rowOf x0 i) (gains x1) (fun d j => x2 (ix2 d j)) k := by
  rw [val_main_v20_apply, ← apart_at]
  have hi := i.isLt
  have hk := k.isLt
  refine congrArg (val_main_v19 (F := Ideal) x0 x1 x2) (funext fun a => Fin.ext ?_)
  match a with
  | ⟨0, _⟩ => rfl
  | ⟨1, _⟩ => show (i.val * 1280 + k.val) / 1280 % 8192 = i.val; omega
  | ⟨2, _⟩ => show (i.val * 1280 + k.val) % 1280 = k.val; omega

end Cert.ProjReferenceIdeal.Plain

end
-- ==== Proof.ProjArray.lean ====
module

public import proofs.«01_k».proof.Proof.ProjRef
public import proofs.«01_k».proof.Proof.Gen.ProjIdeal.Value
public import Idealize.ShloMosaic.Lib.StableHlo.ReadAt
public import Idealize.ShloMosaic.Lib.Pipeline.ValueKit

@[expose] public section

set_option maxRecDepth 16384

noncomputable section

/-! The two arrays the projection's kernel leaves. -/

namespace Cert.ProjIdeal.Plain

open Cert.ProjIdeal Cert.ProjIdeal.Gen Idealize.ShloMosaic Idealize.ShloMosaic.TcCoe Idealize.SL.Sem
open Cert.NormMath (word_1024th)
open Cert.AttnMath (word_zero)
open Cert.ProjMath

section Body

/-- A rectangle that is the whole of a matrix. -/
theorem emb_all {a b : ℕ} (h : ∀ q, ![0, 0] q + ![a, b] q ≤ (⟨2, ![a, b]⟩ : Shape).size q) (y : (⟨2, ![a, b]⟩ : Shape).Idx) :
    (Rect.unit (s := ⟨2, ![a, b]⟩) ![0, 0] ![a, b] h).emb y = y := by
  funext q
  apply Fin.ext
  match q with
  | ⟨0, _⟩ => show 0 + 1 * (y 0).val = (y 0).val; omega
  | ⟨1, _⟩ => show 0 + 1 * (y 1).val = (y 1).val; omega

variable (x : Vec Ideal S1024x1024 .f32) (g : Vec Ideal S1x1024 .f32) (w : Vec Ideal S1024x1280 .bf16)

theorem normed_words (r d : Fin 1024) : k0_pay1 (F := Ideal) x g (ix2 r d) = normed (fun e => x (ix2 r e)) (fun e => g (ix2 0 e)) d := by
  unfold normed factor
  rw [← word_1024th]
  unfold k0_pay1
  pointwise

theorem product_words (r : Fin 1024) (k : Fin 1280) :
    k0_pay2 (F := Ideal) x g w (ix2 r k) = ∑ d, normed (fun e => x (ix2 r e)) (fun e => g (ix2 0 e)) d * w (ix2 d k) := by
  simp only [← normed_words]
  unfold k0_pay2
  generalize k0_pay1 (F := Ideal) x g = h
  pointwise

theorem loads : View.ld x r0_0 = x ∧ View.ld g r0_1 = g ∧ View.ld w r0_2 = w :=
  ⟨funext fun y => congrArg x (emb_all _ y), funext fun y => congrArg g (emb_all _ y), funext fun y => congrArg w (emb_all _ y)⟩

theorem out_z (y : S1024x1280.Idx) : out0_3 x g w y = k0_pay2 (F := Ideal) x g w y := by
  unfold out0_3
  rw [(loads x g w).1, (loads x g w).2.1, (loads x g w).2.2]
  refine View.canon_apply_of_pieces (Val := Elt Ideal) (k0_pay2 (F := Ideal) x g w : Vec Ideal S1024x1280 .f32) _ ?_ y (cover0_3 _ y)
  intro pc hpc u
  obtain rfl := List.mem_singleton.mp hpc
  exact (congrArg (k0_pay2 (F := Ideal) x g w) (emb_all inb_S1024x1280_S1024x1280_0_0 u)).symm

theorem out_h (y : S1024x1024.Idx) : out0_4 x g w y = k0_pay1 (F := Ideal) x g y := by
  unfold out0_4
  rw [(loads x g w).1, (loads x g w).2.1]
  refine View.canon_apply_of_pieces (Val := Elt Ideal) (k0_pay1 (F := Ideal) x g : Vec Ideal S1024x1024 .bf16) _ ?_ y (cover0_4 _ y)
  intro pc hpc u
  obtain rfl := List.mem_singleton.mp hpc
  exact (congrArg (k0_pay1 (F := Ideal) x g) (emb_all inb_S1024x1024_S1024x1024_0_0 u)).symm

end Body

variable (m : (ℓ : Loc nD τ sig) → Buf (Elt Ideal) ℓ) (c : Dev nD)

/-- The arguments: the rows, the gains, the matrix. -/
abbrev xRow (i : Fin 8192) : Fin 1024 → EReal := fun e => m ((c : Thread nD τ).loc main_arg0) (ix3 (0 : Fin 1) i e)

abbrev gain : Fin 1024 → EReal := fun e => m ((c : Thread nD τ).loc main_arg1) (ix1 e)

abbrev matrix (d : Fin 1024) : Fin 1184 → EReal := fun j => m ((c : Thread nD τ).loc main_arg2) (ix2 d j)

theorem rows_at (i : Fin 8192) (d : Fin 1024) : (V m c main_v8 : Vec Ideal S8192x1024 .f32) (ix2 i d) = xRow m c i d := by
  unfold V; after_reads_at

theorem gains_at (d : Fin 1024) : (V m c main_v9 : Vec Ideal S1x1024 .f32) (ix2 0 d) = gain m c d := by
  unfold V; after_reads_at

/-- The host sets the matrix's columns apart. -/
theorem matrix_at (d : Fin 1024) (k : Fin 1280) : (V m c main_v7 : Vec Ideal S1024x1280 .bf16) (ix2 d k) = placed (matrix m c d) k := by
  have hk := k.isLt
  have at_eq : ∀ {j j' : Fin 1184}, j.val = j'.val → matrix m c d j = matrix m c d j' := fun e => congrArg _ (Fin.ext e)
  unfold V
  after_reads_at
  by_cases h1 : k.val < 384
  · refine (dif_pos h1).trans ?_
    rw [placed_head _ h1]
    after_reads_at
  refine (dif_neg h1).trans ?_
  by_cases h2 : k.val - 384 < 64
  · refine (dif_pos h2).trans ?_
    rw [placed_gap _ (by omega) (by omega)]
    after_reads_at
  refine (dif_neg h2).trans ?_
  by_cases h3 : k.val - 384 - 64 < 32
  · refine (dif_pos h3).trans ?_
    rw [placed_turn _ (by omega) (by omega)]
    after_reads_at
    exact at_eq (by show 384 + (k.val - 384 - 64) = k.val - 64; omega)
  refine (dif_neg h3).trans ?_
  by_cases h4 : k.val - 384 - 64 - 32 < 32
  · refine (dif_pos h4).trans ?_
    rw [placed_rest _ (by omega) (by omega)]
    after_reads_at
  refine (dif_neg h4).trans ?_
  by_cases h5 : k.val - 384 - 64 - 32 - 32 < 512
  · refine (dif_pos h5).trans ?_
    rw [placed_tail _ (by omega)]
    after_reads_at
    exact at_eq (by show 416 + (k.val - 384 - 64 - 32 - 32) = k.val - 96; omega)
  refine (dif_neg h5).trans ?_
  rw [placed_tail _ (by omega)]
  after_reads_at
  exact at_eq (by show 928 + (k.val - 384 - 64 - 32 - 32 - 512) = k.val - 96; omega)

/-- The rows of a point. -/
def row (t : Fin cfg0.N) (r : Fin 1024) : Fin 8192 := ⟨1024 * t.val + r.val, by have : t.val < 8 := t.isLt; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel

theorem x_block (t : Fin cfg0.N) (r e : Fin 1024) : iblk m c 0 t (ix2 r e : S1024x1024.Idx) = xRow m c (row t r) e := by
  rw [← rows_at]
  have e0 := index0 t
  blk_simp [iblk]
  congr 1
  blk_ext [e0, row]

theorem g_block (t : Fin cfg0.N) (e : Fin 1024) : iblk m c 1 t (ix2 0 e : S1x1024.Idx) = gain m c e := by
  rw [← gains_at]
  have e1 := index1 t
  blk_simp [iblk]
  congr 1
  blk_ext [e1]

theorem w_block (t : Fin cfg0.N) (d : Fin 1024) (k : Fin 1280) : iblk m c 2 t (ix2 d k : S1024x1280.Idx) = placed (matrix m c d) k := by
  rw [← matrix_at]
  have e2 := index2 t
  blk_simp [iblk]
  congr 1
  blk_ext [e2]

def zArr : Vec Ideal S8192x1280 .f32 := fun j => projected (xRow m c (j 0)) (gain m c) (matrix m c) (j 1)

def hArr : Vec Ideal S8192x1024 .bf16 := fun j => normed (xRow m c (j 0)) (gain m c) (j 1)

theorem final_z : (dats m 0 c).arrAt 3 cfg0.N = zArr m c := by
  refine (dats m 0 c).arrAt_eq_of_covers 3 _ (by decide +kernel) fun t hf y => ?_
  have e3 := index3 t
  have e : (win0_3.blk t).view.emb y = ix2 (row t (y 0)) (y 1) := by
    idx_vars y
    blk_ext [e3, row]
  blk_simp
  rw [after0_3, e]
  change S1024x1280.Idx at y
  idx_vars y
  refine (out_z _ _ _ _).trans ((product_words _ _ _ y0 y1).trans ?_)
  show _ = placed (fun j => ∑ d, normed (xRow m c (row t y0)) (gain m c) d * matrix m c d j) y1
  rw [placed_sum]
  simp only [x_block, g_block, w_block]

theorem final_h : (dats m 0 c).arrAt 4 cfg0.N = hArr m c := by
  refine (dats m 0 c).arrAt_eq_of_covers 4 _ (by decide +kernel) fun t hf y => ?_
  have e4 := index4 t
  have e : (win0_4.blk t).view.emb y = ix2 (row t (y 0)) (y 1) := by
    idx_vars y
    blk_ext [e4, row]
  blk_simp
  rw [after0_4, e]
  change S1024x1024.Idx at y
  idx_vars y
  refine (out_h _ _ _ _).trans ((normed_words _ _ y0 y1).trans ?_)
  show _ = normed (xRow m c (row t y0)) (gain m c) y1
  simp only [x_block, g_block]

end Cert.ProjIdeal.Plain

end
-- ==== Proof.ProjClaim.lean ====
module

public import proofs.«01_k».proof.Proof.ProjArray
public import proofs.«01_k».proof.Defs
public import proofs.«01_k».proof.Proof.Gen.ProjReferenceIdeal.Run

@[expose] public section

noncomputable section

/-! The projection's kernel leaves what the plain projection leaves, whatever the arguments. -/

namespace Cert.Projection

open Idealize.ShloMosaic Idealize.SL.Sem

/-- The reference's run leaves its arguments. -/
theorem frame_reference : Cert.quiescent_ProjReferenceIdeal (hProjReferenceIdeal := Cert.ProjReferenceIdeal.Gen.facts) :=
  fun m ρ _ => (θ_run Cert.ProjReferenceIdeal.defs _ _).mono (fun r h => ⟨fun c => (h c).2.2, sem_eq_zero_of_no_sems (by decide) _⟩)
    (Cert.ProjReferenceIdeal.Value.run (F := Ideal) m ρ)

/-- The two programs leave the same two arrays in their results. -/
theorem value : Cert.algebraic_ProjIdeal_ProjReferenceIdeal := by
  intro m g m' g' hpre hargs
  refine ⟨fun c => Cert.ProjIdeal.Plain.zArr m c, fun c => Cert.ProjIdeal.Plain.hArr m c, ?_, ?_⟩
  · refine (θ_run _ _ _).mono (fun r h c => ?_) (Cert.ProjIdeal.Value.run_blocks m g)
    exact ⟨(h c).1.trans (Cert.ProjIdeal.Plain.final_z m c), (h c).2.1.trans (Cert.ProjIdeal.Plain.final_h m c), (h c).2.2⟩
  · refine (θ_run _ _ _).mono (fun r h c => ⟨(h c).1.trans ?_, (h c).2.1.trans ?_, (h c).2.2⟩) (Cert.ProjReferenceIdeal.Value.run (F := Ideal) m' g')
    · rw [Cert.ProjReferenceIdeal.Read.val_main_v20_eq, (hargs c).1, (hargs c).2.1, (hargs c).2.2]
      funext i
      refine (congrArg _ (eq_ix2 i)).trans ?_
      exact Cert.ProjReferenceIdeal.Plain.result_at _ _ _ (i 0) (i 1)
    · rw [Cert.ProjReferenceIdeal.Read.val_main_v22_eq, (hargs c).1, (hargs c).2.1]
      funext i
      refine (congrArg _ (eq_ix2 i)).trans ?_
      exact Cert.ProjReferenceIdeal.Plain.rows_at _ _ (i 0) (i 1)

end Cert.Projection

end
-- ==== Proof.FwdRef.lean ====
module

public import proofs.«01_k».proof.Proof.Gen.FfnFwdReferenceIdeal.Read
public import proofs.«01_k».proof.Proof.ProjRef
public import proofs.«01_k».proof.Proof.AttnRef
public import proofs.«01_k».proof.Proof.FfnMath

@[expose] public section

set_option maxRecDepth 16384

noncomputable section

/-! The gated feed-forward, of any arguments. -/

namespace Cert.FwdMath

open Idealize.ShloMosaic
open Cert.ProjMath (normed)
open Cert.FfnMath (col)

/-- A normed row times a column. -/
def factor (x g : Fin 1024 → EReal) (w : Fin 1024 → Fin 2816 → EReal) (j : Fin 2816) : EReal := ∑ d, normed x g d * w d j

/-- A gate applied. -/
def gated (a b : EReal) : EReal := a * Ideal.logistic a * b

/-- A row and what the hidden columns give it. -/
def left (x g : Fin 1024 → EReal) (wg wu : Fin 1024 → Fin 2816 → EReal) (wd : Fin 2816 → Fin 1024 → EReal) (d : Fin 1024) : EReal :=
  x d + ∑ j, gated (factor x g wg j) (factor x g wu j) * wd j d

end Cert.FwdMath

namespace Cert.FfnFwdReferenceIdeal.Plain

open Idealize.ShloMosaic Cert.FfnFwdReferenceIdeal Cert.FfnFwdReferenceIdeal.Gen Cert.FfnFwdReferenceIdeal.Read
open Cert.AttnMath (word_zero word_one)
open Cert.NormMath (word_1024)
open Cert.ProjMath (normed)
open Cert.FwdMath Cert.FfnMath

variable (x0 : Vec Ideal S1x8192x1024 .f32) (x1 : Vec Ideal S1024 .f32) (x2 x3 : Vec Ideal S1024x2816 .f32) (x4 : Vec Ideal S2816x1024 .f32)

/-- A row of the input. -/
abbrev rowOf (i : Fin 8192) : Fin 1024 → EReal := fun e => x0 (ix3 (0 : Fin 1) i e)

abbrev gains : Fin 1024 → EReal := fun e => x1 (ix1 e)

abbrev matrix {a b : ℕ} (x : (⟨2, ![a, b]⟩ : Shape).Idx → EReal) (d : Fin a) (j : Fin b) : EReal := x (ix2 d j)

theorem first {b : ℕ} (i : (⟨3, ![1, 8192, b]⟩ : Shape).Idx) : i = ix3 (0 : Fin 1) (i 1) (i 2) :=
  (eq_ix3 i).trans (congrArg (fun a => ix3 a (i 1) (i 2)) (Subsingleton.elim (α := Fin 1) (i 0) 0))

theorem square_at (i : S1x8192x1.Idx) : val_main_v7 (F := Ideal) x0 i = ProjMath.factor (rowOf x0 (i 1)) := by
  rw [val_main_v7_apply, val_main_v6_apply, val_main_v4_apply, val_main_v2_apply, val_main_v1_apply, val_main_v3_apply, val_main_v5_apply]
  have e : ∀ k : Fin 1024, val_main_v0 (F := Ideal) x0 (idx_main_v1 (idx_main_v2 i) k) = rowOf x0 (i 1) k * rowOf x0 (i 1) k := fun k => by
    rw [val_main_v0_apply, first (idx_main_v1 (idx_main_v2 i) k)]
    rfl
  have e' : (val_main_cst (F := Ideal) (Shape.Idx.first h_S_) + ∑ k : Fin 1024, val_main_v0 (F := Ideal) x0 (idx_main_v1 (idx_main_v2 i) k) : EReal)
      = ∑ k, rowOf x0 (i 1) k * rowOf x0 (i 1) k := by
    rw [Finset.sum_congr rfl fun k _ => e k]
    exact (congrArg (fun z : EReal => z + _) word_zero).trans (zero_add _)
  refine (congrArg (fun z : EReal => Ideal.rsqrt (Ideal.div z (Ideal.ofBits .f32 0x44800000#32) + Ideal.ofBits .f32 0x358637BD#32)) e').trans ?_
  rw [word_1024, Ideal.div_coe (by norm_num)]
  rfl

theorem normed_at (i : S1x8192x1024.Idx) : val_main_v12 (F := Ideal) x0 x1 i = normed (rowOf x0 (i 1)) (gains x1) (i 2) := by
  rw [val_main_v12_apply, val_main_v9_apply, val_main_v8_apply, square_at, val_main_v11_apply, val_main_v10_apply,
    eq_ix1 (idx_main_v10 (idx_main_v11 i))]
  exact congrArg (fun a => x0 a * ProjMath.factor (rowOf x0 (i 1)) * gains x1 (i 2)) (first i)

theorem gate_at (i : S1x8192x2816.Idx) : val_main_v13 (F := Ideal) x0 x1 x2 i = factor (rowOf x0 (i 1)) (gains x1) (matrix x2) (i 2) := by
  rw [val_main_v13_apply]
  refine Finset.sum_congr rfl fun d _ => ?_
  rw [normed_at, eq_ix2 (ridx_main_v13 i d)]
  rfl

theorem up_at (i : S1x8192x2816.Idx) : val_main_v14 (F := Ideal) x0 x1 x3 i = factor (rowOf x0 (i 1)) (gains x1) (matrix x3) (i 2) := by
  rw [val_main_v14_apply]
  refine Finset.sum_congr rfl fun d _ => ?_
  rw [normed_at, eq_ix2 (ridx_main_v14 i d)]
  rfl

theorem hidden_at (i : S1x8192x2816.Idx) :
    val_main_v16 (F := Ideal) x0 x1 x2 x3 i = gated (factor (rowOf x0 (i 1)) (gains x1) (matrix x2) (i 2)) (factor (rowOf x0 (i 1)) (gains x1) (matrix x3) (i 2)) := by
  rw [val_main_v16_apply, val_main_v15_apply, val_main_call0_v5_apply, val_main_call0_v4_apply, val_main_call0_v3_apply, val_main_call0_v2_apply,
    val_main_call0_v1_apply, val_main_call0_v0_apply, gate_at, up_at]
  show _ * Ideal.div (Ideal.ofBits .f32 0x3F800000#32) (Ideal.ofBits .f32 0x3F800000#32 + Ideal.exp (-_)) * _ = _
  rw [word_one]
  rfl

/-- The layer's output. -/
theorem left_at (i : Fin 8192) (d : Fin 1024) :
    val_main_v19 (F := Ideal) x0 x1 x2 x3 x4 (ix2 i d) = left (rowOf x0 i) (gains x1) (matrix x2) (matrix x3) (matrix x4) d := by
  have hi := i.isLt
  have hd := d.isLt
  have e : idx_main_v19 (ix2 i d) = ix3 (0 : Fin 1) i d := funext fun a => Fin.ext (match a with
    | ⟨0, _⟩ => rfl
    | ⟨1, _⟩ => by show (i.val * 1024 + d.val) / 1024 % 8192 = i.val; omega
    | ⟨2, _⟩ => by show (i.val * 1024 + d.val) % 1024 = d.val; omega)
  rw [val_main_v19_apply, e, val_main_v18_apply, val_main_v17_apply]
  refine congrArg (fun z : EReal => rowOf x0 i d + z) (Finset.sum_congr rfl fun j _ => ?_)
  rw [hidden_at, eq_ix2 (ridx_main_v17 (ix3 (0 : Fin 1) i d) j)]
  rfl

/-- The normalized rows. -/
theorem rows_at (i : Fin 8192) (d : Fin 1024) : val_main_v27 (F := Ideal) x0 x1 (ix2 i d) = normed (rowOf x0 i) (gains x1) d := by
  have hi := i.isLt
  have hd := d.isLt
  rw [val_main_v27_apply, val_main_v26_apply]
  refine (congrArg (val_main_v12 (F := Ideal) x0 x1) (funext fun a => Fin.ext ?_)).trans (normed_at x0 x1 (ix3 (0 : Fin 1) i d))
  match a with
  | ⟨0, _⟩ => rfl
  | ⟨1, _⟩ => show (i.val * 1024 + d.val) / 1024 % 8192 = i.val; omega
  | ⟨2, _⟩ => show (i.val * 1024 + d.val) % 1024 = d.val; omega

/-- Where a split column stands. -/
theorem split (k : Fin 4) (i : Fin 8192) (j : Fin 704) : idx_main_v20 (idx_main_v21 (idx_main_v22 (ix3 k i j))) = ix3 (0 : Fin 1) i (col k j) := by
  have hk := k.isLt
  have hi := i.isLt
  have hj := j.isLt
  refine funext fun a => Fin.ext ?_
  match a with
  | ⟨0, _⟩ => rfl
  | ⟨1, _⟩ => show (((i.val * 4 + k.val) * 704 + j.val) / 2816 * 2816 + ((i.val * 4 + k.val) * 704 + j.val) % 2816) / 2816 % 8192 = i.val; omega
  | ⟨2, _⟩ => show (((i.val * 4 + k.val) * 704 + j.val) / 2816 * 2816 + ((i.val * 4 + k.val) * 704 + j.val) % 2816) % 2816 = k.val * 704 + j.val; omega

theorem gates_at (k : Fin 4) (i : Fin 8192) (j : Fin 704) : val_main_v22 (F := Ideal) x0 x1 x2 (ix3 k i j) = factor (rowOf x0 i) (gains x1) (matrix x2) (col k j) := by
  rw [val_main_v22_apply, val_main_v21_apply, val_main_v20_apply, split]
  exact gate_at x0 x1 x2 _

theorem ups_at (k : Fin 4) (i : Fin 8192) (j : Fin 704) : val_main_v25 (F := Ideal) x0 x1 x3 (ix3 k i j) = factor (rowOf x0 i) (gains x1) (matrix x3) (col k j) := by
  rw [val_main_v25_apply, val_main_v24_apply, val_main_v23_apply]
  exact (congrArg (val_main_v14 (F := Ideal) x0 x1 x3) (split k i j)).trans (up_at x0 x1 x3 _)

end Cert.FfnFwdReferenceIdeal.Plain

end
-- ==== Proof.FwdArray.lean ====
module

public import proofs.«01_k».proof.Proof.FwdRef
public import proofs.«01_k».proof.Proof.ProjArray
public import proofs.«01_k».proof.Proof.Gen.FfnFwdIdeal.Value

@[expose] public section

set_option maxRecDepth 16384

noncomputable section

/-! The four arrays the feed-forward's kernel leaves. -/

namespace Cert.FfnFwdIdeal.Plain

open Cert.FfnFwdIdeal Cert.FfnFwdIdeal.Gen Idealize.ShloMosaic Idealize.ShloMosaic.TcCoe Idealize.SL.Sem
open Cert.NormMath (word_1024th)
open Cert.AttnMath (word_zero)
open Cert.ProjMath (normed)
open Cert.ProjIdeal.Plain (emb_all)
open Cert.FwdMath
open Cert.FfnMath (col sum_cols)

section Body

variable (x : Vec Ideal S256x1024 .f32) (g : Vec Ideal S1x1024 .f32) (wg wu wd : Vec Ideal S4x704x1024 .bf16) (h : FVec Ideal S256x1024 .bf16)

theorem normed_words (r : Fin 256) (d : Fin 1024) : k0_pay3 (F := Ideal) x g (ix2 r d) = normed (fun e => x (ix2 r e)) (fun e => g (ix2 0 e)) d := by
  unfold normed ProjMath.factor
  rw [← word_1024th]
  unfold k0_pay3 k0_pay2
  pointwise

/-- A part of the rows of a stack of four. -/
abbrev part (w : Vec Ideal S4x704x1024 .bf16) (k : Fin 4) : Vec Ideal S1x704x1024 .bf16 := fun y => w (ix3 k (y 1) (y 2))

theorem emb_part {a b : ℕ} (k : Fin 4) (q) (u : (⟨3, ![1, a, b]⟩ : Shape).Idx) :
    (Rect.unit (s := ⟨3, ![4, a, b]⟩) ![k.val, 0, 0] ![1, a, b] q).emb u = ix3 k (u 1) (u 2) := by
  funext q
  apply Fin.ext
  match q with
  | ⟨0, _⟩ => have := (u 0).isLt; show k.val + 1 * (u 0).val = k.val; have h1 : (u 0).val < 1 := (u 0).isLt; omega
  | ⟨1, _⟩ => show 0 + 1 * (u 1).val = (u 1).val; omega
  | ⟨2, _⟩ => show 0 + 1 * (u 2).val = (u 2).val; omega

theorem loads (w : Vec Ideal S4x704x1024 .bf16) : View.ld w r0_2 = part w 0 ∧ View.ld w r0_4 = part w 1 ∧ View.ld w r0_6 = part w 2 ∧ View.ld w r0_8 = part w 3 :=
  ⟨funext fun u => congrArg w (emb_part 0 inb_S4x704x1024_S1x704x1024_0_0_0 u), funext fun u => congrArg w (emb_part 1 inb_S4x704x1024_S1x704x1024_1_0_0 u),
    funext fun u => congrArg w (emb_part 2 inb_S4x704x1024_S1x704x1024_2_0_0 u), funext fun u => congrArg w (emb_part 3 inb_S4x704x1024_S1x704x1024_3_0_0 u)⟩

theorem load_x : View.ld x r0_0 = x := funext fun y => congrArg x (emb_all inb_S256x1024_S256x1024_0_0 y)

theorem load_g : View.ld g r0_1 = g := funext fun y => congrArg g (emb_all inb_S1x1024_S1x1024_0_0 y)

/-- The rows times a part. -/
theorem factor_words (w : Vec Ideal S1x704x1024 .bf16) (r : Fin 256) (j : Fin 704) : k0_pay10 (F := Ideal) h w (ix2 r j) = ∑ d, h (ix2 r d) * w (ix3 0 j d) := by
  unfold k0_pay10
  pointwise

/-- What a part of the hidden columns gives. -/
def share (a b : FVec Ideal S256x704 .f32) (w : Vec Ideal S1x704x1024 .bf16) : FVec Ideal S256x1024 .f32 :=
  matmul dot_S256x704_S704x1024_S256x1024_1_0_0_1_n_n none (truncf .bf16 (mulf (mulf a (logistic a)) b) bitsLt_bf16_f32)
    (shapeCast S704x1024 w shapeCasts_S1x704x1024_S704x1024 : FVec Ideal S704x1024 .bf16) (constant S256x1024 .f32 0x00000000#32)

theorem share_words (a b : FVec Ideal S256x704 .f32) (w : Vec Ideal S1x704x1024 .bf16) (r : Fin 256) (d : Fin 1024) :
    share a b w (ix2 r d) = ∑ j, gated (a (ix2 r j)) (b (ix2 r j)) * w (ix3 0 j d) := by
  unfold share gated
  pointwise

/-- What a point leaves of the rows, in words. -/
def sumOf (k : Fin 4) : FVec Ideal S256x1024 .f32 := share (k0_pay10 h (part wg k)) (k0_pay10 h (part wu k)) (part wd k)

def whole : Vec Ideal S256x1024 .f32 := fun y => (k0_pay2 (F := Ideal) x y + (Ideal.ofBits .f32 0#32 + sumOf wg wu wd (k0_pay3 x g) 0 y
  + sumOf wg wu wd (k0_pay3 x g) 1 y + sumOf wg wu wd (k0_pay3 x g) 2 y + sumOf wg wu wd (k0_pay3 x g) 3 y) : EReal)

theorem out_x (y : S256x1024.Idx) : out0_5 (F := Ideal) x g wg wu wd y = whole x g wg wu wd y := by
  unfold_out out0_5
  rw [load_x, load_g, (loads wg).1, (loads wg).2.1, (loads wg).2.2.1, (loads wg).2.2.2, (loads wu).1, (loads wu).2.1, (loads wu).2.2.1, (loads wu).2.2.2,
    (loads wd).1, (loads wd).2.1, (loads wd).2.2.1, (loads wd).2.2.2]
  refine View.canon_apply_of_pieces (Val := Elt Ideal) (whole x g wg wu wd) _ ?_ y (cover0_5 _ y)
  intro pc hpc u
  obtain rfl := List.mem_singleton.mp hpc
  refine Eq.trans ?_ (congrArg (whole x g wg wu wd) (emb_all inb_S256x1024_S256x1024_0_0 u)).symm
  rfl

theorem out_h (y : S256x1024.Idx) : out0_8 (F := Ideal) x g wg wu wd y = k0_pay3 (F := Ideal) x g y := by
  unfold out0_8
  rw [load_x, load_g]
  refine View.canon_apply_of_pieces (Val := Elt Ideal) (k0_pay3 (F := Ideal) x g) _ ?_ y (cover0_8 _ y)
  intro pc hpc u
  obtain rfl := List.mem_singleton.mp hpc
  exact (congrArg (k0_pay3 (F := Ideal) x g) (emb_all inb_S256x1024_S256x1024_0_0 u)).symm

/-- The rows times the four parts. -/
def stack (w : Vec Ideal S4x704x1024 .bf16) : Vec Ideal S4x256x704 .f32 := fun y => k0_pay10 h (part w (y 0)) (ix2 (y 1) (y 2))

theorem stack_piece (w : Vec Ideal S4x704x1024 .bf16) (k : Fin 4) (q) (u : S1x256x704.Idx) :
    shapeCast S1x256x704 (k0_pay10 h (part w k)) shapeCasts_S256x704_S1x256x704 u
      = stack h w ((Rect.unit (s := S4x256x704) ![k.val, 0, 0] S1x256x704.size q).emb u) := by
  refine Eq.trans ?_ (congrArg (stack h w) (emb_part k q u)).symm
  show _ = k0_pay10 h (part w k) (ix2 (u 1) (u 2))
  generalize k0_pay10 h (part w k) = z
  idx_vars u
  pointwise

theorem out_a (y : S4x256x704.Idx) : out0_6 (F := Ideal) x g wg wu wd y = stack (k0_pay3 x g) wg y := by
  unfold_out out0_6
  rw [load_x, load_g, (loads wg).1, (loads wg).2.1, (loads wg).2.2.1, (loads wg).2.2.2]
  refine View.canon_apply_of_pieces (Val := Elt Ideal) (stack (k0_pay3 x g) wg) _ ?_ y (cover0_6 _ _ _ _ y)
  intro pc hpc u
  simp only [List.mem_cons, List.not_mem_nil, or_false] at hpc
  rcases hpc with rfl | rfl | rfl | rfl
  · exact stack_piece _ wg 3 inb_S4x256x704_S1x256x704_3_0_0 u
  · exact stack_piece _ wg 2 inb_S4x256x704_S1x256x704_2_0_0 u
  · exact stack_piece _ wg 1 inb_S4x256x704_S1x256x704_1_0_0 u
  · exact stack_piece _ wg 0 inb_S4x256x704_S1x256x704_0_0_0 u

theorem out_b (y : S4x256x704.Idx) : out0_7 (F := Ideal) x g wg wu wd y = stack (k0_pay3 x g) wu y := by
  unfold_out out0_7
  rw [load_x, load_g, (loads wu).1, (loads wu).2.1, (loads wu).2.2.1, (loads wu).2.2.2]
  refine View.canon_apply_of_pieces (Val := Elt Ideal) (stack (k0_pay3 x g) wu) _ ?_ y (cover0_7 _ _ _ _ y)
  intro pc hpc u
  simp only [List.mem_cons, List.not_mem_nil, or_false] at hpc
  rcases hpc with rfl | rfl | rfl | rfl
  · exact stack_piece _ wu 3 inb_S4x256x704_S1x256x704_3_0_0 u
  · exact stack_piece _ wu 2 inb_S4x256x704_S1x256x704_2_0_0 u
  · exact stack_piece _ wu 1 inb_S4x256x704_S1x256x704_1_0_0 u
  · exact stack_piece _ wu 0 inb_S4x256x704_S1x256x704_0_0_0 u

end Body

variable (m : (ℓ : Loc nD τ sig) → Buf (Elt Ideal) ℓ) (c : Dev nD)

/-- The arguments: the rows, the gains, the three matrices. -/
abbrev xRow (i : Fin 8192) : Fin 1024 → EReal := fun e => m ((c : Thread nD τ).loc main_arg0) (ix3 (0 : Fin 1) i e)

abbrev gain : Fin 1024 → EReal := fun e => m ((c : Thread nD τ).loc main_arg1) (ix1 e)

abbrev gates (d : Fin 1024) (j : Fin 2816) : EReal := m ((c : Thread nD τ).loc main_arg2) (ix2 d j)

abbrev ups (d : Fin 1024) (j : Fin 2816) : EReal := m ((c : Thread nD τ).loc main_arg3) (ix2 d j)

abbrev downs (j : Fin 2816) (d : Fin 1024) : EReal := m ((c : Thread nD τ).loc main_arg4) (ix2 j d)

theorem rows_at (i : Fin 8192) (d : Fin 1024) : (V m c main_v10 : Vec Ideal S8192x1024 .f32) (ix2 i d) = xRow m c i d := by
  unfold V; after_reads_at

theorem gains_at (d : Fin 1024) : (V m c main_v11 : Vec Ideal S1x1024 .f32) (ix2 0 d) = gain m c d := by
  unfold V; after_reads_at

theorem gates_at (k : Fin 4) (j : Fin 704) (d : Fin 1024) : (V m c main_v3 : Vec Ideal S4x704x1024 .bf16) (ix3 k j d) = gates m c d (col k j) := by
  unfold V; after_reads_at
  rfl

theorem ups_at (k : Fin 4) (j : Fin 704) (d : Fin 1024) : (V m c main_v7 : Vec Ideal S4x704x1024 .bf16) (ix3 k j d) = ups m c d (col k j) := by
  unfold V; after_reads_at
  rfl

theorem downs_at (k : Fin 4) (j : Fin 704) (d : Fin 1024) : (V m c main_v9 : Vec Ideal S4x704x1024 .bf16) (ix3 k j d) = downs m c (col k j) d := by
  unfold V; after_reads_at
  rfl

/-- The rows of a point. -/
def row (t : Fin cfg0.N) (r : Fin 256) : Fin 8192 := ⟨256 * t.val + r.val, by have : t.val < 32 := t.isLt; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0, 0] := by decide +kernel
theorem index3 : ∀ t : Fin grid0.N, win0_3.index t = ![0, 0, 0] := by decide +kernel
theorem index4 : ∀ t : Fin grid0.N, win0_4.index t = ![0, 0, 0] := by decide +kernel
theorem index5 : ∀ t : Fin grid0.N, win0_5.index t = ![t.val, 0] := by decide +kernel
theorem index6 : ∀ t : Fin grid0.N, win0_6.index t = ![0, t.val, 0] := by decide +kernel
theorem index7 : ∀ t : Fin grid0.N, win0_7.index t = ![0, t.val, 0] := by decide +kernel
theorem index8 : ∀ t : Fin grid0.N, win0_8.index t = ![t.val, 0] := by decide +kernel

variable (t : Fin cfg0.N)

theorem x_block (r : Fin 256) (e : Fin 1024) : iblk m c 0 t (ix2 r e : S256x1024.Idx) = xRow m c (row t r) e := by
  rw [← rows_at]
  have e0 := index0 t
  blk_simp [iblk]
  congr 1
  blk_ext [e0, row]

theorem g_block (e : Fin 1024) : iblk m c 1 t (ix2 0 e : S1x1024.Idx) = gain m c e := by
  rw [← gains_at]
  have e1 := index1 t
  blk_simp [iblk]
  congr 1
  blk_ext [e1]

theorem gate_block (k : Fin 4) (j : Fin 704) (d : Fin 1024) : iblk m c 2 t (ix3 k j d : S4x704x1024.Idx) = gates m c d (col k j) := by
  rw [← gates_at]
  have e2 := index2 t
  blk_simp [iblk]
  congr 1
  blk_ext [e2]

theorem up_block (k : Fin 4) (j : Fin 704) (d : Fin 1024) : iblk m c 3 t (ix3 k j d : S4x704x1024.Idx) = ups m c d (col k j) := by
  rw [← ups_at]
  have e3 := index3 t
  blk_simp [iblk]
  congr 1
  blk_ext [e3]

theorem down_block (k : Fin 4) (j : Fin 704) (d : Fin 1024) : iblk m c 4 t (ix3 k j d : S4x704x1024.Idx) = downs m c (col k j) d := by
  rw [← downs_at]
  have e4 := index4 t
  blk_simp [iblk]
  congr 1
  blk_ext [e4]

theorem h_block (r : Fin 256) (d : Fin 1024) : k0_pay3 (F := Ideal) (iblk m c 0 t) (iblk m c 1 t) (ix2 r d) = normed (xRow m c (row t r)) (gain m c) d := by
  refine (normed_words _ _ r d).trans ?_
  simp only [x_block, g_block]

theorem gate_factor (k : Fin 4) (r : Fin 256) (j : Fin 704) :
    k0_pay10 (F := Ideal) (k0_pay3 (iblk m c 0 t) (iblk m c 1 t)) (part (iblk m c 2 t) k) (ix2 r j) = factor (xRow m c (row t r)) (gain m c) (gates m c) (col k j) := by
  refine (factor_words _ _ r j).trans (Finset.sum_congr rfl fun d _ => ?_)
  exact congrArg₂ (fun a b : EReal => a * b) (h_block m c t r d) (gate_block m c t k j d)

theorem up_factor (k : Fin 4) (r : Fin 256) (j : Fin 704) :
    k0_pay10 (F := Ideal) (k0_pay3 (iblk m c 0 t) (iblk m c 1 t)) (part (iblk m c 3 t) k) (ix2 r j) = factor (xRow m c (row t r)) (gain m c) (ups m c) (col k j) := by
  refine (factor_words _ _ r j).trans (Finset.sum_congr rfl fun d _ => ?_)
  exact congrArg₂ (fun a b : EReal => a * b) (h_block m c t r d) (up_block m c t k j d)

theorem sum_block (k : Fin 4) (r : Fin 256) (d : Fin 1024) :
    sumOf (iblk m c 2 t) (iblk m c 3 t) (iblk m c 4 t) (k0_pay3 (iblk m c 0 t) (iblk m c 1 t)) k (ix2 r d)
      = ∑ j, gated (factor (xRow m c (row t r)) (gain m c) (gates m c) (col k j)) (factor (xRow m c (row t r)) (gain m c) (ups m c) (col k j)) * downs m c (col k j) d := by
  refine (share_words _ _ _ r d).trans (Finset.sum_congr rfl fun j _ => ?_)
  exact congrArg₂ (fun a b : EReal => a * b) (congrArg₂ gated (gate_factor m c t k r j) (up_factor m c t k r j)) (down_block m c t k j d)

def xArr : Vec Ideal S8192x1024 .f32 := fun y => left (xRow m c (y 0)) (gain m c) (gates m c) (ups m c) (downs m c) (y 1)

def aArr : Vec Ideal S4x8192x704 .f32 := fun y => factor (xRow m c (y 1)) (gain m c) (gates m c) (col (y 0) (y 2))

def bArr : Vec Ideal S4x8192x704 .f32 := fun y => factor (xRow m c (y 1)) (gain m c) (ups m c) (col (y 0) (y 2))

def hArr : Vec Ideal S8192x1024 .bf16 := fun y => normed (xRow m c (y 0)) (gain m c) (y 1)

theorem x_left (r : Fin 256) (d : Fin 1024) : whole (iblk m c 0 t) (iblk m c 1 t) (iblk m c 2 t) (iblk m c 3 t) (iblk m c 4 t) (ix2 r d)
    = left (xRow m c (row t r)) (gain m c) (gates m c) (ups m c) (downs m c) d := by
  have ex : k0_pay2 (F := Ideal) (iblk m c 0 t) (ix2 r d) = xRow m c (row t r) d := by
    rw [← x_block]
    unfold k0_pay2
    generalize iblk m c 0 t = z
    pointwise
  unfold whole left
  rw [ex, sum_block, sum_block, sum_block, sum_block, word_zero, zero_add, sum_cols]

theorem final_x : (dats m 0 c).arrAt 5 cfg0.N = xArr m c := by
  refine (dats m 0 c).arrAt_eq_of_covers 5 _ (by decide +kernel) fun t hf y => ?_
  have e5 := index5 t
  have e : (win0_5.blk t).view.emb y = ix2 (row t (y 0)) (y 1) := by
    idx_vars y
    blk_ext [e5, row]
  blk_simp
  rw [after0_5, e]
  change S256x1024.Idx at y
  idx_vars y
  exact (out_x _ _ _ _ _ _).trans (x_left m c t y0 y1)

theorem final_a : (dats m 0 c).arrAt 6 cfg0.N = aArr m c := by
  refine (dats m 0 c).arrAt_eq_of_covers 6 _ (by decide +kernel) fun t hf y => ?_
  have e6 := index6 t
  have e : (win0_6.blk t).view.emb y = ix3 (y 0) (row t (y 1)) (y 2) := by
    idx_vars y
    blk_ext [e6, row]
  blk_simp
  rw [after0_6, e]
  exact (out_a _ _ _ _ _ y).trans (gate_factor m c t (y 0) (y 1) (y 2))

theorem final_b : (dats m 0 c).arrAt 7 cfg0.N = bArr m c := by
  refine (dats m 0 c).arrAt_eq_of_covers 7 _ (by decide +kernel) fun t hf y => ?_
  have e7 := index7 t
  have e : (win0_7.blk t).view.emb y = ix3 (y 0) (row t (y 1)) (y 2) := by
    idx_vars y
    blk_ext [e7, row]
  blk_simp
  rw [after0_7, e]
  exact (out_b _ _ _ _ _ y).trans (up_factor m c t (y 0) (y 1) (y 2))

theorem final_h : (dats m 0 c).arrAt 8 cfg0.N = hArr m c := by
  refine (dats m 0 c).arrAt_eq_of_covers 8 _ (by decide +kernel) fun t hf y => ?_
  have e8 := index8 t
  have e : (win0_8.blk t).view.emb y = ix2 (row t (y 0)) (y 1) := by
    idx_vars y
    blk_ext [e8, row]
  blk_simp
  rw [after0_8, e]
  change S256x1024.Idx at y
  idx_vars y
  exact (out_h _ _ _ _ _ _).trans (h_block m c t y0 y1)

end Cert.FfnFwdIdeal.Plain

end
-- ==== Proof.FwdClaim.lean ====
module

public import proofs.«01_k».proof.Proof.FwdArray
public import proofs.«01_k».proof.Defs
public import proofs.«01_k».proof.Proof.Gen.FfnFwdReferenceIdeal.Run

@[expose] public section

noncomputable section

/-! The feed-forward's kernel leaves what the plain feed-forward leaves, whatever the arguments. -/

namespace Cert.Forward

open Idealize.ShloMosaic Idealize.SL.Sem

/-- The reference's run leaves its arguments. -/
theorem frame_reference : Cert.quiescent_FfnFwdReferenceIdeal (hFfnFwdReferenceIdeal := Cert.FfnFwdReferenceIdeal.Gen.facts) :=
  fun m ρ _ => (θ_run Cert.FfnFwdReferenceIdeal.defs _ _).mono (fun r h => ⟨fun c => (h c).2.2.2.2, sem_eq_zero_of_no_sems (by decide) _⟩)
    (Cert.FfnFwdReferenceIdeal.Value.run (F := Ideal) m ρ)

open Cert.FfnFwdIdeal.Plain in
/-- The two programs leave the same four arrays in their results. -/
theorem value : Cert.algebraic_FfnFwdIdeal_FfnFwdReferenceIdeal := by
  intro m g m' g' hpre hargs
  refine ⟨fun c => xArr m c, fun c => aArr m c, fun c => bArr m c, fun c => hArr m c, ?_, ?_⟩
  · refine (θ_run _ _ _).mono (fun r h c => ?_) (Cert.FfnFwdIdeal.Value.run_blocks m g)
    exact ⟨(h c).1.trans (final_x m c), (h c).2.1.trans (final_a m c), (h c).2.2.1.trans (final_b m c), (h c).2.2.2.1.trans (final_h m c), (h c).2.2.2.2⟩
  · refine (θ_run _ _ _).mono (fun r h c => ⟨(h c).1.trans ?_, (h c).2.1.trans ?_, (h c).2.2.1.trans ?_, (h c).2.2.2.1.trans ?_, (h c).2.2.2.2⟩)
      (Cert.FfnFwdReferenceIdeal.Value.run (F := Ideal) m' g')
    · rw [Cert.FfnFwdReferenceIdeal.Read.val_main_v19_eq, (hargs c).1, (hargs c).2.1, (hargs c).2.2.1, (hargs c).2.2.2.1, (hargs c).2.2.2.2]
      funext i
      exact (congrArg _ (eq_ix2 i)).trans (Cert.FfnFwdReferenceIdeal.Plain.left_at _ _ _ _ _ (i 0) (i 1))
    · rw [Cert.FfnFwdReferenceIdeal.Read.val_main_v22_eq, (hargs c).1, (hargs c).2.1, (hargs c).2.2.1]
      funext i
      exact (congrArg _ (eq_ix3 i)).trans (Cert.FfnFwdReferenceIdeal.Plain.gates_at _ _ _ (i 0) (i 1) (i 2))
    · rw [Cert.FfnFwdReferenceIdeal.Read.val_main_v25_eq, (hargs c).1, (hargs c).2.1, (hargs c).2.2.2.1]
      funext i
      exact (congrArg _ (eq_ix3 i)).trans (Cert.FfnFwdReferenceIdeal.Plain.ups_at _ _ _ (i 0) (i 1) (i 2))
    · rw [Cert.FfnFwdReferenceIdeal.Read.val_main_v27_eq, (hargs c).1, (hargs c).2.1]
      funext i
      exact (congrArg _ (eq_ix2 i)).trans (Cert.FfnFwdReferenceIdeal.Plain.rows_at _ _ (i 0) (i 1))

end Cert.Forward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdReferenceIdeal
public import proofs.«01_k».proof.Proof.Gen.FfnFwdReferenceIdeal.Run
public import proofs.«01_k».proof.Proof.Gen.FfnFwdReferenceIdeal.Read
public import proofs.«01_k».proof.Proof.PoolClaim
public import proofs.«01_k».proof.Proof.AttnClaim
public import proofs.«01_k».proof.Proof.InClaim
public import proofs.«01_k».proof.Proof.FfnClaim
public import proofs.«01_k».proof.Proof.MixClaim
public import proofs.«01_k».proof.Proof.ProjClaim
public import proofs.«01_k».proof.Proof.FwdClaim
public import Idealize.ShloMosaic.Adequacy
public import Idealize.ShloMosaic.Init

@[expose] public section

noncomputable section

namespace Cert.Proof

open Idealize.ShloMosaic Idealize.SL.Sem Cert.Kernel

/-- The reference runs, its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) _⟩) (Cert.ReferenceIdeal.Value.run (F := Ideal) m ρ)

theorem claim : Cert.Claim :=
  ⟨Cert.Kernel.Gen.facts, Cert.KernelIdeal.Gen.facts, Cert.ReferenceIdeal.Gen.facts, Cert.Attn.Gen.facts, Cert.AttnIdeal.Gen.facts,
    Cert.AttnReferenceIdeal.Gen.facts, Cert.InProj.Gen.facts, Cert.InProjIdeal.Gen.facts, Cert.InProjReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts,
    Cert.Proj.Gen.facts, Cert.ProjIdeal.Gen.facts, Cert.ProjReferenceIdeal.Gen.facts,
    Cert.FfnFwd.Gen.facts, Cert.FfnFwdIdeal.Gen.facts, Cert.FfnFwdReferenceIdeal.Gen.facts,
    Cert.Pool.pre_facts, Cert.Attention.pre_facts, Cert.InProjection.pre_facts, Cert.FeedForward.pre_facts, Cert.Mixing.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    Cert.AttnIdeal.Attn.frame_bits, Cert.AttnIdeal.Attn.frame_ideal, fun m ρ _ => Cert.AttnIdeal.Attn.frame_ideal m ρ trivial,
    Cert.Attention.frame_reference, fun m ρ _ => Cert.Attention.frame_reference m ρ trivial,
    fun m ρ _ => Cert.InProj.Gen.frame m ρ, fun m ρ _ => Cert.InProjIdeal.Gen.frame m ρ, fun m ρ _ => Cert.InProjIdeal.Gen.frame m ρ,
    Cert.InProjection.frame_reference, fun m ρ _ => Cert.InProjection.frame_reference m ρ trivial,
    fun m ρ _ => Cert.Ffn.Gen.frame m ρ, fun m ρ _ => Cert.FfnIdeal.Gen.frame m ρ, fun m ρ _ => Cert.FfnIdeal.Gen.frame m ρ,
    Cert.FeedForward.frame_reference, fun m ρ _ => Cert.FeedForward.frame_reference m ρ trivial,
    fun m ρ _ => Cert.Mix.Gen.frame m ρ, fun m ρ _ => Cert.MixIdeal.Gen.frame m ρ, fun m ρ _ => Cert.MixIdeal.Gen.frame m ρ,
    Cert.Mixing.frame_reference, fun m ρ _ => Cert.Mixing.frame_reference m ρ trivial,
    fun m ρ _ => Cert.Proj.Gen.frame m ρ, fun m ρ _ => Cert.ProjIdeal.Gen.frame m ρ, Cert.Projection.frame_reference,
    fun m ρ _ => Cert.FfnFwd.Gen.frame m ρ, fun m ρ _ => Cert.FfnFwdIdeal.Gen.frame m ρ, Cert.Forward.frame_reference,
    trivial, Cert.Pool.value, Cert.AttnIdeal.Attn.preserves, Cert.Attention.value, trivial, Cert.InProjection.value, trivial, Cert.FeedForward.value,
    trivial, Cert.Mixing.value, trivial, Cert.Projection.value, trivial, Cert.Forward.value⟩

end Cert.Proof

end
